-- ==== Defs.lean ====
def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_ReferenceSbIdeal (m : (ℓ : Loc Cert.ReferenceSbIdeal.nD Cert.ReferenceSbIdeal.τ Cert.ReferenceSbIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelXa (m : (ℓ : Loc Cert.KernelXa.nD Cert.KernelXa.τ Cert.KernelXa.sig) → Buf (Elt Bits) ℓ) : Prop :=
  True

def Pre_KernelXaIdeal (m : (ℓ : Loc Cert.KernelXaIdeal.nD Cert.KernelXaIdeal.τ Cert.KernelXaIdeal.sig) → Buf (Elt Ideal) ℓ) : Prop :=
  True

def Pre_KernelXaIdeal_finite_xa [hPre_finite_xa : Cert.Pre_finite_xa.Facts] (m : (ℓ : Loc Cert.KernelXaIdeal.nD Cert.KernelXaIdeal.τ Cert.KernelXaIdeal.sig) → Buf (Elt Ideal) ℓ) : Prop :=
  ∀ c : Dev Cert.KernelXaIdeal.nD,
    (Cert.Pre_finite_xa.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3))) = (fun _ => 1#1)

def Pre_ReferenceXaIdeal (m : (ℓ : Loc Cert.ReferenceXaIdeal.nD Cert.ReferenceXaIdeal.τ Cert.ReferenceXaIdeal.sig) → Buf (Elt Ideal) ℓ) : Prop :=
  True

def Pre_ReferenceXaIdeal_finite_xa [hPre_finite_xa : Cert.Pre_finite_xa.Facts] (m : (ℓ : Loc Cert.ReferenceXaIdeal.nD Cert.ReferenceXaIdeal.τ Cert.ReferenceXaIdeal.sig) → Buf (Elt Ideal) ℓ) : Prop :=
  ∀ c : Dev Cert.ReferenceXaIdeal.nD,
    (Cert.Pre_finite_xa.fn (F := Ideal) (m ((c.tc : Thread Cert.ReferenceXaIdeal.nD Cert.ReferenceXaIdeal.τ).loc Cert.ReferenceXaIdeal.main_arg0)) (m ((c.tc : Thread Cert.ReferenceXaIdeal.nD Cert.ReferenceXaIdeal.τ).loc Cert.ReferenceXaIdeal.main_arg1)) (m ((c.tc : Thread Cert.ReferenceXaIdeal.nD Cert.ReferenceXaIdeal.τ).loc Cert.ReferenceXaIdeal.main_arg2)) (m ((c.tc : Thread Cert.ReferenceXaIdeal.nD Cert.ReferenceXaIdeal.τ).loc Cert.ReferenceXaIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))) = (fun _ => 1#1)

def Pre_KernelInp (m : (ℓ : Loc Cert.KernelInp.nD Cert.KernelInp.τ Cert.KernelInp.sig) → Buf (Elt Bits) ℓ) : Prop :=
  True

def Pre_KernelInpIdeal (m : (ℓ : Loc Cert.KernelInpIdeal.nD Cert.KernelInpIdeal.τ Cert.KernelInpIdeal.sig) → Buf (Elt Ideal) ℓ) : Prop :=
  True

def Pre_ReferenceInpIdeal (m : (ℓ : Loc Cert.ReferenceInpIdeal.nD Cert.ReferenceInpIdeal.τ Cert.ReferenceInpIdeal.sig) → Buf (Elt Ideal) ℓ) : Prop :=
  True

def Pre_KernelWindw (m : (ℓ : Loc Cert.KernelWindw.nD Cert.KernelWindw.τ Cert.KernelWindw.sig) → Buf (Elt Bits) ℓ) : Prop :=
  True

def Pre_KernelWindwIdeal (m : (ℓ : Loc Cert.KernelWindwIdeal.nD Cert.KernelWindwIdeal.τ Cert.KernelWindwIdeal.sig) → Buf (Elt Ideal) ℓ) : Prop :=
  True

def Pre_ReferenceWindwIdeal (m : (ℓ : Loc Cert.ReferenceWindwIdeal.nD Cert.ReferenceWindwIdeal.τ Cert.ReferenceWindwIdeal.sig) → Buf (Elt Ideal) ℓ) : Prop :=
  True

def Pre_KernelFfnin (m : (ℓ : Loc Cert.KernelFfnin.nD Cert.KernelFfnin.τ Cert.KernelFfnin.sig) → Buf (Elt Bits) ℓ) : Prop :=
  True

def Pre_KernelFfninIdeal (m : (ℓ : Loc Cert.KernelFfninIdeal.nD Cert.KernelFfninIdeal.τ Cert.KernelFfninIdeal.sig) → Buf (Elt Ideal) ℓ) : Prop :=
  True

def Pre_ReferenceFfninIdeal (m : (ℓ : Loc Cert.ReferenceFfninIdeal.nD Cert.ReferenceFfninIdeal.τ Cert.ReferenceFfninIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDowndw (m : (ℓ : Loc Cert.KernelDowndw.nD Cert.KernelDowndw.τ Cert.KernelDowndw.sig) → Buf (Elt Bits) ℓ) : Prop :=
  True

def Pre_KernelDowndwIdeal (m : (ℓ : Loc Cert.KernelDowndwIdeal.nD Cert.KernelDowndwIdeal.τ Cert.KernelDowndwIdeal.sig) → Buf (Elt Ideal) ℓ) : Prop :=
  True

def Pre_ReferenceDowndwIdeal (m : (ℓ : Loc Cert.ReferenceDowndwIdeal.nD Cert.ReferenceDowndwIdeal.τ Cert.ReferenceDowndwIdeal.sig) → Buf (Elt Ideal) ℓ) : Prop :=
  True

def Pre_KernelGatedw (m : (ℓ : Loc Cert.KernelGatedw.nD Cert.KernelGatedw.τ Cert.KernelGatedw.sig) → Buf (Elt Bits) ℓ) : Prop :=
  True

def Pre_KernelGatedwIdeal (m : (ℓ : Loc Cert.KernelGatedwIdeal.nD Cert.KernelGatedwIdeal.τ Cert.KernelGatedwIdeal.sig) → Buf (Elt Ideal) ℓ) : Prop :=
  True

def Pre_ReferenceGatedwIdeal (m : (ℓ : Loc Cert.ReferenceGatedwIdeal.nD Cert.ReferenceGatedwIdeal.τ Cert.ReferenceGatedwIdeal.sig) → Buf (Elt Ideal) ℓ) : Prop :=
  True

def Pre_KernelGatedx (m : (ℓ : Loc Cert.KernelGatedx.nD Cert.KernelGatedx.τ Cert.KernelGatedx.sig) → Buf (Elt Bits) ℓ) : Prop :=
  True

def Pre_KernelGatedxIdeal (m : (ℓ : Loc Cert.KernelGatedxIdeal.nD Cert.KernelGatedxIdeal.τ Cert.KernelGatedxIdeal.sig) → Buf (Elt Ideal) ℓ) : Prop :=
  True

def Pre_ReferenceGatedxIdeal (m : (ℓ : Loc Cert.ReferenceGatedxIdeal.nD Cert.ReferenceGatedxIdeal.τ Cert.ReferenceGatedxIdeal.sig) → Buf (Elt Ideal) ℓ) : Prop :=
  True

def Pre_KernelOutdx (m : (ℓ : Loc Cert.KernelOutdx.nD Cert.KernelOutdx.τ Cert.KernelOutdx.sig) → Buf (Elt Bits) ℓ) : Prop :=
  True

def Pre_KernelOutdxIdeal (m : (ℓ : Loc Cert.KernelOutdxIdeal.nD Cert.KernelOutdxIdeal.τ Cert.KernelOutdxIdeal.sig) → Buf (Elt Ideal) ℓ) : Prop :=
  True

def Pre_ReferenceOutdxIdeal (m : (ℓ : Loc Cert.ReferenceOutdxIdeal.nD Cert.ReferenceOutdxIdeal.τ Cert.ReferenceOutdxIdeal.sig) → Buf (Elt Ideal) ℓ) : Prop :=
  True

def Pre_KernelOutdw (m : (ℓ : Loc Cert.KernelOutdw.nD Cert.KernelOutdw.τ Cert.KernelOutdw.sig) → Buf (Elt Bits) ℓ) : Prop :=
  True

def Pre_KernelOutdwIdeal (m : (ℓ : Loc Cert.KernelOutdwIdeal.nD Cert.KernelOutdwIdeal.τ Cert.KernelOutdwIdeal.sig) → Buf (Elt Ideal) ℓ) : Prop :=
  True

def Pre_ReferenceOutdwIdeal (m : (ℓ : Loc Cert.ReferenceOutdwIdeal.nD Cert.ReferenceOutdwIdeal.τ Cert.ReferenceOutdwIdeal.sig) → Buf (Elt Ideal) ℓ) : Prop :=
  True

def Pre_KernelMergef (m : (ℓ : Loc Cert.KernelMergef.nD Cert.KernelMergef.τ Cert.KernelMergef.sig) → Buf (Elt Bits) ℓ) : Prop :=
  True

def Pre_KernelMergefIdeal (m : (ℓ : Loc Cert.KernelMergefIdeal.nD Cert.KernelMergefIdeal.τ Cert.KernelMergefIdeal.sig) → Buf (Elt Ideal) ℓ) : Prop :=
  True

def Pre_ReferenceMergefIdeal (m : (ℓ : Loc Cert.ReferenceMergefIdeal.nD Cert.ReferenceMergefIdeal.τ Cert.ReferenceMergefIdeal.sig) → Buf (Elt Ideal) ℓ) : Prop :=
  True

def Pre_KernelXaq (m : (ℓ : Loc Cert.KernelXaq.nD Cert.KernelXaq.τ Cert.KernelXaq.sig) → Buf (Elt Bits) ℓ) : Prop :=
  True

def Pre_KernelXaqIdeal (m : (ℓ : Loc Cert.KernelXaqIdeal.nD Cert.KernelXaqIdeal.τ Cert.KernelXaqIdeal.sig) → Buf (Elt Ideal) ℓ) : Prop :=
  True

def Pre_ReferenceXaqIdeal (m : (ℓ : Loc Cert.ReferenceXaqIdeal.nD Cert.ReferenceXaqIdeal.τ Cert.ReferenceXaqIdeal.sig) → Buf (Elt Ideal) ℓ) : Prop :=
  True

def Pre_KernelOutp (m : (ℓ : Loc Cert.KernelOutp.nD Cert.KernelOutp.τ Cert.KernelOutp.sig) → Buf (Elt Bits) ℓ) : Prop :=
  True

def Pre_KernelOutpIdeal (m : (ℓ : Loc Cert.KernelOutpIdeal.nD Cert.KernelOutpIdeal.τ Cert.KernelOutpIdeal.sig) → Buf (Elt Ideal) ℓ) : Prop :=
  True

def Pre_ReferenceOutpIdeal (m : (ℓ : Loc Cert.ReferenceOutpIdeal.nD Cert.ReferenceOutpIdeal.τ Cert.ReferenceOutpIdeal.sig) → Buf (Elt Ideal) ℓ) : Prop :=
  True

def Pre_KernelXaodx (m : (ℓ : Loc Cert.KernelXaodx.nD Cert.KernelXaodx.τ Cert.KernelXaodx.sig) → Buf (Elt Bits) ℓ) : Prop :=
  True

def Pre_KernelXaodxIdeal (m : (ℓ : Loc Cert.KernelXaodxIdeal.nD Cert.KernelXaodxIdeal.τ Cert.KernelXaodxIdeal.sig) → Buf (Elt Ideal) ℓ) : Prop :=
  True

def Pre_ReferenceXaodxIdeal (m : (ℓ : Loc Cert.ReferenceXaodxIdeal.nD Cert.ReferenceXaodxIdeal.τ Cert.ReferenceXaodxIdeal.sig) → Buf (Elt Ideal) ℓ) : Prop :=
  True

def Pre_KernelXaqdw (m : (ℓ : Loc Cert.KernelXaqdw.nD Cert.KernelXaqdw.τ Cert.KernelXaqdw.sig) → Buf (Elt Bits) ℓ) : Prop :=
  True

def Pre_KernelXaqdwIdeal (m : (ℓ : Loc Cert.KernelXaqdwIdeal.nD Cert.KernelXaqdwIdeal.τ Cert.KernelXaqdwIdeal.sig) → Buf (Elt Ideal) ℓ) : Prop :=
  True

def Pre_ReferenceXaqdwIdeal (m : (ℓ : Loc Cert.ReferenceXaqdwIdeal.nD Cert.ReferenceXaqdwIdeal.τ Cert.ReferenceXaqdwIdeal.sig) → Buf (Elt Ideal) ℓ) : Prop :=
  True

def Pre_KernelBranchdw (m : (ℓ : Loc Cert.KernelBranchdw.nD Cert.KernelBranchdw.τ Cert.KernelBranchdw.sig) → Buf (Elt Bits) ℓ) : Prop :=
  True

def Pre_KernelBranchdwIdeal (m : (ℓ : Loc Cert.KernelBranchdwIdeal.nD Cert.KernelBranchdwIdeal.τ Cert.KernelBranchdwIdeal.sig) → Buf (Elt Ideal) ℓ) : Prop :=
  True

def Pre_ReferenceBranchdwIdeal (m : (ℓ : Loc Cert.ReferenceBranchdwIdeal.nD Cert.ReferenceBranchdwIdeal.τ Cert.ReferenceBranchdwIdeal.sig) → Buf (Elt Ideal) ℓ) : Prop :=
  True

def Pre_KernelXak (m : (ℓ : Loc Cert.KernelXak.nD Cert.KernelXak.τ Cert.KernelXak.sig) → Buf (Elt Bits) ℓ) : Prop :=
  True

def Pre_KernelXakIdeal (m : (ℓ : Loc Cert.KernelXakIdeal.nD Cert.KernelXakIdeal.τ Cert.KernelXakIdeal.sig) → Buf (Elt Ideal) ℓ) : Prop :=
  True

def Pre_ReferenceXakIdeal (m : (ℓ : Loc Cert.ReferenceXakIdeal.nD Cert.ReferenceXakIdeal.τ Cert.ReferenceXakIdeal.sig) → Buf (Elt Ideal) ℓ) : Prop :=
  True

def Pre_KernelXakdw (m : (ℓ : Loc Cert.KernelXakdw.nD Cert.KernelXakdw.τ Cert.KernelXakdw.sig) → Buf (Elt Bits) ℓ) : Prop :=
  True

def Pre_KernelXakdwIdeal (m : (ℓ : Loc Cert.KernelXakdwIdeal.nD Cert.KernelXakdwIdeal.τ Cert.KernelXakdwIdeal.sig) → Buf (Elt Ideal) ℓ) : Prop :=
  True

def Pre_ReferenceXakdwIdeal (m : (ℓ : Loc Cert.ReferenceXakdwIdeal.nD Cert.ReferenceXakdwIdeal.τ Cert.ReferenceXakdwIdeal.sig) → Buf (Elt Ideal) ℓ) : Prop :=
  True

def Pre_KernelXakdx (m : (ℓ : Loc Cert.KernelXakdx.nD Cert.KernelXakdx.τ Cert.KernelXakdx.sig) → Buf (Elt Bits) ℓ) : Prop :=
  True

def Pre_KernelXakdxIdeal (m : (ℓ : Loc Cert.KernelXakdxIdeal.nD Cert.KernelXakdxIdeal.τ Cert.KernelXakdxIdeal.sig) → Buf (Elt Ideal) ℓ) : Prop :=
  True

def Pre_ReferenceXakdxIdeal (m : (ℓ : Loc Cert.ReferenceXakdxIdeal.nD Cert.ReferenceXakdxIdeal.τ Cert.ReferenceXakdxIdeal.sig) → Buf (Elt Ideal) ℓ) : Prop :=
  True

def Pre_KernelXavdx (m : (ℓ : Loc Cert.KernelXavdx.nD Cert.KernelXavdx.τ Cert.KernelXavdx.sig) → Buf (Elt Bits) ℓ) : Prop :=
  True

def Pre_KernelXavdxIdeal (m : (ℓ : Loc Cert.KernelXavdxIdeal.nD Cert.KernelXavdxIdeal.τ Cert.KernelXavdxIdeal.sig) → Buf (Elt Ideal) ℓ) : Prop :=
  True

def Pre_ReferenceXavdxIdeal (m : (ℓ : Loc Cert.ReferenceXavdxIdeal.nD Cert.ReferenceXavdxIdeal.τ Cert.ReferenceXavdxIdeal.sig) → Buf (Elt Ideal) ℓ) : Prop :=
  True

def Pre_KernelXaqdx (m : (ℓ : Loc Cert.KernelXaqdx.nD Cert.KernelXaqdx.τ Cert.KernelXaqdx.sig) → Buf (Elt Bits) ℓ) : Prop :=
  True

def Pre_KernelXaqdxIdeal (m : (ℓ : Loc Cert.KernelXaqdxIdeal.nD Cert.KernelXaqdxIdeal.τ Cert.KernelXaqdxIdeal.sig) → Buf (Elt Ideal) ℓ) : Prop :=
  True

def Pre_KernelXaqdxIdeal_finite_xaqdx [hPre_finite_xaqdx : Cert.Pre_finite_xaqdx.Facts] (m : (ℓ : Loc Cert.KernelXaqdxIdeal.nD Cert.KernelXaqdxIdeal.τ Cert.KernelXaqdxIdeal.sig) → Buf (Elt Ideal) ℓ) : Prop :=
  ∀ c : Dev Cert.KernelXaqdxIdeal.nD,
    (Cert.Pre_finite_xaqdx.fn (F := Ideal) (m ((c.tc : Thread Cert.KernelXaqdxIdeal.nD Cert.KernelXaqdxIdeal.τ).loc Cert.KernelXaqdxIdeal.main_arg0)) (m ((c.tc : Thread Cert.KernelXaqdxIdeal.nD Cert.KernelXaqdxIdeal.τ).loc Cert.KernelXaqdxIdeal.main_arg1)) (m ((c.tc : Thread Cert.KernelXaqdxIdeal.nD Cert.KernelXaqdxIdeal.τ).loc Cert.KernelXaqdxIdeal.main_arg2)) (m ((c.tc : Thread Cert.KernelXaqdxIdeal.nD Cert.KernelXaqdxIdeal.τ).loc Cert.KernelXaqdxIdeal.main_arg3)) (m ((c.tc : Thread Cert.KernelXaqdxIdeal.nD Cert.KernelXaqdxIdeal.τ).loc Cert.KernelXaqdxIdeal.main_arg4))) = (fun _ => 1#1)

def Pre_ReferenceXaqdxIdeal (m : (ℓ : Loc Cert.ReferenceXaqdxIdeal.nD Cert.ReferenceXaqdxIdeal.τ Cert.ReferenceXaqdxIdeal.sig) → Buf (Elt Ideal) ℓ) : Prop :=
  True

def Pre_ReferenceXaqdxIdeal_finite_xaqdx [hPre_finite_xaqdx : Cert.Pre_finite_xaqdx.Facts] (m : (ℓ : Loc Cert.ReferenceXaqdxIdeal.nD Cert.ReferenceXaqdxIdeal.τ Cert.ReferenceXaqdxIdeal.sig) → Buf (Elt Ideal) ℓ) : Prop :=
  ∀ c : Dev Cert.ReferenceXaqdxIdeal.nD,
    (Cert.Pre_finite_xaqdx.fn (F := Ideal) (m ((c.tc : Thread Cert.ReferenceXaqdxIdeal.nD Cert.ReferenceXaqdxIdeal.τ).loc Cert.ReferenceXaqdxIdeal.main_arg0)) (m ((c.tc : Thread Cert.ReferenceXaqdxIdeal.nD Cert.ReferenceXaqdxIdeal.τ).loc Cert.ReferenceXaqdxIdeal.main_arg1)) (m ((c.tc : Thread Cert.ReferenceXaqdxIdeal.nD Cert.ReferenceXaqdxIdeal.τ).loc Cert.ReferenceXaqdxIdeal.main_arg2)) (m ((c.tc : Thread Cert.ReferenceXaqdxIdeal.nD Cert.ReferenceXaqdxIdeal.τ).loc Cert.ReferenceXaqdxIdeal.main_arg3)) (m ((c.tc : Thread Cert.ReferenceXaqdxIdeal.nD Cert.ReferenceXaqdxIdeal.τ).loc Cert.ReferenceXaqdxIdeal.main_arg4))) = (fun _ => 1#1)

def Pre_KernelUpdx (m : (ℓ : Loc Cert.KernelUpdx.nD Cert.KernelUpdx.τ Cert.KernelUpdx.sig) → Buf (Elt Bits) ℓ) : Prop :=
  True

def Pre_KernelUpdxIdeal (m : (ℓ : Loc Cert.KernelUpdxIdeal.nD Cert.KernelUpdxIdeal.τ Cert.KernelUpdxIdeal.sig) → Buf (Elt Ideal) ℓ) : Prop :=
  True

def Pre_KernelUpdxIdeal_finite_updx [hPre_finite_updx : Cert.Pre_finite_updx.Facts] (m : (ℓ : Loc Cert.KernelUpdxIdeal.nD Cert.KernelUpdxIdeal.τ Cert.KernelUpdxIdeal.sig) → Buf (Elt Ideal) ℓ) : Prop :=
  ∀ c : Dev Cert.KernelUpdxIdeal.nD,
    (Cert.Pre_finite_updx.fn (F := Ideal) (m ((c.tc : Thread Cert.KernelUpdxIdeal.nD Cert.KernelUpdxIdeal.τ).loc Cert.KernelUpdxIdeal.main_arg0)) (m ((c.tc : Thread Cert.KernelUpdxIdeal.nD Cert.KernelUpdxIdeal.τ).loc Cert.KernelUpdxIdeal.main_arg1)) (m ((c.tc : Thread Cert.KernelUpdxIdeal.nD Cert.KernelUpdxIdeal.τ).loc Cert.KernelUpdxIdeal.main_arg2)) (m ((c.tc : Thread Cert.KernelUpdxIdeal.nD Cert.KernelUpdxIdeal.τ).loc Cert.KernelUpdxIdeal.main_arg3)) (m ((c.tc : Thread Cert.KernelUpdxIdeal.nD Cert.KernelUpdxIdeal.τ).loc Cert.KernelUpdxIdeal.main_arg4)) (m ((c.tc : Thread Cert.KernelUpdxIdeal.nD Cert.KernelUpdxIdeal.τ).loc Cert.KernelUpdxIdeal.main_arg5))) = (fun _ => 1#1)

def Pre_ReferenceUpdxIdeal (m : (ℓ : Loc Cert.ReferenceUpdxIdeal.nD Cert.ReferenceUpdxIdeal.τ Cert.ReferenceUpdxIdeal.sig) → Buf (Elt Ideal) ℓ) : Prop :=
  True

def Pre_ReferenceUpdxIdeal_finite_updx [hPre_finite_updx : Cert.Pre_finite_updx.Facts] (m : (ℓ : Loc Cert.ReferenceUpdxIdeal.nD Cert.ReferenceUpdxIdeal.τ Cert.ReferenceUpdxIdeal.sig) → Buf (Elt Ideal) ℓ) : Prop :=
  ∀ c : Dev Cert.ReferenceUpdxIdeal.nD,
    (Cert.Pre_finite_updx.fn (F := Ideal) (m ((c.tc : Thread Cert.ReferenceUpdxIdeal.nD Cert.ReferenceUpdxIdeal.τ).loc Cert.ReferenceUpdxIdeal.main_arg0)) (m ((c.tc : Thread Cert.ReferenceUpdxIdeal.nD Cert.ReferenceUpdxIdeal.τ).loc Cert.ReferenceUpdxIdeal.main_arg1)) (m ((c.tc : Thread Cert.ReferenceUpdxIdeal.nD Cert.ReferenceUpdxIdeal.τ).loc Cert.ReferenceUpdxIdeal.main_arg2)) (m ((c.tc : Thread Cert.ReferenceUpdxIdeal.nD Cert.ReferenceUpdxIdeal.τ).loc Cert.ReferenceUpdxIdeal.main_arg3)) (m ((c.tc : Thread Cert.ReferenceUpdxIdeal.nD Cert.ReferenceUpdxIdeal.τ).loc Cert.ReferenceUpdxIdeal.main_arg4)) (m ((c.tc : Thread Cert.ReferenceUpdxIdeal.nD Cert.ReferenceUpdxIdeal.τ).loc Cert.ReferenceUpdxIdeal.main_arg5))) = (fun _ => 1#1)

def Pre_KernelIndx (m : (ℓ : Loc Cert.KernelIndx.nD Cert.KernelIndx.τ Cert.KernelIndx.sig) → Buf (Elt Bits) ℓ) : Prop :=
  True

def Pre_KernelIndxIdeal (m : (ℓ : Loc Cert.KernelIndxIdeal.nD Cert.KernelIndxIdeal.τ Cert.KernelIndxIdeal.sig) → Buf (Elt Ideal) ℓ) : Prop :=
  True

def Pre_KernelIndxIdeal_finite_indx [hPre_finite_indx : Cert.Pre_finite_indx.Facts] (m : (ℓ : Loc Cert.KernelIndxIdeal.nD Cert.KernelIndxIdeal.τ Cert.KernelIndxIdeal.sig) → Buf (Elt Ideal) ℓ) : Prop :=
  ∀ c : Dev Cert.KernelIndxIdeal.nD,
    (Cert.Pre_finite_indx.fn (F := Ideal) (m ((c.tc : Thread Cert.KernelIndxIdeal.nD Cert.KernelIndxIdeal.τ).loc Cert.KernelIndxIdeal.main_arg0)) (m ((c.tc : Thread Cert.KernelIndxIdeal.nD Cert.KernelIndxIdeal.τ).loc Cert.KernelIndxIdeal.main_arg1)) (m ((c.tc : Thread Cert.KernelIndxIdeal.nD Cert.KernelIndxIdeal.τ).loc Cert.KernelIndxIdeal.main_arg2)) (m ((c.tc : Thread Cert.KernelIndxIdeal.nD Cert.KernelIndxIdeal.τ).loc Cert.KernelIndxIdeal.main_arg3)) (m ((c.tc : Thread Cert.KernelIndxIdeal.nD Cert.KernelIndxIdeal.τ).loc Cert.KernelIndxIdeal.main_arg4))) = (fun _ => 1#1)

def Pre_ReferenceIndxIdeal (m : (ℓ : Loc Cert.ReferenceIndxIdeal.nD Cert.ReferenceIndxIdeal.τ Cert.ReferenceIndxIdeal.sig) → Buf (Elt Ideal) ℓ) : Prop :=
  True

def Pre_ReferenceIndxIdeal_finite_indx [hPre_finite_indx : Cert.Pre_finite_indx.Facts] (m : (ℓ : Loc Cert.ReferenceIndxIdeal.nD Cert.ReferenceIndxIdeal.τ Cert.ReferenceIndxIdeal.sig) → Buf (Elt Ideal) ℓ) : Prop :=
  ∀ c : Dev Cert.ReferenceIndxIdeal.nD,
    (Cert.Pre_finite_indx.fn (F := Ideal) (m ((c.tc : Thread Cert.ReferenceIndxIdeal.nD Cert.ReferenceIndxIdeal.τ).loc Cert.ReferenceIndxIdeal.main_arg0)) (m ((c.tc : Thread Cert.ReferenceIndxIdeal.nD Cert.ReferenceIndxIdeal.τ).loc Cert.ReferenceIndxIdeal.main_arg1)) (m ((c.tc : Thread Cert.ReferenceIndxIdeal.nD Cert.ReferenceIndxIdeal.τ).loc Cert.ReferenceIndxIdeal.main_arg2)) (m ((c.tc : Thread Cert.ReferenceIndxIdeal.nD Cert.ReferenceIndxIdeal.τ).loc Cert.ReferenceIndxIdeal.main_arg3)) (m ((c.tc : Thread Cert.ReferenceIndxIdeal.nD Cert.ReferenceIndxIdeal.τ).loc Cert.ReferenceIndxIdeal.main_arg4))) = (fun _ => 1#1)

def Pre_KernelRmsf (m : (ℓ : Loc Cert.KernelRmsf.nD Cert.KernelRmsf.τ Cert.KernelRmsf.sig) → Buf (Elt Bits) ℓ) : Prop :=
  True

def Pre_KernelRmsfIdeal (m : (ℓ : Loc Cert.KernelRmsfIdeal.nD Cert.KernelRmsfIdeal.τ Cert.KernelRmsfIdeal.sig) → Buf (Elt Ideal) ℓ) : Prop :=
  True

def Pre_ReferenceRmsfIdeal (m : (ℓ : Loc Cert.ReferenceRmsfIdeal.nD Cert.ReferenceRmsfIdeal.τ Cert.ReferenceRmsfIdeal.sig) → Buf (Elt Ideal) ℓ) : Prop :=
  True

def Pre_KernelRmsm (m : (ℓ : Loc Cert.KernelRmsm.nD Cert.KernelRmsm.τ Cert.KernelRmsm.sig) → Buf (Elt Bits) ℓ) : Prop :=
  True

def Pre_KernelRmsmIdeal (m : (ℓ : Loc Cert.KernelRmsmIdeal.nD Cert.KernelRmsmIdeal.τ Cert.KernelRmsmIdeal.sig) → Buf (Elt Ideal) ℓ) : Prop :=
  True

def Pre_ReferenceRmsmIdeal (m : (ℓ : Loc Cert.ReferenceRmsmIdeal.nD Cert.ReferenceRmsmIdeal.τ Cert.ReferenceRmsmIdeal.sig) → Buf (Elt Ideal) ℓ) : Prop :=
  True

def Pre_KernelAdgain (m : (ℓ : Loc Cert.KernelAdgain.nD Cert.KernelAdgain.τ Cert.KernelAdgain.sig) → Buf (Elt Bits) ℓ) : Prop :=
  True

def Pre_KernelAdgainIdeal (m : (ℓ : Loc Cert.KernelAdgainIdeal.nD Cert.KernelAdgainIdeal.τ Cert.KernelAdgainIdeal.sig) → Buf (Elt Ideal) ℓ) : Prop :=
  True

def Pre_ReferenceAdgainIdeal (m : (ℓ : Loc Cert.ReferenceAdgainIdeal.nD Cert.ReferenceAdgainIdeal.τ Cert.ReferenceAdgainIdeal.sig) → Buf (Elt Ideal) ℓ) : Prop :=
  True

def Pre_KernelAdfinal (m : (ℓ : Loc Cert.KernelAdfinal.nD Cert.KernelAdfinal.τ Cert.KernelAdfinal.sig) → Buf (Elt Bits) ℓ) : Prop :=
  True

def Pre_KernelAdfinalIdeal (m : (ℓ : Loc Cert.KernelAdfinalIdeal.nD Cert.KernelAdfinalIdeal.τ Cert.KernelAdfinalIdeal.sig) → Buf (Elt Ideal) ℓ) : Prop :=
  True

def Pre_ReferenceAdfinalIdeal (m : (ℓ : Loc Cert.ReferenceAdfinalIdeal.nD Cert.ReferenceAdfinalIdeal.τ Cert.ReferenceAdfinalIdeal.sig) → Buf (Elt Ideal) ℓ) : Prop :=
  True

def Pre_KernelAdwin (m : (ℓ : Loc Cert.KernelAdwin.nD Cert.KernelAdwin.τ Cert.KernelAdwin.sig) → Buf (Elt Bits) ℓ) : Prop :=
  True

def Pre_KernelAdwinIdeal (m : (ℓ : Loc Cert.KernelAdwinIdeal.nD Cert.KernelAdwinIdeal.τ Cert.KernelAdwinIdeal.sig) → Buf (Elt Ideal) ℓ) : Prop :=
  True

def Pre_ReferenceAdwinIdeal (m : (ℓ : Loc Cert.ReferenceAdwinIdeal.nD Cert.ReferenceAdwinIdeal.τ Cert.ReferenceAdwinIdeal.sig) → Buf (Elt Ideal) ℓ) : Prop :=
  True

def Pre_KernelAdsgu (m : (ℓ : Loc Cert.KernelAdsgu.nD Cert.KernelAdsgu.τ Cert.KernelAdsgu.sig) → Buf (Elt Bits) ℓ) : Prop :=
  True

def Pre_KernelAdsguIdeal (m : (ℓ : Loc Cert.KernelAdsguIdeal.nD Cert.KernelAdsguIdeal.τ Cert.KernelAdsguIdeal.sig) → Buf (Elt Ideal) ℓ) : Prop :=
  True

def Pre_ReferenceAdsguIdeal (m : (ℓ : Loc Cert.ReferenceAdsguIdeal.nD Cert.ReferenceAdsguIdeal.τ Cert.ReferenceAdsguIdeal.sig) → Buf (Elt Ideal) ℓ) : Prop :=
  True

def Pre_KernelAdspat (m : (ℓ : Loc Cert.KernelAdspat.nD Cert.KernelAdspat.τ Cert.KernelAdspat.sig) → Buf (Elt Bits) ℓ) : Prop :=
  True

def Pre_KernelAdspatIdeal (m : (ℓ : Loc Cert.KernelAdspatIdeal.nD Cert.KernelAdspatIdeal.τ Cert.KernelAdspatIdeal.sig) → Buf (Elt Ideal) ℓ) : Prop :=
  True

def Pre_ReferenceAdspatIdeal (m : (ℓ : Loc Cert.ReferenceAdspatIdeal.nD Cert.ReferenceAdspatIdeal.τ Cert.ReferenceAdspatIdeal.sig) → Buf (Elt Ideal) ℓ) : Prop :=
  True

def Pre_KernelAdbias (m : (ℓ : Loc Cert.KernelAdbias.nD Cert.KernelAdbias.τ Cert.KernelAdbias.sig) → Buf (Elt Bits) ℓ) : Prop :=
  True

def Pre_KernelAdbiasIdeal (m : (ℓ : Loc Cert.KernelAdbiasIdeal.nD Cert.KernelAdbiasIdeal.τ Cert.KernelAdbiasIdeal.sig) → Buf (Elt Ideal) ℓ) : Prop :=
  True

def Pre_ReferenceAdbiasIdeal (m : (ℓ : Loc Cert.ReferenceAdbiasIdeal.nD Cert.ReferenceAdbiasIdeal.τ Cert.ReferenceAdbiasIdeal.sig) → Buf (Elt Ideal) ℓ) : Prop :=
  True

def Pre_KernelAdconv (m : (ℓ : Loc Cert.KernelAdconv.nD Cert.KernelAdconv.τ Cert.KernelAdconv.sig) → Buf (Elt Bits) ℓ) : Prop :=
  True

def Pre_KernelAdconvIdeal (m : (ℓ : Loc Cert.KernelAdconvIdeal.nD Cert.KernelAdconvIdeal.τ Cert.KernelAdconvIdeal.sig) → Buf (Elt Ideal) ℓ) : Prop :=
  True

def Pre_ReferenceAdconvIdeal (m : (ℓ : Loc Cert.ReferenceAdconvIdeal.nD Cert.ReferenceAdconvIdeal.τ Cert.ReferenceAdconvIdeal.sig) → Buf (Elt Ideal) ℓ) : Prop :=
  True

def Pre_KernelAdbranch (m : (ℓ : Loc Cert.KernelAdbranch.nD Cert.KernelAdbranch.τ Cert.KernelAdbranch.sig) → Buf (Elt Bits) ℓ) : Prop :=
  True

def Pre_KernelAdbranchIdeal (m : (ℓ : Loc Cert.KernelAdbranchIdeal.nD Cert.KernelAdbranchIdeal.τ Cert.KernelAdbranchIdeal.sig) → Buf (Elt Ideal) ℓ) : Prop :=
  True

def Pre_ReferenceAdbranchIdeal (m : (ℓ : Loc Cert.ReferenceAdbranchIdeal.nD Cert.ReferenceAdbranchIdeal.τ Cert.ReferenceAdbranchIdeal.sig) → Buf (Elt Ideal) ℓ) : Prop :=
  True

def Pre_KernelAdsquare (m : (ℓ : Loc Cert.KernelAdsquare.nD Cert.KernelAdsquare.τ Cert.KernelAdsquare.sig) → Buf (Elt Bits) ℓ) : Prop :=
  True

def Pre_KernelAdsquareIdeal (m : (ℓ : Loc Cert.KernelAdsquareIdeal.nD Cert.KernelAdsquareIdeal.τ Cert.KernelAdsquareIdeal.sig) → Buf (Elt Ideal) ℓ) : Prop :=
  True

def Pre_ReferenceAdsquareIdeal (m : (ℓ : Loc Cert.ReferenceAdsquareIdeal.nD Cert.ReferenceAdsquareIdeal.τ Cert.ReferenceAdsquareIdeal.sig) → Buf (Elt Ideal) ℓ) : Prop :=
  True

def Pre_KernelAdffn (m : (ℓ : Loc Cert.KernelAdffn.nD Cert.KernelAdffn.τ Cert.KernelAdffn.sig) → Buf (Elt Bits) ℓ) : Prop :=
  True

def Pre_KernelAdffnIdeal (m : (ℓ : Loc Cert.KernelAdffnIdeal.nD Cert.KernelAdffnIdeal.τ Cert.KernelAdffnIdeal.sig) → Buf (Elt Ideal) ℓ) : Prop :=
  True

def Pre_ReferenceAdffnIdeal (m : (ℓ : Loc Cert.ReferenceAdffnIdeal.nD Cert.ReferenceAdffnIdeal.τ Cert.ReferenceAdffnIdeal.sig) → Buf (Elt Ideal) ℓ) : Prop :=
  True

def Pre_KernelAddown (m : (ℓ : Loc Cert.KernelAddown.nD Cert.KernelAddown.τ Cert.KernelAddown.sig) → Buf (Elt Bits) ℓ) : Prop :=
  True

def Pre_KernelAddownIdeal (m : (ℓ : Loc Cert.KernelAddownIdeal.nD Cert.KernelAddownIdeal.τ Cert.KernelAddownIdeal.sig) → Buf (Elt Ideal) ℓ) : Prop :=
  True

def Pre_ReferenceAddownIdeal (m : (ℓ : Loc Cert.ReferenceAddownIdeal.nD Cert.ReferenceAddownIdeal.τ Cert.ReferenceAddownIdeal.sig) → Buf (Elt Ideal) ℓ) : Prop :=
  True

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelXa [hKernelXa : Cert.KernelXa.Facts] : Prop :=
  ∀ (m : (ℓ : Loc Cert.KernelXa.nD Cert.KernelXa.τ Cert.KernelXa.sig) → Buf (Elt Bits) ℓ) (g : Dev Cert.KernelXa.nD → PrngReg), Pre_KernelXa m →
    θ_run (Cert.KernelXa.defs (F := Bits)) (onTc (τ := Cert.KernelXa.τ) (Cert.KernelXa.main (F := Bits))) ⟨m, fun _ => 0, g⟩ (fun r => (∀ c : Dev Cert.KernelXa.nD,
      r.2.mem ((c.tc : Thread Cert.KernelXa.nD Cert.KernelXa.τ).loc Cert.KernelXa.main_arg0) = m ((c.tc : Thread Cert.KernelXa.nD Cert.KernelXa.τ).loc Cert.KernelXa.main_arg0)
      ∧ r.2.mem ((c.tc : Thread Cert.KernelXa.nD Cert.KernelXa.τ).loc Cert.KernelXa.main_arg1) = m ((c.tc : Thread Cert.KernelXa.nD Cert.KernelXa.τ).loc Cert.KernelXa.main_arg1)
      ∧ r.2.mem ((c.tc : Thread Cert.KernelXa.nD Cert.KernelXa.τ).loc Cert.KernelXa.main_arg2) = m ((c.tc : Thread Cert.KernelXa.nD Cert.KernelXa.τ).loc Cert.KernelXa.main_arg2)
      ∧ r.2.mem ((c.tc : Thread Cert.KernelXa.nD Cert.KernelXa.τ).loc Cert.KernelXa.main_arg3) = m ((c.tc : Thread Cert.KernelXa.nD Cert.KernelXa.τ).loc Cert.KernelXa.main_arg3))
      ∧ r.2.sem = fun _ => 0)

def quiescent_KernelXaIdeal [hKernelXaIdeal : Cert.KernelXaIdeal.Facts] : Prop :=
  ∀ (m : (ℓ : Loc Cert.KernelXaIdeal.nD Cert.KernelXaIdeal.τ Cert.KernelXaIdeal.sig) → Buf (Elt Ideal) ℓ) (g : Dev Cert.KernelXaIdeal.nD → PrngReg), Pre_KernelXaIdeal m →
    θ_run (Cert.KernelXaIdeal.defs (F := Ideal)) (onTc (τ := Cert.KernelXaIdeal.τ) (Cert.KernelXaIdeal.main (F := Ideal))) ⟨m, fun _ => 0, g⟩ (fun r => (∀ c : Dev Cert.KernelXaIdeal.nD,
      r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
      ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
      ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
      ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ r.2.sem = fun _ => 0)

def quiescent_KernelXaIdeal_pre_finite_xa [hKernelXaIdeal : Cert.KernelXaIdeal.Facts] [hPre_finite_xa : Cert.Pre_finite_xa.Facts] : Prop :=
  ∀ (m : (ℓ : Loc Cert.KernelXaIdeal.nD Cert.KernelXaIdeal.τ Cert.KernelXaIdeal.sig) → Buf (Elt Ideal) ℓ) (g : Dev Cert.KernelXaIdeal.nD → PrngReg), Pre_KernelXaIdeal_finite_xa m →
    θ_run (Cert.KernelXaIdeal.defs (F := Ideal)) (onTc (τ := Cert.KernelXaIdeal.τ) (Cert.KernelXaIdeal.main (F := Ideal))) ⟨m, fun _ => 0, g⟩ (fun r => (∀ c : Dev Cert.KernelXaIdeal.nD,
      r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
      ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
      ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
      ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ r.2.sem = fun _ => 0)

def quiescent_ReferenceXaIdeal [hReferenceXaIdeal : Cert.ReferenceXaIdeal.Facts] : Prop :=
  ∀ (m : (ℓ : Loc Cert.ReferenceXaIdeal.nD Cert.ReferenceXaIdeal.τ Cert.ReferenceXaIdeal.sig) → Buf (Elt Ideal) ℓ) (g : Dev Cert.ReferenceXaIdeal.nD → PrngReg), Pre_ReferenceXaIdeal m →
    θ_run (Cert.ReferenceXaIdeal.defs (F := Ideal)) (onTc (τ := Cert.ReferenceXaIdeal.τ) (Cert.ReferenceXaIdeal.main (F := Ideal))) ⟨m, fun _ => 0, g⟩ (fun r => (∀ c : Dev Cert.ReferenceXaIdeal.nD,
      r.2.mem ((c.tc : Thread Cert.ReferenceXaIdeal.nD Cert.ReferenceXaIdeal.τ).loc Cert.ReferenceXaIdeal.main_arg0) = m ((c.tc : Thread Cert.ReferenceXaIdeal.nD Cert.ReferenceXaIdeal.τ).loc Cert.ReferenceXaIdeal.main_arg0)
      ∧ r.2.mem ((c.tc : Thread Cert.ReferenceXaIdeal.nD Cert.ReferenceXaIdeal.τ).loc Cert.ReferenceXaIdeal.main_arg1) = m ((c.tc : Thread Cert.ReferenceXaIdeal.nD Cert.ReferenceXaIdeal.τ).loc Cert.ReferenceXaIdeal.main_arg1)
      ∧ r.2.mem ((c.tc : Thread Cert.ReferenceXaIdeal.nD Cert.ReferenceXaIdeal.τ).loc Cert.ReferenceXaIdeal.main_arg2) = m ((c.tc : Thread Cert.ReferenceXaIdeal.nD Cert.ReferenceXaIdeal.τ).loc Cert.ReferenceXaIdeal.main_arg2)
      ∧ r.2.mem ((c.tc : Thread Cert.ReferenceXaIdeal.nD Cert.ReferenceXaIdeal.τ).loc Cert.ReferenceXaIdeal.main_arg3) = m ((c.tc : Thread Cert.ReferenceXaIdeal.nD Cert.ReferenceXaIdeal.τ).loc Cert.ReferenceXaIdeal.main_arg3))
      ∧ r.2.sem = fun _ => 0)

def quiescent_ReferenceXaIdeal_pre_finite_xa [hReferenceXaIdeal : Cert.ReferenceXaIdeal.Facts] [hPre_finite_xa : Cert.Pre_finite_xa.Facts] : Prop :=
  ∀ (m : (ℓ : Loc Cert.ReferenceXaIdeal.nD Cert.ReferenceXaIdeal.τ Cert.ReferenceXaIdeal.sig) → Buf (Elt Ideal) ℓ) (g : Dev Cert.ReferenceXaIdeal.nD → PrngReg), Pre_ReferenceXaIdeal_finite_xa m →
    θ_run (Cert.ReferenceXaIdeal.defs (F := Ideal)) (onTc (τ := Cert.ReferenceXaIdeal.τ) (Cert.ReferenceXaIdeal.main (F := Ideal))) ⟨m, fun _ => 0, g⟩ (fun r => (∀ c : Dev Cert.ReferenceXaIdeal.nD,
      r.2.mem ((c.tc : Thread Cert.ReferenceXaIdeal.nD Cert.ReferenceXaIdeal.τ).loc Cert.ReferenceXaIdeal.main_arg0) = m ((c.tc : Thread Cert.ReferenceXaIdeal.nD Cert.ReferenceXaIdeal.τ).loc Cert.ReferenceXaIdeal.main_arg0)
      ∧ r.2.mem ((c.tc : Thread Cert.ReferenceXaIdeal.nD Cert.ReferenceXaIdeal.τ).loc Cert.ReferenceXaIdeal.main_arg1) = m ((c.tc : Thread Cert.ReferenceXaIdeal.nD Cert.ReferenceXaIdeal.τ).loc Cert.ReferenceXaIdeal.main_arg1)
      ∧ r.2.mem ((c.tc : Thread Cert.ReferenceXaIdeal.nD Cert.ReferenceXaIdeal.τ).loc Cert.ReferenceXaIdeal.main_arg2) = m ((c.tc : Thread Cert.ReferenceXaIdeal.nD Cert.ReferenceXaIdeal.τ).loc Cert.ReferenceXaIdeal.main_arg2)
      ∧ r.2.mem ((c.tc : Thread Cert.ReferenceXaIdeal.nD Cert.ReferenceXaIdeal.τ).loc Cert.ReferenceXaIdeal.main_arg3) = m ((c.tc : Thread Cert.ReferenceXaIdeal.nD Cert.ReferenceXaIdeal.τ).loc Cert.ReferenceXaIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelInp [hKernelInp : Cert.KernelInp.Facts] : Prop :=
  ∀ (m : (ℓ : Loc Cert.KernelInp.nD Cert.KernelInp.τ Cert.KernelInp.sig) → Buf (Elt Bits) ℓ) (g : Dev Cert.KernelInp.nD → PrngReg), Pre_KernelInp m →
    θ_run (Cert.KernelInp.defs (F := Bits)) (onTc (τ := Cert.KernelInp.τ) (Cert.KernelInp.main (F := Bits))) ⟨m, fun _ => 0, g⟩ (fun r => (∀ c : Dev Cert.KernelInp.nD,
      r.2.mem ((c.tc : Thread Cert.KernelInp.nD Cert.KernelInp.τ).loc Cert.KernelInp.main_arg0) = m ((c.tc : Thread Cert.KernelInp.nD Cert.KernelInp.τ).loc Cert.KernelInp.main_arg0)
      ∧ r.2.mem ((c.tc : Thread Cert.KernelInp.nD Cert.KernelInp.τ).loc Cert.KernelInp.main_arg1) = m ((c.tc : Thread Cert.KernelInp.nD Cert.KernelInp.τ).loc Cert.KernelInp.main_arg1))
      ∧ r.2.sem = fun _ => 0)

def quiescent_KernelInpIdeal [hKernelInpIdeal : Cert.KernelInpIdeal.Facts] : Prop :=
  ∀ (m : (ℓ : Loc Cert.KernelInpIdeal.nD Cert.KernelInpIdeal.τ Cert.KernelInpIdeal.sig) → Buf (Elt Ideal) ℓ) (g : Dev Cert.KernelInpIdeal.nD → PrngReg), Pre_KernelInpIdeal m →
    θ_run (Cert.KernelInpIdeal.defs (F := Ideal)) (onTc (τ := Cert.KernelInpIdeal.τ) (Cert.KernelInpIdeal.main (F := Ideal))) ⟨m, fun _ => 0, g⟩ (fun r => (∀ c : Dev Cert.KernelInpIdeal.nD,
      r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
      ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1))
      ∧ r.2.sem = fun _ => 0)

def quiescent_ReferenceInpIdeal [hReferenceInpIdeal : Cert.ReferenceInpIdeal.Facts] : Prop :=
  ∀ (m : (ℓ : Loc Cert.ReferenceInpIdeal.nD Cert.ReferenceInpIdeal.τ Cert.ReferenceInpIdeal.sig) → Buf (Elt Ideal) ℓ) (g : Dev Cert.ReferenceInpIdeal.nD → PrngReg), Pre_ReferenceInpIdeal m →
    θ_run (Cert.ReferenceInpIdeal.defs (F := Ideal)) (onTc (τ := Cert.ReferenceInpIdeal.τ) (Cert.ReferenceInpIdeal.main (F := Ideal))) ⟨m, fun _ => 0, g⟩ (fun r => (∀ c : Dev Cert.ReferenceInpIdeal.nD,
      r.2.mem ((c.tc : Thread Cert.ReferenceInpIdeal.nD Cert.ReferenceInpIdeal.τ).loc Cert.ReferenceInpIdeal.main_arg0) = m ((c.tc : Thread Cert.ReferenceInpIdeal.nD Cert.ReferenceInpIdeal.τ).loc Cert.ReferenceInpIdeal.main_arg0)
      ∧ r.2.mem ((c.tc : Thread Cert.ReferenceInpIdeal.nD Cert.ReferenceInpIdeal.τ).loc Cert.ReferenceInpIdeal.main_arg1) = m ((c.tc : Thread Cert.ReferenceInpIdeal.nD Cert.ReferenceInpIdeal.τ).loc Cert.ReferenceInpIdeal.main_arg1))
      ∧ r.2.sem = fun _ => 0)

def quiescent_KernelWindw [hKernelWindw : Cert.KernelWindw.Facts] : Prop :=
  ∀ (m : (ℓ : Loc Cert.KernelWindw.nD Cert.KernelWindw.τ Cert.KernelWindw.sig) → Buf (Elt Bits) ℓ) (g : Dev Cert.KernelWindw.nD → PrngReg), Pre_KernelWindw m →
    θ_run (Cert.KernelWindw.defs (F := Bits)) (onTc (τ := Cert.KernelWindw.τ) (Cert.KernelWindw.main (F := Bits))) ⟨m, fun _ => 0, g⟩ (fun r => (∀ c : Dev Cert.KernelWindw.nD,
      r.2.mem ((c.tc : Thread Cert.KernelWindw.nD Cert.KernelWindw.τ).loc Cert.KernelWindw.main_arg0) = m ((c.tc : Thread Cert.KernelWindw.nD Cert.KernelWindw.τ).loc Cert.KernelWindw.main_arg0)
      ∧ r.2.mem ((c.tc : Thread Cert.KernelWindw.nD Cert.KernelWindw.τ).loc Cert.KernelWindw.main_arg1) = m ((c.tc : Thread Cert.KernelWindw.nD Cert.KernelWindw.τ).loc Cert.KernelWindw.main_arg1))
      ∧ r.2.sem = fun _ => 0)

def quiescent_KernelWindwIdeal [hKernelWindwIdeal : Cert.KernelWindwIdeal.Facts] : Prop :=
  ∀ (m : (ℓ : Loc Cert.KernelWindwIdeal.nD Cert.KernelWindwIdeal.τ Cert.KernelWindwIdeal.sig) → Buf (Elt Ideal) ℓ) (g : Dev Cert.KernelWindwIdeal.nD → PrngReg), Pre_KernelWindwIdeal m →
    θ_run (Cert.KernelWindwIdeal.defs (F := Ideal)) (onTc (τ := Cert.KernelWindwIdeal.τ) (Cert.KernelWindwIdeal.main (F := Ideal))) ⟨m, fun _ => 0, g⟩ (fun r => (∀ c : Dev Cert.KernelWindwIdeal.nD,
      r.2.mem ((c.tc : Thread Cert.KernelWindwIdeal.nD Cert.KernelWindwIdeal.τ).loc Cert.KernelWindwIdeal.main_arg0) = m ((c.tc : Thread Cert.KernelWindwIdeal.nD Cert.KernelWindwIdeal.τ).loc Cert.KernelWindwIdeal.main_arg0)
      ∧ r.2.mem ((c.tc : Thread Cert.KernelWindwIdeal.nD Cert.KernelWindwIdeal.τ).loc Cert.KernelWindwIdeal.main_arg1) = m ((c.tc : Thread Cert.KernelWindwIdeal.nD Cert.KernelWindwIdeal.τ).loc Cert.KernelWindwIdeal.main_arg1))
      ∧ r.2.sem = fun _ => 0)

def quiescent_ReferenceWindwIdeal [hReferenceWindwIdeal : Cert.ReferenceWindwIdeal.Facts] : Prop :=
  ∀ (m : (ℓ : Loc Cert.ReferenceWindwIdeal.nD Cert.ReferenceWindwIdeal.τ Cert.ReferenceWindwIdeal.sig) → Buf (Elt Ideal) ℓ) (g : Dev Cert.ReferenceWindwIdeal.nD → PrngReg), Pre_ReferenceWindwIdeal m →
    θ_run (Cert.ReferenceWindwIdeal.defs (F := Ideal)) (onTc (τ := Cert.ReferenceWindwIdeal.τ) (Cert.ReferenceWindwIdeal.main (F := Ideal))) ⟨m, fun _ => 0, g⟩ (fun r => (∀ c : Dev Cert.ReferenceWindwIdeal.nD,
      r.2.mem ((c.tc : Thread Cert.ReferenceWindwIdeal.nD Cert.ReferenceWindwIdeal.τ).loc Cert.ReferenceWindwIdeal.main_arg0) = m ((c.tc : Thread Cert.ReferenceWindwIdeal.nD Cert.ReferenceWindwIdeal.τ).loc Cert.ReferenceWindwIdeal.main_arg0)
      ∧ r.2.mem ((c.tc : Thread Cert.ReferenceWindwIdeal.nD Cert.ReferenceWindwIdeal.τ).loc Cert.ReferenceWindwIdeal.main_arg1) = m ((c.tc : Thread Cert.ReferenceWindwIdeal.nD Cert.ReferenceWindwIdeal.τ).loc Cert.ReferenceWindwIdeal.main_arg1))
      ∧ r.2.sem = fun _ => 0)

def quiescent_KernelFfnin [hKernelFfnin : Cert.KernelFfnin.Facts] : Prop :=
  ∀ (m : (ℓ : Loc Cert.KernelFfnin.nD Cert.KernelFfnin.τ Cert.KernelFfnin.sig) → Buf (Elt Bits) ℓ) (g : Dev Cert.KernelFfnin.nD → PrngReg), Pre_KernelFfnin m →
    θ_run (Cert.KernelFfnin.defs (F := Bits)) (onTc (τ := Cert.KernelFfnin.τ) (Cert.KernelFfnin.main (F := Bits))) ⟨m, fun _ => 0, g⟩ (fun r => (∀ c : Dev Cert.KernelFfnin.nD,
      r.2.mem ((c.tc : Thread Cert.KernelFfnin.nD Cert.KernelFfnin.τ).loc Cert.KernelFfnin.main_arg0) = m ((c.tc : Thread Cert.KernelFfnin.nD Cert.KernelFfnin.τ).loc Cert.KernelFfnin.main_arg0)
      ∧ r.2.mem ((c.tc : Thread Cert.KernelFfnin.nD Cert.KernelFfnin.τ).loc Cert.KernelFfnin.main_arg1) = m ((c.tc : Thread Cert.KernelFfnin.nD Cert.KernelFfnin.τ).loc Cert.KernelFfnin.main_arg1)
      ∧ r.2.mem ((c.tc : Thread Cert.KernelFfnin.nD Cert.KernelFfnin.τ).loc Cert.KernelFfnin.main_arg2) = m ((c.tc : Thread Cert.KernelFfnin.nD Cert.KernelFfnin.τ).loc Cert.KernelFfnin.main_arg2))
      ∧ r.2.sem = fun _ => 0)

def quiescent_KernelFfninIdeal [hKernelFfninIdeal : Cert.KernelFfninIdeal.Facts] : Prop :=
  ∀ (m : (ℓ : Loc Cert.KernelFfninIdeal.nD Cert.KernelFfninIdeal.τ Cert.KernelFfninIdeal.sig) → Buf (Elt Ideal) ℓ) (g : Dev Cert.KernelFfninIdeal.nD → PrngReg), Pre_KernelFfninIdeal m →
    θ_run (Cert.KernelFfninIdeal.defs (F := Ideal)) (onTc (τ := Cert.KernelFfninIdeal.τ) (Cert.KernelFfninIdeal.main (F := Ideal))) ⟨m, fun _ => 0, g⟩ (fun r => (∀ c : Dev Cert.KernelFfninIdeal.nD,
      r.2.mem ((c.tc : Thread Cert.KernelFfninIdeal.nD Cert.KernelFfninIdeal.τ).loc Cert.KernelFfninIdeal.main_arg0) = m ((c.tc : Thread Cert.KernelFfninIdeal.nD Cert.KernelFfninIdeal.τ).loc Cert.KernelFfninIdeal.main_arg0)
      ∧ r.2.mem ((c.tc : Thread Cert.KernelFfninIdeal.nD Cert.KernelFfninIdeal.τ).loc Cert.KernelFfninIdeal.main_arg1) = m ((c.tc : Thread Cert.KernelFfninIdeal.nD Cert.KernelFfninIdeal.τ).loc Cert.KernelFfninIdeal.main_arg1)
      ∧ r.2.mem ((c.tc : Thread Cert.KernelFfninIdeal.nD Cert.KernelFfninIdeal.τ).loc Cert.KernelFfninIdeal.main_arg2) = m ((c.tc : Thread Cert.KernelFfninIdeal.nD Cert.KernelFfninIdeal.τ).loc Cert.KernelFfninIdeal.main_arg2))
      ∧ r.2.sem = fun _ => 0)

def quiescent_ReferenceFfninIdeal [hReferenceFfninIdeal : Cert.ReferenceFfninIdeal.Facts] : Prop :=
  ∀ (m : (ℓ : Loc Cert.ReferenceFfninIdeal.nD Cert.ReferenceFfninIdeal.τ Cert.ReferenceFfninIdeal.sig) → Buf (Elt Ideal) ℓ) (g : Dev Cert.ReferenceFfninIdeal.nD → PrngReg), Pre_ReferenceFfninIdeal m →
    θ_run (Cert.ReferenceFfninIdeal.defs (F := Ideal)) (onTc (τ := Cert.ReferenceFfninIdeal.τ) (Cert.ReferenceFfninIdeal.main (F := Ideal))) ⟨m, fun _ => 0, g⟩ (fun r => (∀ c : Dev Cert.ReferenceFfninIdeal.nD,
      r.2.mem ((c.tc : Thread Cert.ReferenceFfninIdeal.nD Cert.ReferenceFfninIdeal.τ).loc Cert.ReferenceFfninIdeal.main_arg0) = m ((c.tc : Thread Cert.ReferenceFfninIdeal.nD Cert.ReferenceFfninIdeal.τ).loc Cert.ReferenceFfninIdeal.main_arg0)
      ∧ r.2.mem ((c.tc : Thread Cert.ReferenceFfninIdeal.nD Cert.ReferenceFfninIdeal.τ).loc Cert.ReferenceFfninIdeal.main_arg1) = m ((c.tc : Thread Cert.ReferenceFfninIdeal.nD Cert.ReferenceFfninIdeal.τ).loc Cert.ReferenceFfninIdeal.main_arg1)
      ∧ r.2.mem ((c.tc : Thread Cert.ReferenceFfninIdeal.nD Cert.ReferenceFfninIdeal.τ).loc Cert.ReferenceFfninIdeal.main_arg2) = m ((c.tc : Thread Cert.ReferenceFfninIdeal.nD Cert.ReferenceFfninIdeal.τ).loc Cert.ReferenceFfninIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDowndw [hKernelDowndw : Cert.KernelDowndw.Facts] : Prop :=
  ∀ (m : (ℓ : Loc Cert.KernelDowndw.nD Cert.KernelDowndw.τ Cert.KernelDowndw.sig) → Buf (Elt Bits) ℓ) (g : Dev Cert.KernelDowndw.nD → PrngReg), Pre_KernelDowndw m →
    θ_run (Cert.KernelDowndw.defs (F := Bits)) (onTc (τ := Cert.KernelDowndw.τ) (Cert.KernelDowndw.main (F := Bits))) ⟨m, fun _ => 0, g⟩ (fun r => (∀ c : Dev Cert.KernelDowndw.nD,
      r.2.mem ((c.tc : Thread Cert.KernelDowndw.nD Cert.KernelDowndw.τ).loc Cert.KernelDowndw.main_arg0) = m ((c.tc : Thread Cert.KernelDowndw.nD Cert.KernelDowndw.τ).loc Cert.KernelDowndw.main_arg0)
      ∧ r.2.mem ((c.tc : Thread Cert.KernelDowndw.nD Cert.KernelDowndw.τ).loc Cert.KernelDowndw.main_arg1) = m ((c.tc : Thread Cert.KernelDowndw.nD Cert.KernelDowndw.τ).loc Cert.KernelDowndw.main_arg1))
      ∧ r.2.sem = fun _ => 0)

def quiescent_KernelDowndwIdeal [hKernelDowndwIdeal : Cert.KernelDowndwIdeal.Facts] : Prop :=
  ∀ (m : (ℓ : Loc Cert.KernelDowndwIdeal.nD Cert.KernelDowndwIdeal.τ Cert.KernelDowndwIdeal.sig) → Buf (Elt Ideal) ℓ) (g : Dev Cert.KernelDowndwIdeal.nD → PrngReg), Pre_KernelDowndwIdeal m →
    θ_run (Cert.KernelDowndwIdeal.defs (F := Ideal)) (onTc (τ := Cert.KernelDowndwIdeal.τ) (Cert.KernelDowndwIdeal.main (F := Ideal))) ⟨m, fun _ => 0, g⟩ (fun r => (∀ c : Dev Cert.KernelDowndwIdeal.nD,
      r.2.mem ((c.tc : Thread Cert.KernelDowndwIdeal.nD Cert.KernelDowndwIdeal.τ).loc Cert.KernelDowndwIdeal.main_arg0) = m ((c.tc : Thread Cert.KernelDowndwIdeal.nD Cert.KernelDowndwIdeal.τ).loc Cert.KernelDowndwIdeal.main_arg0)
      ∧ r.2.mem ((c.tc : Thread Cert.KernelDowndwIdeal.nD Cert.KernelDowndwIdeal.τ).loc Cert.KernelDowndwIdeal.main_arg1) = m ((c.tc : Thread Cert.KernelDowndwIdeal.nD Cert.KernelDowndwIdeal.τ).loc Cert.KernelDowndwIdeal.main_arg1))
      ∧ r.2.sem = fun _ => 0)

def quiescent_ReferenceDowndwIdeal [hReferenceDowndwIdeal : Cert.ReferenceDowndwIdeal.Facts] : Prop :=
  ∀ (m : (ℓ : Loc Cert.ReferenceDowndwIdeal.nD Cert.ReferenceDowndwIdeal.τ Cert.ReferenceDowndwIdeal.sig) → Buf (Elt Ideal) ℓ) (g : Dev Cert.ReferenceDowndwIdeal.nD → PrngReg), Pre_ReferenceDowndwIdeal m →
    θ_run (Cert.ReferenceDowndwIdeal.defs (F := Ideal)) (onTc (τ := Cert.ReferenceDowndwIdeal.τ) (Cert.ReferenceDowndwIdeal.main (F := Ideal))) ⟨m, fun _ => 0, g⟩ (fun r => (∀ c : Dev Cert.ReferenceDowndwIdeal.nD,
      r.2.mem ((c.tc : Thread Cert.ReferenceDowndwIdeal.nD Cert.ReferenceDowndwIdeal.τ).loc Cert.ReferenceDowndwIdeal.main_arg0) = m ((c.tc : Thread Cert.ReferenceDowndwIdeal.nD Cert.ReferenceDowndwIdeal.τ).loc Cert.ReferenceDowndwIdeal.main_arg0)
      ∧ r.2.mem ((c.tc : Thread Cert.ReferenceDowndwIdeal.nD Cert.ReferenceDowndwIdeal.τ).loc Cert.ReferenceDowndwIdeal.main_arg1) = m ((c.tc : Thread Cert.ReferenceDowndwIdeal.nD Cert.ReferenceDowndwIdeal.τ).loc Cert.ReferenceDowndwIdeal.main_arg1))
      ∧ r.2.sem = fun _ => 0)

def quiescent_KernelGatedw [hKernelGatedw : Cert.KernelGatedw.Facts] : Prop :=
  ∀ (m : (ℓ : Loc Cert.KernelGatedw.nD Cert.KernelGatedw.τ Cert.KernelGatedw.sig) → Buf (Elt Bits) ℓ) (g : Dev Cert.KernelGatedw.nD → PrngReg), Pre_KernelGatedw m →
    θ_run (Cert.KernelGatedw.defs (F := Bits)) (onTc (τ := Cert.KernelGatedw.τ) (Cert.KernelGatedw.main (F := Bits))) ⟨m, fun _ => 0, g⟩ (fun r => (∀ c : Dev Cert.KernelGatedw.nD,
      r.2.mem ((c.tc : Thread Cert.KernelGatedw.nD Cert.KernelGatedw.τ).loc Cert.KernelGatedw.main_arg0) = m ((c.tc : Thread Cert.KernelGatedw.nD Cert.KernelGatedw.τ).loc Cert.KernelGatedw.main_arg0)
      ∧ r.2.mem ((c.tc : Thread Cert.KernelGatedw.nD Cert.KernelGatedw.τ).loc Cert.KernelGatedw.main_arg1) = m ((c.tc : Thread Cert.KernelGatedw.nD Cert.KernelGatedw.τ).loc Cert.KernelGatedw.main_arg1))
      ∧ r.2.sem = fun _ => 0)

def quiescent_KernelGatedwIdeal [hKernelGatedwIdeal : Cert.KernelGatedwIdeal.Facts] : Prop :=
  ∀ (m : (ℓ : Loc Cert.KernelGatedwIdeal.nD Cert.KernelGatedwIdeal.τ Cert.KernelGatedwIdeal.sig) → Buf (Elt Ideal) ℓ) (g : Dev Cert.KernelGatedwIdeal.nD → PrngReg), Pre_KernelGatedwIdeal m →
    θ_run (Cert.KernelGatedwIdeal.defs (F := Ideal)) (onTc (τ := Cert.KernelGatedwIdeal.τ) (Cert.KernelGatedwIdeal.main (F := Ideal))) ⟨m, fun _ => 0, g⟩ (fun r => (∀ c : Dev Cert.KernelGatedwIdeal.nD,
      r.2.mem ((c.tc : Thread Cert.KernelGatedwIdeal.nD Cert.KernelGatedwIdeal.τ).loc Cert.KernelGatedwIdeal.main_arg0) = m ((c.tc : Thread Cert.KernelGatedwIdeal.nD Cert.KernelGatedwIdeal.τ).loc Cert.KernelGatedwIdeal.main_arg0)
      ∧ r.2.mem ((c.tc : Thread Cert.KernelGatedwIdeal.nD Cert.KernelGatedwIdeal.τ).loc Cert.KernelGatedwIdeal.main_arg1) = m ((c.tc : Thread Cert.KernelGatedwIdeal.nD Cert.KernelGatedwIdeal.τ).loc Cert.KernelGatedwIdeal.main_arg1))
      ∧ r.2.sem = fun _ => 0)

def quiescent_ReferenceGatedwIdeal [hReferenceGatedwIdeal : Cert.ReferenceGatedwIdeal.Facts] : Prop :=
  ∀ (m : (ℓ : Loc Cert.ReferenceGatedwIdeal.nD Cert.ReferenceGatedwIdeal.τ Cert.ReferenceGatedwIdeal.sig) → Buf (Elt Ideal) ℓ) (g : Dev Cert.ReferenceGatedwIdeal.nD → PrngReg), Pre_ReferenceGatedwIdeal m →
    θ_run (Cert.ReferenceGatedwIdeal.defs (F := Ideal)) (onTc (τ := Cert.ReferenceGatedwIdeal.τ) (Cert.ReferenceGatedwIdeal.main (F := Ideal))) ⟨m, fun _ => 0, g⟩ (fun r => (∀ c : Dev Cert.ReferenceGatedwIdeal.nD,
      r.2.mem ((c.tc : Thread Cert.ReferenceGatedwIdeal.nD Cert.ReferenceGatedwIdeal.τ).loc Cert.ReferenceGatedwIdeal.main_arg0) = m ((c.tc : Thread Cert.ReferenceGatedwIdeal.nD Cert.ReferenceGatedwIdeal.τ).loc Cert.ReferenceGatedwIdeal.main_arg0)
      ∧ r.2.mem ((c.tc : Thread Cert.ReferenceGatedwIdeal.nD Cert.ReferenceGatedwIdeal.τ).loc Cert.ReferenceGatedwIdeal.main_arg1) = m ((c.tc : Thread Cert.ReferenceGatedwIdeal.nD Cert.ReferenceGatedwIdeal.τ).loc Cert.ReferenceGatedwIdeal.main_arg1))
      ∧ r.2.sem = fun _ => 0)

def quiescent_KernelGatedx [hKernelGatedx : Cert.KernelGatedx.Facts] : Prop :=
  ∀ (m : (ℓ : Loc Cert.KernelGatedx.nD Cert.KernelGatedx.τ Cert.KernelGatedx.sig) → Buf (Elt Bits) ℓ) (g : Dev Cert.KernelGatedx.nD → PrngReg), Pre_KernelGatedx m →
    θ_run (Cert.KernelGatedx.defs (F := Bits)) (onTc (τ := Cert.KernelGatedx.τ) (Cert.KernelGatedx.main (F := Bits))) ⟨m, fun _ => 0, g⟩ (fun r => (∀ c : Dev Cert.KernelGatedx.nD,
      r.2.mem ((c.tc : Thread Cert.KernelGatedx.nD Cert.KernelGatedx.τ).loc Cert.KernelGatedx.main_arg0) = m ((c.tc : Thread Cert.KernelGatedx.nD Cert.KernelGatedx.τ).loc Cert.KernelGatedx.main_arg0)
      ∧ r.2.mem ((c.tc : Thread Cert.KernelGatedx.nD Cert.KernelGatedx.τ).loc Cert.KernelGatedx.main_arg1) = m ((c.tc : Thread Cert.KernelGatedx.nD Cert.KernelGatedx.τ).loc Cert.KernelGatedx.main_arg1))
      ∧ r.2.sem = fun _ => 0)

def quiescent_KernelGatedxIdeal [hKernelGatedxIdeal : Cert.KernelGatedxIdeal.Facts] : Prop :=
  ∀ (m : (ℓ : Loc Cert.KernelGatedxIdeal.nD Cert.KernelGatedxIdeal.τ Cert.KernelGatedxIdeal.sig) → Buf (Elt Ideal) ℓ) (g : Dev Cert.KernelGatedxIdeal.nD → PrngReg), Pre_KernelGatedxIdeal m →
    θ_run (Cert.KernelGatedxIdeal.defs (F := Ideal)) (onTc (τ := Cert.KernelGatedxIdeal.τ) (Cert.KernelGatedxIdeal.main (F := Ideal))) ⟨m, fun _ => 0, g⟩ (fun r => (∀ c : Dev Cert.KernelGatedxIdeal.nD,
      r.2.mem ((c.tc : Thread Cert.KernelGatedxIdeal.nD Cert.KernelGatedxIdeal.τ).loc Cert.KernelGatedxIdeal.main_arg0) = m ((c.tc : Thread Cert.KernelGatedxIdeal.nD Cert.KernelGatedxIdeal.τ).loc Cert.KernelGatedxIdeal.main_arg0)
      ∧ r.2.mem ((c.tc : Thread Cert.KernelGatedxIdeal.nD Cert.KernelGatedxIdeal.τ).loc Cert.KernelGatedxIdeal.main_arg1) = m ((c.tc : Thread Cert.KernelGatedxIdeal.nD Cert.KernelGatedxIdeal.τ).loc Cert.KernelGatedxIdeal.main_arg1))
      ∧ r.2.sem = fun _ => 0)

def quiescent_ReferenceGatedxIdeal [hReferenceGatedxIdeal : Cert.ReferenceGatedxIdeal.Facts] : Prop :=
  ∀ (m : (ℓ : Loc Cert.ReferenceGatedxIdeal.nD Cert.ReferenceGatedxIdeal.τ Cert.ReferenceGatedxIdeal.sig) → Buf (Elt Ideal) ℓ) (g : Dev Cert.ReferenceGatedxIdeal.nD → PrngReg), Pre_ReferenceGatedxIdeal m →
    θ_run (Cert.ReferenceGatedxIdeal.defs (F := Ideal)) (onTc (τ := Cert.ReferenceGatedxIdeal.τ) (Cert.ReferenceGatedxIdeal.main (F := Ideal))) ⟨m, fun _ => 0, g⟩ (fun r => (∀ c : Dev Cert.ReferenceGatedxIdeal.nD,
      r.2.mem ((c.tc : Thread Cert.ReferenceGatedxIdeal.nD Cert.ReferenceGatedxIdeal.τ).loc Cert.ReferenceGatedxIdeal.main_arg0) = m ((c.tc : Thread Cert.ReferenceGatedxIdeal.nD Cert.ReferenceGatedxIdeal.τ).loc Cert.ReferenceGatedxIdeal.main_arg0)
      ∧ r.2.mem ((c.tc : Thread Cert.ReferenceGatedxIdeal.nD Cert.ReferenceGatedxIdeal.τ).loc Cert.ReferenceGatedxIdeal.main_arg1) = m ((c.tc : Thread Cert.ReferenceGatedxIdeal.nD Cert.ReferenceGatedxIdeal.τ).loc Cert.ReferenceGatedxIdeal.main_arg1))
      ∧ r.2.sem = fun _ => 0)

def quiescent_KernelOutdx [hKernelOutdx : Cert.KernelOutdx.Facts] : Prop :=
  ∀ (m : (ℓ : Loc Cert.KernelOutdx.nD Cert.KernelOutdx.τ Cert.KernelOutdx.sig) → Buf (Elt Bits) ℓ) (g : Dev Cert.KernelOutdx.nD → PrngReg), Pre_KernelOutdx m →
    θ_run (Cert.KernelOutdx.defs (F := Bits)) (onTc (τ := Cert.KernelOutdx.τ) (Cert.KernelOutdx.main (F := Bits))) ⟨m, fun _ => 0, g⟩ (fun r => (∀ c : Dev Cert.KernelOutdx.nD,
      r.2.mem ((c.tc : Thread Cert.KernelOutdx.nD Cert.KernelOutdx.τ).loc Cert.KernelOutdx.main_arg0) = m ((c.tc : Thread Cert.KernelOutdx.nD Cert.KernelOutdx.τ).loc Cert.KernelOutdx.main_arg0)
      ∧ r.2.mem ((c.tc : Thread Cert.KernelOutdx.nD Cert.KernelOutdx.τ).loc Cert.KernelOutdx.main_arg1) = m ((c.tc : Thread Cert.KernelOutdx.nD Cert.KernelOutdx.τ).loc Cert.KernelOutdx.main_arg1))
      ∧ r.2.sem = fun _ => 0)

def quiescent_KernelOutdxIdeal [hKernelOutdxIdeal : Cert.KernelOutdxIdeal.Facts] : Prop :=
  ∀ (m : (ℓ : Loc Cert.KernelOutdxIdeal.nD Cert.KernelOutdxIdeal.τ Cert.KernelOutdxIdeal.sig) → Buf (Elt Ideal) ℓ) (g : Dev Cert.KernelOutdxIdeal.nD → PrngReg), Pre_KernelOutdxIdeal m →
    θ_run (Cert.KernelOutdxIdeal.defs (F := Ideal)) (onTc (τ := Cert.KernelOutdxIdeal.τ) (Cert.KernelOutdxIdeal.main (F := Ideal))) ⟨m, fun _ => 0, g⟩ (fun r => (∀ c : Dev Cert.KernelOutdxIdeal.nD,
      r.2.mem ((c.tc : Thread Cert.KernelOutdxIdeal.nD Cert.KernelOutdxIdeal.τ).loc Cert.KernelOutdxIdeal.main_arg0) = m ((c.tc : Thread Cert.KernelOutdxIdeal.nD Cert.KernelOutdxIdeal.τ).loc Cert.KernelOutdxIdeal.main_arg0)
      ∧ r.2.mem ((c.tc : Thread Cert.KernelOutdxIdeal.nD Cert.KernelOutdxIdeal.τ).loc Cert.KernelOutdxIdeal.main_arg1) = m ((c.tc : Thread Cert.KernelOutdxIdeal.nD Cert.KernelOutdxIdeal.τ).loc Cert.KernelOutdxIdeal.main_arg1))
      ∧ r.2.sem = fun _ => 0)

def quiescent_ReferenceOutdxIdeal [hReferenceOutdxIdeal : Cert.ReferenceOutdxIdeal.Facts] : Prop :=
  ∀ (m : (ℓ : Loc Cert.ReferenceOutdxIdeal.nD Cert.ReferenceOutdxIdeal.τ Cert.ReferenceOutdxIdeal.sig) → Buf (Elt Ideal) ℓ) (g : Dev Cert.ReferenceOutdxIdeal.nD → PrngReg), Pre_ReferenceOutdxIdeal m →
    θ_run (Cert.ReferenceOutdxIdeal.defs (F := Ideal)) (onTc (τ := Cert.ReferenceOutdxIdeal.τ) (Cert.ReferenceOutdxIdeal.main (F := Ideal))) ⟨m, fun _ => 0, g⟩ (fun r => (∀ c : Dev Cert.ReferenceOutdxIdeal.nD,
      r.2.mem ((c.tc : Thread Cert.ReferenceOutdxIdeal.nD Cert.ReferenceOutdxIdeal.τ).loc Cert.ReferenceOutdxIdeal.main_arg0) = m ((c.tc : Thread Cert.ReferenceOutdxIdeal.nD Cert.ReferenceOutdxIdeal.τ).loc Cert.ReferenceOutdxIdeal.main_arg0)
      ∧ r.2.mem ((c.tc : Thread Cert.ReferenceOutdxIdeal.nD Cert.ReferenceOutdxIdeal.τ).loc Cert.ReferenceOutdxIdeal.main_arg1) = m ((c.tc : Thread Cert.ReferenceOutdxIdeal.nD Cert.ReferenceOutdxIdeal.τ).loc Cert.ReferenceOutdxIdeal.main_arg1))
      ∧ r.2.sem = fun _ => 0)

def quiescent_KernelOutdw [hKernelOutdw : Cert.KernelOutdw.Facts] : Prop :=
  ∀ (m : (ℓ : Loc Cert.KernelOutdw.nD Cert.KernelOutdw.τ Cert.KernelOutdw.sig) → Buf (Elt Bits) ℓ) (g : Dev Cert.KernelOutdw.nD → PrngReg), Pre_KernelOutdw m →
    θ_run (Cert.KernelOutdw.defs (F := Bits)) (onTc (τ := Cert.KernelOutdw.τ) (Cert.KernelOutdw.main (F := Bits))) ⟨m, fun _ => 0, g⟩ (fun r => (∀ c : Dev Cert.KernelOutdw.nD,
      r.2.mem ((c.tc : Thread Cert.KernelOutdw.nD Cert.KernelOutdw.τ).loc Cert.KernelOutdw.main_arg0) = m ((c.tc : Thread Cert.KernelOutdw.nD Cert.KernelOutdw.τ).loc Cert.KernelOutdw.main_arg0)
      ∧ r.2.mem ((c.tc : Thread Cert.KernelOutdw.nD Cert.KernelOutdw.τ).loc Cert.KernelOutdw.main_arg1) = m ((c.tc : Thread Cert.KernelOutdw.nD Cert.KernelOutdw.τ).loc Cert.KernelOutdw.main_arg1))
      ∧ r.2.sem = fun _ => 0)

def quiescent_KernelOutdwIdeal [hKernelOutdwIdeal : Cert.KernelOutdwIdeal.Facts] : Prop :=
  ∀ (m : (ℓ : Loc Cert.KernelOutdwIdeal.nD Cert.KernelOutdwIdeal.τ Cert.KernelOutdwIdeal.sig) → Buf (Elt Ideal) ℓ) (g : Dev Cert.KernelOutdwIdeal.nD → PrngReg), Pre_KernelOutdwIdeal m →
    θ_run (Cert.KernelOutdwIdeal.defs (F := Ideal)) (onTc (τ := Cert.KernelOutdwIdeal.τ) (Cert.KernelOutdwIdeal.main (F := Ideal))) ⟨m, fun _ => 0, g⟩ (fun r => (∀ c : Dev Cert.KernelOutdwIdeal.nD,
      r.2.mem ((c.tc : Thread Cert.KernelOutdwIdeal.nD Cert.KernelOutdwIdeal.τ).loc Cert.KernelOutdwIdeal.main_arg0) = m ((c.tc : Thread Cert.KernelOutdwIdeal.nD Cert.KernelOutdwIdeal.τ).loc Cert.KernelOutdwIdeal.main_arg0)
      ∧ r.2.mem ((c.tc : Thread Cert.KernelOutdwIdeal.nD Cert.KernelOutdwIdeal.τ).loc Cert.KernelOutdwIdeal.main_arg1) = m ((c.tc : Thread Cert.KernelOutdwIdeal.nD Cert.KernelOutdwIdeal.τ).loc Cert.KernelOutdwIdeal.main_arg1))
      ∧ r.2.sem = fun _ => 0)

def quiescent_ReferenceOutdwIdeal [hReferenceOutdwIdeal : Cert.ReferenceOutdwIdeal.Facts] : Prop :=
  ∀ (m : (ℓ : Loc Cert.ReferenceOutdwIdeal.nD Cert.ReferenceOutdwIdeal.τ Cert.ReferenceOutdwIdeal.sig) → Buf (Elt Ideal) ℓ) (g : Dev Cert.ReferenceOutdwIdeal.nD → PrngReg), Pre_ReferenceOutdwIdeal m →
    θ_run (Cert.ReferenceOutdwIdeal.defs (F := Ideal)) (onTc (τ := Cert.ReferenceOutdwIdeal.τ) (Cert.ReferenceOutdwIdeal.main (F := Ideal))) ⟨m, fun _ => 0, g⟩ (fun r => (∀ c : Dev Cert.ReferenceOutdwIdeal.nD,
      r.2.mem ((c.tc : Thread Cert.ReferenceOutdwIdeal.nD Cert.ReferenceOutdwIdeal.τ).loc Cert.ReferenceOutdwIdeal.main_arg0) = m ((c.tc : Thread Cert.ReferenceOutdwIdeal.nD Cert.ReferenceOutdwIdeal.τ).loc Cert.ReferenceOutdwIdeal.main_arg0)
      ∧ r.2.mem ((c.tc : Thread Cert.ReferenceOutdwIdeal.nD Cert.ReferenceOutdwIdeal.τ).loc Cert.ReferenceOutdwIdeal.main_arg1) = m ((c.tc : Thread Cert.ReferenceOutdwIdeal.nD Cert.ReferenceOutdwIdeal.τ).loc Cert.ReferenceOutdwIdeal.main_arg1))
      ∧ r.2.sem = fun _ => 0)

def quiescent_KernelMergef [hKernelMergef : Cert.KernelMergef.Facts] : Prop :=
  ∀ (m : (ℓ : Loc Cert.KernelMergef.nD Cert.KernelMergef.τ Cert.KernelMergef.sig) → Buf (Elt Bits) ℓ) (g : Dev Cert.KernelMergef.nD → PrngReg), Pre_KernelMergef m →
    θ_run (Cert.KernelMergef.defs (F := Bits)) (onTc (τ := Cert.KernelMergef.τ) (Cert.KernelMergef.main (F := Bits))) ⟨m, fun _ => 0, g⟩ (fun r => (∀ c : Dev Cert.KernelMergef.nD,
      r.2.mem ((c.tc : Thread Cert.KernelMergef.nD Cert.KernelMergef.τ).loc Cert.KernelMergef.main_arg0) = m ((c.tc : Thread Cert.KernelMergef.nD Cert.KernelMergef.τ).loc Cert.KernelMergef.main_arg0)
      ∧ r.2.mem ((c.tc : Thread Cert.KernelMergef.nD Cert.KernelMergef.τ).loc Cert.KernelMergef.main_arg1) = m ((c.tc : Thread Cert.KernelMergef.nD Cert.KernelMergef.τ).loc Cert.KernelMergef.main_arg1)
      ∧ r.2.mem ((c.tc : Thread Cert.KernelMergef.nD Cert.KernelMergef.τ).loc Cert.KernelMergef.main_arg2) = m ((c.tc : Thread Cert.KernelMergef.nD Cert.KernelMergef.τ).loc Cert.KernelMergef.main_arg2)
      ∧ r.2.mem ((c.tc : Thread Cert.KernelMergef.nD Cert.KernelMergef.τ).loc Cert.KernelMergef.main_arg3) = m ((c.tc : Thread Cert.KernelMergef.nD Cert.KernelMergef.τ).loc Cert.KernelMergef.main_arg3)
      ∧ r.2.mem ((c.tc : Thread Cert.KernelMergef.nD Cert.KernelMergef.τ).loc Cert.KernelMergef.main_arg4) = m ((c.tc : Thread Cert.KernelMergef.nD Cert.KernelMergef.τ).loc Cert.KernelMergef.main_arg4))
      ∧ r.2.sem = fun _ => 0)

def quiescent_KernelMergefIdeal [hKernelMergefIdeal : Cert.KernelMergefIdeal.Facts] : Prop :=
  ∀ (m : (ℓ : Loc Cert.KernelMergefIdeal.nD Cert.KernelMergefIdeal.τ Cert.KernelMergefIdeal.sig) → Buf (Elt Ideal) ℓ) (g : Dev Cert.KernelMergefIdeal.nD → PrngReg), Pre_KernelMergefIdeal m →
    θ_run (Cert.KernelMergefIdeal.defs (F := Ideal)) (onTc (τ := Cert.KernelMergefIdeal.τ) (Cert.KernelMergefIdeal.main (F := Ideal))) ⟨m, fun _ => 0, g⟩ (fun r => (∀ c : Dev Cert.KernelMergefIdeal.nD,
      r.2.mem ((c.tc : Thread Cert.KernelMergefIdeal.nD Cert.KernelMergefIdeal.τ).loc Cert.KernelMergefIdeal.main_arg0) = m ((c.tc : Thread Cert.KernelMergefIdeal.nD Cert.KernelMergefIdeal.τ).loc Cert.KernelMergefIdeal.main_arg0)
      ∧ r.2.mem ((c.tc : Thread Cert.KernelMergefIdeal.nD Cert.KernelMergefIdeal.τ).loc Cert.KernelMergefIdeal.main_arg1) = m ((c.tc : Thread Cert.KernelMergefIdeal.nD Cert.KernelMergefIdeal.τ).loc Cert.KernelMergefIdeal.main_arg1)
      ∧ r.2.mem ((c.tc : Thread Cert.KernelMergefIdeal.nD Cert.KernelMergefIdeal.τ).loc Cert.KernelMergefIdeal.main_arg2) = m ((c.tc : Thread Cert.KernelMergefIdeal.nD Cert.KernelMergefIdeal.τ).loc Cert.KernelMergefIdeal.main_arg2)
      ∧ r.2.mem ((c.tc : Thread Cert.KernelMergefIdeal.nD Cert.KernelMergefIdeal.τ).loc Cert.KernelMergefIdeal.main_arg3) = m ((c.tc : Thread Cert.KernelMergefIdeal.nD Cert.KernelMergefIdeal.τ).loc Cert.KernelMergefIdeal.main_arg3)
      ∧ r.2.mem ((c.tc : Thread Cert.KernelMergefIdeal.nD Cert.KernelMergefIdeal.τ).loc Cert.KernelMergefIdeal.main_arg4) = m ((c.tc : Thread Cert.KernelMergefIdeal.nD Cert.KernelMergefIdeal.τ).loc Cert.KernelMergefIdeal.main_arg4))
      ∧ r.2.sem = fun _ => 0)

def quiescent_ReferenceMergefIdeal [hReferenceMergefIdeal : Cert.ReferenceMergefIdeal.Facts] : Prop :=
  ∀ (m : (ℓ : Loc Cert.ReferenceMergefIdeal.nD Cert.ReferenceMergefIdeal.τ Cert.ReferenceMergefIdeal.sig) → Buf (Elt Ideal) ℓ) (g : Dev Cert.ReferenceMergefIdeal.nD → PrngReg), Pre_ReferenceMergefIdeal m →
    θ_run (Cert.ReferenceMergefIdeal.defs (F := Ideal)) (onTc (τ := Cert.ReferenceMergefIdeal.τ) (Cert.ReferenceMergefIdeal.main (F := Ideal))) ⟨m, fun _ => 0, g⟩ (fun r => (∀ c : Dev Cert.ReferenceMergefIdeal.nD,
      r.2.mem ((c.tc : Thread Cert.ReferenceMergefIdeal.nD Cert.ReferenceMergefIdeal.τ).loc Cert.ReferenceMergefIdeal.main_arg0) = m ((c.tc : Thread Cert.ReferenceMergefIdeal.nD Cert.ReferenceMergefIdeal.τ).loc Cert.ReferenceMergefIdeal.main_arg0)
      ∧ r.2.mem ((c.tc : Thread Cert.ReferenceMergefIdeal.nD Cert.ReferenceMergefIdeal.τ).loc Cert.ReferenceMergefIdeal.main_arg1) = m ((c.tc : Thread Cert.ReferenceMergefIdeal.nD Cert.ReferenceMergefIdeal.τ).loc Cert.ReferenceMergefIdeal.main_arg1)
      ∧ r.2.mem ((c.tc : Thread Cert.ReferenceMergefIdeal.nD Cert.ReferenceMergefIdeal.τ).loc Cert.ReferenceMergefIdeal.main_arg2) = m ((c.tc : Thread Cert.ReferenceMergefIdeal.nD Cert.ReferenceMergefIdeal.τ).loc Cert.ReferenceMergefIdeal.main_arg2)
      ∧ r.2.mem ((c.tc : Thread Cert.ReferenceMergefIdeal.nD Cert.ReferenceMergefIdeal.τ).loc Cert.ReferenceMergefIdeal.main_arg3) = m ((c.tc : Thread Cert.ReferenceMergefIdeal.nD Cert.ReferenceMergefIdeal.τ).loc Cert.ReferenceMergefIdeal.main_arg3)
      ∧ r.2.mem ((c.tc : Thread Cert.ReferenceMergefIdeal.nD Cert.ReferenceMergefIdeal.τ).loc Cert.ReferenceMergefIdeal.main_arg4) = m ((c.tc : Thread Cert.ReferenceMergefIdeal.nD Cert.ReferenceMergefIdeal.τ).loc Cert.ReferenceMergefIdeal.main_arg4))
      ∧ r.2.sem = fun _ => 0)

def quiescent_KernelXaq [hKernelXaq : Cert.KernelXaq.Facts] : Prop :=
  ∀ (m : (ℓ : Loc Cert.KernelXaq.nD Cert.KernelXaq.τ Cert.KernelXaq.sig) → Buf (Elt Bits) ℓ) (g : Dev Cert.KernelXaq.nD → PrngReg), Pre_KernelXaq m →
    θ_run (Cert.KernelXaq.defs (F := Bits)) (onTc (τ := Cert.KernelXaq.τ) (Cert.KernelXaq.main (F := Bits))) ⟨m, fun _ => 0, g⟩ (fun r => (∀ c : Dev Cert.KernelXaq.nD,
      r.2.mem ((c.tc : Thread Cert.KernelXaq.nD Cert.KernelXaq.τ).loc Cert.KernelXaq.main_arg0) = m ((c.tc : Thread Cert.KernelXaq.nD Cert.KernelXaq.τ).loc Cert.KernelXaq.main_arg0)
      ∧ r.2.mem ((c.tc : Thread Cert.KernelXaq.nD Cert.KernelXaq.τ).loc Cert.KernelXaq.main_arg1) = m ((c.tc : Thread Cert.KernelXaq.nD Cert.KernelXaq.τ).loc Cert.KernelXaq.main_arg1))
      ∧ r.2.sem = fun _ => 0)

def quiescent_KernelXaqIdeal [hKernelXaqIdeal : Cert.KernelXaqIdeal.Facts] : Prop :=
  ∀ (m : (ℓ : Loc Cert.KernelXaqIdeal.nD Cert.KernelXaqIdeal.τ Cert.KernelXaqIdeal.sig) → Buf (Elt Ideal) ℓ) (g : Dev Cert.KernelXaqIdeal.nD → PrngReg), Pre_KernelXaqIdeal m →
    θ_run (Cert.KernelXaqIdeal.defs (F := Ideal)) (onTc (τ := Cert.KernelXaqIdeal.τ) (Cert.KernelXaqIdeal.main (F := Ideal))) ⟨m, fun _ => 0, g⟩ (fun r => (∀ c : Dev Cert.KernelXaqIdeal.nD,
      r.2.mem ((c.tc : Thread Cert.KernelXaqIdeal.nD Cert.KernelXaqIdeal.τ).loc Cert.KernelXaqIdeal.main_arg0) = m ((c.tc : Thread Cert.KernelXaqIdeal.nD Cert.KernelXaqIdeal.τ).loc Cert.KernelXaqIdeal.main_arg0)
      ∧ r.2.mem ((c.tc : Thread Cert.KernelXaqIdeal.nD Cert.KernelXaqIdeal.τ).loc Cert.KernelXaqIdeal.main_arg1) = m ((c.tc : Thread Cert.KernelXaqIdeal.nD Cert.KernelXaqIdeal.τ).loc Cert.KernelXaqIdeal.main_arg1))
      ∧ r.2.sem = fun _ => 0)

def quiescent_ReferenceXaqIdeal [hReferenceXaqIdeal : Cert.ReferenceXaqIdeal.Facts] : Prop :=
  ∀ (m : (ℓ : Loc Cert.ReferenceXaqIdeal.nD Cert.ReferenceXaqIdeal.τ Cert.ReferenceXaqIdeal.sig) → Buf (Elt Ideal) ℓ) (g : Dev Cert.ReferenceXaqIdeal.nD → PrngReg), Pre_ReferenceXaqIdeal m →
    θ_run (Cert.ReferenceXaqIdeal.defs (F := Ideal)) (onTc (τ := Cert.ReferenceXaqIdeal.τ) (Cert.ReferenceXaqIdeal.main (F := Ideal))) ⟨m, fun _ => 0, g⟩ (fun r => (∀ c : Dev Cert.ReferenceXaqIdeal.nD,
      r.2.mem ((c.tc : Thread Cert.ReferenceXaqIdeal.nD Cert.ReferenceXaqIdeal.τ).loc Cert.ReferenceXaqIdeal.main_arg0) = m ((c.tc : Thread Cert.ReferenceXaqIdeal.nD Cert.ReferenceXaqIdeal.τ).loc Cert.ReferenceXaqIdeal.main_arg0)
      ∧ r.2.mem ((c.tc : Thread Cert.ReferenceXaqIdeal.nD Cert.ReferenceXaqIdeal.τ).loc Cert.ReferenceXaqIdeal.main_arg1) = m ((c.tc : Thread Cert.ReferenceXaqIdeal.nD Cert.ReferenceXaqIdeal.τ).loc Cert.ReferenceXaqIdeal.main_arg1))
      ∧ r.2.sem = fun _ => 0)

def quiescent_KernelOutp [hKernelOutp : Cert.KernelOutp.Facts] : Prop :=
  ∀ (m : (ℓ : Loc Cert.KernelOutp.nD Cert.KernelOutp.τ Cert.KernelOutp.sig) → Buf (Elt Bits) ℓ) (g : Dev Cert.KernelOutp.nD → PrngReg), Pre_KernelOutp m →
    θ_run (Cert.KernelOutp.defs (F := Bits)) (onTc (τ := Cert.KernelOutp.τ) (Cert.KernelOutp.main (F := Bits))) ⟨m, fun _ => 0, g⟩ (fun r => (∀ c : Dev Cert.KernelOutp.nD,
      r.2.mem ((c.tc : Thread Cert.KernelOutp.nD Cert.KernelOutp.τ).loc Cert.KernelOutp.main_arg0) = m ((c.tc : Thread Cert.KernelOutp.nD Cert.KernelOutp.τ).loc Cert.KernelOutp.main_arg0)
      ∧ r.2.mem ((c.tc : Thread Cert.KernelOutp.nD Cert.KernelOutp.τ).loc Cert.KernelOutp.main_arg1) = m ((c.tc : Thread Cert.KernelOutp.nD Cert.KernelOutp.τ).loc Cert.KernelOutp.main_arg1)
      ∧ r.2.mem ((c.tc : Thread Cert.KernelOutp.nD Cert.KernelOutp.τ).loc Cert.KernelOutp.main_arg2) = m ((c.tc : Thread Cert.KernelOutp.nD Cert.KernelOutp.τ).loc Cert.KernelOutp.main_arg2))
      ∧ r.2.sem = fun _ => 0)

def quiescent_KernelOutpIdeal [hKernelOutpIdeal : Cert.KernelOutpIdeal.Facts] : Prop :=
  ∀ (m : (ℓ : Loc Cert.KernelOutpIdeal.nD Cert.KernelOutpIdeal.τ Cert.KernelOutpIdeal.sig) → Buf (Elt Ideal) ℓ) (g : Dev Cert.KernelOutpIdeal.nD → PrngReg), Pre_KernelOutpIdeal m →
    θ_run (Cert.KernelOutpIdeal.defs (F := Ideal)) (onTc (τ := Cert.KernelOutpIdeal.τ) (Cert.KernelOutpIdeal.main (F := Ideal))) ⟨m, fun _ => 0, g⟩ (fun r => (∀ c : Dev Cert.KernelOutpIdeal.nD,
      r.2.mem ((c.tc : Thread Cert.KernelOutpIdeal.nD Cert.KernelOutpIdeal.τ).loc Cert.KernelOutpIdeal.main_arg0) = m ((c.tc : Thread Cert.KernelOutpIdeal.nD Cert.KernelOutpIdeal.τ).loc Cert.KernelOutpIdeal.main_arg0)
      ∧ r.2.mem ((c.tc : Thread Cert.KernelOutpIdeal.nD Cert.KernelOutpIdeal.τ).loc Cert.KernelOutpIdeal.main_arg1) = m ((c.tc : Thread Cert.KernelOutpIdeal.nD Cert.KernelOutpIdeal.τ).loc Cert.KernelOutpIdeal.main_arg1)
      ∧ r.2.mem ((c.tc : Thread Cert.KernelOutpIdeal.nD Cert.KernelOutpIdeal.τ).loc Cert.KernelOutpIdeal.main_arg2) = m ((c.tc : Thread Cert.KernelOutpIdeal.nD Cert.KernelOutpIdeal.τ).loc Cert.KernelOutpIdeal.main_arg2))
      ∧ r.2.sem = fun _ => 0)

def quiescent_ReferenceOutpIdeal [hReferenceOutpIdeal : Cert.ReferenceOutpIdeal.Facts] : Prop :=
  ∀ (m : (ℓ : Loc Cert.ReferenceOutpIdeal.nD Cert.ReferenceOutpIdeal.τ Cert.ReferenceOutpIdeal.sig) → Buf (Elt Ideal) ℓ) (g : Dev Cert.ReferenceOutpIdeal.nD → PrngReg), Pre_ReferenceOutpIdeal m →
    θ_run (Cert.ReferenceOutpIdeal.defs (F := Ideal)) (onTc (τ := Cert.ReferenceOutpIdeal.τ) (Cert.ReferenceOutpIdeal.main (F := Ideal))) ⟨m, fun _ => 0, g⟩ (fun r => (∀ c : Dev Cert.ReferenceOutpIdeal.nD,
      r.2.mem ((c.tc : Thread Cert.ReferenceOutpIdeal.nD Cert.ReferenceOutpIdeal.τ).loc Cert.ReferenceOutpIdeal.main_arg0) = m ((c.tc : Thread Cert.ReferenceOutpIdeal.nD Cert.ReferenceOutpIdeal.τ).loc Cert.ReferenceOutpIdeal.main_arg0)
      ∧ r.2.mem ((c.tc : Thread Cert.ReferenceOutpIdeal.nD Cert.ReferenceOutpIdeal.τ).loc Cert.ReferenceOutpIdeal.main_arg1) = m ((c.tc : Thread Cert.ReferenceOutpIdeal.nD Cert.ReferenceOutpIdeal.τ).loc Cert.ReferenceOutpIdeal.main_arg1)
      ∧ r.2.mem ((c.tc : Thread Cert.ReferenceOutpIdeal.nD Cert.ReferenceOutpIdeal.τ).loc Cert.ReferenceOutpIdeal.main_arg2) = m ((c.tc : Thread Cert.ReferenceOutpIdeal.nD Cert.ReferenceOutpIdeal.τ).loc Cert.ReferenceOutpIdeal.main_arg2))
      ∧ r.2.sem = fun _ => 0)

def quiescent_KernelXaodx [hKernelXaodx : Cert.KernelXaodx.Facts] : Prop :=
  ∀ (m : (ℓ : Loc Cert.KernelXaodx.nD Cert.KernelXaodx.τ Cert.KernelXaodx.sig) → Buf (Elt Bits) ℓ) (g : Dev Cert.KernelXaodx.nD → PrngReg), Pre_KernelXaodx m →
    θ_run (Cert.KernelXaodx.defs (F := Bits)) (onTc (τ := Cert.KernelXaodx.τ) (Cert.KernelXaodx.main (F := Bits))) ⟨m, fun _ => 0, g⟩ (fun r => (∀ c : Dev Cert.KernelXaodx.nD,
      r.2.mem ((c.tc : Thread Cert.KernelXaodx.nD Cert.KernelXaodx.τ).loc Cert.KernelXaodx.main_arg0) = m ((c.tc : Thread Cert.KernelXaodx.nD Cert.KernelXaodx.τ).loc Cert.KernelXaodx.main_arg0)
      ∧ r.2.mem ((c.tc : Thread Cert.KernelXaodx.nD Cert.KernelXaodx.τ).loc Cert.KernelXaodx.main_arg1) = m ((c.tc : Thread Cert.KernelXaodx.nD Cert.KernelXaodx.τ).loc Cert.KernelXaodx.main_arg1))
      ∧ r.2.sem = fun _ => 0)

def quiescent_KernelXaodxIdeal [hKernelXaodxIdeal : Cert.KernelXaodxIdeal.Facts] : Prop :=
  ∀ (m : (ℓ : Loc Cert.KernelXaodxIdeal.nD Cert.KernelXaodxIdeal.τ Cert.KernelXaodxIdeal.sig) → Buf (Elt Ideal) ℓ) (g : Dev Cert.KernelXaodxIdeal.nD → PrngReg), Pre_KernelXaodxIdeal m →
    θ_run (Cert.KernelXaodxIdeal.defs (F := Ideal)) (onTc (τ := Cert.KernelXaodxIdeal.τ) (Cert.KernelXaodxIdeal.main (F := Ideal))) ⟨m, fun _ => 0, g⟩ (fun r => (∀ c : Dev Cert.KernelXaodxIdeal.nD,
      r.2.mem ((c.tc : Thread Cert.KernelXaodxIdeal.nD Cert.KernelXaodxIdeal.τ).loc Cert.KernelXaodxIdeal.main_arg0) = m ((c.tc : Thread Cert.KernelXaodxIdeal.nD Cert.KernelXaodxIdeal.τ).loc Cert.KernelXaodxIdeal.main_arg0)
      ∧ r.2.mem ((c.tc : Thread Cert.KernelXaodxIdeal.nD Cert.KernelXaodxIdeal.τ).loc Cert.KernelXaodxIdeal.main_arg1) = m ((c.tc : Thread Cert.KernelXaodxIdeal.nD Cert.KernelXaodxIdeal.τ).loc Cert.KernelXaodxIdeal.main_arg1))
      ∧ r.2.sem = fun _ => 0)

def quiescent_ReferenceXaodxIdeal [hReferenceXaodxIdeal : Cert.ReferenceXaodxIdeal.Facts] : Prop :=
  ∀ (m : (ℓ : Loc Cert.ReferenceXaodxIdeal.nD Cert.ReferenceXaodxIdeal.τ Cert.ReferenceXaodxIdeal.sig) → Buf (Elt Ideal) ℓ) (g : Dev Cert.ReferenceXaodxIdeal.nD → PrngReg), Pre_ReferenceXaodxIdeal m →
    θ_run (Cert.ReferenceXaodxIdeal.defs (F := Ideal)) (onTc (τ := Cert.ReferenceXaodxIdeal.τ) (Cert.ReferenceXaodxIdeal.main (F := Ideal))) ⟨m, fun _ => 0, g⟩ (fun r => (∀ c : Dev Cert.ReferenceXaodxIdeal.nD,
      r.2.mem ((c.tc : Thread Cert.ReferenceXaodxIdeal.nD Cert.ReferenceXaodxIdeal.τ).loc Cert.ReferenceXaodxIdeal.main_arg0) = m ((c.tc : Thread Cert.ReferenceXaodxIdeal.nD Cert.ReferenceXaodxIdeal.τ).loc Cert.ReferenceXaodxIdeal.main_arg0)
      ∧ r.2.mem ((c.tc : Thread Cert.ReferenceXaodxIdeal.nD Cert.ReferenceXaodxIdeal.τ).loc Cert.ReferenceXaodxIdeal.main_arg1) = m ((c.tc : Thread Cert.ReferenceXaodxIdeal.nD Cert.ReferenceXaodxIdeal.τ).loc Cert.ReferenceXaodxIdeal.main_arg1))
      ∧ r.2.sem = fun _ => 0)

def quiescent_KernelXaqdw [hKernelXaqdw : Cert.KernelXaqdw.Facts] : Prop :=
  ∀ (m : (ℓ : Loc Cert.KernelXaqdw.nD Cert.KernelXaqdw.τ Cert.KernelXaqdw.sig) → Buf (Elt Bits) ℓ) (g : Dev Cert.KernelXaqdw.nD → PrngReg), Pre_KernelXaqdw m →
    θ_run (Cert.KernelXaqdw.defs (F := Bits)) (onTc (τ := Cert.KernelXaqdw.τ) (Cert.KernelXaqdw.main (F := Bits))) ⟨m, fun _ => 0, g⟩ (fun r => (∀ c : Dev Cert.KernelXaqdw.nD,
      r.2.mem ((c.tc : Thread Cert.KernelXaqdw.nD Cert.KernelXaqdw.τ).loc Cert.KernelXaqdw.main_arg0) = m ((c.tc : Thread Cert.KernelXaqdw.nD Cert.KernelXaqdw.τ).loc Cert.KernelXaqdw.main_arg0)
      ∧ r.2.mem ((c.tc : Thread Cert.KernelXaqdw.nD Cert.KernelXaqdw.τ).loc Cert.KernelXaqdw.main_arg1) = m ((c.tc : Thread Cert.KernelXaqdw.nD Cert.KernelXaqdw.τ).loc Cert.KernelXaqdw.main_arg1))
      ∧ r.2.sem = fun _ => 0)

def quiescent_KernelXaqdwIdeal [hKernelXaqdwIdeal : Cert.KernelXaqdwIdeal.Facts] : Prop :=
  ∀ (m : (ℓ : Loc Cert.KernelXaqdwIdeal.nD Cert.KernelXaqdwIdeal.τ Cert.KernelXaqdwIdeal.sig) → Buf (Elt Ideal) ℓ) (g : Dev Cert.KernelXaqdwIdeal.nD → PrngReg), Pre_KernelXaqdwIdeal m →
    θ_run (Cert.KernelXaqdwIdeal.defs (F := Ideal)) (onTc (τ := Cert.KernelXaqdwIdeal.τ) (Cert.KernelXaqdwIdeal.main (F := Ideal))) ⟨m, fun _ => 0, g⟩ (fun r => (∀ c : Dev Cert.KernelXaqdwIdeal.nD,
      r.2.mem ((c.tc : Thread Cert.KernelXaqdwIdeal.nD Cert.KernelXaqdwIdeal.τ).loc Cert.KernelXaqdwIdeal.main_arg0) = m ((c.tc : Thread Cert.KernelXaqdwIdeal.nD Cert.KernelXaqdwIdeal.τ).loc Cert.KernelXaqdwIdeal.main_arg0)
      ∧ r.2.mem ((c.tc : Thread Cert.KernelXaqdwIdeal.nD Cert.KernelXaqdwIdeal.τ).loc Cert.KernelXaqdwIdeal.main_arg1) = m ((c.tc : Thread Cert.KernelXaqdwIdeal.nD Cert.KernelXaqdwIdeal.τ).loc Cert.KernelXaqdwIdeal.main_arg1))
      ∧ r.2.sem = fun _ => 0)

def quiescent_ReferenceXaqdwIdeal [hReferenceXaqdwIdeal : Cert.ReferenceXaqdwIdeal.Facts] : Prop :=
  ∀ (m : (ℓ : Loc Cert.ReferenceXaqdwIdeal.nD Cert.ReferenceXaqdwIdeal.τ Cert.ReferenceXaqdwIdeal.sig) → Buf (Elt Ideal) ℓ) (g : Dev Cert.ReferenceXaqdwIdeal.nD → PrngReg), Pre_ReferenceXaqdwIdeal m →
    θ_run (Cert.ReferenceXaqdwIdeal.defs (F := Ideal)) (onTc (τ := Cert.ReferenceXaqdwIdeal.τ) (Cert.ReferenceXaqdwIdeal.main (F := Ideal))) ⟨m, fun _ => 0, g⟩ (fun r => (∀ c : Dev Cert.ReferenceXaqdwIdeal.nD,
      r.2.mem ((c.tc : Thread Cert.ReferenceXaqdwIdeal.nD Cert.ReferenceXaqdwIdeal.τ).loc Cert.ReferenceXaqdwIdeal.main_arg0) = m ((c.tc : Thread Cert.ReferenceXaqdwIdeal.nD Cert.ReferenceXaqdwIdeal.τ).loc Cert.ReferenceXaqdwIdeal.main_arg0)
      ∧ r.2.mem ((c.tc : Thread Cert.ReferenceXaqdwIdeal.nD Cert.ReferenceXaqdwIdeal.τ).loc Cert.ReferenceXaqdwIdeal.main_arg1) = m ((c.tc : Thread Cert.ReferenceXaqdwIdeal.nD Cert.ReferenceXaqdwIdeal.τ).loc Cert.ReferenceXaqdwIdeal.main_arg1))
      ∧ r.2.sem = fun _ => 0)

def quiescent_KernelBranchdw [hKernelBranchdw : Cert.KernelBranchdw.Facts] : Prop :=
  ∀ (m : (ℓ : Loc Cert.KernelBranchdw.nD Cert.KernelBranchdw.τ Cert.KernelBranchdw.sig) → Buf (Elt Bits) ℓ) (g : Dev Cert.KernelBranchdw.nD → PrngReg), Pre_KernelBranchdw m →
    θ_run (Cert.KernelBranchdw.defs (F := Bits)) (onTc (τ := Cert.KernelBranchdw.τ) (Cert.KernelBranchdw.main (F := Bits))) ⟨m, fun _ => 0, g⟩ (fun r => (∀ c : Dev Cert.KernelBranchdw.nD,
      r.2.mem ((c.tc : Thread Cert.KernelBranchdw.nD Cert.KernelBranchdw.τ).loc Cert.KernelBranchdw.main_arg0) = m ((c.tc : Thread Cert.KernelBranchdw.nD Cert.KernelBranchdw.τ).loc Cert.KernelBranchdw.main_arg0)
      ∧ r.2.mem ((c.tc : Thread Cert.KernelBranchdw.nD Cert.KernelBranchdw.τ).loc Cert.KernelBranchdw.main_arg1) = m ((c.tc : Thread Cert.KernelBranchdw.nD Cert.KernelBranchdw.τ).loc Cert.KernelBranchdw.main_arg1))
      ∧ r.2.sem = fun _ => 0)

def quiescent_KernelBranchdwIdeal [hKernelBranchdwIdeal : Cert.KernelBranchdwIdeal.Facts] : Prop :=
  ∀ (m : (ℓ : Loc Cert.KernelBranchdwIdeal.nD Cert.KernelBranchdwIdeal.τ Cert.KernelBranchdwIdeal.sig) → Buf (Elt Ideal) ℓ) (g : Dev Cert.KernelBranchdwIdeal.nD → PrngReg), Pre_KernelBranchdwIdeal m →
    θ_run (Cert.KernelBranchdwIdeal.defs (F := Ideal)) (onTc (τ := Cert.KernelBranchdwIdeal.τ) (Cert.KernelBranchdwIdeal.main (F := Ideal))) ⟨m, fun _ => 0, g⟩ (fun r => (∀ c : Dev Cert.KernelBranchdwIdeal.nD,
      r.2.mem ((c.tc : Thread Cert.KernelBranchdwIdeal.nD Cert.KernelBranchdwIdeal.τ).loc Cert.KernelBranchdwIdeal.main_arg0) = m ((c.tc : Thread Cert.KernelBranchdwIdeal.nD Cert.KernelBranchdwIdeal.τ).loc Cert.KernelBranchdwIdeal.main_arg0)
      ∧ r.2.mem ((c.tc : Thread Cert.KernelBranchdwIdeal.nD Cert.KernelBranchdwIdeal.τ).loc Cert.KernelBranchdwIdeal.main_arg1) = m ((c.tc : Thread Cert.KernelBranchdwIdeal.nD Cert.KernelBranchdwIdeal.τ).loc Cert.KernelBranchdwIdeal.main_arg1))
      ∧ r.2.sem = fun _ => 0)

def quiescent_ReferenceBranchdwIdeal [hReferenceBranchdwIdeal : Cert.ReferenceBranchdwIdeal.Facts] : Prop :=
  ∀ (m : (ℓ : Loc Cert.ReferenceBranchdwIdeal.nD Cert.ReferenceBranchdwIdeal.τ Cert.ReferenceBranchdwIdeal.sig) → Buf (Elt Ideal) ℓ) (g : Dev Cert.ReferenceBranchdwIdeal.nD → PrngReg), Pre_ReferenceBranchdwIdeal m →
    θ_run (Cert.ReferenceBranchdwIdeal.defs (F := Ideal)) (onTc (τ := Cert.ReferenceBranchdwIdeal.τ) (Cert.ReferenceBranchdwIdeal.main (F := Ideal))) ⟨m, fun _ => 0, g⟩ (fun r => (∀ c : Dev Cert.ReferenceBranchdwIdeal.nD,
      r.2.mem ((c.tc : Thread Cert.ReferenceBranchdwIdeal.nD Cert.ReferenceBranchdwIdeal.τ).loc Cert.ReferenceBranchdwIdeal.main_arg0) = m ((c.tc : Thread Cert.ReferenceBranchdwIdeal.nD Cert.ReferenceBranchdwIdeal.τ).loc Cert.ReferenceBranchdwIdeal.main_arg0)
      ∧ r.2.mem ((c.tc : Thread Cert.ReferenceBranchdwIdeal.nD Cert.ReferenceBranchdwIdeal.τ).loc Cert.ReferenceBranchdwIdeal.main_arg1) = m ((c.tc : Thread Cert.ReferenceBranchdwIdeal.nD Cert.ReferenceBranchdwIdeal.τ).loc Cert.ReferenceBranchdwIdeal.main_arg1))
      ∧ r.2.sem = fun _ => 0)

def quiescent_KernelXak [hKernelXak : Cert.KernelXak.Facts] : Prop :=
  ∀ (m : (ℓ : Loc Cert.KernelXak.nD Cert.KernelXak.τ Cert.KernelXak.sig) → Buf (Elt Bits) ℓ) (g : Dev Cert.KernelXak.nD → PrngReg), Pre_KernelXak m →
    θ_run (Cert.KernelXak.defs (F := Bits)) (onTc (τ := Cert.KernelXak.τ) (Cert.KernelXak.main (F := Bits))) ⟨m, fun _ => 0, g⟩ (fun r => (∀ c : Dev Cert.KernelXak.nD,
      r.2.mem ((c.tc : Thread Cert.KernelXak.nD Cert.KernelXak.τ).loc Cert.KernelXak.main_arg0) = m ((c.tc : Thread Cert.KernelXak.nD Cert.KernelXak.τ).loc Cert.KernelXak.main_arg0)
      ∧ r.2.mem ((c.tc : Thread Cert.KernelXak.nD Cert.KernelXak.τ).loc Cert.KernelXak.main_arg1) = m ((c.tc : Thread Cert.KernelXak.nD Cert.KernelXak.τ).loc Cert.KernelXak.main_arg1))
      ∧ r.2.sem = fun _ => 0)

def quiescent_KernelXakIdeal [hKernelXakIdeal : Cert.KernelXakIdeal.Facts] : Prop :=
  ∀ (m : (ℓ : Loc Cert.KernelXakIdeal.nD Cert.KernelXakIdeal.τ Cert.KernelXakIdeal.sig) → Buf (Elt Ideal) ℓ) (g : Dev Cert.KernelXakIdeal.nD → PrngReg), Pre_KernelXakIdeal m →
    θ_run (Cert.KernelXakIdeal.defs (F := Ideal)) (onTc (τ := Cert.KernelXakIdeal.τ) (Cert.KernelXakIdeal.main (F := Ideal))) ⟨m, fun _ => 0, g⟩ (fun r => (∀ c : Dev Cert.KernelXakIdeal.nD,
      r.2.mem ((c.tc : Thread Cert.KernelXakIdeal.nD Cert.KernelXakIdeal.τ).loc Cert.KernelXakIdeal.main_arg0) = m ((c.tc : Thread Cert.KernelXakIdeal.nD Cert.KernelXakIdeal.τ).loc Cert.KernelXakIdeal.main_arg0)
      ∧ r.2.mem ((c.tc : Thread Cert.KernelXakIdeal.nD Cert.KernelXakIdeal.τ).loc Cert.KernelXakIdeal.main_arg1) = m ((c.tc : Thread Cert.KernelXakIdeal.nD Cert.KernelXakIdeal.τ).loc Cert.KernelXakIdeal.main_arg1))
      ∧ r.2.sem = fun _ => 0)

def quiescent_ReferenceXakIdeal [hReferenceXakIdeal : Cert.ReferenceXakIdeal.Facts] : Prop :=
  ∀ (m : (ℓ : Loc Cert.ReferenceXakIdeal.nD Cert.ReferenceXakIdeal.τ Cert.ReferenceXakIdeal.sig) → Buf (Elt Ideal) ℓ) (g : Dev Cert.ReferenceXakIdeal.nD → PrngReg), Pre_ReferenceXakIdeal m →
    θ_run (Cert.ReferenceXakIdeal.defs (F := Ideal)) (onTc (τ := Cert.ReferenceXakIdeal.τ) (Cert.ReferenceXakIdeal.main (F := Ideal))) ⟨m, fun _ => 0, g⟩ (fun r => (∀ c : Dev Cert.ReferenceXakIdeal.nD,
      r.2.mem ((c.tc : Thread Cert.ReferenceXakIdeal.nD Cert.ReferenceXakIdeal.τ).loc Cert.ReferenceXakIdeal.main_arg0) = m ((c.tc : Thread Cert.ReferenceXakIdeal.nD Cert.ReferenceXakIdeal.τ).loc Cert.ReferenceXakIdeal.main_arg0)
      ∧ r.2.mem ((c.tc : Thread Cert.ReferenceXakIdeal.nD Cert.ReferenceXakIdeal.τ).loc Cert.ReferenceXakIdeal.main_arg1) = m ((c.tc : Thread Cert.ReferenceXakIdeal.nD Cert.ReferenceXakIdeal.τ).loc Cert.ReferenceXakIdeal.main_arg1))
      ∧ r.2.sem = fun _ => 0)

def quiescent_KernelXakdw [hKernelXakdw : Cert.KernelXakdw.Facts] : Prop :=
  ∀ (m : (ℓ : Loc Cert.KernelXakdw.nD Cert.KernelXakdw.τ Cert.KernelXakdw.sig) → Buf (Elt Bits) ℓ) (g : Dev Cert.KernelXakdw.nD → PrngReg), Pre_KernelXakdw m →
    θ_run (Cert.KernelXakdw.defs (F := Bits)) (onTc (τ := Cert.KernelXakdw.τ) (Cert.KernelXakdw.main (F := Bits))) ⟨m, fun _ => 0, g⟩ (fun r => (∀ c : Dev Cert.KernelXakdw.nD,
      r.2.mem ((c.tc : Thread Cert.KernelXakdw.nD Cert.KernelXakdw.τ).loc Cert.KernelXakdw.main_arg0) = m ((c.tc : Thread Cert.KernelXakdw.nD Cert.KernelXakdw.τ).loc Cert.KernelXakdw.main_arg0)
      ∧ r.2.mem ((c.tc : Thread Cert.KernelXakdw.nD Cert.KernelXakdw.τ).loc Cert.KernelXakdw.main_arg1) = m ((c.tc : Thread Cert.KernelXakdw.nD Cert.KernelXakdw.τ).loc Cert.KernelXakdw.main_arg1))
      ∧ r.2.sem = fun _ => 0)

def quiescent_KernelXakdwIdeal [hKernelXakdwIdeal : Cert.KernelXakdwIdeal.Facts] : Prop :=
  ∀ (m : (ℓ : Loc Cert.KernelXakdwIdeal.nD Cert.KernelXakdwIdeal.τ Cert.KernelXakdwIdeal.sig) → Buf (Elt Ideal) ℓ) (g : Dev Cert.KernelXakdwIdeal.nD → PrngReg), Pre_KernelXakdwIdeal m →
    θ_run (Cert.KernelXakdwIdeal.defs (F := Ideal)) (onTc (τ := Cert.KernelXakdwIdeal.τ) (Cert.KernelXakdwIdeal.main (F := Ideal))) ⟨m, fun _ => 0, g⟩ (fun r => (∀ c : Dev Cert.KernelXakdwIdeal.nD,
      r.2.mem ((c.tc : Thread Cert.KernelXakdwIdeal.nD Cert.KernelXakdwIdeal.τ).loc Cert.KernelXakdwIdeal.main_arg0) = m ((c.tc : Thread Cert.KernelXakdwIdeal.nD Cert.KernelXakdwIdeal.τ).loc Cert.KernelXakdwIdeal.main_arg0)
      ∧ r.2.mem ((c.tc : Thread Cert.KernelXakdwIdeal.nD Cert.KernelXakdwIdeal.τ).loc Cert.KernelXakdwIdeal.main_arg1) = m ((c.tc : Thread Cert.KernelXakdwIdeal.nD Cert.KernelXakdwIdeal.τ).loc Cert.KernelXakdwIdeal.main_arg1))
      ∧ r.2.sem = fun _ => 0)

def quiescent_ReferenceXakdwIdeal [hReferenceXakdwIdeal : Cert.ReferenceXakdwIdeal.Facts] : Prop :=
  ∀ (m : (ℓ : Loc Cert.ReferenceXakdwIdeal.nD Cert.ReferenceXakdwIdeal.τ Cert.ReferenceXakdwIdeal.sig) → Buf (Elt Ideal) ℓ) (g : Dev Cert.ReferenceXakdwIdeal.nD → PrngReg), Pre_ReferenceXakdwIdeal m →
    θ_run (Cert.ReferenceXakdwIdeal.defs (F := Ideal)) (onTc (τ := Cert.ReferenceXakdwIdeal.τ) (Cert.ReferenceXakdwIdeal.main (F := Ideal))) ⟨m, fun _ => 0, g⟩ (fun r => (∀ c : Dev Cert.ReferenceXakdwIdeal.nD,
      r.2.mem ((c.tc : Thread Cert.ReferenceXakdwIdeal.nD Cert.ReferenceXakdwIdeal.τ).loc Cert.ReferenceXakdwIdeal.main_arg0) = m ((c.tc : Thread Cert.ReferenceXakdwIdeal.nD Cert.ReferenceXakdwIdeal.τ).loc Cert.ReferenceXakdwIdeal.main_arg0)
      ∧ r.2.mem ((c.tc : Thread Cert.ReferenceXakdwIdeal.nD Cert.ReferenceXakdwIdeal.τ).loc Cert.ReferenceXakdwIdeal.main_arg1) = m ((c.tc : Thread Cert.ReferenceXakdwIdeal.nD Cert.ReferenceXakdwIdeal.τ).loc Cert.ReferenceXakdwIdeal.main_arg1))
      ∧ r.2.sem = fun _ => 0)

def quiescent_KernelXakdx [hKernelXakdx : Cert.KernelXakdx.Facts] : Prop :=
  ∀ (m : (ℓ : Loc Cert.KernelXakdx.nD Cert.KernelXakdx.τ Cert.KernelXakdx.sig) → Buf (Elt Bits) ℓ) (g : Dev Cert.KernelXakdx.nD → PrngReg), Pre_KernelXakdx m →
    θ_run (Cert.KernelXakdx.defs (F := Bits)) (onTc (τ := Cert.KernelXakdx.τ) (Cert.KernelXakdx.main (F := Bits))) ⟨m, fun _ => 0, g⟩ (fun r => (∀ c : Dev Cert.KernelXakdx.nD,
      r.2.mem ((c.tc : Thread Cert.KernelXakdx.nD Cert.KernelXakdx.τ).loc Cert.KernelXakdx.main_arg0) = m ((c.tc : Thread Cert.KernelXakdx.nD Cert.KernelXakdx.τ).loc Cert.KernelXakdx.main_arg0)
      ∧ r.2.mem ((c.tc : Thread Cert.KernelXakdx.nD Cert.KernelXakdx.τ).loc Cert.KernelXakdx.main_arg1) = m ((c.tc : Thread Cert.KernelXakdx.nD Cert.KernelXakdx.τ).loc Cert.KernelXakdx.main_arg1))
      ∧ r.2.sem = fun _ => 0)

def quiescent_KernelXakdxIdeal [hKernelXakdxIdeal : Cert.KernelXakdxIdeal.Facts] : Prop :=
  ∀ (m : (ℓ : Loc Cert.KernelXakdxIdeal.nD Cert.KernelXakdxIdeal.τ Cert.KernelXakdxIdeal.sig) → Buf (Elt Ideal) ℓ) (g : Dev Cert.KernelXakdxIdeal.nD → PrngReg), Pre_KernelXakdxIdeal m →
    θ_run (Cert.KernelXakdxIdeal.defs (F := Ideal)) (onTc (τ := Cert.KernelXakdxIdeal.τ) (Cert.KernelXakdxIdeal.main (F := Ideal))) ⟨m, fun _ => 0, g⟩ (fun r => (∀ c : Dev Cert.KernelXakdxIdeal.nD,
      r.2.mem ((c.tc : Thread Cert.KernelXakdxIdeal.nD Cert.KernelXakdxIdeal.τ).loc Cert.KernelXakdxIdeal.main_arg0) = m ((c.tc : Thread Cert.KernelXakdxIdeal.nD Cert.KernelXakdxIdeal.τ).loc Cert.KernelXakdxIdeal.main_arg0)
      ∧ r.2.mem ((c.tc : Thread Cert.KernelXakdxIdeal.nD Cert.KernelXakdxIdeal.τ).loc Cert.KernelXakdxIdeal.main_arg1) = m ((c.tc : Thread Cert.KernelXakdxIdeal.nD Cert.KernelXakdxIdeal.τ).loc Cert.KernelXakdxIdeal.main_arg1))
      ∧ r.2.sem = fun _ => 0)

def quiescent_ReferenceXakdxIdeal [hReferenceXakdxIdeal : Cert.ReferenceXakdxIdeal.Facts] : Prop :=
  ∀ (m : (ℓ : Loc Cert.ReferenceXakdxIdeal.nD Cert.ReferenceXakdxIdeal.τ Cert.ReferenceXakdxIdeal.sig) → Buf (Elt Ideal) ℓ) (g : Dev Cert.ReferenceXakdxIdeal.nD → PrngReg), Pre_ReferenceXakdxIdeal m →
    θ_run (Cert.ReferenceXakdxIdeal.defs (F := Ideal)) (onTc (τ := Cert.ReferenceXakdxIdeal.τ) (Cert.ReferenceXakdxIdeal.main (F := Ideal))) ⟨m, fun _ => 0, g⟩ (fun r => (∀ c : Dev Cert.ReferenceXakdxIdeal.nD,
      r.2.mem ((c.tc : Thread Cert.ReferenceXakdxIdeal.nD Cert.ReferenceXakdxIdeal.τ).loc Cert.ReferenceXakdxIdeal.main_arg0) = m ((c.tc : Thread Cert.ReferenceXakdxIdeal.nD Cert.ReferenceXakdxIdeal.τ).loc Cert.ReferenceXakdxIdeal.main_arg0)
      ∧ r.2.mem ((c.tc : Thread Cert.ReferenceXakdxIdeal.nD Cert.ReferenceXakdxIdeal.τ).loc Cert.ReferenceXakdxIdeal.main_arg1) = m ((c.tc : Thread Cert.ReferenceXakdxIdeal.nD Cert.ReferenceXakdxIdeal.τ).loc Cert.ReferenceXakdxIdeal.main_arg1))
      ∧ r.2.sem = fun _ => 0)

def quiescent_KernelXavdx [hKernelXavdx : Cert.KernelXavdx.Facts] : Prop :=
  ∀ (m : (ℓ : Loc Cert.KernelXavdx.nD Cert.KernelXavdx.τ Cert.KernelXavdx.sig) → Buf (Elt Bits) ℓ) (g : Dev Cert.KernelXavdx.nD → PrngReg), Pre_KernelXavdx m →
    θ_run (Cert.KernelXavdx.defs (F := Bits)) (onTc (τ := Cert.KernelXavdx.τ) (Cert.KernelXavdx.main (F := Bits))) ⟨m, fun _ => 0, g⟩ (fun r => (∀ c : Dev Cert.KernelXavdx.nD,
      r.2.mem ((c.tc : Thread Cert.KernelXavdx.nD Cert.KernelXavdx.τ).loc Cert.KernelXavdx.main_arg0) = m ((c.tc : Thread Cert.KernelXavdx.nD Cert.KernelXavdx.τ).loc Cert.KernelXavdx.main_arg0)
      ∧ r.2.mem ((c.tc : Thread Cert.KernelXavdx.nD Cert.KernelXavdx.τ).loc Cert.KernelXavdx.main_arg1) = m ((c.tc : Thread Cert.KernelXavdx.nD Cert.KernelXavdx.τ).loc Cert.KernelXavdx.main_arg1)
      ∧ r.2.mem ((c.tc : Thread Cert.KernelXavdx.nD Cert.KernelXavdx.τ).loc Cert.KernelXavdx.main_arg2) = m ((c.tc : Thread Cert.KernelXavdx.nD Cert.KernelXavdx.τ).loc Cert.KernelXavdx.main_arg2))
      ∧ r.2.sem = fun _ => 0)

def quiescent_KernelXavdxIdeal [hKernelXavdxIdeal : Cert.KernelXavdxIdeal.Facts] : Prop :=
  ∀ (m : (ℓ : Loc Cert.KernelXavdxIdeal.nD Cert.KernelXavdxIdeal.τ Cert.KernelXavdxIdeal.sig) → Buf (Elt Ideal) ℓ) (g : Dev Cert.KernelXavdxIdeal.nD → PrngReg), Pre_KernelXavdxIdeal m →
    θ_run (Cert.KernelXavdxIdeal.defs (F := Ideal)) (onTc (τ := Cert.KernelXavdxIdeal.τ) (Cert.KernelXavdxIdeal.main (F := Ideal))) ⟨m, fun _ => 0, g⟩ (fun r => (∀ c : Dev Cert.KernelXavdxIdeal.nD,
      r.2.mem ((c.tc : Thread Cert.KernelXavdxIdeal.nD Cert.KernelXavdxIdeal.τ).loc Cert.KernelXavdxIdeal.main_arg0) = m ((c.tc : Thread Cert.KernelXavdxIdeal.nD Cert.KernelXavdxIdeal.τ).loc Cert.KernelXavdxIdeal.main_arg0)
      ∧ r.2.mem ((c.tc : Thread Cert.KernelXavdxIdeal.nD Cert.KernelXavdxIdeal.τ).loc Cert.KernelXavdxIdeal.main_arg1) = m ((c.tc : Thread Cert.KernelXavdxIdeal.nD Cert.KernelXavdxIdeal.τ).loc Cert.KernelXavdxIdeal.main_arg1)
      ∧ r.2.mem ((c.tc : Thread Cert.KernelXavdxIdeal.nD Cert.KernelXavdxIdeal.τ).loc Cert.KernelXavdxIdeal.main_arg2) = m ((c.tc : Thread Cert.KernelXavdxIdeal.nD Cert.KernelXavdxIdeal.τ).loc Cert.KernelXavdxIdeal.main_arg2))
      ∧ r.2.sem = fun _ => 0)

def quiescent_ReferenceXavdxIdeal [hReferenceXavdxIdeal : Cert.ReferenceXavdxIdeal.Facts] : Prop :=
  ∀ (m : (ℓ : Loc Cert.ReferenceXavdxIdeal.nD Cert.ReferenceXavdxIdeal.τ Cert.ReferenceXavdxIdeal.sig) → Buf (Elt Ideal) ℓ) (g : Dev Cert.ReferenceXavdxIdeal.nD → PrngReg), Pre_ReferenceXavdxIdeal m →
    θ_run (Cert.ReferenceXavdxIdeal.defs (F := Ideal)) (onTc (τ := Cert.ReferenceXavdxIdeal.τ) (Cert.ReferenceXavdxIdeal.main (F := Ideal))) ⟨m, fun _ => 0, g⟩ (fun r => (∀ c : Dev Cert.ReferenceXavdxIdeal.nD,
      r.2.mem ((c.tc : Thread Cert.ReferenceXavdxIdeal.nD Cert.ReferenceXavdxIdeal.τ).loc Cert.ReferenceXavdxIdeal.main_arg0) = m ((c.tc : Thread Cert.ReferenceXavdxIdeal.nD Cert.ReferenceXavdxIdeal.τ).loc Cert.ReferenceXavdxIdeal.main_arg0)
      ∧ r.2.mem ((c.tc : Thread Cert.ReferenceXavdxIdeal.nD Cert.ReferenceXavdxIdeal.τ).loc Cert.ReferenceXavdxIdeal.main_arg1) = m ((c.tc : Thread Cert.ReferenceXavdxIdeal.nD Cert.ReferenceXavdxIdeal.τ).loc Cert.ReferenceXavdxIdeal.main_arg1)
      ∧ r.2.mem ((c.tc : Thread Cert.ReferenceXavdxIdeal.nD Cert.ReferenceXavdxIdeal.τ).loc Cert.ReferenceXavdxIdeal.main_arg2) = m ((c.tc : Thread Cert.ReferenceXavdxIdeal.nD Cert.ReferenceXavdxIdeal.τ).loc Cert.ReferenceXavdxIdeal.main_arg2))
      ∧ r.2.sem = fun _ => 0)

def quiescent_KernelXaqdx [hKernelXaqdx : Cert.KernelXaqdx.Facts] : Prop :=
  ∀ (m : (ℓ : Loc Cert.KernelXaqdx.nD Cert.KernelXaqdx.τ Cert.KernelXaqdx.sig) → Buf (Elt Bits) ℓ) (g : Dev Cert.KernelXaqdx.nD → PrngReg), Pre_KernelXaqdx m →
    θ_run (Cert.KernelXaqdx.defs (F := Bits)) (onTc (τ := Cert.KernelXaqdx.τ) (Cert.KernelXaqdx.main (F := Bits))) ⟨m, fun _ => 0, g⟩ (fun r => (∀ c : Dev Cert.KernelXaqdx.nD,
      r.2.mem ((c.tc : Thread Cert.KernelXaqdx.nD Cert.KernelXaqdx.τ).loc Cert.KernelXaqdx.main_arg0) = m ((c.tc : Thread Cert.KernelXaqdx.nD Cert.KernelXaqdx.τ).loc Cert.KernelXaqdx.main_arg0)
      ∧ r.2.mem ((c.tc : Thread Cert.KernelXaqdx.nD Cert.KernelXaqdx.τ).loc Cert.KernelXaqdx.main_arg1) = m ((c.tc : Thread Cert.KernelXaqdx.nD Cert.KernelXaqdx.τ).loc Cert.KernelXaqdx.main_arg1)
      ∧ r.2.mem ((c.tc : Thread Cert.KernelXaqdx.nD Cert.KernelXaqdx.τ).loc Cert.KernelXaqdx.main_arg2) = m ((c.tc : Thread Cert.KernelXaqdx.nD Cert.KernelXaqdx.τ).loc Cert.KernelXaqdx.main_arg2)
      ∧ r.2.mem ((c.tc : Thread Cert.KernelXaqdx.nD Cert.KernelXaqdx.τ).loc Cert.KernelXaqdx.main_arg3) = m ((c.tc : Thread Cert.KernelXaqdx.nD Cert.KernelXaqdx.τ).loc Cert.KernelXaqdx.main_arg3)
      ∧ r.2.mem ((c.tc : Thread Cert.KernelXaqdx.nD Cert.KernelXaqdx.τ).loc Cert.KernelXaqdx.main_arg4) = m ((c.tc : Thread Cert.KernelXaqdx.nD Cert.KernelXaqdx.τ).loc Cert.KernelXaqdx.main_arg4))
      ∧ r.2.sem = fun _ => 0)

def quiescent_KernelXaqdxIdeal [hKernelXaqdxIdeal : Cert.KernelXaqdxIdeal.Facts] : Prop :=
  ∀ (m : (ℓ : Loc Cert.KernelXaqdxIdeal.nD Cert.KernelXaqdxIdeal.τ Cert.KernelXaqdxIdeal.sig) → Buf (Elt Ideal) ℓ) (g : Dev Cert.KernelXaqdxIdeal.nD → PrngReg), Pre_KernelXaqdxIdeal m →
    θ_run (Cert.KernelXaqdxIdeal.defs (F := Ideal)) (onTc (τ := Cert.KernelXaqdxIdeal.τ) (Cert.KernelXaqdxIdeal.main (F := Ideal))) ⟨m, fun _ => 0, g⟩ (fun r => (∀ c : Dev Cert.KernelXaqdxIdeal.nD,
      r.2.mem ((c.tc : Thread Cert.KernelXaqdxIdeal.nD Cert.KernelXaqdxIdeal.τ).loc Cert.KernelXaqdxIdeal.main_arg0) = m ((c.tc : Thread Cert.KernelXaqdxIdeal.nD Cert.KernelXaqdxIdeal.τ).loc Cert.KernelXaqdxIdeal.main_arg0)
      ∧ r.2.mem ((c.tc : Thread Cert.KernelXaqdxIdeal.nD Cert.KernelXaqdxIdeal.τ).loc Cert.KernelXaqdxIdeal.main_arg1) = m ((c.tc : Thread Cert.KernelXaqdxIdeal.nD Cert.KernelXaqdxIdeal.τ).loc Cert.KernelXaqdxIdeal.main_arg1)
      ∧ r.2.mem ((c.tc : Thread Cert.KernelXaqdxIdeal.nD Cert.KernelXaqdxIdeal.τ).loc Cert.KernelXaqdxIdeal.main_arg2) = m ((c.tc : Thread Cert.KernelXaqdxIdeal.nD Cert.KernelXaqdxIdeal.τ).loc Cert.KernelXaqdxIdeal.main_arg2)
      ∧ r.2.mem ((c.tc : Thread Cert.KernelXaqdxIdeal.nD Cert.KernelXaqdxIdeal.τ).loc Cert.KernelXaqdxIdeal.main_arg3) = m ((c.tc : Thread Cert.KernelXaqdxIdeal.nD Cert.KernelXaqdxIdeal.τ).loc Cert.KernelXaqdxIdeal.main_arg3)
      ∧ r.2.mem ((c.tc : Thread Cert.KernelXaqdxIdeal.nD Cert.KernelXaqdxIdeal.τ).loc Cert.KernelXaqdxIdeal.main_arg4) = m ((c.tc : Thread Cert.KernelXaqdxIdeal.nD Cert.KernelXaqdxIdeal.τ).loc Cert.KernelXaqdxIdeal.main_arg4))
      ∧ r.2.sem = fun _ => 0)

def quiescent_KernelXaqdxIdeal_pre_finite_xaqdx [hKernelXaqdxIdeal : Cert.KernelXaqdxIdeal.Facts] [hPre_finite_xaqdx : Cert.Pre_finite_xaqdx.Facts] : Prop :=
  ∀ (m : (ℓ : Loc Cert.KernelXaqdxIdeal.nD Cert.KernelXaqdxIdeal.τ Cert.KernelXaqdxIdeal.sig) → Buf (Elt Ideal) ℓ) (g : Dev Cert.KernelXaqdxIdeal.nD → PrngReg), Pre_KernelXaqdxIdeal_finite_xaqdx m →
    θ_run (Cert.KernelXaqdxIdeal.defs (F := Ideal)) (onTc (τ := Cert.KernelXaqdxIdeal.τ) (Cert.KernelXaqdxIdeal.main (F := Ideal))) ⟨m, fun _ => 0, g⟩ (fun r => (∀ c : Dev Cert.KernelXaqdxIdeal.nD,
      r.2.mem ((c.tc : Thread Cert.KernelXaqdxIdeal.nD Cert.KernelXaqdxIdeal.τ).loc Cert.KernelXaqdxIdeal.main_arg0) = m ((c.tc : Thread Cert.KernelXaqdxIdeal.nD Cert.KernelXaqdxIdeal.τ).loc Cert.KernelXaqdxIdeal.main_arg0)
      ∧ r.2.mem ((c.tc : Thread Cert.KernelXaqdxIdeal.nD Cert.KernelXaqdxIdeal.τ).loc Cert.KernelXaqdxIdeal.main_arg1) = m ((c.tc : Thread Cert.KernelXaqdxIdeal.nD Cert.KernelXaqdxIdeal.τ).loc Cert.KernelXaqdxIdeal.main_arg1)
      ∧ r.2.mem ((c.tc : Thread Cert.KernelXaqdxIdeal.nD Cert.KernelXaqdxIdeal.τ).loc Cert.KernelXaqdxIdeal.main_arg2) = m ((c.tc : Thread Cert.KernelXaqdxIdeal.nD Cert.KernelXaqdxIdeal.τ).loc Cert.KernelXaqdxIdeal.main_arg2)
      ∧ r.2.mem ((c.tc : Thread Cert.KernelXaqdxIdeal.nD Cert.KernelXaqdxIdeal.τ).loc Cert.KernelXaqdxIdeal.main_arg3) = m ((c.tc : Thread Cert.KernelXaqdxIdeal.nD Cert.KernelXaqdxIdeal.τ).loc Cert.KernelXaqdxIdeal.main_arg3)
      ∧ r.2.mem ((c.tc : Thread Cert.KernelXaqdxIdeal.nD Cert.KernelXaqdxIdeal.τ).loc Cert.KernelXaqdxIdeal.main_arg4) = m ((c.tc : Thread Cert.KernelXaqdxIdeal.nD Cert.KernelXaqdxIdeal.τ).loc Cert.KernelXaqdxIdeal.main_arg4))
      ∧ r.2.sem = fun _ => 0)

def quiescent_ReferenceXaqdxIdeal [hReferenceXaqdxIdeal : Cert.ReferenceXaqdxIdeal.Facts] : Prop :=
  ∀ (m : (ℓ : Loc Cert.ReferenceXaqdxIdeal.nD Cert.ReferenceXaqdxIdeal.τ Cert.ReferenceXaqdxIdeal.sig) → Buf (Elt Ideal) ℓ) (g : Dev Cert.ReferenceXaqdxIdeal.nD → PrngReg), Pre_ReferenceXaqdxIdeal m →
    θ_run (Cert.ReferenceXaqdxIdeal.defs (F := Ideal)) (onTc (τ := Cert.ReferenceXaqdxIdeal.τ) (Cert.ReferenceXaqdxIdeal.main (F := Ideal))) ⟨m, fun _ => 0, g⟩ (fun r => (∀ c : Dev Cert.ReferenceXaqdxIdeal.nD,
      r.2.mem ((c.tc : Thread Cert.ReferenceXaqdxIdeal.nD Cert.ReferenceXaqdxIdeal.τ).loc Cert.ReferenceXaqdxIdeal.main_arg0) = m ((c.tc : Thread Cert.ReferenceXaqdxIdeal.nD Cert.ReferenceXaqdxIdeal.τ).loc Cert.ReferenceXaqdxIdeal.main_arg0)
      ∧ r.2.mem ((c.tc : Thread Cert.ReferenceXaqdxIdeal.nD Cert.ReferenceXaqdxIdeal.τ).loc Cert.ReferenceXaqdxIdeal.main_arg1) = m ((c.tc : Thread Cert.ReferenceXaqdxIdeal.nD Cert.ReferenceXaqdxIdeal.τ).loc Cert.ReferenceXaqdxIdeal.main_arg1)
      ∧ r.2.mem ((c.tc : Thread Cert.ReferenceXaqdxIdeal.nD Cert.ReferenceXaqdxIdeal.τ).loc Cert.ReferenceXaqdxIdeal.main_arg2) = m ((c.tc : Thread Cert.ReferenceXaqdxIdeal.nD Cert.ReferenceXaqdxIdeal.τ).loc Cert.ReferenceXaqdxIdeal.main_arg2)
      ∧ r.2.mem ((c.tc : Thread Cert.ReferenceXaqdxIdeal.nD Cert.ReferenceXaqdxIdeal.τ).loc Cert.ReferenceXaqdxIdeal.main_arg3) = m ((c.tc : Thread Cert.ReferenceXaqdxIdeal.nD Cert.ReferenceXaqdxIdeal.τ).loc Cert.ReferenceXaqdxIdeal.main_arg3)
      ∧ r.2.mem ((c.tc : Thread Cert.ReferenceXaqdxIdeal.nD Cert.ReferenceXaqdxIdeal.τ).loc Cert.ReferenceXaqdxIdeal.main_arg4) = m ((c.tc : Thread Cert.ReferenceXaqdxIdeal.nD Cert.ReferenceXaqdxIdeal.τ).loc Cert.ReferenceXaqdxIdeal.main_arg4))
      ∧ r.2.sem = fun _ => 0)

def quiescent_ReferenceXaqdxIdeal_pre_finite_xaqdx [hReferenceXaqdxIdeal : Cert.ReferenceXaqdxIdeal.Facts] [hPre_finite_xaqdx : Cert.Pre_finite_xaqdx.Facts] : Prop :=
  ∀ (m : (ℓ : Loc Cert.ReferenceXaqdxIdeal.nD Cert.ReferenceXaqdxIdeal.τ Cert.ReferenceXaqdxIdeal.sig) → Buf (Elt Ideal) ℓ) (g : Dev Cert.ReferenceXaqdxIdeal.nD → PrngReg), Pre_ReferenceXaqdxIdeal_finite_xaqdx m →
    θ_run (Cert.ReferenceXaqdxIdeal.defs (F := Ideal)) (onTc (τ := Cert.ReferenceXaqdxIdeal.τ) (Cert.ReferenceXaqdxIdeal.main (F := Ideal))) ⟨m, fun _ => 0, g⟩ (fun r => (∀ c : Dev Cert.ReferenceXaqdxIdeal.nD,
      r.2.mem ((c.tc : Thread Cert.ReferenceXaqdxIdeal.nD Cert.ReferenceXaqdxIdeal.τ).loc Cert.ReferenceXaqdxIdeal.main_arg0) = m ((c.tc : Thread Cert.ReferenceXaqdxIdeal.nD Cert.ReferenceXaqdxIdeal.τ).loc Cert.ReferenceXaqdxIdeal.main_arg0)
      ∧ r.2.mem ((c.tc : Thread Cert.ReferenceXaqdxIdeal.nD Cert.ReferenceXaqdxIdeal.τ).loc Cert.ReferenceXaqdxIdeal.main_arg1) = m ((c.tc : Thread Cert.ReferenceXaqdxIdeal.nD Cert.ReferenceXaqdxIdeal.τ).loc Cert.ReferenceXaqdxIdeal.main_arg1)
      ∧ r.2.mem ((c.tc : Thread Cert.ReferenceXaqdxIdeal.nD Cert.ReferenceXaqdxIdeal.τ).loc Cert.ReferenceXaqdxIdeal.main_arg2) = m ((c.tc : Thread Cert.ReferenceXaqdxIdeal.nD Cert.ReferenceXaqdxIdeal.τ).loc Cert.ReferenceXaqdxIdeal.main_arg2)
      ∧ r.2.mem ((c.tc : Thread Cert.ReferenceXaqdxIdeal.nD Cert.ReferenceXaqdxIdeal.τ).loc Cert.ReferenceXaqdxIdeal.main_arg3) = m ((c.tc : Thread Cert.ReferenceXaqdxIdeal.nD Cert.ReferenceXaqdxIdeal.τ).loc Cert.ReferenceXaqdxIdeal.main_arg3)
      ∧ r.2.mem ((c.tc : Thread Cert.ReferenceXaqdxIdeal.nD Cert.ReferenceXaqdxIdeal.τ).loc Cert.ReferenceXaqdxIdeal.main_arg4) = m ((c.tc : Thread Cert.ReferenceXaqdxIdeal.nD Cert.ReferenceXaqdxIdeal.τ).loc Cert.ReferenceXaqdxIdeal.main_arg4))
      ∧ r.2.sem = fun _ => 0)

def quiescent_KernelUpdx [hKernelUpdx : Cert.KernelUpdx.Facts] : Prop :=
  ∀ (m : (ℓ : Loc Cert.KernelUpdx.nD Cert.KernelUpdx.τ Cert.KernelUpdx.sig) → Buf (Elt Bits) ℓ) (g : Dev Cert.KernelUpdx.nD → PrngReg), Pre_KernelUpdx m →
    θ_run (Cert.KernelUpdx.defs (F := Bits)) (onTc (τ := Cert.KernelUpdx.τ) (Cert.KernelUpdx.main (F := Bits))) ⟨m, fun _ => 0, g⟩ (fun r => (∀ c : Dev Cert.KernelUpdx.nD,
      r.2.mem ((c.tc : Thread Cert.KernelUpdx.nD Cert.KernelUpdx.τ).loc Cert.KernelUpdx.main_arg0) = m ((c.tc : Thread Cert.KernelUpdx.nD Cert.KernelUpdx.τ).loc Cert.KernelUpdx.main_arg0)
      ∧ r.2.mem ((c.tc : Thread Cert.KernelUpdx.nD Cert.KernelUpdx.τ).loc Cert.KernelUpdx.main_arg1) = m ((c.tc : Thread Cert.KernelUpdx.nD Cert.KernelUpdx.τ).loc Cert.KernelUpdx.main_arg1)
      ∧ r.2.mem ((c.tc : Thread Cert.KernelUpdx.nD Cert.KernelUpdx.τ).loc Cert.KernelUpdx.main_arg2) = m ((c.tc : Thread Cert.KernelUpdx.nD Cert.KernelUpdx.τ).loc Cert.KernelUpdx.main_arg2)
      ∧ r.2.mem ((c.tc : Thread Cert.KernelUpdx.nD Cert.KernelUpdx.τ).loc Cert.KernelUpdx.main_arg3) = m ((c.tc : Thread Cert.KernelUpdx.nD Cert.KernelUpdx.τ).loc Cert.KernelUpdx.main_arg3)
      ∧ r.2.mem ((c.tc : Thread Cert.KernelUpdx.nD Cert.KernelUpdx.τ).loc Cert.KernelUpdx.main_arg4) = m ((c.tc : Thread Cert.KernelUpdx.nD Cert.KernelUpdx.τ).loc Cert.KernelUpdx.main_arg4)
      ∧ r.2.mem ((c.tc : Thread Cert.KernelUpdx.nD Cert.KernelUpdx.τ).loc Cert.KernelUpdx.main_arg5) = m ((c.tc : Thread Cert.KernelUpdx.nD Cert.KernelUpdx.τ).loc Cert.KernelUpdx.main_arg5))
      ∧ r.2.sem = fun _ => 0)

def quiescent_KernelUpdxIdeal [hKernelUpdxIdeal : Cert.KernelUpdxIdeal.Facts] : Prop :=
  ∀ (m : (ℓ : Loc Cert.KernelUpdxIdeal.nD Cert.KernelUpdxIdeal.τ Cert.KernelUpdxIdeal.sig) → Buf (Elt Ideal) ℓ) (g : Dev Cert.KernelUpdxIdeal.nD → PrngReg), Pre_KernelUpdxIdeal m →
    θ_run (Cert.KernelUpdxIdeal.defs (F := Ideal)) (onTc (τ := Cert.KernelUpdxIdeal.τ) (Cert.KernelUpdxIdeal.main (F := Ideal))) ⟨m, fun _ => 0, g⟩ (fun r => (∀ c : Dev Cert.KernelUpdxIdeal.nD,
      r.2.mem ((c.tc : Thread Cert.KernelUpdxIdeal.nD Cert.KernelUpdxIdeal.τ).loc Cert.KernelUpdxIdeal.main_arg0) = m ((c.tc : Thread Cert.KernelUpdxIdeal.nD Cert.KernelUpdxIdeal.τ).loc Cert.KernelUpdxIdeal.main_arg0)
      ∧ r.2.mem ((c.tc : Thread Cert.KernelUpdxIdeal.nD Cert.KernelUpdxIdeal.τ).loc Cert.KernelUpdxIdeal.main_arg1) = m ((c.tc : Thread Cert.KernelUpdxIdeal.nD Cert.KernelUpdxIdeal.τ).loc Cert.KernelUpdxIdeal.main_arg1)
      ∧ r.2.mem ((c.tc : Thread Cert.KernelUpdxIdeal.nD Cert.KernelUpdxIdeal.τ).loc Cert.KernelUpdxIdeal.main_arg2) = m ((c.tc : Thread Cert.KernelUpdxIdeal.nD Cert.KernelUpdxIdeal.τ).loc Cert.KernelUpdxIdeal.main_arg2)
      ∧ r.2.mem ((c.tc : Thread Cert.KernelUpdxIdeal.nD Cert.KernelUpdxIdeal.τ).loc Cert.KernelUpdxIdeal.main_arg3) = m ((c.tc : Thread Cert.KernelUpdxIdeal.nD Cert.KernelUpdxIdeal.τ).loc Cert.KernelUpdxIdeal.main_arg3)
      ∧ r.2.mem ((c.tc : Thread Cert.KernelUpdxIdeal.nD Cert.KernelUpdxIdeal.τ).loc Cert.KernelUpdxIdeal.main_arg4) = m ((c.tc : Thread Cert.KernelUpdxIdeal.nD Cert.KernelUpdxIdeal.τ).loc Cert.KernelUpdxIdeal.main_arg4)
      ∧ r.2.mem ((c.tc : Thread Cert.KernelUpdxIdeal.nD Cert.KernelUpdxIdeal.τ).loc Cert.KernelUpdxIdeal.main_arg5) = m ((c.tc : Thread Cert.KernelUpdxIdeal.nD Cert.KernelUpdxIdeal.τ).loc Cert.KernelUpdxIdeal.main_arg5))
      ∧ r.2.sem = fun _ => 0)

def quiescent_KernelUpdxIdeal_pre_finite_updx [hKernelUpdxIdeal : Cert.KernelUpdxIdeal.Facts] [hPre_finite_updx : Cert.Pre_finite_updx.Facts] : Prop :=
  ∀ (m : (ℓ : Loc Cert.KernelUpdxIdeal.nD Cert.KernelUpdxIdeal.τ Cert.KernelUpdxIdeal.sig) → Buf (Elt Ideal) ℓ) (g : Dev Cert.KernelUpdxIdeal.nD → PrngReg), Pre_KernelUpdxIdeal_finite_updx m →
    θ_run (Cert.KernelUpdxIdeal.defs (F := Ideal)) (onTc (τ := Cert.KernelUpdxIdeal.τ) (Cert.KernelUpdxIdeal.main (F := Ideal))) ⟨m, fun _ => 0, g⟩ (fun r => (∀ c : Dev Cert.KernelUpdxIdeal.nD,
      r.2.mem ((c.tc : Thread Cert.KernelUpdxIdeal.nD Cert.KernelUpdxIdeal.τ).loc Cert.KernelUpdxIdeal.main_arg0) = m ((c.tc : Thread Cert.KernelUpdxIdeal.nD Cert.KernelUpdxIdeal.τ).loc Cert.KernelUpdxIdeal.main_arg0)
      ∧ r.2.mem ((c.tc : Thread Cert.KernelUpdxIdeal.nD Cert.KernelUpdxIdeal.τ).loc Cert.KernelUpdxIdeal.main_arg1) = m ((c.tc : Thread Cert.KernelUpdxIdeal.nD Cert.KernelUpdxIdeal.τ).loc Cert.KernelUpdxIdeal.main_arg1)
      ∧ r.2.mem ((c.tc : Thread Cert.KernelUpdxIdeal.nD Cert.KernelUpdxIdeal.τ).loc Cert.KernelUpdxIdeal.main_arg2) = m ((c.tc : Thread Cert.KernelUpdxIdeal.nD Cert.KernelUpdxIdeal.τ).loc Cert.KernelUpdxIdeal.main_arg2)
      ∧ r.2.mem ((c.tc : Thread Cert.KernelUpdxIdeal.nD Cert.KernelUpdxIdeal.τ).loc Cert.KernelUpdxIdeal.main_arg3) = m ((c.tc : Thread Cert.KernelUpdxIdeal.nD Cert.KernelUpdxIdeal.τ).loc Cert.KernelUpdxIdeal.main_arg3)
      ∧ r.2.mem ((c.tc : Thread Cert.KernelUpdxIdeal.nD Cert.KernelUpdxIdeal.τ).loc Cert.KernelUpdxIdeal.main_arg4) = m ((c.tc : Thread Cert.KernelUpdxIdeal.nD Cert.KernelUpdxIdeal.τ).loc Cert.KernelUpdxIdeal.main_arg4)
      ∧ r.2.mem ((c.tc : Thread Cert.KernelUpdxIdeal.nD Cert.KernelUpdxIdeal.τ).loc Cert.KernelUpdxIdeal.main_arg5) = m ((c.tc : Thread Cert.KernelUpdxIdeal.nD Cert.KernelUpdxIdeal.τ).loc Cert.KernelUpdxIdeal.main_arg5))
      ∧ r.2.sem = fun _ => 0)

def quiescent_ReferenceUpdxIdeal [hReferenceUpdxIdeal : Cert.ReferenceUpdxIdeal.Facts] : Prop :=
  ∀ (m : (ℓ : Loc Cert.ReferenceUpdxIdeal.nD Cert.ReferenceUpdxIdeal.τ Cert.ReferenceUpdxIdeal.sig) → Buf (Elt Ideal) ℓ) (g : Dev Cert.ReferenceUpdxIdeal.nD → PrngReg), Pre_ReferenceUpdxIdeal m →
    θ_run (Cert.ReferenceUpdxIdeal.defs (F := Ideal)) (onTc (τ := Cert.ReferenceUpdxIdeal.τ) (Cert.ReferenceUpdxIdeal.main (F := Ideal))) ⟨m, fun _ => 0, g⟩ (fun r => (∀ c : Dev Cert.ReferenceUpdxIdeal.nD,
      r.2.mem ((c.tc : Thread Cert.ReferenceUpdxIdeal.nD Cert.ReferenceUpdxIdeal.τ).loc Cert.ReferenceUpdxIdeal.main_arg0) = m ((c.tc : Thread Cert.ReferenceUpdxIdeal.nD Cert.ReferenceUpdxIdeal.τ).loc Cert.ReferenceUpdxIdeal.main_arg0)
      ∧ r.2.mem ((c.tc : Thread Cert.ReferenceUpdxIdeal.nD Cert.ReferenceUpdxIdeal.τ).loc Cert.ReferenceUpdxIdeal.main_arg1) = m ((c.tc : Thread Cert.ReferenceUpdxIdeal.nD Cert.ReferenceUpdxIdeal.τ).loc Cert.ReferenceUpdxIdeal.main_arg1)
      ∧ r.2.mem ((c.tc : Thread Cert.ReferenceUpdxIdeal.nD Cert.ReferenceUpdxIdeal.τ).loc Cert.ReferenceUpdxIdeal.main_arg2) = m ((c.tc : Thread Cert.ReferenceUpdxIdeal.nD Cert.ReferenceUpdxIdeal.τ).loc Cert.ReferenceUpdxIdeal.main_arg2)
      ∧ r.2.mem ((c.tc : Thread Cert.ReferenceUpdxIdeal.nD Cert.ReferenceUpdxIdeal.τ).loc Cert.ReferenceUpdxIdeal.main_arg3) = m ((c.tc : Thread Cert.ReferenceUpdxIdeal.nD Cert.ReferenceUpdxIdeal.τ).loc Cert.ReferenceUpdxIdeal.main_arg3)
      ∧ r.2.mem ((c.tc : Thread Cert.ReferenceUpdxIdeal.nD Cert.ReferenceUpdxIdeal.τ).loc Cert.ReferenceUpdxIdeal.main_arg4) = m ((c.tc : Thread Cert.ReferenceUpdxIdeal.nD Cert.ReferenceUpdxIdeal.τ).loc Cert.ReferenceUpdxIdeal.main_arg4)
      ∧ r.2.mem ((c.tc : Thread Cert.ReferenceUpdxIdeal.nD Cert.ReferenceUpdxIdeal.τ).loc Cert.ReferenceUpdxIdeal.main_arg5) = m ((c.tc : Thread Cert.ReferenceUpdxIdeal.nD Cert.ReferenceUpdxIdeal.τ).loc Cert.ReferenceUpdxIdeal.main_arg5))
      ∧ r.2.sem = fun _ => 0)

def quiescent_ReferenceUpdxIdeal_pre_finite_updx [hReferenceUpdxIdeal : Cert.ReferenceUpdxIdeal.Facts] [hPre_finite_updx : Cert.Pre_finite_updx.Facts] : Prop :=
  ∀ (m : (ℓ : Loc Cert.ReferenceUpdxIdeal.nD Cert.ReferenceUpdxIdeal.τ Cert.ReferenceUpdxIdeal.sig) → Buf (Elt Ideal) ℓ) (g : Dev Cert.ReferenceUpdxIdeal.nD → PrngReg), Pre_ReferenceUpdxIdeal_finite_updx m →
    θ_run (Cert.ReferenceUpdxIdeal.defs (F := Ideal)) (onTc (τ := Cert.ReferenceUpdxIdeal.τ) (Cert.ReferenceUpdxIdeal.main (F := Ideal))) ⟨m, fun _ => 0, g⟩ (fun r => (∀ c : Dev Cert.ReferenceUpdxIdeal.nD,
      r.2.mem ((c.tc : Thread Cert.ReferenceUpdxIdeal.nD Cert.ReferenceUpdxIdeal.τ).loc Cert.ReferenceUpdxIdeal.main_arg0) = m ((c.tc : Thread Cert.ReferenceUpdxIdeal.nD Cert.ReferenceUpdxIdeal.τ).loc Cert.ReferenceUpdxIdeal.main_arg0)
      ∧ r.2.mem ((c.tc : Thread Cert.ReferenceUpdxIdeal.nD Cert.ReferenceUpdxIdeal.τ).loc Cert.ReferenceUpdxIdeal.main_arg1) = m ((c.tc : Thread Cert.ReferenceUpdxIdeal.nD Cert.ReferenceUpdxIdeal.τ).loc Cert.ReferenceUpdxIdeal.main_arg1)
      ∧ r.2.mem ((c.tc : Thread Cert.ReferenceUpdxIdeal.nD Cert.ReferenceUpdxIdeal.τ).loc Cert.ReferenceUpdxIdeal.main_arg2) = m ((c.tc : Thread Cert.ReferenceUpdxIdeal.nD Cert.ReferenceUpdxIdeal.τ).loc Cert.ReferenceUpdxIdeal.main_arg2)
      ∧ r.2.mem ((c.tc : Thread Cert.ReferenceUpdxIdeal.nD Cert.ReferenceUpdxIdeal.τ).loc Cert.ReferenceUpdxIdeal.main_arg3) = m ((c.tc : Thread Cert.ReferenceUpdxIdeal.nD Cert.ReferenceUpdxIdeal.τ).loc Cert.ReferenceUpdxIdeal.main_arg3)
      ∧ r.2.mem ((c.tc : Thread Cert.ReferenceUpdxIdeal.nD Cert.ReferenceUpdxIdeal.τ).loc Cert.ReferenceUpdxIdeal.main_arg4) = m ((c.tc : Thread Cert.ReferenceUpdxIdeal.nD Cert.ReferenceUpdxIdeal.τ).loc Cert.ReferenceUpdxIdeal.main_arg4)
      ∧ r.2.mem ((c.tc : Thread Cert.ReferenceUpdxIdeal.nD Cert.ReferenceUpdxIdeal.τ).loc Cert.ReferenceUpdxIdeal.main_arg5) = m ((c.tc : Thread Cert.ReferenceUpdxIdeal.nD Cert.ReferenceUpdxIdeal.τ).loc Cert.ReferenceUpdxIdeal.main_arg5))
      ∧ r.2.sem = fun _ => 0)

def quiescent_KernelIndx [hKernelIndx : Cert.KernelIndx.Facts] : Prop :=
  ∀ (m : (ℓ : Loc Cert.KernelIndx.nD Cert.KernelIndx.τ Cert.KernelIndx.sig) → Buf (Elt Bits) ℓ) (g : Dev Cert.KernelIndx.nD → PrngReg), Pre_KernelIndx m →
    θ_run (Cert.KernelIndx.defs (F := Bits)) (onTc (τ := Cert.KernelIndx.τ) (Cert.KernelIndx.main (F := Bits))) ⟨m, fun _ => 0, g⟩ (fun r => (∀ c : Dev Cert.KernelIndx.nD,
      r.2.mem ((c.tc : Thread Cert.KernelIndx.nD Cert.KernelIndx.τ).loc Cert.KernelIndx.main_arg0) = m ((c.tc : Thread Cert.KernelIndx.nD Cert.KernelIndx.τ).loc Cert.KernelIndx.main_arg0)
      ∧ r.2.mem ((c.tc : Thread Cert.KernelIndx.nD Cert.KernelIndx.τ).loc Cert.KernelIndx.main_arg1) = m ((c.tc : Thread Cert.KernelIndx.nD Cert.KernelIndx.τ).loc Cert.KernelIndx.main_arg1)
      ∧ r.2.mem ((c.tc : Thread Cert.KernelIndx.nD Cert.KernelIndx.τ).loc Cert.KernelIndx.main_arg2) = m ((c.tc : Thread Cert.KernelIndx.nD Cert.KernelIndx.τ).loc Cert.KernelIndx.main_arg2)
      ∧ r.2.mem ((c.tc : Thread Cert.KernelIndx.nD Cert.KernelIndx.τ).loc Cert.KernelIndx.main_arg3) = m ((c.tc : Thread Cert.KernelIndx.nD Cert.KernelIndx.τ).loc Cert.KernelIndx.main_arg3)
      ∧ r.2.mem ((c.tc : Thread Cert.KernelIndx.nD Cert.KernelIndx.τ).loc Cert.KernelIndx.main_arg4) = m ((c.tc : Thread Cert.KernelIndx.nD Cert.KernelIndx.τ).loc Cert.KernelIndx.main_arg4))
      ∧ r.2.sem = fun _ => 0)

def quiescent_KernelIndxIdeal [hKernelIndxIdeal : Cert.KernelIndxIdeal.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg), Pre_KernelIndxIdeal m →
    θ_run (Cert.KernelIndxIdeal.defs (F := Ideal)) (onTc (τ := Cert.KernelIndxIdeal.τ) (Cert.KernelIndxIdeal.main (F := Ideal))) ⟨m, fun _ => 0, g⟩ (fun r => (∀ c : Dev Cert.KernelIndxIdeal.nD,
      r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
      ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
      ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
      ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
      ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4))
      ∧ r.2.sem = fun _ => 0)

def quiescent_KernelIndxIdeal_pre_finite_indx [hKernelIndxIdeal : Cert.KernelIndxIdeal.Facts] [hPre_finite_indx : Cert.Pre_finite_indx.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg), Pre_KernelIndxIdeal_finite_indx m →
    θ_run (Cert.KernelIndxIdeal.defs (F := Ideal)) (onTc (τ := Cert.KernelIndxIdeal.τ) (Cert.KernelIndxIdeal.main (F := Ideal))) ⟨m, fun _ => 0, g⟩ (fun r => (∀ c : Dev Cert.KernelIndxIdeal.nD,
      r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
      ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
      ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
      ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
      ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4))
      ∧ r.2.sem = fun _ => 0)

def quiescent_ReferenceIndxIdeal [hReferenceIndxIdeal : Cert.ReferenceIndxIdeal.Facts] : Prop :=
  ∀ (m : (ℓ : Loc Cert.ReferenceIndxIdeal.nD Cert.ReferenceIndxIdeal.τ Cert.ReferenceIndxIdeal.sig) → Buf (Elt Ideal) ℓ) (g : Dev Cert.ReferenceIndxIdeal.nD → PrngReg), Pre_ReferenceIndxIdeal m →
    θ_run (Cert.ReferenceIndxIdeal.defs (F := Ideal)) (onTc (τ := Cert.ReferenceIndxIdeal.τ) (Cert.ReferenceIndxIdeal.main (F := Ideal))) ⟨m, fun _ => 0, g⟩ (fun r => (∀ c : Dev Cert.ReferenceIndxIdeal.nD,
      r.2.mem ((c.tc : Thread Cert.ReferenceIndxIdeal.nD Cert.ReferenceIndxIdeal.τ).loc Cert.ReferenceIndxIdeal.main_arg0) = m ((c.tc : Thread Cert.ReferenceIndxIdeal.nD Cert.ReferenceIndxIdeal.τ).loc Cert.ReferenceIndxIdeal.main_arg0)
      ∧ r.2.mem ((c.tc : Thread Cert.ReferenceIndxIdeal.nD Cert.ReferenceIndxIdeal.τ).loc Cert.ReferenceIndxIdeal.main_arg1) = m ((c.tc : Thread Cert.ReferenceIndxIdeal.nD Cert.ReferenceIndxIdeal.τ).loc Cert.ReferenceIndxIdeal.main_arg1)
      ∧ r.2.mem ((c.tc : Thread Cert.ReferenceIndxIdeal.nD Cert.ReferenceIndxIdeal.τ).loc Cert.ReferenceIndxIdeal.main_arg2) = m ((c.tc : Thread Cert.ReferenceIndxIdeal.nD Cert.ReferenceIndxIdeal.τ).loc Cert.ReferenceIndxIdeal.main_arg2)
      ∧ r.2.mem ((c.tc : Thread Cert.ReferenceIndxIdeal.nD Cert.ReferenceIndxIdeal.τ).loc Cert.ReferenceIndxIdeal.main_arg3) = m ((c.tc : Thread Cert.ReferenceIndxIdeal.nD Cert.ReferenceIndxIdeal.τ).loc Cert.ReferenceIndxIdeal.main_arg3)
      ∧ r.2.mem ((c.tc : Thread Cert.ReferenceIndxIdeal.nD Cert.ReferenceIndxIdeal.τ).loc Cert.ReferenceIndxIdeal.main_arg4) = m ((c.tc : Thread Cert.ReferenceIndxIdeal.nD Cert.ReferenceIndxIdeal.τ).loc Cert.ReferenceIndxIdeal.main_arg4))
      ∧ r.2.sem = fun _ => 0)

def quiescent_ReferenceIndxIdeal_pre_finite_indx [hReferenceIndxIdeal : Cert.ReferenceIndxIdeal.Facts] [hPre_finite_indx : Cert.Pre_finite_indx.Facts] : Prop :=
  ∀ (m : (ℓ : Loc Cert.ReferenceIndxIdeal.nD Cert.ReferenceIndxIdeal.τ Cert.ReferenceIndxIdeal.sig) → Buf (Elt Ideal) ℓ) (g : Dev Cert.ReferenceIndxIdeal.nD → PrngReg), Pre_ReferenceIndxIdeal_finite_indx m →
    θ_run (Cert.ReferenceIndxIdeal.defs (F := Ideal)) (onTc (τ := Cert.ReferenceIndxIdeal.τ) (Cert.ReferenceIndxIdeal.main (F := Ideal))) ⟨m, fun _ => 0, g⟩ (fun r => (∀ c : Dev Cert.ReferenceIndxIdeal.nD,
      r.2.mem ((c.tc : Thread Cert.ReferenceIndxIdeal.nD Cert.ReferenceIndxIdeal.τ).loc Cert.ReferenceIndxIdeal.main_arg0) = m ((c.tc : Thread Cert.ReferenceIndxIdeal.nD Cert.ReferenceIndxIdeal.τ).loc Cert.ReferenceIndxIdeal.main_arg0)
      ∧ r.2.mem ((c.tc : Thread Cert.ReferenceIndxIdeal.nD Cert.ReferenceIndxIdeal.τ).loc Cert.ReferenceIndxIdeal.main_arg1) = m ((c.tc : Thread Cert.ReferenceIndxIdeal.nD Cert.ReferenceIndxIdeal.τ).loc Cert.ReferenceIndxIdeal.main_arg1)
      ∧ r.2.mem ((c.tc : Thread Cert.ReferenceIndxIdeal.nD Cert.ReferenceIndxIdeal.τ).loc Cert.ReferenceIndxIdeal.main_arg2) = m ((c.tc : Thread Cert.ReferenceIndxIdeal.nD Cert.ReferenceIndxIdeal.τ).loc Cert.ReferenceIndxIdeal.main_arg2)
      ∧ r.2.mem ((c.tc : Thread Cert.ReferenceIndxIdeal.nD Cert.ReferenceIndxIdeal.τ).loc Cert.ReferenceIndxIdeal.main_arg3) = m ((c.tc : Thread Cert.ReferenceIndxIdeal.nD Cert.ReferenceIndxIdeal.τ).loc Cert.ReferenceIndxIdeal.main_arg3)
      ∧ r.2.mem ((c.tc : Thread Cert.ReferenceIndxIdeal.nD Cert.ReferenceIndxIdeal.τ).loc Cert.ReferenceIndxIdeal.main_arg4) = m ((c.tc : Thread Cert.ReferenceIndxIdeal.nD Cert.ReferenceIndxIdeal.τ).loc Cert.ReferenceIndxIdeal.main_arg4))
      ∧ r.2.sem = fun _ => 0)

def quiescent_KernelRmsf [hKernelRmsf : Cert.KernelRmsf.Facts] : Prop :=
  ∀ (m : (ℓ : Loc Cert.KernelRmsf.nD Cert.KernelRmsf.τ Cert.KernelRmsf.sig) → Buf (Elt Bits) ℓ) (g : Dev Cert.KernelRmsf.nD → PrngReg), Pre_KernelRmsf m →
    θ_run (Cert.KernelRmsf.defs (F := Bits)) (onTc (τ := Cert.KernelRmsf.τ) (Cert.KernelRmsf.main (F := Bits))) ⟨m, fun _ => 0, g⟩ (fun r => (∀ c : Dev Cert.KernelRmsf.nD,
      r.2.mem ((c.tc : Thread Cert.KernelRmsf.nD Cert.KernelRmsf.τ).loc Cert.KernelRmsf.main_arg0) = m ((c.tc : Thread Cert.KernelRmsf.nD Cert.KernelRmsf.τ).loc Cert.KernelRmsf.main_arg0)
      ∧ r.2.mem ((c.tc : Thread Cert.KernelRmsf.nD Cert.KernelRmsf.τ).loc Cert.KernelRmsf.main_arg1) = m ((c.tc : Thread Cert.KernelRmsf.nD Cert.KernelRmsf.τ).loc Cert.KernelRmsf.main_arg1))
      ∧ r.2.sem = fun _ => 0)

def quiescent_KernelRmsfIdeal [hKernelRmsfIdeal : Cert.KernelRmsfIdeal.Facts] : Prop :=
  ∀ (m : (ℓ : Loc Cert.KernelRmsfIdeal.nD Cert.KernelRmsfIdeal.τ Cert.KernelRmsfIdeal.sig) → Buf (Elt Ideal) ℓ) (g : Dev Cert.KernelRmsfIdeal.nD → PrngReg), Pre_KernelRmsfIdeal m →
    θ_run (Cert.KernelRmsfIdeal.defs (F := Ideal)) (onTc (τ := Cert.KernelRmsfIdeal.τ) (Cert.KernelRmsfIdeal.main (F := Ideal))) ⟨m, fun _ => 0, g⟩ (fun r => (∀ c : Dev Cert.KernelRmsfIdeal.nD,
      r.2.mem ((c.tc : Thread Cert.KernelRmsfIdeal.nD Cert.KernelRmsfIdeal.τ).loc Cert.KernelRmsfIdeal.main_arg0) = m ((c.tc : Thread Cert.KernelRmsfIdeal.nD Cert.KernelRmsfIdeal.τ).loc Cert.KernelRmsfIdeal.main_arg0)
      ∧ r.2.mem ((c.tc : Thread Cert.KernelRmsfIdeal.nD Cert.KernelRmsfIdeal.τ).loc Cert.KernelRmsfIdeal.main_arg1) = m ((c.tc : Thread Cert.KernelRmsfIdeal.nD Cert.KernelRmsfIdeal.τ).loc Cert.KernelRmsfIdeal.main_arg1))
      ∧ r.2.sem = fun _ => 0)

def quiescent_ReferenceRmsfIdeal [hReferenceRmsfIdeal : Cert.ReferenceRmsfIdeal.Facts] : Prop :=
  ∀ (m : (ℓ : Loc Cert.ReferenceRmsfIdeal.nD Cert.ReferenceRmsfIdeal.τ Cert.ReferenceRmsfIdeal.sig) → Buf (Elt Ideal) ℓ) (g : Dev Cert.ReferenceRmsfIdeal.nD → PrngReg), Pre_ReferenceRmsfIdeal m →
    θ_run (Cert.ReferenceRmsfIdeal.defs (F := Ideal)) (onTc (τ := Cert.ReferenceRmsfIdeal.τ) (Cert.ReferenceRmsfIdeal.main (F := Ideal))) ⟨m, fun _ => 0, g⟩ (fun r => (∀ c : Dev Cert.ReferenceRmsfIdeal.nD,
      r.2.mem ((c.tc : Thread Cert.ReferenceRmsfIdeal.nD Cert.ReferenceRmsfIdeal.τ).loc Cert.ReferenceRmsfIdeal.main_arg0) = m ((c.tc : Thread Cert.ReferenceRmsfIdeal.nD Cert.ReferenceRmsfIdeal.τ).loc Cert.ReferenceRmsfIdeal.main_arg0)
      ∧ r.2.mem ((c.tc : Thread Cert.ReferenceRmsfIdeal.nD Cert.ReferenceRmsfIdeal.τ).loc Cert.ReferenceRmsfIdeal.main_arg1) = m ((c.tc : Thread Cert.ReferenceRmsfIdeal.nD Cert.ReferenceRmsfIdeal.τ).loc Cert.ReferenceRmsfIdeal.main_arg1))
      ∧ r.2.sem = fun _ => 0)

def quiescent_KernelRmsm [hKernelRmsm : Cert.KernelRmsm.Facts] : Prop :=
  ∀ (m : (ℓ : Loc Cert.KernelRmsm.nD Cert.KernelRmsm.τ Cert.KernelRmsm.sig) → Buf (Elt Bits) ℓ) (g : Dev Cert.KernelRmsm.nD → PrngReg), Pre_KernelRmsm m →
    θ_run (Cert.KernelRmsm.defs (F := Bits)) (onTc (τ := Cert.KernelRmsm.τ) (Cert.KernelRmsm.main (F := Bits))) ⟨m, fun _ => 0, g⟩ (fun r => (∀ c : Dev Cert.KernelRmsm.nD,
      r.2.mem ((c.tc : Thread Cert.KernelRmsm.nD Cert.KernelRmsm.τ).loc Cert.KernelRmsm.main_arg0) = m ((c.tc : Thread Cert.KernelRmsm.nD Cert.KernelRmsm.τ).loc Cert.KernelRmsm.main_arg0)
      ∧ r.2.mem ((c.tc : Thread Cert.KernelRmsm.nD Cert.KernelRmsm.τ).loc Cert.KernelRmsm.main_arg1) = m ((c.tc : Thread Cert.KernelRmsm.nD Cert.KernelRmsm.τ).loc Cert.KernelRmsm.main_arg1))
      ∧ r.2.sem = fun _ => 0)

def quiescent_KernelRmsmIdeal [hKernelRmsmIdeal : Cert.KernelRmsmIdeal.Facts] : Prop :=
  ∀ (m : (ℓ : Loc Cert.KernelRmsmIdeal.nD Cert.KernelRmsmIdeal.τ Cert.KernelRmsmIdeal.sig) → Buf (Elt Ideal) ℓ) (g : Dev Cert.KernelRmsmIdeal.nD → PrngReg), Pre_KernelRmsmIdeal m →
    θ_run (Cert.KernelRmsmIdeal.defs (F := Ideal)) (onTc (τ := Cert.KernelRmsmIdeal.τ) (Cert.KernelRmsmIdeal.main (F := Ideal))) ⟨m, fun _ => 0, g⟩ (fun r => (∀ c : Dev Cert.KernelRmsmIdeal.nD,
      r.2.mem ((c.tc : Thread Cert.KernelRmsmIdeal.nD Cert.KernelRmsmIdeal.τ).loc Cert.KernelRmsmIdeal.main_arg0) = m ((c.tc : Thread Cert.KernelRmsmIdeal.nD Cert.KernelRmsmIdeal.τ).loc Cert.KernelRmsmIdeal.main_arg0)
      ∧ r.2.mem ((c.tc : Thread Cert.KernelRmsmIdeal.nD Cert.KernelRmsmIdeal.τ).loc Cert.KernelRmsmIdeal.main_arg1) = m ((c.tc : Thread Cert.KernelRmsmIdeal.nD Cert.KernelRmsmIdeal.τ).loc Cert.KernelRmsmIdeal.main_arg1))
      ∧ r.2.sem = fun _ => 0)

def quiescent_ReferenceRmsmIdeal [hReferenceRmsmIdeal : Cert.ReferenceRmsmIdeal.Facts] : Prop :=
  ∀ (m : (ℓ : Loc Cert.ReferenceRmsmIdeal.nD Cert.ReferenceRmsmIdeal.τ Cert.ReferenceRmsmIdeal.sig) → Buf (Elt Ideal) ℓ) (g : Dev Cert.ReferenceRmsmIdeal.nD → PrngReg), Pre_ReferenceRmsmIdeal m →
    θ_run (Cert.ReferenceRmsmIdeal.defs (F := Ideal)) (onTc (τ := Cert.ReferenceRmsmIdeal.τ) (Cert.ReferenceRmsmIdeal.main (F := Ideal))) ⟨m, fun _ => 0, g⟩ (fun r => (∀ c : Dev Cert.ReferenceRmsmIdeal.nD,
      r.2.mem ((c.tc : Thread Cert.ReferenceRmsmIdeal.nD Cert.ReferenceRmsmIdeal.τ).loc Cert.ReferenceRmsmIdeal.main_arg0) = m ((c.tc : Thread Cert.ReferenceRmsmIdeal.nD Cert.ReferenceRmsmIdeal.τ).loc Cert.ReferenceRmsmIdeal.main_arg0)
      ∧ r.2.mem ((c.tc : Thread Cert.ReferenceRmsmIdeal.nD Cert.ReferenceRmsmIdeal.τ).loc Cert.ReferenceRmsmIdeal.main_arg1) = m ((c.tc : Thread Cert.ReferenceRmsmIdeal.nD Cert.ReferenceRmsmIdeal.τ).loc Cert.ReferenceRmsmIdeal.main_arg1))
      ∧ r.2.sem = fun _ => 0)

def quiescent_KernelAdgain [hKernelAdgain : Cert.KernelAdgain.Facts] : Prop :=
  ∀ (m : (ℓ : Loc Cert.KernelAdgain.nD Cert.KernelAdgain.τ Cert.KernelAdgain.sig) → Buf (Elt Bits) ℓ) (g : Dev Cert.KernelAdgain.nD → PrngReg), Pre_KernelAdgain m →
    θ_run (Cert.KernelAdgain.defs (F := Bits)) (onTc (τ := Cert.KernelAdgain.τ) (Cert.KernelAdgain.main (F := Bits))) ⟨m, fun _ => 0, g⟩ (fun r => (∀ c : Dev Cert.KernelAdgain.nD,
      r.2.mem ((c.tc : Thread Cert.KernelAdgain.nD Cert.KernelAdgain.τ).loc Cert.KernelAdgain.main_arg0) = m ((c.tc : Thread Cert.KernelAdgain.nD Cert.KernelAdgain.τ).loc Cert.KernelAdgain.main_arg0)
      ∧ r.2.mem ((c.tc : Thread Cert.KernelAdgain.nD Cert.KernelAdgain.τ).loc Cert.KernelAdgain.main_arg1) = m ((c.tc : Thread Cert.KernelAdgain.nD Cert.KernelAdgain.τ).loc Cert.KernelAdgain.main_arg1)
      ∧ r.2.mem ((c.tc : Thread Cert.KernelAdgain.nD Cert.KernelAdgain.τ).loc Cert.KernelAdgain.main_arg2) = m ((c.tc : Thread Cert.KernelAdgain.nD Cert.KernelAdgain.τ).loc Cert.KernelAdgain.main_arg2)
      ∧ r.2.mem ((c.tc : Thread Cert.KernelAdgain.nD Cert.KernelAdgain.τ).loc Cert.KernelAdgain.main_arg3) = m ((c.tc : Thread Cert.KernelAdgain.nD Cert.KernelAdgain.τ).loc Cert.KernelAdgain.main_arg3))
      ∧ r.2.sem = fun _ => 0)

def quiescent_KernelAdgainIdeal [hKernelAdgainIdeal : Cert.KernelAdgainIdeal.Facts] : Prop :=
  ∀ (m : (ℓ : Loc Cert.KernelAdgainIdeal.nD Cert.KernelAdgainIdeal.τ Cert.KernelAdgainIdeal.sig) → Buf (Elt Ideal) ℓ) (g : Dev Cert.KernelAdgainIdeal.nD → PrngReg), Pre_KernelAdgainIdeal m →
    θ_run (Cert.KernelAdgainIdeal.defs (F := Ideal)) (onTc (τ := Cert.KernelAdgainIdeal.τ) (Cert.KernelAdgainIdeal.main (F := Ideal))) ⟨m, fun _ => 0, g⟩ (fun r => (∀ c : Dev Cert.KernelAdgainIdeal.nD,
      r.2.mem ((c.tc : Thread Cert.KernelAdgainIdeal.nD Cert.KernelAdgainIdeal.τ).loc Cert.KernelAdgainIdeal.main_arg0) = m ((c.tc : Thread Cert.KernelAdgainIdeal.nD Cert.KernelAdgainIdeal.τ).loc Cert.KernelAdgainIdeal.main_arg0)
      ∧ r.2.mem ((c.tc : Thread Cert.KernelAdgainIdeal.nD Cert.KernelAdgainIdeal.τ).loc Cert.KernelAdgainIdeal.main_arg1) = m ((c.tc : Thread Cert.KernelAdgainIdeal.nD Cert.KernelAdgainIdeal.τ).loc Cert.KernelAdgainIdeal.main_arg1)
      ∧ r.2.mem ((c.tc : Thread Cert.KernelAdgainIdeal.nD Cert.KernelAdgainIdeal.τ).loc Cert.KernelAdgainIdeal.main_arg2) = m ((c.tc : Thread Cert.KernelAdgainIdeal.nD Cert.KernelAdgainIdeal.τ).loc Cert.KernelAdgainIdeal.main_arg2)
      ∧ r.2.mem ((c.tc : Thread Cert.KernelAdgainIdeal.nD Cert.KernelAdgainIdeal.τ).loc Cert.KernelAdgainIdeal.main_arg3) = m ((c.tc : Thread Cert.KernelAdgainIdeal.nD Cert.KernelAdgainIdeal.τ).loc Cert.KernelAdgainIdeal.main_arg3))
      ∧ r.2.sem = fun _ => 0)

def quiescent_ReferenceAdgainIdeal [hReferenceAdgainIdeal : Cert.ReferenceAdgainIdeal.Facts] : Prop :=
  ∀ (m : (ℓ : Loc Cert.ReferenceAdgainIdeal.nD Cert.ReferenceAdgainIdeal.τ Cert.ReferenceAdgainIdeal.sig) → Buf (Elt Ideal) ℓ) (g : Dev Cert.ReferenceAdgainIdeal.nD → PrngReg), Pre_ReferenceAdgainIdeal m →
    θ_run (Cert.ReferenceAdgainIdeal.defs (F := Ideal)) (onTc (τ := Cert.ReferenceAdgainIdeal.τ) (Cert.ReferenceAdgainIdeal.main (F := Ideal))) ⟨m, fun _ => 0, g⟩ (fun r => (∀ c : Dev Cert.ReferenceAdgainIdeal.nD,
      r.2.mem ((c.tc : Thread Cert.ReferenceAdgainIdeal.nD Cert.ReferenceAdgainIdeal.τ).loc Cert.ReferenceAdgainIdeal.main_arg0) = m ((c.tc : Thread Cert.ReferenceAdgainIdeal.nD Cert.ReferenceAdgainIdeal.τ).loc Cert.ReferenceAdgainIdeal.main_arg0)
      ∧ r.2.mem ((c.tc : Thread Cert.ReferenceAdgainIdeal.nD Cert.ReferenceAdgainIdeal.τ).loc Cert.ReferenceAdgainIdeal.main_arg1) = m ((c.tc : Thread Cert.ReferenceAdgainIdeal.nD Cert.ReferenceAdgainIdeal.τ).loc Cert.ReferenceAdgainIdeal.main_arg1)
      ∧ r.2.mem ((c.tc : Thread Cert.ReferenceAdgainIdeal.nD Cert.ReferenceAdgainIdeal.τ).loc Cert.ReferenceAdgainIdeal.main_arg2) = m ((c.tc : Thread Cert.ReferenceAdgainIdeal.nD Cert.ReferenceAdgainIdeal.τ).loc Cert.ReferenceAdgainIdeal.main_arg2)
      ∧ r.2.mem ((c.tc : Thread Cert.ReferenceAdgainIdeal.nD Cert.ReferenceAdgainIdeal.τ).loc Cert.ReferenceAdgainIdeal.main_arg3) = m ((c.tc : Thread Cert.ReferenceAdgainIdeal.nD Cert.ReferenceAdgainIdeal.τ).loc Cert.ReferenceAdgainIdeal.main_arg3))
      ∧ r.2.sem = fun _ => 0)

def quiescent_KernelAdfinal [hKernelAdfinal : Cert.KernelAdfinal.Facts] : Prop :=
  ∀ (m : (ℓ : Loc Cert.KernelAdfinal.nD Cert.KernelAdfinal.τ Cert.KernelAdfinal.sig) → Buf (Elt Bits) ℓ) (g : Dev Cert.KernelAdfinal.nD → PrngReg), Pre_KernelAdfinal m →
    θ_run (Cert.KernelAdfinal.defs (F := Bits)) (onTc (τ := Cert.KernelAdfinal.τ) (Cert.KernelAdfinal.main (F := Bits))) ⟨m, fun _ => 0, g⟩ (fun r => (∀ c : Dev Cert.KernelAdfinal.nD,
      r.2.mem ((c.tc : Thread Cert.KernelAdfinal.nD Cert.KernelAdfinal.τ).loc Cert.KernelAdfinal.main_arg0) = m ((c.tc : Thread Cert.KernelAdfinal.nD Cert.KernelAdfinal.τ).loc Cert.KernelAdfinal.main_arg0)
      ∧ r.2.mem ((c.tc : Thread Cert.KernelAdfinal.nD Cert.KernelAdfinal.τ).loc Cert.KernelAdfinal.main_arg1) = m ((c.tc : Thread Cert.KernelAdfinal.nD Cert.KernelAdfinal.τ).loc Cert.KernelAdfinal.main_arg1)
      ∧ r.2.mem ((c.tc : Thread Cert.KernelAdfinal.nD Cert.KernelAdfinal.τ).loc Cert.KernelAdfinal.main_arg2) = m ((c.tc : Thread Cert.KernelAdfinal.nD Cert.KernelAdfinal.τ).loc Cert.KernelAdfinal.main_arg2)
      ∧ r.2.mem ((c.tc : Thread Cert.KernelAdfinal.nD Cert.KernelAdfinal.τ).loc Cert.KernelAdfinal.main_arg3) = m ((c.tc : Thread Cert.KernelAdfinal.nD Cert.KernelAdfinal.τ).loc Cert.KernelAdfinal.main_arg3))
      ∧ r.2.sem = fun _ => 0)

def quiescent_KernelAdfinalIdeal [hKernelAdfinalIdeal : Cert.KernelAdfinalIdeal.Facts] : Prop :=
  ∀ (m : (ℓ : Loc Cert.KernelAdfinalIdeal.nD Cert.KernelAdfinalIdeal.τ Cert.KernelAdfinalIdeal.sig) → Buf (Elt Ideal) ℓ) (g : Dev Cert.KernelAdfinalIdeal.nD → PrngReg), Pre_KernelAdfinalIdeal m →
    θ_run (Cert.KernelAdfinalIdeal.defs (F := Ideal)) (onTc (τ := Cert.KernelAdfinalIdeal.τ) (Cert.KernelAdfinalIdeal.main (F := Ideal))) ⟨m, fun _ => 0, g⟩ (fun r => (∀ c : Dev Cert.KernelAdfinalIdeal.nD,
      r.2.mem ((c.tc : Thread Cert.KernelAdfinalIdeal.nD Cert.KernelAdfinalIdeal.τ).loc Cert.KernelAdfinalIdeal.main_arg0) = m ((c.tc : Thread Cert.KernelAdfinalIdeal.nD Cert.KernelAdfinalIdeal.τ).loc Cert.KernelAdfinalIdeal.main_arg0)
      ∧ r.2.mem ((c.tc : Thread Cert.KernelAdfinalIdeal.nD Cert.KernelAdfinalIdeal.τ).loc Cert.KernelAdfinalIdeal.main_arg1) = m ((c.tc : Thread Cert.KernelAdfinalIdeal.nD Cert.KernelAdfinalIdeal.τ).loc Cert.KernelAdfinalIdeal.main_arg1)
      ∧ r.2.mem ((c.tc : Thread Cert.KernelAdfinalIdeal.nD Cert.KernelAdfinalIdeal.τ).loc Cert.KernelAdfinalIdeal.main_arg2) = m ((c.tc : Thread Cert.KernelAdfinalIdeal.nD Cert.KernelAdfinalIdeal.τ).loc Cert.KernelAdfinalIdeal.main_arg2)
      ∧ r.2.mem ((c.tc : Thread Cert.KernelAdfinalIdeal.nD Cert.KernelAdfinalIdeal.τ).loc Cert.KernelAdfinalIdeal.main_arg3) = m ((c.tc : Thread Cert.KernelAdfinalIdeal.nD Cert.KernelAdfinalIdeal.τ).loc Cert.KernelAdfinalIdeal.main_arg3))
      ∧ r.2.sem = fun _ => 0)

def quiescent_ReferenceAdfinalIdeal [hReferenceAdfinalIdeal : Cert.ReferenceAdfinalIdeal.Facts] : Prop :=
  ∀ (m : (ℓ : Loc Cert.ReferenceAdfinalIdeal.nD Cert.ReferenceAdfinalIdeal.τ Cert.ReferenceAdfinalIdeal.sig) → Buf (Elt Ideal) ℓ) (g : Dev Cert.ReferenceAdfinalIdeal.nD → PrngReg), Pre_ReferenceAdfinalIdeal m →
    θ_run (Cert.ReferenceAdfinalIdeal.defs (F := Ideal)) (onTc (τ := Cert.ReferenceAdfinalIdeal.τ) (Cert.ReferenceAdfinalIdeal.main (F := Ideal))) ⟨m, fun _ => 0, g⟩ (fun r => (∀ c : Dev Cert.ReferenceAdfinalIdeal.nD,
      r.2.mem ((c.tc : Thread Cert.ReferenceAdfinalIdeal.nD Cert.ReferenceAdfinalIdeal.τ).loc Cert.ReferenceAdfinalIdeal.main_arg0) = m ((c.tc : Thread Cert.ReferenceAdfinalIdeal.nD Cert.ReferenceAdfinalIdeal.τ).loc Cert.ReferenceAdfinalIdeal.main_arg0)
      ∧ r.2.mem ((c.tc : Thread Cert.ReferenceAdfinalIdeal.nD Cert.ReferenceAdfinalIdeal.τ).loc Cert.ReferenceAdfinalIdeal.main_arg1) = m ((c.tc : Thread Cert.ReferenceAdfinalIdeal.nD Cert.ReferenceAdfinalIdeal.τ).loc Cert.ReferenceAdfinalIdeal.main_arg1)
      ∧ r.2.mem ((c.tc : Thread Cert.ReferenceAdfinalIdeal.nD Cert.ReferenceAdfinalIdeal.τ).loc Cert.ReferenceAdfinalIdeal.main_arg2) = m ((c.tc : Thread Cert.ReferenceAdfinalIdeal.nD Cert.ReferenceAdfinalIdeal.τ).loc Cert.ReferenceAdfinalIdeal.main_arg2)
      ∧ r.2.mem ((c.tc : Thread Cert.ReferenceAdfinalIdeal.nD Cert.ReferenceAdfinalIdeal.τ).loc Cert.ReferenceAdfinalIdeal.main_arg3) = m ((c.tc : Thread Cert.ReferenceAdfinalIdeal.nD Cert.ReferenceAdfinalIdeal.τ).loc Cert.ReferenceAdfinalIdeal.main_arg3))
      ∧ r.2.sem = fun _ => 0)

def quiescent_KernelAdwin [hKernelAdwin : Cert.KernelAdwin.Facts] : Prop :=
  ∀ (m : (ℓ : Loc Cert.KernelAdwin.nD Cert.KernelAdwin.τ Cert.KernelAdwin.sig) → Buf (Elt Bits) ℓ) (g : Dev Cert.KernelAdwin.nD → PrngReg), Pre_KernelAdwin m →
    θ_run (Cert.KernelAdwin.defs (F := Bits)) (onTc (τ := Cert.KernelAdwin.τ) (Cert.KernelAdwin.main (F := Bits))) ⟨m, fun _ => 0, g⟩ (fun r => (∀ c : Dev Cert.KernelAdwin.nD,
      r.2.mem ((c.tc : Thread Cert.KernelAdwin.nD Cert.KernelAdwin.τ).loc Cert.KernelAdwin.main_arg0) = m ((c.tc : Thread Cert.KernelAdwin.nD Cert.KernelAdwin.τ).loc Cert.KernelAdwin.main_arg0)
      ∧ r.2.mem ((c.tc : Thread Cert.KernelAdwin.nD Cert.KernelAdwin.τ).loc Cert.KernelAdwin.main_arg1) = m ((c.tc : Thread Cert.KernelAdwin.nD Cert.KernelAdwin.τ).loc Cert.KernelAdwin.main_arg1)
      ∧ r.2.mem ((c.tc : Thread Cert.KernelAdwin.nD Cert.KernelAdwin.τ).loc Cert.KernelAdwin.main_arg2) = m ((c.tc : Thread Cert.KernelAdwin.nD Cert.KernelAdwin.τ).loc Cert.KernelAdwin.main_arg2)
      ∧ r.2.mem ((c.tc : Thread Cert.KernelAdwin.nD Cert.KernelAdwin.τ).loc Cert.KernelAdwin.main_arg3) = m ((c.tc : Thread Cert.KernelAdwin.nD Cert.KernelAdwin.τ).loc Cert.KernelAdwin.main_arg3))
      ∧ r.2.sem = fun _ => 0)

def quiescent_KernelAdwinIdeal [hKernelAdwinIdeal : Cert.KernelAdwinIdeal.Facts] : Prop :=
  ∀ (m : (ℓ : Loc Cert.KernelAdwinIdeal.nD Cert.KernelAdwinIdeal.τ Cert.KernelAdwinIdeal.sig) → Buf (Elt Ideal) ℓ) (g : Dev Cert.KernelAdwinIdeal.nD → PrngReg), Pre_KernelAdwinIdeal m →
    θ_run (Cert.KernelAdwinIdeal.defs (F := Ideal)) (onTc (τ := Cert.KernelAdwinIdeal.τ) (Cert.KernelAdwinIdeal.main (F := Ideal))) ⟨m, fun _ => 0, g⟩ (fun r => (∀ c : Dev Cert.KernelAdwinIdeal.nD,
      r.2.mem ((c.tc : Thread Cert.KernelAdwinIdeal.nD Cert.KernelAdwinIdeal.τ).loc Cert.KernelAdwinIdeal.main_arg0) = m ((c.tc : Thread Cert.KernelAdwinIdeal.nD Cert.KernelAdwinIdeal.τ).loc Cert.KernelAdwinIdeal.main_arg0)
      ∧ r.2.mem ((c.tc : Thread Cert.KernelAdwinIdeal.nD Cert.KernelAdwinIdeal.τ).loc Cert.KernelAdwinIdeal.main_arg1) = m ((c.tc : Thread Cert.KernelAdwinIdeal.nD Cert.KernelAdwinIdeal.τ).loc Cert.KernelAdwinIdeal.main_arg1)
      ∧ r.2.mem ((c.tc : Thread Cert.KernelAdwinIdeal.nD Cert.KernelAdwinIdeal.τ).loc Cert.KernelAdwinIdeal.main_arg2) = m ((c.tc : Thread Cert.KernelAdwinIdeal.nD Cert.KernelAdwinIdeal.τ).loc Cert.KernelAdwinIdeal.main_arg2)
      ∧ r.2.mem ((c.tc : Thread Cert.KernelAdwinIdeal.nD Cert.KernelAdwinIdeal.τ).loc Cert.KernelAdwinIdeal.main_arg3) = m ((c.tc : Thread Cert.KernelAdwinIdeal.nD Cert.KernelAdwinIdeal.τ).loc Cert.KernelAdwinIdeal.main_arg3))
      ∧ r.2.sem = fun _ => 0)

def quiescent_ReferenceAdwinIdeal [hReferenceAdwinIdeal : Cert.ReferenceAdwinIdeal.Facts] : Prop :=
  ∀ (m : (ℓ : Loc Cert.ReferenceAdwinIdeal.nD Cert.ReferenceAdwinIdeal.τ Cert.ReferenceAdwinIdeal.sig) → Buf (Elt Ideal) ℓ) (g : Dev Cert.ReferenceAdwinIdeal.nD → PrngReg), Pre_ReferenceAdwinIdeal m →
    θ_run (Cert.ReferenceAdwinIdeal.defs (F := Ideal)) (onTc (τ := Cert.ReferenceAdwinIdeal.τ) (Cert.ReferenceAdwinIdeal.main (F := Ideal))) ⟨m, fun _ => 0, g⟩ (fun r => (∀ c : Dev Cert.ReferenceAdwinIdeal.nD,
      r.2.mem ((c.tc : Thread Cert.ReferenceAdwinIdeal.nD Cert.ReferenceAdwinIdeal.τ).loc Cert.ReferenceAdwinIdeal.main_arg0) = m ((c.tc : Thread Cert.ReferenceAdwinIdeal.nD Cert.ReferenceAdwinIdeal.τ).loc Cert.ReferenceAdwinIdeal.main_arg0)
      ∧ r.2.mem ((c.tc : Thread Cert.ReferenceAdwinIdeal.nD Cert.ReferenceAdwinIdeal.τ).loc Cert.ReferenceAdwinIdeal.main_arg1) = m ((c.tc : Thread Cert.ReferenceAdwinIdeal.nD Cert.ReferenceAdwinIdeal.τ).loc Cert.ReferenceAdwinIdeal.main_arg1)
      ∧ r.2.mem ((c.tc : Thread Cert.ReferenceAdwinIdeal.nD Cert.ReferenceAdwinIdeal.τ).loc Cert.ReferenceAdwinIdeal.main_arg2) = m ((c.tc : Thread Cert.ReferenceAdwinIdeal.nD Cert.ReferenceAdwinIdeal.τ).loc Cert.ReferenceAdwinIdeal.main_arg2)
      ∧ r.2.mem ((c.tc : Thread Cert.ReferenceAdwinIdeal.nD Cert.ReferenceAdwinIdeal.τ).loc Cert.ReferenceAdwinIdeal.main_arg3) = m ((c.tc : Thread Cert.ReferenceAdwinIdeal.nD Cert.ReferenceAdwinIdeal.τ).loc Cert.ReferenceAdwinIdeal.main_arg3))
      ∧ r.2.sem = fun _ => 0)

def quiescent_KernelAdsgu [hKernelAdsgu : Cert.KernelAdsgu.Facts] : Prop :=
  ∀ (m : (ℓ : Loc Cert.KernelAdsgu.nD Cert.KernelAdsgu.τ Cert.KernelAdsgu.sig) → Buf (Elt Bits) ℓ) (g : Dev Cert.KernelAdsgu.nD → PrngReg), Pre_KernelAdsgu m →
    θ_run (Cert.KernelAdsgu.defs (F := Bits)) (onTc (τ := Cert.KernelAdsgu.τ) (Cert.KernelAdsgu.main (F := Bits))) ⟨m, fun _ => 0, g⟩ (fun r => (∀ c : Dev Cert.KernelAdsgu.nD,
      r.2.mem ((c.tc : Thread Cert.KernelAdsgu.nD Cert.KernelAdsgu.τ).loc Cert.KernelAdsgu.main_arg0) = m ((c.tc : Thread Cert.KernelAdsgu.nD Cert.KernelAdsgu.τ).loc Cert.KernelAdsgu.main_arg0)
      ∧ r.2.mem ((c.tc : Thread Cert.KernelAdsgu.nD Cert.KernelAdsgu.τ).loc Cert.KernelAdsgu.main_arg1) = m ((c.tc : Thread Cert.KernelAdsgu.nD Cert.KernelAdsgu.τ).loc Cert.KernelAdsgu.main_arg1)
      ∧ r.2.mem ((c.tc : Thread Cert.KernelAdsgu.nD Cert.KernelAdsgu.τ).loc Cert.KernelAdsgu.main_arg2) = m ((c.tc : Thread Cert.KernelAdsgu.nD Cert.KernelAdsgu.τ).loc Cert.KernelAdsgu.main_arg2)
      ∧ r.2.mem ((c.tc : Thread Cert.KernelAdsgu.nD Cert.KernelAdsgu.τ).loc Cert.KernelAdsgu.main_arg3) = m ((c.tc : Thread Cert.KernelAdsgu.nD Cert.KernelAdsgu.τ).loc Cert.KernelAdsgu.main_arg3))
      ∧ r.2.sem = fun _ => 0)

def quiescent_KernelAdsguIdeal [hKernelAdsguIdeal : Cert.KernelAdsguIdeal.Facts] : Prop :=
  ∀ (m : (ℓ : Loc Cert.KernelAdsguIdeal.nD Cert.KernelAdsguIdeal.τ Cert.KernelAdsguIdeal.sig) → Buf (Elt Ideal) ℓ) (g : Dev Cert.KernelAdsguIdeal.nD → PrngReg), Pre_KernelAdsguIdeal m →
    θ_run (Cert.KernelAdsguIdeal.defs (F := Ideal)) (onTc (τ := Cert.KernelAdsguIdeal.τ) (Cert.KernelAdsguIdeal.main (F := Ideal))) ⟨m, fun _ => 0, g⟩ (fun r => (∀ c : Dev Cert.KernelAdsguIdeal.nD,
      r.2.mem ((c.tc : Thread Cert.KernelAdsguIdeal.nD Cert.KernelAdsguIdeal.τ).loc Cert.KernelAdsguIdeal.main_arg0) = m ((c.tc : Thread Cert.KernelAdsguIdeal.nD Cert.KernelAdsguIdeal.τ).loc Cert.KernelAdsguIdeal.main_arg0)
      ∧ r.2.mem ((c.tc : Thread Cert.KernelAdsguIdeal.nD Cert.KernelAdsguIdeal.τ).loc Cert.KernelAdsguIdeal.main_arg1) = m ((c.tc : Thread Cert.KernelAdsguIdeal.nD Cert.KernelAdsguIdeal.τ).loc Cert.KernelAdsguIdeal.main_arg1)
      ∧ r.2.mem ((c.tc : Thread Cert.KernelAdsguIdeal.nD Cert.KernelAdsguIdeal.τ).loc Cert.KernelAdsguIdeal.main_arg2) = m ((c.tc : Thread Cert.KernelAdsguIdeal.nD Cert.KernelAdsguIdeal.τ).loc Cert.KernelAdsguIdeal.main_arg2)
      ∧ r.2.mem ((c.tc : Thread Cert.KernelAdsguIdeal.nD Cert.KernelAdsguIdeal.τ).loc Cert.KernelAdsguIdeal.main_arg3) = m ((c.tc : Thread Cert.KernelAdsguIdeal.nD Cert.KernelAdsguIdeal.τ).loc Cert.KernelAdsguIdeal.main_arg3))
      ∧ r.2.sem = fun _ => 0)

def quiescent_ReferenceAdsguIdeal [hReferenceAdsguIdeal : Cert.ReferenceAdsguIdeal.Facts] : Prop :=
  ∀ (m : (ℓ : Loc Cert.ReferenceAdsguIdeal.nD Cert.ReferenceAdsguIdeal.τ Cert.ReferenceAdsguIdeal.sig) → Buf (Elt Ideal) ℓ) (g : Dev Cert.ReferenceAdsguIdeal.nD → PrngReg), Pre_ReferenceAdsguIdeal m →
    θ_run (Cert.ReferenceAdsguIdeal.defs (F := Ideal)) (onTc (τ := Cert.ReferenceAdsguIdeal.τ) (Cert.ReferenceAdsguIdeal.main (F := Ideal))) ⟨m, fun _ => 0, g⟩ (fun r => (∀ c : Dev Cert.ReferenceAdsguIdeal.nD,
      r.2.mem ((c.tc : Thread Cert.ReferenceAdsguIdeal.nD Cert.ReferenceAdsguIdeal.τ).loc Cert.ReferenceAdsguIdeal.main_arg0) = m ((c.tc : Thread Cert.ReferenceAdsguIdeal.nD Cert.ReferenceAdsguIdeal.τ).loc Cert.ReferenceAdsguIdeal.main_arg0)
      ∧ r.2.mem ((c.tc : Thread Cert.ReferenceAdsguIdeal.nD Cert.ReferenceAdsguIdeal.τ).loc Cert.ReferenceAdsguIdeal.main_arg1) = m ((c.tc : Thread Cert.ReferenceAdsguIdeal.nD Cert.ReferenceAdsguIdeal.τ).loc Cert.ReferenceAdsguIdeal.main_arg1)
      ∧ r.2.mem ((c.tc : Thread Cert.ReferenceAdsguIdeal.nD Cert.ReferenceAdsguIdeal.τ).loc Cert.ReferenceAdsguIdeal.main_arg2) = m ((c.tc : Thread Cert.ReferenceAdsguIdeal.nD Cert.ReferenceAdsguIdeal.τ).loc Cert.ReferenceAdsguIdeal.main_arg2)
      ∧ r.2.mem ((c.tc : Thread Cert.ReferenceAdsguIdeal.nD Cert.ReferenceAdsguIdeal.τ).loc Cert.ReferenceAdsguIdeal.main_arg3) = m ((c.tc : Thread Cert.ReferenceAdsguIdeal.nD Cert.ReferenceAdsguIdeal.τ).loc Cert.ReferenceAdsguIdeal.main_arg3))
      ∧ r.2.sem = fun _ => 0)

def quiescent_KernelAdspat [hKernelAdspat : Cert.KernelAdspat.Facts] : Prop :=
  ∀ (m : (ℓ : Loc Cert.KernelAdspat.nD Cert.KernelAdspat.τ Cert.KernelAdspat.sig) → Buf (Elt Bits) ℓ) (g : Dev Cert.KernelAdspat.nD → PrngReg), Pre_KernelAdspat m →
    θ_run (Cert.KernelAdspat.defs (F := Bits)) (onTc (τ := Cert.KernelAdspat.τ) (Cert.KernelAdspat.main (F := Bits))) ⟨m, fun _ => 0, g⟩ (fun r => (∀ c : Dev Cert.KernelAdspat.nD,
      r.2.mem ((c.tc : Thread Cert.KernelAdspat.nD Cert.KernelAdspat.τ).loc Cert.KernelAdspat.main_arg0) = m ((c.tc : Thread Cert.KernelAdspat.nD Cert.KernelAdspat.τ).loc Cert.KernelAdspat.main_arg0)
      ∧ r.2.mem ((c.tc : Thread Cert.KernelAdspat.nD Cert.KernelAdspat.τ).loc Cert.KernelAdspat.main_arg1) = m ((c.tc : Thread Cert.KernelAdspat.nD Cert.KernelAdspat.τ).loc Cert.KernelAdspat.main_arg1)
      ∧ r.2.mem ((c.tc : Thread Cert.KernelAdspat.nD Cert.KernelAdspat.τ).loc Cert.KernelAdspat.main_arg2) = m ((c.tc : Thread Cert.KernelAdspat.nD Cert.KernelAdspat.τ).loc Cert.KernelAdspat.main_arg2)
      ∧ r.2.mem ((c.tc : Thread Cert.KernelAdspat.nD Cert.KernelAdspat.τ).loc Cert.KernelAdspat.main_arg3) = m ((c.tc : Thread Cert.KernelAdspat.nD Cert.KernelAdspat.τ).loc Cert.KernelAdspat.main_arg3))
      ∧ r.2.sem = fun _ => 0)

def quiescent_KernelAdspatIdeal [hKernelAdspatIdeal : Cert.KernelAdspatIdeal.Facts] : Prop :=
  ∀ (m : (ℓ : Loc Cert.KernelAdspatIdeal.nD Cert.KernelAdspatIdeal.τ Cert.KernelAdspatIdeal.sig) → Buf (Elt Ideal) ℓ) (g : Dev Cert.KernelAdspatIdeal.nD → PrngReg), Pre_KernelAdspatIdeal m →
    θ_run (Cert.KernelAdspatIdeal.defs (F := Ideal)) (onTc (τ := Cert.KernelAdspatIdeal.τ) (Cert.KernelAdspatIdeal.main (F := Ideal))) ⟨m, fun _ => 0, g⟩ (fun r => (∀ c : Dev Cert.KernelAdspatIdeal.nD,
      r.2.mem ((c.tc : Thread Cert.KernelAdspatIdeal.nD Cert.KernelAdspatIdeal.τ).loc Cert.KernelAdspatIdeal.main_arg0) = m ((c.tc : Thread Cert.KernelAdspatIdeal.nD Cert.KernelAdspatIdeal.τ).loc Cert.KernelAdspatIdeal.main_arg0)
      ∧ r.2.mem ((c.tc : Thread Cert.KernelAdspatIdeal.nD Cert.KernelAdspatIdeal.τ).loc Cert.KernelAdspatIdeal.main_arg1) = m ((c.tc : Thread Cert.KernelAdspatIdeal.nD Cert.KernelAdspatIdeal.τ).loc Cert.KernelAdspatIdeal.main_arg1)
      ∧ r.2.mem ((c.tc : Thread Cert.KernelAdspatIdeal.nD Cert.KernelAdspatIdeal.τ).loc Cert.KernelAdspatIdeal.main_arg2) = m ((c.tc : Thread Cert.KernelAdspatIdeal.nD Cert.KernelAdspatIdeal.τ).loc Cert.KernelAdspatIdeal.main_arg2)
      ∧ r.2.mem ((c.tc : Thread Cert.KernelAdspatIdeal.nD Cert.KernelAdspatIdeal.τ).loc Cert.KernelAdspatIdeal.main_arg3) = m ((c.tc : Thread Cert.KernelAdspatIdeal.nD Cert.KernelAdspatIdeal.τ).loc Cert.KernelAdspatIdeal.main_arg3))
      ∧ r.2.sem = fun _ => 0)

def quiescent_ReferenceAdspatIdeal [hReferenceAdspatIdeal : Cert.ReferenceAdspatIdeal.Facts] : Prop :=
  ∀ (m : (ℓ : Loc Cert.ReferenceAdspatIdeal.nD Cert.ReferenceAdspatIdeal.τ Cert.ReferenceAdspatIdeal.sig) → Buf (Elt Ideal) ℓ) (g : Dev Cert.ReferenceAdspatIdeal.nD → PrngReg), Pre_ReferenceAdspatIdeal m →
    θ_run (Cert.ReferenceAdspatIdeal.defs (F := Ideal)) (onTc (τ := Cert.ReferenceAdspatIdeal.τ) (Cert.ReferenceAdspatIdeal.main (F := Ideal))) ⟨m, fun _ => 0, g⟩ (fun r => (∀ c : Dev Cert.ReferenceAdspatIdeal.nD,
      r.2.mem ((c.tc : Thread Cert.ReferenceAdspatIdeal.nD Cert.ReferenceAdspatIdeal.τ).loc Cert.ReferenceAdspatIdeal.main_arg0) = m ((c.tc : Thread Cert.ReferenceAdspatIdeal.nD Cert.ReferenceAdspatIdeal.τ).loc Cert.ReferenceAdspatIdeal.main_arg0)
      ∧ r.2.mem ((c.tc : Thread Cert.ReferenceAdspatIdeal.nD Cert.ReferenceAdspatIdeal.τ).loc Cert.ReferenceAdspatIdeal.main_arg1) = m ((c.tc : Thread Cert.ReferenceAdspatIdeal.nD Cert.ReferenceAdspatIdeal.τ).loc Cert.ReferenceAdspatIdeal.main_arg1)
      ∧ r.2.mem ((c.tc : Thread Cert.ReferenceAdspatIdeal.nD Cert.ReferenceAdspatIdeal.τ).loc Cert.ReferenceAdspatIdeal.main_arg2) = m ((c.tc : Thread Cert.ReferenceAdspatIdeal.nD Cert.ReferenceAdspatIdeal.τ).loc Cert.ReferenceAdspatIdeal.main_arg2)
      ∧ r.2.mem ((c.tc : Thread Cert.ReferenceAdspatIdeal.nD Cert.ReferenceAdspatIdeal.τ).loc Cert.ReferenceAdspatIdeal.main_arg3) = m ((c.tc : Thread Cert.ReferenceAdspatIdeal.nD Cert.ReferenceAdspatIdeal.τ).loc Cert.ReferenceAdspatIdeal.main_arg3))
      ∧ r.2.sem = fun _ => 0)

def quiescent_KernelAdbias [hKernelAdbias : Cert.KernelAdbias.Facts] : Prop :=
  ∀ (m : (ℓ : Loc Cert.KernelAdbias.nD Cert.KernelAdbias.τ Cert.KernelAdbias.sig) → Buf (Elt Bits) ℓ) (g : Dev Cert.KernelAdbias.nD → PrngReg), Pre_KernelAdbias m →
    θ_run (Cert.KernelAdbias.defs (F := Bits)) (onTc (τ := Cert.KernelAdbias.τ) (Cert.KernelAdbias.main (F := Bits))) ⟨m, fun _ => 0, g⟩ (fun r => (∀ c : Dev Cert.KernelAdbias.nD,
      r.2.mem ((c.tc : Thread Cert.KernelAdbias.nD Cert.KernelAdbias.τ).loc Cert.KernelAdbias.main_arg0) = m ((c.tc : Thread Cert.KernelAdbias.nD Cert.KernelAdbias.τ).loc Cert.KernelAdbias.main_arg0)
      ∧ r.2.mem ((c.tc : Thread Cert.KernelAdbias.nD Cert.KernelAdbias.τ).loc Cert.KernelAdbias.main_arg1) = m ((c.tc : Thread Cert.KernelAdbias.nD Cert.KernelAdbias.τ).loc Cert.KernelAdbias.main_arg1)
      ∧ r.2.mem ((c.tc : Thread Cert.KernelAdbias.nD Cert.KernelAdbias.τ).loc Cert.KernelAdbias.main_arg2) = m ((c.tc : Thread Cert.KernelAdbias.nD Cert.KernelAdbias.τ).loc Cert.KernelAdbias.main_arg2)
      ∧ r.2.mem ((c.tc : Thread Cert.KernelAdbias.nD Cert.KernelAdbias.τ).loc Cert.KernelAdbias.main_arg3) = m ((c.tc : Thread Cert.KernelAdbias.nD Cert.KernelAdbias.τ).loc Cert.KernelAdbias.main_arg3))
      ∧ r.2.sem = fun _ => 0)

def quiescent_KernelAdbiasIdeal [hKernelAdbiasIdeal : Cert.KernelAdbiasIdeal.Facts] : Prop :=
  ∀ (m : (ℓ : Loc Cert.KernelAdbiasIdeal.nD Cert.KernelAdbiasIdeal.τ Cert.KernelAdbiasIdeal.sig) → Buf (Elt Ideal) ℓ) (g : Dev Cert.KernelAdbiasIdeal.nD → PrngReg), Pre_KernelAdbiasIdeal m →
    θ_run (Cert.KernelAdbiasIdeal.defs (F := Ideal)) (onTc (τ := Cert.KernelAdbiasIdeal.τ) (Cert.KernelAdbiasIdeal.main (F := Ideal))) ⟨m, fun _ => 0, g⟩ (fun r => (∀ c : Dev Cert.KernelAdbiasIdeal.nD,
      r.2.mem ((c.tc : Thread Cert.KernelAdbiasIdeal.nD Cert.KernelAdbiasIdeal.τ).loc Cert.KernelAdbiasIdeal.main_arg0) = m ((c.tc : Thread Cert.KernelAdbiasIdeal.nD Cert.KernelAdbiasIdeal.τ).loc Cert.KernelAdbiasIdeal.main_arg0)
      ∧ r.2.mem ((c.tc : Thread Cert.KernelAdbiasIdeal.nD Cert.KernelAdbiasIdeal.τ).loc Cert.KernelAdbiasIdeal.main_arg1) = m ((c.tc : Thread Cert.KernelAdbiasIdeal.nD Cert.KernelAdbiasIdeal.τ).loc Cert.KernelAdbiasIdeal.main_arg1)
      ∧ r.2.mem ((c.tc : Thread Cert.KernelAdbiasIdeal.nD Cert.KernelAdbiasIdeal.τ).loc Cert.KernelAdbiasIdeal.main_arg2) = m ((c.tc : Thread Cert.KernelAdbiasIdeal.nD Cert.KernelAdbiasIdeal.τ).loc Cert.KernelAdbiasIdeal.main_arg2)
      ∧ r.2.mem ((c.tc : Thread Cert.KernelAdbiasIdeal.nD Cert.KernelAdbiasIdeal.τ).loc Cert.KernelAdbiasIdeal.main_arg3) = m ((c.tc : Thread Cert.KernelAdbiasIdeal.nD Cert.KernelAdbiasIdeal.τ).loc Cert.KernelAdbiasIdeal.main_arg3))
      ∧ r.2.sem = fun _ => 0)

def quiescent_ReferenceAdbiasIdeal [hReferenceAdbiasIdeal : Cert.ReferenceAdbiasIdeal.Facts] : Prop :=
  ∀ (m : (ℓ : Loc Cert.ReferenceAdbiasIdeal.nD Cert.ReferenceAdbiasIdeal.τ Cert.ReferenceAdbiasIdeal.sig) → Buf (Elt Ideal) ℓ) (g : Dev Cert.ReferenceAdbiasIdeal.nD → PrngReg), Pre_ReferenceAdbiasIdeal m →
    θ_run (Cert.ReferenceAdbiasIdeal.defs (F := Ideal)) (onTc (τ := Cert.ReferenceAdbiasIdeal.τ) (Cert.ReferenceAdbiasIdeal.main (F := Ideal))) ⟨m, fun _ => 0, g⟩ (fun r => (∀ c : Dev Cert.ReferenceAdbiasIdeal.nD,
      r.2.mem ((c.tc : Thread Cert.ReferenceAdbiasIdeal.nD Cert.ReferenceAdbiasIdeal.τ).loc Cert.ReferenceAdbiasIdeal.main_arg0) = m ((c.tc : Thread Cert.ReferenceAdbiasIdeal.nD Cert.ReferenceAdbiasIdeal.τ).loc Cert.ReferenceAdbiasIdeal.main_arg0)
      ∧ r.2.mem ((c.tc : Thread Cert.ReferenceAdbiasIdeal.nD Cert.ReferenceAdbiasIdeal.τ).loc Cert.ReferenceAdbiasIdeal.main_arg1) = m ((c.tc : Thread Cert.ReferenceAdbiasIdeal.nD Cert.ReferenceAdbiasIdeal.τ).loc Cert.ReferenceAdbiasIdeal.main_arg1)
      ∧ r.2.mem ((c.tc : Thread Cert.ReferenceAdbiasIdeal.nD Cert.ReferenceAdbiasIdeal.τ).loc Cert.ReferenceAdbiasIdeal.main_arg2) = m ((c.tc : Thread Cert.ReferenceAdbiasIdeal.nD Cert.ReferenceAdbiasIdeal.τ).loc Cert.ReferenceAdbiasIdeal.main_arg2)
      ∧ r.2.mem ((c.tc : Thread Cert.ReferenceAdbiasIdeal.nD Cert.ReferenceAdbiasIdeal.τ).loc Cert.ReferenceAdbiasIdeal.main_arg3) = m ((c.tc : Thread Cert.ReferenceAdbiasIdeal.nD Cert.ReferenceAdbiasIdeal.τ).loc Cert.ReferenceAdbiasIdeal.main_arg3))
      ∧ r.2.sem = fun _ => 0)

def quiescent_KernelAdconv [hKernelAdconv : Cert.KernelAdconv.Facts] : Prop :=
  ∀ (m : (ℓ : Loc Cert.KernelAdconv.nD Cert.KernelAdconv.τ Cert.KernelAdconv.sig) → Buf (Elt Bits) ℓ) (g : Dev Cert.KernelAdconv.nD → PrngReg), Pre_KernelAdconv m →
    θ_run (Cert.KernelAdconv.defs (F := Bits)) (onTc (τ := Cert.KernelAdconv.τ) (Cert.KernelAdconv.main (F := Bits))) ⟨m, fun _ => 0, g⟩ (fun r => (∀ c : Dev Cert.KernelAdconv.nD,
      r.2.mem ((c.tc : Thread Cert.KernelAdconv.nD Cert.KernelAdconv.τ).loc Cert.KernelAdconv.main_arg0) = m ((c.tc : Thread Cert.KernelAdconv.nD Cert.KernelAdconv.τ).loc Cert.KernelAdconv.main_arg0)
      ∧ r.2.mem ((c.tc : Thread Cert.KernelAdconv.nD Cert.KernelAdconv.τ).loc Cert.KernelAdconv.main_arg1) = m ((c.tc : Thread Cert.KernelAdconv.nD Cert.KernelAdconv.τ).loc Cert.KernelAdconv.main_arg1)
      ∧ r.2.mem ((c.tc : Thread Cert.KernelAdconv.nD Cert.KernelAdconv.τ).loc Cert.KernelAdconv.main_arg2) = m ((c.tc : Thread Cert.KernelAdconv.nD Cert.KernelAdconv.τ).loc Cert.KernelAdconv.main_arg2)
      ∧ r.2.mem ((c.tc : Thread Cert.KernelAdconv.nD Cert.KernelAdconv.τ).loc Cert.KernelAdconv.main_arg3) = m ((c.tc : Thread Cert.KernelAdconv.nD Cert.KernelAdconv.τ).loc Cert.KernelAdconv.main_arg3))
      ∧ r.2.sem = fun _ => 0)

def quiescent_KernelAdconvIdeal [hKernelAdconvIdeal : Cert.KernelAdconvIdeal.Facts] : Prop :=
  ∀ (m : (ℓ : Loc Cert.KernelAdconvIdeal.nD Cert.KernelAdconvIdeal.τ Cert.KernelAdconvIdeal.sig) → Buf (Elt Ideal) ℓ) (g : Dev Cert.KernelAdconvIdeal.nD → PrngReg), Pre_KernelAdconvIdeal m →
    θ_run (Cert.KernelAdconvIdeal.defs (F := Ideal)) (onTc (τ := Cert.KernelAdconvIdeal.τ) (Cert.KernelAdconvIdeal.main (F := Ideal))) ⟨m, fun _ => 0, g⟩ (fun r => (∀ c : Dev Cert.KernelAdconvIdeal.nD,
      r.2.mem ((c.tc : Thread Cert.KernelAdconvIdeal.nD Cert.KernelAdconvIdeal.τ).loc Cert.KernelAdconvIdeal.main_arg0) = m ((c.tc : Thread Cert.KernelAdconvIdeal.nD Cert.KernelAdconvIdeal.τ).loc Cert.KernelAdconvIdeal.main_arg0)
      ∧ r.2.mem ((c.tc : Thread Cert.KernelAdconvIdeal.nD Cert.KernelAdconvIdeal.τ).loc Cert.KernelAdconvIdeal.main_arg1) = m ((c.tc : Thread Cert.KernelAdconvIdeal.nD Cert.KernelAdconvIdeal.τ).loc Cert.KernelAdconvIdeal.main_arg1)
      ∧ r.2.mem ((c.tc : Thread Cert.KernelAdconvIdeal.nD Cert.KernelAdconvIdeal.τ).loc Cert.KernelAdconvIdeal.main_arg2) = m ((c.tc : Thread Cert.KernelAdconvIdeal.nD Cert.KernelAdconvIdeal.τ).loc Cert.KernelAdconvIdeal.main_arg2)
      ∧ r.2.mem ((c.tc : Thread Cert.KernelAdconvIdeal.nD Cert.KernelAdconvIdeal.τ).loc Cert.KernelAdconvIdeal.main_arg3) = m ((c.tc : Thread Cert.KernelAdconvIdeal.nD Cert.KernelAdconvIdeal.τ).loc Cert.KernelAdconvIdeal.main_arg3))
      ∧ r.2.sem = fun _ => 0)

def quiescent_ReferenceAdconvIdeal [hReferenceAdconvIdeal : Cert.ReferenceAdconvIdeal.Facts] : Prop :=
  ∀ (m : (ℓ : Loc Cert.ReferenceAdconvIdeal.nD Cert.ReferenceAdconvIdeal.τ Cert.ReferenceAdconvIdeal.sig) → Buf (Elt Ideal) ℓ) (g : Dev Cert.ReferenceAdconvIdeal.nD → PrngReg), Pre_ReferenceAdconvIdeal m →
    θ_run (Cert.ReferenceAdconvIdeal.defs (F := Ideal)) (onTc (τ := Cert.ReferenceAdconvIdeal.τ) (Cert.ReferenceAdconvIdeal.main (F := Ideal))) ⟨m, fun _ => 0, g⟩ (fun r => (∀ c : Dev Cert.ReferenceAdconvIdeal.nD,
      r.2.mem ((c.tc : Thread Cert.ReferenceAdconvIdeal.nD Cert.ReferenceAdconvIdeal.τ).loc Cert.ReferenceAdconvIdeal.main_arg0) = m ((c.tc : Thread Cert.ReferenceAdconvIdeal.nD Cert.ReferenceAdconvIdeal.τ).loc Cert.ReferenceAdconvIdeal.main_arg0)
      ∧ r.2.mem ((c.tc : Thread Cert.ReferenceAdconvIdeal.nD Cert.ReferenceAdconvIdeal.τ).loc Cert.ReferenceAdconvIdeal.main_arg1) = m ((c.tc : Thread Cert.ReferenceAdconvIdeal.nD Cert.ReferenceAdconvIdeal.τ).loc Cert.ReferenceAdconvIdeal.main_arg1)
      ∧ r.2.mem ((c.tc : Thread Cert.ReferenceAdconvIdeal.nD Cert.ReferenceAdconvIdeal.τ).loc Cert.ReferenceAdconvIdeal.main_arg2) = m ((c.tc : Thread Cert.ReferenceAdconvIdeal.nD Cert.ReferenceAdconvIdeal.τ).loc Cert.ReferenceAdconvIdeal.main_arg2)
      ∧ r.2.mem ((c.tc : Thread Cert.ReferenceAdconvIdeal.nD Cert.ReferenceAdconvIdeal.τ).loc Cert.ReferenceAdconvIdeal.main_arg3) = m ((c.tc : Thread Cert.ReferenceAdconvIdeal.nD Cert.ReferenceAdconvIdeal.τ).loc Cert.ReferenceAdconvIdeal.main_arg3))
      ∧ r.2.sem = fun _ => 0)

def quiescent_KernelAdbranch [hKernelAdbranch : Cert.KernelAdbranch.Facts] : Prop :=
  ∀ (m : (ℓ : Loc Cert.KernelAdbranch.nD Cert.KernelAdbranch.τ Cert.KernelAdbranch.sig) → Buf (Elt Bits) ℓ) (g : Dev Cert.KernelAdbranch.nD → PrngReg), Pre_KernelAdbranch m →
    θ_run (Cert.KernelAdbranch.defs (F := Bits)) (onTc (τ := Cert.KernelAdbranch.τ) (Cert.KernelAdbranch.main (F := Bits))) ⟨m, fun _ => 0, g⟩ (fun r => (∀ c : Dev Cert.KernelAdbranch.nD,
      r.2.mem ((c.tc : Thread Cert.KernelAdbranch.nD Cert.KernelAdbranch.τ).loc Cert.KernelAdbranch.main_arg0) = m ((c.tc : Thread Cert.KernelAdbranch.nD Cert.KernelAdbranch.τ).loc Cert.KernelAdbranch.main_arg0)
      ∧ r.2.mem ((c.tc : Thread Cert.KernelAdbranch.nD Cert.KernelAdbranch.τ).loc Cert.KernelAdbranch.main_arg1) = m ((c.tc : Thread Cert.KernelAdbranch.nD Cert.KernelAdbranch.τ).loc Cert.KernelAdbranch.main_arg1)
      ∧ r.2.mem ((c.tc : Thread Cert.KernelAdbranch.nD Cert.KernelAdbranch.τ).loc Cert.KernelAdbranch.main_arg2) = m ((c.tc : Thread Cert.KernelAdbranch.nD Cert.KernelAdbranch.τ).loc Cert.KernelAdbranch.main_arg2)
      ∧ r.2.mem ((c.tc : Thread Cert.KernelAdbranch.nD Cert.KernelAdbranch.τ).loc Cert.KernelAdbranch.main_arg3) = m ((c.tc : Thread Cert.KernelAdbranch.nD Cert.KernelAdbranch.τ).loc Cert.KernelAdbranch.main_arg3))
      ∧ r.2.sem = fun _ => 0)

def quiescent_KernelAdbranchIdeal [hKernelAdbranchIdeal : Cert.KernelAdbranchIdeal.Facts] : Prop :=
  ∀ (m : (ℓ : Loc Cert.KernelAdbranchIdeal.nD Cert.KernelAdbranchIdeal.τ Cert.KernelAdbranchIdeal.sig) → Buf (Elt Ideal) ℓ) (g : Dev Cert.KernelAdbranchIdeal.nD → PrngReg), Pre_KernelAdbranchIdeal m →
    θ_run (Cert.KernelAdbranchIdeal.defs (F := Ideal)) (onTc (τ := Cert.KernelAdbranchIdeal.τ) (Cert.KernelAdbranchIdeal.main (F := Ideal))) ⟨m, fun _ => 0, g⟩ (fun r => (∀ c : Dev Cert.KernelAdbranchIdeal.nD,
      r.2.mem ((c.tc : Thread Cert.KernelAdbranchIdeal.nD Cert.KernelAdbranchIdeal.τ).loc Cert.KernelAdbranchIdeal.main_arg0) = m ((c.tc : Thread Cert.KernelAdbranchIdeal.nD Cert.KernelAdbranchIdeal.τ).loc Cert.KernelAdbranchIdeal.main_arg0)
      ∧ r.2.mem ((c.tc : Thread Cert.KernelAdbranchIdeal.nD Cert.KernelAdbranchIdeal.τ).loc Cert.KernelAdbranchIdeal.main_arg1) = m ((c.tc : Thread Cert.KernelAdbranchIdeal.nD Cert.KernelAdbranchIdeal.τ).loc Cert.KernelAdbranchIdeal.main_arg1)
      ∧ r.2.mem ((c.tc : Thread Cert.KernelAdbranchIdeal.nD Cert.KernelAdbranchIdeal.τ).loc Cert.KernelAdbranchIdeal.main_arg2) = m ((c.tc : Thread Cert.KernelAdbranchIdeal.nD Cert.KernelAdbranchIdeal.τ).loc Cert.KernelAdbranchIdeal.main_arg2)
      ∧ r.2.mem ((c.tc : Thread Cert.KernelAdbranchIdeal.nD Cert.KernelAdbranchIdeal.τ).loc Cert.KernelAdbranchIdeal.main_arg3) = m ((c.tc : Thread Cert.KernelAdbranchIdeal.nD Cert.KernelAdbranchIdeal.τ).loc Cert.KernelAdbranchIdeal.main_arg3))
      ∧ r.2.sem = fun _ => 0)

def quiescent_ReferenceAdbranchIdeal [hReferenceAdbranchIdeal : Cert.ReferenceAdbranchIdeal.Facts] : Prop :=
  ∀ (m : (ℓ : Loc Cert.ReferenceAdbranchIdeal.nD Cert.ReferenceAdbranchIdeal.τ Cert.ReferenceAdbranchIdeal.sig) → Buf (Elt Ideal) ℓ) (g : Dev Cert.ReferenceAdbranchIdeal.nD → PrngReg), Pre_ReferenceAdbranchIdeal m →
    θ_run (Cert.ReferenceAdbranchIdeal.defs (F := Ideal)) (onTc (τ := Cert.ReferenceAdbranchIdeal.τ) (Cert.ReferenceAdbranchIdeal.main (F := Ideal))) ⟨m, fun _ => 0, g⟩ (fun r => (∀ c : Dev Cert.ReferenceAdbranchIdeal.nD,
      r.2.mem ((c.tc : Thread Cert.ReferenceAdbranchIdeal.nD Cert.ReferenceAdbranchIdeal.τ).loc Cert.ReferenceAdbranchIdeal.main_arg0) = m ((c.tc : Thread Cert.ReferenceAdbranchIdeal.nD Cert.ReferenceAdbranchIdeal.τ).loc Cert.ReferenceAdbranchIdeal.main_arg0)
      ∧ r.2.mem ((c.tc : Thread Cert.ReferenceAdbranchIdeal.nD Cert.ReferenceAdbranchIdeal.τ).loc Cert.ReferenceAdbranchIdeal.main_arg1) = m ((c.tc : Thread Cert.ReferenceAdbranchIdeal.nD Cert.ReferenceAdbranchIdeal.τ).loc Cert.ReferenceAdbranchIdeal.main_arg1)
      ∧ r.2.mem ((c.tc : Thread Cert.ReferenceAdbranchIdeal.nD Cert.ReferenceAdbranchIdeal.τ).loc Cert.ReferenceAdbranchIdeal.main_arg2) = m ((c.tc : Thread Cert.ReferenceAdbranchIdeal.nD Cert.ReferenceAdbranchIdeal.τ).loc Cert.ReferenceAdbranchIdeal.main_arg2)
      ∧ r.2.mem ((c.tc : Thread Cert.ReferenceAdbranchIdeal.nD Cert.ReferenceAdbranchIdeal.τ).loc Cert.ReferenceAdbranchIdeal.main_arg3) = m ((c.tc : Thread Cert.ReferenceAdbranchIdeal.nD Cert.ReferenceAdbranchIdeal.τ).loc Cert.ReferenceAdbranchIdeal.main_arg3))
      ∧ r.2.sem = fun _ => 0)

def quiescent_KernelAdsquare [hKernelAdsquare : Cert.KernelAdsquare.Facts] : Prop :=
  ∀ (m : (ℓ : Loc Cert.KernelAdsquare.nD Cert.KernelAdsquare.τ Cert.KernelAdsquare.sig) → Buf (Elt Bits) ℓ) (g : Dev Cert.KernelAdsquare.nD → PrngReg), Pre_KernelAdsquare m →
    θ_run (Cert.KernelAdsquare.defs (F := Bits)) (onTc (τ := Cert.KernelAdsquare.τ) (Cert.KernelAdsquare.main (F := Bits))) ⟨m, fun _ => 0, g⟩ (fun r => (∀ c : Dev Cert.KernelAdsquare.nD,
      r.2.mem ((c.tc : Thread Cert.KernelAdsquare.nD Cert.KernelAdsquare.τ).loc Cert.KernelAdsquare.main_arg0) = m ((c.tc : Thread Cert.KernelAdsquare.nD Cert.KernelAdsquare.τ).loc Cert.KernelAdsquare.main_arg0)
      ∧ r.2.mem ((c.tc : Thread Cert.KernelAdsquare.nD Cert.KernelAdsquare.τ).loc Cert.KernelAdsquare.main_arg1) = m ((c.tc : Thread Cert.KernelAdsquare.nD Cert.KernelAdsquare.τ).loc Cert.KernelAdsquare.main_arg1)
      ∧ r.2.mem ((c.tc : Thread Cert.KernelAdsquare.nD Cert.KernelAdsquare.τ).loc Cert.KernelAdsquare.main_arg2) = m ((c.tc : Thread Cert.KernelAdsquare.nD Cert.KernelAdsquare.τ).loc Cert.KernelAdsquare.main_arg2)
      ∧ r.2.mem ((c.tc : Thread Cert.KernelAdsquare.nD Cert.KernelAdsquare.τ).loc Cert.KernelAdsquare.main_arg3) = m ((c.tc : Thread Cert.KernelAdsquare.nD Cert.KernelAdsquare.τ).loc Cert.KernelAdsquare.main_arg3))
      ∧ r.2.sem = fun _ => 0)

def quiescent_KernelAdsquareIdeal [hKernelAdsquareIdeal : Cert.KernelAdsquareIdeal.Facts] : Prop :=
  ∀ (m : (ℓ : Loc Cert.KernelAdsquareIdeal.nD Cert.KernelAdsquareIdeal.τ Cert.KernelAdsquareIdeal.sig) → Buf (Elt Ideal) ℓ) (g : Dev Cert.KernelAdsquareIdeal.nD → PrngReg), Pre_KernelAdsquareIdeal m →
    θ_run (Cert.KernelAdsquareIdeal.defs (F := Ideal)) (onTc (τ := Cert.KernelAdsquareIdeal.τ) (Cert.KernelAdsquareIdeal.main (F := Ideal))) ⟨m, fun _ => 0, g⟩ (fun r => (∀ c : Dev Cert.KernelAdsquareIdeal.nD,
      r.2.mem ((c.tc : Thread Cert.KernelAdsquareIdeal.nD Cert.KernelAdsquareIdeal.τ).loc Cert.KernelAdsquareIdeal.main_arg0) = m ((c.tc : Thread Cert.KernelAdsquareIdeal.nD Cert.KernelAdsquareIdeal.τ).loc Cert.KernelAdsquareIdeal.main_arg0)
      ∧ r.2.mem ((c.tc : Thread Cert.KernelAdsquareIdeal.nD Cert.KernelAdsquareIdeal.τ).loc Cert.KernelAdsquareIdeal.main_arg1) = m ((c.tc : Thread Cert.KernelAdsquareIdeal.nD Cert.KernelAdsquareIdeal.τ).loc Cert.KernelAdsquareIdeal.main_arg1)
      ∧ r.2.mem ((c.tc : Thread Cert.KernelAdsquareIdeal.nD Cert.KernelAdsquareIdeal.τ).loc Cert.KernelAdsquareIdeal.main_arg2) = m ((c.tc : Thread Cert.KernelAdsquareIdeal.nD Cert.KernelAdsquareIdeal.τ).loc Cert.KernelAdsquareIdeal.main_arg2)
      ∧ r.2.mem ((c.tc : Thread Cert.KernelAdsquareIdeal.nD Cert.KernelAdsquareIdeal.τ).loc Cert.KernelAdsquareIdeal.main_arg3) = m ((c.tc : Thread Cert.KernelAdsquareIdeal.nD Cert.KernelAdsquareIdeal.τ).loc Cert.KernelAdsquareIdeal.main_arg3))
      ∧ r.2.sem = fun _ => 0)

def quiescent_ReferenceAdsquareIdeal [hReferenceAdsquareIdeal : Cert.ReferenceAdsquareIdeal.Facts] : Prop :=
  ∀ (m : (ℓ : Loc Cert.ReferenceAdsquareIdeal.nD Cert.ReferenceAdsquareIdeal.τ Cert.ReferenceAdsquareIdeal.sig) → Buf (Elt Ideal) ℓ) (g : Dev Cert.ReferenceAdsquareIdeal.nD → PrngReg), Pre_ReferenceAdsquareIdeal m →
    θ_run (Cert.ReferenceAdsquareIdeal.defs (F := Ideal)) (onTc (τ := Cert.ReferenceAdsquareIdeal.τ) (Cert.ReferenceAdsquareIdeal.main (F := Ideal))) ⟨m, fun _ => 0, g⟩ (fun r => (∀ c : Dev Cert.ReferenceAdsquareIdeal.nD,
      r.2.mem ((c.tc : Thread Cert.ReferenceAdsquareIdeal.nD Cert.ReferenceAdsquareIdeal.τ).loc Cert.ReferenceAdsquareIdeal.main_arg0) = m ((c.tc : Thread Cert.ReferenceAdsquareIdeal.nD Cert.ReferenceAdsquareIdeal.τ).loc Cert.ReferenceAdsquareIdeal.main_arg0)
      ∧ r.2.mem ((c.tc : Thread Cert.ReferenceAdsquareIdeal.nD Cert.ReferenceAdsquareIdeal.τ).loc Cert.ReferenceAdsquareIdeal.main_arg1) = m ((c.tc : Thread Cert.ReferenceAdsquareIdeal.nD Cert.ReferenceAdsquareIdeal.τ).loc Cert.ReferenceAdsquareIdeal.main_arg1)
      ∧ r.2.mem ((c.tc : Thread Cert.ReferenceAdsquareIdeal.nD Cert.ReferenceAdsquareIdeal.τ).loc Cert.ReferenceAdsquareIdeal.main_arg2) = m ((c.tc : Thread Cert.ReferenceAdsquareIdeal.nD Cert.ReferenceAdsquareIdeal.τ).loc Cert.ReferenceAdsquareIdeal.main_arg2)
      ∧ r.2.mem ((c.tc : Thread Cert.ReferenceAdsquareIdeal.nD Cert.ReferenceAdsquareIdeal.τ).loc Cert.ReferenceAdsquareIdeal.main_arg3) = m ((c.tc : Thread Cert.ReferenceAdsquareIdeal.nD Cert.ReferenceAdsquareIdeal.τ).loc Cert.ReferenceAdsquareIdeal.main_arg3))
      ∧ r.2.sem = fun _ => 0)

def quiescent_KernelAdffn [hKernelAdffn : Cert.KernelAdffn.Facts] : Prop :=
  ∀ (m : (ℓ : Loc Cert.KernelAdffn.nD Cert.KernelAdffn.τ Cert.KernelAdffn.sig) → Buf (Elt Bits) ℓ) (g : Dev Cert.KernelAdffn.nD → PrngReg), Pre_KernelAdffn m →
    θ_run (Cert.KernelAdffn.defs (F := Bits)) (onTc (τ := Cert.KernelAdffn.τ) (Cert.KernelAdffn.main (F := Bits))) ⟨m, fun _ => 0, g⟩ (fun r => (∀ c : Dev Cert.KernelAdffn.nD,
      r.2.mem ((c.tc : Thread Cert.KernelAdffn.nD Cert.KernelAdffn.τ).loc Cert.KernelAdffn.main_arg0) = m ((c.tc : Thread Cert.KernelAdffn.nD Cert.KernelAdffn.τ).loc Cert.KernelAdffn.main_arg0)
      ∧ r.2.mem ((c.tc : Thread Cert.KernelAdffn.nD Cert.KernelAdffn.τ).loc Cert.KernelAdffn.main_arg1) = m ((c.tc : Thread Cert.KernelAdffn.nD Cert.KernelAdffn.τ).loc Cert.KernelAdffn.main_arg1)
      ∧ r.2.mem ((c.tc : Thread Cert.KernelAdffn.nD Cert.KernelAdffn.τ).loc Cert.KernelAdffn.main_arg2) = m ((c.tc : Thread Cert.KernelAdffn.nD Cert.KernelAdffn.τ).loc Cert.KernelAdffn.main_arg2)
      ∧ r.2.mem ((c.tc : Thread Cert.KernelAdffn.nD Cert.KernelAdffn.τ).loc Cert.KernelAdffn.main_arg3) = m ((c.tc : Thread Cert.KernelAdffn.nD Cert.KernelAdffn.τ).loc Cert.KernelAdffn.main_arg3))
      ∧ r.2.sem = fun _ => 0)

def quiescent_KernelAdffnIdeal [hKernelAdffnIdeal : Cert.KernelAdffnIdeal.Facts] : Prop :=
  ∀ (m : (ℓ : Loc Cert.KernelAdffnIdeal.nD Cert.KernelAdffnIdeal.τ Cert.KernelAdffnIdeal.sig) → Buf (Elt Ideal) ℓ) (g : Dev Cert.KernelAdffnIdeal.nD → PrngReg), Pre_KernelAdffnIdeal m →
    θ_run (Cert.KernelAdffnIdeal.defs (F := Ideal)) (onTc (τ := Cert.KernelAdffnIdeal.τ) (Cert.KernelAdffnIdeal.main (F := Ideal))) ⟨m, fun _ => 0, g⟩ (fun r => (∀ c : Dev Cert.KernelAdffnIdeal.nD,
      r.2.mem ((c.tc : Thread Cert.KernelAdffnIdeal.nD Cert.KernelAdffnIdeal.τ).loc Cert.KernelAdffnIdeal.main_arg0) = m ((c.tc : Thread Cert.KernelAdffnIdeal.nD Cert.KernelAdffnIdeal.τ).loc Cert.KernelAdffnIdeal.main_arg0)
      ∧ r.2.mem ((c.tc : Thread Cert.KernelAdffnIdeal.nD Cert.KernelAdffnIdeal.τ).loc Cert.KernelAdffnIdeal.main_arg1) = m ((c.tc : Thread Cert.KernelAdffnIdeal.nD Cert.KernelAdffnIdeal.τ).loc Cert.KernelAdffnIdeal.main_arg1)
      ∧ r.2.mem ((c.tc : Thread Cert.KernelAdffnIdeal.nD Cert.KernelAdffnIdeal.τ).loc Cert.KernelAdffnIdeal.main_arg2) = m ((c.tc : Thread Cert.KernelAdffnIdeal.nD Cert.KernelAdffnIdeal.τ).loc Cert.KernelAdffnIdeal.main_arg2)
      ∧ r.2.mem ((c.tc : Thread Cert.KernelAdffnIdeal.nD Cert.KernelAdffnIdeal.τ).loc Cert.KernelAdffnIdeal.main_arg3) = m ((c.tc : Thread Cert.KernelAdffnIdeal.nD Cert.KernelAdffnIdeal.τ).loc Cert.KernelAdffnIdeal.main_arg3))
      ∧ r.2.sem = fun _ => 0)

def quiescent_ReferenceAdffnIdeal [hReferenceAdffnIdeal : Cert.ReferenceAdffnIdeal.Facts] : Prop :=
  ∀ (m : (ℓ : Loc Cert.ReferenceAdffnIdeal.nD Cert.ReferenceAdffnIdeal.τ Cert.ReferenceAdffnIdeal.sig) → Buf (Elt Ideal) ℓ) (g : Dev Cert.ReferenceAdffnIdeal.nD → PrngReg), Pre_ReferenceAdffnIdeal m →
    θ_run (Cert.ReferenceAdffnIdeal.defs (F := Ideal)) (onTc (τ := Cert.ReferenceAdffnIdeal.τ) (Cert.ReferenceAdffnIdeal.main (F := Ideal))) ⟨m, fun _ => 0, g⟩ (fun r => (∀ c : Dev Cert.ReferenceAdffnIdeal.nD,
      r.2.mem ((c.tc : Thread Cert.ReferenceAdffnIdeal.nD Cert.ReferenceAdffnIdeal.τ).loc Cert.ReferenceAdffnIdeal.main_arg0) = m ((c.tc : Thread Cert.ReferenceAdffnIdeal.nD Cert.ReferenceAdffnIdeal.τ).loc Cert.ReferenceAdffnIdeal.main_arg0)
      ∧ r.2.mem ((c.tc : Thread Cert.ReferenceAdffnIdeal.nD Cert.ReferenceAdffnIdeal.τ).loc Cert.ReferenceAdffnIdeal.main_arg1) = m ((c.tc : Thread Cert.ReferenceAdffnIdeal.nD Cert.ReferenceAdffnIdeal.τ).loc Cert.ReferenceAdffnIdeal.main_arg1)
      ∧ r.2.mem ((c.tc : Thread Cert.ReferenceAdffnIdeal.nD Cert.ReferenceAdffnIdeal.τ).loc Cert.ReferenceAdffnIdeal.main_arg2) = m ((c.tc : Thread Cert.ReferenceAdffnIdeal.nD Cert.ReferenceAdffnIdeal.τ).loc Cert.ReferenceAdffnIdeal.main_arg2)
      ∧ r.2.mem ((c.tc : Thread Cert.ReferenceAdffnIdeal.nD Cert.ReferenceAdffnIdeal.τ).loc Cert.ReferenceAdffnIdeal.main_arg3) = m ((c.tc : Thread Cert.ReferenceAdffnIdeal.nD Cert.ReferenceAdffnIdeal.τ).loc Cert.ReferenceAdffnIdeal.main_arg3))
      ∧ r.2.sem = fun _ => 0)

def quiescent_KernelAddown [hKernelAddown : Cert.KernelAddown.Facts] : Prop :=
  ∀ (m : (ℓ : Loc Cert.KernelAddown.nD Cert.KernelAddown.τ Cert.KernelAddown.sig) → Buf (Elt Bits) ℓ) (g : Dev Cert.KernelAddown.nD → PrngReg), Pre_KernelAddown m →
    θ_run (Cert.KernelAddown.defs (F := Bits)) (onTc (τ := Cert.KernelAddown.τ) (Cert.KernelAddown.main (F := Bits))) ⟨m, fun _ => 0, g⟩ (fun r => (∀ c : Dev Cert.KernelAddown.nD,
      r.2.mem ((c.tc : Thread Cert.KernelAddown.nD Cert.KernelAddown.τ).loc Cert.KernelAddown.main_arg0) = m ((c.tc : Thread Cert.KernelAddown.nD Cert.KernelAddown.τ).loc Cert.KernelAddown.main_arg0)
      ∧ r.2.mem ((c.tc : Thread Cert.KernelAddown.nD Cert.KernelAddown.τ).loc Cert.KernelAddown.main_arg1) = m ((c.tc : Thread Cert.KernelAddown.nD Cert.KernelAddown.τ).loc Cert.KernelAddown.main_arg1)
      ∧ r.2.mem ((c.tc : Thread Cert.KernelAddown.nD Cert.KernelAddown.τ).loc Cert.KernelAddown.main_arg2) = m ((c.tc : Thread Cert.KernelAddown.nD Cert.KernelAddown.τ).loc Cert.KernelAddown.main_arg2)
      ∧ r.2.mem ((c.tc : Thread Cert.KernelAddown.nD Cert.KernelAddown.τ).loc Cert.KernelAddown.main_arg3) = m ((c.tc : Thread Cert.KernelAddown.nD Cert.KernelAddown.τ).loc Cert.KernelAddown.main_arg3))
      ∧ r.2.sem = fun _ => 0)

def quiescent_KernelAddownIdeal [hKernelAddownIdeal : Cert.KernelAddownIdeal.Facts] : Prop :=
  ∀ (m : (ℓ : Loc Cert.KernelAddownIdeal.nD Cert.KernelAddownIdeal.τ Cert.KernelAddownIdeal.sig) → Buf (Elt Ideal) ℓ) (g : Dev Cert.KernelAddownIdeal.nD → PrngReg), Pre_KernelAddownIdeal m →
    θ_run (Cert.KernelAddownIdeal.defs (F := Ideal)) (onTc (τ := Cert.KernelAddownIdeal.τ) (Cert.KernelAddownIdeal.main (F := Ideal))) ⟨m, fun _ => 0, g⟩ (fun r => (∀ c : Dev Cert.KernelAddownIdeal.nD,
      r.2.mem ((c.tc : Thread Cert.KernelAddownIdeal.nD Cert.KernelAddownIdeal.τ).loc Cert.KernelAddownIdeal.main_arg0) = m ((c.tc : Thread Cert.KernelAddownIdeal.nD Cert.KernelAddownIdeal.τ).loc Cert.KernelAddownIdeal.main_arg0)
      ∧ r.2.mem ((c.tc : Thread Cert.KernelAddownIdeal.nD Cert.KernelAddownIdeal.τ).loc Cert.KernelAddownIdeal.main_arg1) = m ((c.tc : Thread Cert.KernelAddownIdeal.nD Cert.KernelAddownIdeal.τ).loc Cert.KernelAddownIdeal.main_arg1)
      ∧ r.2.mem ((c.tc : Thread Cert.KernelAddownIdeal.nD Cert.KernelAddownIdeal.τ).loc Cert.KernelAddownIdeal.main_arg2) = m ((c.tc : Thread Cert.KernelAddownIdeal.nD Cert.KernelAddownIdeal.τ).loc Cert.KernelAddownIdeal.main_arg2)
      ∧ r.2.mem ((c.tc : Thread Cert.KernelAddownIdeal.nD Cert.KernelAddownIdeal.τ).loc Cert.KernelAddownIdeal.main_arg3) = m ((c.tc : Thread Cert.KernelAddownIdeal.nD Cert.KernelAddownIdeal.τ).loc Cert.KernelAddownIdeal.main_arg3))
      ∧ r.2.sem = fun _ => 0)

def quiescent_ReferenceAddownIdeal [hReferenceAddownIdeal : Cert.ReferenceAddownIdeal.Facts] : Prop :=
  ∀ (m : (ℓ : Loc Cert.ReferenceAddownIdeal.nD Cert.ReferenceAddownIdeal.τ Cert.ReferenceAddownIdeal.sig) → Buf (Elt Ideal) ℓ) (g : Dev Cert.ReferenceAddownIdeal.nD → PrngReg), Pre_ReferenceAddownIdeal m →
    θ_run (Cert.ReferenceAddownIdeal.defs (F := Ideal)) (onTc (τ := Cert.ReferenceAddownIdeal.τ) (Cert.ReferenceAddownIdeal.main (F := Ideal))) ⟨m, fun _ => 0, g⟩ (fun r => (∀ c : Dev Cert.ReferenceAddownIdeal.nD,
      r.2.mem ((c.tc : Thread Cert.ReferenceAddownIdeal.nD Cert.ReferenceAddownIdeal.τ).loc Cert.ReferenceAddownIdeal.main_arg0) = m ((c.tc : Thread Cert.ReferenceAddownIdeal.nD Cert.ReferenceAddownIdeal.τ).loc Cert.ReferenceAddownIdeal.main_arg0)
      ∧ r.2.mem ((c.tc : Thread Cert.ReferenceAddownIdeal.nD Cert.ReferenceAddownIdeal.τ).loc Cert.ReferenceAddownIdeal.main_arg1) = m ((c.tc : Thread Cert.ReferenceAddownIdeal.nD Cert.ReferenceAddownIdeal.τ).loc Cert.ReferenceAddownIdeal.main_arg1)
      ∧ r.2.mem ((c.tc : Thread Cert.ReferenceAddownIdeal.nD Cert.ReferenceAddownIdeal.τ).loc Cert.ReferenceAddownIdeal.main_arg2) = m ((c.tc : Thread Cert.ReferenceAddownIdeal.nD Cert.ReferenceAddownIdeal.τ).loc Cert.ReferenceAddownIdeal.main_arg2)
      ∧ r.2.mem ((c.tc : Thread Cert.ReferenceAddownIdeal.nD Cert.ReferenceAddownIdeal.τ).loc Cert.ReferenceAddownIdeal.main_arg3) = m ((c.tc : Thread Cert.ReferenceAddownIdeal.nD Cert.ReferenceAddownIdeal.τ).loc Cert.ReferenceAddownIdeal.main_arg3))
      ∧ r.2.sem = fun _ => 0)

def preserves_KernelSb_KernelSbIdeal : Prop :=
  True

def preserves_KernelConv_KernelConvIdeal : Prop :=
  True

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)) (v3 : (c : Dev Cert.KernelMergeIdeal.nD) → Buf (Elt Ideal) ((c.tc : Thread Cert.KernelMergeIdeal.nD Cert.KernelMergeIdeal.τ).loc Cert.KernelMergeIdeal.main_v0_3)) (v4 : (c : Dev Cert.KernelMergeIdeal.nD) → Buf (Elt Ideal) ((c.tc : Thread Cert.KernelMergeIdeal.nD Cert.KernelMergeIdeal.τ).loc Cert.KernelMergeIdeal.main_v0_4)) (v5 : (c : Dev Cert.KernelMergeIdeal.nD) → Buf (Elt Ideal) ((c.tc : Thread Cert.KernelMergeIdeal.nD Cert.KernelMergeIdeal.τ).loc Cert.KernelMergeIdeal.main_v0_5)) (v6 : (c : Dev Cert.KernelMergeIdeal.nD) → Buf (Elt Ideal) ((c.tc : Thread Cert.KernelMergeIdeal.nD Cert.KernelMergeIdeal.τ).loc Cert.KernelMergeIdeal.main_v0_6)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_v0_3) = v3 c
          ∧ r.2.mem ((c.tc : Thread Cert.KernelMergeIdeal.nD Cert.KernelMergeIdeal.τ).loc Cert.KernelMergeIdeal.main_v0_4) = v4 c
          ∧ r.2.mem ((c.tc : Thread Cert.KernelMergeIdeal.nD Cert.KernelMergeIdeal.τ).loc Cert.KernelMergeIdeal.main_v0_5) = v5 c
          ∧ r.2.mem ((c.tc : Thread Cert.KernelMergeIdeal.nD Cert.KernelMergeIdeal.τ).loc Cert.KernelMergeIdeal.main_v0_6) = v6 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v37) = v0 c
          ∧ r.2.mem ((c.tc : Thread Cert.ReferenceMergeIdeal.nD Cert.ReferenceMergeIdeal.τ).loc Cert.ReferenceMergeIdeal.main_v34) = v1 c
          ∧ r.2.mem ((c.tc : Thread Cert.ReferenceMergeIdeal.nD Cert.ReferenceMergeIdeal.τ).loc Cert.ReferenceMergeIdeal.main_v36) = v2 c
          ∧ r.2.mem ((c.tc : Thread Cert.ReferenceMergeIdeal.nD Cert.ReferenceMergeIdeal.τ).loc Cert.ReferenceMergeIdeal.main_v38) = v3 c
          ∧ r.2.mem ((c.tc : Thread Cert.ReferenceMergeIdeal.nD Cert.ReferenceMergeIdeal.τ).loc Cert.ReferenceMergeIdeal.main_v41) = v4 c
          ∧ r.2.mem ((c.tc : Thread Cert.ReferenceMergeIdeal.nD Cert.ReferenceMergeIdeal.τ).loc Cert.ReferenceMergeIdeal.main_v44) = v5 c
          ∧ r.2.mem ((c.tc : Thread Cert.ReferenceMergeIdeal.nD Cert.ReferenceMergeIdeal.τ).loc Cert.ReferenceMergeIdeal.main_v47) = v6 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelXa_KernelXaIdeal : Prop :=
  True

def algebraic_KernelXaIdeal_ReferenceXaIdeal_pre_finite_xa [hKernelXaIdeal : Cert.KernelXaIdeal.Facts] [hReferenceXaIdeal : Cert.ReferenceXaIdeal.Facts] [hPre_finite_xa : Cert.Pre_finite_xa.Facts] : Prop :=
  ∀ (m : (ℓ : Loc Cert.KernelXaIdeal.nD Cert.KernelXaIdeal.τ Cert.KernelXaIdeal.sig) → Buf (Elt Ideal) ℓ) (g : Dev Cert.KernelXaIdeal.nD → PrngReg)
    (m' : (ℓ : Loc Cert.ReferenceXaIdeal.nD Cert.ReferenceXaIdeal.τ Cert.ReferenceXaIdeal.sig) → Buf (Elt Ideal) ℓ) (g' : Dev Cert.ReferenceXaIdeal.nD → PrngReg), Pre_KernelXaIdeal_finite_xa m →
    (∀ c : Dev Cert.KernelXaIdeal.nD,
      m' ((c.tc : Thread Cert.ReferenceXaIdeal.nD Cert.ReferenceXaIdeal.τ).loc Cert.ReferenceXaIdeal.main_arg0) = m ((c.tc : Thread Cert.KernelXaIdeal.nD Cert.KernelXaIdeal.τ).loc Cert.KernelXaIdeal.main_arg0)
      ∧ m' ((c.tc : Thread Cert.ReferenceXaIdeal.nD Cert.ReferenceXaIdeal.τ).loc Cert.ReferenceXaIdeal.main_arg1) = m ((c.tc : Thread Cert.KernelXaIdeal.nD Cert.KernelXaIdeal.τ).loc Cert.KernelXaIdeal.main_arg1)
      ∧ m' ((c.tc : Thread Cert.ReferenceXaIdeal.nD Cert.ReferenceXaIdeal.τ).loc Cert.ReferenceXaIdeal.main_arg2) = m ((c.tc : Thread Cert.KernelXaIdeal.nD Cert.KernelXaIdeal.τ).loc Cert.KernelXaIdeal.main_arg2)
      ∧ m' ((c.tc : Thread Cert.ReferenceXaIdeal.nD Cert.ReferenceXaIdeal.τ).loc Cert.ReferenceXaIdeal.main_arg3) = m ((c.tc : Thread Cert.KernelXaIdeal.nD Cert.KernelXaIdeal.τ).loc Cert.KernelXaIdeal.main_arg3)) →
    ∃ (v0 : (c : Dev Cert.KernelXaIdeal.nD) → Buf (Elt Ideal) ((c.tc : Thread Cert.KernelXaIdeal.nD Cert.KernelXaIdeal.τ).loc Cert.KernelXaIdeal.main_v0_0)) (v1 : (c : Dev Cert.KernelXaIdeal.nD) → Buf (Elt Ideal) ((c.tc : Thread Cert.KernelXaIdeal.nD Cert.KernelXaIdeal.τ).loc Cert.KernelXaIdeal.main_v0_1)) (v2 : (c : Dev Cert.KernelXaIdeal.nD) → Buf (Elt Ideal) ((c.tc : Thread Cert.KernelXaIdeal.nD Cert.KernelXaIdeal.τ).loc Cert.KernelXaIdeal.main_v0_2)),
      θ_run (Cert.KernelXaIdeal.defs (F := Ideal)) (onTc (τ := Cert.KernelXaIdeal.τ) (Cert.KernelXaIdeal.main (F := Ideal))) ⟨m, fun _ => 0, g⟩ (fun r => ∀ c : Dev Cert.KernelXaIdeal.nD,
          r.2.mem ((c.tc : Thread Cert.KernelXaIdeal.nD Cert.KernelXaIdeal.τ).loc Cert.KernelXaIdeal.main_v0_0) = v0 c
          ∧ r.2.mem ((c.tc : Thread Cert.KernelXaIdeal.nD Cert.KernelXaIdeal.τ).loc Cert.KernelXaIdeal.main_v0_1) = v1 c
          ∧ r.2.mem ((c.tc : Thread Cert.KernelXaIdeal.nD Cert.KernelXaIdeal.τ).loc Cert.KernelXaIdeal.main_v0_2) = v2 c
          ∧ r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
          ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
          ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
          ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ θ_run (Cert.ReferenceXaIdeal.defs (F := Ideal)) (onTc (τ := Cert.ReferenceXaIdeal.τ) (Cert.ReferenceXaIdeal.main (F := Ideal))) ⟨m', fun _ => 0, g'⟩ (fun r => ∀ c : Dev Cert.ReferenceXaIdeal.nD,
          r.2.mem ((c.tc : Thread Cert.ReferenceXaIdeal.nD Cert.ReferenceXaIdeal.τ).loc Cert.ReferenceXaIdeal.main_v67) = v0 c
          ∧ r.2.mem ((c.tc : Thread Cert.ReferenceXaIdeal.nD Cert.ReferenceXaIdeal.τ).loc Cert.ReferenceXaIdeal.main_v65) = v1 c
          ∧ r.2.mem ((c.tc : Thread Cert.ReferenceXaIdeal.nD Cert.ReferenceXaIdeal.τ).loc Cert.ReferenceXaIdeal.main_v46) = v2 c
          ∧ r.2.mem ((c.tc : Thread Cert.ReferenceXaIdeal.nD Cert.ReferenceXaIdeal.τ).loc Cert.ReferenceXaIdeal.main_arg0) = m' ((c.tc : Thread Cert.ReferenceXaIdeal.nD Cert.ReferenceXaIdeal.τ).loc Cert.ReferenceXaIdeal.main_arg0)
          ∧ r.2.mem ((c.tc : Thread Cert.ReferenceXaIdeal.nD Cert.ReferenceXaIdeal.τ).loc Cert.ReferenceXaIdeal.main_arg1) = m' ((c.tc : Thread Cert.ReferenceXaIdeal.nD Cert.ReferenceXaIdeal.τ).loc Cert.ReferenceXaIdeal.main_arg1)
          ∧ r.2.mem ((c.tc : Thread Cert.ReferenceXaIdeal.nD Cert.ReferenceXaIdeal.τ).loc Cert.ReferenceXaIdeal.main_arg2) = m' ((c.tc : Thread Cert.ReferenceXaIdeal.nD Cert.ReferenceXaIdeal.τ).loc Cert.ReferenceXaIdeal.main_arg2)
          ∧ r.2.mem ((c.tc : Thread Cert.ReferenceXaIdeal.nD Cert.ReferenceXaIdeal.τ).loc Cert.ReferenceXaIdeal.main_arg3) = m' ((c.tc : Thread Cert.ReferenceXaIdeal.nD Cert.ReferenceXaIdeal.τ).loc Cert.ReferenceXaIdeal.main_arg3))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v0_0)) (v1 : (c : Dev Cert.KernelFfnIdeal.nD) → Buf (Elt Ideal) ((c.tc : Thread Cert.KernelFfnIdeal.nD Cert.KernelFfnIdeal.τ).loc Cert.KernelFfnIdeal.main_v0_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0_0) = v0 c
          ∧ r.2.mem ((c.tc : Thread Cert.KernelFfnIdeal.nD Cert.KernelFfnIdeal.τ).loc Cert.KernelFfnIdeal.main_v0_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v10) = v0 c
          ∧ r.2.mem ((c.tc : Thread Cert.ReferenceFfnIdeal.nD Cert.ReferenceFfnIdeal.τ).loc Cert.ReferenceFfnIdeal.main_v11) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelInp_KernelInpIdeal : Prop :=
  True

def algebraic_KernelInpIdeal_ReferenceInpIdeal [hKernelInpIdeal : Cert.KernelInpIdeal.Facts] [hReferenceInpIdeal : Cert.ReferenceInpIdeal.Facts] : Prop :=
  ∀ (m : (ℓ : Loc Cert.KernelInpIdeal.nD Cert.KernelInpIdeal.τ Cert.KernelInpIdeal.sig) → Buf (Elt Ideal) ℓ) (g : Dev Cert.KernelInpIdeal.nD → PrngReg)
    (m' : (ℓ : Loc Cert.ReferenceInpIdeal.nD Cert.ReferenceInpIdeal.τ Cert.ReferenceInpIdeal.sig) → Buf (Elt Ideal) ℓ) (g' : Dev Cert.ReferenceInpIdeal.nD → PrngReg), Pre_KernelInpIdeal m →
    (∀ c : Dev Cert.KernelInpIdeal.nD,
      m' ((c.tc : Thread Cert.ReferenceInpIdeal.nD Cert.ReferenceInpIdeal.τ).loc Cert.ReferenceInpIdeal.main_arg0) = m ((c.tc : Thread Cert.KernelInpIdeal.nD Cert.KernelInpIdeal.τ).loc Cert.KernelInpIdeal.main_arg0)
      ∧ m' ((c.tc : Thread Cert.ReferenceInpIdeal.nD Cert.ReferenceInpIdeal.τ).loc Cert.ReferenceInpIdeal.main_arg1) = m ((c.tc : Thread Cert.KernelInpIdeal.nD Cert.KernelInpIdeal.τ).loc Cert.KernelInpIdeal.main_arg1)) →
    ∃ (v0 : (c : Dev Cert.KernelInpIdeal.nD) → Buf (Elt Ideal) ((c.tc : Thread Cert.KernelInpIdeal.nD Cert.KernelInpIdeal.τ).loc Cert.KernelInpIdeal.main_v0)),
      θ_run (Cert.KernelInpIdeal.defs (F := Ideal)) (onTc (τ := Cert.KernelInpIdeal.τ) (Cert.KernelInpIdeal.main (F := Ideal))) ⟨m, fun _ => 0, g⟩ (fun r => ∀ c : Dev Cert.KernelInpIdeal.nD,
          r.2.mem ((c.tc : Thread Cert.KernelInpIdeal.nD Cert.KernelInpIdeal.τ).loc Cert.KernelInpIdeal.main_v0) = v0 c
          ∧ r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
          ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1))
      ∧ θ_run (Cert.ReferenceInpIdeal.defs (F := Ideal)) (onTc (τ := Cert.ReferenceInpIdeal.τ) (Cert.ReferenceInpIdeal.main (F := Ideal))) ⟨m', fun _ => 0, g'⟩ (fun r => ∀ c : Dev Cert.ReferenceInpIdeal.nD,
          r.2.mem ((c.tc : Thread Cert.ReferenceInpIdeal.nD Cert.ReferenceInpIdeal.τ).loc Cert.ReferenceInpIdeal.main_v3) = v0 c
          ∧ r.2.mem ((c.tc : Thread Cert.ReferenceInpIdeal.nD Cert.ReferenceInpIdeal.τ).loc Cert.ReferenceInpIdeal.main_arg0) = m' ((c.tc : Thread Cert.ReferenceInpIdeal.nD Cert.ReferenceInpIdeal.τ).loc Cert.ReferenceInpIdeal.main_arg0)
          ∧ r.2.mem ((c.tc : Thread Cert.ReferenceInpIdeal.nD Cert.ReferenceInpIdeal.τ).loc Cert.ReferenceInpIdeal.main_arg1) = m' ((c.tc : Thread Cert.ReferenceInpIdeal.nD Cert.ReferenceInpIdeal.τ).loc Cert.ReferenceInpIdeal.main_arg1))

def preserves_KernelWindw_KernelWindwIdeal : Prop :=
  True

def algebraic_KernelWindwIdeal_ReferenceWindwIdeal [hKernelWindwIdeal : Cert.KernelWindwIdeal.Facts] [hReferenceWindwIdeal : Cert.ReferenceWindwIdeal.Facts] : Prop :=
  ∀ (m : (ℓ : Loc Cert.KernelWindwIdeal.nD Cert.KernelWindwIdeal.τ Cert.KernelWindwIdeal.sig) → Buf (Elt Ideal) ℓ) (g : Dev Cert.KernelWindwIdeal.nD → PrngReg)
    (m' : (ℓ : Loc Cert.ReferenceWindwIdeal.nD Cert.ReferenceWindwIdeal.τ Cert.ReferenceWindwIdeal.sig) → Buf (Elt Ideal) ℓ) (g' : Dev Cert.ReferenceWindwIdeal.nD → PrngReg), Pre_KernelWindwIdeal m →
    (∀ c : Dev Cert.KernelWindwIdeal.nD,
      m' ((c.tc : Thread Cert.ReferenceWindwIdeal.nD Cert.ReferenceWindwIdeal.τ).loc Cert.ReferenceWindwIdeal.main_arg0) = m ((c.tc : Thread Cert.KernelWindwIdeal.nD Cert.KernelWindwIdeal.τ).loc Cert.KernelWindwIdeal.main_arg0)
      ∧ m' ((c.tc : Thread Cert.ReferenceWindwIdeal.nD Cert.ReferenceWindwIdeal.τ).loc Cert.ReferenceWindwIdeal.main_arg1) = m ((c.tc : Thread Cert.KernelWindwIdeal.nD Cert.KernelWindwIdeal.τ).loc Cert.KernelWindwIdeal.main_arg1)) →
    ∃ (v0 : (c : Dev Cert.KernelWindwIdeal.nD) → Buf (Elt Ideal) ((c.tc : Thread Cert.KernelWindwIdeal.nD Cert.KernelWindwIdeal.τ).loc Cert.KernelWindwIdeal.main_v0)),
      θ_run (Cert.KernelWindwIdeal.defs (F := Ideal)) (onTc (τ := Cert.KernelWindwIdeal.τ) (Cert.KernelWindwIdeal.main (F := Ideal))) ⟨m, fun _ => 0, g⟩ (fun r => ∀ c : Dev Cert.KernelWindwIdeal.nD,
          r.2.mem ((c.tc : Thread Cert.KernelWindwIdeal.nD Cert.KernelWindwIdeal.τ).loc Cert.KernelWindwIdeal.main_v0) = v0 c
          ∧ r.2.mem ((c.tc : Thread Cert.KernelWindwIdeal.nD Cert.KernelWindwIdeal.τ).loc Cert.KernelWindwIdeal.main_arg0) = m ((c.tc : Thread Cert.KernelWindwIdeal.nD Cert.KernelWindwIdeal.τ).loc Cert.KernelWindwIdeal.main_arg0)
          ∧ r.2.mem ((c.tc : Thread Cert.KernelWindwIdeal.nD Cert.KernelWindwIdeal.τ).loc Cert.KernelWindwIdeal.main_arg1) = m ((c.tc : Thread Cert.KernelWindwIdeal.nD Cert.KernelWindwIdeal.τ).loc Cert.KernelWindwIdeal.main_arg1))
      ∧ θ_run (Cert.ReferenceWindwIdeal.defs (F := Ideal)) (onTc (τ := Cert.ReferenceWindwIdeal.τ) (Cert.ReferenceWindwIdeal.main (F := Ideal))) ⟨m', fun _ => 0, g'⟩ (fun r => ∀ c : Dev Cert.ReferenceWindwIdeal.nD,
          r.2.mem ((c.tc : Thread Cert.ReferenceWindwIdeal.nD Cert.ReferenceWindwIdeal.τ).loc Cert.ReferenceWindwIdeal.main_v8) = v0 c
          ∧ r.2.mem ((c.tc : Thread Cert.ReferenceWindwIdeal.nD Cert.ReferenceWindwIdeal.τ).loc Cert.ReferenceWindwIdeal.main_arg0) = m' ((c.tc : Thread Cert.ReferenceWindwIdeal.nD Cert.ReferenceWindwIdeal.τ).loc Cert.ReferenceWindwIdeal.main_arg0)
          ∧ r.2.mem ((c.tc : Thread Cert.ReferenceWindwIdeal.nD Cert.ReferenceWindwIdeal.τ).loc Cert.ReferenceWindwIdeal.main_arg1) = m' ((c.tc : Thread Cert.ReferenceWindwIdeal.nD Cert.ReferenceWindwIdeal.τ).loc Cert.ReferenceWindwIdeal.main_arg1))

def preserves_KernelFfnin_KernelFfninIdeal : Prop :=
  True

def algebraic_KernelFfninIdeal_ReferenceFfninIdeal [hKernelFfninIdeal : Cert.KernelFfninIdeal.Facts] [hReferenceFfninIdeal : Cert.ReferenceFfninIdeal.Facts] : Prop :=
  ∀ (m : (ℓ : Loc Cert.KernelFfninIdeal.nD Cert.KernelFfninIdeal.τ Cert.KernelFfninIdeal.sig) → Buf (Elt Ideal) ℓ) (g : Dev Cert.KernelFfninIdeal.nD → PrngReg)
    (m' : (ℓ : Loc Cert.ReferenceFfninIdeal.nD Cert.ReferenceFfninIdeal.τ Cert.ReferenceFfninIdeal.sig) → Buf (Elt Ideal) ℓ) (g' : Dev Cert.ReferenceFfninIdeal.nD → PrngReg), Pre_KernelFfninIdeal m →
    (∀ c : Dev Cert.KernelFfninIdeal.nD,
      m' ((c.tc : Thread Cert.ReferenceFfninIdeal.nD Cert.ReferenceFfninIdeal.τ).loc Cert.ReferenceFfninIdeal.main_arg0) = m ((c.tc : Thread Cert.KernelFfninIdeal.nD Cert.KernelFfninIdeal.τ).loc Cert.KernelFfninIdeal.main_arg0)
      ∧ m' ((c.tc : Thread Cert.ReferenceFfninIdeal.nD Cert.ReferenceFfninIdeal.τ).loc Cert.ReferenceFfninIdeal.main_arg1) = m ((c.tc : Thread Cert.KernelFfninIdeal.nD Cert.KernelFfninIdeal.τ).loc Cert.KernelFfninIdeal.main_arg1)
      ∧ m' ((c.tc : Thread Cert.ReferenceFfninIdeal.nD Cert.ReferenceFfninIdeal.τ).loc Cert.ReferenceFfninIdeal.main_arg2) = m ((c.tc : Thread Cert.KernelFfninIdeal.nD Cert.KernelFfninIdeal.τ).loc Cert.KernelFfninIdeal.main_arg2)) →
    ∃ (v0 : (c : Dev Cert.KernelFfninIdeal.nD) → Buf (Elt Ideal) ((c.tc : Thread Cert.KernelFfninIdeal.nD Cert.KernelFfninIdeal.τ).loc Cert.KernelFfninIdeal.main_v0_0)) (v1 : (c : Dev Cert.KernelFfninIdeal.nD) → Buf (Elt Ideal) ((c.tc : Thread Cert.KernelFfninIdeal.nD Cert.KernelFfninIdeal.τ).loc Cert.KernelFfninIdeal.main_v0_1)) (v2 : (c : Dev Cert.KernelFfninIdeal.nD) → Buf (Elt Ideal) ((c.tc : Thread Cert.KernelFfninIdeal.nD Cert.KernelFfninIdeal.τ).loc Cert.KernelFfninIdeal.main_v0_2)),
      θ_run (Cert.KernelFfninIdeal.defs (F := Ideal)) (onTc (τ := Cert.KernelFfninIdeal.τ) (Cert.KernelFfninIdeal.main (F := Ideal))) ⟨m, fun _ => 0, g⟩ (fun r => ∀ c : Dev Cert.KernelFfninIdeal.nD,
          r.2.mem ((c.tc : Thread Cert.KernelFfninIdeal.nD Cert.KernelFfninIdeal.τ).loc Cert.KernelFfninIdeal.main_v0_0) = v0 c
          ∧ r.2.mem ((c.tc : Thread Cert.KernelFfninIdeal.nD Cert.KernelFfninIdeal.τ).loc Cert.KernelFfninIdeal.main_v0_1) = v1 c
          ∧ r.2.mem ((c.tc : Thread Cert.KernelFfninIdeal.nD Cert.KernelFfninIdeal.τ).loc Cert.KernelFfninIdeal.main_v0_2) = v2 c
          ∧ r.2.mem ((c.tc : Thread Cert.KernelFfninIdeal.nD Cert.KernelFfninIdeal.τ).loc Cert.KernelFfninIdeal.main_arg0) = m ((c.tc : Thread Cert.KernelFfninIdeal.nD Cert.KernelFfninIdeal.τ).loc Cert.KernelFfninIdeal.main_arg0)
          ∧ r.2.mem ((c.tc : Thread Cert.KernelFfninIdeal.nD Cert.KernelFfninIdeal.τ).loc Cert.KernelFfninIdeal.main_arg1) = m ((c.tc : Thread Cert.KernelFfninIdeal.nD Cert.KernelFfninIdeal.τ).loc Cert.KernelFfninIdeal.main_arg1)
          ∧ r.2.mem ((c.tc : Thread Cert.KernelFfninIdeal.nD Cert.KernelFfninIdeal.τ).loc Cert.KernelFfninIdeal.main_arg2) = m ((c.tc : Thread Cert.KernelFfninIdeal.nD Cert.KernelFfninIdeal.τ).loc Cert.KernelFfninIdeal.main_arg2))
      ∧ θ_run (Cert.ReferenceFfninIdeal.defs (F := Ideal)) (onTc (τ := Cert.ReferenceFfninIdeal.τ) (Cert.ReferenceFfninIdeal.main (F := Ideal))) ⟨m', fun _ => 0, g'⟩ (fun r => ∀ c : Dev Cert.ReferenceFfninIdeal.nD,
          r.2.mem ((c.tc : Thread Cert.ReferenceFfninIdeal.nD Cert.ReferenceFfninIdeal.τ).loc Cert.ReferenceFfninIdeal.main_v7) = v0 c
          ∧ r.2.mem ((c.tc : Thread Cert.ReferenceFfninIdeal.nD Cert.ReferenceFfninIdeal.τ).loc Cert.ReferenceFfninIdeal.main_v8) = v1 c
          ∧ r.2.mem ((c.tc : Thread Cert.ReferenceFfninIdeal.nD Cert.ReferenceFfninIdeal.τ).loc Cert.ReferenceFfninIdeal.main_v11) = v2 c
          ∧ r.2.mem ((c.tc : Thread Cert.ReferenceFfninIdeal.nD Cert.ReferenceFfninIdeal.τ).loc Cert.ReferenceFfninIdeal.main_arg0) = m' ((c.tc : Thread Cert.ReferenceFfninIdeal.nD Cert.ReferenceFfninIdeal.τ).loc Cert.ReferenceFfninIdeal.main_arg0)
          ∧ r.2.mem ((c.tc : Thread Cert.ReferenceFfninIdeal.nD Cert.ReferenceFfninIdeal.τ).loc Cert.ReferenceFfninIdeal.main_arg1) = m' ((c.tc : Thread Cert.ReferenceFfninIdeal.nD Cert.ReferenceFfninIdeal.τ).loc Cert.ReferenceFfninIdeal.main_arg1)
          ∧ r.2.mem ((c.tc : Thread Cert.ReferenceFfninIdeal.nD Cert.ReferenceFfninIdeal.τ).loc Cert.ReferenceFfninIdeal.main_arg2) = m' ((c.tc : Thread Cert.ReferenceFfninIdeal.nD Cert.ReferenceFfninIdeal.τ).loc Cert.ReferenceFfninIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDowndw_KernelDowndwIdeal : Prop :=
  True

def algebraic_KernelDowndwIdeal_ReferenceDowndwIdeal [hKernelDowndwIdeal : Cert.KernelDowndwIdeal.Facts] [hReferenceDowndwIdeal : Cert.ReferenceDowndwIdeal.Facts] : Prop :=
  ∀ (m : (ℓ : Loc Cert.KernelDowndwIdeal.nD Cert.KernelDowndwIdeal.τ Cert.KernelDowndwIdeal.sig) → Buf (Elt Ideal) ℓ) (g : Dev Cert.KernelDowndwIdeal.nD → PrngReg)
    (m' : (ℓ : Loc Cert.ReferenceDowndwIdeal.nD Cert.ReferenceDowndwIdeal.τ Cert.ReferenceDowndwIdeal.sig) → Buf (Elt Ideal) ℓ) (g' : Dev Cert.ReferenceDowndwIdeal.nD → PrngReg), Pre_KernelDowndwIdeal m →
    (∀ c : Dev Cert.KernelDowndwIdeal.nD,
      m' ((c.tc : Thread Cert.ReferenceDowndwIdeal.nD Cert.ReferenceDowndwIdeal.τ).loc Cert.ReferenceDowndwIdeal.main_arg0) = m ((c.tc : Thread Cert.KernelDowndwIdeal.nD Cert.KernelDowndwIdeal.τ).loc Cert.KernelDowndwIdeal.main_arg0)
      ∧ m' ((c.tc : Thread Cert.ReferenceDowndwIdeal.nD Cert.ReferenceDowndwIdeal.τ).loc Cert.ReferenceDowndwIdeal.main_arg1) = m ((c.tc : Thread Cert.KernelDowndwIdeal.nD Cert.KernelDowndwIdeal.τ).loc Cert.KernelDowndwIdeal.main_arg1)) →
    ∃ (v0 : (c : Dev Cert.KernelDowndwIdeal.nD) → Buf (Elt Ideal) ((c.tc : Thread Cert.KernelDowndwIdeal.nD Cert.KernelDowndwIdeal.τ).loc Cert.KernelDowndwIdeal.main_v0)),
      θ_run (Cert.KernelDowndwIdeal.defs (F := Ideal)) (onTc (τ := Cert.KernelDowndwIdeal.τ) (Cert.KernelDowndwIdeal.main (F := Ideal))) ⟨m, fun _ => 0, g⟩ (fun r => ∀ c : Dev Cert.KernelDowndwIdeal.nD,
          r.2.mem ((c.tc : Thread Cert.KernelDowndwIdeal.nD Cert.KernelDowndwIdeal.τ).loc Cert.KernelDowndwIdeal.main_v0) = v0 c
          ∧ r.2.mem ((c.tc : Thread Cert.KernelDowndwIdeal.nD Cert.KernelDowndwIdeal.τ).loc Cert.KernelDowndwIdeal.main_arg0) = m ((c.tc : Thread Cert.KernelDowndwIdeal.nD Cert.KernelDowndwIdeal.τ).loc Cert.KernelDowndwIdeal.main_arg0)
          ∧ r.2.mem ((c.tc : Thread Cert.KernelDowndwIdeal.nD Cert.KernelDowndwIdeal.τ).loc Cert.KernelDowndwIdeal.main_arg1) = m ((c.tc : Thread Cert.KernelDowndwIdeal.nD Cert.KernelDowndwIdeal.τ).loc Cert.KernelDowndwIdeal.main_arg1))
      ∧ θ_run (Cert.ReferenceDowndwIdeal.defs (F := Ideal)) (onTc (τ := Cert.ReferenceDowndwIdeal.τ) (Cert.ReferenceDowndwIdeal.main (F := Ideal))) ⟨m', fun _ => 0, g'⟩ (fun r => ∀ c : Dev Cert.ReferenceDowndwIdeal.nD,
          r.2.mem ((c.tc : Thread Cert.ReferenceDowndwIdeal.nD Cert.ReferenceDowndwIdeal.τ).loc Cert.ReferenceDowndwIdeal.main_v5) = v0 c
          ∧ r.2.mem ((c.tc : Thread Cert.ReferenceDowndwIdeal.nD Cert.ReferenceDowndwIdeal.τ).loc Cert.ReferenceDowndwIdeal.main_arg0) = m' ((c.tc : Thread Cert.ReferenceDowndwIdeal.nD Cert.ReferenceDowndwIdeal.τ).loc Cert.ReferenceDowndwIdeal.main_arg0)
          ∧ r.2.mem ((c.tc : Thread Cert.ReferenceDowndwIdeal.nD Cert.ReferenceDowndwIdeal.τ).loc Cert.ReferenceDowndwIdeal.main_arg1) = m' ((c.tc : Thread Cert.ReferenceDowndwIdeal.nD Cert.ReferenceDowndwIdeal.τ).loc Cert.ReferenceDowndwIdeal.main_arg1))

def preserves_KernelGatedw_KernelGatedwIdeal : Prop :=
  True

def algebraic_KernelGatedwIdeal_ReferenceGatedwIdeal [hKernelGatedwIdeal : Cert.KernelGatedwIdeal.Facts] [hReferenceGatedwIdeal : Cert.ReferenceGatedwIdeal.Facts] : Prop :=
  ∀ (m : (ℓ : Loc Cert.KernelGatedwIdeal.nD Cert.KernelGatedwIdeal.τ Cert.KernelGatedwIdeal.sig) → Buf (Elt Ideal) ℓ) (g : Dev Cert.KernelGatedwIdeal.nD → PrngReg)
    (m' : (ℓ : Loc Cert.ReferenceGatedwIdeal.nD Cert.ReferenceGatedwIdeal.τ Cert.ReferenceGatedwIdeal.sig) → Buf (Elt Ideal) ℓ) (g' : Dev Cert.ReferenceGatedwIdeal.nD → PrngReg), Pre_KernelGatedwIdeal m →
    (∀ c : Dev Cert.KernelGatedwIdeal.nD,
      m' ((c.tc : Thread Cert.ReferenceGatedwIdeal.nD Cert.ReferenceGatedwIdeal.τ).loc Cert.ReferenceGatedwIdeal.main_arg0) = m ((c.tc : Thread Cert.KernelGatedwIdeal.nD Cert.KernelGatedwIdeal.τ).loc Cert.KernelGatedwIdeal.main_arg0)
      ∧ m' ((c.tc : Thread Cert.ReferenceGatedwIdeal.nD Cert.ReferenceGatedwIdeal.τ).loc Cert.ReferenceGatedwIdeal.main_arg1) = m ((c.tc : Thread Cert.KernelGatedwIdeal.nD Cert.KernelGatedwIdeal.τ).loc Cert.KernelGatedwIdeal.main_arg1)) →
    ∃ (v0 : (c : Dev Cert.KernelGatedwIdeal.nD) → Buf (Elt Ideal) ((c.tc : Thread Cert.KernelGatedwIdeal.nD Cert.KernelGatedwIdeal.τ).loc Cert.KernelGatedwIdeal.main_v0)),
      θ_run (Cert.KernelGatedwIdeal.defs (F := Ideal)) (onTc (τ := Cert.KernelGatedwIdeal.τ) (Cert.KernelGatedwIdeal.main (F := Ideal))) ⟨m, fun _ => 0, g⟩ (fun r => ∀ c : Dev Cert.KernelGatedwIdeal.nD,
          r.2.mem ((c.tc : Thread Cert.KernelGatedwIdeal.nD Cert.KernelGatedwIdeal.τ).loc Cert.KernelGatedwIdeal.main_v0) = v0 c
          ∧ r.2.mem ((c.tc : Thread Cert.KernelGatedwIdeal.nD Cert.KernelGatedwIdeal.τ).loc Cert.KernelGatedwIdeal.main_arg0) = m ((c.tc : Thread Cert.KernelGatedwIdeal.nD Cert.KernelGatedwIdeal.τ).loc Cert.KernelGatedwIdeal.main_arg0)
          ∧ r.2.mem ((c.tc : Thread Cert.KernelGatedwIdeal.nD Cert.KernelGatedwIdeal.τ).loc Cert.KernelGatedwIdeal.main_arg1) = m ((c.tc : Thread Cert.KernelGatedwIdeal.nD Cert.KernelGatedwIdeal.τ).loc Cert.KernelGatedwIdeal.main_arg1))
      ∧ θ_run (Cert.ReferenceGatedwIdeal.defs (F := Ideal)) (onTc (τ := Cert.ReferenceGatedwIdeal.τ) (Cert.ReferenceGatedwIdeal.main (F := Ideal))) ⟨m', fun _ => 0, g'⟩ (fun r => ∀ c : Dev Cert.ReferenceGatedwIdeal.nD,
          r.2.mem ((c.tc : Thread Cert.ReferenceGatedwIdeal.nD Cert.ReferenceGatedwIdeal.τ).loc Cert.ReferenceGatedwIdeal.main_v8) = v0 c
          ∧ r.2.mem ((c.tc : Thread Cert.ReferenceGatedwIdeal.nD Cert.ReferenceGatedwIdeal.τ).loc Cert.ReferenceGatedwIdeal.main_arg0) = m' ((c.tc : Thread Cert.ReferenceGatedwIdeal.nD Cert.ReferenceGatedwIdeal.τ).loc Cert.ReferenceGatedwIdeal.main_arg0)
          ∧ r.2.mem ((c.tc : Thread Cert.ReferenceGatedwIdeal.nD Cert.ReferenceGatedwIdeal.τ).loc Cert.ReferenceGatedwIdeal.main_arg1) = m' ((c.tc : Thread Cert.ReferenceGatedwIdeal.nD Cert.ReferenceGatedwIdeal.τ).loc Cert.ReferenceGatedwIdeal.main_arg1))

def preserves_KernelGatedx_KernelGatedxIdeal : Prop :=
  True

def algebraic_KernelGatedxIdeal_ReferenceGatedxIdeal [hKernelGatedxIdeal : Cert.KernelGatedxIdeal.Facts] [hReferenceGatedxIdeal : Cert.ReferenceGatedxIdeal.Facts] : Prop :=
  ∀ (m : (ℓ : Loc Cert.KernelGatedxIdeal.nD Cert.KernelGatedxIdeal.τ Cert.KernelGatedxIdeal.sig) → Buf (Elt Ideal) ℓ) (g : Dev Cert.KernelGatedxIdeal.nD → PrngReg)
    (m' : (ℓ : Loc Cert.ReferenceGatedxIdeal.nD Cert.ReferenceGatedxIdeal.τ Cert.ReferenceGatedxIdeal.sig) → Buf (Elt Ideal) ℓ) (g' : Dev Cert.ReferenceGatedxIdeal.nD → PrngReg), Pre_KernelGatedxIdeal m →
    (∀ c : Dev Cert.KernelGatedxIdeal.nD,
      m' ((c.tc : Thread Cert.ReferenceGatedxIdeal.nD Cert.ReferenceGatedxIdeal.τ).loc Cert.ReferenceGatedxIdeal.main_arg0) = m ((c.tc : Thread Cert.KernelGatedxIdeal.nD Cert.KernelGatedxIdeal.τ).loc Cert.KernelGatedxIdeal.main_arg0)
      ∧ m' ((c.tc : Thread Cert.ReferenceGatedxIdeal.nD Cert.ReferenceGatedxIdeal.τ).loc Cert.ReferenceGatedxIdeal.main_arg1) = m ((c.tc : Thread Cert.KernelGatedxIdeal.nD Cert.KernelGatedxIdeal.τ).loc Cert.KernelGatedxIdeal.main_arg1)) →
    ∃ (v0 : (c : Dev Cert.KernelGatedxIdeal.nD) → Buf (Elt Ideal) ((c.tc : Thread Cert.KernelGatedxIdeal.nD Cert.KernelGatedxIdeal.τ).loc Cert.KernelGatedxIdeal.main_v0)),
      θ_run (Cert.KernelGatedxIdeal.defs (F := Ideal)) (onTc (τ := Cert.KernelGatedxIdeal.τ) (Cert.KernelGatedxIdeal.main (F := Ideal))) ⟨m, fun _ => 0, g⟩ (fun r => ∀ c : Dev Cert.KernelGatedxIdeal.nD,
          r.2.mem ((c.tc : Thread Cert.KernelGatedxIdeal.nD Cert.KernelGatedxIdeal.τ).loc Cert.KernelGatedxIdeal.main_v0) = v0 c
          ∧ r.2.mem ((c.tc : Thread Cert.KernelGatedxIdeal.nD Cert.KernelGatedxIdeal.τ).loc Cert.KernelGatedxIdeal.main_arg0) = m ((c.tc : Thread Cert.KernelGatedxIdeal.nD Cert.KernelGatedxIdeal.τ).loc Cert.KernelGatedxIdeal.main_arg0)
          ∧ r.2.mem ((c.tc : Thread Cert.KernelGatedxIdeal.nD Cert.KernelGatedxIdeal.τ).loc Cert.KernelGatedxIdeal.main_arg1) = m ((c.tc : Thread Cert.KernelGatedxIdeal.nD Cert.KernelGatedxIdeal.τ).loc Cert.KernelGatedxIdeal.main_arg1))
      ∧ θ_run (Cert.ReferenceGatedxIdeal.defs (F := Ideal)) (onTc (τ := Cert.ReferenceGatedxIdeal.τ) (Cert.ReferenceGatedxIdeal.main (F := Ideal))) ⟨m', fun _ => 0, g'⟩ (fun r => ∀ c : Dev Cert.ReferenceGatedxIdeal.nD,
          r.2.mem ((c.tc : Thread Cert.ReferenceGatedxIdeal.nD Cert.ReferenceGatedxIdeal.τ).loc Cert.ReferenceGatedxIdeal.main_v5) = v0 c
          ∧ r.2.mem ((c.tc : Thread Cert.ReferenceGatedxIdeal.nD Cert.ReferenceGatedxIdeal.τ).loc Cert.ReferenceGatedxIdeal.main_arg0) = m' ((c.tc : Thread Cert.ReferenceGatedxIdeal.nD Cert.ReferenceGatedxIdeal.τ).loc Cert.ReferenceGatedxIdeal.main_arg0)
          ∧ r.2.mem ((c.tc : Thread Cert.ReferenceGatedxIdeal.nD Cert.ReferenceGatedxIdeal.τ).loc Cert.ReferenceGatedxIdeal.main_arg1) = m' ((c.tc : Thread Cert.ReferenceGatedxIdeal.nD Cert.ReferenceGatedxIdeal.τ).loc Cert.ReferenceGatedxIdeal.main_arg1))

def preserves_KernelOutdx_KernelOutdxIdeal : Prop :=
  True

def algebraic_KernelOutdxIdeal_ReferenceOutdxIdeal [hKernelOutdxIdeal : Cert.KernelOutdxIdeal.Facts] [hReferenceOutdxIdeal : Cert.ReferenceOutdxIdeal.Facts] : Prop :=
  ∀ (m : (ℓ : Loc Cert.KernelOutdxIdeal.nD Cert.KernelOutdxIdeal.τ Cert.KernelOutdxIdeal.sig) → Buf (Elt Ideal) ℓ) (g : Dev Cert.KernelOutdxIdeal.nD → PrngReg)
    (m' : (ℓ : Loc Cert.ReferenceOutdxIdeal.nD Cert.ReferenceOutdxIdeal.τ Cert.ReferenceOutdxIdeal.sig) → Buf (Elt Ideal) ℓ) (g' : Dev Cert.ReferenceOutdxIdeal.nD → PrngReg), Pre_KernelOutdxIdeal m →
    (∀ c : Dev Cert.KernelOutdxIdeal.nD,
      m' ((c.tc : Thread Cert.ReferenceOutdxIdeal.nD Cert.ReferenceOutdxIdeal.τ).loc Cert.ReferenceOutdxIdeal.main_arg0) = m ((c.tc : Thread Cert.KernelOutdxIdeal.nD Cert.KernelOutdxIdeal.τ).loc Cert.KernelOutdxIdeal.main_arg0)
      ∧ m' ((c.tc : Thread Cert.ReferenceOutdxIdeal.nD Cert.ReferenceOutdxIdeal.τ).loc Cert.ReferenceOutdxIdeal.main_arg1) = m ((c.tc : Thread Cert.KernelOutdxIdeal.nD Cert.KernelOutdxIdeal.τ).loc Cert.KernelOutdxIdeal.main_arg1)) →
    ∃ (v0 : (c : Dev Cert.KernelOutdxIdeal.nD) → Buf (Elt Ideal) ((c.tc : Thread Cert.KernelOutdxIdeal.nD Cert.KernelOutdxIdeal.τ).loc Cert.KernelOutdxIdeal.main_v0)),
      θ_run (Cert.KernelOutdxIdeal.defs (F := Ideal)) (onTc (τ := Cert.KernelOutdxIdeal.τ) (Cert.KernelOutdxIdeal.main (F := Ideal))) ⟨m, fun _ => 0, g⟩ (fun r => ∀ c : Dev Cert.KernelOutdxIdeal.nD,
          r.2.mem ((c.tc : Thread Cert.KernelOutdxIdeal.nD Cert.KernelOutdxIdeal.τ).loc Cert.KernelOutdxIdeal.main_v0) = v0 c
          ∧ r.2.mem ((c.tc : Thread Cert.KernelOutdxIdeal.nD Cert.KernelOutdxIdeal.τ).loc Cert.KernelOutdxIdeal.main_arg0) = m ((c.tc : Thread Cert.KernelOutdxIdeal.nD Cert.KernelOutdxIdeal.τ).loc Cert.KernelOutdxIdeal.main_arg0)
          ∧ r.2.mem ((c.tc : Thread Cert.KernelOutdxIdeal.nD Cert.KernelOutdxIdeal.τ).loc Cert.KernelOutdxIdeal.main_arg1) = m ((c.tc : Thread Cert.KernelOutdxIdeal.nD Cert.KernelOutdxIdeal.τ).loc Cert.KernelOutdxIdeal.main_arg1))
      ∧ θ_run (Cert.ReferenceOutdxIdeal.defs (F := Ideal)) (onTc (τ := Cert.ReferenceOutdxIdeal.τ) (Cert.ReferenceOutdxIdeal.main (F := Ideal))) ⟨m', fun _ => 0, g'⟩ (fun r => ∀ c : Dev Cert.ReferenceOutdxIdeal.nD,
          r.2.mem ((c.tc : Thread Cert.ReferenceOutdxIdeal.nD Cert.ReferenceOutdxIdeal.τ).loc Cert.ReferenceOutdxIdeal.main_v3) = v0 c
          ∧ r.2.mem ((c.tc : Thread Cert.ReferenceOutdxIdeal.nD Cert.ReferenceOutdxIdeal.τ).loc Cert.ReferenceOutdxIdeal.main_arg0) = m' ((c.tc : Thread Cert.ReferenceOutdxIdeal.nD Cert.ReferenceOutdxIdeal.τ).loc Cert.ReferenceOutdxIdeal.main_arg0)
          ∧ r.2.mem ((c.tc : Thread Cert.ReferenceOutdxIdeal.nD Cert.ReferenceOutdxIdeal.τ).loc Cert.ReferenceOutdxIdeal.main_arg1) = m' ((c.tc : Thread Cert.ReferenceOutdxIdeal.nD Cert.ReferenceOutdxIdeal.τ).loc Cert.ReferenceOutdxIdeal.main_arg1))

def preserves_KernelOutdw_KernelOutdwIdeal : Prop :=
  True

def algebraic_KernelOutdwIdeal_ReferenceOutdwIdeal [hKernelOutdwIdeal : Cert.KernelOutdwIdeal.Facts] [hReferenceOutdwIdeal : Cert.ReferenceOutdwIdeal.Facts] : Prop :=
  ∀ (m : (ℓ : Loc Cert.KernelOutdwIdeal.nD Cert.KernelOutdwIdeal.τ Cert.KernelOutdwIdeal.sig) → Buf (Elt Ideal) ℓ) (g : Dev Cert.KernelOutdwIdeal.nD → PrngReg)
    (m' : (ℓ : Loc Cert.ReferenceOutdwIdeal.nD Cert.ReferenceOutdwIdeal.τ Cert.ReferenceOutdwIdeal.sig) → Buf (Elt Ideal) ℓ) (g' : Dev Cert.ReferenceOutdwIdeal.nD → PrngReg), Pre_KernelOutdwIdeal m →
    (∀ c : Dev Cert.KernelOutdwIdeal.nD,
      m' ((c.tc : Thread Cert.ReferenceOutdwIdeal.nD Cert.ReferenceOutdwIdeal.τ).loc Cert.ReferenceOutdwIdeal.main_arg0) = m ((c.tc : Thread Cert.KernelOutdwIdeal.nD Cert.KernelOutdwIdeal.τ).loc Cert.KernelOutdwIdeal.main_arg0)
      ∧ m' ((c.tc : Thread Cert.ReferenceOutdwIdeal.nD Cert.ReferenceOutdwIdeal.τ).loc Cert.ReferenceOutdwIdeal.main_arg1) = m ((c.tc : Thread Cert.KernelOutdwIdeal.nD Cert.KernelOutdwIdeal.τ).loc Cert.KernelOutdwIdeal.main_arg1)) →
    ∃ (v0 : (c : Dev Cert.KernelOutdwIdeal.nD) → Buf (Elt Ideal) ((c.tc : Thread Cert.KernelOutdwIdeal.nD Cert.KernelOutdwIdeal.τ).loc Cert.KernelOutdwIdeal.main_v0)),
      θ_run (Cert.KernelOutdwIdeal.defs (F := Ideal)) (onTc (τ := Cert.KernelOutdwIdeal.τ) (Cert.KernelOutdwIdeal.main (F := Ideal))) ⟨m, fun _ => 0, g⟩ (fun r => ∀ c : Dev Cert.KernelOutdwIdeal.nD,
          r.2.mem ((c.tc : Thread Cert.KernelOutdwIdeal.nD Cert.KernelOutdwIdeal.τ).loc Cert.KernelOutdwIdeal.main_v0) = v0 c
          ∧ r.2.mem ((c.tc : Thread Cert.KernelOutdwIdeal.nD Cert.KernelOutdwIdeal.τ).loc Cert.KernelOutdwIdeal.main_arg0) = m ((c.tc : Thread Cert.KernelOutdwIdeal.nD Cert.KernelOutdwIdeal.τ).loc Cert.KernelOutdwIdeal.main_arg0)
          ∧ r.2.mem ((c.tc : Thread Cert.KernelOutdwIdeal.nD Cert.KernelOutdwIdeal.τ).loc Cert.KernelOutdwIdeal.main_arg1) = m ((c.tc : Thread Cert.KernelOutdwIdeal.nD Cert.KernelOutdwIdeal.τ).loc Cert.KernelOutdwIdeal.main_arg1))
      ∧ θ_run (Cert.ReferenceOutdwIdeal.defs (F := Ideal)) (onTc (τ := Cert.ReferenceOutdwIdeal.τ) (Cert.ReferenceOutdwIdeal.main (F := Ideal))) ⟨m', fun _ => 0, g'⟩ (fun r => ∀ c : Dev Cert.ReferenceOutdwIdeal.nD,
          r.2.mem ((c.tc : Thread Cert.ReferenceOutdwIdeal.nD Cert.ReferenceOutdwIdeal.τ).loc Cert.ReferenceOutdwIdeal.main_v5) = v0 c
          ∧ r.2.mem ((c.tc : Thread Cert.ReferenceOutdwIdeal.nD Cert.ReferenceOutdwIdeal.τ).loc Cert.ReferenceOutdwIdeal.main_arg0) = m' ((c.tc : Thread Cert.ReferenceOutdwIdeal.nD Cert.ReferenceOutdwIdeal.τ).loc Cert.ReferenceOutdwIdeal.main_arg0)
          ∧ r.2.mem ((c.tc : Thread Cert.ReferenceOutdwIdeal.nD Cert.ReferenceOutdwIdeal.τ).loc Cert.ReferenceOutdwIdeal.main_arg1) = m' ((c.tc : Thread Cert.ReferenceOutdwIdeal.nD Cert.ReferenceOutdwIdeal.τ).loc Cert.ReferenceOutdwIdeal.main_arg1))

def preserves_KernelMergef_KernelMergefIdeal : Prop :=
  True

def algebraic_KernelMergefIdeal_ReferenceMergefIdeal [hKernelMergefIdeal : Cert.KernelMergefIdeal.Facts] [hReferenceMergefIdeal : Cert.ReferenceMergefIdeal.Facts] : Prop :=
  ∀ (m : (ℓ : Loc Cert.KernelMergefIdeal.nD Cert.KernelMergefIdeal.τ Cert.KernelMergefIdeal.sig) → Buf (Elt Ideal) ℓ) (g : Dev Cert.KernelMergefIdeal.nD → PrngReg)
    (m' : (ℓ : Loc Cert.ReferenceMergefIdeal.nD Cert.ReferenceMergefIdeal.τ Cert.ReferenceMergefIdeal.sig) → Buf (Elt Ideal) ℓ) (g' : Dev Cert.ReferenceMergefIdeal.nD → PrngReg), Pre_KernelMergefIdeal m →
    (∀ c : Dev Cert.KernelMergefIdeal.nD,
      m' ((c.tc : Thread Cert.ReferenceMergefIdeal.nD Cert.ReferenceMergefIdeal.τ).loc Cert.ReferenceMergefIdeal.main_arg0) = m ((c.tc : Thread Cert.KernelMergefIdeal.nD Cert.KernelMergefIdeal.τ).loc Cert.KernelMergefIdeal.main_arg0)
      ∧ m' ((c.tc : Thread Cert.ReferenceMergefIdeal.nD Cert.ReferenceMergefIdeal.τ).loc Cert.ReferenceMergefIdeal.main_arg1) = m ((c.tc : Thread Cert.KernelMergefIdeal.nD Cert.KernelMergefIdeal.τ).loc Cert.KernelMergefIdeal.main_arg1)
      ∧ m' ((c.tc : Thread Cert.ReferenceMergefIdeal.nD Cert.ReferenceMergefIdeal.τ).loc Cert.ReferenceMergefIdeal.main_arg2) = m ((c.tc : Thread Cert.KernelMergefIdeal.nD Cert.KernelMergefIdeal.τ).loc Cert.KernelMergefIdeal.main_arg2)
      ∧ m' ((c.tc : Thread Cert.ReferenceMergefIdeal.nD Cert.ReferenceMergefIdeal.τ).loc Cert.ReferenceMergefIdeal.main_arg3) = m ((c.tc : Thread Cert.KernelMergefIdeal.nD Cert.KernelMergefIdeal.τ).loc Cert.KernelMergefIdeal.main_arg3)
      ∧ m' ((c.tc : Thread Cert.ReferenceMergefIdeal.nD Cert.ReferenceMergefIdeal.τ).loc Cert.ReferenceMergefIdeal.main_arg4) = m ((c.tc : Thread Cert.KernelMergefIdeal.nD Cert.KernelMergefIdeal.τ).loc Cert.KernelMergefIdeal.main_arg4)) →
    ∃ (v0 : (c : Dev Cert.KernelMergefIdeal.nD) → Buf (Elt Ideal) ((c.tc : Thread Cert.KernelMergefIdeal.nD Cert.KernelMergefIdeal.τ).loc Cert.KernelMergefIdeal.main_v0)),
      θ_run (Cert.KernelMergefIdeal.defs (F := Ideal)) (onTc (τ := Cert.KernelMergefIdeal.τ) (Cert.KernelMergefIdeal.main (F := Ideal))) ⟨m, fun _ => 0, g⟩ (fun r => ∀ c : Dev Cert.KernelMergefIdeal.nD,
          r.2.mem ((c.tc : Thread Cert.KernelMergefIdeal.nD Cert.KernelMergefIdeal.τ).loc Cert.KernelMergefIdeal.main_v0) = v0 c
          ∧ r.2.mem ((c.tc : Thread Cert.KernelMergefIdeal.nD Cert.KernelMergefIdeal.τ).loc Cert.KernelMergefIdeal.main_arg0) = m ((c.tc : Thread Cert.KernelMergefIdeal.nD Cert.KernelMergefIdeal.τ).loc Cert.KernelMergefIdeal.main_arg0)
          ∧ r.2.mem ((c.tc : Thread Cert.KernelMergefIdeal.nD Cert.KernelMergefIdeal.τ).loc Cert.KernelMergefIdeal.main_arg1) = m ((c.tc : Thread Cert.KernelMergefIdeal.nD Cert.KernelMergefIdeal.τ).loc Cert.KernelMergefIdeal.main_arg1)
          ∧ r.2.mem ((c.tc : Thread Cert.KernelMergefIdeal.nD Cert.KernelMergefIdeal.τ).loc Cert.KernelMergefIdeal.main_arg2) = m ((c.tc : Thread Cert.KernelMergefIdeal.nD Cert.KernelMergefIdeal.τ).loc Cert.KernelMergefIdeal.main_arg2)
          ∧ r.2.mem ((c.tc : Thread Cert.KernelMergefIdeal.nD Cert.KernelMergefIdeal.τ).loc Cert.KernelMergefIdeal.main_arg3) = m ((c.tc : Thread Cert.KernelMergefIdeal.nD Cert.KernelMergefIdeal.τ).loc Cert.KernelMergefIdeal.main_arg3)
          ∧ r.2.mem ((c.tc : Thread Cert.KernelMergefIdeal.nD Cert.KernelMergefIdeal.τ).loc Cert.KernelMergefIdeal.main_arg4) = m ((c.tc : Thread Cert.KernelMergefIdeal.nD Cert.KernelMergefIdeal.τ).loc Cert.KernelMergefIdeal.main_arg4))
      ∧ θ_run (Cert.ReferenceMergefIdeal.defs (F := Ideal)) (onTc (τ := Cert.ReferenceMergefIdeal.τ) (Cert.ReferenceMergefIdeal.main (F := Ideal))) ⟨m', fun _ => 0, g'⟩ (fun r => ∀ c : Dev Cert.ReferenceMergefIdeal.nD,
          r.2.mem ((c.tc : Thread Cert.ReferenceMergefIdeal.nD Cert.ReferenceMergefIdeal.τ).loc Cert.ReferenceMergefIdeal.main_v20) = v0 c
          ∧ r.2.mem ((c.tc : Thread Cert.ReferenceMergefIdeal.nD Cert.ReferenceMergefIdeal.τ).loc Cert.ReferenceMergefIdeal.main_arg0) = m' ((c.tc : Thread Cert.ReferenceMergefIdeal.nD Cert.ReferenceMergefIdeal.τ).loc Cert.ReferenceMergefIdeal.main_arg0)
          ∧ r.2.mem ((c.tc : Thread Cert.ReferenceMergefIdeal.nD Cert.ReferenceMergefIdeal.τ).loc Cert.ReferenceMergefIdeal.main_arg1) = m' ((c.tc : Thread Cert.ReferenceMergefIdeal.nD Cert.ReferenceMergefIdeal.τ).loc Cert.ReferenceMergefIdeal.main_arg1)
          ∧ r.2.mem ((c.tc : Thread Cert.ReferenceMergefIdeal.nD Cert.ReferenceMergefIdeal.τ).loc Cert.ReferenceMergefIdeal.main_arg2) = m' ((c.tc : Thread Cert.ReferenceMergefIdeal.nD Cert.ReferenceMergefIdeal.τ).loc Cert.ReferenceMergefIdeal.main_arg2)
          ∧ r.2.mem ((c.tc : Thread Cert.ReferenceMergefIdeal.nD Cert.ReferenceMergefIdeal.τ).loc Cert.ReferenceMergefIdeal.main_arg3) = m' ((c.tc : Thread Cert.ReferenceMergefIdeal.nD Cert.ReferenceMergefIdeal.τ).loc Cert.ReferenceMergefIdeal.main_arg3)
          ∧ r.2.mem ((c.tc : Thread Cert.ReferenceMergefIdeal.nD Cert.ReferenceMergefIdeal.τ).loc Cert.ReferenceMergefIdeal.main_arg4) = m' ((c.tc : Thread Cert.ReferenceMergefIdeal.nD Cert.ReferenceMergefIdeal.τ).loc Cert.ReferenceMergefIdeal.main_arg4))

def preserves_KernelXaq_KernelXaqIdeal : Prop :=
  True

def algebraic_KernelXaqIdeal_ReferenceXaqIdeal [hKernelXaqIdeal : Cert.KernelXaqIdeal.Facts] [hReferenceXaqIdeal : Cert.ReferenceXaqIdeal.Facts] : Prop :=
  ∀ (m : (ℓ : Loc Cert.KernelXaqIdeal.nD Cert.KernelXaqIdeal.τ Cert.KernelXaqIdeal.sig) → Buf (Elt Ideal) ℓ) (g : Dev Cert.KernelXaqIdeal.nD → PrngReg)
    (m' : (ℓ : Loc Cert.ReferenceXaqIdeal.nD Cert.ReferenceXaqIdeal.τ Cert.ReferenceXaqIdeal.sig) → Buf (Elt Ideal) ℓ) (g' : Dev Cert.ReferenceXaqIdeal.nD → PrngReg), Pre_KernelXaqIdeal m →
    (∀ c : Dev Cert.KernelXaqIdeal.nD,
      m' ((c.tc : Thread Cert.ReferenceXaqIdeal.nD Cert.ReferenceXaqIdeal.τ).loc Cert.ReferenceXaqIdeal.main_arg0) = m ((c.tc : Thread Cert.KernelXaqIdeal.nD Cert.KernelXaqIdeal.τ).loc Cert.KernelXaqIdeal.main_arg0)
      ∧ m' ((c.tc : Thread Cert.ReferenceXaqIdeal.nD Cert.ReferenceXaqIdeal.τ).loc Cert.ReferenceXaqIdeal.main_arg1) = m ((c.tc : Thread Cert.KernelXaqIdeal.nD Cert.KernelXaqIdeal.τ).loc Cert.KernelXaqIdeal.main_arg1)) →
    ∃ (v0 : (c : Dev Cert.KernelXaqIdeal.nD) → Buf (Elt Ideal) ((c.tc : Thread Cert.KernelXaqIdeal.nD Cert.KernelXaqIdeal.τ).loc Cert.KernelXaqIdeal.main_v0)),
      θ_run (Cert.KernelXaqIdeal.defs (F := Ideal)) (onTc (τ := Cert.KernelXaqIdeal.τ) (Cert.KernelXaqIdeal.main (F := Ideal))) ⟨m, fun _ => 0, g⟩ (fun r => ∀ c : Dev Cert.KernelXaqIdeal.nD,
          r.2.mem ((c.tc : Thread Cert.KernelXaqIdeal.nD Cert.KernelXaqIdeal.τ).loc Cert.KernelXaqIdeal.main_v0) = v0 c
          ∧ r.2.mem ((c.tc : Thread Cert.KernelXaqIdeal.nD Cert.KernelXaqIdeal.τ).loc Cert.KernelXaqIdeal.main_arg0) = m ((c.tc : Thread Cert.KernelXaqIdeal.nD Cert.KernelXaqIdeal.τ).loc Cert.KernelXaqIdeal.main_arg0)
          ∧ r.2.mem ((c.tc : Thread Cert.KernelXaqIdeal.nD Cert.KernelXaqIdeal.τ).loc Cert.KernelXaqIdeal.main_arg1) = m ((c.tc : Thread Cert.KernelXaqIdeal.nD Cert.KernelXaqIdeal.τ).loc Cert.KernelXaqIdeal.main_arg1))
      ∧ θ_run (Cert.ReferenceXaqIdeal.defs (F := Ideal)) (onTc (τ := Cert.ReferenceXaqIdeal.τ) (Cert.ReferenceXaqIdeal.main (F := Ideal))) ⟨m', fun _ => 0, g'⟩ (fun r => ∀ c : Dev Cert.ReferenceXaqIdeal.nD,
          r.2.mem ((c.tc : Thread Cert.ReferenceXaqIdeal.nD Cert.ReferenceXaqIdeal.τ).loc Cert.ReferenceXaqIdeal.main_v3) = v0 c
          ∧ r.2.mem ((c.tc : Thread Cert.ReferenceXaqIdeal.nD Cert.ReferenceXaqIdeal.τ).loc Cert.ReferenceXaqIdeal.main_arg0) = m' ((c.tc : Thread Cert.ReferenceXaqIdeal.nD Cert.ReferenceXaqIdeal.τ).loc Cert.ReferenceXaqIdeal.main_arg0)
          ∧ r.2.mem ((c.tc : Thread Cert.ReferenceXaqIdeal.nD Cert.ReferenceXaqIdeal.τ).loc Cert.ReferenceXaqIdeal.main_arg1) = m' ((c.tc : Thread Cert.ReferenceXaqIdeal.nD Cert.ReferenceXaqIdeal.τ).loc Cert.ReferenceXaqIdeal.main_arg1))

def preserves_KernelOutp_KernelOutpIdeal : Prop :=
  True

def algebraic_KernelOutpIdeal_ReferenceOutpIdeal [hKernelOutpIdeal : Cert.KernelOutpIdeal.Facts] [hReferenceOutpIdeal : Cert.ReferenceOutpIdeal.Facts] : Prop :=
  ∀ (m : (ℓ : Loc Cert.KernelOutpIdeal.nD Cert.KernelOutpIdeal.τ Cert.KernelOutpIdeal.sig) → Buf (Elt Ideal) ℓ) (g : Dev Cert.KernelOutpIdeal.nD → PrngReg)
    (m' : (ℓ : Loc Cert.ReferenceOutpIdeal.nD Cert.ReferenceOutpIdeal.τ Cert.ReferenceOutpIdeal.sig) → Buf (Elt Ideal) ℓ) (g' : Dev Cert.ReferenceOutpIdeal.nD → PrngReg), Pre_KernelOutpIdeal m →
    (∀ c : Dev Cert.KernelOutpIdeal.nD,
      m' ((c.tc : Thread Cert.ReferenceOutpIdeal.nD Cert.ReferenceOutpIdeal.τ).loc Cert.ReferenceOutpIdeal.main_arg0) = m ((c.tc : Thread Cert.KernelOutpIdeal.nD Cert.KernelOutpIdeal.τ).loc Cert.KernelOutpIdeal.main_arg0)
      ∧ m' ((c.tc : Thread Cert.ReferenceOutpIdeal.nD Cert.ReferenceOutpIdeal.τ).loc Cert.ReferenceOutpIdeal.main_arg1) = m ((c.tc : Thread Cert.KernelOutpIdeal.nD Cert.KernelOutpIdeal.τ).loc Cert.KernelOutpIdeal.main_arg1)
      ∧ m' ((c.tc : Thread Cert.ReferenceOutpIdeal.nD Cert.ReferenceOutpIdeal.τ).loc Cert.ReferenceOutpIdeal.main_arg2) = m ((c.tc : Thread Cert.KernelOutpIdeal.nD Cert.KernelOutpIdeal.τ).loc Cert.KernelOutpIdeal.main_arg2)) →
    ∃ (v0 : (c : Dev Cert.KernelOutpIdeal.nD) → Buf (Elt Ideal) ((c.tc : Thread Cert.KernelOutpIdeal.nD Cert.KernelOutpIdeal.τ).loc Cert.KernelOutpIdeal.main_v0)),
      θ_run (Cert.KernelOutpIdeal.defs (F := Ideal)) (onTc (τ := Cert.KernelOutpIdeal.τ) (Cert.KernelOutpIdeal.main (F := Ideal))) ⟨m, fun _ => 0, g⟩ (fun r => ∀ c : Dev Cert.KernelOutpIdeal.nD,
          r.2.mem ((c.tc : Thread Cert.KernelOutpIdeal.nD Cert.KernelOutpIdeal.τ).loc Cert.KernelOutpIdeal.main_v0) = v0 c
          ∧ r.2.mem ((c.tc : Thread Cert.KernelOutpIdeal.nD Cert.KernelOutpIdeal.τ).loc Cert.KernelOutpIdeal.main_arg0) = m ((c.tc : Thread Cert.KernelOutpIdeal.nD Cert.KernelOutpIdeal.τ).loc Cert.KernelOutpIdeal.main_arg0)
          ∧ r.2.mem ((c.tc : Thread Cert.KernelOutpIdeal.nD Cert.KernelOutpIdeal.τ).loc Cert.KernelOutpIdeal.main_arg1) = m ((c.tc : Thread Cert.KernelOutpIdeal.nD Cert.KernelOutpIdeal.τ).loc Cert.KernelOutpIdeal.main_arg1)
          ∧ r.2.mem ((c.tc : Thread Cert.KernelOutpIdeal.nD Cert.KernelOutpIdeal.τ).loc Cert.KernelOutpIdeal.main_arg2) = m ((c.tc : Thread Cert.KernelOutpIdeal.nD Cert.KernelOutpIdeal.τ).loc Cert.KernelOutpIdeal.main_arg2))
      ∧ θ_run (Cert.ReferenceOutpIdeal.defs (F := Ideal)) (onTc (τ := Cert.ReferenceOutpIdeal.τ) (Cert.ReferenceOutpIdeal.main (F := Ideal))) ⟨m', fun _ => 0, g'⟩ (fun r => ∀ c : Dev Cert.ReferenceOutpIdeal.nD,
          r.2.mem ((c.tc : Thread Cert.ReferenceOutpIdeal.nD Cert.ReferenceOutpIdeal.τ).loc Cert.ReferenceOutpIdeal.main_v3) = v0 c
          ∧ r.2.mem ((c.tc : Thread Cert.ReferenceOutpIdeal.nD Cert.ReferenceOutpIdeal.τ).loc Cert.ReferenceOutpIdeal.main_arg0) = m' ((c.tc : Thread Cert.ReferenceOutpIdeal.nD Cert.ReferenceOutpIdeal.τ).loc Cert.ReferenceOutpIdeal.main_arg0)
          ∧ r.2.mem ((c.tc : Thread Cert.ReferenceOutpIdeal.nD Cert.ReferenceOutpIdeal.τ).loc Cert.ReferenceOutpIdeal.main_arg1) = m' ((c.tc : Thread Cert.ReferenceOutpIdeal.nD Cert.ReferenceOutpIdeal.τ).loc Cert.ReferenceOutpIdeal.main_arg1)
          ∧ r.2.mem ((c.tc : Thread Cert.ReferenceOutpIdeal.nD Cert.ReferenceOutpIdeal.τ).loc Cert.ReferenceOutpIdeal.main_arg2) = m' ((c.tc : Thread Cert.ReferenceOutpIdeal.nD Cert.ReferenceOutpIdeal.τ).loc Cert.ReferenceOutpIdeal.main_arg2))

def preserves_KernelXaodx_KernelXaodxIdeal : Prop :=
  True

def algebraic_KernelXaodxIdeal_ReferenceXaodxIdeal [hKernelXaodxIdeal : Cert.KernelXaodxIdeal.Facts] [hReferenceXaodxIdeal : Cert.ReferenceXaodxIdeal.Facts] : Prop :=
  ∀ (m : (ℓ : Loc Cert.KernelXaodxIdeal.nD Cert.KernelXaodxIdeal.τ Cert.KernelXaodxIdeal.sig) → Buf (Elt Ideal) ℓ) (g : Dev Cert.KernelXaodxIdeal.nD → PrngReg)
    (m' : (ℓ : Loc Cert.ReferenceXaodxIdeal.nD Cert.ReferenceXaodxIdeal.τ Cert.ReferenceXaodxIdeal.sig) → Buf (Elt Ideal) ℓ) (g' : Dev Cert.ReferenceXaodxIdeal.nD → PrngReg), Pre_KernelXaodxIdeal m →
    (∀ c : Dev Cert.KernelXaodxIdeal.nD,
      m' ((c.tc : Thread Cert.ReferenceXaodxIdeal.nD Cert.ReferenceXaodxIdeal.τ).loc Cert.ReferenceXaodxIdeal.main_arg0) = m ((c.tc : Thread Cert.KernelXaodxIdeal.nD Cert.KernelXaodxIdeal.τ).loc Cert.KernelXaodxIdeal.main_arg0)
      ∧ m' ((c.tc : Thread Cert.ReferenceXaodxIdeal.nD Cert.ReferenceXaodxIdeal.τ).loc Cert.ReferenceXaodxIdeal.main_arg1) = m ((c.tc : Thread Cert.KernelXaodxIdeal.nD Cert.KernelXaodxIdeal.τ).loc Cert.KernelXaodxIdeal.main_arg1)) →
    ∃ (v0 : (c : Dev Cert.KernelXaodxIdeal.nD) → Buf (Elt Ideal) ((c.tc : Thread Cert.KernelXaodxIdeal.nD Cert.KernelXaodxIdeal.τ).loc Cert.KernelXaodxIdeal.main_v0)),
      θ_run (Cert.KernelXaodxIdeal.defs (F := Ideal)) (onTc (τ := Cert.KernelXaodxIdeal.τ) (Cert.KernelXaodxIdeal.main (F := Ideal))) ⟨m, fun _ => 0, g⟩ (fun r => ∀ c : Dev Cert.KernelXaodxIdeal.nD,
          r.2.mem ((c.tc : Thread Cert.KernelXaodxIdeal.nD Cert.KernelXaodxIdeal.τ).loc Cert.KernelXaodxIdeal.main_v0) = v0 c
          ∧ r.2.mem ((c.tc : Thread Cert.KernelXaodxIdeal.nD Cert.KernelXaodxIdeal.τ).loc Cert.KernelXaodxIdeal.main_arg0) = m ((c.tc : Thread Cert.KernelXaodxIdeal.nD Cert.KernelXaodxIdeal.τ).loc Cert.KernelXaodxIdeal.main_arg0)
          ∧ r.2.mem ((c.tc : Thread Cert.KernelXaodxIdeal.nD Cert.KernelXaodxIdeal.τ).loc Cert.KernelXaodxIdeal.main_arg1) = m ((c.tc : Thread Cert.KernelXaodxIdeal.nD Cert.KernelXaodxIdeal.τ).loc Cert.KernelXaodxIdeal.main_arg1))
      ∧ θ_run (Cert.ReferenceXaodxIdeal.defs (F := Ideal)) (onTc (τ := Cert.ReferenceXaodxIdeal.τ) (Cert.ReferenceXaodxIdeal.main (F := Ideal))) ⟨m', fun _ => 0, g'⟩ (fun r => ∀ c : Dev Cert.ReferenceXaodxIdeal.nD,
          r.2.mem ((c.tc : Thread Cert.ReferenceXaodxIdeal.nD Cert.ReferenceXaodxIdeal.τ).loc Cert.ReferenceXaodxIdeal.main_v4) = v0 c
          ∧ r.2.mem ((c.tc : Thread Cert.ReferenceXaodxIdeal.nD Cert.ReferenceXaodxIdeal.τ).loc Cert.ReferenceXaodxIdeal.main_arg0) = m' ((c.tc : Thread Cert.ReferenceXaodxIdeal.nD Cert.ReferenceXaodxIdeal.τ).loc Cert.ReferenceXaodxIdeal.main_arg0)
          ∧ r.2.mem ((c.tc : Thread Cert.ReferenceXaodxIdeal.nD Cert.ReferenceXaodxIdeal.τ).loc Cert.ReferenceXaodxIdeal.main_arg1) = m' ((c.tc : Thread Cert.ReferenceXaodxIdeal.nD Cert.ReferenceXaodxIdeal.τ).loc Cert.ReferenceXaodxIdeal.main_arg1))

def preserves_KernelXaqdw_KernelXaqdwIdeal : Prop :=
  True

def algebraic_KernelXaqdwIdeal_ReferenceXaqdwIdeal [hKernelXaqdwIdeal : Cert.KernelXaqdwIdeal.Facts] [hReferenceXaqdwIdeal : Cert.ReferenceXaqdwIdeal.Facts] : Prop :=
  ∀ (m : (ℓ : Loc Cert.KernelXaqdwIdeal.nD Cert.KernelXaqdwIdeal.τ Cert.KernelXaqdwIdeal.sig) → Buf (Elt Ideal) ℓ) (g : Dev Cert.KernelXaqdwIdeal.nD → PrngReg)
    (m' : (ℓ : Loc Cert.ReferenceXaqdwIdeal.nD Cert.ReferenceXaqdwIdeal.τ Cert.ReferenceXaqdwIdeal.sig) → Buf (Elt Ideal) ℓ) (g' : Dev Cert.ReferenceXaqdwIdeal.nD → PrngReg), Pre_KernelXaqdwIdeal m →
    (∀ c : Dev Cert.KernelXaqdwIdeal.nD,
      m' ((c.tc : Thread Cert.ReferenceXaqdwIdeal.nD Cert.ReferenceXaqdwIdeal.τ).loc Cert.ReferenceXaqdwIdeal.main_arg0) = m ((c.tc : Thread Cert.KernelXaqdwIdeal.nD Cert.KernelXaqdwIdeal.τ).loc Cert.KernelXaqdwIdeal.main_arg0)
      ∧ m' ((c.tc : Thread Cert.ReferenceXaqdwIdeal.nD Cert.ReferenceXaqdwIdeal.τ).loc Cert.ReferenceXaqdwIdeal.main_arg1) = m ((c.tc : Thread Cert.KernelXaqdwIdeal.nD Cert.KernelXaqdwIdeal.τ).loc Cert.KernelXaqdwIdeal.main_arg1)) →
    ∃ (v0 : (c : Dev Cert.KernelXaqdwIdeal.nD) → Buf (Elt Ideal) ((c.tc : Thread Cert.KernelXaqdwIdeal.nD Cert.KernelXaqdwIdeal.τ).loc Cert.KernelXaqdwIdeal.main_v0)),
      θ_run (Cert.KernelXaqdwIdeal.defs (F := Ideal)) (onTc (τ := Cert.KernelXaqdwIdeal.τ) (Cert.KernelXaqdwIdeal.main (F := Ideal))) ⟨m, fun _ => 0, g⟩ (fun r => ∀ c : Dev Cert.KernelXaqdwIdeal.nD,
          r.2.mem ((c.tc : Thread Cert.KernelXaqdwIdeal.nD Cert.KernelXaqdwIdeal.τ).loc Cert.KernelXaqdwIdeal.main_v0) = v0 c
          ∧ r.2.mem ((c.tc : Thread Cert.KernelXaqdwIdeal.nD Cert.KernelXaqdwIdeal.τ).loc Cert.KernelXaqdwIdeal.main_arg0) = m ((c.tc : Thread Cert.KernelXaqdwIdeal.nD Cert.KernelXaqdwIdeal.τ).loc Cert.KernelXaqdwIdeal.main_arg0)
          ∧ r.2.mem ((c.tc : Thread Cert.KernelXaqdwIdeal.nD Cert.KernelXaqdwIdeal.τ).loc Cert.KernelXaqdwIdeal.main_arg1) = m ((c.tc : Thread Cert.KernelXaqdwIdeal.nD Cert.KernelXaqdwIdeal.τ).loc Cert.KernelXaqdwIdeal.main_arg1))
      ∧ θ_run (Cert.ReferenceXaqdwIdeal.defs (F := Ideal)) (onTc (τ := Cert.ReferenceXaqdwIdeal.τ) (Cert.ReferenceXaqdwIdeal.main (F := Ideal))) ⟨m', fun _ => 0, g'⟩ (fun r => ∀ c : Dev Cert.ReferenceXaqdwIdeal.nD,
          r.2.mem ((c.tc : Thread Cert.ReferenceXaqdwIdeal.nD Cert.ReferenceXaqdwIdeal.τ).loc Cert.ReferenceXaqdwIdeal.main_v6) = v0 c
          ∧ r.2.mem ((c.tc : Thread Cert.ReferenceXaqdwIdeal.nD Cert.ReferenceXaqdwIdeal.τ).loc Cert.ReferenceXaqdwIdeal.main_arg0) = m' ((c.tc : Thread Cert.ReferenceXaqdwIdeal.nD Cert.ReferenceXaqdwIdeal.τ).loc Cert.ReferenceXaqdwIdeal.main_arg0)
          ∧ r.2.mem ((c.tc : Thread Cert.ReferenceXaqdwIdeal.nD Cert.ReferenceXaqdwIdeal.τ).loc Cert.ReferenceXaqdwIdeal.main_arg1) = m' ((c.tc : Thread Cert.ReferenceXaqdwIdeal.nD Cert.ReferenceXaqdwIdeal.τ).loc Cert.ReferenceXaqdwIdeal.main_arg1))

def preserves_KernelBranchdw_KernelBranchdwIdeal : Prop :=
  True

def algebraic_KernelBranchdwIdeal_ReferenceBranchdwIdeal [hKernelBranchdwIdeal : Cert.KernelBranchdwIdeal.Facts] [hReferenceBranchdwIdeal : Cert.ReferenceBranchdwIdeal.Facts] : Prop :=
  ∀ (m : (ℓ : Loc Cert.KernelBranchdwIdeal.nD Cert.KernelBranchdwIdeal.τ Cert.KernelBranchdwIdeal.sig) → Buf (Elt Ideal) ℓ) (g : Dev Cert.KernelBranchdwIdeal.nD → PrngReg)
    (m' : (ℓ : Loc Cert.ReferenceBranchdwIdeal.nD Cert.ReferenceBranchdwIdeal.τ Cert.ReferenceBranchdwIdeal.sig) → Buf (Elt Ideal) ℓ) (g' : Dev Cert.ReferenceBranchdwIdeal.nD → PrngReg), Pre_KernelBranchdwIdeal m →
    (∀ c : Dev Cert.KernelBranchdwIdeal.nD,
      m' ((c.tc : Thread Cert.ReferenceBranchdwIdeal.nD Cert.ReferenceBranchdwIdeal.τ).loc Cert.ReferenceBranchdwIdeal.main_arg0) = m ((c.tc : Thread Cert.KernelBranchdwIdeal.nD Cert.KernelBranchdwIdeal.τ).loc Cert.KernelBranchdwIdeal.main_arg0)
      ∧ m' ((c.tc : Thread Cert.ReferenceBranchdwIdeal.nD Cert.ReferenceBranchdwIdeal.τ).loc Cert.ReferenceBranchdwIdeal.main_arg1) = m ((c.tc : Thread Cert.KernelBranchdwIdeal.nD Cert.KernelBranchdwIdeal.τ).loc Cert.KernelBranchdwIdeal.main_arg1)) →
    ∃ (v0 : (c : Dev Cert.KernelBranchdwIdeal.nD) → Buf (Elt Ideal) ((c.tc : Thread Cert.KernelBranchdwIdeal.nD Cert.KernelBranchdwIdeal.τ).loc Cert.KernelBranchdwIdeal.main_v0)),
      θ_run (Cert.KernelBranchdwIdeal.defs (F := Ideal)) (onTc (τ := Cert.KernelBranchdwIdeal.τ) (Cert.KernelBranchdwIdeal.main (F := Ideal))) ⟨m, fun _ => 0, g⟩ (fun r => ∀ c : Dev Cert.KernelBranchdwIdeal.nD,
          r.2.mem ((c.tc : Thread Cert.KernelBranchdwIdeal.nD Cert.KernelBranchdwIdeal.τ).loc Cert.KernelBranchdwIdeal.main_v0) = v0 c
          ∧ r.2.mem ((c.tc : Thread Cert.KernelBranchdwIdeal.nD Cert.KernelBranchdwIdeal.τ).loc Cert.KernelBranchdwIdeal.main_arg0) = m ((c.tc : Thread Cert.KernelBranchdwIdeal.nD Cert.KernelBranchdwIdeal.τ).loc Cert.KernelBranchdwIdeal.main_arg0)
          ∧ r.2.mem ((c.tc : Thread Cert.KernelBranchdwIdeal.nD Cert.KernelBranchdwIdeal.τ).loc Cert.KernelBranchdwIdeal.main_arg1) = m ((c.tc : Thread Cert.KernelBranchdwIdeal.nD Cert.KernelBranchdwIdeal.τ).loc Cert.KernelBranchdwIdeal.main_arg1))
      ∧ θ_run (Cert.ReferenceBranchdwIdeal.defs (F := Ideal)) (onTc (τ := Cert.ReferenceBranchdwIdeal.τ) (Cert.ReferenceBranchdwIdeal.main (F := Ideal))) ⟨m', fun _ => 0, g'⟩ (fun r => ∀ c : Dev Cert.ReferenceBranchdwIdeal.nD,
          r.2.mem ((c.tc : Thread Cert.ReferenceBranchdwIdeal.nD Cert.ReferenceBranchdwIdeal.τ).loc Cert.ReferenceBranchdwIdeal.main_v6) = v0 c
          ∧ r.2.mem ((c.tc : Thread Cert.ReferenceBranchdwIdeal.nD Cert.ReferenceBranchdwIdeal.τ).loc Cert.ReferenceBranchdwIdeal.main_arg0) = m' ((c.tc : Thread Cert.ReferenceBranchdwIdeal.nD Cert.ReferenceBranchdwIdeal.τ).loc Cert.ReferenceBranchdwIdeal.main_arg0)
          ∧ r.2.mem ((c.tc : Thread Cert.ReferenceBranchdwIdeal.nD Cert.ReferenceBranchdwIdeal.τ).loc Cert.ReferenceBranchdwIdeal.main_arg1) = m' ((c.tc : Thread Cert.ReferenceBranchdwIdeal.nD Cert.ReferenceBranchdwIdeal.τ).loc Cert.ReferenceBranchdwIdeal.main_arg1))

def preserves_KernelXak_KernelXakIdeal : Prop :=
  True

def algebraic_KernelXakIdeal_ReferenceXakIdeal [hKernelXakIdeal : Cert.KernelXakIdeal.Facts] [hReferenceXakIdeal : Cert.ReferenceXakIdeal.Facts] : Prop :=
  ∀ (m : (ℓ : Loc Cert.KernelXakIdeal.nD Cert.KernelXakIdeal.τ Cert.KernelXakIdeal.sig) → Buf (Elt Ideal) ℓ) (g : Dev Cert.KernelXakIdeal.nD → PrngReg)
    (m' : (ℓ : Loc Cert.ReferenceXakIdeal.nD Cert.ReferenceXakIdeal.τ Cert.ReferenceXakIdeal.sig) → Buf (Elt Ideal) ℓ) (g' : Dev Cert.ReferenceXakIdeal.nD → PrngReg), Pre_KernelXakIdeal m →
    (∀ c : Dev Cert.KernelXakIdeal.nD,
      m' ((c.tc : Thread Cert.ReferenceXakIdeal.nD Cert.ReferenceXakIdeal.τ).loc Cert.ReferenceXakIdeal.main_arg0) = m ((c.tc : Thread Cert.KernelXakIdeal.nD Cert.KernelXakIdeal.τ).loc Cert.KernelXakIdeal.main_arg0)
      ∧ m' ((c.tc : Thread Cert.ReferenceXakIdeal.nD Cert.ReferenceXakIdeal.τ).loc Cert.ReferenceXakIdeal.main_arg1) = m ((c.tc : Thread Cert.KernelXakIdeal.nD Cert.KernelXakIdeal.τ).loc Cert.KernelXakIdeal.main_arg1)) →
    ∃ (v0 : (c : Dev Cert.KernelXakIdeal.nD) → Buf (Elt Ideal) ((c.tc : Thread Cert.KernelXakIdeal.nD Cert.KernelXakIdeal.τ).loc Cert.KernelXakIdeal.main_v0)),
      θ_run (Cert.KernelXakIdeal.defs (F := Ideal)) (onTc (τ := Cert.KernelXakIdeal.τ) (Cert.KernelXakIdeal.main (F := Ideal))) ⟨m, fun _ => 0, g⟩ (fun r => ∀ c : Dev Cert.KernelXakIdeal.nD,
          r.2.mem ((c.tc : Thread Cert.KernelXakIdeal.nD Cert.KernelXakIdeal.τ).loc Cert.KernelXakIdeal.main_v0) = v0 c
          ∧ r.2.mem ((c.tc : Thread Cert.KernelXakIdeal.nD Cert.KernelXakIdeal.τ).loc Cert.KernelXakIdeal.main_arg0) = m ((c.tc : Thread Cert.KernelXakIdeal.nD Cert.KernelXakIdeal.τ).loc Cert.KernelXakIdeal.main_arg0)
          ∧ r.2.mem ((c.tc : Thread Cert.KernelXakIdeal.nD Cert.KernelXakIdeal.τ).loc Cert.KernelXakIdeal.main_arg1) = m ((c.tc : Thread Cert.KernelXakIdeal.nD Cert.KernelXakIdeal.τ).loc Cert.KernelXakIdeal.main_arg1))
      ∧ θ_run (Cert.ReferenceXakIdeal.defs (F := Ideal)) (onTc (τ := Cert.ReferenceXakIdeal.τ) (Cert.ReferenceXakIdeal.main (F := Ideal))) ⟨m', fun _ => 0, g'⟩ (fun r => ∀ c : Dev Cert.ReferenceXakIdeal.nD,
          r.2.mem ((c.tc : Thread Cert.ReferenceXakIdeal.nD Cert.ReferenceXakIdeal.τ).loc Cert.ReferenceXakIdeal.main_v3) = v0 c
          ∧ r.2.mem ((c.tc : Thread Cert.ReferenceXakIdeal.nD Cert.ReferenceXakIdeal.τ).loc Cert.ReferenceXakIdeal.main_arg0) = m' ((c.tc : Thread Cert.ReferenceXakIdeal.nD Cert.ReferenceXakIdeal.τ).loc Cert.ReferenceXakIdeal.main_arg0)
          ∧ r.2.mem ((c.tc : Thread Cert.ReferenceXakIdeal.nD Cert.ReferenceXakIdeal.τ).loc Cert.ReferenceXakIdeal.main_arg1) = m' ((c.tc : Thread Cert.ReferenceXakIdeal.nD Cert.ReferenceXakIdeal.τ).loc Cert.ReferenceXakIdeal.main_arg1))

def preserves_KernelXakdw_KernelXakdwIdeal : Prop :=
  True

def algebraic_KernelXakdwIdeal_ReferenceXakdwIdeal [hKernelXakdwIdeal : Cert.KernelXakdwIdeal.Facts] [hReferenceXakdwIdeal : Cert.ReferenceXakdwIdeal.Facts] : Prop :=
  ∀ (m : (ℓ : Loc Cert.KernelXakdwIdeal.nD Cert.KernelXakdwIdeal.τ Cert.KernelXakdwIdeal.sig) → Buf (Elt Ideal) ℓ) (g : Dev Cert.KernelXakdwIdeal.nD → PrngReg)
    (m' : (ℓ : Loc Cert.ReferenceXakdwIdeal.nD Cert.ReferenceXakdwIdeal.τ Cert.ReferenceXakdwIdeal.sig) → Buf (Elt Ideal) ℓ) (g' : Dev Cert.ReferenceXakdwIdeal.nD → PrngReg), Pre_KernelXakdwIdeal m →
    (∀ c : Dev Cert.KernelXakdwIdeal.nD,
      m' ((c.tc : Thread Cert.ReferenceXakdwIdeal.nD Cert.ReferenceXakdwIdeal.τ).loc Cert.ReferenceXakdwIdeal.main_arg0) = m ((c.tc : Thread Cert.KernelXakdwIdeal.nD Cert.KernelXakdwIdeal.τ).loc Cert.KernelXakdwIdeal.main_arg0)
      ∧ m' ((c.tc : Thread Cert.ReferenceXakdwIdeal.nD Cert.ReferenceXakdwIdeal.τ).loc Cert.ReferenceXakdwIdeal.main_arg1) = m ((c.tc : Thread Cert.KernelXakdwIdeal.nD Cert.KernelXakdwIdeal.τ).loc Cert.KernelXakdwIdeal.main_arg1)) →
    ∃ (v0 : (c : Dev Cert.KernelXakdwIdeal.nD) → Buf (Elt Ideal) ((c.tc : Thread Cert.KernelXakdwIdeal.nD Cert.KernelXakdwIdeal.τ).loc Cert.KernelXakdwIdeal.main_v0)),
      θ_run (Cert.KernelXakdwIdeal.defs (F := Ideal)) (onTc (τ := Cert.KernelXakdwIdeal.τ) (Cert.KernelXakdwIdeal.main (F := Ideal))) ⟨m, fun _ => 0, g⟩ (fun r => ∀ c : Dev Cert.KernelXakdwIdeal.nD,
          r.2.mem ((c.tc : Thread Cert.KernelXakdwIdeal.nD Cert.KernelXakdwIdeal.τ).loc Cert.KernelXakdwIdeal.main_v0) = v0 c
          ∧ r.2.mem ((c.tc : Thread Cert.KernelXakdwIdeal.nD Cert.KernelXakdwIdeal.τ).loc Cert.KernelXakdwIdeal.main_arg0) = m ((c.tc : Thread Cert.KernelXakdwIdeal.nD Cert.KernelXakdwIdeal.τ).loc Cert.KernelXakdwIdeal.main_arg0)
          ∧ r.2.mem ((c.tc : Thread Cert.KernelXakdwIdeal.nD Cert.KernelXakdwIdeal.τ).loc Cert.KernelXakdwIdeal.main_arg1) = m ((c.tc : Thread Cert.KernelXakdwIdeal.nD Cert.KernelXakdwIdeal.τ).loc Cert.KernelXakdwIdeal.main_arg1))
      ∧ θ_run (Cert.ReferenceXakdwIdeal.defs (F := Ideal)) (onTc (τ := Cert.ReferenceXakdwIdeal.τ) (Cert.ReferenceXakdwIdeal.main (F := Ideal))) ⟨m', fun _ => 0, g'⟩ (fun r => ∀ c : Dev Cert.ReferenceXakdwIdeal.nD,
          r.2.mem ((c.tc : Thread Cert.ReferenceXakdwIdeal.nD Cert.ReferenceXakdwIdeal.τ).loc Cert.ReferenceXakdwIdeal.main_v5) = v0 c
          ∧ r.2.mem ((c.tc : Thread Cert.ReferenceXakdwIdeal.nD Cert.ReferenceXakdwIdeal.τ).loc Cert.ReferenceXakdwIdeal.main_arg0) = m' ((c.tc : Thread Cert.ReferenceXakdwIdeal.nD Cert.ReferenceXakdwIdeal.τ).loc Cert.ReferenceXakdwIdeal.main_arg0)
          ∧ r.2.mem ((c.tc : Thread Cert.ReferenceXakdwIdeal.nD Cert.ReferenceXakdwIdeal.τ).loc Cert.ReferenceXakdwIdeal.main_arg1) = m' ((c.tc : Thread Cert.ReferenceXakdwIdeal.nD Cert.ReferenceXakdwIdeal.τ).loc Cert.ReferenceXakdwIdeal.main_arg1))

def preserves_KernelXakdx_KernelXakdxIdeal : Prop :=
  True

def algebraic_KernelXakdxIdeal_ReferenceXakdxIdeal [hKernelXakdxIdeal : Cert.KernelXakdxIdeal.Facts] [hReferenceXakdxIdeal : Cert.ReferenceXakdxIdeal.Facts] : Prop :=
  ∀ (m : (ℓ : Loc Cert.KernelXakdxIdeal.nD Cert.KernelXakdxIdeal.τ Cert.KernelXakdxIdeal.sig) → Buf (Elt Ideal) ℓ) (g : Dev Cert.KernelXakdxIdeal.nD → PrngReg)
    (m' : (ℓ : Loc Cert.ReferenceXakdxIdeal.nD Cert.ReferenceXakdxIdeal.τ Cert.ReferenceXakdxIdeal.sig) → Buf (Elt Ideal) ℓ) (g' : Dev Cert.ReferenceXakdxIdeal.nD → PrngReg), Pre_KernelXakdxIdeal m →
    (∀ c : Dev Cert.KernelXakdxIdeal.nD,
      m' ((c.tc : Thread Cert.ReferenceXakdxIdeal.nD Cert.ReferenceXakdxIdeal.τ).loc Cert.ReferenceXakdxIdeal.main_arg0) = m ((c.tc : Thread Cert.KernelXakdxIdeal.nD Cert.KernelXakdxIdeal.τ).loc Cert.KernelXakdxIdeal.main_arg0)
      ∧ m' ((c.tc : Thread Cert.ReferenceXakdxIdeal.nD Cert.ReferenceXakdxIdeal.τ).loc Cert.ReferenceXakdxIdeal.main_arg1) = m ((c.tc : Thread Cert.KernelXakdxIdeal.nD Cert.KernelXakdxIdeal.τ).loc Cert.KernelXakdxIdeal.main_arg1)) →
    ∃ (v0 : (c : Dev Cert.KernelXakdxIdeal.nD) → Buf (Elt Ideal) ((c.tc : Thread Cert.KernelXakdxIdeal.nD Cert.KernelXakdxIdeal.τ).loc Cert.KernelXakdxIdeal.main_v0)),
      θ_run (Cert.KernelXakdxIdeal.defs (F := Ideal)) (onTc (τ := Cert.KernelXakdxIdeal.τ) (Cert.KernelXakdxIdeal.main (F := Ideal))) ⟨m, fun _ => 0, g⟩ (fun r => ∀ c : Dev Cert.KernelXakdxIdeal.nD,
          r.2.mem ((c.tc : Thread Cert.KernelXakdxIdeal.nD Cert.KernelXakdxIdeal.τ).loc Cert.KernelXakdxIdeal.main_v0) = v0 c
          ∧ r.2.mem ((c.tc : Thread Cert.KernelXakdxIdeal.nD Cert.KernelXakdxIdeal.τ).loc Cert.KernelXakdxIdeal.main_arg0) = m ((c.tc : Thread Cert.KernelXakdxIdeal.nD Cert.KernelXakdxIdeal.τ).loc Cert.KernelXakdxIdeal.main_arg0)
          ∧ r.2.mem ((c.tc : Thread Cert.KernelXakdxIdeal.nD Cert.KernelXakdxIdeal.τ).loc Cert.KernelXakdxIdeal.main_arg1) = m ((c.tc : Thread Cert.KernelXakdxIdeal.nD Cert.KernelXakdxIdeal.τ).loc Cert.KernelXakdxIdeal.main_arg1))
      ∧ θ_run (Cert.ReferenceXakdxIdeal.defs (F := Ideal)) (onTc (τ := Cert.ReferenceXakdxIdeal.τ) (Cert.ReferenceXakdxIdeal.main (F := Ideal))) ⟨m', fun _ => 0, g'⟩ (fun r => ∀ c : Dev Cert.ReferenceXakdxIdeal.nD,
          r.2.mem ((c.tc : Thread Cert.ReferenceXakdxIdeal.nD Cert.ReferenceXakdxIdeal.τ).loc Cert.ReferenceXakdxIdeal.main_v3) = v0 c
          ∧ r.2.mem ((c.tc : Thread Cert.ReferenceXakdxIdeal.nD Cert.ReferenceXakdxIdeal.τ).loc Cert.ReferenceXakdxIdeal.main_arg0) = m' ((c.tc : Thread Cert.ReferenceXakdxIdeal.nD Cert.ReferenceXakdxIdeal.τ).loc Cert.ReferenceXakdxIdeal.main_arg0)
          ∧ r.2.mem ((c.tc : Thread Cert.ReferenceXakdxIdeal.nD Cert.ReferenceXakdxIdeal.τ).loc Cert.ReferenceXakdxIdeal.main_arg1) = m' ((c.tc : Thread Cert.ReferenceXakdxIdeal.nD Cert.ReferenceXakdxIdeal.τ).loc Cert.ReferenceXakdxIdeal.main_arg1))

def preserves_KernelXavdx_KernelXavdxIdeal : Prop :=
  True

def algebraic_KernelXavdxIdeal_ReferenceXavdxIdeal [hKernelXavdxIdeal : Cert.KernelXavdxIdeal.Facts] [hReferenceXavdxIdeal : Cert.ReferenceXavdxIdeal.Facts] : Prop :=
  ∀ (m : (ℓ : Loc Cert.KernelXavdxIdeal.nD Cert.KernelXavdxIdeal.τ Cert.KernelXavdxIdeal.sig) → Buf (Elt Ideal) ℓ) (g : Dev Cert.KernelXavdxIdeal.nD → PrngReg)
    (m' : (ℓ : Loc Cert.ReferenceXavdxIdeal.nD Cert.ReferenceXavdxIdeal.τ Cert.ReferenceXavdxIdeal.sig) → Buf (Elt Ideal) ℓ) (g' : Dev Cert.ReferenceXavdxIdeal.nD → PrngReg), Pre_KernelXavdxIdeal m →
    (∀ c : Dev Cert.KernelXavdxIdeal.nD,
      m' ((c.tc : Thread Cert.ReferenceXavdxIdeal.nD Cert.ReferenceXavdxIdeal.τ).loc Cert.ReferenceXavdxIdeal.main_arg0) = m ((c.tc : Thread Cert.KernelXavdxIdeal.nD Cert.KernelXavdxIdeal.τ).loc Cert.KernelXavdxIdeal.main_arg0)
      ∧ m' ((c.tc : Thread Cert.ReferenceXavdxIdeal.nD Cert.ReferenceXavdxIdeal.τ).loc Cert.ReferenceXavdxIdeal.main_arg1) = m ((c.tc : Thread Cert.KernelXavdxIdeal.nD Cert.KernelXavdxIdeal.τ).loc Cert.KernelXavdxIdeal.main_arg1)
      ∧ m' ((c.tc : Thread Cert.ReferenceXavdxIdeal.nD Cert.ReferenceXavdxIdeal.τ).loc Cert.ReferenceXavdxIdeal.main_arg2) = m ((c.tc : Thread Cert.KernelXavdxIdeal.nD Cert.KernelXavdxIdeal.τ).loc Cert.KernelXavdxIdeal.main_arg2)) →
    ∃ (v0 : (c : Dev Cert.KernelXavdxIdeal.nD) → Buf (Elt Ideal) ((c.tc : Thread Cert.KernelXavdxIdeal.nD Cert.KernelXavdxIdeal.τ).loc Cert.KernelXavdxIdeal.main_v0)),
      θ_run (Cert.KernelXavdxIdeal.defs (F := Ideal)) (onTc (τ := Cert.KernelXavdxIdeal.τ) (Cert.KernelXavdxIdeal.main (F := Ideal))) ⟨m, fun _ => 0, g⟩ (fun r => ∀ c : Dev Cert.KernelXavdxIdeal.nD,
          r.2.mem ((c.tc : Thread Cert.KernelXavdxIdeal.nD Cert.KernelXavdxIdeal.τ).loc Cert.KernelXavdxIdeal.main_v0) = v0 c
          ∧ r.2.mem ((c.tc : Thread Cert.KernelXavdxIdeal.nD Cert.KernelXavdxIdeal.τ).loc Cert.KernelXavdxIdeal.main_arg0) = m ((c.tc : Thread Cert.KernelXavdxIdeal.nD Cert.KernelXavdxIdeal.τ).loc Cert.KernelXavdxIdeal.main_arg0)
          ∧ r.2.mem ((c.tc : Thread Cert.KernelXavdxIdeal.nD Cert.KernelXavdxIdeal.τ).loc Cert.KernelXavdxIdeal.main_arg1) = m ((c.tc : Thread Cert.KernelXavdxIdeal.nD Cert.KernelXavdxIdeal.τ).loc Cert.KernelXavdxIdeal.main_arg1)
          ∧ r.2.mem ((c.tc : Thread Cert.KernelXavdxIdeal.nD Cert.KernelXavdxIdeal.τ).loc Cert.KernelXavdxIdeal.main_arg2) = m ((c.tc : Thread Cert.KernelXavdxIdeal.nD Cert.KernelXavdxIdeal.τ).loc Cert.KernelXavdxIdeal.main_arg2))
      ∧ θ_run (Cert.ReferenceXavdxIdeal.defs (F := Ideal)) (onTc (τ := Cert.ReferenceXavdxIdeal.τ) (Cert.ReferenceXavdxIdeal.main (F := Ideal))) ⟨m', fun _ => 0, g'⟩ (fun r => ∀ c : Dev Cert.ReferenceXavdxIdeal.nD,
          r.2.mem ((c.tc : Thread Cert.ReferenceXavdxIdeal.nD Cert.ReferenceXavdxIdeal.τ).loc Cert.ReferenceXavdxIdeal.main_v4) = v0 c
          ∧ r.2.mem ((c.tc : Thread Cert.ReferenceXavdxIdeal.nD Cert.ReferenceXavdxIdeal.τ).loc Cert.ReferenceXavdxIdeal.main_arg0) = m' ((c.tc : Thread Cert.ReferenceXavdxIdeal.nD Cert.ReferenceXavdxIdeal.τ).loc Cert.ReferenceXavdxIdeal.main_arg0)
          ∧ r.2.mem ((c.tc : Thread Cert.ReferenceXavdxIdeal.nD Cert.ReferenceXavdxIdeal.τ).loc Cert.ReferenceXavdxIdeal.main_arg1) = m' ((c.tc : Thread Cert.ReferenceXavdxIdeal.nD Cert.ReferenceXavdxIdeal.τ).loc Cert.ReferenceXavdxIdeal.main_arg1)
          ∧ r.2.mem ((c.tc : Thread Cert.ReferenceXavdxIdeal.nD Cert.ReferenceXavdxIdeal.τ).loc Cert.ReferenceXavdxIdeal.main_arg2) = m' ((c.tc : Thread Cert.ReferenceXavdxIdeal.nD Cert.ReferenceXavdxIdeal.τ).loc Cert.ReferenceXavdxIdeal.main_arg2))

def preserves_KernelXaqdx_KernelXaqdxIdeal : Prop :=
  True

def algebraic_KernelXaqdxIdeal_ReferenceXaqdxIdeal_pre_finite_xaqdx [hKernelXaqdxIdeal : Cert.KernelXaqdxIdeal.Facts] [hReferenceXaqdxIdeal : Cert.ReferenceXaqdxIdeal.Facts] [hPre_finite_xaqdx : Cert.Pre_finite_xaqdx.Facts] : Prop :=
  ∀ (m : (ℓ : Loc Cert.KernelXaqdxIdeal.nD Cert.KernelXaqdxIdeal.τ Cert.KernelXaqdxIdeal.sig) → Buf (Elt Ideal) ℓ) (g : Dev Cert.KernelXaqdxIdeal.nD → PrngReg)
    (m' : (ℓ : Loc Cert.ReferenceXaqdxIdeal.nD Cert.ReferenceXaqdxIdeal.τ Cert.ReferenceXaqdxIdeal.sig) → Buf (Elt Ideal) ℓ) (g' : Dev Cert.ReferenceXaqdxIdeal.nD → PrngReg), Pre_KernelXaqdxIdeal_finite_xaqdx m →
    (∀ c : Dev Cert.KernelXaqdxIdeal.nD,
      m' ((c.tc : Thread Cert.ReferenceXaqdxIdeal.nD Cert.ReferenceXaqdxIdeal.τ).loc Cert.ReferenceXaqdxIdeal.main_arg0) = m ((c.tc : Thread Cert.KernelXaqdxIdeal.nD Cert.KernelXaqdxIdeal.τ).loc Cert.KernelXaqdxIdeal.main_arg0)
      ∧ m' ((c.tc : Thread Cert.ReferenceXaqdxIdeal.nD Cert.ReferenceXaqdxIdeal.τ).loc Cert.ReferenceXaqdxIdeal.main_arg1) = m ((c.tc : Thread Cert.KernelXaqdxIdeal.nD Cert.KernelXaqdxIdeal.τ).loc Cert.KernelXaqdxIdeal.main_arg1)
      ∧ m' ((c.tc : Thread Cert.ReferenceXaqdxIdeal.nD Cert.ReferenceXaqdxIdeal.τ).loc Cert.ReferenceXaqdxIdeal.main_arg2) = m ((c.tc : Thread Cert.KernelXaqdxIdeal.nD Cert.KernelXaqdxIdeal.τ).loc Cert.KernelXaqdxIdeal.main_arg2)
      ∧ m' ((c.tc : Thread Cert.ReferenceXaqdxIdeal.nD Cert.ReferenceXaqdxIdeal.τ).loc Cert.ReferenceXaqdxIdeal.main_arg3) = m ((c.tc : Thread Cert.KernelXaqdxIdeal.nD Cert.KernelXaqdxIdeal.τ).loc Cert.KernelXaqdxIdeal.main_arg3)
      ∧ m' ((c.tc : Thread Cert.ReferenceXaqdxIdeal.nD Cert.ReferenceXaqdxIdeal.τ).loc Cert.ReferenceXaqdxIdeal.main_arg4) = m ((c.tc : Thread Cert.KernelXaqdxIdeal.nD Cert.KernelXaqdxIdeal.τ).loc Cert.KernelXaqdxIdeal.main_arg4)) →
    ∃ (v0 : (c : Dev Cert.KernelXaqdxIdeal.nD) → Buf (Elt Ideal) ((c.tc : Thread Cert.KernelXaqdxIdeal.nD Cert.KernelXaqdxIdeal.τ).loc Cert.KernelXaqdxIdeal.main_v0_0)) (v1 : (c : Dev Cert.KernelXaqdxIdeal.nD) → Buf (Elt Ideal) ((c.tc : Thread Cert.KernelXaqdxIdeal.nD Cert.KernelXaqdxIdeal.τ).loc Cert.KernelXaqdxIdeal.main_v0_1)),
      θ_run (Cert.KernelXaqdxIdeal.defs (F := Ideal)) (onTc (τ := Cert.KernelXaqdxIdeal.τ) (Cert.KernelXaqdxIdeal.main (F := Ideal))) ⟨m, fun _ => 0, g⟩ (fun r => ∀ c : Dev Cert.KernelXaqdxIdeal.nD,
          r.2.mem ((c.tc : Thread Cert.KernelXaqdxIdeal.nD Cert.KernelXaqdxIdeal.τ).loc Cert.KernelXaqdxIdeal.main_v0_0) = v0 c
          ∧ r.2.mem ((c.tc : Thread Cert.KernelXaqdxIdeal.nD Cert.KernelXaqdxIdeal.τ).loc Cert.KernelXaqdxIdeal.main_v0_1) = v1 c
          ∧ r.2.mem ((c.tc : Thread Cert.KernelXaqdxIdeal.nD Cert.KernelXaqdxIdeal.τ).loc Cert.KernelXaqdxIdeal.main_arg0) = m ((c.tc : Thread Cert.KernelXaqdxIdeal.nD Cert.KernelXaqdxIdeal.τ).loc Cert.KernelXaqdxIdeal.main_arg0)
          ∧ r.2.mem ((c.tc : Thread Cert.KernelXaqdxIdeal.nD Cert.KernelXaqdxIdeal.τ).loc Cert.KernelXaqdxIdeal.main_arg1) = m ((c.tc : Thread Cert.KernelXaqdxIdeal.nD Cert.KernelXaqdxIdeal.τ).loc Cert.KernelXaqdxIdeal.main_arg1)
          ∧ r.2.mem ((c.tc : Thread Cert.KernelXaqdxIdeal.nD Cert.KernelXaqdxIdeal.τ).loc Cert.KernelXaqdxIdeal.main_arg2) = m ((c.tc : Thread Cert.KernelXaqdxIdeal.nD Cert.KernelXaqdxIdeal.τ).loc Cert.KernelXaqdxIdeal.main_arg2)
          ∧ r.2.mem ((c.tc : Thread Cert.KernelXaqdxIdeal.nD Cert.KernelXaqdxIdeal.τ).loc Cert.KernelXaqdxIdeal.main_arg3) = m ((c.tc : Thread Cert.KernelXaqdxIdeal.nD Cert.KernelXaqdxIdeal.τ).loc Cert.KernelXaqdxIdeal.main_arg3)
          ∧ r.2.mem ((c.tc : Thread Cert.KernelXaqdxIdeal.nD Cert.KernelXaqdxIdeal.τ).loc Cert.KernelXaqdxIdeal.main_arg4) = m ((c.tc : Thread Cert.KernelXaqdxIdeal.nD Cert.KernelXaqdxIdeal.τ).loc Cert.KernelXaqdxIdeal.main_arg4))
      ∧ θ_run (Cert.ReferenceXaqdxIdeal.defs (F := Ideal)) (onTc (τ := Cert.ReferenceXaqdxIdeal.τ) (Cert.ReferenceXaqdxIdeal.main (F := Ideal))) ⟨m', fun _ => 0, g'⟩ (fun r => ∀ c : Dev Cert.ReferenceXaqdxIdeal.nD,
          r.2.mem ((c.tc : Thread Cert.ReferenceXaqdxIdeal.nD Cert.ReferenceXaqdxIdeal.τ).loc Cert.ReferenceXaqdxIdeal.main_v38) = v0 c
          ∧ r.2.mem ((c.tc : Thread Cert.ReferenceXaqdxIdeal.nD Cert.ReferenceXaqdxIdeal.τ).loc Cert.ReferenceXaqdxIdeal.main_v21) = v1 c
          ∧ r.2.mem ((c.tc : Thread Cert.ReferenceXaqdxIdeal.nD Cert.ReferenceXaqdxIdeal.τ).loc Cert.ReferenceXaqdxIdeal.main_arg0) = m' ((c.tc : Thread Cert.ReferenceXaqdxIdeal.nD Cert.ReferenceXaqdxIdeal.τ).loc Cert.ReferenceXaqdxIdeal.main_arg0)
          ∧ r.2.mem ((c.tc : Thread Cert.ReferenceXaqdxIdeal.nD Cert.ReferenceXaqdxIdeal.τ).loc Cert.ReferenceXaqdxIdeal.main_arg1) = m' ((c.tc : Thread Cert.ReferenceXaqdxIdeal.nD Cert.ReferenceXaqdxIdeal.τ).loc Cert.ReferenceXaqdxIdeal.main_arg1)
          ∧ r.2.mem ((c.tc : Thread Cert.ReferenceXaqdxIdeal.nD Cert.ReferenceXaqdxIdeal.τ).loc Cert.ReferenceXaqdxIdeal.main_arg2) = m' ((c.tc : Thread Cert.ReferenceXaqdxIdeal.nD Cert.ReferenceXaqdxIdeal.τ).loc Cert.ReferenceXaqdxIdeal.main_arg2)
          ∧ r.2.mem ((c.tc : Thread Cert.ReferenceXaqdxIdeal.nD Cert.ReferenceXaqdxIdeal.τ).loc Cert.ReferenceXaqdxIdeal.main_arg3) = m' ((c.tc : Thread Cert.ReferenceXaqdxIdeal.nD Cert.ReferenceXaqdxIdeal.τ).loc Cert.ReferenceXaqdxIdeal.main_arg3)
          ∧ r.2.mem ((c.tc : Thread Cert.ReferenceXaqdxIdeal.nD Cert.ReferenceXaqdxIdeal.τ).loc Cert.ReferenceXaqdxIdeal.main_arg4) = m' ((c.tc : Thread Cert.ReferenceXaqdxIdeal.nD Cert.ReferenceXaqdxIdeal.τ).loc Cert.ReferenceXaqdxIdeal.main_arg4))

def preserves_KernelUpdx_KernelUpdxIdeal : Prop :=
  True

def algebraic_KernelUpdxIdeal_ReferenceUpdxIdeal_pre_finite_updx [hKernelUpdxIdeal : Cert.KernelUpdxIdeal.Facts] [hReferenceUpdxIdeal : Cert.ReferenceUpdxIdeal.Facts] [hPre_finite_updx : Cert.Pre_finite_updx.Facts] : Prop :=
  ∀ (m : (ℓ : Loc Cert.KernelUpdxIdeal.nD Cert.KernelUpdxIdeal.τ Cert.KernelUpdxIdeal.sig) → Buf (Elt Ideal) ℓ) (g : Dev Cert.KernelUpdxIdeal.nD → PrngReg)
    (m' : (ℓ : Loc Cert.ReferenceUpdxIdeal.nD Cert.ReferenceUpdxIdeal.τ Cert.ReferenceUpdxIdeal.sig) → Buf (Elt Ideal) ℓ) (g' : Dev Cert.ReferenceUpdxIdeal.nD → PrngReg), Pre_KernelUpdxIdeal_finite_updx m →
    (∀ c : Dev Cert.KernelUpdxIdeal.nD,
      m' ((c.tc : Thread Cert.ReferenceUpdxIdeal.nD Cert.ReferenceUpdxIdeal.τ).loc Cert.ReferenceUpdxIdeal.main_arg0) = m ((c.tc : Thread Cert.KernelUpdxIdeal.nD Cert.KernelUpdxIdeal.τ).loc Cert.KernelUpdxIdeal.main_arg0)
      ∧ m' ((c.tc : Thread Cert.ReferenceUpdxIdeal.nD Cert.ReferenceUpdxIdeal.τ).loc Cert.ReferenceUpdxIdeal.main_arg1) = m ((c.tc : Thread Cert.KernelUpdxIdeal.nD Cert.KernelUpdxIdeal.τ).loc Cert.KernelUpdxIdeal.main_arg1)
      ∧ m' ((c.tc : Thread Cert.ReferenceUpdxIdeal.nD Cert.ReferenceUpdxIdeal.τ).loc Cert.ReferenceUpdxIdeal.main_arg2) = m ((c.tc : Thread Cert.KernelUpdxIdeal.nD Cert.KernelUpdxIdeal.τ).loc Cert.KernelUpdxIdeal.main_arg2)
      ∧ m' ((c.tc : Thread Cert.ReferenceUpdxIdeal.nD Cert.ReferenceUpdxIdeal.τ).loc Cert.ReferenceUpdxIdeal.main_arg3) = m ((c.tc : Thread Cert.KernelUpdxIdeal.nD Cert.KernelUpdxIdeal.τ).loc Cert.KernelUpdxIdeal.main_arg3)
      ∧ m' ((c.tc : Thread Cert.ReferenceUpdxIdeal.nD Cert.ReferenceUpdxIdeal.τ).loc Cert.ReferenceUpdxIdeal.main_arg4) = m ((c.tc : Thread Cert.KernelUpdxIdeal.nD Cert.KernelUpdxIdeal.τ).loc Cert.KernelUpdxIdeal.main_arg4)
      ∧ m' ((c.tc : Thread Cert.ReferenceUpdxIdeal.nD Cert.ReferenceUpdxIdeal.τ).loc Cert.ReferenceUpdxIdeal.main_arg5) = m ((c.tc : Thread Cert.KernelUpdxIdeal.nD Cert.KernelUpdxIdeal.τ).loc Cert.KernelUpdxIdeal.main_arg5)) →
    ∃ (v0 : (c : Dev Cert.KernelUpdxIdeal.nD) → Buf (Elt Ideal) ((c.tc : Thread Cert.KernelUpdxIdeal.nD Cert.KernelUpdxIdeal.τ).loc Cert.KernelUpdxIdeal.main_v0_0)) (v1 : (c : Dev Cert.KernelUpdxIdeal.nD) → Buf (Elt Ideal) ((c.tc : Thread Cert.KernelUpdxIdeal.nD Cert.KernelUpdxIdeal.τ).loc Cert.KernelUpdxIdeal.main_v0_1)),
      θ_run (Cert.KernelUpdxIdeal.defs (F := Ideal)) (onTc (τ := Cert.KernelUpdxIdeal.τ) (Cert.KernelUpdxIdeal.main (F := Ideal))) ⟨m, fun _ => 0, g⟩ (fun r => ∀ c : Dev Cert.KernelUpdxIdeal.nD,
          r.2.mem ((c.tc : Thread Cert.KernelUpdxIdeal.nD Cert.KernelUpdxIdeal.τ).loc Cert.KernelUpdxIdeal.main_v0_0) = v0 c
          ∧ r.2.mem ((c.tc : Thread Cert.KernelUpdxIdeal.nD Cert.KernelUpdxIdeal.τ).loc Cert.KernelUpdxIdeal.main_v0_1) = v1 c
          ∧ r.2.mem ((c.tc : Thread Cert.KernelUpdxIdeal.nD Cert.KernelUpdxIdeal.τ).loc Cert.KernelUpdxIdeal.main_arg0) = m ((c.tc : Thread Cert.KernelUpdxIdeal.nD Cert.KernelUpdxIdeal.τ).loc Cert.KernelUpdxIdeal.main_arg0)
          ∧ r.2.mem ((c.tc : Thread Cert.KernelUpdxIdeal.nD Cert.KernelUpdxIdeal.τ).loc Cert.KernelUpdxIdeal.main_arg1) = m ((c.tc : Thread Cert.KernelUpdxIdeal.nD Cert.KernelUpdxIdeal.τ).loc Cert.KernelUpdxIdeal.main_arg1)
          ∧ r.2.mem ((c.tc : Thread Cert.KernelUpdxIdeal.nD Cert.KernelUpdxIdeal.τ).loc Cert.KernelUpdxIdeal.main_arg2) = m ((c.tc : Thread Cert.KernelUpdxIdeal.nD Cert.KernelUpdxIdeal.τ).loc Cert.KernelUpdxIdeal.main_arg2)
          ∧ r.2.mem ((c.tc : Thread Cert.KernelUpdxIdeal.nD Cert.KernelUpdxIdeal.τ).loc Cert.KernelUpdxIdeal.main_arg3) = m ((c.tc : Thread Cert.KernelUpdxIdeal.nD Cert.KernelUpdxIdeal.τ).loc Cert.KernelUpdxIdeal.main_arg3)
          ∧ r.2.mem ((c.tc : Thread Cert.KernelUpdxIdeal.nD Cert.KernelUpdxIdeal.τ).loc Cert.KernelUpdxIdeal.main_arg4) = m ((c.tc : Thread Cert.KernelUpdxIdeal.nD Cert.KernelUpdxIdeal.τ).loc Cert.KernelUpdxIdeal.main_arg4)
          ∧ r.2.mem ((c.tc : Thread Cert.KernelUpdxIdeal.nD Cert.KernelUpdxIdeal.τ).loc Cert.KernelUpdxIdeal.main_arg5) = m ((c.tc : Thread Cert.KernelUpdxIdeal.nD Cert.KernelUpdxIdeal.τ).loc Cert.KernelUpdxIdeal.main_arg5))
      ∧ θ_run (Cert.ReferenceUpdxIdeal.defs (F := Ideal)) (onTc (τ := Cert.ReferenceUpdxIdeal.τ) (Cert.ReferenceUpdxIdeal.main (F := Ideal))) ⟨m', fun _ => 0, g'⟩ (fun r => ∀ c : Dev Cert.ReferenceUpdxIdeal.nD,
          r.2.mem ((c.tc : Thread Cert.ReferenceUpdxIdeal.nD Cert.ReferenceUpdxIdeal.τ).loc Cert.ReferenceUpdxIdeal.main_v40) = v0 c
          ∧ r.2.mem ((c.tc : Thread Cert.ReferenceUpdxIdeal.nD Cert.ReferenceUpdxIdeal.τ).loc Cert.ReferenceUpdxIdeal.main_v23) = v1 c
          ∧ r.2.mem ((c.tc : Thread Cert.ReferenceUpdxIdeal.nD Cert.ReferenceUpdxIdeal.τ).loc Cert.ReferenceUpdxIdeal.main_arg0) = m' ((c.tc : Thread Cert.ReferenceUpdxIdeal.nD Cert.ReferenceUpdxIdeal.τ).loc Cert.ReferenceUpdxIdeal.main_arg0)
          ∧ r.2.mem ((c.tc : Thread Cert.ReferenceUpdxIdeal.nD Cert.ReferenceUpdxIdeal.τ).loc Cert.ReferenceUpdxIdeal.main_arg1) = m' ((c.tc : Thread Cert.ReferenceUpdxIdeal.nD Cert.ReferenceUpdxIdeal.τ).loc Cert.ReferenceUpdxIdeal.main_arg1)
          ∧ r.2.mem ((c.tc : Thread Cert.ReferenceUpdxIdeal.nD Cert.ReferenceUpdxIdeal.τ).loc Cert.ReferenceUpdxIdeal.main_arg2) = m' ((c.tc : Thread Cert.ReferenceUpdxIdeal.nD Cert.ReferenceUpdxIdeal.τ).loc Cert.ReferenceUpdxIdeal.main_arg2)
          ∧ r.2.mem ((c.tc : Thread Cert.ReferenceUpdxIdeal.nD Cert.ReferenceUpdxIdeal.τ).loc Cert.ReferenceUpdxIdeal.main_arg3) = m' ((c.tc : Thread Cert.ReferenceUpdxIdeal.nD Cert.ReferenceUpdxIdeal.τ).loc Cert.ReferenceUpdxIdeal.main_arg3)
          ∧ r.2.mem ((c.tc : Thread Cert.ReferenceUpdxIdeal.nD Cert.ReferenceUpdxIdeal.τ).loc Cert.ReferenceUpdxIdeal.main_arg4) = m' ((c.tc : Thread Cert.ReferenceUpdxIdeal.nD Cert.ReferenceUpdxIdeal.τ).loc Cert.ReferenceUpdxIdeal.main_arg4)
          ∧ r.2.mem ((c.tc : Thread Cert.ReferenceUpdxIdeal.nD Cert.ReferenceUpdxIdeal.τ).loc Cert.ReferenceUpdxIdeal.main_arg5) = m' ((c.tc : Thread Cert.ReferenceUpdxIdeal.nD Cert.ReferenceUpdxIdeal.τ).loc Cert.ReferenceUpdxIdeal.main_arg5))

def preserves_KernelIndx_KernelIndxIdeal : Prop :=
  True

def algebraic_KernelIndxIdeal_ReferenceIndxIdeal_pre_finite_indx [hKernelIndxIdeal : Cert.KernelIndxIdeal.Facts] [hReferenceIndxIdeal : Cert.ReferenceIndxIdeal.Facts] [hPre_finite_indx : Cert.Pre_finite_indx.Facts] : Prop :=
  ∀ (m : (ℓ : Loc Cert.KernelIndxIdeal.nD Cert.KernelIndxIdeal.τ Cert.KernelIndxIdeal.sig) → Buf (Elt Ideal) ℓ) (g : Dev Cert.KernelIndxIdeal.nD → PrngReg)
    (m' : (ℓ : Loc Cert.ReferenceIndxIdeal.nD Cert.ReferenceIndxIdeal.τ Cert.ReferenceIndxIdeal.sig) → Buf (Elt Ideal) ℓ) (g' : Dev Cert.ReferenceIndxIdeal.nD → PrngReg), Pre_KernelIndxIdeal_finite_indx m →
    (∀ c : Dev Cert.KernelIndxIdeal.nD,
      m' ((c.tc : Thread Cert.ReferenceIndxIdeal.nD Cert.ReferenceIndxIdeal.τ).loc Cert.ReferenceIndxIdeal.main_arg0) = m ((c.tc : Thread Cert.KernelIndxIdeal.nD Cert.KernelIndxIdeal.τ).loc Cert.KernelIndxIdeal.main_arg0)
      ∧ m' ((c.tc : Thread Cert.ReferenceIndxIdeal.nD Cert.ReferenceIndxIdeal.τ).loc Cert.ReferenceIndxIdeal.main_arg1) = m ((c.tc : Thread Cert.KernelIndxIdeal.nD Cert.KernelIndxIdeal.τ).loc Cert.KernelIndxIdeal.main_arg1)
      ∧ m' ((c.tc : Thread Cert.ReferenceIndxIdeal.nD Cert.ReferenceIndxIdeal.τ).loc Cert.ReferenceIndxIdeal.main_arg2) = m ((c.tc : Thread Cert.KernelIndxIdeal.nD Cert.KernelIndxIdeal.τ).loc Cert.KernelIndxIdeal.main_arg2)
      ∧ m' ((c.tc : Thread Cert.ReferenceIndxIdeal.nD Cert.ReferenceIndxIdeal.τ).loc Cert.ReferenceIndxIdeal.main_arg3) = m ((c.tc : Thread Cert.KernelIndxIdeal.nD Cert.KernelIndxIdeal.τ).loc Cert.KernelIndxIdeal.main_arg3)
      ∧ m' ((c.tc : Thread Cert.ReferenceIndxIdeal.nD Cert.ReferenceIndxIdeal.τ).loc Cert.ReferenceIndxIdeal.main_arg4) = m ((c.tc : Thread Cert.KernelIndxIdeal.nD Cert.KernelIndxIdeal.τ).loc Cert.KernelIndxIdeal.main_arg4)) →
    ∃ (v0 : (c : Dev Cert.KernelIndxIdeal.nD) → Buf (Elt Ideal) ((c.tc : Thread Cert.KernelIndxIdeal.nD Cert.KernelIndxIdeal.τ).loc Cert.KernelIndxIdeal.main_v0_0)) (v1 : (c : Dev Cert.KernelIndxIdeal.nD) → Buf (Elt Ideal) ((c.tc : Thread Cert.KernelIndxIdeal.nD Cert.KernelIndxIdeal.τ).loc Cert.KernelIndxIdeal.main_v0_1)),
      θ_run (Cert.KernelIndxIdeal.defs (F := Ideal)) (onTc (τ := Cert.KernelIndxIdeal.τ) (Cert.KernelIndxIdeal.main (F := Ideal))) ⟨m, fun _ => 0, g⟩ (fun r => ∀ c : Dev Cert.KernelIndxIdeal.nD,
          r.2.mem ((c.tc : Thread Cert.KernelIndxIdeal.nD Cert.KernelIndxIdeal.τ).loc Cert.KernelIndxIdeal.main_v0_0) = v0 c
          ∧ r.2.mem ((c.tc : Thread Cert.KernelIndxIdeal.nD Cert.KernelIndxIdeal.τ).loc Cert.KernelIndxIdeal.main_v0_1) = v1 c
          ∧ r.2.mem ((c.tc : Thread Cert.KernelIndxIdeal.nD Cert.KernelIndxIdeal.τ).loc Cert.KernelIndxIdeal.main_arg0) = m ((c.tc : Thread Cert.KernelIndxIdeal.nD Cert.KernelIndxIdeal.τ).loc Cert.KernelIndxIdeal.main_arg0)
          ∧ r.2.mem ((c.tc : Thread Cert.KernelIndxIdeal.nD Cert.KernelIndxIdeal.τ).loc Cert.KernelIndxIdeal.main_arg1) = m ((c.tc : Thread Cert.KernelIndxIdeal.nD Cert.KernelIndxIdeal.τ).loc Cert.KernelIndxIdeal.main_arg1)
          ∧ r.2.mem ((c.tc : Thread Cert.KernelIndxIdeal.nD Cert.KernelIndxIdeal.τ).loc Cert.KernelIndxIdeal.main_arg2) = m ((c.tc : Thread Cert.KernelIndxIdeal.nD Cert.KernelIndxIdeal.τ).loc Cert.KernelIndxIdeal.main_arg2)
          ∧ r.2.mem ((c.tc : Thread Cert.KernelIndxIdeal.nD Cert.KernelIndxIdeal.τ).loc Cert.KernelIndxIdeal.main_arg3) = m ((c.tc : Thread Cert.KernelIndxIdeal.nD Cert.KernelIndxIdeal.τ).loc Cert.KernelIndxIdeal.main_arg3)
          ∧ r.2.mem ((c.tc : Thread Cert.KernelIndxIdeal.nD Cert.KernelIndxIdeal.τ).loc Cert.KernelIndxIdeal.main_arg4) = m ((c.tc : Thread Cert.KernelIndxIdeal.nD Cert.KernelIndxIdeal.τ).loc Cert.KernelIndxIdeal.main_arg4))
      ∧ θ_run (Cert.ReferenceIndxIdeal.defs (F := Ideal)) (onTc (τ := Cert.ReferenceIndxIdeal.τ) (Cert.ReferenceIndxIdeal.main (F := Ideal))) ⟨m', fun _ => 0, g'⟩ (fun r => ∀ c : Dev Cert.ReferenceIndxIdeal.nD,
          r.2.mem ((c.tc : Thread Cert.ReferenceIndxIdeal.nD Cert.ReferenceIndxIdeal.τ).loc Cert.ReferenceIndxIdeal.main_v39) = v0 c
          ∧ r.2.mem ((c.tc : Thread Cert.ReferenceIndxIdeal.nD Cert.ReferenceIndxIdeal.τ).loc Cert.ReferenceIndxIdeal.main_v22) = v1 c
          ∧ r.2.mem ((c.tc : Thread Cert.ReferenceIndxIdeal.nD Cert.ReferenceIndxIdeal.τ).loc Cert.ReferenceIndxIdeal.main_arg0) = m' ((c.tc : Thread Cert.ReferenceIndxIdeal.nD Cert.ReferenceIndxIdeal.τ).loc Cert.ReferenceIndxIdeal.main_arg0)
          ∧ r.2.mem ((c.tc : Thread Cert.ReferenceIndxIdeal.nD Cert.ReferenceIndxIdeal.τ).loc Cert.ReferenceIndxIdeal.main_arg1) = m' ((c.tc : Thread Cert.ReferenceIndxIdeal.nD Cert.ReferenceIndxIdeal.τ).loc Cert.ReferenceIndxIdeal.main_arg1)
          ∧ r.2.mem ((c.tc : Thread Cert.ReferenceIndxIdeal.nD Cert.ReferenceIndxIdeal.τ).loc Cert.ReferenceIndxIdeal.main_arg2) = m' ((c.tc : Thread Cert.ReferenceIndxIdeal.nD Cert.ReferenceIndxIdeal.τ).loc Cert.ReferenceIndxIdeal.main_arg2)
          ∧ r.2.mem ((c.tc : Thread Cert.ReferenceIndxIdeal.nD Cert.ReferenceIndxIdeal.τ).loc Cert.ReferenceIndxIdeal.main_arg3) = m' ((c.tc : Thread Cert.ReferenceIndxIdeal.nD Cert.ReferenceIndxIdeal.τ).loc Cert.ReferenceIndxIdeal.main_arg3)
          ∧ r.2.mem ((c.tc : Thread Cert.ReferenceIndxIdeal.nD Cert.ReferenceIndxIdeal.τ).loc Cert.ReferenceIndxIdeal.main_arg4) = m' ((c.tc : Thread Cert.ReferenceIndxIdeal.nD Cert.ReferenceIndxIdeal.τ).loc Cert.ReferenceIndxIdeal.main_arg4))

def preserves_KernelRmsf_KernelRmsfIdeal : Prop :=
  True

def algebraic_KernelRmsfIdeal_ReferenceRmsfIdeal [hKernelRmsfIdeal : Cert.KernelRmsfIdeal.Facts] [hReferenceRmsfIdeal : Cert.ReferenceRmsfIdeal.Facts] : Prop :=
  ∀ (m : (ℓ : Loc Cert.KernelRmsfIdeal.nD Cert.KernelRmsfIdeal.τ Cert.KernelRmsfIdeal.sig) → Buf (Elt Ideal) ℓ) (g : Dev Cert.KernelRmsfIdeal.nD → PrngReg)
    (m' : (ℓ : Loc Cert.ReferenceRmsfIdeal.nD Cert.ReferenceRmsfIdeal.τ Cert.ReferenceRmsfIdeal.sig) → Buf (Elt Ideal) ℓ) (g' : Dev Cert.ReferenceRmsfIdeal.nD → PrngReg), Pre_KernelRmsfIdeal m →
    (∀ c : Dev Cert.KernelRmsfIdeal.nD,
      m' ((c.tc : Thread Cert.ReferenceRmsfIdeal.nD Cert.ReferenceRmsfIdeal.τ).loc Cert.ReferenceRmsfIdeal.main_arg0) = m ((c.tc : Thread Cert.KernelRmsfIdeal.nD Cert.KernelRmsfIdeal.τ).loc Cert.KernelRmsfIdeal.main_arg0)
      ∧ m' ((c.tc : Thread Cert.ReferenceRmsfIdeal.nD Cert.ReferenceRmsfIdeal.τ).loc Cert.ReferenceRmsfIdeal.main_arg1) = m ((c.tc : Thread Cert.KernelRmsfIdeal.nD Cert.KernelRmsfIdeal.τ).loc Cert.KernelRmsfIdeal.main_arg1)) →
    ∃ (v0 : (c : Dev Cert.KernelRmsfIdeal.nD) → Buf (Elt Ideal) ((c.tc : Thread Cert.KernelRmsfIdeal.nD Cert.KernelRmsfIdeal.τ).loc Cert.KernelRmsfIdeal.main_v0)),
      θ_run (Cert.KernelRmsfIdeal.defs (F := Ideal)) (onTc (τ := Cert.KernelRmsfIdeal.τ) (Cert.KernelRmsfIdeal.main (F := Ideal))) ⟨m, fun _ => 0, g⟩ (fun r => ∀ c : Dev Cert.KernelRmsfIdeal.nD,
          r.2.mem ((c.tc : Thread Cert.KernelRmsfIdeal.nD Cert.KernelRmsfIdeal.τ).loc Cert.KernelRmsfIdeal.main_v0) = v0 c
          ∧ r.2.mem ((c.tc : Thread Cert.KernelRmsfIdeal.nD Cert.KernelRmsfIdeal.τ).loc Cert.KernelRmsfIdeal.main_arg0) = m ((c.tc : Thread Cert.KernelRmsfIdeal.nD Cert.KernelRmsfIdeal.τ).loc Cert.KernelRmsfIdeal.main_arg0)
          ∧ r.2.mem ((c.tc : Thread Cert.KernelRmsfIdeal.nD Cert.KernelRmsfIdeal.τ).loc Cert.KernelRmsfIdeal.main_arg1) = m ((c.tc : Thread Cert.KernelRmsfIdeal.nD Cert.KernelRmsfIdeal.τ).loc Cert.KernelRmsfIdeal.main_arg1))
      ∧ θ_run (Cert.ReferenceRmsfIdeal.defs (F := Ideal)) (onTc (τ := Cert.ReferenceRmsfIdeal.τ) (Cert.ReferenceRmsfIdeal.main (F := Ideal))) ⟨m', fun _ => 0, g'⟩ (fun r => ∀ c : Dev Cert.ReferenceRmsfIdeal.nD,
          r.2.mem ((c.tc : Thread Cert.ReferenceRmsfIdeal.nD Cert.ReferenceRmsfIdeal.τ).loc Cert.ReferenceRmsfIdeal.main_v12) = v0 c
          ∧ r.2.mem ((c.tc : Thread Cert.ReferenceRmsfIdeal.nD Cert.ReferenceRmsfIdeal.τ).loc Cert.ReferenceRmsfIdeal.main_arg0) = m' ((c.tc : Thread Cert.ReferenceRmsfIdeal.nD Cert.ReferenceRmsfIdeal.τ).loc Cert.ReferenceRmsfIdeal.main_arg0)
          ∧ r.2.mem ((c.tc : Thread Cert.ReferenceRmsfIdeal.nD Cert.ReferenceRmsfIdeal.τ).loc Cert.ReferenceRmsfIdeal.main_arg1) = m' ((c.tc : Thread Cert.ReferenceRmsfIdeal.nD Cert.ReferenceRmsfIdeal.τ).loc Cert.ReferenceRmsfIdeal.main_arg1))

def preserves_KernelRmsm_KernelRmsmIdeal : Prop :=
  True

def algebraic_KernelRmsmIdeal_ReferenceRmsmIdeal [hKernelRmsmIdeal : Cert.KernelRmsmIdeal.Facts] [hReferenceRmsmIdeal : Cert.ReferenceRmsmIdeal.Facts] : Prop :=
  ∀ (m : (ℓ : Loc Cert.KernelRmsmIdeal.nD Cert.KernelRmsmIdeal.τ Cert.KernelRmsmIdeal.sig) → Buf (Elt Ideal) ℓ) (g : Dev Cert.KernelRmsmIdeal.nD → PrngReg)
    (m' : (ℓ : Loc Cert.ReferenceRmsmIdeal.nD Cert.ReferenceRmsmIdeal.τ Cert.ReferenceRmsmIdeal.sig) → Buf (Elt Ideal) ℓ) (g' : Dev Cert.ReferenceRmsmIdeal.nD → PrngReg), Pre_KernelRmsmIdeal m →
    (∀ c : Dev Cert.KernelRmsmIdeal.nD,
      m' ((c.tc : Thread Cert.ReferenceRmsmIdeal.nD Cert.ReferenceRmsmIdeal.τ).loc Cert.ReferenceRmsmIdeal.main_arg0) = m ((c.tc : Thread Cert.KernelRmsmIdeal.nD Cert.KernelRmsmIdeal.τ).loc Cert.KernelRmsmIdeal.main_arg0)
      ∧ m' ((c.tc : Thread Cert.ReferenceRmsmIdeal.nD Cert.ReferenceRmsmIdeal.τ).loc Cert.ReferenceRmsmIdeal.main_arg1) = m ((c.tc : Thread Cert.KernelRmsmIdeal.nD Cert.KernelRmsmIdeal.τ).loc Cert.KernelRmsmIdeal.main_arg1)) →
    ∃ (v0 : (c : Dev Cert.KernelRmsmIdeal.nD) → Buf (Elt Ideal) ((c.tc : Thread Cert.KernelRmsmIdeal.nD Cert.KernelRmsmIdeal.τ).loc Cert.KernelRmsmIdeal.main_v0)),
      θ_run (Cert.KernelRmsmIdeal.defs (F := Ideal)) (onTc (τ := Cert.KernelRmsmIdeal.τ) (Cert.KernelRmsmIdeal.main (F := Ideal))) ⟨m, fun _ => 0, g⟩ (fun r => ∀ c : Dev Cert.KernelRmsmIdeal.nD,
          r.2.mem ((c.tc : Thread Cert.KernelRmsmIdeal.nD Cert.KernelRmsmIdeal.τ).loc Cert.KernelRmsmIdeal.main_v0) = v0 c
          ∧ r.2.mem ((c.tc : Thread Cert.KernelRmsmIdeal.nD Cert.KernelRmsmIdeal.τ).loc Cert.KernelRmsmIdeal.main_arg0) = m ((c.tc : Thread Cert.KernelRmsmIdeal.nD Cert.KernelRmsmIdeal.τ).loc Cert.KernelRmsmIdeal.main_arg0)
          ∧ r.2.mem ((c.tc : Thread Cert.KernelRmsmIdeal.nD Cert.KernelRmsmIdeal.τ).loc Cert.KernelRmsmIdeal.main_arg1) = m ((c.tc : Thread Cert.KernelRmsmIdeal.nD Cert.KernelRmsmIdeal.τ).loc Cert.KernelRmsmIdeal.main_arg1))
      ∧ θ_run (Cert.ReferenceRmsmIdeal.defs (F := Ideal)) (onTc (τ := Cert.ReferenceRmsmIdeal.τ) (Cert.ReferenceRmsmIdeal.main (F := Ideal))) ⟨m', fun _ => 0, g'⟩ (fun r => ∀ c : Dev Cert.ReferenceRmsmIdeal.nD,
          r.2.mem ((c.tc : Thread Cert.ReferenceRmsmIdeal.nD Cert.ReferenceRmsmIdeal.τ).loc Cert.ReferenceRmsmIdeal.main_v12) = v0 c
          ∧ r.2.mem ((c.tc : Thread Cert.ReferenceRmsmIdeal.nD Cert.ReferenceRmsmIdeal.τ).loc Cert.ReferenceRmsmIdeal.main_arg0) = m' ((c.tc : Thread Cert.ReferenceRmsmIdeal.nD Cert.ReferenceRmsmIdeal.τ).loc Cert.ReferenceRmsmIdeal.main_arg0)
          ∧ r.2.mem ((c.tc : Thread Cert.ReferenceRmsmIdeal.nD Cert.ReferenceRmsmIdeal.τ).loc Cert.ReferenceRmsmIdeal.main_arg1) = m' ((c.tc : Thread Cert.ReferenceRmsmIdeal.nD Cert.ReferenceRmsmIdeal.τ).loc Cert.ReferenceRmsmIdeal.main_arg1))

def preserves_KernelAdgain_KernelAdgainIdeal : Prop :=
  True

def algebraic_KernelAdgainIdeal_ReferenceAdgainIdeal [hKernelAdgainIdeal : Cert.KernelAdgainIdeal.Facts] [hReferenceAdgainIdeal : Cert.ReferenceAdgainIdeal.Facts] : Prop :=
  ∀ (m : (ℓ : Loc Cert.KernelAdgainIdeal.nD Cert.KernelAdgainIdeal.τ Cert.KernelAdgainIdeal.sig) → Buf (Elt Ideal) ℓ) (g : Dev Cert.KernelAdgainIdeal.nD → PrngReg)
    (m' : (ℓ : Loc Cert.ReferenceAdgainIdeal.nD Cert.ReferenceAdgainIdeal.τ Cert.ReferenceAdgainIdeal.sig) → Buf (Elt Ideal) ℓ) (g' : Dev Cert.ReferenceAdgainIdeal.nD → PrngReg), Pre_KernelAdgainIdeal m →
    (∀ c : Dev Cert.KernelAdgainIdeal.nD,
      m' ((c.tc : Thread Cert.ReferenceAdgainIdeal.nD Cert.ReferenceAdgainIdeal.τ).loc Cert.ReferenceAdgainIdeal.main_arg0) = m ((c.tc : Thread Cert.KernelAdgainIdeal.nD Cert.KernelAdgainIdeal.τ).loc Cert.KernelAdgainIdeal.main_arg0)
      ∧ m' ((c.tc : Thread Cert.ReferenceAdgainIdeal.nD Cert.ReferenceAdgainIdeal.τ).loc Cert.ReferenceAdgainIdeal.main_arg1) = m ((c.tc : Thread Cert.KernelAdgainIdeal.nD Cert.KernelAdgainIdeal.τ).loc Cert.KernelAdgainIdeal.main_arg1)
      ∧ m' ((c.tc : Thread Cert.ReferenceAdgainIdeal.nD Cert.ReferenceAdgainIdeal.τ).loc Cert.ReferenceAdgainIdeal.main_arg2) = m ((c.tc : Thread Cert.KernelAdgainIdeal.nD Cert.KernelAdgainIdeal.τ).loc Cert.KernelAdgainIdeal.main_arg2)
      ∧ m' ((c.tc : Thread Cert.ReferenceAdgainIdeal.nD Cert.ReferenceAdgainIdeal.τ).loc Cert.ReferenceAdgainIdeal.main_arg3) = m ((c.tc : Thread Cert.KernelAdgainIdeal.nD Cert.KernelAdgainIdeal.τ).loc Cert.KernelAdgainIdeal.main_arg3)) →
    ∃ (v0 : (c : Dev Cert.KernelAdgainIdeal.nD) → Buf (Elt Ideal) ((c.tc : Thread Cert.KernelAdgainIdeal.nD Cert.KernelAdgainIdeal.τ).loc Cert.KernelAdgainIdeal.main_v0_0)) (v1 : (c : Dev Cert.KernelAdgainIdeal.nD) → Buf (Elt Ideal) ((c.tc : Thread Cert.KernelAdgainIdeal.nD Cert.KernelAdgainIdeal.τ).loc Cert.KernelAdgainIdeal.main_v0_1)) (v2 : (c : Dev Cert.KernelAdgainIdeal.nD) → Buf (Elt Ideal) ((c.tc : Thread Cert.KernelAdgainIdeal.nD Cert.KernelAdgainIdeal.τ).loc Cert.KernelAdgainIdeal.main_v0_2)),
      θ_run (Cert.KernelAdgainIdeal.defs (F := Ideal)) (onTc (τ := Cert.KernelAdgainIdeal.τ) (Cert.KernelAdgainIdeal.main (F := Ideal))) ⟨m, fun _ => 0, g⟩ (fun r => ∀ c : Dev Cert.KernelAdgainIdeal.nD,
          r.2.mem ((c.tc : Thread Cert.KernelAdgainIdeal.nD Cert.KernelAdgainIdeal.τ).loc Cert.KernelAdgainIdeal.main_v0_0) = v0 c
          ∧ r.2.mem ((c.tc : Thread Cert.KernelAdgainIdeal.nD Cert.KernelAdgainIdeal.τ).loc Cert.KernelAdgainIdeal.main_v0_1) = v1 c
          ∧ r.2.mem ((c.tc : Thread Cert.KernelAdgainIdeal.nD Cert.KernelAdgainIdeal.τ).loc Cert.KernelAdgainIdeal.main_v0_2) = v2 c
          ∧ r.2.mem ((c.tc : Thread Cert.KernelAdgainIdeal.nD Cert.KernelAdgainIdeal.τ).loc Cert.KernelAdgainIdeal.main_arg0) = m ((c.tc : Thread Cert.KernelAdgainIdeal.nD Cert.KernelAdgainIdeal.τ).loc Cert.KernelAdgainIdeal.main_arg0)
          ∧ r.2.mem ((c.tc : Thread Cert.KernelAdgainIdeal.nD Cert.KernelAdgainIdeal.τ).loc Cert.KernelAdgainIdeal.main_arg1) = m ((c.tc : Thread Cert.KernelAdgainIdeal.nD Cert.KernelAdgainIdeal.τ).loc Cert.KernelAdgainIdeal.main_arg1)
          ∧ r.2.mem ((c.tc : Thread Cert.KernelAdgainIdeal.nD Cert.KernelAdgainIdeal.τ).loc Cert.KernelAdgainIdeal.main_arg2) = m ((c.tc : Thread Cert.KernelAdgainIdeal.nD Cert.KernelAdgainIdeal.τ).loc Cert.KernelAdgainIdeal.main_arg2)
          ∧ r.2.mem ((c.tc : Thread Cert.KernelAdgainIdeal.nD Cert.KernelAdgainIdeal.τ).loc Cert.KernelAdgainIdeal.main_arg3) = m ((c.tc : Thread Cert.KernelAdgainIdeal.nD Cert.KernelAdgainIdeal.τ).loc Cert.KernelAdgainIdeal.main_arg3))
      ∧ θ_run (Cert.ReferenceAdgainIdeal.defs (F := Ideal)) (onTc (τ := Cert.ReferenceAdgainIdeal.τ) (Cert.ReferenceAdgainIdeal.main (F := Ideal))) ⟨m', fun _ => 0, g'⟩ (fun r => ∀ c : Dev Cert.ReferenceAdgainIdeal.nD,
          r.2.mem ((c.tc : Thread Cert.ReferenceAdgainIdeal.nD Cert.ReferenceAdgainIdeal.τ).loc Cert.ReferenceAdgainIdeal.main_v23) = v0 c
          ∧ r.2.mem ((c.tc : Thread Cert.ReferenceAdgainIdeal.nD Cert.ReferenceAdgainIdeal.τ).loc Cert.ReferenceAdgainIdeal.main_v4) = v1 c
          ∧ r.2.mem ((c.tc : Thread Cert.ReferenceAdgainIdeal.nD Cert.ReferenceAdgainIdeal.τ).loc Cert.ReferenceAdgainIdeal.main_v10) = v2 c
          ∧ r.2.mem ((c.tc : Thread Cert.ReferenceAdgainIdeal.nD Cert.ReferenceAdgainIdeal.τ).loc Cert.ReferenceAdgainIdeal.main_arg0) = m' ((c.tc : Thread Cert.ReferenceAdgainIdeal.nD Cert.ReferenceAdgainIdeal.τ).loc Cert.ReferenceAdgainIdeal.main_arg0)
          ∧ r.2.mem ((c.tc : Thread Cert.ReferenceAdgainIdeal.nD Cert.ReferenceAdgainIdeal.τ).loc Cert.ReferenceAdgainIdeal.main_arg1) = m' ((c.tc : Thread Cert.ReferenceAdgainIdeal.nD Cert.ReferenceAdgainIdeal.τ).loc Cert.ReferenceAdgainIdeal.main_arg1)
          ∧ r.2.mem ((c.tc : Thread Cert.ReferenceAdgainIdeal.nD Cert.ReferenceAdgainIdeal.τ).loc Cert.ReferenceAdgainIdeal.main_arg2) = m' ((c.tc : Thread Cert.ReferenceAdgainIdeal.nD Cert.ReferenceAdgainIdeal.τ).loc Cert.ReferenceAdgainIdeal.main_arg2)
          ∧ r.2.mem ((c.tc : Thread Cert.ReferenceAdgainIdeal.nD Cert.ReferenceAdgainIdeal.τ).loc Cert.ReferenceAdgainIdeal.main_arg3) = m' ((c.tc : Thread Cert.ReferenceAdgainIdeal.nD Cert.ReferenceAdgainIdeal.τ).loc Cert.ReferenceAdgainIdeal.main_arg3))

def preserves_KernelAdfinal_KernelAdfinalIdeal : Prop :=
  True

def algebraic_KernelAdfinalIdeal_ReferenceAdfinalIdeal [hKernelAdfinalIdeal : Cert.KernelAdfinalIdeal.Facts] [hReferenceAdfinalIdeal : Cert.ReferenceAdfinalIdeal.Facts] : Prop :=
  ∀ (m : (ℓ : Loc Cert.KernelAdfinalIdeal.nD Cert.KernelAdfinalIdeal.τ Cert.KernelAdfinalIdeal.sig) → Buf (Elt Ideal) ℓ) (g : Dev Cert.KernelAdfinalIdeal.nD → PrngReg)
    (m' : (ℓ : Loc Cert.ReferenceAdfinalIdeal.nD Cert.ReferenceAdfinalIdeal.τ Cert.ReferenceAdfinalIdeal.sig) → Buf (Elt Ideal) ℓ) (g' : Dev Cert.ReferenceAdfinalIdeal.nD → PrngReg), Pre_KernelAdfinalIdeal m →
    (∀ c : Dev Cert.KernelAdfinalIdeal.nD,
      m' ((c.tc : Thread Cert.ReferenceAdfinalIdeal.nD Cert.ReferenceAdfinalIdeal.τ).loc Cert.ReferenceAdfinalIdeal.main_arg0) = m ((c.tc : Thread Cert.KernelAdfinalIdeal.nD Cert.KernelAdfinalIdeal.τ).loc Cert.KernelAdfinalIdeal.main_arg0)
      ∧ m' ((c.tc : Thread Cert.ReferenceAdfinalIdeal.nD Cert.ReferenceAdfinalIdeal.τ).loc Cert.ReferenceAdfinalIdeal.main_arg1) = m ((c.tc : Thread Cert.KernelAdfinalIdeal.nD Cert.KernelAdfinalIdeal.τ).loc Cert.KernelAdfinalIdeal.main_arg1)
      ∧ m' ((c.tc : Thread Cert.ReferenceAdfinalIdeal.nD Cert.ReferenceAdfinalIdeal.τ).loc Cert.ReferenceAdfinalIdeal.main_arg2) = m ((c.tc : Thread Cert.KernelAdfinalIdeal.nD Cert.KernelAdfinalIdeal.τ).loc Cert.KernelAdfinalIdeal.main_arg2)
      ∧ m' ((c.tc : Thread Cert.ReferenceAdfinalIdeal.nD Cert.ReferenceAdfinalIdeal.τ).loc Cert.ReferenceAdfinalIdeal.main_arg3) = m ((c.tc : Thread Cert.KernelAdfinalIdeal.nD Cert.KernelAdfinalIdeal.τ).loc Cert.KernelAdfinalIdeal.main_arg3)) →
    ∃ (v0 : (c : Dev Cert.KernelAdfinalIdeal.nD) → Buf (Elt Ideal) ((c.tc : Thread Cert.KernelAdfinalIdeal.nD Cert.KernelAdfinalIdeal.τ).loc Cert.KernelAdfinalIdeal.main_v0_0)) (v1 : (c : Dev Cert.KernelAdfinalIdeal.nD) → Buf (Elt Ideal) ((c.tc : Thread Cert.KernelAdfinalIdeal.nD Cert.KernelAdfinalIdeal.τ).loc Cert.KernelAdfinalIdeal.main_v0_1)) (v2 : (c : Dev Cert.KernelAdfinalIdeal.nD) → Buf (Elt Ideal) ((c.tc : Thread Cert.KernelAdfinalIdeal.nD Cert.KernelAdfinalIdeal.τ).loc Cert.KernelAdfinalIdeal.main_v0_2)),
      θ_run (Cert.KernelAdfinalIdeal.defs (F := Ideal)) (onTc (τ := Cert.KernelAdfinalIdeal.τ) (Cert.KernelAdfinalIdeal.main (F := Ideal))) ⟨m, fun _ => 0, g⟩ (fun r => ∀ c : Dev Cert.KernelAdfinalIdeal.nD,
          r.2.mem ((c.tc : Thread Cert.KernelAdfinalIdeal.nD Cert.KernelAdfinalIdeal.τ).loc Cert.KernelAdfinalIdeal.main_v0_0) = v0 c
          ∧ r.2.mem ((c.tc : Thread Cert.KernelAdfinalIdeal.nD Cert.KernelAdfinalIdeal.τ).loc Cert.KernelAdfinalIdeal.main_v0_1) = v1 c
          ∧ r.2.mem ((c.tc : Thread Cert.KernelAdfinalIdeal.nD Cert.KernelAdfinalIdeal.τ).loc Cert.KernelAdfinalIdeal.main_v0_2) = v2 c
          ∧ r.2.mem ((c.tc : Thread Cert.KernelAdfinalIdeal.nD Cert.KernelAdfinalIdeal.τ).loc Cert.KernelAdfinalIdeal.main_arg0) = m ((c.tc : Thread Cert.KernelAdfinalIdeal.nD Cert.KernelAdfinalIdeal.τ).loc Cert.KernelAdfinalIdeal.main_arg0)
          ∧ r.2.mem ((c.tc : Thread Cert.KernelAdfinalIdeal.nD Cert.KernelAdfinalIdeal.τ).loc Cert.KernelAdfinalIdeal.main_arg1) = m ((c.tc : Thread Cert.KernelAdfinalIdeal.nD Cert.KernelAdfinalIdeal.τ).loc Cert.KernelAdfinalIdeal.main_arg1)
          ∧ r.2.mem ((c.tc : Thread Cert.KernelAdfinalIdeal.nD Cert.KernelAdfinalIdeal.τ).loc Cert.KernelAdfinalIdeal.main_arg2) = m ((c.tc : Thread Cert.KernelAdfinalIdeal.nD Cert.KernelAdfinalIdeal.τ).loc Cert.KernelAdfinalIdeal.main_arg2)
          ∧ r.2.mem ((c.tc : Thread Cert.KernelAdfinalIdeal.nD Cert.KernelAdfinalIdeal.τ).loc Cert.KernelAdfinalIdeal.main_arg3) = m ((c.tc : Thread Cert.KernelAdfinalIdeal.nD Cert.KernelAdfinalIdeal.τ).loc Cert.KernelAdfinalIdeal.main_arg3))
      ∧ θ_run (Cert.ReferenceAdfinalIdeal.defs (F := Ideal)) (onTc (τ := Cert.ReferenceAdfinalIdeal.τ) (Cert.ReferenceAdfinalIdeal.main (F := Ideal))) ⟨m', fun _ => 0, g'⟩ (fun r => ∀ c : Dev Cert.ReferenceAdfinalIdeal.nD,
          r.2.mem ((c.tc : Thread Cert.ReferenceAdfinalIdeal.nD Cert.ReferenceAdfinalIdeal.τ).loc Cert.ReferenceAdfinalIdeal.main_v23) = v0 c
          ∧ r.2.mem ((c.tc : Thread Cert.ReferenceAdfinalIdeal.nD Cert.ReferenceAdfinalIdeal.τ).loc Cert.ReferenceAdfinalIdeal.main_v4) = v1 c
          ∧ r.2.mem ((c.tc : Thread Cert.ReferenceAdfinalIdeal.nD Cert.ReferenceAdfinalIdeal.τ).loc Cert.ReferenceAdfinalIdeal.main_v10) = v2 c
          ∧ r.2.mem ((c.tc : Thread Cert.ReferenceAdfinalIdeal.nD Cert.ReferenceAdfinalIdeal.τ).loc Cert.ReferenceAdfinalIdeal.main_arg0) = m' ((c.tc : Thread Cert.ReferenceAdfinalIdeal.nD Cert.ReferenceAdfinalIdeal.τ).loc Cert.ReferenceAdfinalIdeal.main_arg0)
          ∧ r.2.mem ((c.tc : Thread Cert.ReferenceAdfinalIdeal.nD Cert.ReferenceAdfinalIdeal.τ).loc Cert.ReferenceAdfinalIdeal.main_arg1) = m' ((c.tc : Thread Cert.ReferenceAdfinalIdeal.nD Cert.ReferenceAdfinalIdeal.τ).loc Cert.ReferenceAdfinalIdeal.main_arg1)
          ∧ r.2.mem ((c.tc : Thread Cert.ReferenceAdfinalIdeal.nD Cert.ReferenceAdfinalIdeal.τ).loc Cert.ReferenceAdfinalIdeal.main_arg2) = m' ((c.tc : Thread Cert.ReferenceAdfinalIdeal.nD Cert.ReferenceAdfinalIdeal.τ).loc Cert.ReferenceAdfinalIdeal.main_arg2)
          ∧ r.2.mem ((c.tc : Thread Cert.ReferenceAdfinalIdeal.nD Cert.ReferenceAdfinalIdeal.τ).loc Cert.ReferenceAdfinalIdeal.main_arg3) = m' ((c.tc : Thread Cert.ReferenceAdfinalIdeal.nD Cert.ReferenceAdfinalIdeal.τ).loc Cert.ReferenceAdfinalIdeal.main_arg3))

def preserves_KernelAdwin_KernelAdwinIdeal : Prop :=
  True

def algebraic_KernelAdwinIdeal_ReferenceAdwinIdeal [hKernelAdwinIdeal : Cert.KernelAdwinIdeal.Facts] [hReferenceAdwinIdeal : Cert.ReferenceAdwinIdeal.Facts] : Prop :=
  ∀ (m : (ℓ : Loc Cert.KernelAdwinIdeal.nD Cert.KernelAdwinIdeal.τ Cert.KernelAdwinIdeal.sig) → Buf (Elt Ideal) ℓ) (g : Dev Cert.KernelAdwinIdeal.nD → PrngReg)
    (m' : (ℓ : Loc Cert.ReferenceAdwinIdeal.nD Cert.ReferenceAdwinIdeal.τ Cert.ReferenceAdwinIdeal.sig) → Buf (Elt Ideal) ℓ) (g' : Dev Cert.ReferenceAdwinIdeal.nD → PrngReg), Pre_KernelAdwinIdeal m →
    (∀ c : Dev Cert.KernelAdwinIdeal.nD,
      m' ((c.tc : Thread Cert.ReferenceAdwinIdeal.nD Cert.ReferenceAdwinIdeal.τ).loc Cert.ReferenceAdwinIdeal.main_arg0) = m ((c.tc : Thread Cert.KernelAdwinIdeal.nD Cert.KernelAdwinIdeal.τ).loc Cert.KernelAdwinIdeal.main_arg0)
      ∧ m' ((c.tc : Thread Cert.ReferenceAdwinIdeal.nD Cert.ReferenceAdwinIdeal.τ).loc Cert.ReferenceAdwinIdeal.main_arg1) = m ((c.tc : Thread Cert.KernelAdwinIdeal.nD Cert.KernelAdwinIdeal.τ).loc Cert.KernelAdwinIdeal.main_arg1)
      ∧ m' ((c.tc : Thread Cert.ReferenceAdwinIdeal.nD Cert.ReferenceAdwinIdeal.τ).loc Cert.ReferenceAdwinIdeal.main_arg2) = m ((c.tc : Thread Cert.KernelAdwinIdeal.nD Cert.KernelAdwinIdeal.τ).loc Cert.KernelAdwinIdeal.main_arg2)
      ∧ m' ((c.tc : Thread Cert.ReferenceAdwinIdeal.nD Cert.ReferenceAdwinIdeal.τ).loc Cert.ReferenceAdwinIdeal.main_arg3) = m ((c.tc : Thread Cert.KernelAdwinIdeal.nD Cert.KernelAdwinIdeal.τ).loc Cert.KernelAdwinIdeal.main_arg3)) →
    ∃ (v0 : (c : Dev Cert.KernelAdwinIdeal.nD) → Buf (Elt Ideal) ((c.tc : Thread Cert.KernelAdwinIdeal.nD Cert.KernelAdwinIdeal.τ).loc Cert.KernelAdwinIdeal.main_v0_0)) (v1 : (c : Dev Cert.KernelAdwinIdeal.nD) → Buf (Elt Ideal) ((c.tc : Thread Cert.KernelAdwinIdeal.nD Cert.KernelAdwinIdeal.τ).loc Cert.KernelAdwinIdeal.main_v0_1)) (v2 : (c : Dev Cert.KernelAdwinIdeal.nD) → Buf (Elt Ideal) ((c.tc : Thread Cert.KernelAdwinIdeal.nD Cert.KernelAdwinIdeal.τ).loc Cert.KernelAdwinIdeal.main_v0_2)),
      θ_run (Cert.KernelAdwinIdeal.defs (F := Ideal)) (onTc (τ := Cert.KernelAdwinIdeal.τ) (Cert.KernelAdwinIdeal.main (F := Ideal))) ⟨m, fun _ => 0, g⟩ (fun r => ∀ c : Dev Cert.KernelAdwinIdeal.nD,
          r.2.mem ((c.tc : Thread Cert.KernelAdwinIdeal.nD Cert.KernelAdwinIdeal.τ).loc Cert.KernelAdwinIdeal.main_v0_0) = v0 c
          ∧ r.2.mem ((c.tc : Thread Cert.KernelAdwinIdeal.nD Cert.KernelAdwinIdeal.τ).loc Cert.KernelAdwinIdeal.main_v0_1) = v1 c
          ∧ r.2.mem ((c.tc : Thread Cert.KernelAdwinIdeal.nD Cert.KernelAdwinIdeal.τ).loc Cert.KernelAdwinIdeal.main_v0_2) = v2 c
          ∧ r.2.mem ((c.tc : Thread Cert.KernelAdwinIdeal.nD Cert.KernelAdwinIdeal.τ).loc Cert.KernelAdwinIdeal.main_arg0) = m ((c.tc : Thread Cert.KernelAdwinIdeal.nD Cert.KernelAdwinIdeal.τ).loc Cert.KernelAdwinIdeal.main_arg0)
          ∧ r.2.mem ((c.tc : Thread Cert.KernelAdwinIdeal.nD Cert.KernelAdwinIdeal.τ).loc Cert.KernelAdwinIdeal.main_arg1) = m ((c.tc : Thread Cert.KernelAdwinIdeal.nD Cert.KernelAdwinIdeal.τ).loc Cert.KernelAdwinIdeal.main_arg1)
          ∧ r.2.mem ((c.tc : Thread Cert.KernelAdwinIdeal.nD Cert.KernelAdwinIdeal.τ).loc Cert.KernelAdwinIdeal.main_arg2) = m ((c.tc : Thread Cert.KernelAdwinIdeal.nD Cert.KernelAdwinIdeal.τ).loc Cert.KernelAdwinIdeal.main_arg2)
          ∧ r.2.mem ((c.tc : Thread Cert.KernelAdwinIdeal.nD Cert.KernelAdwinIdeal.τ).loc Cert.KernelAdwinIdeal.main_arg3) = m ((c.tc : Thread Cert.KernelAdwinIdeal.nD Cert.KernelAdwinIdeal.τ).loc Cert.KernelAdwinIdeal.main_arg3))
      ∧ θ_run (Cert.ReferenceAdwinIdeal.defs (F := Ideal)) (onTc (τ := Cert.ReferenceAdwinIdeal.τ) (Cert.ReferenceAdwinIdeal.main (F := Ideal))) ⟨m', fun _ => 0, g'⟩ (fun r => ∀ c : Dev Cert.ReferenceAdwinIdeal.nD,
          r.2.mem ((c.tc : Thread Cert.ReferenceAdwinIdeal.nD Cert.ReferenceAdwinIdeal.τ).loc Cert.ReferenceAdwinIdeal.main_v23) = v0 c
          ∧ r.2.mem ((c.tc : Thread Cert.ReferenceAdwinIdeal.nD Cert.ReferenceAdwinIdeal.τ).loc Cert.ReferenceAdwinIdeal.main_v4) = v1 c
          ∧ r.2.mem ((c.tc : Thread Cert.ReferenceAdwinIdeal.nD Cert.ReferenceAdwinIdeal.τ).loc Cert.ReferenceAdwinIdeal.main_v10) = v2 c
          ∧ r.2.mem ((c.tc : Thread Cert.ReferenceAdwinIdeal.nD Cert.ReferenceAdwinIdeal.τ).loc Cert.ReferenceAdwinIdeal.main_arg0) = m' ((c.tc : Thread Cert.ReferenceAdwinIdeal.nD Cert.ReferenceAdwinIdeal.τ).loc Cert.ReferenceAdwinIdeal.main_arg0)
          ∧ r.2.mem ((c.tc : Thread Cert.ReferenceAdwinIdeal.nD Cert.ReferenceAdwinIdeal.τ).loc Cert.ReferenceAdwinIdeal.main_arg1) = m' ((c.tc : Thread Cert.ReferenceAdwinIdeal.nD Cert.ReferenceAdwinIdeal.τ).loc Cert.ReferenceAdwinIdeal.main_arg1)
          ∧ r.2.mem ((c.tc : Thread Cert.ReferenceAdwinIdeal.nD Cert.ReferenceAdwinIdeal.τ).loc Cert.ReferenceAdwinIdeal.main_arg2) = m' ((c.tc : Thread Cert.ReferenceAdwinIdeal.nD Cert.ReferenceAdwinIdeal.τ).loc Cert.ReferenceAdwinIdeal.main_arg2)
          ∧ r.2.mem ((c.tc : Thread Cert.ReferenceAdwinIdeal.nD Cert.ReferenceAdwinIdeal.τ).loc Cert.ReferenceAdwinIdeal.main_arg3) = m' ((c.tc : Thread Cert.ReferenceAdwinIdeal.nD Cert.ReferenceAdwinIdeal.τ).loc Cert.ReferenceAdwinIdeal.main_arg3))

def preserves_KernelAdsgu_KernelAdsguIdeal : Prop :=
  True

def algebraic_KernelAdsguIdeal_ReferenceAdsguIdeal [hKernelAdsguIdeal : Cert.KernelAdsguIdeal.Facts] [hReferenceAdsguIdeal : Cert.ReferenceAdsguIdeal.Facts] : Prop :=
  ∀ (m : (ℓ : Loc Cert.KernelAdsguIdeal.nD Cert.KernelAdsguIdeal.τ Cert.KernelAdsguIdeal.sig) → Buf (Elt Ideal) ℓ) (g : Dev Cert.KernelAdsguIdeal.nD → PrngReg)
    (m' : (ℓ : Loc Cert.ReferenceAdsguIdeal.nD Cert.ReferenceAdsguIdeal.τ Cert.ReferenceAdsguIdeal.sig) → Buf (Elt Ideal) ℓ) (g' : Dev Cert.ReferenceAdsguIdeal.nD → PrngReg), Pre_KernelAdsguIdeal m →
    (∀ c : Dev Cert.KernelAdsguIdeal.nD,
      m' ((c.tc : Thread Cert.ReferenceAdsguIdeal.nD Cert.ReferenceAdsguIdeal.τ).loc Cert.ReferenceAdsguIdeal.main_arg0) = m ((c.tc : Thread Cert.KernelAdsguIdeal.nD Cert.KernelAdsguIdeal.τ).loc Cert.KernelAdsguIdeal.main_arg0)
      ∧ m' ((c.tc : Thread Cert.ReferenceAdsguIdeal.nD Cert.ReferenceAdsguIdeal.τ).loc Cert.ReferenceAdsguIdeal.main_arg1) = m ((c.tc : Thread Cert.KernelAdsguIdeal.nD Cert.KernelAdsguIdeal.τ).loc Cert.KernelAdsguIdeal.main_arg1)
      ∧ m' ((c.tc : Thread Cert.ReferenceAdsguIdeal.nD Cert.ReferenceAdsguIdeal.τ).loc Cert.ReferenceAdsguIdeal.main_arg2) = m ((c.tc : Thread Cert.KernelAdsguIdeal.nD Cert.KernelAdsguIdeal.τ).loc Cert.KernelAdsguIdeal.main_arg2)
      ∧ m' ((c.tc : Thread Cert.ReferenceAdsguIdeal.nD Cert.ReferenceAdsguIdeal.τ).loc Cert.ReferenceAdsguIdeal.main_arg3) = m ((c.tc : Thread Cert.KernelAdsguIdeal.nD Cert.KernelAdsguIdeal.τ).loc Cert.KernelAdsguIdeal.main_arg3)) →
    ∃ (v0 : (c : Dev Cert.KernelAdsguIdeal.nD) → Buf (Elt Ideal) ((c.tc : Thread Cert.KernelAdsguIdeal.nD Cert.KernelAdsguIdeal.τ).loc Cert.KernelAdsguIdeal.main_v0_0)) (v1 : (c : Dev Cert.KernelAdsguIdeal.nD) → Buf (Elt Ideal) ((c.tc : Thread Cert.KernelAdsguIdeal.nD Cert.KernelAdsguIdeal.τ).loc Cert.KernelAdsguIdeal.main_v0_1)) (v2 : (c : Dev Cert.KernelAdsguIdeal.nD) → Buf (Elt Ideal) ((c.tc : Thread Cert.KernelAdsguIdeal.nD Cert.KernelAdsguIdeal.τ).loc Cert.KernelAdsguIdeal.main_v0_2)),
      θ_run (Cert.KernelAdsguIdeal.defs (F := Ideal)) (onTc (τ := Cert.KernelAdsguIdeal.τ) (Cert.KernelAdsguIdeal.main (F := Ideal))) ⟨m, fun _ => 0, g⟩ (fun r => ∀ c : Dev Cert.KernelAdsguIdeal.nD,
          r.2.mem ((c.tc : Thread Cert.KernelAdsguIdeal.nD Cert.KernelAdsguIdeal.τ).loc Cert.KernelAdsguIdeal.main_v0_0) = v0 c
          ∧ r.2.mem ((c.tc : Thread Cert.KernelAdsguIdeal.nD Cert.KernelAdsguIdeal.τ).loc Cert.KernelAdsguIdeal.main_v0_1) = v1 c
          ∧ r.2.mem ((c.tc : Thread Cert.KernelAdsguIdeal.nD Cert.KernelAdsguIdeal.τ).loc Cert.KernelAdsguIdeal.main_v0_2) = v2 c
          ∧ r.2.mem ((c.tc : Thread Cert.KernelAdsguIdeal.nD Cert.KernelAdsguIdeal.τ).loc Cert.KernelAdsguIdeal.main_arg0) = m ((c.tc : Thread Cert.KernelAdsguIdeal.nD Cert.KernelAdsguIdeal.τ).loc Cert.KernelAdsguIdeal.main_arg0)
          ∧ r.2.mem ((c.tc : Thread Cert.KernelAdsguIdeal.nD Cert.KernelAdsguIdeal.τ).loc Cert.KernelAdsguIdeal.main_arg1) = m ((c.tc : Thread Cert.KernelAdsguIdeal.nD Cert.KernelAdsguIdeal.τ).loc Cert.KernelAdsguIdeal.main_arg1)
          ∧ r.2.mem ((c.tc : Thread Cert.KernelAdsguIdeal.nD Cert.KernelAdsguIdeal.τ).loc Cert.KernelAdsguIdeal.main_arg2) = m ((c.tc : Thread Cert.KernelAdsguIdeal.nD Cert.KernelAdsguIdeal.τ).loc Cert.KernelAdsguIdeal.main_arg2)
          ∧ r.2.mem ((c.tc : Thread Cert.KernelAdsguIdeal.nD Cert.KernelAdsguIdeal.τ).loc Cert.KernelAdsguIdeal.main_arg3) = m ((c.tc : Thread Cert.KernelAdsguIdeal.nD Cert.KernelAdsguIdeal.τ).loc Cert.KernelAdsguIdeal.main_arg3))
      ∧ θ_run (Cert.ReferenceAdsguIdeal.defs (F := Ideal)) (onTc (τ := Cert.ReferenceAdsguIdeal.τ) (Cert.ReferenceAdsguIdeal.main (F := Ideal))) ⟨m', fun _ => 0, g'⟩ (fun r => ∀ c : Dev Cert.ReferenceAdsguIdeal.nD,
          r.2.mem ((c.tc : Thread Cert.ReferenceAdsguIdeal.nD Cert.ReferenceAdsguIdeal.τ).loc Cert.ReferenceAdsguIdeal.main_v23) = v0 c
          ∧ r.2.mem ((c.tc : Thread Cert.ReferenceAdsguIdeal.nD Cert.ReferenceAdsguIdeal.τ).loc Cert.ReferenceAdsguIdeal.main_v4) = v1 c
          ∧ r.2.mem ((c.tc : Thread Cert.ReferenceAdsguIdeal.nD Cert.ReferenceAdsguIdeal.τ).loc Cert.ReferenceAdsguIdeal.main_v10) = v2 c
          ∧ r.2.mem ((c.tc : Thread Cert.ReferenceAdsguIdeal.nD Cert.ReferenceAdsguIdeal.τ).loc Cert.ReferenceAdsguIdeal.main_arg0) = m' ((c.tc : Thread Cert.ReferenceAdsguIdeal.nD Cert.ReferenceAdsguIdeal.τ).loc Cert.ReferenceAdsguIdeal.main_arg0)
          ∧ r.2.mem ((c.tc : Thread Cert.ReferenceAdsguIdeal.nD Cert.ReferenceAdsguIdeal.τ).loc Cert.ReferenceAdsguIdeal.main_arg1) = m' ((c.tc : Thread Cert.ReferenceAdsguIdeal.nD Cert.ReferenceAdsguIdeal.τ).loc Cert.ReferenceAdsguIdeal.main_arg1)
          ∧ r.2.mem ((c.tc : Thread Cert.ReferenceAdsguIdeal.nD Cert.ReferenceAdsguIdeal.τ).loc Cert.ReferenceAdsguIdeal.main_arg2) = m' ((c.tc : Thread Cert.ReferenceAdsguIdeal.nD Cert.ReferenceAdsguIdeal.τ).loc Cert.ReferenceAdsguIdeal.main_arg2)
          ∧ r.2.mem ((c.tc : Thread Cert.ReferenceAdsguIdeal.nD Cert.ReferenceAdsguIdeal.τ).loc Cert.ReferenceAdsguIdeal.main_arg3) = m' ((c.tc : Thread Cert.ReferenceAdsguIdeal.nD Cert.ReferenceAdsguIdeal.τ).loc Cert.ReferenceAdsguIdeal.main_arg3))

def preserves_KernelAdspat_KernelAdspatIdeal : Prop :=
  True

def algebraic_KernelAdspatIdeal_ReferenceAdspatIdeal [hKernelAdspatIdeal : Cert.KernelAdspatIdeal.Facts] [hReferenceAdspatIdeal : Cert.ReferenceAdspatIdeal.Facts] : Prop :=
  ∀ (m : (ℓ : Loc Cert.KernelAdspatIdeal.nD Cert.KernelAdspatIdeal.τ Cert.KernelAdspatIdeal.sig) → Buf (Elt Ideal) ℓ) (g : Dev Cert.KernelAdspatIdeal.nD → PrngReg)
    (m' : (ℓ : Loc Cert.ReferenceAdspatIdeal.nD Cert.ReferenceAdspatIdeal.τ Cert.ReferenceAdspatIdeal.sig) → Buf (Elt Ideal) ℓ) (g' : Dev Cert.ReferenceAdspatIdeal.nD → PrngReg), Pre_KernelAdspatIdeal m →
    (∀ c : Dev Cert.KernelAdspatIdeal.nD,
      m' ((c.tc : Thread Cert.ReferenceAdspatIdeal.nD Cert.ReferenceAdspatIdeal.τ).loc Cert.ReferenceAdspatIdeal.main_arg0) = m ((c.tc : Thread Cert.KernelAdspatIdeal.nD Cert.KernelAdspatIdeal.τ).loc Cert.KernelAdspatIdeal.main_arg0)
      ∧ m' ((c.tc : Thread Cert.ReferenceAdspatIdeal.nD Cert.ReferenceAdspatIdeal.τ).loc Cert.ReferenceAdspatIdeal.main_arg1) = m ((c.tc : Thread Cert.KernelAdspatIdeal.nD Cert.KernelAdspatIdeal.τ).loc Cert.KernelAdspatIdeal.main_arg1)
      ∧ m' ((c.tc : Thread Cert.ReferenceAdspatIdeal.nD Cert.ReferenceAdspatIdeal.τ).loc Cert.ReferenceAdspatIdeal.main_arg2) = m ((c.tc : Thread Cert.KernelAdspatIdeal.nD Cert.KernelAdspatIdeal.τ).loc Cert.KernelAdspatIdeal.main_arg2)
      ∧ m' ((c.tc : Thread Cert.ReferenceAdspatIdeal.nD Cert.ReferenceAdspatIdeal.τ).loc Cert.ReferenceAdspatIdeal.main_arg3) = m ((c.tc : Thread Cert.KernelAdspatIdeal.nD Cert.KernelAdspatIdeal.τ).loc Cert.KernelAdspatIdeal.main_arg3)) →
    ∃ (v0 : (c : Dev Cert.KernelAdspatIdeal.nD) → Buf (Elt Ideal) ((c.tc : Thread Cert.KernelAdspatIdeal.nD Cert.KernelAdspatIdeal.τ).loc Cert.KernelAdspatIdeal.main_v0_0)) (v1 : (c : Dev Cert.KernelAdspatIdeal.nD) → Buf (Elt Ideal) ((c.tc : Thread Cert.KernelAdspatIdeal.nD Cert.KernelAdspatIdeal.τ).loc Cert.KernelAdspatIdeal.main_v0_1)) (v2 : (c : Dev Cert.KernelAdspatIdeal.nD) → Buf (Elt Ideal) ((c.tc : Thread Cert.KernelAdspatIdeal.nD Cert.KernelAdspatIdeal.τ).loc Cert.KernelAdspatIdeal.main_v0_2)),
      θ_run (Cert.KernelAdspatIdeal.defs (F := Ideal)) (onTc (τ := Cert.KernelAdspatIdeal.τ) (Cert.KernelAdspatIdeal.main (F := Ideal))) ⟨m, fun _ => 0, g⟩ (fun r => ∀ c : Dev Cert.KernelAdspatIdeal.nD,
          r.2.mem ((c.tc : Thread Cert.KernelAdspatIdeal.nD Cert.KernelAdspatIdeal.τ).loc Cert.KernelAdspatIdeal.main_v0_0) = v0 c
          ∧ r.2.mem ((c.tc : Thread Cert.KernelAdspatIdeal.nD Cert.KernelAdspatIdeal.τ).loc Cert.KernelAdspatIdeal.main_v0_1) = v1 c
          ∧ r.2.mem ((c.tc : Thread Cert.KernelAdspatIdeal.nD Cert.KernelAdspatIdeal.τ).loc Cert.KernelAdspatIdeal.main_v0_2) = v2 c
          ∧ r.2.mem ((c.tc : Thread Cert.KernelAdspatIdeal.nD Cert.KernelAdspatIdeal.τ).loc Cert.KernelAdspatIdeal.main_arg0) = m ((c.tc : Thread Cert.KernelAdspatIdeal.nD Cert.KernelAdspatIdeal.τ).loc Cert.KernelAdspatIdeal.main_arg0)
          ∧ r.2.mem ((c.tc : Thread Cert.KernelAdspatIdeal.nD Cert.KernelAdspatIdeal.τ).loc Cert.KernelAdspatIdeal.main_arg1) = m ((c.tc : Thread Cert.KernelAdspatIdeal.nD Cert.KernelAdspatIdeal.τ).loc Cert.KernelAdspatIdeal.main_arg1)
          ∧ r.2.mem ((c.tc : Thread Cert.KernelAdspatIdeal.nD Cert.KernelAdspatIdeal.τ).loc Cert.KernelAdspatIdeal.main_arg2) = m ((c.tc : Thread Cert.KernelAdspatIdeal.nD Cert.KernelAdspatIdeal.τ).loc Cert.KernelAdspatIdeal.main_arg2)
          ∧ r.2.mem ((c.tc : Thread Cert.KernelAdspatIdeal.nD Cert.KernelAdspatIdeal.τ).loc Cert.KernelAdspatIdeal.main_arg3) = m ((c.tc : Thread Cert.KernelAdspatIdeal.nD Cert.KernelAdspatIdeal.τ).loc Cert.KernelAdspatIdeal.main_arg3))
      ∧ θ_run (Cert.ReferenceAdspatIdeal.defs (F := Ideal)) (onTc (τ := Cert.ReferenceAdspatIdeal.τ) (Cert.ReferenceAdspatIdeal.main (F := Ideal))) ⟨m', fun _ => 0, g'⟩ (fun r => ∀ c : Dev Cert.ReferenceAdspatIdeal.nD,
          r.2.mem ((c.tc : Thread Cert.ReferenceAdspatIdeal.nD Cert.ReferenceAdspatIdeal.τ).loc Cert.ReferenceAdspatIdeal.main_v23) = v0 c
          ∧ r.2.mem ((c.tc : Thread Cert.ReferenceAdspatIdeal.nD Cert.ReferenceAdspatIdeal.τ).loc Cert.ReferenceAdspatIdeal.main_v4) = v1 c
          ∧ r.2.mem ((c.tc : Thread Cert.ReferenceAdspatIdeal.nD Cert.ReferenceAdspatIdeal.τ).loc Cert.ReferenceAdspatIdeal.main_v10) = v2 c
          ∧ r.2.mem ((c.tc : Thread Cert.ReferenceAdspatIdeal.nD Cert.ReferenceAdspatIdeal.τ).loc Cert.ReferenceAdspatIdeal.main_arg0) = m' ((c.tc : Thread Cert.ReferenceAdspatIdeal.nD Cert.ReferenceAdspatIdeal.τ).loc Cert.ReferenceAdspatIdeal.main_arg0)
          ∧ r.2.mem ((c.tc : Thread Cert.ReferenceAdspatIdeal.nD Cert.ReferenceAdspatIdeal.τ).loc Cert.ReferenceAdspatIdeal.main_arg1) = m' ((c.tc : Thread Cert.ReferenceAdspatIdeal.nD Cert.ReferenceAdspatIdeal.τ).loc Cert.ReferenceAdspatIdeal.main_arg1)
          ∧ r.2.mem ((c.tc : Thread Cert.ReferenceAdspatIdeal.nD Cert.ReferenceAdspatIdeal.τ).loc Cert.ReferenceAdspatIdeal.main_arg2) = m' ((c.tc : Thread Cert.ReferenceAdspatIdeal.nD Cert.ReferenceAdspatIdeal.τ).loc Cert.ReferenceAdspatIdeal.main_arg2)
          ∧ r.2.mem ((c.tc : Thread Cert.ReferenceAdspatIdeal.nD Cert.ReferenceAdspatIdeal.τ).loc Cert.ReferenceAdspatIdeal.main_arg3) = m' ((c.tc : Thread Cert.ReferenceAdspatIdeal.nD Cert.ReferenceAdspatIdeal.τ).loc Cert.ReferenceAdspatIdeal.main_arg3))

def preserves_KernelAdbias_KernelAdbiasIdeal : Prop :=
  True

def algebraic_KernelAdbiasIdeal_ReferenceAdbiasIdeal [hKernelAdbiasIdeal : Cert.KernelAdbiasIdeal.Facts] [hReferenceAdbiasIdeal : Cert.ReferenceAdbiasIdeal.Facts] : Prop :=
  ∀ (m : (ℓ : Loc Cert.KernelAdbiasIdeal.nD Cert.KernelAdbiasIdeal.τ Cert.KernelAdbiasIdeal.sig) → Buf (Elt Ideal) ℓ) (g : Dev Cert.KernelAdbiasIdeal.nD → PrngReg)
    (m' : (ℓ : Loc Cert.ReferenceAdbiasIdeal.nD Cert.ReferenceAdbiasIdeal.τ Cert.ReferenceAdbiasIdeal.sig) → Buf (Elt Ideal) ℓ) (g' : Dev Cert.ReferenceAdbiasIdeal.nD → PrngReg), Pre_KernelAdbiasIdeal m →
    (∀ c : Dev Cert.KernelAdbiasIdeal.nD,
      m' ((c.tc : Thread Cert.ReferenceAdbiasIdeal.nD Cert.ReferenceAdbiasIdeal.τ).loc Cert.ReferenceAdbiasIdeal.main_arg0) = m ((c.tc : Thread Cert.KernelAdbiasIdeal.nD Cert.KernelAdbiasIdeal.τ).loc Cert.KernelAdbiasIdeal.main_arg0)
      ∧ m' ((c.tc : Thread Cert.ReferenceAdbiasIdeal.nD Cert.ReferenceAdbiasIdeal.τ).loc Cert.ReferenceAdbiasIdeal.main_arg1) = m ((c.tc : Thread Cert.KernelAdbiasIdeal.nD Cert.KernelAdbiasIdeal.τ).loc Cert.KernelAdbiasIdeal.main_arg1)
      ∧ m' ((c.tc : Thread Cert.ReferenceAdbiasIdeal.nD Cert.ReferenceAdbiasIdeal.τ).loc Cert.ReferenceAdbiasIdeal.main_arg2) = m ((c.tc : Thread Cert.KernelAdbiasIdeal.nD Cert.KernelAdbiasIdeal.τ).loc Cert.KernelAdbiasIdeal.main_arg2)
      ∧ m' ((c.tc : Thread Cert.ReferenceAdbiasIdeal.nD Cert.ReferenceAdbiasIdeal.τ).loc Cert.ReferenceAdbiasIdeal.main_arg3) = m ((c.tc : Thread Cert.KernelAdbiasIdeal.nD Cert.KernelAdbiasIdeal.τ).loc Cert.KernelAdbiasIdeal.main_arg3)) →
    ∃ (v0 : (c : Dev Cert.KernelAdbiasIdeal.nD) → Buf (Elt Ideal) ((c.tc : Thread Cert.KernelAdbiasIdeal.nD Cert.KernelAdbiasIdeal.τ).loc Cert.KernelAdbiasIdeal.main_v0_0)) (v1 : (c : Dev Cert.KernelAdbiasIdeal.nD) → Buf (Elt Ideal) ((c.tc : Thread Cert.KernelAdbiasIdeal.nD Cert.KernelAdbiasIdeal.τ).loc Cert.KernelAdbiasIdeal.main_v0_1)) (v2 : (c : Dev Cert.KernelAdbiasIdeal.nD) → Buf (Elt Ideal) ((c.tc : Thread Cert.KernelAdbiasIdeal.nD Cert.KernelAdbiasIdeal.τ).loc Cert.KernelAdbiasIdeal.main_v0_2)),
      θ_run (Cert.KernelAdbiasIdeal.defs (F := Ideal)) (onTc (τ := Cert.KernelAdbiasIdeal.τ) (Cert.KernelAdbiasIdeal.main (F := Ideal))) ⟨m, fun _ => 0, g⟩ (fun r => ∀ c : Dev Cert.KernelAdbiasIdeal.nD,
          r.2.mem ((c.tc : Thread Cert.KernelAdbiasIdeal.nD Cert.KernelAdbiasIdeal.τ).loc Cert.KernelAdbiasIdeal.main_v0_0) = v0 c
          ∧ r.2.mem ((c.tc : Thread Cert.KernelAdbiasIdeal.nD Cert.KernelAdbiasIdeal.τ).loc Cert.KernelAdbiasIdeal.main_v0_1) = v1 c
          ∧ r.2.mem ((c.tc : Thread Cert.KernelAdbiasIdeal.nD Cert.KernelAdbiasIdeal.τ).loc Cert.KernelAdbiasIdeal.main_v0_2) = v2 c
          ∧ r.2.mem ((c.tc : Thread Cert.KernelAdbiasIdeal.nD Cert.KernelAdbiasIdeal.τ).loc Cert.KernelAdbiasIdeal.main_arg0) = m ((c.tc : Thread Cert.KernelAdbiasIdeal.nD Cert.KernelAdbiasIdeal.τ).loc Cert.KernelAdbiasIdeal.main_arg0)
          ∧ r.2.mem ((c.tc : Thread Cert.KernelAdbiasIdeal.nD Cert.KernelAdbiasIdeal.τ).loc Cert.KernelAdbiasIdeal.main_arg1) = m ((c.tc : Thread Cert.KernelAdbiasIdeal.nD Cert.KernelAdbiasIdeal.τ).loc Cert.KernelAdbiasIdeal.main_arg1)
          ∧ r.2.mem ((c.tc : Thread Cert.KernelAdbiasIdeal.nD Cert.KernelAdbiasIdeal.τ).loc Cert.KernelAdbiasIdeal.main_arg2) = m ((c.tc : Thread Cert.KernelAdbiasIdeal.nD Cert.KernelAdbiasIdeal.τ).loc Cert.KernelAdbiasIdeal.main_arg2)
          ∧ r.2.mem ((c.tc : Thread Cert.KernelAdbiasIdeal.nD Cert.KernelAdbiasIdeal.τ).loc Cert.KernelAdbiasIdeal.main_arg3) = m ((c.tc : Thread Cert.KernelAdbiasIdeal.nD Cert.KernelAdbiasIdeal.τ).loc Cert.KernelAdbiasIdeal.main_arg3))
      ∧ θ_run (Cert.ReferenceAdbiasIdeal.defs (F := Ideal)) (onTc (τ := Cert.ReferenceAdbiasIdeal.τ) (Cert.ReferenceAdbiasIdeal.main (F := Ideal))) ⟨m', fun _ => 0, g'⟩ (fun r => ∀ c : Dev Cert.ReferenceAdbiasIdeal.nD,
          r.2.mem ((c.tc : Thread Cert.ReferenceAdbiasIdeal.nD Cert.ReferenceAdbiasIdeal.τ).loc Cert.ReferenceAdbiasIdeal.main_v23) = v0 c
          ∧ r.2.mem ((c.tc : Thread Cert.ReferenceAdbiasIdeal.nD Cert.ReferenceAdbiasIdeal.τ).loc Cert.ReferenceAdbiasIdeal.main_v4) = v1 c
          ∧ r.2.mem ((c.tc : Thread Cert.ReferenceAdbiasIdeal.nD Cert.ReferenceAdbiasIdeal.τ).loc Cert.ReferenceAdbiasIdeal.main_v10) = v2 c
          ∧ r.2.mem ((c.tc : Thread Cert.ReferenceAdbiasIdeal.nD Cert.ReferenceAdbiasIdeal.τ).loc Cert.ReferenceAdbiasIdeal.main_arg0) = m' ((c.tc : Thread Cert.ReferenceAdbiasIdeal.nD Cert.ReferenceAdbiasIdeal.τ).loc Cert.ReferenceAdbiasIdeal.main_arg0)
          ∧ r.2.mem ((c.tc : Thread Cert.ReferenceAdbiasIdeal.nD Cert.ReferenceAdbiasIdeal.τ).loc Cert.ReferenceAdbiasIdeal.main_arg1) = m' ((c.tc : Thread Cert.ReferenceAdbiasIdeal.nD Cert.ReferenceAdbiasIdeal.τ).loc Cert.ReferenceAdbiasIdeal.main_arg1)
          ∧ r.2.mem ((c.tc : Thread Cert.ReferenceAdbiasIdeal.nD Cert.ReferenceAdbiasIdeal.τ).loc Cert.ReferenceAdbiasIdeal.main_arg2) = m' ((c.tc : Thread Cert.ReferenceAdbiasIdeal.nD Cert.ReferenceAdbiasIdeal.τ).loc Cert.ReferenceAdbiasIdeal.main_arg2)
          ∧ r.2.mem ((c.tc : Thread Cert.ReferenceAdbiasIdeal.nD Cert.ReferenceAdbiasIdeal.τ).loc Cert.ReferenceAdbiasIdeal.main_arg3) = m' ((c.tc : Thread Cert.ReferenceAdbiasIdeal.nD Cert.ReferenceAdbiasIdeal.τ).loc Cert.ReferenceAdbiasIdeal.main_arg3))

def preserves_KernelAdconv_KernelAdconvIdeal : Prop :=
  True

def algebraic_KernelAdconvIdeal_ReferenceAdconvIdeal [hKernelAdconvIdeal : Cert.KernelAdconvIdeal.Facts] [hReferenceAdconvIdeal : Cert.ReferenceAdconvIdeal.Facts] : Prop :=
  ∀ (m : (ℓ : Loc Cert.KernelAdconvIdeal.nD Cert.KernelAdconvIdeal.τ Cert.KernelAdconvIdeal.sig) → Buf (Elt Ideal) ℓ) (g : Dev Cert.KernelAdconvIdeal.nD → PrngReg)
    (m' : (ℓ : Loc Cert.ReferenceAdconvIdeal.nD Cert.ReferenceAdconvIdeal.τ Cert.ReferenceAdconvIdeal.sig) → Buf (Elt Ideal) ℓ) (g' : Dev Cert.ReferenceAdconvIdeal.nD → PrngReg), Pre_KernelAdconvIdeal m →
    (∀ c : Dev Cert.KernelAdconvIdeal.nD,
      m' ((c.tc : Thread Cert.ReferenceAdconvIdeal.nD Cert.ReferenceAdconvIdeal.τ).loc Cert.ReferenceAdconvIdeal.main_arg0) = m ((c.tc : Thread Cert.KernelAdconvIdeal.nD Cert.KernelAdconvIdeal.τ).loc Cert.KernelAdconvIdeal.main_arg0)
      ∧ m' ((c.tc : Thread Cert.ReferenceAdconvIdeal.nD Cert.ReferenceAdconvIdeal.τ).loc Cert.ReferenceAdconvIdeal.main_arg1) = m ((c.tc : Thread Cert.KernelAdconvIdeal.nD Cert.KernelAdconvIdeal.τ).loc Cert.KernelAdconvIdeal.main_arg1)
      ∧ m' ((c.tc : Thread Cert.ReferenceAdconvIdeal.nD Cert.ReferenceAdconvIdeal.τ).loc Cert.ReferenceAdconvIdeal.main_arg2) = m ((c.tc : Thread Cert.KernelAdconvIdeal.nD Cert.KernelAdconvIdeal.τ).loc Cert.KernelAdconvIdeal.main_arg2)
      ∧ m' ((c.tc : Thread Cert.ReferenceAdconvIdeal.nD Cert.ReferenceAdconvIdeal.τ).loc Cert.ReferenceAdconvIdeal.main_arg3) = m ((c.tc : Thread Cert.KernelAdconvIdeal.nD Cert.KernelAdconvIdeal.τ).loc Cert.KernelAdconvIdeal.main_arg3)) →
    ∃ (v0 : (c : Dev Cert.KernelAdconvIdeal.nD) → Buf (Elt Ideal) ((c.tc : Thread Cert.KernelAdconvIdeal.nD Cert.KernelAdconvIdeal.τ).loc Cert.KernelAdconvIdeal.main_v0_0)) (v1 : (c : Dev Cert.KernelAdconvIdeal.nD) → Buf (Elt Ideal) ((c.tc : Thread Cert.KernelAdconvIdeal.nD Cert.KernelAdconvIdeal.τ).loc Cert.KernelAdconvIdeal.main_v0_1)) (v2 : (c : Dev Cert.KernelAdconvIdeal.nD) → Buf (Elt Ideal) ((c.tc : Thread Cert.KernelAdconvIdeal.nD Cert.KernelAdconvIdeal.τ).loc Cert.KernelAdconvIdeal.main_v0_2)),
      θ_run (Cert.KernelAdconvIdeal.defs (F := Ideal)) (onTc (τ := Cert.KernelAdconvIdeal.τ) (Cert.KernelAdconvIdeal.main (F := Ideal))) ⟨m, fun _ => 0, g⟩ (fun r => ∀ c : Dev Cert.KernelAdconvIdeal.nD,
          r.2.mem ((c.tc : Thread Cert.KernelAdconvIdeal.nD Cert.KernelAdconvIdeal.τ).loc Cert.KernelAdconvIdeal.main_v0_0) = v0 c
          ∧ r.2.mem ((c.tc : Thread Cert.KernelAdconvIdeal.nD Cert.KernelAdconvIdeal.τ).loc Cert.KernelAdconvIdeal.main_v0_1) = v1 c
          ∧ r.2.mem ((c.tc : Thread Cert.KernelAdconvIdeal.nD Cert.KernelAdconvIdeal.τ).loc Cert.KernelAdconvIdeal.main_v0_2) = v2 c
          ∧ r.2.mem ((c.tc : Thread Cert.KernelAdconvIdeal.nD Cert.KernelAdconvIdeal.τ).loc Cert.KernelAdconvIdeal.main_arg0) = m ((c.tc : Thread Cert.KernelAdconvIdeal.nD Cert.KernelAdconvIdeal.τ).loc Cert.KernelAdconvIdeal.main_arg0)
          ∧ r.2.mem ((c.tc : Thread Cert.KernelAdconvIdeal.nD Cert.KernelAdconvIdeal.τ).loc Cert.KernelAdconvIdeal.main_arg1) = m ((c.tc : Thread Cert.KernelAdconvIdeal.nD Cert.KernelAdconvIdeal.τ).loc Cert.KernelAdconvIdeal.main_arg1)
          ∧ r.2.mem ((c.tc : Thread Cert.KernelAdconvIdeal.nD Cert.KernelAdconvIdeal.τ).loc Cert.KernelAdconvIdeal.main_arg2) = m ((c.tc : Thread Cert.KernelAdconvIdeal.nD Cert.KernelAdconvIdeal.τ).loc Cert.KernelAdconvIdeal.main_arg2)
          ∧ r.2.mem ((c.tc : Thread Cert.KernelAdconvIdeal.nD Cert.KernelAdconvIdeal.τ).loc Cert.KernelAdconvIdeal.main_arg3) = m ((c.tc : Thread Cert.KernelAdconvIdeal.nD Cert.KernelAdconvIdeal.τ).loc Cert.KernelAdconvIdeal.main_arg3))
      ∧ θ_run (Cert.ReferenceAdconvIdeal.defs (F := Ideal)) (onTc (τ := Cert.ReferenceAdconvIdeal.τ) (Cert.ReferenceAdconvIdeal.main (F := Ideal))) ⟨m', fun _ => 0, g'⟩ (fun r => ∀ c : Dev Cert.ReferenceAdconvIdeal.nD,
          r.2.mem ((c.tc : Thread Cert.ReferenceAdconvIdeal.nD Cert.ReferenceAdconvIdeal.τ).loc Cert.ReferenceAdconvIdeal.main_v23) = v0 c
          ∧ r.2.mem ((c.tc : Thread Cert.ReferenceAdconvIdeal.nD Cert.ReferenceAdconvIdeal.τ).loc Cert.ReferenceAdconvIdeal.main_v4) = v1 c
          ∧ r.2.mem ((c.tc : Thread Cert.ReferenceAdconvIdeal.nD Cert.ReferenceAdconvIdeal.τ).loc Cert.ReferenceAdconvIdeal.main_v10) = v2 c
          ∧ r.2.mem ((c.tc : Thread Cert.ReferenceAdconvIdeal.nD Cert.ReferenceAdconvIdeal.τ).loc Cert.ReferenceAdconvIdeal.main_arg0) = m' ((c.tc : Thread Cert.ReferenceAdconvIdeal.nD Cert.ReferenceAdconvIdeal.τ).loc Cert.ReferenceAdconvIdeal.main_arg0)
          ∧ r.2.mem ((c.tc : Thread Cert.ReferenceAdconvIdeal.nD Cert.ReferenceAdconvIdeal.τ).loc Cert.ReferenceAdconvIdeal.main_arg1) = m' ((c.tc : Thread Cert.ReferenceAdconvIdeal.nD Cert.ReferenceAdconvIdeal.τ).loc Cert.ReferenceAdconvIdeal.main_arg1)
          ∧ r.2.mem ((c.tc : Thread Cert.ReferenceAdconvIdeal.nD Cert.ReferenceAdconvIdeal.τ).loc Cert.ReferenceAdconvIdeal.main_arg2) = m' ((c.tc : Thread Cert.ReferenceAdconvIdeal.nD Cert.ReferenceAdconvIdeal.τ).loc Cert.ReferenceAdconvIdeal.main_arg2)
          ∧ r.2.mem ((c.tc : Thread Cert.ReferenceAdconvIdeal.nD Cert.ReferenceAdconvIdeal.τ).loc Cert.ReferenceAdconvIdeal.main_arg3) = m' ((c.tc : Thread Cert.ReferenceAdconvIdeal.nD Cert.ReferenceAdconvIdeal.τ).loc Cert.ReferenceAdconvIdeal.main_arg3))

def preserves_KernelAdbranch_KernelAdbranchIdeal : Prop :=
  True

def algebraic_KernelAdbranchIdeal_ReferenceAdbranchIdeal [hKernelAdbranchIdeal : Cert.KernelAdbranchIdeal.Facts] [hReferenceAdbranchIdeal : Cert.ReferenceAdbranchIdeal.Facts] : Prop :=
  ∀ (m : (ℓ : Loc Cert.KernelAdbranchIdeal.nD Cert.KernelAdbranchIdeal.τ Cert.KernelAdbranchIdeal.sig) → Buf (Elt Ideal) ℓ) (g : Dev Cert.KernelAdbranchIdeal.nD → PrngReg)
    (m' : (ℓ : Loc Cert.ReferenceAdbranchIdeal.nD Cert.ReferenceAdbranchIdeal.τ Cert.ReferenceAdbranchIdeal.sig) → Buf (Elt Ideal) ℓ) (g' : Dev Cert.ReferenceAdbranchIdeal.nD → PrngReg), Pre_KernelAdbranchIdeal m →
    (∀ c : Dev Cert.KernelAdbranchIdeal.nD,
      m' ((c.tc : Thread Cert.ReferenceAdbranchIdeal.nD Cert.ReferenceAdbranchIdeal.τ).loc Cert.ReferenceAdbranchIdeal.main_arg0) = m ((c.tc : Thread Cert.KernelAdbranchIdeal.nD Cert.KernelAdbranchIdeal.τ).loc Cert.KernelAdbranchIdeal.main_arg0)
      ∧ m' ((c.tc : Thread Cert.ReferenceAdbranchIdeal.nD Cert.ReferenceAdbranchIdeal.τ).loc Cert.ReferenceAdbranchIdeal.main_arg1) = m ((c.tc : Thread Cert.KernelAdbranchIdeal.nD Cert.KernelAdbranchIdeal.τ).loc Cert.KernelAdbranchIdeal.main_arg1)
      ∧ m' ((c.tc : Thread Cert.ReferenceAdbranchIdeal.nD Cert.ReferenceAdbranchIdeal.τ).loc Cert.ReferenceAdbranchIdeal.main_arg2) = m ((c.tc : Thread Cert.KernelAdbranchIdeal.nD Cert.KernelAdbranchIdeal.τ).loc Cert.KernelAdbranchIdeal.main_arg2)
      ∧ m' ((c.tc : Thread Cert.ReferenceAdbranchIdeal.nD Cert.ReferenceAdbranchIdeal.τ).loc Cert.ReferenceAdbranchIdeal.main_arg3) = m ((c.tc : Thread Cert.KernelAdbranchIdeal.nD Cert.KernelAdbranchIdeal.τ).loc Cert.KernelAdbranchIdeal.main_arg3)) →
    ∃ (v0 : (c : Dev Cert.KernelAdbranchIdeal.nD) → Buf (Elt Ideal) ((c.tc : Thread Cert.KernelAdbranchIdeal.nD Cert.KernelAdbranchIdeal.τ).loc Cert.KernelAdbranchIdeal.main_v0_0)) (v1 : (c : Dev Cert.KernelAdbranchIdeal.nD) → Buf (Elt Ideal) ((c.tc : Thread Cert.KernelAdbranchIdeal.nD Cert.KernelAdbranchIdeal.τ).loc Cert.KernelAdbranchIdeal.main_v0_1)) (v2 : (c : Dev Cert.KernelAdbranchIdeal.nD) → Buf (Elt Ideal) ((c.tc : Thread Cert.KernelAdbranchIdeal.nD Cert.KernelAdbranchIdeal.τ).loc Cert.KernelAdbranchIdeal.main_v0_2)),
      θ_run (Cert.KernelAdbranchIdeal.defs (F := Ideal)) (onTc (τ := Cert.KernelAdbranchIdeal.τ) (Cert.KernelAdbranchIdeal.main (F := Ideal))) ⟨m, fun _ => 0, g⟩ (fun r => ∀ c : Dev Cert.KernelAdbranchIdeal.nD,
          r.2.mem ((c.tc : Thread Cert.KernelAdbranchIdeal.nD Cert.KernelAdbranchIdeal.τ).loc Cert.KernelAdbranchIdeal.main_v0_0) = v0 c
          ∧ r.2.mem ((c.tc : Thread Cert.KernelAdbranchIdeal.nD Cert.KernelAdbranchIdeal.τ).loc Cert.KernelAdbranchIdeal.main_v0_1) = v1 c
          ∧ r.2.mem ((c.tc : Thread Cert.KernelAdbranchIdeal.nD Cert.KernelAdbranchIdeal.τ).loc Cert.KernelAdbranchIdeal.main_v0_2) = v2 c
          ∧ r.2.mem ((c.tc : Thread Cert.KernelAdbranchIdeal.nD Cert.KernelAdbranchIdeal.τ).loc Cert.KernelAdbranchIdeal.main_arg0) = m ((c.tc : Thread Cert.KernelAdbranchIdeal.nD Cert.KernelAdbranchIdeal.τ).loc Cert.KernelAdbranchIdeal.main_arg0)
          ∧ r.2.mem ((c.tc : Thread Cert.KernelAdbranchIdeal.nD Cert.KernelAdbranchIdeal.τ).loc Cert.KernelAdbranchIdeal.main_arg1) = m ((c.tc : Thread Cert.KernelAdbranchIdeal.nD Cert.KernelAdbranchIdeal.τ).loc Cert.KernelAdbranchIdeal.main_arg1)
          ∧ r.2.mem ((c.tc : Thread Cert.KernelAdbranchIdeal.nD Cert.KernelAdbranchIdeal.τ).loc Cert.KernelAdbranchIdeal.main_arg2) = m ((c.tc : Thread Cert.KernelAdbranchIdeal.nD Cert.KernelAdbranchIdeal.τ).loc Cert.KernelAdbranchIdeal.main_arg2)
          ∧ r.2.mem ((c.tc : Thread Cert.KernelAdbranchIdeal.nD Cert.KernelAdbranchIdeal.τ).loc Cert.KernelAdbranchIdeal.main_arg3) = m ((c.tc : Thread Cert.KernelAdbranchIdeal.nD Cert.KernelAdbranchIdeal.τ).loc Cert.KernelAdbranchIdeal.main_arg3))
      ∧ θ_run (Cert.ReferenceAdbranchIdeal.defs (F := Ideal)) (onTc (τ := Cert.ReferenceAdbranchIdeal.τ) (Cert.ReferenceAdbranchIdeal.main (F := Ideal))) ⟨m', fun _ => 0, g'⟩ (fun r => ∀ c : Dev Cert.ReferenceAdbranchIdeal.nD,
          r.2.mem ((c.tc : Thread Cert.ReferenceAdbranchIdeal.nD Cert.ReferenceAdbranchIdeal.τ).loc Cert.ReferenceAdbranchIdeal.main_v23) = v0 c
          ∧ r.2.mem ((c.tc : Thread Cert.ReferenceAdbranchIdeal.nD Cert.ReferenceAdbranchIdeal.τ).loc Cert.ReferenceAdbranchIdeal.main_v4) = v1 c
          ∧ r.2.mem ((c.tc : Thread Cert.ReferenceAdbranchIdeal.nD Cert.ReferenceAdbranchIdeal.τ).loc Cert.ReferenceAdbranchIdeal.main_v10) = v2 c
          ∧ r.2.mem ((c.tc : Thread Cert.ReferenceAdbranchIdeal.nD Cert.ReferenceAdbranchIdeal.τ).loc Cert.ReferenceAdbranchIdeal.main_arg0) = m' ((c.tc : Thread Cert.ReferenceAdbranchIdeal.nD Cert.ReferenceAdbranchIdeal.τ).loc Cert.ReferenceAdbranchIdeal.main_arg0)
          ∧ r.2.mem ((c.tc : Thread Cert.ReferenceAdbranchIdeal.nD Cert.ReferenceAdbranchIdeal.τ).loc Cert.ReferenceAdbranchIdeal.main_arg1) = m' ((c.tc : Thread Cert.ReferenceAdbranchIdeal.nD Cert.ReferenceAdbranchIdeal.τ).loc Cert.ReferenceAdbranchIdeal.main_arg1)
          ∧ r.2.mem ((c.tc : Thread Cert.ReferenceAdbranchIdeal.nD Cert.ReferenceAdbranchIdeal.τ).loc Cert.ReferenceAdbranchIdeal.main_arg2) = m' ((c.tc : Thread Cert.ReferenceAdbranchIdeal.nD Cert.ReferenceAdbranchIdeal.τ).loc Cert.ReferenceAdbranchIdeal.main_arg2)
          ∧ r.2.mem ((c.tc : Thread Cert.ReferenceAdbranchIdeal.nD Cert.ReferenceAdbranchIdeal.τ).loc Cert.ReferenceAdbranchIdeal.main_arg3) = m' ((c.tc : Thread Cert.ReferenceAdbranchIdeal.nD Cert.ReferenceAdbranchIdeal.τ).loc Cert.ReferenceAdbranchIdeal.main_arg3))

def preserves_KernelAdsquare_KernelAdsquareIdeal : Prop :=
  True

def algebraic_KernelAdsquareIdeal_ReferenceAdsquareIdeal [hKernelAdsquareIdeal : Cert.KernelAdsquareIdeal.Facts] [hReferenceAdsquareIdeal : Cert.ReferenceAdsquareIdeal.Facts] : Prop :=
  ∀ (m : (ℓ : Loc Cert.KernelAdsquareIdeal.nD Cert.KernelAdsquareIdeal.τ Cert.KernelAdsquareIdeal.sig) → Buf (Elt Ideal) ℓ) (g : Dev Cert.KernelAdsquareIdeal.nD → PrngReg)
    (m' : (ℓ : Loc Cert.ReferenceAdsquareIdeal.nD Cert.ReferenceAdsquareIdeal.τ Cert.ReferenceAdsquareIdeal.sig) → Buf (Elt Ideal) ℓ) (g' : Dev Cert.ReferenceAdsquareIdeal.nD → PrngReg), Pre_KernelAdsquareIdeal m →
    (∀ c : Dev Cert.KernelAdsquareIdeal.nD,
      m' ((c.tc : Thread Cert.ReferenceAdsquareIdeal.nD Cert.ReferenceAdsquareIdeal.τ).loc Cert.ReferenceAdsquareIdeal.main_arg0) = m ((c.tc : Thread Cert.KernelAdsquareIdeal.nD Cert.KernelAdsquareIdeal.τ).loc Cert.KernelAdsquareIdeal.main_arg0)
      ∧ m' ((c.tc : Thread Cert.ReferenceAdsquareIdeal.nD Cert.ReferenceAdsquareIdeal.τ).loc Cert.ReferenceAdsquareIdeal.main_arg1) = m ((c.tc : Thread Cert.KernelAdsquareIdeal.nD Cert.KernelAdsquareIdeal.τ).loc Cert.KernelAdsquareIdeal.main_arg1)
      ∧ m' ((c.tc : Thread Cert.ReferenceAdsquareIdeal.nD Cert.ReferenceAdsquareIdeal.τ).loc Cert.ReferenceAdsquareIdeal.main_arg2) = m ((c.tc : Thread Cert.KernelAdsquareIdeal.nD Cert.KernelAdsquareIdeal.τ).loc Cert.KernelAdsquareIdeal.main_arg2)
      ∧ m' ((c.tc : Thread Cert.ReferenceAdsquareIdeal.nD Cert.ReferenceAdsquareIdeal.τ).loc Cert.ReferenceAdsquareIdeal.main_arg3) = m ((c.tc : Thread Cert.KernelAdsquareIdeal.nD Cert.KernelAdsquareIdeal.τ).loc Cert.KernelAdsquareIdeal.main_arg3)) →
    ∃ (v0 : (c : Dev Cert.KernelAdsquareIdeal.nD) → Buf (Elt Ideal) ((c.tc : Thread Cert.KernelAdsquareIdeal.nD Cert.KernelAdsquareIdeal.τ).loc Cert.KernelAdsquareIdeal.main_v0_0)) (v1 : (c : Dev Cert.KernelAdsquareIdeal.nD) → Buf (Elt Ideal) ((c.tc : Thread Cert.KernelAdsquareIdeal.nD Cert.KernelAdsquareIdeal.τ).loc Cert.KernelAdsquareIdeal.main_v0_1)) (v2 : (c : Dev Cert.KernelAdsquareIdeal.nD) → Buf (Elt Ideal) ((c.tc : Thread Cert.KernelAdsquareIdeal.nD Cert.KernelAdsquareIdeal.τ).loc Cert.KernelAdsquareIdeal.main_v0_2)),
      θ_run (Cert.KernelAdsquareIdeal.defs (F := Ideal)) (onTc (τ := Cert.KernelAdsquareIdeal.τ) (Cert.KernelAdsquareIdeal.main (F := Ideal))) ⟨m, fun _ => 0, g⟩ (fun r => ∀ c : Dev Cert.KernelAdsquareIdeal.nD,
          r.2.mem ((c.tc : Thread Cert.KernelAdsquareIdeal.nD Cert.KernelAdsquareIdeal.τ).loc Cert.KernelAdsquareIdeal.main_v0_0) = v0 c
          ∧ r.2.mem ((c.tc : Thread Cert.KernelAdsquareIdeal.nD Cert.KernelAdsquareIdeal.τ).loc Cert.KernelAdsquareIdeal.main_v0_1) = v1 c
          ∧ r.2.mem ((c.tc : Thread Cert.KernelAdsquareIdeal.nD Cert.KernelAdsquareIdeal.τ).loc Cert.KernelAdsquareIdeal.main_v0_2) = v2 c
          ∧ r.2.mem ((c.tc : Thread Cert.KernelAdsquareIdeal.nD Cert.KernelAdsquareIdeal.τ).loc Cert.KernelAdsquareIdeal.main_arg0) = m ((c.tc : Thread Cert.KernelAdsquareIdeal.nD Cert.KernelAdsquareIdeal.τ).loc Cert.KernelAdsquareIdeal.main_arg0)
          ∧ r.2.mem ((c.tc : Thread Cert.KernelAdsquareIdeal.nD Cert.KernelAdsquareIdeal.τ).loc Cert.KernelAdsquareIdeal.main_arg1) = m ((c.tc : Thread Cert.KernelAdsquareIdeal.nD Cert.KernelAdsquareIdeal.τ).loc Cert.KernelAdsquareIdeal.main_arg1)
          ∧ r.2.mem ((c.tc : Thread Cert.KernelAdsquareIdeal.nD Cert.KernelAdsquareIdeal.τ).loc Cert.KernelAdsquareIdeal.main_arg2) = m ((c.tc : Thread Cert.KernelAdsquareIdeal.nD Cert.KernelAdsquareIdeal.τ).loc Cert.KernelAdsquareIdeal.main_arg2)
          ∧ r.2.mem ((c.tc : Thread Cert.KernelAdsquareIdeal.nD Cert.KernelAdsquareIdeal.τ).loc Cert.KernelAdsquareIdeal.main_arg3) = m ((c.tc : Thread Cert.KernelAdsquareIdeal.nD Cert.KernelAdsquareIdeal.τ).loc Cert.KernelAdsquareIdeal.main_arg3))
      ∧ θ_run (Cert.ReferenceAdsquareIdeal.defs (F := Ideal)) (onTc (τ := Cert.ReferenceAdsquareIdeal.τ) (Cert.ReferenceAdsquareIdeal.main (F := Ideal))) ⟨m', fun _ => 0, g'⟩ (fun r => ∀ c : Dev Cert.ReferenceAdsquareIdeal.nD,
          r.2.mem ((c.tc : Thread Cert.ReferenceAdsquareIdeal.nD Cert.ReferenceAdsquareIdeal.τ).loc Cert.ReferenceAdsquareIdeal.main_v23) = v0 c
          ∧ r.2.mem ((c.tc : Thread Cert.ReferenceAdsquareIdeal.nD Cert.ReferenceAdsquareIdeal.τ).loc Cert.ReferenceAdsquareIdeal.main_v4) = v1 c
          ∧ r.2.mem ((c.tc : Thread Cert.ReferenceAdsquareIdeal.nD Cert.ReferenceAdsquareIdeal.τ).loc Cert.ReferenceAdsquareIdeal.main_v10) = v2 c
          ∧ r.2.mem ((c.tc : Thread Cert.ReferenceAdsquareIdeal.nD Cert.ReferenceAdsquareIdeal.τ).loc Cert.ReferenceAdsquareIdeal.main_arg0) = m' ((c.tc : Thread Cert.ReferenceAdsquareIdeal.nD Cert.ReferenceAdsquareIdeal.τ).loc Cert.ReferenceAdsquareIdeal.main_arg0)
          ∧ r.2.mem ((c.tc : Thread Cert.ReferenceAdsquareIdeal.nD Cert.ReferenceAdsquareIdeal.τ).loc Cert.ReferenceAdsquareIdeal.main_arg1) = m' ((c.tc : Thread Cert.ReferenceAdsquareIdeal.nD Cert.ReferenceAdsquareIdeal.τ).loc Cert.ReferenceAdsquareIdeal.main_arg1)
          ∧ r.2.mem ((c.tc : Thread Cert.ReferenceAdsquareIdeal.nD Cert.ReferenceAdsquareIdeal.τ).loc Cert.ReferenceAdsquareIdeal.main_arg2) = m' ((c.tc : Thread Cert.ReferenceAdsquareIdeal.nD Cert.ReferenceAdsquareIdeal.τ).loc Cert.ReferenceAdsquareIdeal.main_arg2)
          ∧ r.2.mem ((c.tc : Thread Cert.ReferenceAdsquareIdeal.nD Cert.ReferenceAdsquareIdeal.τ).loc Cert.ReferenceAdsquareIdeal.main_arg3) = m' ((c.tc : Thread Cert.ReferenceAdsquareIdeal.nD Cert.ReferenceAdsquareIdeal.τ).loc Cert.ReferenceAdsquareIdeal.main_arg3))

def preserves_KernelAdffn_KernelAdffnIdeal : Prop :=
  True

def algebraic_KernelAdffnIdeal_ReferenceAdffnIdeal [hKernelAdffnIdeal : Cert.KernelAdffnIdeal.Facts] [hReferenceAdffnIdeal : Cert.ReferenceAdffnIdeal.Facts] : Prop :=
  ∀ (m : (ℓ : Loc Cert.KernelAdffnIdeal.nD Cert.KernelAdffnIdeal.τ Cert.KernelAdffnIdeal.sig) → Buf (Elt Ideal) ℓ) (g : Dev Cert.KernelAdffnIdeal.nD → PrngReg)
    (m' : (ℓ : Loc Cert.ReferenceAdffnIdeal.nD Cert.ReferenceAdffnIdeal.τ Cert.ReferenceAdffnIdeal.sig) → Buf (Elt Ideal) ℓ) (g' : Dev Cert.ReferenceAdffnIdeal.nD → PrngReg), Pre_KernelAdffnIdeal m →
    (∀ c : Dev Cert.KernelAdffnIdeal.nD,
      m' ((c.tc : Thread Cert.ReferenceAdffnIdeal.nD Cert.ReferenceAdffnIdeal.τ).loc Cert.ReferenceAdffnIdeal.main_arg0) = m ((c.tc : Thread Cert.KernelAdffnIdeal.nD Cert.KernelAdffnIdeal.τ).loc Cert.KernelAdffnIdeal.main_arg0)
      ∧ m' ((c.tc : Thread Cert.ReferenceAdffnIdeal.nD Cert.ReferenceAdffnIdeal.τ).loc Cert.ReferenceAdffnIdeal.main_arg1) = m ((c.tc : Thread Cert.KernelAdffnIdeal.nD Cert.KernelAdffnIdeal.τ).loc Cert.KernelAdffnIdeal.main_arg1)
      ∧ m' ((c.tc : Thread Cert.ReferenceAdffnIdeal.nD Cert.ReferenceAdffnIdeal.τ).loc Cert.ReferenceAdffnIdeal.main_arg2) = m ((c.tc : Thread Cert.KernelAdffnIdeal.nD Cert.KernelAdffnIdeal.τ).loc Cert.KernelAdffnIdeal.main_arg2)
      ∧ m' ((c.tc : Thread Cert.ReferenceAdffnIdeal.nD Cert.ReferenceAdffnIdeal.τ).loc Cert.ReferenceAdffnIdeal.main_arg3) = m ((c.tc : Thread Cert.KernelAdffnIdeal.nD Cert.KernelAdffnIdeal.τ).loc Cert.KernelAdffnIdeal.main_arg3)) →
    ∃ (v0 : (c : Dev Cert.KernelAdffnIdeal.nD) → Buf (Elt Ideal) ((c.tc : Thread Cert.KernelAdffnIdeal.nD Cert.KernelAdffnIdeal.τ).loc Cert.KernelAdffnIdeal.main_v0_0)) (v1 : (c : Dev Cert.KernelAdffnIdeal.nD) → Buf (Elt Ideal) ((c.tc : Thread Cert.KernelAdffnIdeal.nD Cert.KernelAdffnIdeal.τ).loc Cert.KernelAdffnIdeal.main_v0_1)) (v2 : (c : Dev Cert.KernelAdffnIdeal.nD) → Buf (Elt Ideal) ((c.tc : Thread Cert.KernelAdffnIdeal.nD Cert.KernelAdffnIdeal.τ).loc Cert.KernelAdffnIdeal.main_v0_2)),
      θ_run (Cert.KernelAdffnIdeal.defs (F := Ideal)) (onTc (τ := Cert.KernelAdffnIdeal.τ) (Cert.KernelAdffnIdeal.main (F := Ideal))) ⟨m, fun _ => 0, g⟩ (fun r => ∀ c : Dev Cert.KernelAdffnIdeal.nD,
          r.2.mem ((c.tc : Thread Cert.KernelAdffnIdeal.nD Cert.KernelAdffnIdeal.τ).loc Cert.KernelAdffnIdeal.main_v0_0) = v0 c
          ∧ r.2.mem ((c.tc : Thread Cert.KernelAdffnIdeal.nD Cert.KernelAdffnIdeal.τ).loc Cert.KernelAdffnIdeal.main_v0_1) = v1 c
          ∧ r.2.mem ((c.tc : Thread Cert.KernelAdffnIdeal.nD Cert.KernelAdffnIdeal.τ).loc Cert.KernelAdffnIdeal.main_v0_2) = v2 c
          ∧ r.2.mem ((c.tc : Thread Cert.KernelAdffnIdeal.nD Cert.KernelAdffnIdeal.τ).loc Cert.KernelAdffnIdeal.main_arg0) = m ((c.tc : Thread Cert.KernelAdffnIdeal.nD Cert.KernelAdffnIdeal.τ).loc Cert.KernelAdffnIdeal.main_arg0)
          ∧ r.2.mem ((c.tc : Thread Cert.KernelAdffnIdeal.nD Cert.KernelAdffnIdeal.τ).loc Cert.KernelAdffnIdeal.main_arg1) = m ((c.tc : Thread Cert.KernelAdffnIdeal.nD Cert.KernelAdffnIdeal.τ).loc Cert.KernelAdffnIdeal.main_arg1)
          ∧ r.2.mem ((c.tc : Thread Cert.KernelAdffnIdeal.nD Cert.KernelAdffnIdeal.τ).loc Cert.KernelAdffnIdeal.main_arg2) = m ((c.tc : Thread Cert.KernelAdffnIdeal.nD Cert.KernelAdffnIdeal.τ).loc Cert.KernelAdffnIdeal.main_arg2)
          ∧ r.2.mem ((c.tc : Thread Cert.KernelAdffnIdeal.nD Cert.KernelAdffnIdeal.τ).loc Cert.KernelAdffnIdeal.main_arg3) = m ((c.tc : Thread Cert.KernelAdffnIdeal.nD Cert.KernelAdffnIdeal.τ).loc Cert.KernelAdffnIdeal.main_arg3))
      ∧ θ_run (Cert.ReferenceAdffnIdeal.defs (F := Ideal)) (onTc (τ := Cert.ReferenceAdffnIdeal.τ) (Cert.ReferenceAdffnIdeal.main (F := Ideal))) ⟨m', fun _ => 0, g'⟩ (fun r => ∀ c : Dev Cert.ReferenceAdffnIdeal.nD,
          r.2.mem ((c.tc : Thread Cert.ReferenceAdffnIdeal.nD Cert.ReferenceAdffnIdeal.τ).loc Cert.ReferenceAdffnIdeal.main_v23) = v0 c
          ∧ r.2.mem ((c.tc : Thread Cert.ReferenceAdffnIdeal.nD Cert.ReferenceAdffnIdeal.τ).loc Cert.ReferenceAdffnIdeal.main_v4) = v1 c
          ∧ r.2.mem ((c.tc : Thread Cert.ReferenceAdffnIdeal.nD Cert.ReferenceAdffnIdeal.τ).loc Cert.ReferenceAdffnIdeal.main_v10) = v2 c
          ∧ r.2.mem ((c.tc : Thread Cert.ReferenceAdffnIdeal.nD Cert.ReferenceAdffnIdeal.τ).loc Cert.ReferenceAdffnIdeal.main_arg0) = m' ((c.tc : Thread Cert.ReferenceAdffnIdeal.nD Cert.ReferenceAdffnIdeal.τ).loc Cert.ReferenceAdffnIdeal.main_arg0)
          ∧ r.2.mem ((c.tc : Thread Cert.ReferenceAdffnIdeal.nD Cert.ReferenceAdffnIdeal.τ).loc Cert.ReferenceAdffnIdeal.main_arg1) = m' ((c.tc : Thread Cert.ReferenceAdffnIdeal.nD Cert.ReferenceAdffnIdeal.τ).loc Cert.ReferenceAdffnIdeal.main_arg1)
          ∧ r.2.mem ((c.tc : Thread Cert.ReferenceAdffnIdeal.nD Cert.ReferenceAdffnIdeal.τ).loc Cert.ReferenceAdffnIdeal.main_arg2) = m' ((c.tc : Thread Cert.ReferenceAdffnIdeal.nD Cert.ReferenceAdffnIdeal.τ).loc Cert.ReferenceAdffnIdeal.main_arg2)
          ∧ r.2.mem ((c.tc : Thread Cert.ReferenceAdffnIdeal.nD Cert.ReferenceAdffnIdeal.τ).loc Cert.ReferenceAdffnIdeal.main_arg3) = m' ((c.tc : Thread Cert.ReferenceAdffnIdeal.nD Cert.ReferenceAdffnIdeal.τ).loc Cert.ReferenceAdffnIdeal.main_arg3))

def preserves_KernelAddown_KernelAddownIdeal : Prop :=
  True

def algebraic_KernelAddownIdeal_ReferenceAddownIdeal [hKernelAddownIdeal : Cert.KernelAddownIdeal.Facts] [hReferenceAddownIdeal : Cert.ReferenceAddownIdeal.Facts] : Prop :=
  ∀ (m : (ℓ : Loc Cert.KernelAddownIdeal.nD Cert.KernelAddownIdeal.τ Cert.KernelAddownIdeal.sig) → Buf (Elt Ideal) ℓ) (g : Dev Cert.KernelAddownIdeal.nD → PrngReg)
    (m' : (ℓ : Loc Cert.ReferenceAddownIdeal.nD Cert.ReferenceAddownIdeal.τ Cert.ReferenceAddownIdeal.sig) → Buf (Elt Ideal) ℓ) (g' : Dev Cert.ReferenceAddownIdeal.nD → PrngReg), Pre_KernelAddownIdeal m →
    (∀ c : Dev Cert.KernelAddownIdeal.nD,
      m' ((c.tc : Thread Cert.ReferenceAddownIdeal.nD Cert.ReferenceAddownIdeal.τ).loc Cert.ReferenceAddownIdeal.main_arg0) = m ((c.tc : Thread Cert.KernelAddownIdeal.nD Cert.KernelAddownIdeal.τ).loc Cert.KernelAddownIdeal.main_arg0)
      ∧ m' ((c.tc : Thread Cert.ReferenceAddownIdeal.nD Cert.ReferenceAddownIdeal.τ).loc Cert.ReferenceAddownIdeal.main_arg1) = m ((c.tc : Thread Cert.KernelAddownIdeal.nD Cert.KernelAddownIdeal.τ).loc Cert.KernelAddownIdeal.main_arg1)
      ∧ m' ((c.tc : Thread Cert.ReferenceAddownIdeal.nD Cert.ReferenceAddownIdeal.τ).loc Cert.ReferenceAddownIdeal.main_arg2) = m ((c.tc : Thread Cert.KernelAddownIdeal.nD Cert.KernelAddownIdeal.τ).loc Cert.KernelAddownIdeal.main_arg2)
      ∧ m' ((c.tc : Thread Cert.ReferenceAddownIdeal.nD Cert.ReferenceAddownIdeal.τ).loc Cert.ReferenceAddownIdeal.main_arg3) = m ((c.tc : Thread Cert.KernelAddownIdeal.nD Cert.KernelAddownIdeal.τ).loc Cert.KernelAddownIdeal.main_arg3)) →
    ∃ (v0 : (c : Dev Cert.KernelAddownIdeal.nD) → Buf (Elt Ideal) ((c.tc : Thread Cert.KernelAddownIdeal.nD Cert.KernelAddownIdeal.τ).loc Cert.KernelAddownIdeal.main_v0_0)) (v1 : (c : Dev Cert.KernelAddownIdeal.nD) → Buf (Elt Ideal) ((c.tc : Thread Cert.KernelAddownIdeal.nD Cert.KernelAddownIdeal.τ).loc Cert.KernelAddownIdeal.main_v0_1)) (v2 : (c : Dev Cert.KernelAddownIdeal.nD) → Buf (Elt Ideal) ((c.tc : Thread Cert.KernelAddownIdeal.nD Cert.KernelAddownIdeal.τ).loc Cert.KernelAddownIdeal.main_v0_2)),
      θ_run (Cert.KernelAddownIdeal.defs (F := Ideal)) (onTc (τ := Cert.KernelAddownIdeal.τ) (Cert.KernelAddownIdeal.main (F := Ideal))) ⟨m, fun _ => 0, g⟩ (fun r => ∀ c : Dev Cert.KernelAddownIdeal.nD,
          r.2.mem ((c.tc : Thread Cert.KernelAddownIdeal.nD Cert.KernelAddownIdeal.τ).loc Cert.KernelAddownIdeal.main_v0_0) = v0 c
          ∧ r.2.mem ((c.tc : Thread Cert.KernelAddownIdeal.nD Cert.KernelAddownIdeal.τ).loc Cert.KernelAddownIdeal.main_v0_1) = v1 c
          ∧ r.2.mem ((c.tc : Thread Cert.KernelAddownIdeal.nD Cert.KernelAddownIdeal.τ).loc Cert.KernelAddownIdeal.main_v0_2) = v2 c
          ∧ r.2.mem ((c.tc : Thread Cert.KernelAddownIdeal.nD Cert.KernelAddownIdeal.τ).loc Cert.KernelAddownIdeal.main_arg0) = m ((c.tc : Thread Cert.KernelAddownIdeal.nD Cert.KernelAddownIdeal.τ).loc Cert.KernelAddownIdeal.main_arg0)
          ∧ r.2.mem ((c.tc : Thread Cert.KernelAddownIdeal.nD Cert.KernelAddownIdeal.τ).loc Cert.KernelAddownIdeal.main_arg1) = m ((c.tc : Thread Cert.KernelAddownIdeal.nD Cert.KernelAddownIdeal.τ).loc Cert.KernelAddownIdeal.main_arg1)
          ∧ r.2.mem ((c.tc : Thread Cert.KernelAddownIdeal.nD Cert.KernelAddownIdeal.τ).loc Cert.KernelAddownIdeal.main_arg2) = m ((c.tc : Thread Cert.KernelAddownIdeal.nD Cert.KernelAddownIdeal.τ).loc Cert.KernelAddownIdeal.main_arg2)
          ∧ r.2.mem ((c.tc : Thread Cert.KernelAddownIdeal.nD Cert.KernelAddownIdeal.τ).loc Cert.KernelAddownIdeal.main_arg3) = m ((c.tc : Thread Cert.KernelAddownIdeal.nD Cert.KernelAddownIdeal.τ).loc Cert.KernelAddownIdeal.main_arg3))
      ∧ θ_run (Cert.ReferenceAddownIdeal.defs (F := Ideal)) (onTc (τ := Cert.ReferenceAddownIdeal.τ) (Cert.ReferenceAddownIdeal.main (F := Ideal))) ⟨m', fun _ => 0, g'⟩ (fun r => ∀ c : Dev Cert.ReferenceAddownIdeal.nD,
          r.2.mem ((c.tc : Thread Cert.ReferenceAddownIdeal.nD Cert.ReferenceAddownIdeal.τ).loc Cert.ReferenceAddownIdeal.main_v23) = v0 c
          ∧ r.2.mem ((c.tc : Thread Cert.ReferenceAddownIdeal.nD Cert.ReferenceAddownIdeal.τ).loc Cert.ReferenceAddownIdeal.main_v4) = v1 c
          ∧ r.2.mem ((c.tc : Thread Cert.ReferenceAddownIdeal.nD Cert.ReferenceAddownIdeal.τ).loc Cert.ReferenceAddownIdeal.main_v10) = v2 c
          ∧ r.2.mem ((c.tc : Thread Cert.ReferenceAddownIdeal.nD Cert.ReferenceAddownIdeal.τ).loc Cert.ReferenceAddownIdeal.main_arg0) = m' ((c.tc : Thread Cert.ReferenceAddownIdeal.nD Cert.ReferenceAddownIdeal.τ).loc Cert.ReferenceAddownIdeal.main_arg0)
          ∧ r.2.mem ((c.tc : Thread Cert.ReferenceAddownIdeal.nD Cert.ReferenceAddownIdeal.τ).loc Cert.ReferenceAddownIdeal.main_arg1) = m' ((c.tc : Thread Cert.ReferenceAddownIdeal.nD Cert.ReferenceAddownIdeal.τ).loc Cert.ReferenceAddownIdeal.main_arg1)
          ∧ r.2.mem ((c.tc : Thread Cert.ReferenceAddownIdeal.nD Cert.ReferenceAddownIdeal.τ).loc Cert.ReferenceAddownIdeal.main_arg2) = m' ((c.tc : Thread Cert.ReferenceAddownIdeal.nD Cert.ReferenceAddownIdeal.τ).loc Cert.ReferenceAddownIdeal.main_arg2)
          ∧ r.2.mem ((c.tc : Thread Cert.ReferenceAddownIdeal.nD Cert.ReferenceAddownIdeal.τ).loc Cert.ReferenceAddownIdeal.main_arg3) = m' ((c.tc : Thread Cert.ReferenceAddownIdeal.nD Cert.ReferenceAddownIdeal.τ).loc Cert.ReferenceAddownIdeal.main_arg3))

def Claim : Prop :=
  ∃ (hKernelSb : Cert.KernelSb.Facts) (hKernelSbIdeal : Cert.KernelSbIdeal.Facts) (hReferenceSbIdeal : Cert.ReferenceSbIdeal.Facts) (hKernelConv : Cert.KernelConv.Facts) (hKernelConvIdeal : Cert.KernelConvIdeal.Facts) (hReferenceConvIdeal : Cert.ReferenceConvIdeal.Facts) (hKernelMerge : Cert.KernelMerge.Facts) (hKernelMergeIdeal : Cert.KernelMergeIdeal.Facts) (hReferenceMergeIdeal : Cert.ReferenceMergeIdeal.Facts) (hKernelXa : Cert.KernelXa.Facts) (hKernelXaIdeal : Cert.KernelXaIdeal.Facts) (hReferenceXaIdeal : Cert.ReferenceXaIdeal.Facts) (hKernelFfn : Cert.KernelFfn.Facts) (hKernelFfnIdeal : Cert.KernelFfnIdeal.Facts) (hReferenceFfnIdeal : Cert.ReferenceFfnIdeal.Facts) (hKernelInp : Cert.KernelInp.Facts) (hKernelInpIdeal : Cert.KernelInpIdeal.Facts) (hReferenceInpIdeal : Cert.ReferenceInpIdeal.Facts) (hKernelWindw : Cert.KernelWindw.Facts) (hKernelWindwIdeal : Cert.KernelWindwIdeal.Facts) (hReferenceWindwIdeal : Cert.ReferenceWindwIdeal.Facts) (hKernelFfnin : Cert.KernelFfnin.Facts) (hKernelFfninIdeal : Cert.KernelFfninIdeal.Facts) (hReferenceFfninIdeal : Cert.ReferenceFfninIdeal.Facts) (hKernelDown : Cert.KernelDown.Facts) (hKernelDownIdeal : Cert.KernelDownIdeal.Facts) (hReferenceDownIdeal : Cert.ReferenceDownIdeal.Facts) (hKernelDowndw : Cert.KernelDowndw.Facts) (hKernelDowndwIdeal : Cert.KernelDowndwIdeal.Facts) (hReferenceDowndwIdeal : Cert.ReferenceDowndwIdeal.Facts) (hKernelGatedw : Cert.KernelGatedw.Facts) (hKernelGatedwIdeal : Cert.KernelGatedwIdeal.Facts) (hReferenceGatedwIdeal : Cert.ReferenceGatedwIdeal.Facts) (hKernelGatedx : Cert.KernelGatedx.Facts) (hKernelGatedxIdeal : Cert.KernelGatedxIdeal.Facts) (hReferenceGatedxIdeal : Cert.ReferenceGatedxIdeal.Facts) (hKernelOutdx : Cert.KernelOutdx.Facts) (hKernelOutdxIdeal : Cert.KernelOutdxIdeal.Facts) (hReferenceOutdxIdeal : Cert.ReferenceOutdxIdeal.Facts) (hKernelOutdw : Cert.KernelOutdw.Facts) (hKernelOutdwIdeal : Cert.KernelOutdwIdeal.Facts) (hReferenceOutdwIdeal : Cert.ReferenceOutdwIdeal.Facts) (hKernelMergef : Cert.KernelMergef.Facts) (hKernelMergefIdeal : Cert.KernelMergefIdeal.Facts) (hReferenceMergefIdeal : Cert.ReferenceMergefIdeal.Facts) (hKernelXaq : Cert.KernelXaq.Facts) (hKernelXaqIdeal : Cert.KernelXaqIdeal.Facts) (hReferenceXaqIdeal : Cert.ReferenceXaqIdeal.Facts) (hKernelOutp : Cert.KernelOutp.Facts) (hKernelOutpIdeal : Cert.KernelOutpIdeal.Facts) (hReferenceOutpIdeal : Cert.ReferenceOutpIdeal.Facts) (hKernelXaodx : Cert.KernelXaodx.Facts) (hKernelXaodxIdeal : Cert.KernelXaodxIdeal.Facts) (hReferenceXaodxIdeal : Cert.ReferenceXaodxIdeal.Facts) (hKernelXaqdw : Cert.KernelXaqdw.Facts) (hKernelXaqdwIdeal : Cert.KernelXaqdwIdeal.Facts) (hReferenceXaqdwIdeal : Cert.ReferenceXaqdwIdeal.Facts) (hKernelBranchdw : Cert.KernelBranchdw.Facts) (hKernelBranchdwIdeal : Cert.KernelBranchdwIdeal.Facts) (hReferenceBranchdwIdeal : Cert.ReferenceBranchdwIdeal.Facts) (hKernelXak : Cert.KernelXak.Facts) (hKernelXakIdeal : Cert.KernelXakIdeal.Facts) (hReferenceXakIdeal : Cert.ReferenceXakIdeal.Facts) (hKernelXakdw : Cert.KernelXakdw.Facts) (hKernelXakdwIdeal : Cert.KernelXakdwIdeal.Facts) (hReferenceXakdwIdeal : Cert.ReferenceXakdwIdeal.Facts) (hKernelXakdx : Cert.KernelXakdx.Facts) (hKernelXakdxIdeal : Cert.KernelXakdxIdeal.Facts) (hReferenceXakdxIdeal : Cert.ReferenceXakdxIdeal.Facts) (hKernelXavdx : Cert.KernelXavdx.Facts) (hKernelXavdxIdeal : Cert.KernelXavdxIdeal.Facts) (hReferenceXavdxIdeal : Cert.ReferenceXavdxIdeal.Facts) (hKernelXaqdx : Cert.KernelXaqdx.Facts) (hKernelXaqdxIdeal : Cert.KernelXaqdxIdeal.Facts) (hReferenceXaqdxIdeal : Cert.ReferenceXaqdxIdeal.Facts) (hKernelUpdx : Cert.KernelUpdx.Facts) (hKernelUpdxIdeal : Cert.KernelUpdxIdeal.Facts) (hReferenceUpdxIdeal : Cert.ReferenceUpdxIdeal.Facts) (hKernelIndx : Cert.KernelIndx.Facts) (hKernelIndxIdeal : Cert.KernelIndxIdeal.Facts) (hReferenceIndxIdeal : Cert.ReferenceIndxIdeal.Facts) (hKernelRmsf : Cert.KernelRmsf.Facts) (hKernelRmsfIdeal : Cert.KernelRmsfIdeal.Facts) (hReferenceRmsfIdeal : Cert.ReferenceRmsfIdeal.Facts) (hKernelRmsm : Cert.KernelRmsm.Facts) (hKernelRmsmIdeal : Cert.KernelRmsmIdeal.Facts) (hReferenceRmsmIdeal : Cert.ReferenceRmsmIdeal.Facts) (hKernelAdgain : Cert.KernelAdgain.Facts) (hKernelAdgainIdeal : Cert.KernelAdgainIdeal.Facts) (hReferenceAdgainIdeal : Cert.ReferenceAdgainIdeal.Facts) (hKernelAdfinal : Cert.KernelAdfinal.Facts) (hKernelAdfinalIdeal : Cert.KernelAdfinalIdeal.Facts) (hReferenceAdfinalIdeal : Cert.ReferenceAdfinalIdeal.Facts) (hKernelAdwin : Cert.KernelAdwin.Facts) (hKernelAdwinIdeal : Cert.KernelAdwinIdeal.Facts) (hReferenceAdwinIdeal : Cert.ReferenceAdwinIdeal.Facts) (hKernelAdsgu : Cert.KernelAdsgu.Facts) (hKernelAdsguIdeal : Cert.KernelAdsguIdeal.Facts) (hReferenceAdsguIdeal : Cert.ReferenceAdsguIdeal.Facts) (hKernelAdspat : Cert.KernelAdspat.Facts) (hKernelAdspatIdeal : Cert.KernelAdspatIdeal.Facts) (hReferenceAdspatIdeal : Cert.ReferenceAdspatIdeal.Facts) (hKernelAdbias : Cert.KernelAdbias.Facts) (hKernelAdbiasIdeal : Cert.KernelAdbiasIdeal.Facts) (hReferenceAdbiasIdeal : Cert.ReferenceAdbiasIdeal.Facts) (hKernelAdconv : Cert.KernelAdconv.Facts) (hKernelAdconvIdeal : Cert.KernelAdconvIdeal.Facts) (hReferenceAdconvIdeal : Cert.ReferenceAdconvIdeal.Facts) (hKernelAdbranch : Cert.KernelAdbranch.Facts) (hKernelAdbranchIdeal : Cert.KernelAdbranchIdeal.Facts) (hReferenceAdbranchIdeal : Cert.ReferenceAdbranchIdeal.Facts) (hKernelAdsquare : Cert.KernelAdsquare.Facts) (hKernelAdsquareIdeal : Cert.KernelAdsquareIdeal.Facts) (hReferenceAdsquareIdeal : Cert.ReferenceAdsquareIdeal.Facts) (hKernelAdffn : Cert.KernelAdffn.Facts) (hKernelAdffnIdeal : Cert.KernelAdffnIdeal.Facts) (hReferenceAdffnIdeal : Cert.ReferenceAdffnIdeal.Facts) (hKernelAddown : Cert.KernelAddown.Facts) (hKernelAddownIdeal : Cert.KernelAddownIdeal.Facts) (hReferenceAddownIdeal : Cert.ReferenceAddownIdeal.Facts) (hPre_finite_xa : Cert.Pre_finite_xa.Facts) (hPre_finite_ffn : Cert.Pre_finite_ffn.Facts) (hPre_finite_xaqdx : Cert.Pre_finite_xaqdx.Facts) (hPre_finite_updx : Cert.Pre_finite_updx.Facts) (hPre_finite_indx : Cert.Pre_finite_indx.Facts),
    quiescent_KernelSb (hKernelSb := hKernelSb)
    ∧ quiescent_KernelSbIdeal (hKernelSbIdeal := hKernelSbIdeal)
    ∧ quiescent_ReferenceSbIdeal (hReferenceSbIdeal := hReferenceSbIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelXa (hKernelXa := hKernelXa)
    ∧ quiescent_KernelXaIdeal (hKernelXaIdeal := hKernelXaIdeal)
    ∧ quiescent_KernelXaIdeal_pre_finite_xa (hKernelXaIdeal := hKernelXaIdeal) (hPre_finite_xa := hPre_finite_xa)
    ∧ quiescent_ReferenceXaIdeal (hReferenceXaIdeal := hReferenceXaIdeal)
    ∧ quiescent_ReferenceXaIdeal_pre_finite_xa (hReferenceXaIdeal := hReferenceXaIdeal) (hPre_finite_xa := hPre_finite_xa)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelInp (hKernelInp := hKernelInp)
    ∧ quiescent_KernelInpIdeal (hKernelInpIdeal := hKernelInpIdeal)
    ∧ quiescent_ReferenceInpIdeal (hReferenceInpIdeal := hReferenceInpIdeal)
    ∧ quiescent_KernelWindw (hKernelWindw := hKernelWindw)
    ∧ quiescent_KernelWindwIdeal (hKernelWindwIdeal := hKernelWindwIdeal)
    ∧ quiescent_ReferenceWindwIdeal (hReferenceWindwIdeal := hReferenceWindwIdeal)
    ∧ quiescent_KernelFfnin (hKernelFfnin := hKernelFfnin)
    ∧ quiescent_KernelFfninIdeal (hKernelFfninIdeal := hKernelFfninIdeal)
    ∧ quiescent_ReferenceFfninIdeal (hReferenceFfninIdeal := hReferenceFfninIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDowndw (hKernelDowndw := hKernelDowndw)
    ∧ quiescent_KernelDowndwIdeal (hKernelDowndwIdeal := hKernelDowndwIdeal)
    ∧ quiescent_ReferenceDowndwIdeal (hReferenceDowndwIdeal := hReferenceDowndwIdeal)
    ∧ quiescent_KernelGatedw (hKernelGatedw := hKernelGatedw)
    ∧ quiescent_KernelGatedwIdeal (hKernelGatedwIdeal := hKernelGatedwIdeal)
    ∧ quiescent_ReferenceGatedwIdeal (hReferenceGatedwIdeal := hReferenceGatedwIdeal)
    ∧ quiescent_KernelGatedx (hKernelGatedx := hKernelGatedx)
    ∧ quiescent_KernelGatedxIdeal (hKernelGatedxIdeal := hKernelGatedxIdeal)
    ∧ quiescent_ReferenceGatedxIdeal (hReferenceGatedxIdeal := hReferenceGatedxIdeal)
    ∧ quiescent_KernelOutdx (hKernelOutdx := hKernelOutdx)
    ∧ quiescent_KernelOutdxIdeal (hKernelOutdxIdeal := hKernelOutdxIdeal)
    ∧ quiescent_ReferenceOutdxIdeal (hReferenceOutdxIdeal := hReferenceOutdxIdeal)
    ∧ quiescent_KernelOutdw (hKernelOutdw := hKernelOutdw)
    ∧ quiescent_KernelOutdwIdeal (hKernelOutdwIdeal := hKernelOutdwIdeal)
    ∧ quiescent_ReferenceOutdwIdeal (hReferenceOutdwIdeal := hReferenceOutdwIdeal)
    ∧ quiescent_KernelMergef (hKernelMergef := hKernelMergef)
    ∧ quiescent_KernelMergefIdeal (hKernelMergefIdeal := hKernelMergefIdeal)
    ∧ quiescent_ReferenceMergefIdeal (hReferenceMergefIdeal := hReferenceMergefIdeal)
    ∧ quiescent_KernelXaq (hKernelXaq := hKernelXaq)
    ∧ quiescent_KernelXaqIdeal (hKernelXaqIdeal := hKernelXaqIdeal)
    ∧ quiescent_ReferenceXaqIdeal (hReferenceXaqIdeal := hReferenceXaqIdeal)
    ∧ quiescent_KernelOutp (hKernelOutp := hKernelOutp)
    ∧ quiescent_KernelOutpIdeal (hKernelOutpIdeal := hKernelOutpIdeal)
    ∧ quiescent_ReferenceOutpIdeal (hReferenceOutpIdeal := hReferenceOutpIdeal)
    ∧ quiescent_KernelXaodx (hKernelXaodx := hKernelXaodx)
    ∧ quiescent_KernelXaodxIdeal (hKernelXaodxIdeal := hKernelXaodxIdeal)
    ∧ quiescent_ReferenceXaodxIdeal (hReferenceXaodxIdeal := hReferenceXaodxIdeal)
    ∧ quiescent_KernelXaqdw (hKernelXaqdw := hKernelXaqdw)
    ∧ quiescent_KernelXaqdwIdeal (hKernelXaqdwIdeal := hKernelXaqdwIdeal)
    ∧ quiescent_ReferenceXaqdwIdeal (hReferenceXaqdwIdeal := hReferenceXaqdwIdeal)
    ∧ quiescent_KernelBranchdw (hKernelBranchdw := hKernelBranchdw)
    ∧ quiescent_KernelBranchdwIdeal (hKernelBranchdwIdeal := hKernelBranchdwIdeal)
    ∧ quiescent_ReferenceBranchdwIdeal (hReferenceBranchdwIdeal := hReferenceBranchdwIdeal)
    ∧ quiescent_KernelXak (hKernelXak := hKernelXak)
    ∧ quiescent_KernelXakIdeal (hKernelXakIdeal := hKernelXakIdeal)
    ∧ quiescent_ReferenceXakIdeal (hReferenceXakIdeal := hReferenceXakIdeal)
    ∧ quiescent_KernelXakdw (hKernelXakdw := hKernelXakdw)
    ∧ quiescent_KernelXakdwIdeal (hKernelXakdwIdeal := hKernelXakdwIdeal)
    ∧ quiescent_ReferenceXakdwIdeal (hReferenceXakdwIdeal := hReferenceXakdwIdeal)
    ∧ quiescent_KernelXakdx (hKernelXakdx := hKernelXakdx)
    ∧ quiescent_KernelXakdxIdeal (hKernelXakdxIdeal := hKernelXakdxIdeal)
    ∧ quiescent_ReferenceXakdxIdeal (hReferenceXakdxIdeal := hReferenceXakdxIdeal)
    ∧ quiescent_KernelXavdx (hKernelXavdx := hKernelXavdx)
    ∧ quiescent_KernelXavdxIdeal (hKernelXavdxIdeal := hKernelXavdxIdeal)
    ∧ quiescent_ReferenceXavdxIdeal (hReferenceXavdxIdeal := hReferenceXavdxIdeal)
    ∧ quiescent_KernelXaqdx (hKernelXaqdx := hKernelXaqdx)
    ∧ quiescent_KernelXaqdxIdeal (hKernelXaqdxIdeal := hKernelXaqdxIdeal)
    ∧ quiescent_KernelXaqdxIdeal_pre_finite_xaqdx (hKernelXaqdxIdeal := hKernelXaqdxIdeal) (hPre_finite_xaqdx := hPre_finite_xaqdx)
    ∧ quiescent_ReferenceXaqdxIdeal (hReferenceXaqdxIdeal := hReferenceXaqdxIdeal)
    ∧ quiescent_ReferenceXaqdxIdeal_pre_finite_xaqdx (hReferenceXaqdxIdeal := hReferenceXaqdxIdeal) (hPre_finite_xaqdx := hPre_finite_xaqdx)
    ∧ quiescent_KernelUpdx (hKernelUpdx := hKernelUpdx)
    ∧ quiescent_KernelUpdxIdeal (hKernelUpdxIdeal := hKernelUpdxIdeal)
    ∧ quiescent_KernelUpdxIdeal_pre_finite_updx (hKernelUpdxIdeal := hKernelUpdxIdeal) (hPre_finite_updx := hPre_finite_updx)
    ∧ quiescent_ReferenceUpdxIdeal (hReferenceUpdxIdeal := hReferenceUpdxIdeal)
    ∧ quiescent_ReferenceUpdxIdeal_pre_finite_updx (hReferenceUpdxIdeal := hReferenceUpdxIdeal) (hPre_finite_updx := hPre_finite_updx)
    ∧ quiescent_KernelIndx (hKernelIndx := hKernelIndx)
    ∧ quiescent_KernelIndxIdeal (hKernelIndxIdeal := hKernelIndxIdeal)
    ∧ quiescent_KernelIndxIdeal_pre_finite_indx (hKernelIndxIdeal := hKernelIndxIdeal) (hPre_finite_indx := hPre_finite_indx)
    ∧ quiescent_ReferenceIndxIdeal (hReferenceIndxIdeal := hReferenceIndxIdeal)
    ∧ quiescent_ReferenceIndxIdeal_pre_finite_indx (hReferenceIndxIdeal := hReferenceIndxIdeal) (hPre_finite_indx := hPre_finite_indx)
    ∧ quiescent_KernelRmsf (hKernelRmsf := hKernelRmsf)
    ∧ quiescent_KernelRmsfIdeal (hKernelRmsfIdeal := hKernelRmsfIdeal)
    ∧ quiescent_ReferenceRmsfIdeal (hReferenceRmsfIdeal := hReferenceRmsfIdeal)
    ∧ quiescent_KernelRmsm (hKernelRmsm := hKernelRmsm)
    ∧ quiescent_KernelRmsmIdeal (hKernelRmsmIdeal := hKernelRmsmIdeal)
    ∧ quiescent_ReferenceRmsmIdeal (hReferenceRmsmIdeal := hReferenceRmsmIdeal)
    ∧ quiescent_KernelAdgain (hKernelAdgain := hKernelAdgain)
    ∧ quiescent_KernelAdgainIdeal (hKernelAdgainIdeal := hKernelAdgainIdeal)
    ∧ quiescent_ReferenceAdgainIdeal (hReferenceAdgainIdeal := hReferenceAdgainIdeal)
    ∧ quiescent_KernelAdfinal (hKernelAdfinal := hKernelAdfinal)
    ∧ quiescent_KernelAdfinalIdeal (hKernelAdfinalIdeal := hKernelAdfinalIdeal)
    ∧ quiescent_ReferenceAdfinalIdeal (hReferenceAdfinalIdeal := hReferenceAdfinalIdeal)
    ∧ quiescent_KernelAdwin (hKernelAdwin := hKernelAdwin)
    ∧ quiescent_KernelAdwinIdeal (hKernelAdwinIdeal := hKernelAdwinIdeal)
    ∧ quiescent_ReferenceAdwinIdeal (hReferenceAdwinIdeal := hReferenceAdwinIdeal)
    ∧ quiescent_KernelAdsgu (hKernelAdsgu := hKernelAdsgu)
    ∧ quiescent_KernelAdsguIdeal (hKernelAdsguIdeal := hKernelAdsguIdeal)
    ∧ quiescent_ReferenceAdsguIdeal (hReferenceAdsguIdeal := hReferenceAdsguIdeal)
    ∧ quiescent_KernelAdspat (hKernelAdspat := hKernelAdspat)
    ∧ quiescent_KernelAdspatIdeal (hKernelAdspatIdeal := hKernelAdspatIdeal)
    ∧ quiescent_ReferenceAdspatIdeal (hReferenceAdspatIdeal := hReferenceAdspatIdeal)
    ∧ quiescent_KernelAdbias (hKernelAdbias := hKernelAdbias)
    ∧ quiescent_KernelAdbiasIdeal (hKernelAdbiasIdeal := hKernelAdbiasIdeal)
    ∧ quiescent_ReferenceAdbiasIdeal (hReferenceAdbiasIdeal := hReferenceAdbiasIdeal)
    ∧ quiescent_KernelAdconv (hKernelAdconv := hKernelAdconv)
    ∧ quiescent_KernelAdconvIdeal (hKernelAdconvIdeal := hKernelAdconvIdeal)
    ∧ quiescent_ReferenceAdconvIdeal (hReferenceAdconvIdeal := hReferenceAdconvIdeal)
    ∧ quiescent_KernelAdbranch (hKernelAdbranch := hKernelAdbranch)
    ∧ quiescent_KernelAdbranchIdeal (hKernelAdbranchIdeal := hKernelAdbranchIdeal)
    ∧ quiescent_ReferenceAdbranchIdeal (hReferenceAdbranchIdeal := hReferenceAdbranchIdeal)
    ∧ quiescent_KernelAdsquare (hKernelAdsquare := hKernelAdsquare)
    ∧ quiescent_KernelAdsquareIdeal (hKernelAdsquareIdeal := hKernelAdsquareIdeal)
    ∧ quiescent_ReferenceAdsquareIdeal (hReferenceAdsquareIdeal := hReferenceAdsquareIdeal)
    ∧ quiescent_KernelAdffn (hKernelAdffn := hKernelAdffn)
    ∧ quiescent_KernelAdffnIdeal (hKernelAdffnIdeal := hKernelAdffnIdeal)
    ∧ quiescent_ReferenceAdffnIdeal (hReferenceAdffnIdeal := hReferenceAdffnIdeal)
    ∧ quiescent_KernelAddown (hKernelAddown := hKernelAddown)
    ∧ quiescent_KernelAddownIdeal (hKernelAddownIdeal := hKernelAddownIdeal)
    ∧ quiescent_ReferenceAddownIdeal (hReferenceAddownIdeal := hReferenceAddownIdeal)
    ∧ preserves_KernelSb_KernelSbIdeal
    ∧ preserves_KernelConv_KernelConvIdeal
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelXa_KernelXaIdeal
    ∧ algebraic_KernelXaIdeal_ReferenceXaIdeal_pre_finite_xa (hKernelXaIdeal := hKernelXaIdeal) (hReferenceXaIdeal := hReferenceXaIdeal) (hPre_finite_xa := hPre_finite_xa)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelInp_KernelInpIdeal
    ∧ algebraic_KernelInpIdeal_ReferenceInpIdeal (hKernelInpIdeal := hKernelInpIdeal) (hReferenceInpIdeal := hReferenceInpIdeal)
    ∧ preserves_KernelWindw_KernelWindwIdeal
    ∧ algebraic_KernelWindwIdeal_ReferenceWindwIdeal (hKernelWindwIdeal := hKernelWindwIdeal) (hReferenceWindwIdeal := hReferenceWindwIdeal)
    ∧ preserves_KernelFfnin_KernelFfninIdeal
    ∧ algebraic_KernelFfninIdeal_ReferenceFfninIdeal (hKernelFfninIdeal := hKernelFfninIdeal) (hReferenceFfninIdeal := hReferenceFfninIdeal)
    ∧ preserves_KernelDown_KernelDownIdeal
    ∧ algebraic_KernelDownIdeal_ReferenceDownIdeal (hKernelDownIdeal := hKernelDownIdeal) (hReferenceDownIdeal := hReferenceDownIdeal)
    ∧ preserves_KernelDowndw_KernelDowndwIdeal
    ∧ algebraic_KernelDowndwIdeal_ReferenceDowndwIdeal (hKernelDowndwIdeal := hKernelDowndwIdeal) (hReferenceDowndwIdeal := hReferenceDowndwIdeal)
    ∧ preserves_KernelGatedw_KernelGatedwIdeal
    ∧ algebraic_KernelGatedwIdeal_ReferenceGatedwIdeal (hKernelGatedwIdeal := hKernelGatedwIdeal) (hReferenceGatedwIdeal := hReferenceGatedwIdeal)
    ∧ preserves_KernelGatedx_KernelGatedxIdeal
    ∧ algebraic_KernelGatedxIdeal_ReferenceGatedxIdeal (hKernelGatedxIdeal := hKernelGatedxIdeal) (hReferenceGatedxIdeal := hReferenceGatedxIdeal)
    ∧ preserves_KernelOutdx_KernelOutdxIdeal
    ∧ algebraic_KernelOutdxIdeal_ReferenceOutdxIdeal (hKernelOutdxIdeal := hKernelOutdxIdeal) (hReferenceOutdxIdeal := hReferenceOutdxIdeal)
    ∧ preserves_KernelOutdw_KernelOutdwIdeal
    ∧ algebraic_KernelOutdwIdeal_ReferenceOutdwIdeal (hKernelOutdwIdeal := hKernelOutdwIdeal) (hReferenceOutdwIdeal := hReferenceOutdwIdeal)
    ∧ preserves_KernelMergef_KernelMergefIdeal
    ∧ algebraic_KernelMergefIdeal_ReferenceMergefIdeal (hKernelMergefIdeal := hKernelMergefIdeal) (hReferenceMergefIdeal := hReferenceMergefIdeal)
    ∧ preserves_KernelXaq_KernelXaqIdeal
    ∧ algebraic_KernelXaqIdeal_ReferenceXaqIdeal (hKernelXaqIdeal := hKernelXaqIdeal) (hReferenceXaqIdeal := hReferenceXaqIdeal)
    ∧ preserves_KernelOutp_KernelOutpIdeal
    ∧ algebraic_KernelOutpIdeal_ReferenceOutpIdeal (hKernelOutpIdeal := hKernelOutpIdeal) (hReferenceOutpIdeal := hReferenceOutpIdeal)
    ∧ preserves_KernelXaodx_KernelXaodxIdeal
    ∧ algebraic_KernelXaodxIdeal_ReferenceXaodxIdeal (hKernelXaodxIdeal := hKernelXaodxIdeal) (hReferenceXaodxIdeal := hReferenceXaodxIdeal)
    ∧ preserves_KernelXaqdw_KernelXaqdwIdeal
    ∧ algebraic_KernelXaqdwIdeal_ReferenceXaqdwIdeal (hKernelXaqdwIdeal := hKernelXaqdwIdeal) (hReferenceXaqdwIdeal := hReferenceXaqdwIdeal)
    ∧ preserves_KernelBranchdw_KernelBranchdwIdeal
    ∧ algebraic_KernelBranchdwIdeal_ReferenceBranchdwIdeal (hKernelBranchdwIdeal := hKernelBranchdwIdeal) (hReferenceBranchdwIdeal := hReferenceBranchdwIdeal)
    ∧ preserves_KernelXak_KernelXakIdeal
    ∧ algebraic_KernelXakIdeal_ReferenceXakIdeal (hKernelXakIdeal := hKernelXakIdeal) (hReferenceXakIdeal := hReferenceXakIdeal)
    ∧ preserves_KernelXakdw_KernelXakdwIdeal
    ∧ algebraic_KernelXakdwIdeal_ReferenceXakdwIdeal (hKernelXakdwIdeal := hKernelXakdwIdeal) (hReferenceXakdwIdeal := hReferenceXakdwIdeal)
    ∧ preserves_KernelXakdx_KernelXakdxIdeal
    ∧ algebraic_KernelXakdxIdeal_ReferenceXakdxIdeal (hKernelXakdxIdeal := hKernelXakdxIdeal) (hReferenceXakdxIdeal := hReferenceXakdxIdeal)
    ∧ preserves_KernelXavdx_KernelXavdxIdeal
    ∧ algebraic_KernelXavdxIdeal_ReferenceXavdxIdeal (hKernelXavdxIdeal := hKernelXavdxIdeal) (hReferenceXavdxIdeal := hReferenceXavdxIdeal)
    ∧ preserves_KernelXaqdx_KernelXaqdxIdeal
    ∧ algebraic_KernelXaqdxIdeal_ReferenceXaqdxIdeal_pre_finite_xaqdx (hKernelXaqdxIdeal := hKernelXaqdxIdeal) (hReferenceXaqdxIdeal := hReferenceXaqdxIdeal) (hPre_finite_xaqdx := hPre_finite_xaqdx)
    ∧ preserves_KernelUpdx_KernelUpdxIdeal
    ∧ algebraic_KernelUpdxIdeal_ReferenceUpdxIdeal_pre_finite_updx (hKernelUpdxIdeal := hKernelUpdxIdeal) (hReferenceUpdxIdeal := hReferenceUpdxIdeal) (hPre_finite_updx := hPre_finite_updx)
    ∧ preserves_KernelIndx_KernelIndxIdeal
    ∧ algebraic_KernelIndxIdeal_ReferenceIndxIdeal_pre_finite_indx (hKernelIndxIdeal := hKernelIndxIdeal) (hReferenceIndxIdeal := hReferenceIndxIdeal) (hPre_finite_indx := hPre_finite_indx)
    ∧ preserves_KernelRmsf_KernelRmsfIdeal
    ∧ algebraic_KernelRmsfIdeal_ReferenceRmsfIdeal (hKernelRmsfIdeal := hKernelRmsfIdeal) (hReferenceRmsfIdeal := hReferenceRmsfIdeal)
    ∧ preserves_KernelRmsm_KernelRmsmIdeal
    ∧ algebraic_KernelRmsmIdeal_ReferenceRmsmIdeal (hKernelRmsmIdeal := hKernelRmsmIdeal) (hReferenceRmsmIdeal := hReferenceRmsmIdeal)
    ∧ preserves_KernelAdgain_KernelAdgainIdeal
    ∧ algebraic_KernelAdgainIdeal_ReferenceAdgainIdeal (hKernelAdgainIdeal := hKernelAdgainIdeal) (hReferenceAdgainIdeal := hReferenceAdgainIdeal)
    ∧ preserves_KernelAdfinal_KernelAdfinalIdeal
    ∧ algebraic_KernelAdfinalIdeal_ReferenceAdfinalIdeal (hKernelAdfinalIdeal := hKernelAdfinalIdeal) (hReferenceAdfinalIdeal := hReferenceAdfinalIdeal)
    ∧ preserves_KernelAdwin_KernelAdwinIdeal
    ∧ algebraic_KernelAdwinIdeal_ReferenceAdwinIdeal (hKernelAdwinIdeal := hKernelAdwinIdeal) (hReferenceAdwinIdeal := hReferenceAdwinIdeal)
    ∧ preserves_KernelAdsgu_KernelAdsguIdeal
    ∧ algebraic_KernelAdsguIdeal_ReferenceAdsguIdeal (hKernelAdsguIdeal := hKernelAdsguIdeal) (hReferenceAdsguIdeal := hReferenceAdsguIdeal)
    ∧ preserves_KernelAdspat_KernelAdspatIdeal
    ∧ algebraic_KernelAdspatIdeal_ReferenceAdspatIdeal (hKernelAdspatIdeal := hKernelAdspatIdeal) (hReferenceAdspatIdeal := hReferenceAdspatIdeal)
    ∧ preserves_KernelAdbias_KernelAdbiasIdeal
    ∧ algebraic_KernelAdbiasIdeal_ReferenceAdbiasIdeal (hKernelAdbiasIdeal := hKernelAdbiasIdeal) (hReferenceAdbiasIdeal := hReferenceAdbiasIdeal)
    ∧ preserves_KernelAdconv_KernelAdconvIdeal
    ∧ algebraic_KernelAdconvIdeal_ReferenceAdconvIdeal (hKernelAdconvIdeal := hKernelAdconvIdeal) (hReferenceAdconvIdeal := hReferenceAdconvIdeal)
    ∧ preserves_KernelAdbranch_KernelAdbranchIdeal
    ∧ algebraic_KernelAdbranchIdeal_ReferenceAdbranchIdeal (hKernelAdbranchIdeal := hKernelAdbranchIdeal) (hReferenceAdbranchIdeal := hReferenceAdbranchIdeal)
    ∧ preserves_KernelAdsquare_KernelAdsquareIdeal
    ∧ algebraic_KernelAdsquareIdeal_ReferenceAdsquareIdeal (hKernelAdsquareIdeal := hKernelAdsquareIdeal) (hReferenceAdsquareIdeal := hReferenceAdsquareIdeal)
    ∧ preserves_KernelAdffn_KernelAdffnIdeal
    ∧ algebraic_KernelAdffnIdeal_ReferenceAdffnIdeal (hKernelAdffnIdeal := hKernelAdffnIdeal) (hReferenceAdffnIdeal := hReferenceAdffnIdeal)
    ∧ preserves_KernelAddown_KernelAddownIdeal
    ∧ algebraic_KernelAddownIdeal_ReferenceAddownIdeal (hKernelAddownIdeal := hKernelAddownIdeal) (hReferenceAddownIdeal := hReferenceAddownIdeal)
-- ==== Pre_finite_ffn.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v13 : IVec S_ 1) (main_v16 : IVec S4096x2816 1) : IVec S_ 1 :=
  let main_c_5 : IVec S_ 1 := constantI S_ 1 1#1
  let main_v17 : IVec S_ 1 := (fun x v => Host.reduce IntOp.andi x v reducesTo_S4096x2816_S_d0_1 h_S_) main_v16 main_c_5
  let main_v18 : IVec S_ 1 := andi main_v13 main_v17
  main_v18

def fn {F : FTy → Type} [FloatOps F] (main_arg0 : FVec F S4096x1024 .f32) (main_arg1 : FVec F S2816x1024 .bf16) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x2816 .bf16 := Host.absf main_arg2
  let main_cst_2 : FVec F S_ .bf16 := constant S_ .bf16 0x7F80#16
  let main_v10 : FVec F S4096x2816 .bf16 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  let main_v14 : FVec F S4096x2816 .bf16 := Host.absf main_arg3
  let main_cst_4 : FVec F S_ .bf16 := constant S_ .bf16 0x7F80#16
  let main_v15 : FVec F S4096x2816 .bf16 := broadcastInDim S4096x2816 ![] bcast_S_S4096x2816 main_cst_4
  let main_v16 : IVec S4096x2816 1 := cmpf .olt main_v14 main_v15
  fn_part1 (F := F) main_v13 main_v16
-- ==== Pre_finite_indx.lean ====
abbrev S4096x7168 : Shape := ⟨2, ![4096, 7168]⟩
abbrev S7168x1024 : Shape := ⟨2, ![7168, 1024]⟩
abbrev S4096x1024 : Shape := ⟨2, ![4096, 1024]⟩
abbrev S1x1024 : Shape := ⟨2, ![1, 1024]⟩
abbrev S_ : Shape := ⟨0, ![]⟩

class Facts : Prop where
  bcast_S_S4096x7168 : S_.BroadcastsInDim S4096x7168 (![] : Fin 0 → Fin S4096x7168.rank)
  reducesTo_S4096x7168_S_d0_1 : S4096x7168.ReducesTo [0, 1] S_
  h_S_ : 0 < S_.numel
  bcast_S_S7168x1024 : S_.BroadcastsInDim S7168x1024 (![] : Fin 0 → Fin S7168x1024.rank)
  reducesTo_S7168x1024_S_d0_1 : S7168x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x7168 .bf16) (main_arg1 : FVec F S7168x1024 .bf16) (main_arg2 : FVec F S4096x1024 .f32) (main_arg3 : FVec F S1x1024 .f32) (main_arg4 : FVec F S4096x1024 .f32) : IVec S_ 1 :=
  let main_v0 : FVec F S4096x7168 .bf16 := Host.absf main_arg0
  let main_cst : FVec F S_ .bf16 := constant S_ .bf16 0x7F80#16
  let main_v1 : FVec F S4096x7168 .bf16 := broadcastInDim S4096x7168 ![] bcast_S_S4096x7168 main_cst
  let main_v2 : IVec S4096x7168 1 := cmpf .olt main_v0 main_v1
  let main_c : IVec S_ 1 := constantI S_ 1 1#1
  let main_v3 : IVec S_ 1 := (fun x v => Host.reduce IntOp.andi x v reducesTo_S4096x7168_S_d0_1 h_S_) main_v2 main_c
  let main_v4 : FVec F S7168x1024 .bf16 := Host.absf main_arg1
  let main_cst_0 : FVec F S_ .bf16 := constant S_ .bf16 0x7F80#16
  let main_v5 : FVec F S7168x1024 .bf16 := broadcastInDim S7168x1024 ![] bcast_S_S7168x1024 main_cst_0
  let main_v6 : IVec S7168x1024 1 := cmpf .olt main_v4 main_v5
  let main_c_1 : IVec S_ 1 := constantI S_ 1 1#1
  let main_v7 : IVec S_ 1 := (fun x v => Host.reduce IntOp.andi x v reducesTo_S7168x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_updx.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S4096x2816 .bf16) (main_arg1 : FVec F S2816x1024 .bf16) (main_arg2 : FVec F S4096x1024 .f32) (main_arg3 : FVec F S4096x1024 .f32) (main_arg4 : FVec F S1x1024 .f32) (main_arg5 : FVec F S4096x1024 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite_xa.lean ====
abbrev S4096x1024 : Shape := ⟨2, ![4096, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x1024 .bf16) (main_arg2 : FVec F S256x1024 .bf16) (main_arg3 : FVec F S4096x1024 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .bf16 := Host.absf main_arg1
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Pre_finite_xaqdx.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .bf16) (main_arg1 : FVec F S1024x1024 .bf16) (main_arg2 : FVec F S4096x1024 .f32) (main_arg3 : FVec F S1x1024 .f32) (main_arg4 : FVec F S4096x1024 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== KernelSb.lean ====
abbrev S4096x7168 : Shape := ⟨2, ![4096, 7168]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x32x128 : Shape := ⟨4, ![8, 4096, 32, 128]⟩
abbrev S8x4096x32 : Shape := ⟨3, ![8, 4096, 32]⟩
abbrev S8x4096x128 : Shape := ⟨3, ![8, 4096, 128]⟩
abbrev S4x4096x128 : Shape := ⟨3, ![4, 4096, 128]⟩
abbrev S512x128 : Shape := ⟨2, ![512, 128]⟩
abbrev S4096x128 : Shape := ⟨2, ![4096, 128]⟩
abbrev S1x512x128 : Shape := ⟨3, ![1, 512, 128]⟩
abbrev S512x1024 : Shape := ⟨2, ![512, 1024]⟩
abbrev S128x128 : Shape := ⟨2, ![128, 128]⟩
abbrev S128x256 : Shape := ⟨2, ![128, 256]⟩
abbrev S1x128 : Shape := ⟨2, ![1, 128]⟩
abbrev S1024x128 : Shape := ⟨2, ![1024, 128]⟩
abbrev S512 : Shape := ⟨1, ![512]⟩
abbrev S512x1 : Shape := ⟨2, ![512, 1]⟩
abbrev S512x256 : Shape := ⟨2, ![512, 256]⟩

abbrev nBuf : Space → Nat
  | .hbm => 56
  | .vmem => 20
  | .smem => 0
  | _ => 0

abbrev bufTy : (tb : Table) → Fin (tcTables nBuf tb) → BufTy
  | .hbm, ⟨0, _⟩ => ⟨S4096x7168, .f32⟩
  | .hbm, ⟨1, _⟩ => ⟨S4096x512, .bf16⟩
  | .hbm, ⟨2, _⟩ => ⟨S4096x512, .f32⟩
  | .hbm, ⟨3, _⟩ => ⟨S4096x8x64, .f32⟩
  | .hbm, ⟨4, _⟩ => ⟨S8x4096x64, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S8x4096x32x128, .f32⟩
  | .hbm, ⟨42, _⟩ => ⟨S_, .f32⟩
  | .hbm, ⟨43, _⟩ => ⟨S8x4096x32, .f32⟩
  | .hbm, ⟨44, _⟩ => ⟨S_, .f32⟩
  | .hbm, ⟨45, _⟩ => ⟨S_, .f32⟩
  | .hbm, ⟨46, _⟩ => ⟨S8x4096x32, .f32⟩
  | .hbm, ⟨47, _⟩ => ⟨S8x4096x32, .f32⟩
  | .hbm, ⟨48, _⟩ => ⟨S_, .i32⟩
  | .hbm, ⟨49, _⟩ => ⟨S_, .f32⟩
  | .hbm, ⟨50, _⟩ => ⟨S8x4096x128, .f32⟩
  | .hbm, ⟨51, _⟩ => ⟨S4x4096x128, .f32⟩
  | .hbm, ⟨52, _⟩ => ⟨S4x4096x128, .f32⟩
  | .hbm, ⟨53, _⟩ => ⟨S4096x512, .bf16⟩
  | .hbm, ⟨54, _⟩ => ⟨S4096x512, .bf16⟩
  | .hbm, ⟨55, _⟩ => ⟨S4096x512, .bf16⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S512x128, .bf16⟩
  | .local _ .vmem, ⟨13, _⟩ => ⟨S512x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_call3_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_34 : BitVec 32 := 1#32
  ⟨c0_i32_32, v86, c1_i32_34⟩
def k0_mult1 (i : grid0.Coords) (k0_t1 : Fin (k0_t1_loop i).trips) : BitVec 32 :=
  let c0_i32_32 : BitVec 32 := 0#32
  let c1_i32_34 : BitVec 32 := 1#32
  let arg13 : BitVec 32 := Scf.iv c0_i32_32 c1_i32_34 k0_t1
  let c1024_i32_162 : BitVec 32 := 1024#32
  let v515 : BitVec 32 := Scalar.muli arg13 c1024_i32_162
  v515
def k0_off1 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1024_i32_162 : BitVec 32 := 1024#32
  let v515 : BitVec 32 := Scalar.muli arg13 c1024_i32_162
  let v516 : BitVec 32 := v515
  let v517 : Index := Scalar.indexCast v516
  let c0_163 : Index := 0#32
  ![v517.toNat, 0]
@[reducible] def k0_t2_loop (i : grid0.Coords) : Scf.Loop 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let v83 : BitVec 32 := Scalar.addi c0_i32_32 v82
  let c1_i32_35 : BitVec 32 := 1#32
  ⟨v86, v83, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg13 : BitVec 32 := Scf.iv v86 c1_i32_35 k0_t2
  let c1024_i32_162 : BitVec 32 := 1024#32
  let v515 : BitVec 32 := Scalar.muli arg13 c1024_i32_162
  v515
def k0_off2 (i : grid0.Coords) (k0_t2 : Fin (k0_t2_loop i).trips) : Fin 2 → Nat :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg13 : BitVec 32 := Scf.iv v86 c1_i32_35 k0_t2
  let c1024_i32_162 : BitVec 32 := 1024#32
  let v515 : BitVec 32 := Scalar.muli arg13 c1024_i32_162
  let v516 : BitVec 32 := v515
  let v517 : Index := Scalar.indexCast v516
  let c0_163 : Index := 0#32
  ![v517.toNat, 0]
def k0_mult3 (i : grid0.Coords) : BitVec 32 :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let c1024_i32_36 : BitVec 32 := 1024#32
  let v89 : BitVec 32 := Scalar.muli v22 c1024_i32_36
  v89
def k0_off3 (i : grid0.Coords) : Fin 2 → Nat :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let c1024_i32_36 : BitVec 32 := 1024#32
  let v89 : BitVec 32 := Scalar.muli v22 c1024_i32_36
  let v90 : BitVec 32 := v89
  let v91 : Index := Scalar.indexCast v90
  let c0_37 : Index := 0#32
  ![v91.toNat, 0]
def k0_cond2 (i : grid0.Coords) : BitVec 1 :=
  let arg1 : BitVec 32 := BitVec.ofNat 32 (i 1).val
  let c7_i32_160 : BitVec 32 := 7#32
  let v512 : BitVec 1 := Scalar.cmpi .eq arg1 c7_i32_160
  let v513 : BitVec 32 := Scalar.extui v512
  let c0_i32_161 : BitVec 32 := 0#32
  let v514 : BitVec 1 := Scalar.cmpi .ne v513 c0_i32_161
  v514

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceSbIdeal.lean ====
abbrev S4096x7168 : Shape := ⟨2, ![4096, 7168]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 180
  | .vmem => 0
  | .smem => 0
  | _ => 0

abbrev hbmTy0_0 (i : Nat) : BufTy := match i % 128 with
  | 0 => ⟨S4096x7168, .f32⟩
  | 1 => ⟨S4096x512, .bf16⟩
  | 2 => ⟨S4096x512, .f32⟩
  | 3 => ⟨S4096x8x64, .f32⟩
  | 4 => ⟨S8x4096x64, .f32⟩
  | 5 => ⟨S4096x512, .f32⟩
  | 6 => ⟨S4096x8x64, .f32⟩
  | 7 => ⟨S8x4096x64, .f32⟩
  | 8 => ⟨S4096x512, .f32⟩
  | 9 => ⟨S4096x8x64, .f32⟩
  | 10 => ⟨S8x4096x64, .f32⟩
  | 11 => ⟨S4096x512, .f32⟩
  | 12 => ⟨S4096x8x64, .f32⟩
  | 13 => ⟨S8x4096x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i1⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .i1⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .i1⟩
  | 44 => ⟨S_, .f32⟩
  | 45 => ⟨S8x4096x4096, .f32⟩
  | 46 => ⟨S8x4096x4096, .f32⟩
  | 47 => ⟨S_, .f32⟩
  | 48 => ⟨S8x4096x4096, .f32⟩
  | 49 => ⟨S8x4096x4096, .i1⟩
  | 50 => ⟨S_, .f32⟩
  | 51 => ⟨S8x4096x4096, .f32⟩
  | 52 => ⟨S8x4096x4096, .f32⟩
  | 53 => ⟨S8x4096x4096, .f32⟩
  | 54 => ⟨S8x4096x4096, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S8x4096x4096, .f32⟩
  | 63 => ⟨S8x4096x4096, .i1⟩
  | 64 => ⟨S_, .f32⟩
  | 65 => ⟨S8x4096x4096, .f32⟩
  | 66 => ⟨S8x4096x4096, .f32⟩
  | 67 => ⟨S8x4096x4096, .f32⟩
  | 68 => ⟨S8x4096x4096, .f32⟩
  | 69 => ⟨S8x4096x4096, .f32⟩
  | 70 => ⟨S_, .f32⟩
  | 71 => ⟨S8x4096x4096, .f32⟩
  | 72 => ⟨S8x4096x4096, .f32⟩
  | 73 => ⟨S8x4096x4096, .f32⟩
  | 74 => ⟨S_, .f32⟩
  | 75 => ⟨S_, .f32⟩
  | 76 => ⟨S8x4096x4096, .i1⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S_, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .i1⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S_, .f32⟩
  | 97 => ⟨S8x4096x4096, .f32⟩
  | 98 => ⟨S8x4096x4096, .i1⟩
  | 99 => ⟨S_, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .i1⟩
  | 105 => ⟨S_, .f32⟩
  | 106 => ⟨S8x4096x4096, .f32⟩
  | 107 => ⟨S8x4096x4096, .f32⟩
  | 108 => ⟨S8x4096x4096, .f32⟩
  | 109 => ⟨S8x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x4096x4096, .f32⟩
  | 118 => ⟨S8x4096x4096, .i1⟩
  | 119 => ⟨S_, .f32⟩
  | 120 => ⟨S8x4096x4096, .f32⟩
  | 121 => ⟨S8x4096x4096, .f32⟩
  | 122 => ⟨S8x4096x4096, .f32⟩
  | 123 => ⟨S8x4096x4096, .f32⟩
  | 124 => ⟨S8x4096x4096, .f32⟩
  | 125 => ⟨S_, .f32⟩
  | 126 => ⟨S8x4096x4096, .f32⟩
  | 127 => ⟨S8x4096x4096, .f32⟩
  | _ => ⟨S4096x7168, .f32⟩

abbrev hbmTy0_1 (i : Nat) : BufTy := match i % 128 with
  | 0 => ⟨S8x4096x4096, .f32⟩
  | 1 => ⟨S_, .f32⟩
  | 2 => ⟨S_, .f32⟩
  | 3 => ⟨S8x4096x4096, .f32⟩
  | 4 => ⟨S8x4096x4096, .f32⟩
  | 5 => ⟨S8x4096x4096, .f32⟩
  | 6 => ⟨S8x4096x4096, .f32⟩
  | 7 => ⟨S_, .f32⟩
  | 8 => ⟨S_, .f32⟩
  | 9 => ⟨S8x4096x4096, .i1⟩
  | 10 => ⟨S8x4096x4096, .f32⟩
  | 11 => ⟨S8x4096x4096, .f32⟩
  | 12 => ⟨S_, .f32⟩
  | 13 => ⟨S8x4096x4096, .f32⟩
  | 14 => ⟨S8x4096x64, .f32⟩
  | 15 => ⟨S8x64x4096, .f32⟩
  | 16 => ⟨S8x4096x64, .f32⟩
  | 17 => ⟨S8x4096x4096, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S_, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .f32⟩
  | 41 => ⟨S8x4096x64, .f32⟩
  | 42 => ⟨S8x4096x64, .f32⟩
  | 43 => ⟨S4096x8x64, .f32⟩
  | 44 => ⟨S4096x512, .f32⟩
  | 45 => ⟨S4096x512, .bf16⟩
  | 46 => ⟨S4096x8x64, .f32⟩
  | 47 => ⟨S4096x512, .f32⟩
  | 48 => ⟨S4096x512, .bf16⟩
  | 49 => ⟨S4096x8x64, .f32⟩
  | 50 => ⟨S4096x512, .f32⟩
  | 51 => ⟨S4096x512, .bf16⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_v0 : Ref sig .tc := ⟨.hbm, 81, rfl⟩
abbrev main_call2_call0_cst : Ref sig .tc := ⟨.hbm, 82, rfl⟩
abbrev main_call2_call0_v0 : Ref sig .tc := ⟨.hbm, 83, rfl⟩
abbrev main_call2_call0_v1 : Ref sig .tc := ⟨.hbm, 84, rfl⟩
abbrev main_call2_call0_v2 : Ref sig .tc := ⟨.hbm, 85, rfl⟩
abbrev main_call2_call0_v3 : Ref sig .tc := ⟨.hbm, 86, rfl⟩
abbrev main_call2_call0_v4 : Ref sig .tc := ⟨.hbm, 87, rfl⟩
abbrev main_call2_call0_v5 : Ref sig .tc := ⟨.hbm, 88, rfl⟩
abbrev main_call2_call0_v6 : Ref sig .tc := ⟨.hbm, 89, rfl⟩
abbrev main_call2_call0_v7 : Ref sig .tc := ⟨.hbm, 90, rfl⟩
abbrev main_call2_call0_v8 : Ref sig .tc := ⟨.hbm, 91, rfl⟩
abbrev main_call2_call0_v9 : Ref sig .tc := ⟨.hbm, 92, rfl⟩
abbrev main_call2_call0_v10 : Ref sig .tc := ⟨.hbm, 93, rfl⟩
abbrev main_call2_call0_v11 : Ref sig .tc := ⟨.hbm, 94, rfl⟩
abbrev main_call2_v1_0 : Ref sig .tc := ⟨.hbm, 95, rfl⟩
abbrev main_call2_call0_cst_0 : Ref sig .tc := ⟨.hbm, 96, rfl⟩
abbrev main_call2_call0_v13 : Ref sig .tc := ⟨.hbm, 97, rfl⟩
abbrev main_call2_call0_v14 : Ref sig .tc := ⟨.hbm, 98, rfl⟩
abbrev main_call2_call0_cst_1 : Ref sig .tc := ⟨.hbm, 99, rfl⟩
abbrev main_call2_call0_v15 : Ref sig .tc := ⟨.hbm, 100, rfl⟩
abbrev main_call2_call0_v16 : Ref sig .tc := ⟨.hbm, 101, rfl⟩
abbrev main_call2_call0_cst_2 : Ref sig .tc := ⟨.hbm, 102, rfl⟩
abbrev main_call2_call0_v17 : Ref sig .tc := ⟨.hbm, 103, rfl⟩
abbrev main_call2_call0_v18 : Ref sig .tc := ⟨.hbm, 104, rfl⟩
abbrev main_call2_call0_cst_3 : Ref sig .tc := ⟨.hbm, 105, rfl⟩
abbrev main_call2_call0_v19 : Ref sig .tc := ⟨.hbm, 106, rfl⟩
abbrev main_call2_call0_v20 : Ref sig .tc := ⟨.hbm, 107, rfl⟩
abbrev main_call2_call0_v21 : Ref sig .tc := ⟨.hbm, 108, rfl⟩
abbrev main_v25_1 : Ref sig .tc := ⟨.hbm, 109, rfl⟩
abbrev main_call2_call0_cst_4 : Ref sig .tc := ⟨.hbm, 110, rfl⟩
abbrev main_call2_call0_cst_5 : Ref sig .tc := ⟨.hbm, 111, rfl⟩
abbrev main_call2_call0_v23 : Ref sig .tc := ⟨.hbm, 112, rfl⟩
abbrev main_call2_call0_cst_6 : Ref sig .tc := ⟨.hbm, 113, rfl⟩
abbrev main_call2_call0_cst_7 : Ref sig .tc := ⟨.hbm, 114, rfl⟩
abbrev main_call2_call0_v24 : Ref sig .tc := ⟨.hbm, 115, rfl⟩
abbrev main_call2_call0_cst_8 : Ref sig .tc := ⟨.hbm, 116, rfl⟩
abbrev main_call2_call0_v25 : Ref sig .tc := ⟨.hbm, 117, rfl⟩
abbrev main_call2_call0_v26 : Ref sig .tc := ⟨.hbm, 118, rfl⟩
abbrev main_call2_call0_cst_9 : Ref sig .tc := ⟨.hbm, 119, rfl⟩
abbrev main_call2_call0_v27 : Ref sig .tc := ⟨.hbm, 120, rfl⟩
abbrev main_call2_call0_v28 : Ref sig .tc := ⟨.hbm, 121, rfl⟩
abbrev main_call2_call0_v29 : Ref sig .tc := ⟨.hbm, 122, rfl⟩
abbrev main_call2_call0_v30 : Ref sig .tc := ⟨.hbm, 123, rfl⟩
abbrev main_call2_call0_v31 : Ref sig .tc := ⟨.hbm, 124, rfl⟩
abbrev main_call2_call0_cst_10 : Ref sig .tc := ⟨.hbm, 125, rfl⟩
abbrev main_call2_call0_v32 : Ref sig .tc := ⟨.hbm, 126, rfl⟩
abbrev main_v25_2 : Ref sig .tc := ⟨.hbm, 127, rfl⟩
abbrev main_v25_0 : Ref sig .tc := ⟨.hbm, 128, rfl⟩
abbrev main_call3_cst : Ref sig .tc := ⟨.hbm, 129, rfl⟩
abbrev main_call3_v0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_v0 : Ref sig .tc := ⟨.hbm, 155, rfl⟩
abbrev main_call7_v1 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== KernelConv.lean ====
abbrev S4096x7168 : Shape := ⟨2, ![4096, 7168]⟩
abbrev S4096x512 : Shape := ⟨2, ![4096, 512]⟩
abbrev S3x512 : Shape := ⟨2, ![3, 512]⟩
abbrev S1024x128 : Shape := ⟨2, ![1024, 128]⟩
abbrev S8x128 : Shape := ⟨2, ![8, 128]⟩
abbrev S3x128 : Shape := ⟨2, ![3, 128]⟩
abbrev S1016x128 : Shape := ⟨2, ![1016, 128]⟩
abbrev S1x128 : Shape := ⟨2, ![1, 128]⟩
abbrev S128 : Shape := ⟨1, ![128]⟩

abbrev nBuf : Space → Nat
  | .hbm => 7
  | .vmem => 26
  | .smem => 0
  | _ => 0

abbrev bufTy : (tb : Table) → Fin (tcTables nBuf tb) → BufTy
  | .hbm, ⟨0, _⟩ => ⟨S4096x7168, .f32⟩
  | .hbm, ⟨1, _⟩ => ⟨S4096x512, .f32⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1024x128, .f32⟩
  | .local _ .vmem, ⟨13, _⟩ => ⟨S1024x128, .f32⟩
  | .local _ .vmem, ⟨14, _⟩ => ⟨S8x128, .f32⟩
  | .local _ .vmem, ⟨15, _⟩ => ⟨S8x128, .f32⟩
  | .local _ .vmem, ⟨16, _⟩ => ⟨S3x128, .f32⟩
  | .local _ .vmem, ⟨17, _⟩ => ⟨S3x128, .f32⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S3x128, .f32⟩
  | .local _ .vmem, ⟨25, _⟩ => ⟨S3x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c20_i32 : BitVec 32 := 20#32
  let v3 : BitVec 32 := Scalar.addi c20_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceConvIdeal.lean ====
abbrev S4096x7168 : Shape := ⟨2, ![4096, 7168]⟩
abbrev S4096x512 : Shape := ⟨2, ![4096, 512]⟩
abbrev S3x512 : Shape := ⟨2, ![3, 512]⟩
abbrev S1x512 : Shape := ⟨2, ![1, 512]⟩
abbrev S512 : Shape := ⟨1, ![512]⟩
abbrev S_ : Shape := ⟨0, ![]⟩
abbrev S4095x512 : Shape := ⟨2, ![4095, 512]⟩
abbrev S2x512 : Shape := ⟨2, ![2, 512]⟩
abbrev S4094x512 : Shape := ⟨2, ![4094, 512]⟩

abbrev nBuf : Space → Nat
  | .hbm => 89
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x512, .f32⟩
  | .hbm, ⟨2, _⟩ => ⟨S3x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S4096x512, .f32⟩
  | .hbm, ⟨11, _⟩ => ⟨S4096x512, .f32⟩
  | .hbm, ⟨12, _⟩ => ⟨S1x512, .f32⟩
  | .hbm, ⟨13, _⟩ => ⟨S512, .f32⟩
  | .hbm, ⟨14, _⟩ => ⟨S_, .f32⟩
  | .hbm, ⟨15, _⟩ => ⟨S1x512, .f32⟩
  | .hbm, ⟨16, _⟩ => ⟨S4095x512, .f32⟩
  | .hbm, ⟨17, _⟩ => ⟨S4096x512, .f32⟩
  | .hbm, ⟨18, _⟩ => ⟨S_, .f32⟩
  | .hbm, ⟨19, _⟩ => ⟨S1x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S_, .f32⟩
  | .hbm, ⟨27, _⟩ => ⟨S2x512, .f32⟩
  | .hbm, ⟨28, _⟩ => ⟨S4094x512, .f32⟩
  | .hbm, ⟨29, _⟩ => ⟨S4096x512, .f32⟩
  | .hbm, ⟨30, _⟩ => ⟨S_, .f32⟩
  | .hbm, ⟨31, _⟩ => ⟨S2x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S512, .f32⟩
  | .hbm, ⟨47, _⟩ => ⟨S2x512, .f32⟩
  | .hbm, ⟨48, _⟩ => ⟨S4094x512, .f32⟩
  | .hbm, ⟨49, _⟩ => ⟨S_, .f32⟩
  | .hbm, ⟨50, _⟩ => ⟨S4096x512, .f32⟩
  | .hbm, ⟨51, _⟩ => ⟨S1x512, .f32⟩
  | .hbm, ⟨52, _⟩ => ⟨S_, .f32⟩
  | .hbm, ⟨53, _⟩ => ⟨S3x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4095x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S1x512, .f32⟩
  | .hbm, ⟨68, _⟩ => ⟨S_, .f32⟩
  | .hbm, ⟨69, _⟩ => ⟨S3x512, .f32⟩
  | .hbm, ⟨70, _⟩ => ⟨S3x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S4096x512, .f32⟩
  | .hbm, ⟨85, _⟩ => ⟨S4096x512, .f32⟩
  | .hbm, ⟨86, _⟩ => ⟨S4096x512, .bf16⟩
  | .hbm, ⟨87, _⟩ => ⟨S4096x512, .bf16⟩
  | .hbm, ⟨88, _⟩ => ⟨S4096x512, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== KernelMerge.lean ====
abbrev S4096x1024 : Shape := ⟨2, ![4096, 1024]⟩
abbrev S4096x512 : Shape := ⟨2, ![4096, 512]⟩
abbrev S3x512x1024 : Shape := ⟨3, ![3, 512, 1024]⟩
abbrev S4096x7168 : Shape := ⟨2, ![4096, 7168]⟩
abbrev S4096x3072 : Shape := ⟨2, ![4096, 3072]⟩
abbrev S256x1024 : Shape := ⟨2, ![256, 1024]⟩
abbrev S256x512 : Shape := ⟨2, ![256, 512]⟩
abbrev S256x3072 : Shape := ⟨2, ![256, 3072]⟩
abbrev S1x512x1024 : Shape := ⟨3, ![1, 512, 1024]⟩
abbrev S512x1024 : Shape := ⟨2, ![512, 1024]⟩

abbrev nBuf : Space → Nat
  | .hbm => 13
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S3x512x1024, .bf16⟩
  | .hbm, ⟨5, _⟩ => ⟨S4096x7168, .f32⟩
  | .hbm, ⟨6, _⟩ => ⟨S4096x512, .bf16⟩
  | .hbm, ⟨7, _⟩ => ⟨S4096x512, .f32⟩
  | .hbm, ⟨8, _⟩ => ⟨S4096x512, .f32⟩
  | .hbm, ⟨9, _⟩ => ⟨S4096x3072, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S3x512x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .bf16⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceMergeIdeal.lean ====
abbrev S4096x1024 : Shape := ⟨2, ![4096, 1024]⟩
abbrev S4096x512 : Shape := ⟨2, ![4096, 512]⟩
abbrev S3x512x1024 : Shape := ⟨3, ![3, 512, 1024]⟩
abbrev S4096x7168 : Shape := ⟨2, ![4096, 7168]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S4096x3072 : Shape := ⟨2, ![4096, 3072]⟩
abbrev S_ : Shape := ⟨0, ![]⟩
abbrev S3x4096x512 : Shape := ⟨3, ![3, 4096, 512]⟩
abbrev S4096x1x1024 : Shape := ⟨3, ![4096, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S3x512x1024, .bf16⟩
  | .hbm, ⟨5, _⟩ => ⟨S4096x7168, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S3x512x1024, .f32⟩
  | .hbm, ⟨10, _⟩ => ⟨S4096x1x512, .f32⟩
  | .hbm, ⟨11, _⟩ => ⟨S4096x1x512, .f32⟩
  | .hbm, ⟨12, _⟩ => ⟨S4096x1x512, .f32⟩
  | .hbm, ⟨13, _⟩ => ⟨S4096x3x512, .f32⟩
  | .hbm, ⟨14, _⟩ => ⟨S3x1024x4096, .f32⟩
  | .hbm, ⟨15, _⟩ => ⟨S4096x3x1024, .f32⟩
  | .hbm, ⟨16, _⟩ => ⟨S4096x3072, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S_, .f32⟩
  | .hbm, ⟨32, _⟩ => ⟨S4096x1024, .f32⟩
  | .hbm, ⟨33, _⟩ => ⟨S4096x3x1024, .f32⟩
  | .hbm, ⟨34, _⟩ => ⟨S4096x3x1024, .f32⟩
  | .hbm, ⟨35, _⟩ => ⟨S4096x3x1024, .f32⟩
  | .hbm, ⟨36, _⟩ => ⟨S4096x3x1024, .f32⟩
  | .hbm, ⟨37, _⟩ => ⟨S4096x3072, .f32⟩
  | .hbm, ⟨38, _⟩ => ⟨S3x1024x4096, .f32⟩
  | .hbm, ⟨39, _⟩ => ⟨S3x4096x512, .f32⟩
  | .hbm, ⟨40, _⟩ => ⟨S4096x3x512, .f32⟩
  | .hbm, ⟨41, _⟩ => ⟨S4096x1x512, .f32⟩
  | .hbm, ⟨42, _⟩ => ⟨S4096x512, .f32⟩
  | .hbm, ⟨43, _⟩ => ⟨S4096x1x512, .f32⟩
  | .hbm, ⟨44, _⟩ => ⟨S4096x512, .f32⟩
  | .hbm, ⟨45, _⟩ => ⟨S4096x1x512, .f32⟩
  | .hbm, ⟨46, _⟩ => ⟨S4096x512, .f32⟩
  | .hbm, ⟨47, _⟩ => ⟨S4096x512, .bf16⟩
  | .hbm, ⟨48, _⟩ => ⟨S4096x3072, .bf16⟩
  | .hbm, ⟨49, _⟩ => ⟨S4096x1x1024, .f32⟩
  | .hbm, ⟨50, _⟩ => ⟨S4096x1024, .f32⟩
  | .hbm, ⟨51, _⟩ => ⟨S4096x1024, .bf16⟩
  | .hbm, ⟨52, _⟩ => ⟨S4096x1x1024, .f32⟩
  | .hbm, ⟨53, _⟩ => ⟨S4096x1024, .f32⟩
  | .hbm, ⟨54, _⟩ => ⟨S4096x1024, .bf16⟩
  | .hbm, ⟨55, _⟩ => ⟨S4096x1x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== KernelXa.lean ====
abbrev S4096x1024 : Shape := ⟨2, ![4096, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceXaIdeal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S4096x1024, .f32⟩
  | .hbm, ⟨8, _⟩ => ⟨S4096x4x256, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S256x4x256, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S256x1024, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x256, .f32⟩
  | .hbm, ⟨80, _⟩ => ⟨S256x4x256, .f32⟩
  | .hbm, ⟨81, _⟩ => ⟨S4x4096x256, .f32⟩
  | .hbm, ⟨82, _⟩ => ⟨S4096x4x256, .f32⟩
  | .hbm, ⟨83, _⟩ => ⟨S256x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== KernelFfn.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== KernelInp.lean ====
abbrev S4096x1024 : Shape := ⟨2, ![4096, 1024]⟩
abbrev S7168x1024 : Shape := ⟨2, ![7168, 1024]⟩
abbrev S4096x7168 : Shape := ⟨2, ![4096, 7168]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S7168x1024, .bf16⟩
  | .hbm, ⟨2, _⟩ => ⟨S4096x7168, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInpIdeal.lean ====
abbrev S4096x1024 : Shape := ⟨2, ![4096, 1024]⟩
abbrev S7168x1024 : Shape := ⟨2, ![7168, 1024]⟩
abbrev S1024x7168 : Shape := ⟨2, ![1024, 7168]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7168x1024, .bf16⟩
  | .hbm, ⟨2, _⟩ => ⟨S4096x1024, .f32⟩
  | .hbm, ⟨3, _⟩ => ⟨S7168x1024, .f32⟩
  | .hbm, ⟨4, _⟩ => ⟨S1024x7168, .f32⟩
  | .hbm, ⟨5, _⟩ => ⟨S4096x7168, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelWindw.lean ====
abbrev S4096x7168 : Shape := ⟨2, ![4096, 7168]⟩
abbrev S4096x1024 : Shape := ⟨2, ![4096, 1024]⟩
abbrev S7168x1024 : Shape := ⟨2, ![7168, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .bf16⟩
  | .hbm, ⟨2, _⟩ => ⟨S7168x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWindwIdeal.lean ====
abbrev S4096x7168 : Shape := ⟨2, ![4096, 7168]⟩
abbrev S4096x1024 : Shape := ⟨2, ![4096, 1024]⟩
abbrev S_ : Shape := ⟨0, ![]⟩
abbrev S7168x1024 : Shape := ⟨2, ![7168, 1024]⟩
abbrev S1024x7168 : Shape := ⟨2, ![1024, 7168]⟩

abbrev nBuf : Space → Nat
  | .hbm => 12
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .bf16⟩
  | .hbm, ⟨2, _⟩ => ⟨S_, .f32⟩
  | .hbm, ⟨3, _⟩ => ⟨S7168x1024, .f32⟩
  | .hbm, ⟨4, _⟩ => ⟨S4096x1024, .f32⟩
  | .hbm, ⟨5, _⟩ => ⟨S1024x7168, .f32⟩
  | .hbm, ⟨6, _⟩ => ⟨S4096x7168, .f32⟩
  | .hbm, ⟨7, _⟩ => ⟨S4096x7168, .f32⟩
  | .hbm, ⟨8, _⟩ => ⟨S7168x1024, .f32⟩
  | .hbm, ⟨9, _⟩ => ⟨S1024x7168, .f32⟩
  | .hbm, ⟨10, _⟩ => ⟨S7168x1024, .f32⟩
  | .hbm, ⟨11, _⟩ => ⟨S7168x1024, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelFfnin.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfninIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .bf16⟩
  | .hbm, ⟨11, _⟩ => ⟨S4096x2816, .bf16⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== KernelDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDowndw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDowndwIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGatedw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGatedwIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelGatedx.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGatedxIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S_, .f32⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutdx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutdxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutdw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutdwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMergef.lean ====
abbrev S4096x512 : Shape := ⟨2, ![4096, 512]⟩
abbrev S3x512x1024 : Shape := ⟨3, ![3, 512, 1024]⟩
abbrev S4096x7168 : Shape := ⟨2, ![4096, 7168]⟩
abbrev S4096x1024 : Shape := ⟨2, ![4096, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x7168, .f32⟩
  | .hbm, ⟨5, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergefIdeal.lean ====
abbrev S4096x512 : Shape := ⟨2, ![4096, 512]⟩
abbrev S3x512x1024 : Shape := ⟨3, ![3, 512, 1024]⟩
abbrev S4096x7168 : Shape := ⟨2, ![4096, 7168]⟩
abbrev S4096x3072 : Shape := ⟨2, ![4096, 3072]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S_ : Shape := ⟨0, ![]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x7168, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S3x512x1024, .f32⟩
  | .hbm, ⟨9, _⟩ => ⟨S4096x3072, .f32⟩
  | .hbm, ⟨10, _⟩ => ⟨S4096x1x512, .f32⟩
  | .hbm, ⟨11, _⟩ => ⟨S4096x1x512, .f32⟩
  | .hbm, ⟨12, _⟩ => ⟨S4096x1x512, .f32⟩
  | .hbm, ⟨13, _⟩ => ⟨S4096x3x512, .f32⟩
  | .hbm, ⟨14, _⟩ => ⟨S3x1024x4096, .f32⟩
  | .hbm, ⟨15, _⟩ => ⟨S4096x3x1024, .f32⟩
  | .hbm, ⟨16, _⟩ => ⟨S4096x3x1024, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x1024, .f32⟩
  | .hbm, ⟨28, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelXaq.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaqIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOutp.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutpIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelXaodx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaodxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelXaqdw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceXaqdwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelBranchdw.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceBranchdwIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelXak.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceXakIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelXakdw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceXakdwIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXakdx.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceXakdxIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S_, .f32⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelXavdx.lean ====
abbrev S256x1024 : Shape := ⟨2, ![256, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceXavdxIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelXaqdx.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceXaqdxIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelUpdx.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceUpdxIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S2816x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelIndx.lean ====
abbrev S4096x7168 : Shape := ⟨2, ![4096, 7168]⟩
abbrev S7168x1024 : Shape := ⟨2, ![7168, 1024]⟩
abbrev S4096x1024 : Shape := ⟨2, ![4096, 1024]⟩
abbrev S1x1024 : Shape := ⟨2, ![1, 1024]⟩
abbrev S1024x1792 : Shape := ⟨2, ![1024, 1792]⟩
abbrev S1792x1024 : Shape := ⟨2, ![1792, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S7168x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceIndxIdeal.lean ====
abbrev S4096x7168 : Shape := ⟨2, ![4096, 7168]⟩
abbrev S7168x1024 : Shape := ⟨2, ![7168, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S7168x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S7168x1024, .f32⟩
  | .hbm, ⟨25, _⟩ => ⟨S1024x7168, .f32⟩
  | .hbm, ⟨26, _⟩ => ⟨S4096x7168, .f32⟩
  | .hbm, ⟨27, _⟩ => ⟨S4096x7168, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelRmsf.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsfIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelRmsm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceRmsmIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelAdgain.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdgainIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdfinal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdfinalIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdwin.lean ====
abbrev S2048x896 : Shape := ⟨2, ![2048, 896]⟩
abbrev S512x896 : Shape := ⟨2, ![512, 896]⟩

abbrev nBuf : Space → Nat
  | .hbm => 7
  | .vmem => 14
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdwinIdeal.lean ====
abbrev S2048x896 : Shape := ⟨2, ![2048, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S_, .f32⟩
  | .hbm, ⟨5, _⟩ => ⟨S2048x896, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S2048x896, .f32⟩
  | .hbm, ⟨11, _⟩ => ⟨S_, .f32⟩
  | .hbm, ⟨12, _⟩ => ⟨S2048x896, .f32⟩
  | .hbm, ⟨13, _⟩ => ⟨S2048x896, .f32⟩
  | .hbm, ⟨14, _⟩ => ⟨S2048x896, .f32⟩
  | .hbm, ⟨15, _⟩ => ⟨S_, .f32⟩
  | .hbm, ⟨16, _⟩ => ⟨S2048x896, .f32⟩
  | .hbm, ⟨17, _⟩ => ⟨S2048x896, .f32⟩
  | .hbm, ⟨18, _⟩ => ⟨S2048x896, .f32⟩
  | .hbm, ⟨19, _⟩ => ⟨S_, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S2048x896, .f32⟩
  | .hbm, ⟨26, _⟩ => ⟨S_, .f32⟩
  | .hbm, ⟨27, _⟩ => ⟨S2048x896, .f32⟩
  | .hbm, ⟨28, _⟩ => ⟨S2048x896, .f32⟩
  | .hbm, ⟨29, _⟩ => ⟨S2048x896, .f32⟩
  | .hbm, ⟨30, _⟩ => ⟨S_, .f32⟩
  | .hbm, ⟨31, _⟩ => ⟨S2048x896, .f32⟩
  | .hbm, ⟨32, _⟩ => ⟨S2048x896, .f32⟩
  | .hbm, ⟨33, _⟩ => ⟨S2048x896, .f32⟩
  | .hbm, ⟨34, _⟩ => ⟨S_, .f32⟩
  | .hbm, ⟨35, _⟩ => ⟨S2048x896, .f32⟩
  | .hbm, ⟨36, _⟩ => ⟨S2048x896, .f32⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdsgu.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdsguIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdspat.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdspatIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdbias.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdbiasIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdconv.lean ====
abbrev S6x64 : Shape := ⟨2, ![6, 64]⟩

abbrev nBuf : Space → Nat
  | .hbm => 7
  | .vmem => 7
  | .smem => 0
  | _ => 0

abbrev bufTy : (tb : Table) → Fin (tcTables nBuf tb) → BufTy
  | .hbm, ⟨0, _⟩ => ⟨S6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S6x64, .f32⟩
  | .hbm, ⟨5, _⟩ => ⟨S6x64, .f32⟩
  | .hbm, ⟨6, _⟩ => ⟨S6x64, .f32⟩
  | .local _ .vmem, ⟨0, _⟩ => ⟨S6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | _, _ => ⟨S6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdconvIdeal.lean ====
abbrev S6x64 : Shape := ⟨2, ![6, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x64, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S_, .f32⟩
  | .hbm, ⟨5, _⟩ => ⟨S6x64, .f32⟩
  | .hbm, ⟨6, _⟩ => ⟨S6x64, .f32⟩
  | .hbm, ⟨7, _⟩ => ⟨S_, .f32⟩
  | .hbm, ⟨8, _⟩ => ⟨S6x64, .f32⟩
  | .hbm, ⟨9, _⟩ => ⟨S6x64, .f32⟩
  | .hbm, ⟨10, _⟩ => ⟨S6x64, .f32⟩
  | .hbm, ⟨11, _⟩ => ⟨S_, .f32⟩
  | .hbm, ⟨12, _⟩ => ⟨S6x64, .f32⟩
  | .hbm, ⟨13, _⟩ => ⟨S6x64, .f32⟩
  | .hbm, ⟨14, _⟩ => ⟨S6x64, .f32⟩
  | .hbm, ⟨15, _⟩ => ⟨S_, .f32⟩
  | .hbm, ⟨16, _⟩ => ⟨S6x64, .f32⟩
  | .hbm, ⟨17, _⟩ => ⟨S6x64, .f32⟩
  | .hbm, ⟨18, _⟩ => ⟨S6x64, .f32⟩
  | .hbm, ⟨19, _⟩ => ⟨S_, .f32⟩
  | .hbm, ⟨20, _⟩ => ⟨S6x64, .f32⟩
  | .hbm, ⟨21, _⟩ => ⟨S6x64, .f32⟩
  | .hbm, ⟨22, _⟩ => ⟨S_, .f32⟩
  | .hbm, ⟨23, _⟩ => ⟨S6x64, .f32⟩
  | .hbm, ⟨24, _⟩ => ⟨S6x64, .f32⟩
  | .hbm, ⟨25, _⟩ => ⟨S6x64, .f32⟩
  | .hbm, ⟨26, _⟩ => ⟨S_, .f32⟩
  | .hbm, ⟨27, _⟩ => ⟨S6x64, .f32⟩
  | .hbm, ⟨28, _⟩ => ⟨S6x64, .f32⟩
  | .hbm, ⟨29, _⟩ => ⟨S6x64, .f32⟩
  | .hbm, ⟨30, _⟩ => ⟨S_, .f32⟩
  | .hbm, ⟨31, _⟩ => ⟨S6x64, .f32⟩
  | .hbm, ⟨32, _⟩ => ⟨S6x64, .f32⟩
  | .hbm, ⟨33, _⟩ => ⟨S6x64, .f32⟩
  | .hbm, ⟨34, _⟩ => ⟨S_, .f32⟩
  | .hbm, ⟨35, _⟩ => ⟨S6x64, .f32⟩
  | .hbm, ⟨36, _⟩ => ⟨S6x64, .f32⟩
  | _, _ => ⟨S6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdbranch.lean ====
abbrev S3072x128 : Shape := ⟨2, ![3072, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdbranchIdeal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdsquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdsquareIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdffn.lean ====
abbrev S2048x352 : Shape := ⟨2, ![2048, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdffnIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAddown.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAddownIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Merge.Gates.lean ====
/- The backward pass of the gated merge of three branches, on the kernel's side: what each grid
   point writes into each result block is the plain gradient formula at the place of the block. -/
module

public import proofs.«01_k».proof.Proof.Gen.KernelMergeIdeal.Value
public import proofs.«01_k».proof.Proof.Gen.ReferenceMergeIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergeIdeal.Grad

open Cert.KernelMergeIdeal Cert.KernelMergeIdeal.Gen
open Cert.ReferenceMergeIdeal.Read

variable (m : (ℓ : Loc nD τ sig) → Buf (Elt Ideal) ℓ)

/-- Which block of its array each window holds at grid point `t`: the row block `t`; all of the
    weights; and of the projections the column blocks of the three gates. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0, 0]
    ∧ win0_5.index t = ![t.val, 4] ∧ win0_6.index t = ![t.val, 5] ∧ win0_7.index t = ![t.val, 6]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] :=
  (by decide +kernel : ∀ t : Fin grid0.N, _)

/-- The gradient of the first branch: the gated cotangent against that branch's weights. -/
theorem final8 (c : Dev nD) : (dats m 0 c).arrAt 8 cfg0.N
    = val_main_v37 (F := Ideal) (m ((c : Thread nD τ).loc main_arg0)) (m ((c : Thread nD τ).loc main_arg4))
        (m ((c : Thread nD τ).loc main_arg5)) := by
  refine (dats m 0 c).arrAt_eq_of_covers 8 _ (by decide +kernel) fun t _ y => ?_
  blk_simp
  rw [after0_8]; frame_out
  pointwise [k0_pay8, k0_pay6, k0_pay5, val_main_v37, val_main_v32, val_main_v31, val_main_v3, val_main_v10, val_main_v11, val_main_v12, val_main_v13, val_main_cst, val_main_v14, val_main_v15, val_main_cst_0, val_main_v16, val_main_v17, val_main_v23, val_main_v24, val_main_v28, val_main_v29, val_main_v30]
  simp only [zero_sub]
  blk_point [iblk, V, idx t]

/-- The gradient of the second branch. -/
theorem final9 (c : Dev nD) : (dats m 0 c).arrAt 9 cfg0.N
    = val_main_v34 (F := Ideal) (m ((c : Thread nD τ).loc main_arg0)) (m ((c : Thread nD τ).loc main_arg4))
        (m ((c : Thread nD τ).loc main_arg5)) := by
  refine (dats m 0 c).arrAt_eq_of_covers 9 _ (by decide +kernel) fun t _ y => ?_
  blk_simp
  rw [after0_9]; frame_out
  pointwise [k0_pay12, k0_pay10, k0_pay9, val_main_v34, val_main_v33, val_main_v3, val_main_v10, val_main_v11, val_main_v12, val_main_v13, val_main_cst, val_main_v14, val_main_v15, val_main_cst_0, val_main_v16, val_main_v17, val_main_v23, val_main_v24, val_main_v28, val_main_v29, val_main_v30]
  simp only [zero_sub]
  blk_point [iblk, V, idx t]

/-- The gradient of the third branch. -/
theorem final10 (c : Dev nD) : (dats m 0 c).arrAt 10 cfg0.N
    = val_main_v36 (F := Ideal) (m ((c : Thread nD τ).loc main_arg0)) (m ((c : Thread nD τ).loc main_arg4))
        (m ((c : Thread nD τ).loc main_arg5)) := by
  refine (dats m 0 c).arrAt_eq_of_covers 10 _ (by decide +kernel) fun t _ y => ?_
  blk_simp
  rw [after0_10]; frame_out
  pointwise [k0_pay4, k0_pay2, k0_pay1, val_main_v36, val_main_v35, val_main_v3, val_main_v10, val_main_v11, val_main_v12, val_main_v13, val_main_cst, val_main_v14, val_main_v15, val_main_cst_0, val_main_v16, val_main_v17, val_main_v23, val_main_v24, val_main_v28, val_main_v29, val_main_v30]
  simp only [zero_sub]
  blk_point [iblk, V, idx t]

/-- The cotangent of the first branch's product, as the weights' gradient takes it. -/
theorem final12 (c : Dev nD) : (dats m 0 c).arrAt 12 cfg0.N
    = val_main_v41 (F := Ideal) (m ((c : Thread nD τ).loc main_arg0)) (m ((c : Thread nD τ).loc main_arg5)) := by
  refine (dats m 0 c).arrAt_eq_of_covers 12 _ (by decide +kernel) fun t _ y => ?_
  blk_simp
  rw [after0_12]; frame_out
  pointwise [k0_pay6, k0_pay5, val_main_v41, val_main_v40, val_main_v39, val_main_v3, val_main_v10, val_main_v11, val_main_v12, val_main_v13, val_main_cst, val_main_v14, val_main_v15, val_main_cst_0, val_main_v16, val_main_v17, val_main_v23, val_main_v24]
  simp only [zero_sub]
  blk_point [iblk, V, idx t]

/-- The cotangent of the second branch's product. -/
theorem final13 (c : Dev nD) : (dats m 0 c).arrAt 13 cfg0.N
    = val_main_v44 (F := Ideal) (m ((c : Thread nD τ).loc main_arg0)) (m ((c : Thread nD τ).loc main_arg5)) := by
  refine (dats m 0 c).arrAt_eq_of_covers 13 _ (by decide +kernel) fun t _ y => ?_
  blk_simp
  rw [after0_13]; frame_out
  pointwise [k0_pay10, k0_pay9, val_main_v44, val_main_v43, val_main_v42, val_main_v3, val_main_v10, val_main_v11, val_main_v12, val_main_v13, val_main_cst, val_main_v14, val_main_v15, val_main_cst_0, val_main_v16, val_main_v17, val_main_v23, val_main_v24]
  simp only [zero_sub]
  blk_point [iblk, V, idx t]

/-- The cotangent of the third branch's product. -/
theorem final14 (c : Dev nD) : (dats m 0 c).arrAt 14 cfg0.N
    = val_main_v47 (F := Ideal) (m ((c : Thread nD τ).loc main_arg0)) (m ((c : Thread nD τ).loc main_arg5)) := by
  refine (dats m 0 c).arrAt_eq_of_covers 14 _ (by decide +kernel) fun t _ y => ?_
  blk_simp
  rw [after0_14]; frame_out
  pointwise [k0_pay2, k0_pay1, val_main_v47, val_main_v46, val_main_v45, val_main_v3, val_main_v10, val_main_v11, val_main_v12, val_main_v13, val_main_cst, val_main_v14, val_main_v15, val_main_cst_0, val_main_v16, val_main_v17, val_main_v23, val_main_v24]
  simp only [zero_sub]
  blk_point [iblk, V, idx t]

end Cert.KernelMergeIdeal.Grad

end
-- ==== Proof.Merge.Wide.lean ====
/- The backward pass of the gated merge of three branches: the gradient of the gates, which the
   kernel writes three column ranges to a block. -/
module

public import proofs.«01_k».proof.Proof.Merge.Gates
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergeIdeal.Grad

open Cert.KernelMergeIdeal Cert.KernelMergeIdeal.Gen
open Cert.ReferenceMergeIdeal.Read

variable (m : (ℓ : Loc nD τ sig) → Buf (Elt Ideal) ℓ)

set_option maxHeartbeats 1600000 in
/-- The gradient of the three gates, side by side: at each of a block's three column ranges the
    cotangent times the branch's product times the derivative of the sigmoid. -/
theorem final11 (c : Dev nD) : (dats m 0 c).arrAt 11 cfg0.N
    = val_main_v38 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 11 _ (by decide +kernel) fun t _ y => ?_
  blk_simp
  rw [after0_11]
  frame_out
  have ej : (((((cfg0.win 11).blk t).view.emb y) 1 : Fin 3072) : ℕ) = ↑(y 1) := by
    blk_simp [idx t]
  canon_tiles x h
  all_goals
    pointwise [k0_pay13, k0_pay11, k0_pay9, k0_pay7, k0_pay5, k0_pay3, k0_pay1, val_main_v38, val_main_v27, val_main_v26, val_main_v25, val_main_v20, val_main_v19, val_main_v18, val_main_cst_1, val_main_v9, val_main_v8, val_main_v7, val_main_v6, val_main_v5, val_main_v4, val_main_v2, val_main_v1, val_main_v0, val_main_v3, val_main_v10, val_main_v11, val_main_v12, val_main_v13, val_main_cst, val_main_v14, val_main_v15, val_main_cst_0, val_main_v16, val_main_v17, val_main_v23, val_main_v24]
    simp only [zero_sub]
    have eq1 : (((((cfg0.win 11).blk t).view.emb y) 1 : Fin 3072) : ℕ) / 1024 = (↑(y 1) : ℕ) / 1024 := by rw [ej]
    first
    | (have ek : (↑(y 1) : ℕ) / 1024 = 0 := by omega
       rw [ek] at eq1)
    | (have ek : (↑(y 1) : ℕ) / 1024 = 1 := by omega
       rw [ek] at eq1)
    | (have ek : (↑(y 1) : ℕ) / 1024 = 2 := by omega
       rw [ek] at eq1)
    simp only [eq1, Nat.reduceLT, Nat.reduceSub, ↓reduceDIte]
    rw [mul_assoc]
    refine congrArg₂ (fun x y : EReal => x * y) (congrArg₂ (fun x y : EReal => x * y) ?_
      ((Finset.sum_congr rfl fun x _ => EReal.mul_comm _ _).trans ?_)) ?_
    all_goals blk_point [iblk, V, idx t]

end Cert.KernelMergeIdeal.Grad

end
-- ==== Proof.Merge.Tie.lean ====
/- The backward pass of the gated merge of three branches: the kernel and the reference return the same
   seven arrays. -/
module

public import proofs.«01_k».proof.Defs
public import proofs.«01_k».proof.Proof.Gen.ReferenceMergeIdeal.Run
public import proofs.«01_k».proof.Proof.Merge.Gates
public import proofs.«01_k».proof.Proof.Merge.Wide

@[expose] public section

set_option maxRecDepth 16384

noncomputable section

open Idealize.ShloMosaic Idealize.ShloMosaic.TcCoe Idealize.SL.Sem

namespace Cert.KernelMergeIdeal.Grad

open Cert.ReferenceMergeIdeal.Read

/-- From any memories that agree on the arguments, the kernel and the reference terminate, return the
    same arrays and leave their arguments unchanged. -/
theorem tie : algebraic_KernelMergeIdeal_ReferenceMergeIdeal (hKernelMergeIdeal := Cert.KernelMergeIdeal.Gen.facts)
    (hReferenceMergeIdeal := Cert.ReferenceMergeIdeal.Gen.facts) := by
  intro m g m' g' hpre hag
  refine ⟨fun c => (Cert.KernelMergeIdeal.Gen.dats m 0 c).arrAt 8 Cert.KernelMergeIdeal.cfg0.N, fun c => (Cert.KernelMergeIdeal.Gen.dats m 0 c).arrAt 9 Cert.KernelMergeIdeal.cfg0.N, fun c => (Cert.KernelMergeIdeal.Gen.dats m 0 c).arrAt 10 Cert.KernelMergeIdeal.cfg0.N, fun c => (Cert.KernelMergeIdeal.Gen.dats m 0 c).arrAt 11 Cert.KernelMergeIdeal.cfg0.N, fun c => (Cert.KernelMergeIdeal.Gen.dats m 0 c).arrAt 12 Cert.KernelMergeIdeal.cfg0.N, fun c => (Cert.KernelMergeIdeal.Gen.dats m 0 c).arrAt 13 Cert.KernelMergeIdeal.cfg0.N, fun c => (Cert.KernelMergeIdeal.Gen.dats m 0 c).arrAt 14 Cert.KernelMergeIdeal.cfg0.N,
    Cert.KernelMergeIdeal.Value.run_blocks m g, ?_⟩
  refine (θ_run _ _ _).mono (fun r h c => ?_) (Cert.ReferenceMergeIdeal.Value.run m' g')
  obtain ⟨e0, e1, e2, e3, e4, e5⟩ := hag c
  obtain ⟨r0, r1, r2, r3, r4, r5, r6, k0, k1, k2, k3, k4, k5⟩ := h c
  exact ⟨r0.trans ((val_main_v37_eq _ _ _).trans (by rw [e0, e4, e5]; exact (final8 m c).symm)),
    r1.trans ((val_main_v34_eq _ _ _).trans (by rw [e0, e4, e5]; exact (final9 m c).symm)),
    r2.trans ((val_main_v36_eq _ _ _).trans (by rw [e0, e4, e5]; exact (final10 m c).symm)),
    r3.trans ((val_main_v38_eq _ _ _ _ _ _).trans (by rw [e0, e1, e2, e3, e4, e5]; exact (final11 m c).symm)),
    r4.trans ((val_main_v41_eq _ _).trans (by rw [e0, e5]; exact (final12 m c).symm)),
    r5.trans ((val_main_v44_eq _ _).trans (by rw [e0, e5]; exact (final13 m c).symm)),
    r6.trans ((val_main_v47_eq _ _).trans (by rw [e0, e5]; exact (final14 m c).symm)),
    k0, k1, k2, k3, k4, k5⟩

end Cert.KernelMergeIdeal.Grad

end
-- ==== Proof.Finite.lean ====
/- Finite arrays: an array whose every absolute value is below infinity holds real numbers, and the
   operations of the programs keep them real. -/
module

public import Idealize.ShloMosaic.Lib.Pointwise
public import Idealize.ShloMosaic.Lib.IdealHost
public import Idealize.ShloMosaic.Lib.ReduceAll

@[expose] public section

noncomputable section

open Idealize.ShloMosaic Idealize.ShloMosaic.TcCoe

namespace Cert.Finite

/-- The value is a real number. -/
def Fin1 (x : EReal) : Prop := ∃ r : ℝ, x = (r : EReal)

theorem Fin1.mul {x y : EReal} : Fin1 x → Fin1 y → Fin1 (x * y) := by
  rintro ⟨r, rfl⟩ ⟨s, rfl⟩; exact ⟨r * s, (EReal.coe_mul r s).symm⟩

theorem Fin1.add {x y : EReal} : Fin1 x → Fin1 y → Fin1 (x + y) := by
  rintro ⟨r, rfl⟩ ⟨s, rfl⟩; exact ⟨r + s, (EReal.coe_add r s).symm⟩

theorem Fin1.sub {x y : EReal} : Fin1 x → Fin1 y → Fin1 (x - y) := by
  rintro ⟨r, rfl⟩ ⟨s, rfl⟩; exact ⟨r - s, (EReal.coe_sub r s).symm⟩

theorem Fin1.sum {n : ℕ} {f : Fin n → EReal} (h : ∀ k, Fin1 (f k)) : Fin1 (∑ k, f k) := by
  induction n with
  | zero => exact ⟨0, by simp⟩
  | succ n ih => rw [Fin.sum_univ_castSucc]; exact (ih fun k => h _).add (h _)

/-- A value whose absolute value compares below infinity is a real number. -/
theorem fin1_of_lt {x t : EReal} (ht : t = ⊤) (h : Ideal.cmp .olt (max x (-x)) t = 1#1) : Fin1 x := by
  subst ht
  unfold Ideal.cmp at h
  induction x with
  | bot => simp at h
  | top => simp at h
  | coe r => exact ⟨r, rfl⟩

/-- The reduction that says every absolute value lies below infinity: the array holds real numbers. -/
theorem fin_of_all32 {s u t w : Shape} [Subsingleton t.Idx] {axes : List (Fin s.rank)} {dims : Fin w.rank → Fin s.rank} (x : FVec Ideal s .f32) (hb)
    (init : u.Idx → BitVec 1) (h : s.ReducesTo axes t) (hu : 0 < u.numel) (j : t.Idx)
    (e : Host.reduce IntOp.andi (cmpf .olt (Host.absf x)
      (broadcastInDim s dims hb (constant w .f32 0x7F800000#32))) init h hu j = 1#1) (i : s.Idx) : Fin1 (x i) :=
  fin1_of_lt (t := Ideal.ofBits .f32 0x7F800000#32) (by simp [Ideal.ofBits, Ideal.ieee]) (Host.reduce_andi_all _ _ _ _ _ e i : Ideal.cmp .olt (max (x i) (-(x i))) (Ideal.ofBits .f32 0x7F800000#32) = 1#1)

theorem fin_of_all16 {s u t w : Shape} [Subsingleton t.Idx] {axes : List (Fin s.rank)} {dims : Fin w.rank → Fin s.rank} (x : FVec Ideal s .bf16) (hb)
    (init : u.Idx → BitVec 1) (h : s.ReducesTo axes t) (hu : 0 < u.numel) (j : t.Idx)
    (e : Host.reduce IntOp.andi (cmpf .olt (Host.absf x)
      (broadcastInDim s dims hb (constant w .bf16 0x7F80#16))) init h hu j = 1#1) (i : s.Idx) : Fin1 (x i) :=
  fin1_of_lt (t := Ideal.ofBits .bf16 0x7F80#16) (by simp [Ideal.ofBits, Ideal.ieee]) (Host.reduce_andi_all _ _ _ _ _ e i : Ideal.cmp .olt (max (x i) (-(x i))) (Ideal.ofBits .bf16 0x7F80#16) = 1#1)

/-- A conjunction of two bits is one only when both are. -/
theorem andi_one {x y : BitVec 1} : IntOp.andi x y = 1#1 → x = 1#1 ∧ y = 1#1 := by
  revert x y; decide

end Cert.Finite

end
-- ==== Proof.Soft.lean ====
/- The softmax of one row of scores and its derivative. The kernel multiplies each probability by the
   difference of its cotangent and the row's mean cotangent; the reference differentiates the quotient of
   the exponential and the row's sum. Where the scores are real numbers the two are equal. -/
module

public import proofs.«01_k».proof.Proof.Finite

@[expose] public section

noncomputable section

open Idealize.ShloMosaic Idealize.ShloMosaic.TcCoe

namespace Cert.Soft

open Cert.Finite

/-- The scale of the scores, 2⁻⁴. -/
def scale : EReal := Ideal.ofBits .f32 1031798784#32

theorem scale_fin : Fin1 scale := by
  unfold scale
  simp [Ideal.ofBits, Ideal.ieee, -EReal.coe_mul]
  exact ⟨_, rfl⟩

/-- The bits of minus infinity. -/
theorem minf : Ideal.ofBits .f32 4286578688#32 = ⊥ := by
  simp [Ideal.ofBits, Ideal.ieee]

variable {n : ℕ}

/-- The largest score of the row. -/
def mx (z : Fin n → EReal) : EReal := Finset.univ.fold max ⊥ z

/-- The exponential of a score less the largest. -/
def ex (z : Fin n → EReal) (j : Fin n) : EReal := Ideal.exp (z j - mx z)

/-- The probability of an entry of the row. -/
def prob (z : Fin n → EReal) (j : Fin n) : EReal := Ideal.div (ex z j) (∑ k, ex z k)

/-- The gradient of a score, the way the kernel computes it. -/
def kds (z d : Fin n → EReal) (j : Fin n) : EReal := prob z j * (d j - ∑ k, d k * prob z k) * scale

/-- The gradient of a score, the way the reference computes it. -/
def rds (z d : Fin n → EReal) (j : Fin n) : EReal :=
  (Ideal.div (d j) (∑ k, ex z k) + -(∑ k, d k * Ideal.div 1 ((∑ l, ex z l) * ∑ l, ex z l) * ex z k)) * ex z j * scale

theorem prob_congr {z z' : Fin n → EReal} {j j' : Fin n} (hz : ∀ k, z k = z' k) (hj : j = j') : prob z j = prob z' j' := by
  rw [funext hz, hj]

theorem kds_congr {z z' d d' : Fin n → EReal} {j j' : Fin n} (hz : ∀ k, z k = z' k) (hd : ∀ k, d k = d' k) (hj : j = j') :
    kds z d j = kds z' d' j' := by
  rw [funext hz, funext hd, hj]

/-- The largest of finitely many real numbers is real. -/
theorem mx_fin {z : Fin n → EReal} (hz : ∀ k, Fin1 (z k)) (j : Fin n) : Fin1 (mx z) := by
  obtain ⟨i, _, h⟩ := Finset.exists_mem_eq_sup (Finset.univ : Finset (Fin n)) ⟨j, Finset.mem_univ j⟩ z
  have : mx z = z i := h
  rw [this]; exact hz i

theorem coe_sum (f : Fin n → ℝ) : (∑ k, ((f k : ℝ) : EReal)) = ((∑ k, f k : ℝ) : EReal) := by
  induction n with
  | zero => simp
  | succ n ih => rw [Fin.sum_univ_castSucc, Fin.sum_univ_castSucc, ih, EReal.coe_add]

/-- A positive real factor goes into a sum, infinite terms or not. -/
theorem mul_sum {w : ℝ} (hw : 0 < w) (f : Fin n → EReal) : (w : EReal) * ∑ k, f k = ∑ k, (w : EReal) * f k := by
  induction n with
  | zero => simp
  | succ n ih =>
    rw [Fin.sum_univ_castSucc, Fin.sum_univ_castSucc, ← ih,
      EReal.left_distrib_of_nonneg_of_ne_top (EReal.coe_nonneg.mpr hw.le) (EReal.coe_ne_top w)]

/-- The two gradients are equal where the scores are real, whatever the cotangents. -/
theorem law {z : Fin n → EReal} (hz : ∀ k, Fin1 (z k)) (d : Fin n → EReal) (j : Fin n) : kds z d j = rds z d j := by
  obtain ⟨b, hb⟩ := mx_fin hz j
  choose a ha using hz
  have he : ∀ k, ex z k = ((Real.exp (a k - b) : ℝ) : EReal) := fun k => by
    unfold ex; rw [ha, hb, ← EReal.coe_sub, Ideal.exp_coe]
  have hs : (∑ k, ex z k) = ((∑ k, Real.exp (a k - b) : ℝ) : EReal) := by
    simp only [he]; exact coe_sum _
  have hp : 0 < ∑ k, Real.exp (a k - b) :=
    Finset.sum_pos (fun k _ => Real.exp_pos _) ⟨j, Finset.mem_univ j⟩
  unfold kds rds prob
  rw [hs]
  simp only [he]
  generalize (∑ k, Real.exp (a k - b)) = S at *
  have hS : S ≠ 0 := ne_of_gt hp
  have hSS : S * S ≠ 0 := mul_ne_zero hS hS
  have hw : 0 < 1 / S := one_div_pos.mpr hp
  have hww : ((1 / (S * S) : ℝ) : EReal) = ((1 / S : ℝ) : EReal) * ((1 / S : ℝ) : EReal) := by
    rw [← EReal.coe_mul]; exact congrArg _ (by field_simp)
  simp only [← EReal.coe_mul S S, Ideal.div_coe hS, Ideal.div_coe hSS, one_mul, hww]
  generalize 1 / S = w at *
  have hT : (∑ k, d k * ((w : EReal) * (w : EReal)) * ((Real.exp (a k - b) : ℝ) : EReal))
      = (w : EReal) * ∑ k, d k * (((Real.exp (a k - b) : ℝ) : EReal) * (w : EReal)) := by
    rw [mul_sum hw]
    exact Finset.sum_congr rfl fun k _ => by ac_rfl
  rw [hT, sub_eq_add_neg]
  generalize (∑ k, d k * (((Real.exp (a k - b) : ℝ) : EReal) * (w : EReal))) = T
  have hD : d j * (w : EReal) + -((w : EReal) * T) = (w : EReal) * (d j + -T) := by
    rw [EReal.left_distrib_of_nonneg_of_ne_top (EReal.coe_nonneg.mpr hw.le) (EReal.coe_ne_top w), mul_comm (d j), mul_neg]
  rw [hD]
  ac_rfl

end Cert.Soft

end
-- ==== Proof.Xa.Refd.lean ====
/- The reference's cross-attention gradient at one entry: sums over rows, keys and columns of one head. -/
module

public import proofs.«01_k».proof.Proof.Soft
public import proofs.«01_k».proof.Proof.Gen.ReferenceXaIdeal.Read
public import Idealize.ShloMosaic.Lib.Pointwise

@[expose] public section

set_option maxRecDepth 16384

noncomputable section

open Idealize.ShloMosaic Idealize.ShloMosaic.TcCoe Idealize.SL.Sem

namespace Cert.ReferenceXaIdeal.Refd

open Cert.ReferenceXaIdeal Cert.ReferenceXaIdeal.Read Cert.Soft Cert.Finite

/-- Column `d` of head `h`. -/
def col (h : Fin 4) (d : Fin 256) : Fin 1024 := ⟨h.val * 256 + d.val, by omega⟩

/-- The product of one row with the rows of a second array, over the columns of one head. -/
def dot (x : Vec Ideal S4096x1024 .bf16) (y : Vec Ideal S256x1024 .bf16) (h : Fin 4) (r : Fin 4096) (l : Fin 256) : EReal :=
  ∑ d : Fin 256, x (ix2 r (col h d)) * y (ix2 l (col h d))

/-- The scaled scores of one row in one head. -/
def sc (x : Vec Ideal S4096x1024 .bf16) (y : Vec Ideal S256x1024 .bf16) (h : Fin 4) (r : Fin 4096) (l : Fin 256) : EReal :=
  dot x y h r l * scale

theorem dot_fin {x : Vec Ideal S4096x1024 .bf16} {y : Vec Ideal S256x1024 .bf16} (hx : ∀ i, Fin1 (x i)) (hy : ∀ i, Fin1 (y i))
    (h : Fin 4) (r : Fin 4096) (l : Fin 256) : Fin1 (dot x y h r l) := .sum fun d => .mul (hx _) (hy _)

theorem sc_fin {x : Vec Ideal S4096x1024 .bf16} {y : Vec Ideal S256x1024 .bf16} (hx : ∀ i, Fin1 (x i)) (hy : ∀ i, Fin1 (y i))
    (h : Fin 4) (r : Fin 4096) (l : Fin 256) : Fin1 (sc x y h r l) := .mul (dot_fin hx hy h r l) scale_fin

theorem hv8 (x0 : Vec Ideal S4096x1024 .bf16) (x1 : Vec Ideal S256x1024 .bf16) (h : Fin 4) (r : Fin 4096) (l : Fin 256) :
    val_main_v8 (F := Ideal) x0 x1 (ix3 h r l) = sc x0 x1 h r l := by
  pointwise [val_main_v8, val_main_v6, val_main_v7, val_main_v4, val_main_v5, val_main_v0, val_main_v1, val_main_cst]
  rfl

/-- The largest entry of each row. -/
theorem rowmax (z : FVec Ideal S4x4096x256 .f32) (w : FVec Ideal S_ .f32)
    (h : S4x4096x256.ReducesTo [2] S4x4096) (hu : 0 < S_.numel) (j : S4x4096.Idx) :
    Host.reduce FloatOps.maximumf z w h hu j
      = Finset.univ.fold max (w (Shape.Idx.first hu)) (fun l : Fin 256 => z (ix3 (j 0) (j 1) l)) := by
  have hr : S4x4096x256.Reduces [2] S4x4096 := by decide
  rw [Host.reduce_eq_fold, Shape.ReducesTo.drop_eq_drop _ hr]
  refine (hr.fold_filter_drop_single _ _ z j).trans ?_
  refine congrArg (fun f => Finset.fold max (w (Shape.Idx.first hu)) f Finset.univ) (funext fun l => congrArg z (funext fun a => ?_))
  match a with
  | 0 => rfl
  | 1 => rfl
  | 2 => rfl

theorem hv9 (x0 : Vec Ideal S4096x1024 .bf16) (x1 : Vec Ideal S256x1024 .bf16) (h : Fin 4) (r : Fin 4096) :
    val_main_v9 (F := Ideal) x0 x1 (ix2 h r) = mx (sc x0 x1 h r) := by
  have e := hv8 x0 x1 h r
  unfold val_main_v9
  generalize val_main_v8 (F := Ideal) x0 x1 = z at *
  refine (rowmax z _ _ _ (ix2 h r)).trans ?_
  rw [val_main_cst_0_apply]
  unfold mx
  refine Eq.trans ?_ (congrArg (fun f => Finset.fold max ⊥ f Finset.univ) (funext e))
  exact congrArg (fun b => Finset.fold max b (fun l => z (ix3 h r l)) Finset.univ) minf

/-- The maximum of minus infinity and a value is the value. -/
theorem maxbot (x : EReal) : FloatOps.maximumf (F := Ideal) (φ := .f32) (FloatOps.ofBits .f32 0xFF800000#32) x = x :=
  (congrArg (fun b : EReal => max b x) minf).trans (max_eq_right bot_le)

theorem hv16 (x0 : Vec Ideal S4096x1024 .bf16) (x1 : Vec Ideal S256x1024 .bf16) (h : Fin 4) (r : Fin 4096) :
    val_main_v16 (F := Ideal) x0 x1 (ix2 h r) = mx (sc x0 x1 h r) := by
  rw [val_main_v16_apply, val_main_v15_apply, val_main_cst_2_apply, hv9, maxbot]

theorem hv29 (x0 : Vec Ideal S4096x1024 .bf16) (x1 : Vec Ideal S256x1024 .bf16) (h : Fin 4) (r : Fin 4096) (l : Fin 256) :
    val_main_v29 (F := Ideal) x0 x1 (ix3 h r l) = ex (sc x0 x1 h r) l := by
  unfold val_main_v29 val_main_v28 val_main_v27 val_main_v26
  have e := hv8 x0 x1 h r l
  have e' := hv16 x0 x1 h r
  generalize val_main_v8 (F := Ideal) x0 x1 = z at *
  generalize val_main_v16 (F := Ideal) x0 x1 = w at *
  pointwise
  rw [e, e']
  rfl

theorem hv30 (x0 : Vec Ideal S4096x1024 .bf16) (x1 : Vec Ideal S256x1024 .bf16) (h : Fin 4) (r : Fin 4096) :
    val_main_v30 (F := Ideal) x0 x1 (ix2 h r) = ∑ l, ex (sc x0 x1 h r) l := by
  unfold val_main_v30
  have e := hv29 x0 x1 h r
  generalize val_main_v29 (F := Ideal) x0 x1 = z at *
  pointwise [val_main_cst_8]
  exact Finset.sum_congr rfl fun l _ => e l

theorem hv33 (x0 : Vec Ideal S4096x1024 .bf16) (x1 : Vec Ideal S256x1024 .bf16) (h : Fin 4) (r : Fin 4096) (l : Fin 256) :
    val_main_v33 (F := Ideal) x0 x1 (ix3 h r l) = prob (sc x0 x1 h r) l := by
  unfold val_main_v33 val_main_v32 val_main_v31
  have e := hv29 x0 x1 h r l
  have e' := hv30 x0 x1 h r
  generalize val_main_v29 (F := Ideal) x0 x1 = z at *
  generalize val_main_v30 (F := Ideal) x0 x1 = w at *
  pointwise
  rw [e, e']
  rfl

theorem hv43 (x2 : Vec Ideal S256x1024 .bf16) (x3 : Vec Ideal S4096x1024 .bf16) (h : Fin 4) (r : Fin 4096) (l : Fin 256) :
    val_main_v43 (F := Ideal) x2 x3 (ix3 h r l) = dot x3 x2 h r l := by
  pointwise [val_main_v43, val_main_v42, val_main_v41, val_main_v3, val_main_v37, val_main_v2]
  rfl

theorem hv36 (x0 : Vec Ideal S4096x1024 .bf16) (x1 : Vec Ideal S256x1024 .bf16) (j : S4x4096x1.Idx) :
    val_main_v36 (F := Ideal) x0 x1 j
      = Ideal.div 1 ((∑ l, ex (sc x0 x1 (j 0) (j 1)) l) * ∑ l, ex (sc x0 x1 (j 0) (j 1)) l) := by
  unfold val_main_v36 val_main_v34 val_main_v31
  have e := hv30 x0 x1 (j 0) (j 1)
  generalize val_main_v30 (F := Ideal) x0 x1 = w at *
  pointwise [val_main_v35, val_main_cst_9]
  rw [e]

theorem hv50 (x0 x3 : Vec Ideal S4096x1024 .bf16) (x1 x2 : Vec Ideal S256x1024 .bf16) (h : Fin 4) (r : Fin 4096) :
    val_main_v50 (F := Ideal) x0 x1 x2 x3 (ix2 h r)
      = ∑ k, dot x3 x2 h r k * Ideal.div 1 ((∑ l, ex (sc x0 x1 h r) l) * ∑ l, ex (sc x0 x1 h r) l) * ex (sc x0 x1 h r) k := by
  unfold val_main_v50 val_main_v49 val_main_v48 val_main_v47
  have e := hv29 x0 x1 h r
  have e' := hv43 x2 x3 h r
  have e'' := hv36 x0 x1 (ix3 h r 0)
  generalize val_main_v29 (F := Ideal) x0 x1 = z at *
  generalize val_main_v43 (F := Ideal) x2 x3 = w at *
  generalize val_main_v36 (F := Ideal) x0 x1 = u at *
  pointwise [val_main_cst_10]
  refine Finset.sum_congr rfl fun k _ => ?_
  rw [← e k, ← e' k]
  exact congrArg (fun s => w _ * s * z _) e''

theorem hv60 (x0 x3 : Vec Ideal S4096x1024 .bf16) (x1 x2 : Vec Ideal S256x1024 .bf16) (h : Fin 4) (r : Fin 4096) (l : Fin 256) :
    val_main_v60 (F := Ideal) x0 x1 x2 x3 (ix3 h r l) = rds (sc x0 x1 h r) (dot x3 x2 h r) l := by
  unfold val_main_v60 val_main_v58 val_main_v57 val_main_v56 val_main_v55 val_main_v54 val_main_v53 val_main_v52 val_main_v51 val_main_v31
  have e := hv29 x0 x1 h r l
  have e' := hv43 x2 x3 h r l
  have e'' := hv30 x0 x1 h r
  have e4 := hv50 x0 x3 x1 x2 h r
  generalize val_main_v29 (F := Ideal) x0 x1 = z at *
  generalize val_main_v43 (F := Ideal) x2 x3 = w at *
  generalize val_main_v30 (F := Ideal) x0 x1 = u at *
  generalize val_main_v50 (F := Ideal) x0 x1 x2 x3 = v at *
  pointwise [val_main_cst_11, val_main_v59, val_main_cst_12]
  unfold rds scale
  simp only [Finset.univ_unique, Finset.sum_singleton]
  rw [e'', e', e, e4]

/-- The gradient in the queries at one entry. -/
theorem hdq (x0 x3 : Vec Ideal S4096x1024 .bf16) (x1 x2 : Vec Ideal S256x1024 .bf16) (j : S4096x1024.Idx) (h : Fin 4) (d : Fin 256)
    (hj : (j 1).val = h.val * 256 + d.val) :
    val_main_v67 (F := Ideal) x0 x1 x2 x3 j
      = ∑ l : Fin 256, rds (sc x0 x1 h (j 0)) (dot x3 x2 h (j 0)) l * x1 (ix2 l (j 1)) := by
  have e := hv60 x0 x3 x1 x2 h (j 0)
  unfold val_main_v67 val_main_v66 val_main_v64 val_main_v63
  generalize val_main_v60 (F := Ideal) x0 x1 x2 x3 = z at *
  pointwise [val_main_v5, val_main_v1]
  refine Finset.sum_congr rfl fun l _ => ?_
  rw [← e l]
  exact congrArg (fun g => z (ix3 g (j 0) l) * x1 (ix2 l (j 1))) (Fin.ext (by show (j 1).val / 256 = h.val; omega))

/-- The gradient in the keys at one entry. -/
theorem hdk (x0 x3 : Vec Ideal S4096x1024 .bf16) (x1 x2 : Vec Ideal S256x1024 .bf16) (j : S256x1024.Idx) (h : Fin 4) (d : Fin 256)
    (hj : (j 1).val = h.val * 256 + d.val) :
    val_main_v65 (F := Ideal) x0 x1 x2 x3 j
      = ∑ r : Fin 4096, rds (sc x0 x1 h r) (dot x3 x2 h r) (j 0) * x0 (ix2 r (j 1)) := by
  have e := fun r => hv60 x0 x3 x1 x2 h r (j 0)
  unfold val_main_v65 val_main_v62 val_main_v61
  generalize val_main_v60 (F := Ideal) x0 x1 x2 x3 = z at *
  pointwise [val_main_v4, val_main_v0]
  refine Finset.sum_congr rfl fun r _ => ?_
  rw [← e r]
  exact congrArg (fun g => z (ix3 g r (j 0)) * x0 (ix2 r (j 1))) (Fin.ext (by show (j 1).val / 256 = h.val; omega))

/-- The gradient in the values at one entry. -/
theorem hdv (x0 x3 : Vec Ideal S4096x1024 .bf16) (x1 : Vec Ideal S256x1024 .bf16) (j : S256x1024.Idx) (h : Fin 4) (d : Fin 256)
    (hj : (j 1).val = h.val * 256 + d.val) :
    val_main_v46 (F := Ideal) x0 x1 x3 j
      = ∑ r : Fin 4096, prob (sc x0 x1 h r) (j 0) * x3 (ix2 r (j 1)) := by
  have e := fun r => hv33 x0 x1 h r (j 0)
  unfold val_main_v46 val_main_v45 val_main_v44
  generalize val_main_v33 (F := Ideal) x0 x1 = z at *
  pointwise [val_main_v42, val_main_v41, val_main_v3]
  refine Finset.sum_congr rfl fun r _ => ?_
  rw [← e r]
  exact (congrArg (fun g => x3 (ix2 r (j 1)) * z (ix3 g r (j 0))) (Fin.ext (by show (j 1).val / 256 = h.val; omega))).trans (mul_comm (G := EReal) _ _)

end Cert.ReferenceXaIdeal.Refd

end
-- ==== Proof.Xa.Grad.lean ====
/- The latent cross-attention's gradients: what each grid point (a head and a tile of rows) writes, and the
   gradients in the keys and the values summed over the two row tiles of a head. -/
module

public import proofs.«01_k».proof.Proof.Xa.Refd
public import proofs.«01_k».proof.Proof.Gen.KernelXaIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXaIdeal.Grad

open Cert.KernelXaIdeal Cert.KernelXaIdeal.Gen
open Cert.ReferenceXaIdeal.Read Cert.ReferenceXaIdeal.Refd Cert.Soft Cert.Finite

variable (m : (ℓ : Loc nD τ sig) → Buf (Elt Ideal) ℓ)

/-- Which block of its array each window holds at grid point `t`: head `t / 2`, row tile `t % 2`. -/
theorem idx : ∀ t : Fin cfg0.N, win0_0.index t = ![t.val % 2, t.val / 2] ∧ win0_1.index t = ![0, t.val / 2]
    ∧ win0_2.index t = ![0, t.val / 2] ∧ win0_3.index t = ![t.val % 2, t.val / 2] ∧ win0_4.index t = ![t.val % 2, t.val / 2]
    ∧ win0_5.index t = ![0, t.val / 2] ∧ win0_6.index t = ![0, t.val / 2] :=
  (by decide +kernel : ∀ t : Fin grid0.N, _)

/-- The product of one row of a block with the rows of a second block. -/
def bdot (x : Vec Ideal S2048x256 .bf16) (y : Vec Ideal S256x256 .bf16) (r : Fin 2048) (l : Fin 256) : EReal :=
  ∑ d : Fin 256, x (ix2 r d) * y (ix2 l d)

/-- The scaled scores of one row of a block. -/
def bsc (x : Vec Ideal S2048x256 .bf16) (y : Vec Ideal S256x256 .bf16) (r : Fin 2048) (l : Fin 256) : EReal :=
  bdot x y r l * scale

/-- The block's probabilities. -/
theorem hprob (q : Vec Ideal S2048x256 .bf16) (k : Vec Ideal S256x256 .bf16) (j : S2048x256.Idx) :
    k0_pay5 (F := Ideal) q k j = prob (bsc q k (j 0)) (j 1) := by
  pointwise [k0_pay5]
  simp only [minf]
  rfl

/-- The block's gradient of the scores. -/
theorem hds (q d : Vec Ideal S2048x256 .bf16) (k v : Vec Ideal S256x256 .bf16) (j : S2048x256.Idx) :
    k0_pay6 (F := Ideal) q k d v j = kds (bsc q k (j 0)) (bdot d v (j 0)) (j 1) := by
  have e := hprob q k
  unfold k0_pay6
  generalize k0_pay5 (F := Ideal) q k = p at *
  pointwise
  rw [e]
  simp only [e]
  rfl

/-- What one point writes to its block of the gradient in the queries. -/
theorem hq (q d : Vec Ideal S2048x256 .bf16) (k v : Vec Ideal S256x256 .bf16) (j : S2048x256.Idx) :
    k0_pay7 (F := Ideal) q k d v j = ∑ l : Fin 256, kds (bsc q k (j 0)) (bdot d v (j 0)) l * k (ix2 l (j 1)) := by
  have e := hds q d k v
  unfold k0_pay7
  generalize k0_pay6 (F := Ideal) q k d v = p at *
  pointwise
  simp only [e]
  rfl

/-- The two sums start from zero. -/
theorem hz3 (j : S256x256.Idx) : k0_pay3 (F := Ideal) j = 0 := by
  pointwise [k0_pay3]

theorem hz4 (j : S256x256.Idx) : k0_pay4 (F := Ideal) j = 0 := by
  pointwise [k0_pay4]

/-- What one point adds to the gradient in the keys. -/
theorem hk (q d : Vec Ideal S2048x256 .bf16) (k v : Vec Ideal S256x256 .bf16) (acc : Vec Ideal S256x256 .f32) (j : S256x256.Idx) :
    k0_pay1 (F := Ideal) q (k0_pay6 q k d v) (k0_pay8 acc) j
      = acc j + ∑ r : Fin 2048, kds (bsc q k r) (bdot d v r) (j 0) * q (ix2 r (j 1)) := by
  have e := hds q d k v
  generalize k0_pay6 (F := Ideal) q k d v = p at *
  pointwise [k0_pay1, k0_pay8]
  simp only [e]
  rfl

/-- What one point adds to the gradient in the values. -/
theorem hv (q d : Vec Ideal S2048x256 .bf16) (k : Vec Ideal S256x256 .bf16) (acc : Vec Ideal S256x256 .f32) (j : S256x256.Idx) :
    k0_pay2 (F := Ideal) d (k0_pay5 q k) acc j
      = acc j + ∑ r : Fin 2048, prob (bsc q k r) (j 0) * d (ix2 r (j 1)) := by
  have e := hprob q k
  generalize k0_pay5 (F := Ideal) q k = p at *
  pointwise [k0_pay2]
  simp only [e]
  rfl

/-- The rows of a tile and the rows of the whole array have the same products. -/
theorem bdot_congr {x : Vec Ideal S2048x256 .bf16} {y : Vec Ideal S256x256 .bf16}
    {x' : Vec Ideal Cert.ReferenceXaIdeal.S4096x1024 .bf16} {y' : Vec Ideal Cert.ReferenceXaIdeal.S256x1024 .bf16}
    {h : Fin 4} {r : Fin 2048} {r' : Fin 4096} (hx : ∀ d, x (ix2 r d) = x' (ix2 r' (col h d)))
    (hy : ∀ l d, y (ix2 l d) = y' (ix2 l (col h d))) (l : Fin 256) : bdot x y r l = dot x' y' h r' l :=
  Finset.sum_congr rfl fun d _ => by rw [hx, hy]

theorem bsc_congr {x : Vec Ideal S2048x256 .bf16} {y : Vec Ideal S256x256 .bf16}
    {x' : Vec Ideal Cert.ReferenceXaIdeal.S4096x1024 .bf16} {y' : Vec Ideal Cert.ReferenceXaIdeal.S256x1024 .bf16}
    {h : Fin 4} {r : Fin 2048} {r' : Fin 4096} (hx : ∀ d, x (ix2 r d) = x' (ix2 r' (col h d)))
    (hy : ∀ l d, y (ix2 l d) = y' (ix2 l (col h d))) (l : Fin 256) : bsc x y r l = sc x' y' h r' l := by
  unfold bsc sc; rw [bdot_congr hx hy]

/-- The head of a grid point. -/
def hd (t : Fin cfg0.N) : Fin 4 := ⟨t.val / 2, by have := t.isLt; have : cfg0.N = 8 := N_0; omega⟩

/-- The row of the whole array that row `r` of a point's tile is. -/
def row (t : Fin cfg0.N) (r : Fin 2048) : Fin 4096 := ⟨t.val % 2 * 2048 + r.val, by omega⟩

theorem blk0 (c : Dev nD) (t : Fin cfg0.N) (r : Fin 2048) (d : Fin 256) :
    (show Vec Ideal S2048x256 .bf16 from iblk m c 0 t) (ix2 r d)
      = (show Vec Ideal Cert.ReferenceXaIdeal.S4096x1024 .bf16 from m ((c : Thread nD τ).loc main_arg0)) (ix2 (row t r) (col (hd t) d)) := by
  unfold row col hd
  blk_point [iblk, V, idx t]

theorem blk3 (c : Dev nD) (t : Fin cfg0.N) (r : Fin 2048) (d : Fin 256) :
    (show Vec Ideal S2048x256 .bf16 from iblk m c 3 t) (ix2 r d)
      = (show Vec Ideal Cert.ReferenceXaIdeal.S4096x1024 .bf16 from m ((c : Thread nD τ).loc main_arg3)) (ix2 (row t r) (col (hd t) d)) := by
  unfold row col hd
  blk_point [iblk, V, idx t]

theorem blk1 (c : Dev nD) (t : Fin cfg0.N) (r d : Fin 256) :
    (show Vec Ideal S256x256 .bf16 from iblk m c 1 t) (ix2 r d)
      = (show Vec Ideal Cert.ReferenceXaIdeal.S256x1024 .bf16 from m ((c : Thread nD τ).loc main_arg1)) (ix2 r (col (hd t) d)) := by
  unfold col hd
  blk_point [iblk, V, idx t]

theorem blk2 (c : Dev nD) (t : Fin cfg0.N) (r d : Fin 256) :
    (show Vec Ideal S256x256 .bf16 from iblk m c 2 t) (ix2 r d)
      = (show Vec Ideal Cert.ReferenceXaIdeal.S256x1024 .bf16 from m ((c : Thread nD τ).loc main_arg2)) (ix2 r (col (hd t) d)) := by
  unfold col hd
  blk_point [iblk, V, idx t]

/-- The scores of a tile's row are the reference's. -/
theorem hsc (c : Dev nD) (t : Fin cfg0.N) (r : Fin 2048) (l : Fin 256) :
    bsc (iblk m c 0 t) (iblk m c 1 t) r l
      = sc (m ((c : Thread nD τ).loc main_arg0)) (m ((c : Thread nD τ).loc main_arg1)) (hd t) (row t r) l :=
  bsc_congr (blk0 m c t r) (blk1 m c t) l

/-- The cotangents of a tile's row's probabilities are the reference's. -/
theorem hdot (c : Dev nD) (t : Fin cfg0.N) (r : Fin 2048) (l : Fin 256) :
    bdot (iblk m c 3 t) (iblk m c 2 t) r l
      = dot (m ((c : Thread nD τ).loc main_arg3)) (m ((c : Thread nD τ).loc main_arg2)) (hd t) (row t r) l :=
  bdot_congr (blk3 m c t r) (blk2 m c t) l

/-- What one point adds to the gradient in the keys. -/
def stepk (c : Dev nD) (p : Fin cfg0.N) (j : S256x256.Idx) : EReal :=
  ∑ r : Fin 2048, kds (sc (m ((c : Thread nD τ).loc main_arg0)) (m ((c : Thread nD τ).loc main_arg1)) (hd p) (row p r))
    (dot (m ((c : Thread nD τ).loc main_arg3)) (m ((c : Thread nD τ).loc main_arg2)) (hd p) (row p r)) (j 0)
    * (show Vec Ideal Cert.ReferenceXaIdeal.S4096x1024 .bf16 from m ((c : Thread nD τ).loc main_arg0)) (ix2 (row p r) (col (hd p) (j 1)))

/-- What one point adds to the gradient in the values. -/
def stepv (c : Dev nD) (p : Fin cfg0.N) (j : S256x256.Idx) : EReal :=
  ∑ r : Fin 2048, prob (sc (m ((c : Thread nD τ).loc main_arg0)) (m ((c : Thread nD τ).loc main_arg1)) (hd p) (row p r)) (j 0)
    * (show Vec Ideal Cert.ReferenceXaIdeal.S4096x1024 .bf16 from m ((c : Thread nD τ).loc main_arg3)) (ix2 (row p r) (col (hd p) (j 1)))

theorem hstepk (c : Dev nD) (t : Fin cfg0.N) (j : S256x256.Idx) :
    (∑ r : Fin 2048, kds (bsc (iblk m c 0 t) (iblk m c 1 t) r) (bdot (iblk m c 3 t) (iblk m c 2 t) r) (j 0)
      * (show Vec Ideal S2048x256 .bf16 from iblk m c 0 t) (ix2 r (j 1))) = stepk m c t j := by
  unfold stepk
  refine Finset.sum_congr rfl fun r _ => ?_
  exact congrArg₂ (fun a b : EReal => a * b) (kds_congr (hsc m c t r) (hdot m c t r) rfl) (blk0 m c t r (j 1))

theorem hstepv (c : Dev nD) (t : Fin cfg0.N) (j : S256x256.Idx) :
    (∑ r : Fin 2048, prob (bsc (iblk m c 0 t) (iblk m c 1 t) r) (j 0)
      * (show Vec Ideal S2048x256 .bf16 from iblk m c 3 t) (ix2 r (j 1))) = stepv m c t j := by
  unfold stepv
  refine Finset.sum_congr rfl fun r _ => ?_
  exact congrArg₂ (fun a b : EReal => a * b) (prob_congr (hsc m c t r) rfl) (blk3 m c t r (j 1))

/-- The kernel's gradient of a score and the reference's, where queries and keys are real numbers. -/
theorem kds_rds {x0 x3 : Vec Ideal Cert.ReferenceXaIdeal.S4096x1024 .bf16} {x1 x2 : Vec Ideal Cert.ReferenceXaIdeal.S256x1024 .bf16}
    (h0 : ∀ i, Fin1 (x0 i)) (h1 : ∀ i, Fin1 (x1 i))
    {h h' : Fin 4} {r r' : Fin 4096} {l l' : Fin 256} (eh : h = h') (er : r = r') (el : l = l') :
    kds (sc x0 x1 h r) (dot x3 x2 h r) l = rds (sc x0 x1 h' r') (dot x3 x2 h' r') l' := by
  subst eh er el
  exact law (sc_fin h0 h1 _ _) _ l

theorem prob_eq {x0 : Vec Ideal Cert.ReferenceXaIdeal.S4096x1024 .bf16} {x1 : Vec Ideal Cert.ReferenceXaIdeal.S256x1024 .bf16}
    {h h' : Fin 4} {r r' : Fin 4096} {l l' : Fin 256} (eh : h = h') (er : r = r') (el : l = l') :
    prob (sc x0 x1 h r) l = prob (sc x0 x1 h' r') l' := by
  subst eh er el
  rfl

/-- Two entries of an array at the same row and column. -/
theorem at_eq {a b : ℕ} (x : (⟨2, ![a, b]⟩ : Shape).Idx → EReal) {r r' : Fin a} {d d' : Fin b} (er : r = r') (ed : d = d') :
    x (ix2 r d) = x (ix2 r' d') := by
  rw [er, ed]

/-- What one point writes to its block of the gradient in the queries, in either case. -/
theorem out4 (c : Dev nD) (t : Fin cfg0.N) (y : S2048x256.Idx) : (outsAt0 m c t.val t.isLt).1 y
    = ∑ l : Fin 256, kds (bsc (iblk m c 0 t) (iblk m c 1 t) (y 0)) (bdot (iblk m c 3 t) (iblk m c 2 t) (y 0)) l
      * (show Vec Ideal S256x256 .bf16 from iblk m c 1 t) (ix2 l (y 1)) := by
  by_cases h : t.val % 2 = 0
  · rw [outsAt0_A m c t h]; frame_out; rw [hq]
  · rw [outsAt0_B m c t h]; frame_out; rw [hq]

/-- The finished gradient in the queries is the reference's. -/
theorem final4 (c : Dev nD)
    (h0 : ∀ i, Fin1 (m ((c : Thread nD τ).loc main_arg0) i)) (h1 : ∀ i, Fin1 (m ((c : Thread nD τ).loc main_arg1) i)) :
    (dats m 0 c).arrAt 4 cfg0.N
    = val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, hdq _ _ _ _ _ (hd t) ⟨(y 1).val, (y 1).isLt⟩ (by unfold hd; blk_simp [idx t])]
  refine (out4 m c t y).trans (Finset.sum_congr (M := EReal) rfl fun l _ => congrArg₂ (fun a b : EReal => a * b) ?_ ?_)
  · exact (kds_congr (hsc m c t (y 0)) (hdot m c t (y 0)) rfl).trans
      (kds_rds h0 h1 rfl (Fin.ext (by unfold row; blk_simp [idx t])) rfl)
  · exact (blk1 m c t l (y 1)).trans (at_eq _ rfl (Fin.ext (by unfold col hd; blk_simp [idx t])))

/-- What the gradient in the keys holds once the last tile has been added. -/
theorem acck (c : Dev nD) (t : Fin cfg0.N) (h : t.val % 2 = 1) (j : S256x256.Idx) :
    (outsAt0 m c t.val t.isLt).2.1 j = ∑ s : Fin 2, stepk m c ⟨2 * (t.val / 2) + s.val, Pipeline.run_point_lt_of_flush t h s⟩ j := by
  refine (Pipeline.eq_sum_fin_of_reset_step_apply_of_flush (M := EReal) (fun n h => (outsAt0 m c n h).2.1) 2 (fun _ => 0)
    (stepk m c) ?_ ?_ t h j).trans (zero_add _)
  · intro t h j
    rw [outsAt0_A m c t h]; frame_out; rw [hk, hz3]; exact congrArg (fun z : EReal => 0 + z) (hstepk m c t j)
  · intro t h j
    rw [outsAt0_B m c t h]; frame_out; rw [hk]; exact congrArg (fun z : EReal => _ + z) (hstepk m c t j)

/-- What the gradient in the values holds once the last tile has been added. -/
theorem accv (c : Dev nD) (t : Fin cfg0.N) (h : t.val % 2 = 1) (j : S256x256.Idx) :
    (outsAt0 m c t.val t.isLt).2.2 j = ∑ s : Fin 2, stepv m c ⟨2 * (t.val / 2) + s.val, Pipeline.run_point_lt_of_flush t h s⟩ j := by
  refine (Pipeline.eq_sum_fin_of_reset_step_apply_of_flush (M := EReal) (fun n h => (outsAt0 m c n h).2.2) 2 (fun _ => 0)
    (stepv m c) ?_ ?_ t h j).trans (zero_add _)
  · intro t h j
    rw [outsAt0_A m c t h]; frame_out; rw [hv, hz4]; exact congrArg (fun z : EReal => 0 + z) (hstepv m c t j)
  · intro t h j
    rw [outsAt0_B m c t h]; frame_out; rw [hv]; exact congrArg (fun z : EReal => _ + z) (hstepv m c t j)

/-- The finished gradient in the keys is the reference's. -/
theorem final5 (c : Dev nD)
    (h0 : ∀ i, Fin1 (m ((c : Thread nD τ).loc main_arg0) i)) (h1 : ∀ i, Fin1 (m ((c : Thread nD τ).loc main_arg1) i)) :
    (dats m 0 c).arrAt 5 cfg0.N
    = val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h : t.val % 2 = 1 := (flush0_5 t).mp hf
  rw [after0_5, hdk _ _ _ _ _ (hd t) ⟨(y 1).val, (y 1).isLt⟩ (by unfold hd; blk_simp [idx t]), acck m c t h]
  refine Fin.sum_mul_add_congr fun s k hl => congrArg₂ (fun a b : EReal => a * b) ?_ ?_
  · exact kds_rds h0 h1 (Fin.ext (by unfold hd; dsimp only; omega)) (Fin.ext (by unfold row; dsimp only; omega)) (Fin.ext (by blk_simp [idx t]))
  · exact at_eq _ (Fin.ext (by unfold row; dsimp only; omega)) (Fin.ext (by unfold col hd; blk_simp [idx t] <;> dsimp only <;> omega))

/-- The finished gradient in the values is the reference's. -/
theorem final6 (c : Dev nD) : (dats m 0 c).arrAt 6 cfg0.N
    = val_main_v46 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have h : t.val % 2 = 1 := (flush0_6 t).mp hf
  rw [after0_6, hdv _ _ _ _ (hd t) ⟨(y 1).val, (y 1).isLt⟩ (by unfold hd; blk_simp [idx t]), accv m c t h]
  refine Fin.sum_mul_add_congr fun s k hl => congrArg₂ (fun a b : EReal => a * b) ?_ ?_
  · exact prob_eq (Fin.ext (by unfold hd; dsimp only; omega)) (Fin.ext (by unfold row; dsimp only; omega)) (Fin.ext (by blk_simp [idx t]))
  · exact at_eq _ (Fin.ext (by unfold row; dsimp only; omega)) (Fin.ext (by unfold col hd; blk_simp [idx t] <;> dsimp only <;> omega))

end Cert.KernelXaIdeal.Grad

end
-- ==== Proof.Xa.Tie.lean ====
/- The latent cross-attention's backward pass: the kernel and the reference return the same three arrays. -/
module

public import proofs.«01_k».proof.Defs
public import proofs.«01_k».proof.Proof.Gen.ReferenceXaIdeal.Run
public import proofs.«01_k».proof.Proof.Xa.Grad

@[expose] public section

set_option maxRecDepth 16384

noncomputable section

open Idealize.ShloMosaic Idealize.ShloMosaic.TcCoe Idealize.SL.Sem

namespace Cert.KernelXaIdeal.Grad

open Cert.ReferenceXaIdeal.Read

open Cert.Finite

/-- The shape relations the precondition takes. -/
theorem preFacts : Cert.Pre_finite_xa.Facts where
  bcast_S_S4096x1024 := by decide
  reducesTo_S4096x1024_S_d0_1 := by decide
  h_S_ := by decide
  bcast_S_S256x1024 := by decide
  reducesTo_S256x1024_S_d0_1 := by decide

instance : Subsingleton Cert.Pre_finite_xa.S_.Idx := ⟨fun a b => funext fun k => k.elim0⟩

/-- Under the precondition the arguments it names hold real numbers. -/
theorem fin (m : (ℓ : Loc Cert.KernelXaIdeal.nD Cert.KernelXaIdeal.τ Cert.KernelXaIdeal.sig) → Buf (Elt Ideal) ℓ)
    (h : Pre_KernelXaIdeal_finite_xa (hPre_finite_xa := preFacts) m) (c : Dev Cert.KernelXaIdeal.nD) :
    (∀ i, Fin1 (m ((c.tc : Thread Cert.KernelXaIdeal.nD Cert.KernelXaIdeal.τ).loc Cert.KernelXaIdeal.main_arg0) i))
    ∧ (∀ i, Fin1 (m ((c.tc : Thread Cert.KernelXaIdeal.nD Cert.KernelXaIdeal.τ).loc Cert.KernelXaIdeal.main_arg1) i)) := by
  have e := congrFun (h c) (fun k => k.elim0)
  obtain ⟨e0, e1⟩ := andi_one e
  exact ⟨fin_of_all16 _ _ _ _ _ _ e0, fin_of_all16 _ _ _ _ _ _ e1⟩

/-- From any memories that agree on the arguments, the kernel and the reference terminate, return the
    same arrays and leave their arguments unchanged. -/
theorem tie : algebraic_KernelXaIdeal_ReferenceXaIdeal_pre_finite_xa (hKernelXaIdeal := Cert.KernelXaIdeal.Gen.facts)
    (hReferenceXaIdeal := Cert.ReferenceXaIdeal.Gen.facts)
    (hPre_finite_xa := preFacts) := by
  intro m g m' g' hpre hag
  refine ⟨fun c => (Cert.KernelXaIdeal.Gen.dats m 0 c).arrAt 4 Cert.KernelXaIdeal.cfg0.N, fun c => (Cert.KernelXaIdeal.Gen.dats m 0 c).arrAt 5 Cert.KernelXaIdeal.cfg0.N, fun c => (Cert.KernelXaIdeal.Gen.dats m 0 c).arrAt 6 Cert.KernelXaIdeal.cfg0.N,
    Cert.KernelXaIdeal.Value.run_blocks m g, ?_⟩
  refine (θ_run _ _ _).mono (fun r h c => ?_) (Cert.ReferenceXaIdeal.Value.run m' g')
  obtain ⟨e0, e1, e2, e3⟩ := hag c
  obtain ⟨r0, r1, r2, k0, k1, k2, k3⟩ := h c
  exact ⟨r0.trans ((val_main_v67_eq _ _).trans (by rw [e0, e1, e2, e3]; exact (final4 m c (fin m hpre c).1 (fin m hpre c).2).symm)),
    r1.trans ((val_main_v65_eq _ _).trans (by rw [e0, e1, e2, e3]; exact (final5 m c (fin m hpre c).1 (fin m hpre c).2).symm)),
    r2.trans ((val_main_v46_eq _ _ _).trans (by rw [e0, e1, e3]; exact (final6 m c).symm)),
    k0, k1, k2, k3⟩

end Cert.KernelXaIdeal.Grad

end
-- ==== Proof.Ffn.Grad.lean ====
/- The backward pass through the gated product in front of the second feed-forward weights: what each
   grid point writes is the plain gradient formula at the place of the block. -/
module

public import proofs.«01_k».proof.Proof.Finite
public import proofs.«01_k».proof.Proof.Gen.KernelFfnIdeal.Value
public import proofs.«01_k».proof.Proof.Gen.ReferenceFfnIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelFfnIdeal.Grad

open Cert.KernelFfnIdeal Cert.KernelFfnIdeal.Gen
open Cert.ReferenceFfnIdeal.Read

variable (m : (ℓ : Loc nD τ sig) → Buf (Elt Ideal) ℓ)

/-- Which block of its array each window holds at grid point `t`: the row block `t / 2` and the column block `t % 2`. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- The gradient of the up projection: the cotangent through the second weights, times the activated gate. -/
theorem final5 (c : Dev nD) : (dats m 0 c).arrAt 5 cfg0.N
    = val_main_v11 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]; frame_out
  pointwise [k0_pay6, k0_pay1, k0_pay2, k0_pay3, k0_pay4, val_main_v11, val_main_v7, val_main_v3_0, val_main_v3_2, val_main_call0_v4, val_main_call0_cst_0, val_main_call0_v3, val_main_call0_v2, val_main_call0_cst, val_main_call0_v1, val_main_call0_v0, val_main_v6, val_main_v0, val_main_v1]
  simp only [zero_sub]
  blk_point [iblk, V, idx t]

/-- The derivative of the gate's activation in the kernel's form and in the reference's: the factored
    and the expanded product, at real numbers. -/
theorem law {P a : EReal} (hP : Cert.Finite.Fin1 P) (ha : Cert.Finite.Fin1 a) :
    P * (Ideal.div 1 (1 + Ideal.exp (-a)) + a * Ideal.div 1 (1 + Ideal.exp (-a)) * (1 - Ideal.div 1 (1 + Ideal.exp (-a))))
    = P * Ideal.div 1 (1 + Ideal.exp (-a)) + a * P * (Ideal.div 1 (1 + Ideal.exp (-a)) * (1 - Ideal.div 1 (1 + Ideal.exp (-a)))) := by
  obtain ⟨p, rfl⟩ := hP
  obtain ⟨r, rfl⟩ := ha
  have e : Ideal.div 1 (1 + Ideal.exp (-(r : EReal))) = ((1 / (1 + Real.exp (-r)) : ℝ) : EReal) := by
    rw [← EReal.coe_neg, Ideal.exp_coe, ← EReal.coe_one, ← EReal.coe_add, Ideal.div_coe (by positivity), ← EReal.coe_mul, one_mul]
  rw [e]
  generalize 1 / (1 + Real.exp (-r)) = σ
  rw [← EReal.coe_one]
  simp only [← EReal.coe_mul, ← EReal.coe_sub, ← EReal.coe_add]
  congr 1
  ring

/-- The gradient of the gate projection: the cotangent times the other factor and the activation's derivative. -/
theorem final4 (c : Dev nD)
    (h0 : ∀ i, Cert.Finite.Fin1 (m ((c : Thread nD τ).loc main_arg0) i))
    (h1 : ∀ i, Cert.Finite.Fin1 (m ((c : Thread nD τ).loc main_arg1) i))
    (h2 : ∀ i, Cert.Finite.Fin1 (m ((c : Thread nD τ).loc main_arg2) i))
    (h3 : ∀ i, Cert.Finite.Fin1 (m ((c : Thread nD τ).loc main_arg3) i)) : (dats m 0 c).arrAt 4 cfg0.N
    = val_main_v10 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay5, k0_pay1, k0_pay2, k0_pay3, k0_pay4, val_main_v10, val_main_v9, val_main_v8, val_main_v3_1, val_main_call0_v6, val_main_call0_v7, val_main_call0_cst_1, val_main_call1_v0, val_main_call1_v1, val_main_call1_v2, val_main_v2, val_main_v3_2, val_main_call0_v4, val_main_call0_cst_0, val_main_call0_v3, val_main_call0_v2, val_main_call0_cst, val_main_call0_v1, val_main_call0_v0, val_main_v6, val_main_v0, val_main_v1]
  simp only [zero_sub]
  refine (law (.mul (.sum fun k => .mul (h0 _) (h1 _)) (h3 _)) (h2 _)).trans ?_
  blk_point [iblk, V, idx t]

end Cert.KernelFfnIdeal.Grad
-- ==== Proof.Ffn.Tie.lean ====
/- The backward pass through the gated feed-forward product: the kernel and the reference return the same
   two arrays. -/
module

public import proofs.«01_k».proof.Defs
public import proofs.«01_k».proof.Proof.Gen.ReferenceFfnIdeal.Run
public import proofs.«01_k».proof.Proof.Ffn.Grad

@[expose] public section

set_option maxRecDepth 16384

noncomputable section

open Idealize.ShloMosaic Idealize.ShloMosaic.TcCoe Idealize.SL.Sem

namespace Cert.KernelFfnIdeal.Grad

open Cert.ReferenceFfnIdeal.Read

open Cert.Finite

/-- The shape relations the precondition takes. -/
theorem preFacts : Cert.Pre_finite_ffn.Facts where
  bcast_S_S4096x1024 := by decide
  reducesTo_S4096x1024_S_d0_1 := by decide
  h_S_ := by decide
  bcast_S_S2816x1024 := by decide
  reducesTo_S2816x1024_S_d0_1 := by decide
  bcast_S_S4096x2816 := by decide
  reducesTo_S4096x2816_S_d0_1 := by decide

instance : Subsingleton Cert.Pre_finite_ffn.S_.Idx := ⟨fun a b => funext fun k => k.elim0⟩

/-- Under the precondition all four arguments hold real numbers. -/
theorem fin (m : (ℓ : Loc Cert.KernelFfnIdeal.nD Cert.KernelFfnIdeal.τ Cert.KernelFfnIdeal.sig) → Buf (Elt Ideal) ℓ)
    (h : Pre_KernelFfnIdeal_finite_ffn (hPre_finite_ffn := preFacts) m) (c : Dev Cert.KernelFfnIdeal.nD) :
    (∀ i, Fin1 (m ((c.tc : Thread Cert.KernelFfnIdeal.nD Cert.KernelFfnIdeal.τ).loc Cert.KernelFfnIdeal.main_arg0) i))
    ∧ (∀ i, Fin1 (m ((c.tc : Thread Cert.KernelFfnIdeal.nD Cert.KernelFfnIdeal.τ).loc Cert.KernelFfnIdeal.main_arg1) i))
    ∧ (∀ i, Fin1 (m ((c.tc : Thread Cert.KernelFfnIdeal.nD Cert.KernelFfnIdeal.τ).loc Cert.KernelFfnIdeal.main_arg2) i))
    ∧ (∀ i, Fin1 (m ((c.tc : Thread Cert.KernelFfnIdeal.nD Cert.KernelFfnIdeal.τ).loc Cert.KernelFfnIdeal.main_arg3) i)) := by
  have e := congrFun (h c) (fun k => k.elim0)
  obtain ⟨e, e3⟩ := andi_one e
  obtain ⟨e, e2⟩ := andi_one e
  obtain ⟨e0, e1⟩ := andi_one e
  exact ⟨fin_of_all32 _ _ _ _ _ _ e0, fin_of_all16 _ _ _ _ _ _ e1, fin_of_all16 _ _ _ _ _ _ e2, fin_of_all16 _ _ _ _ _ _ e3⟩

/-- From any memories that agree on the arguments, the kernel and the reference terminate, return the
    same arrays and leave their arguments unchanged. -/
theorem tie : algebraic_KernelFfnIdeal_ReferenceFfnIdeal_pre_finite_ffn (hKernelFfnIdeal := Cert.KernelFfnIdeal.Gen.facts)
    (hReferenceFfnIdeal := Cert.ReferenceFfnIdeal.Gen.facts)
    (hPre_finite_ffn := preFacts) := by
  intro m g m' g' hpre hag
  refine ⟨fun c => (Cert.KernelFfnIdeal.Gen.dats m 0 c).arrAt 4 Cert.KernelFfnIdeal.cfg0.N, fun c => (Cert.KernelFfnIdeal.Gen.dats m 0 c).arrAt 5 Cert.KernelFfnIdeal.cfg0.N,
    Cert.KernelFfnIdeal.Value.run_blocks m g, ?_⟩
  refine (θ_run _ _ _).mono (fun r h c => ?_) (Cert.ReferenceFfnIdeal.Value.run m' g')
  obtain ⟨e0, e1, e2, e3⟩ := hag c
  obtain ⟨r0, r1, k0, k1, k2, k3⟩ := h c
  exact ⟨r0.trans ((val_main_v10_eq _ _ _ _).trans (by rw [e0, e1, e2, e3]; exact (final4 m c (fin m hpre c).1 (fin m hpre c).2.1 (fin m hpre c).2.2.1 (fin m hpre c).2.2.2).symm)),
    r1.trans ((val_main_v11_eq _ _ _).trans (by rw [e0, e1, e2]; exact (final5 m c).symm)),
    k0, k1, k2, k3⟩

end Cert.KernelFfnIdeal.Grad

end
-- ==== Proof.Inp.Grad.lean ====
/- The input projection: each grid point writes its block of the product with the transposed weights. -/
module

public import proofs.«01_k».proof.Proof.Gen.KernelInpIdeal.Value
public import proofs.«01_k».proof.Proof.Gen.ReferenceInpIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInpIdeal.Grad

open Cert.KernelInpIdeal Cert.KernelInpIdeal.Gen
open Cert.ReferenceInpIdeal.Read

variable (m : (ℓ : Loc nD τ sig) → Buf (Elt Ideal) ℓ)

/-- Which block of its array each window holds at grid point `t`: the row block `t / 7` and the column block `t % 7`. -/
theorem idx : ∀ t : Fin cfg0.N, win0_0.index t = ![t.val / 7, 0] ∧ win0_1.index t = ![t.val % 7, 0] ∧ win0_2.index t = ![t.val / 7, t.val % 7] :=
  (by decide +kernel : ∀ t : Fin grid0.N, _)

/-- The array written through window 2 ends as the reference's result. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v0, val_main_v2, val_main_v1]
  blk_point [iblk, V, idx t]

end Cert.KernelInpIdeal.Grad

end
-- ==== Proof.Inp.Tie.lean ====
/- The input projection: the kernel and the reference return the same arrays. -/
module

public import proofs.«01_k».proof.Defs
public import proofs.«01_k».proof.Proof.Gen.ReferenceInpIdeal.Run
public import proofs.«01_k».proof.Proof.Inp.Grad

@[expose] public section

set_option maxRecDepth 16384

noncomputable section

open Idealize.ShloMosaic Idealize.ShloMosaic.TcCoe Idealize.SL.Sem

namespace Cert.KernelInpIdeal.Grad

open Cert.ReferenceInpIdeal.Read

/-- From any memories that agree on the arguments, the kernel and the reference terminate, return the
    same arrays and leave their arguments unchanged. -/
theorem tie : algebraic_KernelInpIdeal_ReferenceInpIdeal (hKernelInpIdeal := Cert.KernelInpIdeal.Gen.facts)
    (hReferenceInpIdeal := Cert.ReferenceInpIdeal.Gen.facts) := by
  intro m g m' g' hpre hag
  refine ⟨fun c => (Cert.KernelInpIdeal.Gen.dats m 0 c).arrAt 2 Cert.KernelInpIdeal.cfg0.N,
    Cert.KernelInpIdeal.Value.run_blocks m g, ?_⟩
  refine (θ_run _ _ _).mono (fun r h c => ?_) (Cert.ReferenceInpIdeal.Value.run m' g')
  obtain ⟨e0, e1⟩ := hag c
  obtain ⟨r0, k0, k1⟩ := h c
  exact ⟨r0.trans ((val_main_v3_eq _ _).trans (by rw [e0, e1]; exact (final2 m c).symm)),
    k0, k1⟩

end Cert.KernelInpIdeal.Grad

end
-- ==== Proof.Windw.Grad.lean ====
/- The gradient of the input projection in its weights, summed over the two halves of the rows. -/
module

public import proofs.«01_k».proof.Proof.Gen.KernelWindwIdeal.Value
public import proofs.«01_k».proof.Proof.Gen.ReferenceWindwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelWindwIdeal.Grad

open Cert.KernelWindwIdeal Cert.KernelWindwIdeal.Gen
open Cert.ReferenceWindwIdeal.Read

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The sum starts from zero. -/
theorem hzero (j : S1024x1024.Idx) : k0_pay1 (F := Ideal) j = 0 := by
  pointwise [k0_pay1]

/-- One point adds the product of its two blocks. -/
theorem hpay (acc : Vec Ideal S1024x1024 .f32) (x0 : Vec Ideal S2048x1024 .bf16) (x1 : Vec Ideal S2048x1024 .bf16) (j : S1024x1024.Idx) :
    k0_pay2 (F := Ideal) acc x0 x1 j = acc j + ∑ k : Fin 2048, x0 (ix2 k (j 0)) * x1 (ix2 k (j 1)) := by
  pointwise [k0_pay2]

/-- The reference's product at one entry. -/
theorem href (x0 : Vec Ideal Cert.ReferenceWindwIdeal.S4096x7168 .bf16) (x1 : Vec Ideal Cert.ReferenceWindwIdeal.S4096x1024 .bf16) (j : Cert.ReferenceWindwIdeal.S7168x1024.Idx) :
    val_main_v8 (F := Ideal) x0 x1 j = ∑ k : Fin 4096, x0 (ix2 k (j 0)) * x1 (ix2 k (j 1)) := by
  pointwise [val_main_v8, val_main_v7, val_main_v6, val_main_v5, val_main_v4, val_main_v1]

/-- What the accumulator holds once the last piece has been added. -/
theorem acc (c : Dev nD) (t : Fin cfg0.N) (h : t.val % 2 = 1) (j : S1024x1024.Idx) :
    (outsAt0 m c t.val t.isLt).2 j = ∑ s : Fin 2, ∑ k : Fin 2048,
      (show Vec Ideal S2048x1024 .bf16 from iblk m c 0 ⟨2 * (t.val / 2) + s.val, Pipeline.run_point_lt_of_flush t h s⟩) (ix2 k (j 0)) * (show Vec Ideal S2048x1024 .bf16 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2) 2 (fun _ => 0)
    (fun p j => ∑ k : Fin 2048, (show Vec Ideal S2048x1024 .bf16 from iblk m c 0 p) (ix2 k (j 0)) * (show Vec Ideal S2048x1024 .bf16 from iblk m c 1 p) (ix2 k (j 1))) ?_ ?_ t h j).trans (zero_add _)
  · intro t h j
    rw [outsAt0_A m c t h (by omega)]; frame_out; rw [hpay, hzero]
  · intro t h j
    rw [outsAt0_B m c t h (by omega)]; frame_out; rw [hpay]; exact congrArg (fun z : EReal => z + _) (congrFun (Memref.IsWhole.read_unread _ _) j)

/-- The block written back is the accumulator. -/
theorem out (c : Dev nD) (t : Fin cfg0.N) (h : t.val % 2 = 1) (j : S1024x1024.Idx) :
    (outsAt0 m c t.val t.isLt).1 j = (outsAt0 m c t.val t.isLt).2 j := by
  rw [outsAt0_B m c t (by omega) h]; frame_out; pointwise [k0_pay3]

/-- The finished array is the reference's result. -/
theorem final2 (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  have h : t.val % 2 = 1 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelWindwIdeal.Grad

end
-- ==== Proof.Windw.Tie.lean ====
/- The gradient of the input projection in its weights: the kernel and the reference return the same array. -/
module

public import proofs.«01_k».proof.Defs
public import proofs.«01_k».proof.Proof.Gen.ReferenceWindwIdeal.Run
public import proofs.«01_k».proof.Proof.Windw.Grad

@[expose] public section

set_option maxRecDepth 16384

noncomputable section

open Idealize.ShloMosaic Idealize.ShloMosaic.TcCoe Idealize.SL.Sem

namespace Cert.KernelWindwIdeal.Grad

open Cert.ReferenceWindwIdeal.Read

/-- From any memories that agree on the arguments, the kernel and the reference terminate, return the
    same arrays and leave their arguments unchanged. -/
theorem tie : algebraic_KernelWindwIdeal_ReferenceWindwIdeal (hKernelWindwIdeal := Cert.KernelWindwIdeal.Gen.facts)
    (hReferenceWindwIdeal := Cert.ReferenceWindwIdeal.Gen.facts) := by
  intro m g m' g' hpre hag
  refine ⟨fun c => (Cert.KernelWindwIdeal.Gen.dats m 0 c).arrAt 2 Cert.KernelWindwIdeal.cfg0.N,
    Cert.KernelWindwIdeal.Value.run_blocks m g, ?_⟩
  refine (θ_run _ _ _).mono (fun r h c => ?_) (Cert.ReferenceWindwIdeal.Value.run m' g')
  obtain ⟨e0, e1⟩ := hag c
  obtain ⟨r0, k0, k1⟩ := h c
  exact ⟨r0.trans ((val_main_v8_eq _ _).trans (by rw [e0, e1]; exact (final2 m c).symm)),
    k0, k1⟩

end Cert.KernelWindwIdeal.Grad

end
-- ==== Proof.Ffnin.Grad.lean ====
/- The two first products of the feed-forward layer and their gated product. -/
module

public import proofs.«01_k».proof.Proof.Gen.KernelFfninIdeal.Value
public import proofs.«01_k».proof.Proof.Gen.ReferenceFfninIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelFfninIdeal.Grad

open Cert.KernelFfninIdeal Cert.KernelFfninIdeal.Gen
open Cert.ReferenceFfninIdeal.Read

variable (m : (ℓ : Loc nD τ sig) → Buf (Elt Ideal) ℓ)

/-- Which block of its array each window holds at grid point `t`: the row block `t / 2` and the column block `t % 2`. -/
theorem idx : ∀ t : Fin cfg0.N, win0_0.index t = ![t.val / 2, 0] ∧ win0_1.index t = ![t.val % 2, 0] ∧ win0_2.index t = ![t.val % 2, 0] ∧ win0_3.index t = ![t.val / 2, t.val % 2] ∧ win0_4.index t = ![t.val / 2, t.val % 2] ∧ win0_5.index t = ![t.val / 2, t.val % 2] :=
  (by decide +kernel : ∀ t : Fin grid0.N, _)

/-- The array written through window 3 ends as the reference's result. -/
theorem final3 (c : Dev nD) : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, k0_pay2, k0_pay3, k0_pay4, k0_pay5, val_main_v7, val_main_v4, val_main_v0, val_main_v3, val_main_v1]
  blk_point [iblk, V, idx t]

/-- The array written through window 4 ends as the reference's result. -/
theorem final4 (c : Dev nD) : (dats m 0 c).arrAt 4 cfg0.N
    = val_main_v8 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay1, k0_pay2, k0_pay3, k0_pay4, k0_pay5, val_main_v8, val_main_v6, val_main_v0, val_main_v5, val_main_v2]
  blk_point [iblk, V, idx t]

/-- The array written through window 5 ends as the reference's result. -/
theorem final5 (c : Dev nD) : (dats m 0 c).arrAt 5 cfg0.N
    = val_main_v11 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, k0_pay4, k0_pay5, val_main_v11, val_main_v10, val_main_v9, val_main_v4, val_main_v0, val_main_v3, val_main_v1, val_main_call0_v5, val_main_call0_v4, val_main_call0_cst_0, val_main_call0_v3, val_main_call0_v2, val_main_call0_cst, val_main_call0_v1, val_main_call0_v0, val_main_v6, val_main_v5, val_main_v2]
  simp only [zero_sub]
  blk_point [iblk, V, idx t]

end Cert.KernelFfninIdeal.Grad

end
-- ==== Proof.Ffnin.Tie.lean ====
/- The two first feed-forward products and their gated product: the kernel and the reference return the same arrays. -/
module

public import proofs.«01_k».proof.Defs
public import proofs.«01_k».proof.Proof.Gen.ReferenceFfninIdeal.Run
public import proofs.«01_k».proof.Proof.Ffnin.Grad

@[expose] public section

set_option maxRecDepth 16384

noncomputable section

open Idealize.ShloMosaic Idealize.ShloMosaic.TcCoe Idealize.SL.Sem

namespace Cert.KernelFfninIdeal.Grad

open Cert.ReferenceFfninIdeal.Read

/-- From any memories that agree on the arguments, the kernel and the reference terminate, return the
    same arrays and leave their arguments unchanged. -/
theorem tie : algebraic_KernelFfninIdeal_ReferenceFfninIdeal (hKernelFfninIdeal := Cert.KernelFfninIdeal.Gen.facts)
    (hReferenceFfninIdeal := Cert.ReferenceFfninIdeal.Gen.facts) := by
  intro m g m' g' hpre hag
  refine ⟨fun c => (Cert.KernelFfninIdeal.Gen.dats m 0 c).arrAt 3 Cert.KernelFfninIdeal.cfg0.N, fun c => (Cert.KernelFfninIdeal.Gen.dats m 0 c).arrAt 4 Cert.KernelFfninIdeal.cfg0.N, fun c => (Cert.KernelFfninIdeal.Gen.dats m 0 c).arrAt 5 Cert.KernelFfninIdeal.cfg0.N,
    Cert.KernelFfninIdeal.Value.run_blocks m g, ?_⟩
  refine (θ_run _ _ _).mono (fun r h c => ?_) (Cert.ReferenceFfninIdeal.Value.run m' g')
  obtain ⟨e0, e1, e2⟩ := hag c
  obtain ⟨r0, r1, r2, k0, k1, k2⟩ := h c
  exact ⟨r0.trans ((val_main_v7_eq _ _).trans (by rw [e0, e1]; exact (final3 m c).symm)),
    r1.trans ((val_main_v8_eq _ _).trans (by rw [e0, e2]; exact (final4 m c).symm)),
    r2.trans ((val_main_v11_eq _ _ _).trans (by rw [e0, e1, e2]; exact (final5 m c).symm)),
    k0, k1, k2⟩

end Cert.KernelFfninIdeal.Grad

end
-- ==== Proof.Down.Grad.lean ====
/- The last product of the feed-forward layer, added to the residual. -/
module

public import proofs.«01_k».proof.Proof.Gen.KernelDownIdeal.Value
public import proofs.«01_k».proof.Proof.Gen.ReferenceDownIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDownIdeal.Grad

open Cert.KernelDownIdeal Cert.KernelDownIdeal.Gen
open Cert.ReferenceDownIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array written through window 3 ends as the reference's result. -/
theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v3, val_main_v2, val_main_v0, val_main_v1]
  refine (add_comm (G := EReal) _ _).trans ?_
  blk_point [iblk, V, idx t]

end Cert.KernelDownIdeal.Grad

end
-- ==== Proof.Down.Tie.lean ====
/- The last feed-forward product with its residual: the kernel and the reference return the same arrays. -/
module

public import proofs.«01_k».proof.Defs
public import proofs.«01_k».proof.Proof.Gen.ReferenceDownIdeal.Run
public import proofs.«01_k».proof.Proof.Down.Grad

@[expose] public section

set_option maxRecDepth 16384

noncomputable section

open Idealize.ShloMosaic Idealize.ShloMosaic.TcCoe Idealize.SL.Sem

namespace Cert.KernelDownIdeal.Grad

open Cert.ReferenceDownIdeal.Read

/-- From any memories that agree on the arguments, the kernel and the reference terminate, return the
    same arrays and leave their arguments unchanged. -/
theorem tie : algebraic_KernelDownIdeal_ReferenceDownIdeal (hKernelDownIdeal := Cert.KernelDownIdeal.Gen.facts)
    (hReferenceDownIdeal := Cert.ReferenceDownIdeal.Gen.facts) := by
  intro m g m' g' hpre hag
  refine ⟨fun c => (Cert.KernelDownIdeal.Gen.dats m 0 c).arrAt 3 Cert.KernelDownIdeal.cfg0.N,
    Cert.KernelDownIdeal.Value.run_blocks m g, ?_⟩
  refine (θ_run _ _ _).mono (fun r h c => ?_) (Cert.ReferenceDownIdeal.Value.run m' g')
  obtain ⟨e0, e1, e2⟩ := hag c
  obtain ⟨r0, k0, k1, k2⟩ := h c
  exact ⟨r0.trans ((val_main_v3_eq _ _ _).trans (by rw [e0, e1, e2]; exact (final3 m c).symm)),
    k0, k1, k2⟩

end Cert.KernelDownIdeal.Grad

end
-- ==== Proof.Downdw.Grad.lean ====
/- The gradient of the last feed-forward product in its weights, summed over four quarters of the rows. -/
module

public import proofs.«01_k».proof.Proof.Gen.KernelDowndwIdeal.Value
public import proofs.«01_k».proof.Proof.Gen.ReferenceDowndwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDowndwIdeal.Grad

open Cert.KernelDowndwIdeal Cert.KernelDowndwIdeal.Gen
open Cert.ReferenceDowndwIdeal.Read

variable (m : (ℓ : Loc nD τ sig) → Buf (Elt Ideal) ℓ)

/-- Which block of its array each window holds at grid point `t`: point `t` adds piece `t % 4` of the contraction to row block `t / 4`. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The sum starts from zero. -/
theorem hzero (j : S1408x1024.Idx) : k0_pay1 (F := Ideal) j = 0 := by
  pointwise [k0_pay1]

/-- One point adds the product of its two blocks. -/
theorem hpay (acc : Vec Ideal S1408x1024 .f32) (x0 : Vec Ideal S1024x1408 .bf16) (x1 : Vec Ideal S1024x1024 .f32) (j : S1408x1024.Idx) :
    k0_pay2 (F := Ideal) acc x0 x1 j = acc j + ∑ k : Fin 1024, x0 (ix2 k (j 0)) * x1 (ix2 k (j 1)) := by
  pointwise [k0_pay2]

/-- The reference's product at one entry. -/
theorem href (x0 : Vec Ideal Cert.ReferenceDowndwIdeal.S4096x2816 .bf16) (x1 : Vec Ideal Cert.ReferenceDowndwIdeal.S4096x1024 .f32) (j : Cert.ReferenceDowndwIdeal.S2816x1024.Idx) :
    val_main_v5 (F := Ideal) x0 x1 j = ∑ k : Fin 4096, x0 (ix2 k (j 0)) * x1 (ix2 k (j 1)) := by
  pointwise [val_main_v5, val_main_v4, val_main_v3, val_main_v1]
  exact Finset.sum_congr rfl fun _ _ => EReal.mul_comm _ _

/-- What the accumulator holds once the last piece has been added. -/
theorem acc (c : Dev nD) (t : Fin cfg0.N) (h : t.val % 4 = 3) (j : S1408x1024.Idx) :
    (outsAt0 m c t.val t.isLt).2 j = ∑ s : Fin 4, ∑ k : Fin 1024,
      (show Vec Ideal S1024x1408 .bf16 from iblk m c 0 ⟨4 * (t.val / 4) + s.val, Pipeline.run_point_lt_of_flush t h s⟩) (ix2 k (j 0)) * (show Vec Ideal S1024x1024 .f32 from iblk m c 1 ⟨4 * (t.val / 4) + s.val, Pipeline.run_point_lt_of_flush t h s⟩) (ix2 k (j 1)) := by
  refine (Pipeline.eq_sum_fin_of_reset_step_apply_of_flush (M := EReal) (fun n h => (outsAt0 m c n h).2) 4 (fun _ => 0)
    (fun p j => ∑ k : Fin 1024, (show Vec Ideal S1024x1408 .bf16 from iblk m c 0 p) (ix2 k (j 0)) * (show Vec Ideal S1024x1024 .f32 from iblk m c 1 p) (ix2 k (j 1))) ?_ ?_ t h j).trans (zero_add _)
  · intro t h j
    rw [outsAt0_A m c t h (by omega)]; frame_out; rw [hpay, hzero]
  · intro t h j
    by_cases h1 : t.val % 4 = 3
    · rw [outsAt0_C m c t h h1]; frame_out; rw [hpay]; exact congrArg (fun z : EReal => z + _) (congrFun (Memref.IsWhole.read_unread _ _) j)
    · rw [outsAt0_B m c t h h1]; frame_out; rw [hpay]; exact congrArg (fun z : EReal => z + _) (congrFun (Memref.IsWhole.read_unread _ _) j)

/-- The block written back is the accumulator. -/
theorem out (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3]

/-- The finished array is the reference's result. -/
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  have h : t.val % 4 = 3 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelDowndwIdeal.Grad

end
-- ==== Proof.Downdw.Tie.lean ====
/- The gradient of the last feed-forward product in its weights: the kernel and the reference return the same array. -/
module

public import proofs.«01_k».proof.Defs
public import proofs.«01_k».proof.Proof.Gen.ReferenceDowndwIdeal.Run
public import proofs.«01_k».proof.Proof.Downdw.Grad

@[expose] public section

set_option maxRecDepth 16384

noncomputable section

open Idealize.ShloMosaic Idealize.ShloMosaic.TcCoe Idealize.SL.Sem

namespace Cert.KernelDowndwIdeal.Grad

open Cert.ReferenceDowndwIdeal.Read

/-- From any memories that agree on the arguments, the kernel and the reference terminate, return the
    same arrays and leave their arguments unchanged. -/
theorem tie : algebraic_KernelDowndwIdeal_ReferenceDowndwIdeal (hKernelDowndwIdeal := Cert.KernelDowndwIdeal.Gen.facts)
    (hReferenceDowndwIdeal := Cert.ReferenceDowndwIdeal.Gen.facts) := by
  intro m g m' g' hpre hag
  refine ⟨fun c => (Cert.KernelDowndwIdeal.Gen.dats m 0 c).arrAt 2 Cert.KernelDowndwIdeal.cfg0.N,
    Cert.KernelDowndwIdeal.Value.run_blocks m g, ?_⟩
  refine (θ_run _ _ _).mono (fun r h c => ?_) (Cert.ReferenceDowndwIdeal.Value.run m' g')
  obtain ⟨e0, e1⟩ := hag c
  obtain ⟨r0, k0, k1⟩ := h c
  exact ⟨r0.trans ((val_main_v5_eq _ _).trans (by rw [e0, e1]; exact (final2 m c).symm)),
    k0, k1⟩

end Cert.KernelDowndwIdeal.Grad

end
-- ==== Proof.Gatedw.Grad.lean ====
/- The gradient of a first feed-forward product in its weights, summed over four quarters of the rows. -/
module

public import proofs.«01_k».proof.Proof.Gen.KernelGatedwIdeal.Value
public import proofs.«01_k».proof.Proof.Gen.ReferenceGatedwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelGatedwIdeal.Grad

open Cert.KernelGatedwIdeal Cert.KernelGatedwIdeal.Gen
open Cert.ReferenceGatedwIdeal.Read

variable (m : (ℓ : Loc nD τ sig) → Buf (Elt Ideal) ℓ)

/-- Which block of its array each window holds at grid point `t`: point `t` adds piece `t % 4` of the contraction to row block `t / 4`. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The sum starts from zero. -/
theorem hzero (j : S1408x1024.Idx) : k0_pay1 (F := Ideal) j = 0 := by
  pointwise [k0_pay1]

/-- One point adds the product of its two blocks. -/
theorem hpay (acc : Vec Ideal S1408x1024 .f32) (x0 : Vec Ideal S1024x1408 .bf16) (x1 : Vec Ideal S1024x1024 .bf16) (j : S1408x1024.Idx) :
    k0_pay2 (F := Ideal) acc x0 x1 j = acc j + ∑ k : Fin 1024, x0 (ix2 k (j 0)) * x1 (ix2 k (j 1)) := by
  pointwise [k0_pay2]

/-- The reference's product at one entry. -/
theorem href (x0 : Vec Ideal Cert.ReferenceGatedwIdeal.S4096x2816 .bf16) (x1 : Vec Ideal Cert.ReferenceGatedwIdeal.S4096x1024 .bf16) (j : Cert.ReferenceGatedwIdeal.S2816x1024.Idx) :
    val_main_v8 (F := Ideal) x0 x1 j = ∑ k : Fin 4096, x0 (ix2 k (j 0)) * x1 (ix2 k (j 1)) := by
  pointwise [val_main_v8, val_main_v7, val_main_v6, val_main_v5, val_main_v4, val_main_v1]

/-- What the accumulator holds once the last piece has been added. -/
theorem acc (c : Dev nD) (t : Fin cfg0.N) (h : t.val % 4 = 3) (j : S1408x1024.Idx) :
    (outsAt0 m c t.val t.isLt).2 j = ∑ s : Fin 4, ∑ k : Fin 1024,
      (show Vec Ideal S1024x1408 .bf16 from iblk m c 0 ⟨4 * (t.val / 4) + s.val, Pipeline.run_point_lt_of_flush t h s⟩) (ix2 k (j 0)) * (show Vec Ideal S1024x1024 .bf16 from iblk m c 1 ⟨4 * (t.val / 4) + s.val, Pipeline.run_point_lt_of_flush t h s⟩) (ix2 k (j 1)) := by
  refine (Pipeline.eq_sum_fin_of_reset_step_apply_of_flush (M := EReal) (fun n h => (outsAt0 m c n h).2) 4 (fun _ => 0)
    (fun p j => ∑ k : Fin 1024, (show Vec Ideal S1024x1408 .bf16 from iblk m c 0 p) (ix2 k (j 0)) * (show Vec Ideal S1024x1024 .bf16 from iblk m c 1 p) (ix2 k (j 1))) ?_ ?_ t h j).trans (zero_add _)
  · intro t h j
    rw [outsAt0_A m c t h (by omega)]; frame_out; rw [hpay, hzero]
  · intro t h j
    by_cases h1 : t.val % 4 = 3
    · rw [outsAt0_C m c t h h1]; frame_out; rw [hpay]; exact congrArg (fun z : EReal => z + _) (congrFun (Memref.IsWhole.read_unread _ _) j)
    · rw [outsAt0_B m c t h h1]; frame_out; rw [hpay]; exact congrArg (fun z : EReal => z + _) (congrFun (Memref.IsWhole.read_unread _ _) j)

/-- The block written back is the accumulator. -/
theorem out (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3]

/-- The finished array is the reference's result. -/
theorem final2 (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  have h : t.val % 4 = 3 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelGatedwIdeal.Grad

end
-- ==== Proof.Gatedw.Tie.lean ====
/- The gradient of a first feed-forward product in its weights: the kernel and the reference return the same array. -/
module

public import proofs.«01_k».proof.Defs
public import proofs.«01_k».proof.Proof.Gen.ReferenceGatedwIdeal.Run
public import proofs.«01_k».proof.Proof.Gatedw.Grad

@[expose] public section

set_option maxRecDepth 16384

noncomputable section

open Idealize.ShloMosaic Idealize.ShloMosaic.TcCoe Idealize.SL.Sem

namespace Cert.KernelGatedwIdeal.Grad

open Cert.ReferenceGatedwIdeal.Read

/-- From any memories that agree on the arguments, the kernel and the reference terminate, return the
    same arrays and leave their arguments unchanged. -/
theorem tie : algebraic_KernelGatedwIdeal_ReferenceGatedwIdeal (hKernelGatedwIdeal := Cert.KernelGatedwIdeal.Gen.facts)
    (hReferenceGatedwIdeal := Cert.ReferenceGatedwIdeal.Gen.facts) := by
  intro m g m' g' hpre hag
  refine ⟨fun c => (Cert.KernelGatedwIdeal.Gen.dats m 0 c).arrAt 2 Cert.KernelGatedwIdeal.cfg0.N,
    Cert.KernelGatedwIdeal.Value.run_blocks m g, ?_⟩
  refine (θ_run _ _ _).mono (fun r h c => ?_) (Cert.ReferenceGatedwIdeal.Value.run m' g')
  obtain ⟨e0, e1⟩ := hag c
  obtain ⟨r0, k0, k1⟩ := h c
  exact ⟨r0.trans ((val_main_v8_eq _ _).trans (by rw [e0, e1]; exact (final2 m c).symm)),
    k0, k1⟩

end Cert.KernelGatedwIdeal.Grad

end
-- ==== Proof.Gatedx.Grad.lean ====
/- The gradient of a first feed-forward product in its argument, summed over the two halves of the inner axis. -/
module

public import proofs.«01_k».proof.Proof.Gen.KernelGatedxIdeal.Value
public import proofs.«01_k».proof.Proof.Gen.ReferenceGatedxIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelGatedxIdeal.Grad

open Cert.KernelGatedxIdeal Cert.KernelGatedxIdeal.Gen
open Cert.ReferenceGatedxIdeal.Read

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The sum starts from zero. -/
theorem hzero (j : S1024x1024.Idx) : k0_pay1 (F := Ideal) j = 0 := by
  pointwise [k0_pay1]

/-- One point adds the product of its two blocks. -/
theorem hpay (acc : Vec Ideal S1024x1024 .f32) (x0 : Vec Ideal S1024x1408 .bf16) (x1 : Vec Ideal S1408x1024 .bf16) (j : S1024x1024.Idx) :
    k0_pay2 (F := Ideal) acc x0 x1 j = acc j + ∑ k : Fin 1408, x0 (ix2 (j 0) k) * x1 (ix2 k (j 1)) := by
  pointwise [k0_pay2]

/-- The reference's product at one entry. -/
theorem href (x0 : Vec Ideal Cert.ReferenceGatedxIdeal.S4096x2816 .bf16) (x1 : Vec Ideal Cert.ReferenceGatedxIdeal.S2816x1024 .bf16) (j : Cert.ReferenceGatedxIdeal.S4096x1024.Idx) :
    val_main_v5 (F := Ideal) x0 x1 j = ∑ k : Fin 2816, x0 (ix2 (j 0) k) * x1 (ix2 k (j 1)) := by
  pointwise [val_main_v5, val_main_v4, val_main_v2, val_main_v1]

/-- What the accumulator holds once the last piece has been added. -/
theorem acc (c : Dev nD) (t : Fin cfg0.N) (h : t.val % 2 = 1) (j : S1024x1024.Idx) :
    (outsAt0 m c t.val t.isLt).2 j = ∑ s : Fin 2, ∑ k : Fin 1408,
      (show Vec Ideal S1024x1408 .bf16 from iblk m c 0 ⟨2 * (t.val / 2) + s.val, Pipeline.run_point_lt_of_flush t h s⟩) (ix2 (j 0) k) * (show Vec Ideal S1408x1024 .bf16 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2) 2 (fun _ => 0)
    (fun p j => ∑ k : Fin 1408, (show Vec Ideal S1024x1408 .bf16 from iblk m c 0 p) (ix2 (j 0) k) * (show Vec Ideal S1408x1024 .bf16 from iblk m c 1 p) (ix2 k (j 1))) ?_ ?_ t h j).trans (zero_add _)
  · intro t h j
    rw [outsAt0_A m c t h (by omega)]; frame_out; rw [hpay, hzero]
  · intro t h j
    rw [outsAt0_B m c t h (by omega)]; frame_out; rw [hpay]; exact congrArg (fun z : EReal => z + _) (congrFun (Memref.IsWhole.read_unread _ _) j)

/-- The block written back is the accumulator. -/
theorem out (c : Dev nD) (t : Fin cfg0.N) (h : t.val % 2 = 1) (j : S1024x1024.Idx) :
    (outsAt0 m c t.val t.isLt).1 j = (outsAt0 m c t.val t.isLt).2 j := by
  rw [outsAt0_B m c t (by omega) h]; frame_out

/-- The finished array is the reference's result. -/
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  have h : t.val % 2 = 1 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelGatedxIdeal.Grad

end
-- ==== Proof.Gatedx.Tie.lean ====
/- The gradient of a first feed-forward product in its argument: the kernel and the reference return the same array. -/
module

public import proofs.«01_k».proof.Defs
public import proofs.«01_k».proof.Proof.Gen.ReferenceGatedxIdeal.Run
public import proofs.«01_k».proof.Proof.Gatedx.Grad

@[expose] public section

set_option maxRecDepth 16384

noncomputable section

open Idealize.ShloMosaic Idealize.ShloMosaic.TcCoe Idealize.SL.Sem

namespace Cert.KernelGatedxIdeal.Grad

open Cert.ReferenceGatedxIdeal.Read

/-- From any memories that agree on the arguments, the kernel and the reference terminate, return the
    same arrays and leave their arguments unchanged. -/
theorem tie : algebraic_KernelGatedxIdeal_ReferenceGatedxIdeal (hKernelGatedxIdeal := Cert.KernelGatedxIdeal.Gen.facts)
    (hReferenceGatedxIdeal := Cert.ReferenceGatedxIdeal.Gen.facts) := by
  intro m g m' g' hpre hag
  refine ⟨fun c => (Cert.KernelGatedxIdeal.Gen.dats m 0 c).arrAt 2 Cert.KernelGatedxIdeal.cfg0.N,
    Cert.KernelGatedxIdeal.Value.run_blocks m g, ?_⟩
  refine (θ_run _ _ _).mono (fun r h c => ?_) (Cert.ReferenceGatedxIdeal.Value.run m' g')
  obtain ⟨e0, e1⟩ := hag c
  obtain ⟨r0, k0, k1⟩ := h c
  exact ⟨r0.trans ((val_main_v5_eq _ _).trans (by rw [e0, e1]; exact (final2 m c).symm)),
    k0, k1⟩

end Cert.KernelGatedxIdeal.Grad

end
-- ==== Proof.Outdx.Grad.lean ====
/- The gradient of the output projection in its argument. -/
module

public import proofs.«01_k».proof.Proof.Gen.KernelOutdxIdeal.Value
public import proofs.«01_k».proof.Proof.Gen.ReferenceOutdxIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutdxIdeal.Grad

open Cert.KernelOutdxIdeal Cert.KernelOutdxIdeal.Gen
open Cert.ReferenceOutdxIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0] ∧ win0_2.index t = ![t.val, 0] :=
  (by decide +kernel : ∀ t : Fin grid0.N, _)

/-- The array written through window 2 ends as the reference's result. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v1]
  blk_point [iblk, V, idx t]

end Cert.KernelOutdxIdeal.Grad

end
-- ==== Proof.Outdx.Tie.lean ====
/- The gradient of the output projection in its argument: the kernel and the reference return the same arrays. -/
module

public import proofs.«01_k».proof.Defs
public import proofs.«01_k».proof.Proof.Gen.ReferenceOutdxIdeal.Run
public import proofs.«01_k».proof.Proof.Outdx.Grad

@[expose] public section

set_option maxRecDepth 16384

noncomputable section

open Idealize.ShloMosaic Idealize.ShloMosaic.TcCoe Idealize.SL.Sem

namespace Cert.KernelOutdxIdeal.Grad

open Cert.ReferenceOutdxIdeal.Read

/-- From any memories that agree on the arguments, the kernel and the reference terminate, return the
    same arrays and leave their arguments unchanged. -/
theorem tie : algebraic_KernelOutdxIdeal_ReferenceOutdxIdeal (hKernelOutdxIdeal := Cert.KernelOutdxIdeal.Gen.facts)
    (hReferenceOutdxIdeal := Cert.ReferenceOutdxIdeal.Gen.facts) := by
  intro m g m' g' hpre hag
  refine ⟨fun c => (Cert.KernelOutdxIdeal.Gen.dats m 0 c).arrAt 2 Cert.KernelOutdxIdeal.cfg0.N,
    Cert.KernelOutdxIdeal.Value.run_blocks m g, ?_⟩
  refine (θ_run _ _ _).mono (fun r h c => ?_) (Cert.ReferenceOutdxIdeal.Value.run m' g')
  obtain ⟨e0, e1⟩ := hag c
  obtain ⟨r0, k0, k1⟩ := h c
  exact ⟨r0.trans ((val_main_v3_eq _ _).trans (by rw [e0, e1]; exact (final2 m c).symm)),
    k0, k1⟩

end Cert.KernelOutdxIdeal.Grad

end
-- ==== Proof.Outdw.Grad.lean ====
/- The gradient of the output projection in its weights, summed over the two halves of the rows. -/
module

public import proofs.«01_k».proof.Proof.Gen.KernelOutdwIdeal.Value
public import proofs.«01_k».proof.Proof.Gen.ReferenceOutdwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutdwIdeal.Grad

open Cert.KernelOutdwIdeal Cert.KernelOutdwIdeal.Gen
open Cert.ReferenceOutdwIdeal.Read

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val, 0] ∧ win0_1.index t = ![t.val, 0] ∧ win0_2.index t = ![0, 0] :=
  (by decide +kernel : ∀ t : Fin grid0.N, _)

/-- The sum starts from zero. -/
theorem hzero (j : S1024x1024.Idx) : k0_pay1 (F := Ideal) j = 0 := by
  pointwise [k0_pay1]

/-- One point adds the product of its two blocks. -/
theorem hpay (acc : Vec Ideal S1024x1024 .f32) (x0 : Vec Ideal S2048x1024 .bf16) (x1 : Vec Ideal S2048x1024 .f32) (j : S1024x1024.Idx) :
    k0_pay2 (F := Ideal) acc x0 x1 j = acc j + ∑ k : Fin 2048, x0 (ix2 k (j 0)) * x1 (ix2 k (j 1)) := by
  pointwise [k0_pay2]

/-- The reference's product at one entry. -/
theorem href (x0 : Vec Ideal Cert.ReferenceOutdwIdeal.S4096x1024 .bf16) (x1 : Vec Ideal Cert.ReferenceOutdwIdeal.S4096x1024 .f32) (j : Cert.ReferenceOutdwIdeal.S1024x1024.Idx) :
    val_main_v5 (F := Ideal) x0 x1 j = ∑ k : Fin 4096, x0 (ix2 k (j 0)) * x1 (ix2 k (j 1)) := by
  pointwise [val_main_v5, val_main_v4, val_main_v3, val_main_v1]
  exact Finset.sum_congr rfl fun _ _ => EReal.mul_comm _ _

/-- What the accumulator holds once the last piece has been added. -/
theorem acc (c : Dev nD) (t : Fin cfg0.N) (h : t.val % 2 = 1) (j : S1024x1024.Idx) :
    (outsAt0 m c t.val t.isLt).2 j = ∑ s : Fin 2, ∑ k : Fin 2048,
      (show Vec Ideal S2048x1024 .bf16 from iblk m c 0 ⟨2 * (t.val / 2) + s.val, Pipeline.run_point_lt_of_flush t h s⟩) (ix2 k (j 0)) * (show Vec Ideal S2048x1024 .f32 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2) 2 (fun _ => 0)
    (fun p j => ∑ k : Fin 2048, (show Vec Ideal S2048x1024 .bf16 from iblk m c 0 p) (ix2 k (j 0)) * (show Vec Ideal S2048x1024 .f32 from iblk m c 1 p) (ix2 k (j 1))) ?_ ?_ t h j).trans (zero_add _)
  · intro t h j
    rw [outsAt0_A m c t h (by omega)]; frame_out; rw [hpay, hzero]
  · intro t h j
    rw [outsAt0_B m c t h (by omega)]; frame_out; rw [hpay]; exact congrArg (fun z : EReal => z + _) (congrFun (Memref.IsWhole.read_unread _ _) j)

/-- The block written back is the accumulator. -/
theorem out (c : Dev nD) (t : Fin cfg0.N) (h : t.val % 2 = 1) (j : S1024x1024.Idx) :
    (outsAt0 m c t.val t.isLt).1 j = (outsAt0 m c t.val t.isLt).2 j := by
  rw [outsAt0_B m c t (by omega) h]; frame_out; pointwise [k0_pay3]

/-- The finished array is the reference's result. -/
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  have h : t.val % 2 = 1 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelOutdwIdeal.Grad

end
-- ==== Proof.Outdw.Tie.lean ====
/- The gradient of the output projection in its weights: the kernel and the reference return the same array. -/
module

public import proofs.«01_k».proof.Defs
public import proofs.«01_k».proof.Proof.Gen.ReferenceOutdwIdeal.Run
public import proofs.«01_k».proof.Proof.Outdw.Grad

@[expose] public section

set_option maxRecDepth 16384

noncomputable section

open Idealize.ShloMosaic Idealize.ShloMosaic.TcCoe Idealize.SL.Sem

namespace Cert.KernelOutdwIdeal.Grad

open Cert.ReferenceOutdwIdeal.Read

/-- From any memories that agree on the arguments, the kernel and the reference terminate, return the
    same arrays and leave their arguments unchanged. -/
theorem tie : algebraic_KernelOutdwIdeal_ReferenceOutdwIdeal (hKernelOutdwIdeal := Cert.KernelOutdwIdeal.Gen.facts)
    (hReferenceOutdwIdeal := Cert.ReferenceOutdwIdeal.Gen.facts) := by
  intro m g m' g' hpre hag
  refine ⟨fun c => (Cert.KernelOutdwIdeal.Gen.dats m 0 c).arrAt 2 Cert.KernelOutdwIdeal.cfg0.N,
    Cert.KernelOutdwIdeal.Value.run_blocks m g, ?_⟩
  refine (θ_run _ _ _).mono (fun r h c => ?_) (Cert.ReferenceOutdwIdeal.Value.run m' g')
  obtain ⟨e0, e1⟩ := hag c
  obtain ⟨r0, k0, k1⟩ := h c
  exact ⟨r0.trans ((val_main_v5_eq _ _).trans (by rw [e0, e1]; exact (final2 m c).symm)),
    k0, k1⟩

end Cert.KernelOutdwIdeal.Grad

end
-- ==== Proof.Mergef.Grad.lean ====
/- The gated merge of three branches. -/
module

public import proofs.«01_k».proof.Proof.Gen.KernelMergefIdeal.Value
public import proofs.«01_k».proof.Proof.Gen.ReferenceMergefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMergefIdeal.Grad

open Cert.KernelMergefIdeal Cert.KernelMergefIdeal.Gen
open Cert.ReferenceMergefIdeal.Read

variable (m : (ℓ : Loc nD τ sig) → Buf (Elt Ideal) ℓ)

/-- Which block of its array each window holds at grid point `t`: row block `t`; the gates are the column blocks 4, 5, 6 of the projection. -/
theorem idx : ∀ t : Fin cfg0.N, win0_0.index t = ![t.val, 0] ∧ win0_1.index t = ![t.val, 0] ∧ win0_2.index t = ![t.val, 0] ∧ win0_3.index t = ![0, 0, 0] ∧ win0_4.index t = ![t.val, 4] ∧ win0_5.index t = ![t.val, 5] ∧ win0_6.index t = ![t.val, 6] ∧ win0_7.index t = ![t.val, 0] :=
  (by decide +kernel : ∀ t : Fin grid0.N, _)

/-- The array written through window 7 ends as the reference's result. -/
theorem final7 (c : Dev nD) : (dats m 0 c).arrAt 7 cfg0.N
    = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  pointwise [k0_pay1, k0_pay2, k0_pay3, val_main_v20, val_main_v19, val_main_v18, val_main_v17, val_main_v16, val_main_cst_0, val_main_v15, val_main_v14, val_main_cst, val_main_v13, val_main_v12, val_main_v11, val_main_v4, val_main_v10, val_main_v9, val_main_v3, val_main_v8, val_main_v5, val_main_v0, val_main_v6, val_main_v1, val_main_v7, val_main_v2, val_main_cst_1]
  simp only [Fin.sum_univ_three, zero_sub, zero_add, Fin.isValue, Fin.coe_ofNat_eq_mod, Nat.zero_mod, Nat.reduceMod]
  refine congrArg₂ (fun x y : EReal => x + y) (congrArg₂ (fun x y : EReal => x + y) ?_ ?_) ?_
  all_goals refine congrArg₂ (fun x y : EReal => x * y) ?_ ((Finset.sum_congr rfl fun x _ => EReal.mul_comm _ _).trans ?_)
  all_goals
  blk_point [iblk, V, idx t]
  all_goals (exfalso; omega)

end Cert.KernelMergefIdeal.Grad

end
-- ==== Proof.Mergef.Tie.lean ====
/- The gated merge of three branches: the kernel and the reference return the same arrays. -/
module

public import proofs.«01_k».proof.Defs
public import proofs.«01_k».proof.Proof.Gen.ReferenceMergefIdeal.Run
public import proofs.«01_k».proof.Proof.Mergef.Grad

@[expose] public section

set_option maxRecDepth 16384

noncomputable section

open Idealize.ShloMosaic Idealize.ShloMosaic.TcCoe Idealize.SL.Sem

namespace Cert.KernelMergefIdeal.Grad

open Cert.ReferenceMergefIdeal.Read

/-- From any memories that agree on the arguments, the kernel and the reference terminate, return the
    same arrays and leave their arguments unchanged. -/
theorem tie : algebraic_KernelMergefIdeal_ReferenceMergefIdeal (hKernelMergefIdeal := Cert.KernelMergefIdeal.Gen.facts)
    (hReferenceMergefIdeal := Cert.ReferenceMergefIdeal.Gen.facts) := by
  intro m g m' g' hpre hag
  refine ⟨fun c => (Cert.KernelMergefIdeal.Gen.dats m 0 c).arrAt 7 Cert.KernelMergefIdeal.cfg0.N,
    Cert.KernelMergefIdeal.Value.run_blocks m g, ?_⟩
  refine (θ_run _ _ _).mono (fun r h c => ?_) (Cert.ReferenceMergefIdeal.Value.run m' g')
  obtain ⟨e0, e1, e2, e3, e4⟩ := hag c
  obtain ⟨r0, k0, k1, k2, k3, k4⟩ := h c
  exact ⟨r0.trans ((val_main_v20_eq _ _ _ _ _).trans (by rw [e0, e1, e2, e3, e4]; exact (final7 m c).symm)),
    k0, k1, k2, k3, k4⟩

end Cert.KernelMergefIdeal.Grad

end
-- ==== Proof.Xaq.Grad.lean ====
/- The query projection of the cross-attention. -/
module

public import proofs.«01_k».proof.Proof.Gen.KernelXaqIdeal.Value
public import proofs.«01_k».proof.Proof.Gen.ReferenceXaqIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXaqIdeal.Grad

open Cert.KernelXaqIdeal Cert.KernelXaqIdeal.Gen
open Cert.ReferenceXaqIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0] ∧ win0_2.index t = ![t.val, 0] :=
  (by decide +kernel : ∀ t : Fin grid0.N, _)

/-- The array written through window 2 ends as the reference's result. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v0, val_main_v1]
  blk_point [iblk, V, idx t]

end Cert.KernelXaqIdeal.Grad

end
-- ==== Proof.Xaq.Tie.lean ====
/- The query projection: the kernel and the reference return the same arrays. -/
module

public import proofs.«01_k».proof.Defs
public import proofs.«01_k».proof.Proof.Gen.ReferenceXaqIdeal.Run
public import proofs.«01_k».proof.Proof.Xaq.Grad

@[expose] public section

set_option maxRecDepth 16384

noncomputable section

open Idealize.ShloMosaic Idealize.ShloMosaic.TcCoe Idealize.SL.Sem

namespace Cert.KernelXaqIdeal.Grad

open Cert.ReferenceXaqIdeal.Read

/-- From any memories that agree on the arguments, the kernel and the reference terminate, return the
    same arrays and leave their arguments unchanged. -/
theorem tie : algebraic_KernelXaqIdeal_ReferenceXaqIdeal (hKernelXaqIdeal := Cert.KernelXaqIdeal.Gen.facts)
    (hReferenceXaqIdeal := Cert.ReferenceXaqIdeal.Gen.facts) := by
  intro m g m' g' hpre hag
  refine ⟨fun c => (Cert.KernelXaqIdeal.Gen.dats m 0 c).arrAt 2 Cert.KernelXaqIdeal.cfg0.N,
    Cert.KernelXaqIdeal.Value.run_blocks m g, ?_⟩
  refine (θ_run _ _ _).mono (fun r h c => ?_) (Cert.ReferenceXaqIdeal.Value.run m' g')
  obtain ⟨e0, e1⟩ := hag c
  obtain ⟨r0, k0, k1⟩ := h c
  exact ⟨r0.trans ((val_main_v3_eq _ _).trans (by rw [e0, e1]; exact (final2 m c).symm)),
    k0, k1⟩

end Cert.KernelXaqIdeal.Grad

end
-- ==== Proof.Outp.Grad.lean ====
/- A product added to the residual. -/
module

public import proofs.«01_k».proof.Proof.Gen.KernelOutpIdeal.Value
public import proofs.«01_k».proof.Proof.Gen.ReferenceOutpIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutpIdeal.Grad

open Cert.KernelOutpIdeal Cert.KernelOutpIdeal.Gen
open Cert.ReferenceOutpIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array written through window 3 ends as the reference's result. -/
theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v3, val_main_v2, val_main_v0, val_main_v1]
  refine (add_comm (G := EReal) _ _).trans ?_
  blk_point [iblk, V, idx t]

end Cert.KernelOutpIdeal.Grad

end
-- ==== Proof.Outp.Tie.lean ====
/- The output projection with its residual: the kernel and the reference return the same arrays. -/
module

public import proofs.«01_k».proof.Defs
public import proofs.«01_k».proof.Proof.Gen.ReferenceOutpIdeal.Run
public import proofs.«01_k».proof.Proof.Outp.Grad

@[expose] public section

set_option maxRecDepth 16384

noncomputable section

open Idealize.ShloMosaic Idealize.ShloMosaic.TcCoe Idealize.SL.Sem

namespace Cert.KernelOutpIdeal.Grad

open Cert.ReferenceOutpIdeal.Read

/-- From any memories that agree on the arguments, the kernel and the reference terminate, return the
    same arrays and leave their arguments unchanged. -/
theorem tie : algebraic_KernelOutpIdeal_ReferenceOutpIdeal (hKernelOutpIdeal := Cert.KernelOutpIdeal.Gen.facts)
    (hReferenceOutpIdeal := Cert.ReferenceOutpIdeal.Gen.facts) := by
  intro m g m' g' hpre hag
  refine ⟨fun c => (Cert.KernelOutpIdeal.Gen.dats m 0 c).arrAt 3 Cert.KernelOutpIdeal.cfg0.N,
    Cert.KernelOutpIdeal.Value.run_blocks m g, ?_⟩
  refine (θ_run _ _ _).mono (fun r h c => ?_) (Cert.ReferenceOutpIdeal.Value.run m' g')
  obtain ⟨e0, e1, e2⟩ := hag c
  obtain ⟨r0, k0, k1, k2⟩ := h c
  exact ⟨r0.trans ((val_main_v3_eq _ _ _).trans (by rw [e0, e1, e2]; exact (final3 m c).symm)),
    k0, k1, k2⟩

end Cert.KernelOutpIdeal.Grad

end
-- ==== Proof.Xaodx.Grad.lean ====
/- The gradient of the cross-attention output projection in its argument. -/
module

public import proofs.«01_k».proof.Proof.Gen.KernelXaodxIdeal.Value
public import proofs.«01_k».proof.Proof.Gen.ReferenceXaodxIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXaodxIdeal.Grad

open Cert.KernelXaodxIdeal Cert.KernelXaodxIdeal.Gen
open Cert.ReferenceXaodxIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0] ∧ win0_2.index t = ![t.val, 0] :=
  (by decide +kernel : ∀ t : Fin grid0.N, _)

/-- The array written through window 2 ends as the reference's result. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v4, val_main_v3, val_main_v1]
  blk_point [iblk, V, idx t]

end Cert.KernelXaodxIdeal.Grad

end
-- ==== Proof.Xaodx.Tie.lean ====
/- The gradient of the cross-attention output projection in its argument: the kernel and the reference return the same arrays. -/
module

public import proofs.«01_k».proof.Defs
public import proofs.«01_k».proof.Proof.Gen.ReferenceXaodxIdeal.Run
public import proofs.«01_k».proof.Proof.Xaodx.Grad

@[expose] public section

set_option maxRecDepth 16384

noncomputable section

open Idealize.ShloMosaic Idealize.ShloMosaic.TcCoe Idealize.SL.Sem

namespace Cert.KernelXaodxIdeal.Grad

open Cert.ReferenceXaodxIdeal.Read

/-- From any memories that agree on the arguments, the kernel and the reference terminate, return the
    same arrays and leave their arguments unchanged. -/
theorem tie : algebraic_KernelXaodxIdeal_ReferenceXaodxIdeal (hKernelXaodxIdeal := Cert.KernelXaodxIdeal.Gen.facts)
    (hReferenceXaodxIdeal := Cert.ReferenceXaodxIdeal.Gen.facts) := by
  intro m g m' g' hpre hag
  refine ⟨fun c => (Cert.KernelXaodxIdeal.Gen.dats m 0 c).arrAt 2 Cert.KernelXaodxIdeal.cfg0.N,
    Cert.KernelXaodxIdeal.Value.run_blocks m g, ?_⟩
  refine (θ_run _ _ _).mono (fun r h c => ?_) (Cert.ReferenceXaodxIdeal.Value.run m' g')
  obtain ⟨e0, e1⟩ := hag c
  obtain ⟨r0, k0, k1⟩ := h c
  exact ⟨r0.trans ((val_main_v4_eq _ _).trans (by rw [e0, e1]; exact (final2 m c).symm)),
    k0, k1⟩

end Cert.KernelXaodxIdeal.Grad

end
-- ==== Proof.Xaqdw.Grad.lean ====
/- The gradient of the query projection in its weights, summed over the two halves of the rows. -/
module

public import proofs.«01_k».proof.Proof.Gen.KernelXaqdwIdeal.Value
public import proofs.«01_k».proof.Proof.Gen.ReferenceXaqdwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXaqdwIdeal.Grad

open Cert.KernelXaqdwIdeal Cert.KernelXaqdwIdeal.Gen
open Cert.ReferenceXaqdwIdeal.Read

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val, 0] ∧ win0_1.index t = ![t.val, 0] ∧ win0_2.index t = ![0, 0] :=
  (by decide +kernel : ∀ t : Fin grid0.N, _)

/-- The sum starts from zero. -/
theorem hzero (j : S1024x1024.Idx) : k0_pay1 (F := Ideal) j = 0 := by
  pointwise [k0_pay1]

/-- One point adds the product of its two blocks. -/
theorem hpay (acc : Vec Ideal S1024x1024 .f32) (x0 : Vec Ideal S2048x1024 .bf16) (x1 : Vec Ideal S2048x1024 .bf16) (j : S1024x1024.Idx) :
    k0_pay2 (F := Ideal) acc x0 x1 j = acc j + ∑ k : Fin 2048, x0 (ix2 k (j 0)) * x1 (ix2 k (j 1)) := by
  pointwise [k0_pay2]

/-- The reference's product at one entry. -/
theorem href (x0 : Vec Ideal Cert.ReferenceXaqdwIdeal.S4096x1024 .bf16) (x1 : Vec Ideal Cert.ReferenceXaqdwIdeal.S4096x1024 .bf16) (j : Cert.ReferenceXaqdwIdeal.S1024x1024.Idx) :
    val_main_v6 (F := Ideal) x0 x1 j = ∑ k : Fin 4096, x0 (ix2 k (j 0)) * x1 (ix2 k (j 1)) := by
  pointwise [val_main_v6, val_main_v5, val_main_v4, val_main_v3, val_main_v1]
  exact Finset.sum_congr rfl fun _ _ => EReal.mul_comm _ _

/-- What the accumulator holds once the last piece has been added. -/
theorem acc (c : Dev nD) (t : Fin cfg0.N) (h : t.val % 2 = 1) (j : S1024x1024.Idx) :
    (outsAt0 m c t.val t.isLt).2 j = ∑ s : Fin 2, ∑ k : Fin 2048,
      (show Vec Ideal S2048x1024 .bf16 from iblk m c 0 ⟨2 * (t.val / 2) + s.val, Pipeline.run_point_lt_of_flush t h s⟩) (ix2 k (j 0)) * (show Vec Ideal S2048x1024 .bf16 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2) 2 (fun _ => 0)
    (fun p j => ∑ k : Fin 2048, (show Vec Ideal S2048x1024 .bf16 from iblk m c 0 p) (ix2 k (j 0)) * (show Vec Ideal S2048x1024 .bf16 from iblk m c 1 p) (ix2 k (j 1))) ?_ ?_ t h j).trans (zero_add _)
  · intro t h j
    rw [outsAt0_A m c t h (by omega)]; frame_out; rw [hpay, hzero]
  · intro t h j
    rw [outsAt0_B m c t h (by omega)]; frame_out; rw [hpay]; exact congrArg (fun z : EReal => z + _) (congrFun (Memref.IsWhole.read_unread _ _) j)

/-- The block written back is the accumulator. -/
theorem out (c : Dev nD) (t : Fin cfg0.N) (h : t.val % 2 = 1) (j : S1024x1024.Idx) :
    (outsAt0 m c t.val t.isLt).1 j = (outsAt0 m c t.val t.isLt).2 j := by
  rw [outsAt0_B m c t (by omega) h]; frame_out; pointwise [k0_pay3]

/-- The finished array is the reference's result. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h : t.val % 2 = 1 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelXaqdwIdeal.Grad

end
-- ==== Proof.Xaqdw.Tie.lean ====
/- The gradient of the query projection in its weights: the kernel and the reference return the same array. -/
module

public import proofs.«01_k».proof.Defs
public import proofs.«01_k».proof.Proof.Gen.ReferenceXaqdwIdeal.Run
public import proofs.«01_k».proof.Proof.Xaqdw.Grad

@[expose] public section

set_option maxRecDepth 16384

noncomputable section

open Idealize.ShloMosaic Idealize.ShloMosaic.TcCoe Idealize.SL.Sem

namespace Cert.KernelXaqdwIdeal.Grad

open Cert.ReferenceXaqdwIdeal.Read

/-- From any memories that agree on the arguments, the kernel and the reference terminate, return the
    same arrays and leave their arguments unchanged. -/
theorem tie : algebraic_KernelXaqdwIdeal_ReferenceXaqdwIdeal (hKernelXaqdwIdeal := Cert.KernelXaqdwIdeal.Gen.facts)
    (hReferenceXaqdwIdeal := Cert.ReferenceXaqdwIdeal.Gen.facts) := by
  intro m g m' g' hpre hag
  refine ⟨fun c => (Cert.KernelXaqdwIdeal.Gen.dats m 0 c).arrAt 2 Cert.KernelXaqdwIdeal.cfg0.N,
    Cert.KernelXaqdwIdeal.Value.run_blocks m g, ?_⟩
  refine (θ_run _ _ _).mono (fun r h c => ?_) (Cert.ReferenceXaqdwIdeal.Value.run m' g')
  obtain ⟨e0, e1⟩ := hag c
  obtain ⟨r0, k0, k1⟩ := h c
  exact ⟨r0.trans ((val_main_v6_eq _ _).trans (by rw [e0, e1]; exact (final2 m c).symm)),
    k0, k1⟩

end Cert.KernelXaqdwIdeal.Grad

end
-- ==== Proof.Branchdw.Grad.lean ====
/- The gradient of a branch projection in its weights, summed over the two halves of the rows. -/
module

public import proofs.«01_k».proof.Proof.Gen.KernelBranchdwIdeal.Value
public import proofs.«01_k».proof.Proof.Gen.ReferenceBranchdwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelBranchdwIdeal.Grad

open Cert.KernelBranchdwIdeal Cert.KernelBranchdwIdeal.Gen
open Cert.ReferenceBranchdwIdeal.Read

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val, 0] ∧ win0_1.index t = ![t.val, 0] ∧ win0_2.index t = ![0, 0] :=
  (by decide +kernel : ∀ t : Fin grid0.N, _)

/-- The sum starts from zero. -/
theorem hzero (j : S512x1024.Idx) : k0_pay1 (F := Ideal) j = 0 := by
  pointwise [k0_pay1]

/-- One point adds the product of its two blocks. -/
theorem hpay (acc : Vec Ideal S512x1024 .f32) (x0 : Vec Ideal S2048x512 .bf16) (x1 : Vec Ideal S2048x1024 .bf16) (j : S512x1024.Idx) :
    k0_pay2 (F := Ideal) acc x0 x1 j = acc j + ∑ k : Fin 2048, x0 (ix2 k (j 0)) * x1 (ix2 k (j 1)) := by
  pointwise [k0_pay2]

/-- The reference's product at one entry. -/
theorem href (x0 : Vec Ideal Cert.ReferenceBranchdwIdeal.S4096x512 .bf16) (x1 : Vec Ideal Cert.ReferenceBranchdwIdeal.S4096x1024 .bf16) (j : Cert.ReferenceBranchdwIdeal.S512x1024.Idx) :
    val_main_v6 (F := Ideal) x0 x1 j = ∑ k : Fin 4096, x0 (ix2 k (j 0)) * x1 (ix2 k (j 1)) := by
  pointwise [val_main_v6, val_main_v5, val_main_v4, val_main_v3, val_main_v1]
  exact Finset.sum_congr rfl fun _ _ => EReal.mul_comm _ _

/-- What the accumulator holds once the last piece has been added. -/
theorem acc (c : Dev nD) (t : Fin cfg0.N) (h : t.val % 2 = 1) (j : S512x1024.Idx) :
    (outsAt0 m c t.val t.isLt).2 j = ∑ s : Fin 2, ∑ k : Fin 2048,
      (show Vec Ideal S2048x512 .bf16 from iblk m c 0 ⟨2 * (t.val / 2) + s.val, Pipeline.run_point_lt_of_flush t h s⟩) (ix2 k (j 0)) * (show Vec Ideal S2048x1024 .bf16 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2) 2 (fun _ => 0)
    (fun p j => ∑ k : Fin 2048, (show Vec Ideal S2048x512 .bf16 from iblk m c 0 p) (ix2 k (j 0)) * (show Vec Ideal S2048x1024 .bf16 from iblk m c 1 p) (ix2 k (j 1))) ?_ ?_ t h j).trans (zero_add _)
  · intro t h j
    rw [outsAt0_A m c t h (by omega)]; frame_out; rw [hpay, hzero]
  · intro t h j
    rw [outsAt0_B m c t h (by omega)]; frame_out; rw [hpay]; exact congrArg (fun z : EReal => z + _) (congrFun (Memref.IsWhole.read_unread _ _) j)

/-- The block written back is the accumulator. -/
theorem out (c : Dev nD) (t : Fin cfg0.N) (h : t.val % 2 = 1) (j : S512x1024.Idx) :
    (outsAt0 m c t.val t.isLt).1 j = (outsAt0 m c t.val t.isLt).2 j := by
  rw [outsAt0_B m c t (by omega) h]; frame_out; pointwise [k0_pay3]

/-- The finished array is the reference's result. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h : t.val % 2 = 1 := (flush0_2 t).mp hf
  rw [after0_2, href, out m c t h, acc m c t h]
  refine Fin.sum_mul_add_congr fun s k hl => ?_
  blk_point [iblk, V, idx t, idx ⟨_, Pipeline.run_point_lt_of_flush t h s⟩]

end Cert.KernelBranchdwIdeal.Grad

end
-- ==== Proof.Branchdw.Tie.lean ====
/- The gradient of a branch projection in its weights: the kernel and the reference return the same array. -/
module

public import proofs.«01_k».proof.Defs
public import proofs.«01_k».proof.Proof.Gen.ReferenceBranchdwIdeal.Run
public import proofs.«01_k».proof.Proof.Branchdw.Grad

@[expose] public section

set_option maxRecDepth 16384

noncomputable section

open Idealize.ShloMosaic Idealize.ShloMosaic.TcCoe Idealize.SL.Sem

namespace Cert.KernelBranchdwIdeal.Grad

open Cert.ReferenceBranchdwIdeal.Read

/-- From any memories that agree on the arguments, the kernel and the reference terminate, return the
    same arrays and leave their arguments unchanged. -/
theorem tie : algebraic_KernelBranchdwIdeal_ReferenceBranchdwIdeal (hKernelBranchdwIdeal := Cert.KernelBranchdwIdeal.Gen.facts)
    (hReferenceBranchdwIdeal := Cert.ReferenceBranchdwIdeal.Gen.facts) := by
  intro m g m' g' hpre hag
  refine ⟨fun c => (Cert.KernelBranchdwIdeal.Gen.dats m 0 c).arrAt 2 Cert.KernelBranchdwIdeal.cfg0.N,
    Cert.KernelBranchdwIdeal.Value.run_blocks m g, ?_⟩
  refine (θ_run _ _ _).mono (fun r h c => ?_) (Cert.ReferenceBranchdwIdeal.Value.run m' g')
  obtain ⟨e0, e1⟩ := hag c
  obtain ⟨r0, k0, k1⟩ := h c
  exact ⟨r0.trans ((val_main_v6_eq _ _).trans (by rw [e0, e1]; exact (final2 m c).symm)),
    k0, k1⟩

end Cert.KernelBranchdwIdeal.Grad

end
-- ==== Proof.Xak.Grad.lean ====
/- The key or value projection of the cross-attention. -/
module

public import proofs.«01_k».proof.Proof.Gen.KernelXakIdeal.Value
public import proofs.«01_k».proof.Proof.Gen.ReferenceXakIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXakIdeal.Grad

open Cert.KernelXakIdeal Cert.KernelXakIdeal.Gen
open Cert.ReferenceXakIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] :=
  (by decide +kernel : ∀ t : Fin grid0.N, _)

/-- The array written through window 2 ends as the reference's result. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v0, val_main_v1]
  blk_point [iblk, V, idx t]

end Cert.KernelXakIdeal.Grad

end
-- ==== Proof.Xak.Tie.lean ====
/- The key or value projection: the kernel and the reference return the same arrays. -/
module

public import proofs.«01_k».proof.Defs
public import proofs.«01_k».proof.Proof.Gen.ReferenceXakIdeal.Run
public import proofs.«01_k».proof.Proof.Xak.Grad

@[expose] public section

set_option maxRecDepth 16384

noncomputable section

open Idealize.ShloMosaic Idealize.ShloMosaic.TcCoe Idealize.SL.Sem

namespace Cert.KernelXakIdeal.Grad

open Cert.ReferenceXakIdeal.Read

/-- From any memories that agree on the arguments, the kernel and the reference terminate, return the
    same arrays and leave their arguments unchanged. -/
theorem tie : algebraic_KernelXakIdeal_ReferenceXakIdeal (hKernelXakIdeal := Cert.KernelXakIdeal.Gen.facts)
    (hReferenceXakIdeal := Cert.ReferenceXakIdeal.Gen.facts) := by
  intro m g m' g' hpre hag
  refine ⟨fun c => (Cert.KernelXakIdeal.Gen.dats m 0 c).arrAt 2 Cert.KernelXakIdeal.cfg0.N,
    Cert.KernelXakIdeal.Value.run_blocks m g, ?_⟩
  refine (θ_run _ _ _).mono (fun r h c => ?_) (Cert.ReferenceXakIdeal.Value.run m' g')
  obtain ⟨e0, e1⟩ := hag c
  obtain ⟨r0, k0, k1⟩ := h c
  exact ⟨r0.trans ((val_main_v3_eq _ _).trans (by rw [e0, e1]; exact (final2 m c).symm)),
    k0, k1⟩

end Cert.KernelXakIdeal.Grad

end
-- ==== Proof.Xakdw.Grad.lean ====
/- The gradient of the key or value projection in its weights. -/
module

public import proofs.«01_k».proof.Proof.Gen.KernelXakdwIdeal.Value
public import proofs.«01_k».proof.Proof.Gen.ReferenceXakdwIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXakdwIdeal.Grad

open Cert.KernelXakdwIdeal Cert.KernelXakdwIdeal.Gen
open Cert.ReferenceXakdwIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] :=
  (by decide +kernel : ∀ t : Fin grid0.N, _)

/-- The array written through window 2 ends as the reference's result. -/
theorem final2 (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v5, val_main_v4, val_main_v3, val_main_v1]
  refine (Finset.sum_congr (M := EReal) rfl fun x _ => EReal.mul_comm _ _).trans ?_
  blk_point [iblk, V, idx t]

end Cert.KernelXakdwIdeal.Grad

end
-- ==== Proof.Xakdw.Tie.lean ====
/- The gradient of the key or value projection in its weights: the kernel and the reference return the same arrays. -/
module

public import proofs.«01_k».proof.Defs
public import proofs.«01_k».proof.Proof.Gen.ReferenceXakdwIdeal.Run
public import proofs.«01_k».proof.Proof.Xakdw.Grad

@[expose] public section

set_option maxRecDepth 16384

noncomputable section

open Idealize.ShloMosaic Idealize.ShloMosaic.TcCoe Idealize.SL.Sem

namespace Cert.KernelXakdwIdeal.Grad

open Cert.ReferenceXakdwIdeal.Read

/-- From any memories that agree on the arguments, the kernel and the reference terminate, return the
    same arrays and leave their arguments unchanged. -/
theorem tie : algebraic_KernelXakdwIdeal_ReferenceXakdwIdeal (hKernelXakdwIdeal := Cert.KernelXakdwIdeal.Gen.facts)
    (hReferenceXakdwIdeal := Cert.ReferenceXakdwIdeal.Gen.facts) := by
  intro m g m' g' hpre hag
  refine ⟨fun c => (Cert.KernelXakdwIdeal.Gen.dats m 0 c).arrAt 2 Cert.KernelXakdwIdeal.cfg0.N,
    Cert.KernelXakdwIdeal.Value.run_blocks m g, ?_⟩
  refine (θ_run _ _ _).mono (fun r h c => ?_) (Cert.ReferenceXakdwIdeal.Value.run m' g')
  obtain ⟨e0, e1⟩ := hag c
  obtain ⟨r0, k0, k1⟩ := h c
  exact ⟨r0.trans ((val_main_v5_eq _ _).trans (by rw [e0, e1]; exact (final2 m c).symm)),
    k0, k1⟩

end Cert.KernelXakdwIdeal.Grad

end
-- ==== Proof.Xakdx.Grad.lean ====
/- The gradient of the key projection in its argument. -/
module

public import proofs.«01_k».proof.Proof.Gen.KernelXakdxIdeal.Value
public import proofs.«01_k».proof.Proof.Gen.ReferenceXakdxIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXakdxIdeal.Grad

open Cert.KernelXakdxIdeal Cert.KernelXakdxIdeal.Gen
open Cert.ReferenceXakdxIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] :=
  (by decide +kernel : ∀ t : Fin grid0.N, _)

/-- The array written through window 2 ends as the reference's result. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v1]
  blk_point [iblk, V, idx t]

end Cert.KernelXakdxIdeal.Grad

end
-- ==== Proof.Xakdx.Tie.lean ====
/- The gradient of the key projection in its argument: the kernel and the reference return the same arrays. -/
module

public import proofs.«01_k».proof.Defs
public import proofs.«01_k».proof.Proof.Gen.ReferenceXakdxIdeal.Run
public import proofs.«01_k».proof.Proof.Xakdx.Grad

@[expose] public section

set_option maxRecDepth 16384

noncomputable section

open Idealize.ShloMosaic Idealize.ShloMosaic.TcCoe Idealize.SL.Sem

namespace Cert.KernelXakdxIdeal.Grad

open Cert.ReferenceXakdxIdeal.Read

/-- From any memories that agree on the arguments, the kernel and the reference terminate, return the
    same arrays and leave their arguments unchanged. -/
theorem tie : algebraic_KernelXakdxIdeal_ReferenceXakdxIdeal (hKernelXakdxIdeal := Cert.KernelXakdxIdeal.Gen.facts)
    (hReferenceXakdxIdeal := Cert.ReferenceXakdxIdeal.Gen.facts) := by
  intro m g m' g' hpre hag
  refine ⟨fun c => (Cert.KernelXakdxIdeal.Gen.dats m 0 c).arrAt 2 Cert.KernelXakdxIdeal.cfg0.N,
    Cert.KernelXakdxIdeal.Value.run_blocks m g, ?_⟩
  refine (θ_run _ _ _).mono (fun r h c => ?_) (Cert.ReferenceXakdxIdeal.Value.run m' g')
  obtain ⟨e0, e1⟩ := hag c
  obtain ⟨r0, k0, k1⟩ := h c
  exact ⟨r0.trans ((val_main_v3_eq _ _).trans (by rw [e0, e1]; exact (final2 m c).symm)),
    k0, k1⟩

end Cert.KernelXakdxIdeal.Grad

end
-- ==== Proof.Xavdx.Grad.lean ====
/- The gradient of the value projection in its argument, added to that of the keys. -/
module

public import proofs.«01_k».proof.Proof.Gen.KernelXavdxIdeal.Value
public import proofs.«01_k».proof.Proof.Gen.ReferenceXavdxIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXavdxIdeal.Grad

open Cert.KernelXavdxIdeal Cert.KernelXavdxIdeal.Gen
open Cert.ReferenceXavdxIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The array written through window 3 ends as the reference's result. -/
theorem final3 (c : Dev nD) : (dats m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v4, val_main_v3, val_main_v1]
  refine (add_comm (G := EReal) _ _).trans ?_
  blk_point [iblk, V, idx t]

end Cert.KernelXavdxIdeal.Grad

end
-- ==== Proof.Xavdx.Tie.lean ====
/- The gradient of the value projection in its argument: the kernel and the reference return the same arrays. -/
module

public import proofs.«01_k».proof.Defs
public import proofs.«01_k».proof.Proof.Gen.ReferenceXavdxIdeal.Run
public import proofs.«01_k».proof.Proof.Xavdx.Grad

@[expose] public section

set_option maxRecDepth 16384

noncomputable section

open Idealize.ShloMosaic Idealize.ShloMosaic.TcCoe Idealize.SL.Sem

namespace Cert.KernelXavdxIdeal.Grad

open Cert.ReferenceXavdxIdeal.Read

/-- From any memories that agree on the arguments, the kernel and the reference terminate, return the
    same arrays and leave their arguments unchanged. -/
theorem tie : algebraic_KernelXavdxIdeal_ReferenceXavdxIdeal (hKernelXavdxIdeal := Cert.KernelXavdxIdeal.Gen.facts)
    (hReferenceXavdxIdeal := Cert.ReferenceXavdxIdeal.Gen.facts) := by
  intro m g m' g' hpre hag
  refine ⟨fun c => (Cert.KernelXavdxIdeal.Gen.dats m 0 c).arrAt 3 Cert.KernelXavdxIdeal.cfg0.N,
    Cert.KernelXavdxIdeal.Value.run_blocks m g, ?_⟩
  refine (θ_run _ _ _).mono (fun r h c => ?_) (Cert.ReferenceXavdxIdeal.Value.run m' g')
  obtain ⟨e0, e1, e2⟩ := hag c
  obtain ⟨r0, k0, k1, k2⟩ := h c
  exact ⟨r0.trans ((val_main_v4_eq _ _ _).trans (by rw [e0, e1, e2]; exact (final3 m c).symm)),
    k0, k1, k2⟩

end Cert.KernelXavdxIdeal.Grad

end
-- ==== Proof.Rms.lean ====
/- The gradient of a row's normalisation by its root mean square, in the kernels' form and in the
   reference's: at real numbers the two are equal. -/
module

public import proofs.«01_k».proof.Proof.Finite

@[expose] public section

noncomputable section

open Idealize.ShloMosaic Idealize.ShloMosaic.TcCoe

namespace Cert.Rms

open Cert.Finite

/-- The length of a row. -/
abbrev len : EReal := Ideal.ofBits .f32 0x44800000#32

/-- What is added to the mean square. -/
abbrev eps : EReal := Ideal.ofBits .f32 0x358637BD#32

/-- The factor of the derivative of the reciprocal root. -/
abbrev half : EReal := Ideal.ofBits .f32 0xBF000000#32

/-- The mean square of a row, kept above zero. -/
def ms (x : Fin 1024 → EReal) : EReal := Ideal.div (∑ k, x k * x k) len + eps

/-- The reciprocal of a row's root mean square. -/
def rs (x : Fin 1024 → EReal) : EReal := Ideal.rsqrt (ms x)

/-- The gradient in entry `j` as the kernels compute it: `x` is the row, `r` the cotangent, `g` the
    gain, `d` the gradient that is already there. -/
def kdx (x r g : Fin 1024 → EReal) (d : EReal) (j : Fin 1024) : EReal :=
  d + rs x * (r j * g j - x j * rs x * Ideal.div (∑ k, r k * g k * (x k * rs x)) len)

/-- The derivative through the mean square, as the reference computes it. -/
def through (x r g : Fin 1024 → EReal) : EReal :=
  Ideal.div ((∑ k, x k * (r k * g k)) * (half * Ideal.div (rs x) (ms x))) len

/-- The gradient in entry `j` as the reference computes it. -/
def rdx (x r g : Fin 1024 → EReal) (d : EReal) (j : Fin 1024) : EReal :=
  d + (r j * g j * rs x + x j * through x r g + through x r g * x j)

theorem len_eq : len = ((1024 : ℝ) : EReal) := by
  simp [len, Ideal.ofBits, Ideal.ieee]
  rw [← EReal.coe_mul]; norm_num

theorem half_eq : half = ((-(1 / 2) : ℝ) : EReal) := by
  simp [half, Ideal.ofBits, Ideal.ieee]
  rw [← EReal.coe_mul]; norm_num

theorem eps_pos : ∃ e : ℝ, 0 < e ∧ eps = (e : EReal) := by
  refine ⟨8796093 * (1 / 8796093022208), by norm_num, ?_⟩
  simp [eps, Ideal.ofBits, Ideal.ieee]
  norm_num

theorem coe_sum {n : ℕ} (f : Fin n → ℝ) : ∑ k, (f k : EReal) = ((∑ k, f k : ℝ) : EReal) := by
  induction n with
  | zero => simp
  | succ n ih => rw [Fin.sum_univ_castSucc, ih, Fin.sum_univ_castSucc, EReal.coe_add]

/-- At real numbers the two forms agree. -/
theorem law {x r g : Fin 1024 → EReal} (hx : ∀ k, Fin1 (x k)) (hr : ∀ k, Fin1 (r k)) (hg : ∀ k, Fin1 (g k))
    (d : EReal) (j : Fin 1024) : kdx x r g d j = rdx x r g d j := by
  choose x' hx using hx
  choose r' hr using hr
  choose g' hg using hg
  obtain rfl : x = fun k => (x' k : EReal) := funext hx
  obtain rfl : r = fun k => (r' k : EReal) := funext hr
  obtain rfl : g = fun k => (g' k : EReal) := funext hg
  obtain ⟨e, he, ee⟩ := eps_pos
  have hv : 0 < (∑ k, x' k * x' k) * (1 / 1024) + e :=
    add_pos_of_nonneg_of_pos (mul_nonneg (Finset.sum_nonneg fun k _ => mul_self_nonneg _) (by norm_num)) he
  have hm : ms (fun k => (x' k : EReal)) = (((∑ k, x' k * x' k) * (1 / 1024) + e : ℝ) : EReal) := by
    unfold ms
    rw [ee, len_eq, Ideal.div_coe (by norm_num)]
    simp only [← EReal.coe_mul, coe_sum, ← EReal.coe_add]
  generalize hV : (∑ k, x' k * x' k) * (1 / 1024) + e = v at hv hm
  have hs : rs (fun k => (x' k : EReal)) = (((Real.sqrt v)⁻¹ : ℝ) : EReal) := by
    unfold rs
    rw [hm, Ideal.rsqrt_coe, if_neg (not_lt.mpr hv.le), if_neg hv.ne']
  have hq : 1 / v = (Real.sqrt v)⁻¹ * (Real.sqrt v)⁻¹ := by
    rw [← mul_inv, Real.mul_self_sqrt hv.le, one_div]
  unfold kdx rdx through
  rw [hm, hs, half_eq, len_eq]
  simp only [Ideal.div_coe (show (1024 : ℝ) ≠ 0 by norm_num), Ideal.div_coe hv.ne']
  rw [hq]
  generalize (Real.sqrt v)⁻¹ = s
  simp only [← EReal.coe_mul, coe_sum, ← EReal.coe_sub, ← EReal.coe_add]
  congr 2
  have e1 : ∑ k, r' k * g' k * (x' k * s) = (∑ k, x' k * (r' k * g' k)) * s := by
    rw [Finset.sum_mul]; exact Finset.sum_congr rfl fun k _ => by ring
  rw [e1]
  ring

theorem kdx_congr {x x' r r' g g' : Fin 1024 → EReal} {d d' : EReal} {j j' : Fin 1024} (hx : ∀ k, x k = x' k)
    (hr : ∀ k, r k = r' k) (hg : ∀ k, g k = g' k) (hd : d = d') (hj : j = j') : kdx x r g d j = kdx x' r' g' d' j' := by
  rw [funext hx, funext hr, funext hg, hd, hj]

/-- One row's part of the gradient of the gain. -/
def gain (x r : Fin 1024 → EReal) (j : Fin 1024) : EReal := r j * (x j * rs x)

theorem gain_congr {x x' r r' : Fin 1024 → EReal} {j j' : Fin 1024} (hx : ∀ k, x k = x' k)
    (hr : ∀ k, r k = r' k) (hj : j = j') : gain x r j = gain x' r' j' := by
  rw [funext hx, funext hr, hj]

end Cert.Rms

end
-- ==== Proof.Xaqdx.Refd.lean ====
/- The reference's two arrays for this call, read one entry at a time: the gradient through the
   normalisation of a row and the gradient of the gain. -/
module

public import proofs.«01_k».proof.Proof.Rms
public import proofs.«01_k».proof.Proof.Gen.ReferenceXaqdxIdeal.Read
public import Idealize.ShloMosaic.Lib.Pointwise

@[expose] public section

set_option maxRecDepth 16384

noncomputable section

open Idealize.ShloMosaic Idealize.ShloMosaic.TcCoe Idealize.SL.Sem

namespace Cert.KernelXaqdxIdeal.Refd

open Cert.ReferenceXaqdxIdeal.Read Cert.Rms

/-- One entry of the gradient in the rows. -/
theorem hdx (x0 : Vec Ideal Cert.ReferenceXaqdxIdeal.S4096x1024 .bf16) (x1 : Vec Ideal Cert.ReferenceXaqdxIdeal.S1024x1024 .bf16) (x2 : Vec Ideal Cert.ReferenceXaqdxIdeal.S4096x1024 .f32) (x3 : Vec Ideal Cert.ReferenceXaqdxIdeal.S1x1024 .f32) (x4 : Vec Ideal Cert.ReferenceXaqdxIdeal.S4096x1024 .f32) (j : Cert.ReferenceXaqdxIdeal.S4096x1024.Idx) :
    val_main_v38 (F := Ideal) x0 x1 x2 x3 x4 j = rdx (fun k => x2 (ix2 (j 0) k)) (fun k => val_main_v18 (F := Ideal) x0 x1 (ix2 (j 0) k))
      (fun k => x3 (ix2 0 k)) (x4 j) (j 1) := by
  generalize hR : val_main_v18 (F := Ideal) x0 x1 = y
  pointwise [val_main_v38, val_main_v37, val_main_v35, val_main_v28, val_main_v23, val_main_v22, val_main_v27, val_main_v7, val_main_v6, val_main_v4, val_main_v2, val_main_v1, val_main_v0, val_main_cst, val_main_v3, val_main_cst_0, val_main_v5, val_main_cst_1, val_main_v34, val_main_v33, val_main_v32, val_main_v31, val_main_v29, val_main_v26, val_main_v25, val_main_v24, val_main_cst_4, val_main_v10, val_main_v9, val_main_cst_2, val_main_v8, val_main_v30, val_main_cst_5, val_main_cst_6, val_main_v36]
  simp only [hR]
  unfold rdx through rs ms
  have hj : (ix2 (j 0) (j 1) : Cert.ReferenceXaqdxIdeal.S4096x1024.Idx) = j := funext fun a => by match a with | 0 => rfl | 1 => rfl
  simp only [Fin.sum_univ_one, zero_add, hj]

/-- One entry of the gradient of the gain. -/
theorem hdg (x0 : Vec Ideal Cert.ReferenceXaqdxIdeal.S4096x1024 .bf16) (x1 : Vec Ideal Cert.ReferenceXaqdxIdeal.S1024x1024 .bf16) (x2 : Vec Ideal Cert.ReferenceXaqdxIdeal.S4096x1024 .f32) (j : Cert.ReferenceXaqdxIdeal.S1x1024.Idx) :
    val_main_v21 (F := Ideal) x0 x1 x2 j = ∑ k : Fin 4096, gain (fun l => x2 (ix2 k l)) (fun l => val_main_v18 (F := Ideal) x0 x1 (ix2 k l)) (j 1) := by
  generalize hR : val_main_v18 (F := Ideal) x0 x1 = y
  pointwise [val_main_v21, val_main_v20, val_main_v19, val_main_v12, val_main_v11, val_main_v7, val_main_v6, val_main_v4, val_main_v2, val_main_v1, val_main_v0, val_main_cst, val_main_v3, val_main_cst_0, val_main_v5, val_main_cst_1, val_main_cst_3]
  simp only [hR]
  unfold gain rs ms
  simp only [zero_add]
  exact Finset.sum_congr rfl fun _ _ => EReal.mul_comm _ _

end Cert.KernelXaqdxIdeal.Refd

end
-- ==== Proof.Xaqdx.Grad.lean ====
/- The gradient of the query projection in its argument, carried through the normalisation of the rows:
   what each grid point writes, and the gain's gradient summed over the grid. -/
module

public import proofs.«01_k».proof.Proof.Xaqdx.Refd
public import proofs.«01_k».proof.Proof.Gen.KernelXaqdxIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelXaqdxIdeal.Grad

open Cert.KernelXaqdxIdeal Cert.KernelXaqdxIdeal.Gen
open Cert.ReferenceXaqdxIdeal.Read Cert.Rms Cert.Finite

variable (m : (ℓ : Loc nD τ sig) → Buf (Elt Ideal) ℓ)

/-- Which block of its array each window holds at grid point `t`: row block `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The product of a block's rows with the transposed weights. -/
theorem hprod (x0 x1 : Vec Ideal S1024x1024 .bf16) (j : S1024x1024.Idx) :
    k0_pay2 (F := Ideal) x0 x1 j = ∑ k : Fin 1024, x0 (ix2 (j 0) k) * x1 (ix2 (j 1) k) := by
  pointwise [k0_pay2]

/-- The reference's product at one entry. -/
theorem href (x0 : Vec Ideal Cert.ReferenceXaqdxIdeal.S4096x1024 .bf16)
    (x1 : Vec Ideal Cert.ReferenceXaqdxIdeal.S1024x1024 .bf16) (j : Cert.ReferenceXaqdxIdeal.S4096x1024.Idx) :
    val_main_v18 (F := Ideal) x0 x1 j = ∑ k : Fin 1024, x0 (ix2 (j 0) k) * x1 (ix2 (j 1) k) := by
  pointwise [val_main_v18, val_main_v17, val_main_v15]

/-- The reference's product of real numbers is real. -/
theorem hfin {x0 : Vec Ideal Cert.ReferenceXaqdxIdeal.S4096x1024 .bf16} {x1 : Vec Ideal Cert.ReferenceXaqdxIdeal.S1024x1024 .bf16}
    (h0 : ∀ i, Fin1 (x0 i)) (h1 : ∀ i, Fin1 (x1 i)) (j : Cert.ReferenceXaqdxIdeal.S4096x1024.Idx) :
    Fin1 (val_main_v18 (F := Ideal) x0 x1 j) := by
  rw [href]; exact .sum fun k => .mul (h0 _) (h1 _)

/-- What one point writes to its block of the gradient. -/
theorem hdx (x0 x1 : Vec Ideal S1024x1024 .bf16) (x2 : Vec Ideal S1024x1024 .f32) (x3 : Vec Ideal S1x1024 .f32)
    (x4 : Vec Ideal S1024x1024 .f32) (j : S1024x1024.Idx) :
    k0_pay1 (F := Ideal) (k0_pay4 x2) (k0_pay5 x2) (k0_pay7 x0 x1 x3) x4 (k0_pay8 x0 x1 x2 x3) k0_pay9 j
      = kdx (fun k => x2 (ix2 (j 0) k)) (fun k => k0_pay2 (F := Ideal) x0 x1 (ix2 (j 0) k)) (fun k => x3 (ix2 0 k)) (x4 j) (j 1) := by
  unfold k0_pay7 k0_pay8 k0_pay7
  generalize hR : k0_pay2 (F := Ideal) x0 x1 = y
  pointwise [k0_pay1, k0_pay4, k0_pay5, k0_pay9]
  have hj : (ix2 (j 0) (j 1) : S1024x1024.Idx) = j := funext fun a => by match a with | 0 => rfl | 1 => rfl
  unfold kdx rs ms
  simp only [hj]

/-- The gain's gradient starts from zero. -/
theorem hzero (j : S1x1024.Idx) : k0_pay3 (F := Ideal) j = 0 := by
  pointwise [k0_pay3]

/-- What one point adds to the gain's gradient. -/
theorem hdg (x0 x1 : Vec Ideal S1024x1024 .bf16) (x2 : Vec Ideal S1024x1024 .f32) (acc : Vec Ideal S1x1024 .f32) (j : S1x1024.Idx) :
    k0_pay6 (F := Ideal) x0 x1 x2 acc j
      = acc j + ∑ k : Fin 1024, gain (fun l => x2 (ix2 k l)) (fun l => k0_pay2 (F := Ideal) x0 x1 (ix2 k l)) (j 1) := by
  unfold k0_pay6
  generalize hR : k0_pay2 (F := Ideal) x0 x1 = y
  pointwise [k0_pay4, k0_pay5]
  unfold gain rs ms
  rfl

/-- The finished gradient in the rows is the reference's. -/
theorem final5 (c : Dev nD)
    (h0 : ∀ i, Fin1 (m ((c : Thread nD τ).loc main_arg0) i)) (h1 : ∀ i, Fin1 (m ((c : Thread nD τ).loc main_arg1) i))
    (h2 : ∀ i, Fin1 (m ((c : Thread nD τ).loc main_arg2) i)) (h3 : ∀ i, Fin1 (m ((c : Thread nD τ).loc main_arg3) i)) :
    (dats m 0 c).arrAt 5 cfg0.N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, Refd.hdx]
  refine Eq.trans ?_ (law (fun k => h2 _) (fun k => hfin h0 h1 _) (fun k => h3 _) _ _)
  by_cases h : t.val % 4 = 0
  · rw [outsAt0_A m c t h]; frame_out; rw [hdx]
    refine kdx_congr (fun k => ?_) (fun k => ?_) (fun k => ?_) ?_ ?_
    · blk_point [iblk, V, idx t]
    · rw [href, hprod]; refine Finset.sum_congr rfl fun l _ => ?_
      blk_point [iblk, V, idx t]
    · blk_point [iblk, V, idx t]
    · blk_point [iblk, V, idx t]
    · apply Fin.ext; blk_simp [idx t]
  · rw [outsAt0_B m c t h]; frame_out; rw [hdx]
    refine kdx_congr (fun k => ?_) (fun k => ?_) (fun k => ?_) ?_ ?_
    · blk_point [iblk, V, idx t]
    · rw [href, hprod]; refine Finset.sum_congr rfl fun l _ => ?_
      blk_point [iblk, V, idx t]
    · blk_point [iblk, V, idx t]
    · blk_point [iblk, V, idx t]
    · apply Fin.ext; blk_simp [idx t]

/-- What the gain's gradient holds once the last row block has been added. -/
theorem acc (c : Dev nD) (t : Fin cfg0.N) (h : t.val % 4 = 3) (j : S1x1024.Idx) :
    (outsAt0 m c t.val t.isLt).2 j = ∑ s : Fin 4, ∑ k : Fin 1024,
      gain (fun l => (show Vec Ideal S1024x1024 .f32 from iblk m c 2 ⟨4 * (t.val / 4) + s.val, Pipeline.run_point_lt_of_flush t h s⟩) (ix2 k l))
        (fun l => k0_pay2 (F := Ideal) (iblk m c 0 ⟨4 * (t.val / 4) + s.val, Pipeline.run_point_lt_of_flush t h s⟩)
          (iblk m c 1 ⟨4 * (t.val / 4) + s.val, Pipeline.run_point_lt_of_flush t h s⟩) (ix2 k l)) (j 1) := by
  refine (Pipeline.eq_sum_fin_of_reset_step_apply_of_flush (M := EReal) (fun n h => (outsAt0 m c n h).2) 4 (fun _ => 0)
    (fun p j => ∑ k : Fin 1024, gain (fun l => (show Vec Ideal S1024x1024 .f32 from iblk m c 2 p) (ix2 k l))
        (fun l => k0_pay2 (F := Ideal) (iblk m c 0 p) (iblk m c 1 p) (ix2 k l)) (j 1)) ?_ ?_ t h j).trans (zero_add _)
  · intro t h j
    rw [outsAt0_A m c t h]; frame_out; rw [hdg, hzero]
  · intro t h j
    rw [outsAt0_B m c t h]; frame_out; rw [hdg]

/-- The finished gradient of the gain is the reference's. -/
theorem final6 (c : Dev nD) : (dats m 0 c).arrAt 6 cfg0.N
    = val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  have h : t.val % 4 = 3 := (flush0_6 t).mp hf
  rw [after0_6, Refd.hdg, acc m c t h]
  refine Fin.sum_mul_add_congr fun s k hl => ?_
  refine gain_congr (fun l => ?_) (fun l => ?_) ?_
  · blk_point [iblk, V, idx t, idx ⟨_, Pipeline.run_point_lt_of_flush t h s⟩]
  · rw [href, hprod]; refine Finset.sum_congr rfl fun k _ => ?_
    blk_point [iblk, V, idx t, idx ⟨_, Pipeline.run_point_lt_of_flush t h s⟩]
  · apply Fin.ext; blk_simp [idx t]

end Cert.KernelXaqdxIdeal.Grad

end
-- ==== Proof.Xaqdx.Tie.lean ====
/- The gradient in the argument of the cross-attention query projection: the kernel and the reference return the same two arrays. -/
module

public import proofs.«01_k».proof.Defs
public import proofs.«01_k».proof.Proof.Gen.ReferenceXaqdxIdeal.Run
public import proofs.«01_k».proof.Proof.Xaqdx.Grad

@[expose] public section

set_option maxRecDepth 16384

noncomputable section

open Idealize.ShloMosaic Idealize.ShloMosaic.TcCoe Idealize.SL.Sem

namespace Cert.KernelXaqdxIdeal.Grad

open Cert.ReferenceXaqdxIdeal.Read

open Cert.Finite

/-- The shape relations the precondition takes. -/
theorem preFacts : Cert.Pre_finite_xaqdx.Facts where
  bcast_S_S4096x1024 := by decide
  reducesTo_S4096x1024_S_d0_1 := by decide
  h_S_ := by decide
  bcast_S_S1024x1024 := by decide
  reducesTo_S1024x1024_S_d0_1 := by decide
  bcast_S_S1x1024 := by decide
  reducesTo_S1x1024_S_d0_1 := by decide

instance : Subsingleton Cert.Pre_finite_xaqdx.S_.Idx := ⟨fun a b => funext fun k => k.elim0⟩

/-- Under the precondition the arguments it names hold real numbers. -/
theorem fin (m : (ℓ : Loc Cert.KernelXaqdxIdeal.nD Cert.KernelXaqdxIdeal.τ Cert.KernelXaqdxIdeal.sig) → Buf (Elt Ideal) ℓ)
    (h : Pre_KernelXaqdxIdeal_finite_xaqdx (hPre_finite_xaqdx := preFacts) m) (c : Dev Cert.KernelXaqdxIdeal.nD) :
    (∀ i, Fin1 (m ((c.tc : Thread Cert.KernelXaqdxIdeal.nD Cert.KernelXaqdxIdeal.τ).loc Cert.KernelXaqdxIdeal.main_arg0) i))
    ∧ (∀ i, Fin1 (m ((c.tc : Thread Cert.KernelXaqdxIdeal.nD Cert.KernelXaqdxIdeal.τ).loc Cert.KernelXaqdxIdeal.main_arg1) i))
    ∧ (∀ i, Fin1 (m ((c.tc : Thread Cert.KernelXaqdxIdeal.nD Cert.KernelXaqdxIdeal.τ).loc Cert.KernelXaqdxIdeal.main_arg2) i))
    ∧ (∀ i, Fin1 (m ((c.tc : Thread Cert.KernelXaqdxIdeal.nD Cert.KernelXaqdxIdeal.τ).loc Cert.KernelXaqdxIdeal.main_arg3) i)) := by
  have e := congrFun (h c) (fun k => k.elim0)
  obtain ⟨e, e3⟩ := andi_one e
  obtain ⟨e, e2⟩ := andi_one e
  obtain ⟨e0, e1⟩ := andi_one e
  exact ⟨fin_of_all16 _ _ _ _ _ _ e0, fin_of_all16 _ _ _ _ _ _ e1, fin_of_all32 _ _ _ _ _ _ e2, fin_of_all32 _ _ _ _ _ _ e3⟩

/-- From any memories that agree on the arguments, the kernel and the reference terminate, return the
    same arrays and leave their arguments unchanged. -/
theorem tie : algebraic_KernelXaqdxIdeal_ReferenceXaqdxIdeal_pre_finite_xaqdx (hKernelXaqdxIdeal := Cert.KernelXaqdxIdeal.Gen.facts)
    (hReferenceXaqdxIdeal := Cert.ReferenceXaqdxIdeal.Gen.facts)
    (hPre_finite_xaqdx := preFacts) := by
  intro m g m' g' hpre hag
  refine ⟨fun c => (Cert.KernelXaqdxIdeal.Gen.dats m 0 c).arrAt 5 Cert.KernelXaqdxIdeal.cfg0.N, fun c => (Cert.KernelXaqdxIdeal.Gen.dats m 0 c).arrAt 6 Cert.KernelXaqdxIdeal.cfg0.N,
    Cert.KernelXaqdxIdeal.Value.run_blocks m g, ?_⟩
  refine (θ_run _ _ _).mono (fun r h c => ?_) (Cert.ReferenceXaqdxIdeal.Value.run m' g')
  obtain ⟨e0, e1, e2, e3, e4⟩ := hag c
  obtain ⟨r0, r1, k0, k1, k2, k3, k4⟩ := h c
  exact ⟨r0.trans ((val_main_v38_eq _ _).trans (by rw [e0, e1, e2, e3, e4]; exact (final5 m c (fin m hpre c).1 (fin m hpre c).2.1 (fin m hpre c).2.2.1 (fin m hpre c).2.2.2).symm)),
    r1.trans ((val_main_v21_eq _ _ _).trans (by rw [e0, e1, e2]; exact (final6 m c).symm)),
    k0, k1, k2, k3, k4⟩

end Cert.KernelXaqdxIdeal.Grad

end
-- ==== Proof.Updx.Refd.lean ====
/- The reference's two arrays for this call, read one entry at a time: the gradient through the
   normalisation of a row and the gradient of the gain. -/
module

public import proofs.«01_k».proof.Proof.Rms
public import proofs.«01_k».proof.Proof.Gen.ReferenceUpdxIdeal.Read
public import Idealize.ShloMosaic.Lib.Pointwise

@[expose] public section

set_option maxRecDepth 16384

noncomputable section

open Idealize.ShloMosaic Idealize.ShloMosaic.TcCoe Idealize.SL.Sem

namespace Cert.KernelUpdxIdeal.Refd

open Cert.ReferenceUpdxIdeal.Read Cert.Rms

/-- One entry of the gradient in the rows. -/
theorem hdx (x0 : Vec Ideal Cert.ReferenceUpdxIdeal.S4096x2816 .bf16) (x1 : Vec Ideal Cert.ReferenceUpdxIdeal.S2816x1024 .bf16) (x2 : Vec Ideal Cert.ReferenceUpdxIdeal.S4096x1024 .f32) (x3 : Vec Ideal Cert.ReferenceUpdxIdeal.S4096x1024 .f32) (x4 : Vec Ideal Cert.ReferenceUpdxIdeal.S1x1024 .f32) (x5 : Vec Ideal Cert.ReferenceUpdxIdeal.S4096x1024 .f32) (j : Cert.ReferenceUpdxIdeal.S4096x1024.Idx) :
    val_main_v40 (F := Ideal) x0 x1 x2 x3 x4 x5 j = rdx (fun k => x3 (ix2 (j 0) k)) (fun k => val_main_v20 (F := Ideal) x0 x1 x2 (ix2 (j 0) k))
      (fun k => x4 (ix2 0 k)) (x5 j) (j 1) := by
  generalize hR : val_main_v20 (F := Ideal) x0 x1 x2 = y
  pointwise [val_main_v40, val_main_v39, val_main_v37, val_main_v30, val_main_v25, val_main_v24, val_main_v29, val_main_v7, val_main_v6, val_main_v4, val_main_v2, val_main_v1, val_main_v0, val_main_cst, val_main_v3, val_main_cst_0, val_main_v5, val_main_cst_1, val_main_v36, val_main_v35, val_main_v34, val_main_v33, val_main_v31, val_main_v28, val_main_v27, val_main_v26, val_main_cst_4, val_main_v10, val_main_v9, val_main_cst_2, val_main_v8, val_main_v32, val_main_cst_5, val_main_cst_6, val_main_v38]
  simp only [hR]
  unfold rdx through rs ms
  have hj : (ix2 (j 0) (j 1) : Cert.ReferenceUpdxIdeal.S4096x1024.Idx) = j := funext fun a => by match a with | 0 => rfl | 1 => rfl
  simp only [Fin.sum_univ_one, zero_add, hj]

/-- One entry of the gradient of the gain. -/
theorem hdg (x0 : Vec Ideal Cert.ReferenceUpdxIdeal.S4096x2816 .bf16) (x1 : Vec Ideal Cert.ReferenceUpdxIdeal.S2816x1024 .bf16) (x2 : Vec Ideal Cert.ReferenceUpdxIdeal.S4096x1024 .f32) (x3 : Vec Ideal Cert.ReferenceUpdxIdeal.S4096x1024 .f32) (j : Cert.ReferenceUpdxIdeal.S1x1024.Idx) :
    val_main_v23 (F := Ideal) x0 x1 x2 x3 j = ∑ k : Fin 4096, gain (fun l => x3 (ix2 k l)) (fun l => val_main_v20 (F := Ideal) x0 x1 x2 (ix2 k l)) (j 1) := by
  generalize hR : val_main_v20 (F := Ideal) x0 x1 x2 = y
  pointwise [val_main_v23, val_main_v22, val_main_v21, val_main_v12, val_main_v11, val_main_v7, val_main_v6, val_main_v4, val_main_v2, val_main_v1, val_main_v0, val_main_cst, val_main_v3, val_main_cst_0, val_main_v5, val_main_cst_1, val_main_cst_3]
  simp only [hR]
  unfold gain rs ms
  simp only [zero_add]
  exact Finset.sum_congr rfl fun _ _ => EReal.mul_comm _ _

end Cert.KernelUpdxIdeal.Refd

end
-- ==== Proof.Updx.Grad.lean ====
/- The gradient of the feed-forward layer in its argument, carried through the normalisation of the rows:
   what each grid point writes, and the gain's gradient summed over the grid. -/
module

public import proofs.«01_k».proof.Proof.Updx.Refd
public import proofs.«01_k».proof.Proof.Gen.KernelUpdxIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpdxIdeal.Grad

open Cert.KernelUpdxIdeal Cert.KernelUpdxIdeal.Gen
open Cert.ReferenceUpdxIdeal.Read Cert.Rms Cert.Finite

variable (m : (ℓ : Loc nD τ sig) → Buf (Elt Ideal) ℓ)

/-- Which block of its array each window holds at grid point `t`: point `t` adds piece `t % 2` of the contraction to row block `t / 2`. -/
theorem idx : ∀ t : Fin cfg0.N, win0_0.index t = ![t.val / 2, t.val % 2] ∧ win0_1.index t = ![t.val % 2, 0] ∧ win0_2.index t = ![t.val / 2, 0] ∧ win0_3.index t = ![t.val / 2, 0] ∧ win0_4.index t = ![0, 0] ∧ win0_5.index t = ![t.val / 2, 0] ∧ win0_6.index t = ![t.val / 2, 0] ∧ win0_7.index t = ![0, 0] :=
  (by decide +kernel : ∀ t : Fin grid0.N, _)

/-- The sum starts from zero. -/
theorem hzero (j : S512x1024.Idx) : k0_pay1 (F := Ideal) j = 0 := by
  pointwise [k0_pay1]

/-- One point adds the product of its two blocks. -/
theorem hpay (acc : Vec Ideal S512x1024 .f32) (x0 : Vec Ideal S512x1408 .bf16) (x1 : Vec Ideal S1408x1024 .bf16) (j : S512x1024.Idx) :
    k0_pay2 (F := Ideal) acc x0 x1 j = acc j + ∑ k : Fin 1408, x0 (ix2 (j 0) k) * x1 (ix2 k (j 1)) := by
  pointwise [k0_pay2]

/-- The reference's cotangent of the normalised rows at one entry. -/
theorem href (x0 : Vec Ideal Cert.ReferenceUpdxIdeal.S4096x2816 .bf16) (x1 : Vec Ideal Cert.ReferenceUpdxIdeal.S2816x1024 .bf16) (x2 : Vec Ideal Cert.ReferenceUpdxIdeal.S4096x1024 .f32) (j : Cert.ReferenceUpdxIdeal.S4096x1024.Idx) :
    val_main_v20 (F := Ideal) x0 x1 x2 j = x2 j + ∑ k : Fin 2816, x0 (ix2 (j 0) k) * x1 (ix2 k (j 1)) := by
  pointwise [val_main_v20, val_main_v19, val_main_v18, val_main_v16, val_main_v15]

/-- From real numbers it is real. -/
theorem hfin {x0 : Vec Ideal Cert.ReferenceUpdxIdeal.S4096x2816 .bf16} {x1 : Vec Ideal Cert.ReferenceUpdxIdeal.S2816x1024 .bf16} {x2 : Vec Ideal Cert.ReferenceUpdxIdeal.S4096x1024 .f32}
    (h0 : ∀ i, Fin1 (x0 i)) (h1 : ∀ i, Fin1 (x1 i)) (h2 : ∀ i, Fin1 (x2 i)) (j : Cert.ReferenceUpdxIdeal.S4096x1024.Idx) :
    Fin1 (val_main_v20 (F := Ideal) x0 x1 x2 j) := by
  rw [href]; exact .add (h2 _) <| .sum fun k => .mul (h0 _) (h1 _)

/-- What the last point of a row block writes to it, from the summed product. -/
theorem hdx (r xa xx d : Vec Ideal S512x1024 .f32) (g : Vec Ideal S1x1024 .f32) (j : S512x1024.Idx) :
    k0_pay3 (F := Ideal) d (k0_pay9 r xa xx g) j
      = kdx (fun k => xx (ix2 (j 0) k)) (fun k => (r (ix2 (j 0) k) + xa (ix2 (j 0) k))) (fun k => g (ix2 0 k)) (d j) (j 1) := by
  pointwise [k0_pay3, k0_pay9, k0_pay4, k0_pay6, k0_pay7]
  have hj : (ix2 (j 0) (j 1) : S512x1024.Idx) = j := funext fun a => by match a with | 0 => rfl | 1 => rfl
  unfold kdx rs ms
  simp only [hj]

/-- The gain's gradient starts from zero. -/
theorem hdzero (j : S1x1024.Idx) : k0_pay5 (F := Ideal) j = 0 := by
  pointwise [k0_pay5]

/-- What the last point of a row block adds to the gain's gradient. -/
theorem hdg (r xa xx : Vec Ideal S512x1024 .f32) (a : Vec Ideal S1x1024 .f32) (j : S1x1024.Idx) :
    k0_pay8 (F := Ideal) r xa xx a j
      = a j + ∑ k : Fin 512, gain (fun l => xx (ix2 k l)) (fun l => (r (ix2 k l) + xa (ix2 k l))) (j 1) := by
  pointwise [k0_pay8, k0_pay4, k0_pay6, k0_pay7]
  unfold gain rs ms
  rfl

/-- What the accumulator holds once the last piece has been added. -/
theorem acc (c : Dev nD) (t : Fin cfg0.N) (h : t.val % 2 = 1) (j : S512x1024.Idx) :
    (outsAt0 m c t.val t.isLt).2.2 j = ∑ s : Fin 2, ∑ k : Fin 1408,
      (show Vec Ideal S512x1408 .bf16 from iblk m c 0 ⟨2 * (t.val / 2) + s.val, Pipeline.run_point_lt_of_flush t h s⟩) (ix2 (j 0) k)
        * (show Vec Ideal S1408x1024 .bf16 from iblk m c 1 ⟨2 * (t.val / 2) + s.val, Pipeline.run_point_lt_of_flush t h s⟩) (ix2 k (j 1)) := by
  refine (Pipeline.eq_sum_fin_of_reset_step_apply_of_flush (M := EReal) (fun n h => (outsAt0 m c n h).2.2) 2 (fun _ => 0)
    (fun p j => ∑ k : Fin 1408, (show Vec Ideal S512x1408 .bf16 from iblk m c 0 p) (ix2 (j 0) k)
      * (show Vec Ideal S1408x1024 .bf16 from iblk m c 1 p) (ix2 k (j 1))) ?_ ?_ t h j).trans (zero_add _)
  · intro t h j
    rw [outsAt0_A m c t h (by omega)]; frame_out; rw [hpay, hzero]
  · intro t h j
    by_cases h2 : t.val < 2
    · rw [outsAt0_B m c t h (by omega) h2]; frame_out; rw [hpay]; exact congrArg (fun z : EReal => z + _) (congrFun (Memref.IsWhole.read_unread _ _) j)
    · rw [outsAt0_C m c t h (by omega) h2]; frame_out; rw [hpay]; exact congrArg (fun z : EReal => z + _) (congrFun (Memref.IsWhole.read_unread _ _) j)

/-- The summed product of a row block, with the gradient that is already there, is the reference's cotangent at the block's place. -/
theorem cot (c : Dev nD) (t : Fin cfg0.N) (h : t.val % 2 = 1) (j : S512x1024.Idx) (i : Cert.ReferenceUpdxIdeal.S4096x1024.Idx)
    (hi0 : (i 0).val = 512 * (t.val / 2) + (j 0).val) (hi1 : (i 1).val = (j 1).val) :
    ((outsAt0 m c t.val t.isLt).2.2 j + (show Vec Ideal S512x1024 .f32 from iblk m c 2 t) j) = val_main_v20 (F := Ideal) (m ((c : Thread nD τ).loc main_arg0)) (m ((c : Thread nD τ).loc main_arg1)) (m ((c : Thread nD τ).loc main_arg2)) i := by
  rw [href, acc m c t h]
  refine (add_comm (G := EReal) _ _).trans (congrArg₂ (fun x y : EReal => x + y) ?_ ?_)
  · blk_point [iblk, V, idx t]
  · refine Fin.sum_mul_add_congr fun s k hl => ?_
    blk_point [iblk, V, idx t, idx ⟨_, Pipeline.run_point_lt_of_flush t h s⟩]

/-- The block of the rows' gradient after the last point of a row block. -/
theorem out6 (c : Dev nD) (t : Fin cfg0.N) (h : t.val % 2 = 1) (j : S512x1024.Idx) :
    (outsAt0 m c t.val t.isLt).1 j = kdx (fun k => (show Vec Ideal S512x1024 .f32 from iblk m c 3 t) (ix2 (j 0) k))
      (fun k => ((outsAt0 m c t.val t.isLt).2.2 (ix2 (j 0) k) + (show Vec Ideal S512x1024 .f32 from iblk m c 2 t) (ix2 (j 0) k)))
      (fun k => (show Vec Ideal S1x1024 .f32 from iblk m c 4 t) (ix2 0 k)) ((show Vec Ideal S512x1024 .f32 from iblk m c 5 t) j) (j 1) := by
  by_cases h2 : t.val < 2
  · rw [outsAt0_B m c t (by omega) h h2]; frame_out; rw [hdx]
  · rw [outsAt0_C m c t (by omega) h h2]; frame_out; rw [hdx]

/-- The gain's gradient after the last point of a row block. -/
theorem out7 (c : Dev nD) (t : Fin cfg0.N) (h : t.val % 2 = 1) (j : S1x1024.Idx) :
    (outsAt0 m c t.val t.isLt).2.1 j
      = (if t.val < 2 then 0 else (show Vec Ideal S1x1024 .f32 from (outsAt0 m c (t.val - 1) (Nat.lt_of_le_of_lt (Nat.sub_le _ _) t.isLt)).2.1) j)
        + ∑ k : Fin 512, gain (fun l => (show Vec Ideal S512x1024 .f32 from iblk m c 3 t) (ix2 k l))
            (fun l => ((outsAt0 m c t.val t.isLt).2.2 (ix2 k l) + (show Vec Ideal S512x1024 .f32 from iblk m c 2 t) (ix2 k l))) (j 1) := by
  by_cases h2 : t.val < 2
  · rw [outsAt0_B m c t (by omega) h h2]; frame_out; rw [hdg, hdzero, if_pos h2]
  · rw [outsAt0_C m c t (by omega) h h2]; frame_out; rw [hdg, if_neg h2]

/-- The other points leave the gain's gradient as it was. -/
theorem keep (c : Dev nD) (t : Fin cfg0.N) (h : ¬t.val % 2 = 1) :
    (outsAt0 m c t.val t.isLt).2.1 = (outsAt0 m c (t.val - 1) (Nat.lt_of_le_of_lt (Nat.sub_le _ _) t.isLt)).2.1 := by
  by_cases h0 : t.val % 2 = 0
  · rw [outsAt0_A m c t h0 h]; rfl
  · exact absurd h (by omega)

/-- The gain's gradient does not change between the last points of two row blocks. -/
theorem between (c : Dev nD) (n : ℕ) (hn : n + 2 < cfg0.N) (h : n % 2 = 1) :
    (outsAt0 m c (n + 1) (by omega)).2.1 = (outsAt0 m c n (by omega)).2.1 := by
  exact keep m c ⟨n + 1, by omega⟩ (by show ¬(n + 1) % 2 = 1; omega)

/-- The same point by another name leaves the same. -/
theorem same (c : Dev nD) {a b : ℕ} (h : a = b) (ha : a < cfg0.N) (hb : b < cfg0.N) : outsAt0 m c a ha = outsAt0 m c b hb := by
  subst h; rfl

/-- The last point of every row block is a point of the grid. -/
theorem last (s : Fin 8) : 2 * s.val + 1 < cfg0.N := by
  have := s.isLt; have : cfg0.N = 16 := N_0; omega

/-- What row block `s` adds to the gain's gradient. -/
def part (c : Dev nD) (s : Fin 8) (j : S1x1024.Idx) : EReal :=
  ∑ k : Fin 512, gain (fun l => (show Vec Ideal S512x1024 .f32 from iblk m c 3 ⟨2 * s.val + 1, last s⟩) (ix2 k l))
    (fun l => ((outsAt0 m c (2 * s.val + 1) (last s)).2.2 (ix2 k l) + (show Vec Ideal S512x1024 .f32 from iblk m c 2 ⟨2 * s.val + 1, last s⟩) (ix2 k l))) (j 1)

/-- What the gain's gradient holds after the last row block. -/
theorem dsum (c : Dev nD) (q : Fin 8) (hq : q.val % 8 = 7) (j : S1x1024.Idx) :
    (outsAt0 m c (2 * q.val + 1) (last q)).2.1 j = ∑ s : Fin 8, part m c s j := by
  have hN : cfg0.N = 16 := N_0
  refine (Pipeline.eq_sum_fin_of_reset_step_apply_of_flush (N := 8) (M := EReal)
    (fun n h => (outsAt0 m c (2 * n + 1) (last ⟨n, h⟩)).2.1) 8 (fun _ => 0)
    (fun s j => part m c s j)
    (fun s hs j => ?_) (fun s hs j => ?_) q hq j).trans ?_
  · refine (out7 m c ⟨2 * s.val + 1, last s⟩ (by show (2 * s.val + 1) % 2 = 1; omega) j).trans ?_
    rw [if_pos (by have := s.isLt; show 2 * s.val + 1 < 2; omega)]
    rfl
  · refine (out7 m c ⟨2 * s.val + 1, last s⟩ (by show (2 * s.val + 1) % 2 = 1; omega) j).trans ?_
    have h0 : s.val ≠ 0 := fun h => hs (by rw [h])
    rw [if_neg (by show ¬2 * s.val + 1 < 2; omega)]
    refine congrArg (fun z : EReal => z + part m c s j) (congrFun ?_ j)
    have b := between m c (2 * (s.val - 1) + 1) (by have := s.isLt; omega) (by omega)
    refine Eq.trans ?_ b
    show (outsAt0 m c (2 * s.val + 1 - 1) _).2.1 = _
    rw [same m c (show 2 * s.val + 1 - 1 = 2 * (s.val - 1) + 1 + 1 by omega)]
  · refine (zero_add _).trans (Finset.sum_congr rfl fun s _ => ?_)
    exact congrArg (fun s => part m c s j) (Fin.ext (by show 8 * (q.val / 8) + s.val = s.val; have := q.isLt; omega))

/-- What the gain's gradient holds at the end. -/
theorem dgain (c : Dev nD) (t : Fin cfg0.N) (h : t.val % 16 = 15) (j : S1x1024.Idx) :
    (outsAt0 m c t.val t.isLt).2.1 j = ∑ s : Fin 8, part m c s j := by
  have hN : cfg0.N = 16 := N_0
  have hq : t.val / 2 < 8 := by have := t.isLt; omega
  refine Eq.trans ?_ (dsum m c ⟨t.val / 2, hq⟩ (by show t.val / 2 % 8 = 7; omega) j)
  exact congrFun (congrArg (fun z => z.2.1) (same m c (show t.val = 2 * (t.val / 2) + 1 by omega) _ _)) j

/-- The finished gradient in the rows is the reference's. -/
theorem final6 (c : Dev nD)
    (h0 : ∀ i, Fin1 ((m ((c : Thread nD τ).loc main_arg0)) i)) (h1 : ∀ i, Fin1 ((m ((c : Thread nD τ).loc main_arg1)) i))
    (h2 : ∀ i, Fin1 ((m ((c : Thread nD τ).loc main_arg2)) i)) (hx : ∀ i, Fin1 ((m ((c : Thread nD τ).loc main_arg3)) i)) (hg : ∀ i, Fin1 ((m ((c : Thread nD τ).loc main_arg4)) i)) :
    (dats m 0 c).arrAt 6 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have h : t.val % 2 = 1 := (flush0_6 t).mp hf
  rw [after0_6, Refd.hdx, out6 m c t h]
  refine Eq.trans ?_ (law (fun k => hx _) (fun k => hfin h0 h1 h2 _) (fun k => hg _) _ _)
  refine kdx_congr (fun k => ?_) (fun k => ?_) (fun k => ?_) ?_ ?_
  · blk_point [iblk, V, idx t]
  · refine cot m c t h _ _ ?_ ?_ <;> blk_simp [idx t] <;> omega
  · blk_point [iblk, V, idx t]
  · blk_point [iblk, V, idx t]
  · apply Fin.ext; blk_simp [idx t]

/-- The finished gradient of the gain is the reference's. -/
theorem final7 (c : Dev nD) : (dats m 0 c).arrAt 7 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  have h : t.val % 16 = 15 := (flush0_7 t).mp hf
  rw [after0_7, Refd.hdg, dgain m c t h]
  unfold part
  refine Fin.sum_mul_add_congr fun s k hl => ?_
  have hs := last s
  refine gain_congr (fun l => ?_) (fun l => ?_) ?_
  · blk_point [iblk, V, idx ⟨_, hs⟩]
  · refine cot m c ⟨_, hs⟩ (by show (2 * s.val + 1) % 2 = 1; omega) _ _ ?_ ?_ <;> blk_simp [idx t] <;> dsimp only <;> omega
  · apply Fin.ext; blk_simp [idx t]

end Cert.KernelUpdxIdeal.Grad

end
-- ==== Proof.Updx.Tie.lean ====
/- The gradient in the argument of the feed-forward layer: the kernel and the reference return the same two arrays. -/
module

public import proofs.«01_k».proof.Defs
public import proofs.«01_k».proof.Proof.Gen.ReferenceUpdxIdeal.Run
public import proofs.«01_k».proof.Proof.Updx.Grad

@[expose] public section

set_option maxRecDepth 16384

noncomputable section

open Idealize.ShloMosaic Idealize.ShloMosaic.TcCoe Idealize.SL.Sem

namespace Cert.KernelUpdxIdeal.Grad

open Cert.ReferenceUpdxIdeal.Read

open Cert.Finite

/-- The shape relations the precondition takes. -/
theorem preFacts : Cert.Pre_finite_updx.Facts where
  bcast_S_S4096x2816 := by decide
  reducesTo_S4096x2816_S_d0_1 := by decide
  h_S_ := by decide
  bcast_S_S2816x1024 := by decide
  reducesTo_S2816x1024_S_d0_1 := by decide
  bcast_S_S4096x1024 := by decide
  reducesTo_S4096x1024_S_d0_1 := by decide
  bcast_S_S1x1024 := by decide
  reducesTo_S1x1024_S_d0_1 := by decide

instance : Subsingleton Cert.Pre_finite_updx.S_.Idx := ⟨fun a b => funext fun k => k.elim0⟩

/-- Under the precondition the arguments it names hold real numbers. -/
theorem fin (m : (ℓ : Loc Cert.KernelUpdxIdeal.nD Cert.KernelUpdxIdeal.τ Cert.KernelUpdxIdeal.sig) → Buf (Elt Ideal) ℓ)
    (h : Pre_KernelUpdxIdeal_finite_updx (hPre_finite_updx := preFacts) m) (c : Dev Cert.KernelUpdxIdeal.nD) :
    (∀ i, Fin1 (m ((c.tc : Thread Cert.KernelUpdxIdeal.nD Cert.KernelUpdxIdeal.τ).loc Cert.KernelUpdxIdeal.main_arg0) i))
    ∧ (∀ i, Fin1 (m ((c.tc : Thread Cert.KernelUpdxIdeal.nD Cert.KernelUpdxIdeal.τ).loc Cert.KernelUpdxIdeal.main_arg1) i))
    ∧ (∀ i, Fin1 (m ((c.tc : Thread Cert.KernelUpdxIdeal.nD Cert.KernelUpdxIdeal.τ).loc Cert.KernelUpdxIdeal.main_arg2) i))
    ∧ (∀ i, Fin1 (m ((c.tc : Thread Cert.KernelUpdxIdeal.nD Cert.KernelUpdxIdeal.τ).loc Cert.KernelUpdxIdeal.main_arg3) i))
    ∧ (∀ i, Fin1 (m ((c.tc : Thread Cert.KernelUpdxIdeal.nD Cert.KernelUpdxIdeal.τ).loc Cert.KernelUpdxIdeal.main_arg4) i)) := by
  have e := congrFun (h c) (fun k => k.elim0)
  obtain ⟨e, e4⟩ := andi_one e
  obtain ⟨e, e3⟩ := andi_one e
  obtain ⟨e, e2⟩ := andi_one e
  obtain ⟨e0, e1⟩ := andi_one e
  exact ⟨fin_of_all16 _ _ _ _ _ _ e0, fin_of_all16 _ _ _ _ _ _ e1, fin_of_all32 _ _ _ _ _ _ e2, fin_of_all32 _ _ _ _ _ _ e3, fin_of_all32 _ _ _ _ _ _ e4⟩

/-- From any memories that agree on the arguments, the kernel and the reference terminate, return the
    same arrays and leave their arguments unchanged. -/
theorem tie : algebraic_KernelUpdxIdeal_ReferenceUpdxIdeal_pre_finite_updx (hKernelUpdxIdeal := Cert.KernelUpdxIdeal.Gen.facts)
    (hReferenceUpdxIdeal := Cert.ReferenceUpdxIdeal.Gen.facts)
    (hPre_finite_updx := preFacts) := by
  intro m g m' g' hpre hag
  refine ⟨fun c => (Cert.KernelUpdxIdeal.Gen.dats m 0 c).arrAt 6 Cert.KernelUpdxIdeal.cfg0.N, fun c => (Cert.KernelUpdxIdeal.Gen.dats m 0 c).arrAt 7 Cert.KernelUpdxIdeal.cfg0.N,
    Cert.KernelUpdxIdeal.Value.run_blocks m g, ?_⟩
  refine (θ_run _ _ _).mono (fun r h c => ?_) (Cert.ReferenceUpdxIdeal.Value.run m' g')
  obtain ⟨e0, e1, e2, e3, e4, e5⟩ := hag c
  obtain ⟨r0, r1, k0, k1, k2, k3, k4, k5⟩ := h c
  exact ⟨r0.trans ((val_main_v40_eq _ _).trans (by rw [e0, e1, e2, e3, e4, e5]; exact (final6 m c (fin m hpre c).1 (fin m hpre c).2.1 (fin m hpre c).2.2.1 (fin m hpre c).2.2.2.1 (fin m hpre c).2.2.2.2).symm)),
    r1.trans ((val_main_v23_eq _ _ _ _).trans (by rw [e0, e1, e2, e3]; exact (final7 m c).symm)),
    k0, k1, k2, k3, k4, k5⟩

end Cert.KernelUpdxIdeal.Grad

end
-- ==== Proof.Indx.Refd.lean ====
/- The reference's two arrays for this call, read one entry at a time: the gradient through the
   normalisation of a row and the gradient of the gain. -/
module

public import proofs.«01_k».proof.Proof.Rms
public import proofs.«01_k».proof.Proof.Gen.ReferenceIndxIdeal.Read
public import Idealize.ShloMosaic.Lib.Pointwise

@[expose] public section

set_option maxRecDepth 16384

noncomputable section

open Idealize.ShloMosaic Idealize.ShloMosaic.TcCoe Idealize.SL.Sem

namespace Cert.KernelIndxIdeal.Refd

open Cert.ReferenceIndxIdeal.Read Cert.Rms

/-- One entry of the gradient in the rows. -/
theorem hdx (x0 : Vec Ideal Cert.ReferenceIndxIdeal.S4096x7168 .bf16) (x1 : Vec Ideal Cert.ReferenceIndxIdeal.S7168x1024 .bf16) (x2 : Vec Ideal Cert.ReferenceIndxIdeal.S4096x1024 .f32) (x3 : Vec Ideal Cert.ReferenceIndxIdeal.S1x1024 .f32) (x4 : Vec Ideal Cert.ReferenceIndxIdeal.S4096x1024 .f32) (j : Cert.ReferenceIndxIdeal.S4096x1024.Idx) :
    val_main_v39 (F := Ideal) x0 x1 x2 x3 x4 j = rdx (fun k => x2 (ix2 (j 0) k)) (fun k => val_main_v19 (F := Ideal) x0 x1 (ix2 (j 0) k))
      (fun k => x3 (ix2 0 k)) (x4 j) (j 1) := by
  generalize hR : val_main_v19 (F := Ideal) x0 x1 = y
  pointwise [val_main_v39, val_main_v38, val_main_v36, val_main_v29, val_main_v24, val_main_v23, val_main_v28, val_main_v7, val_main_v6, val_main_v4, val_main_v2, val_main_v1, val_main_v0, val_main_cst, val_main_v3, val_main_cst_0, val_main_v5, val_main_cst_1, val_main_v35, val_main_v34, val_main_v33, val_main_v32, val_main_v30, val_main_v27, val_main_v26, val_main_v25, val_main_cst_4, val_main_v10, val_main_v9, val_main_cst_2, val_main_v8, val_main_v31, val_main_cst_5, val_main_cst_6, val_main_v37]
  simp only [hR]
  unfold rdx through rs ms
  have hj : (ix2 (j 0) (j 1) : Cert.ReferenceIndxIdeal.S4096x1024.Idx) = j := funext fun a => by match a with | 0 => rfl | 1 => rfl
  simp only [Fin.sum_univ_one, zero_add, hj]

/-- One entry of the gradient of the gain. -/
theorem hdg (x0 : Vec Ideal Cert.ReferenceIndxIdeal.S4096x7168 .bf16) (x1 : Vec Ideal Cert.ReferenceIndxIdeal.S7168x1024 .bf16) (x2 : Vec Ideal Cert.ReferenceIndxIdeal.S4096x1024 .f32) (j : Cert.ReferenceIndxIdeal.S1x1024.Idx) :
    val_main_v22 (F := Ideal) x0 x1 x2 j = ∑ k : Fin 4096, gain (fun l => x2 (ix2 k l)) (fun l => val_main_v19 (F := Ideal) x0 x1 (ix2 k l)) (j 1) := by
  generalize hR : val_main_v19 (F := Ideal) x0 x1 = y
  pointwise [val_main_v22, val_main_v21, val_main_v20, val_main_v12, val_main_v11, val_main_v7, val_main_v6, val_main_v4, val_main_v2, val_main_v1, val_main_v0, val_main_cst, val_main_v3, val_main_cst_0, val_main_v5, val_main_cst_1, val_main_cst_3]
  simp only [hR]
  unfold gain rs ms
  simp only [zero_add]
  exact Finset.sum_congr rfl fun _ _ => EReal.mul_comm _ _

end Cert.KernelIndxIdeal.Refd

end
-- ==== Proof.Indx.Grad.lean ====
/- The gradient of the input projection in its argument, carried through the normalisation of the rows:
   what each grid point writes, and the gain's gradient summed over the grid. -/
module

public import proofs.«01_k».proof.Proof.Indx.Refd
public import proofs.«01_k».proof.Proof.Gen.KernelIndxIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIndxIdeal.Grad

open Cert.KernelIndxIdeal Cert.KernelIndxIdeal.Gen
open Cert.ReferenceIndxIdeal.Read Cert.Rms Cert.Finite

variable (m : (ℓ : Loc nD τ sig) → Buf (Elt Ideal) ℓ)

/-- Which block of its array each window holds at grid point `t`: point `t` adds piece `t % 4` of the contraction to row block `t / 4`. -/
theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, _)

/-- The sum starts from zero. -/
theorem hzero (j : S1024x1024.Idx) : k0_pay1 (F := Ideal) j = 0 := by
  pointwise [k0_pay1]

/-- One point adds the product of its two blocks. -/
theorem hpay (acc : Vec Ideal S1024x1024 .f32) (x0 : Vec Ideal S1024x1792 .bf16) (x1 : Vec Ideal S1792x1024 .bf16) (j : S1024x1024.Idx) :
    k0_pay2 (F := Ideal) acc x0 x1 j = acc j + ∑ k : Fin 1792, x0 (ix2 (j 0) k) * x1 (ix2 k (j 1)) := by
  pointwise [k0_pay2]

/-- The reference's cotangent of the normalised rows at one entry. -/
theorem href (x0 : Vec Ideal Cert.ReferenceIndxIdeal.S4096x7168 .bf16) (x1 : Vec Ideal Cert.ReferenceIndxIdeal.S7168x1024 .bf16) (j : Cert.ReferenceIndxIdeal.S4096x1024.Idx) :
    val_main_v19 (F := Ideal) x0 x1 j = ∑ k : Fin 7168, x0 (ix2 (j 0) k) * x1 (ix2 k (j 1)) := by
  pointwise [val_main_v19, val_main_v18, val_main_v16, val_main_v15]

/-- From real numbers it is real. -/
theorem hfin {x0 : Vec Ideal Cert.ReferenceIndxIdeal.S4096x7168 .bf16} {x1 : Vec Ideal Cert.ReferenceIndxIdeal.S7168x1024 .bf16}
    (h0 : ∀ i, Fin1 (x0 i)) (h1 : ∀ i, Fin1 (x1 i)) (j : Cert.ReferenceIndxIdeal.S4096x1024.Idx) :
    Fin1 (val_main_v19 (F := Ideal) x0 x1 j) := by
  rw [href]; exact .sum fun k => .mul (h0 _) (h1 _)

/-- What the last point of a row block writes to it, from the summed product. -/
theorem hdx (r xx d : Vec Ideal S1024x1024 .f32) (g : Vec Ideal S1x1024 .f32) (j : S1024x1024.Idx) :
    k0_pay7 (F := Ideal) r xx g d j
      = kdx (fun k => xx (ix2 (j 0) k)) (fun k => r (ix2 (j 0) k)) (fun k => g (ix2 0 k)) (d j) (j 1) := by
  pointwise [k0_pay7, k0_pay4, k0_pay5]
  have hj : (ix2 (j 0) (j 1) : S1024x1024.Idx) = j := funext fun a => by match a with | 0 => rfl | 1 => rfl
  unfold kdx rs ms
  simp only [hj]

/-- The gain's gradient starts from zero. -/
theorem hdzero (j : S1x1024.Idx) : k0_pay3 (F := Ideal) j = 0 := by
  pointwise [k0_pay3]

/-- What the last point of a row block adds to the gain's gradient. -/
theorem hdg (r xx : Vec Ideal S1024x1024 .f32) (a : Vec Ideal S1x1024 .f32) (j : S1x1024.Idx) :
    k0_pay6 (F := Ideal) r xx a j
      = a j + ∑ k : Fin 1024, gain (fun l => xx (ix2 k l)) (fun l => r (ix2 k l)) (j 1) := by
  pointwise [k0_pay6, k0_pay4, k0_pay5]
  unfold gain rs ms
  rfl

/-- What the accumulator holds once the last piece has been added. -/
theorem acc (c : Dev nD) (t : Fin cfg0.N) (h : t.val % 4 = 3) (j : S1024x1024.Idx) :
    (outsAt0 m c t.val t.isLt).2.2 j = ∑ s : Fin 4, ∑ k : Fin 1792,
      (show Vec Ideal S1024x1792 .bf16 from iblk m c 0 ⟨4 * (t.val / 4) + s.val, Pipeline.run_point_lt_of_flush t h s⟩) (ix2 (j 0) k)
        * (show Vec Ideal S1792x1024 .bf16 from iblk m c 1 ⟨4 * (t.val / 4) + s.val, Pipeline.run_point_lt_of_flush t h s⟩) (ix2 k (j 1)) := by
  refine (Pipeline.eq_sum_fin_of_reset_step_apply_of_flush (M := EReal) (fun n h => (outsAt0 m c n h).2.2) 4 (fun _ => 0)
    (fun p j => ∑ k : Fin 1792, (show Vec Ideal S1024x1792 .bf16 from iblk m c 0 p) (ix2 (j 0) k)
      * (show Vec Ideal S1792x1024 .bf16 from iblk m c 1 p) (ix2 k (j 1))) ?_ ?_ t h j).trans (zero_add _)
  · intro t h j
    rw [outsAt0_A m c t h (by omega)]; frame_out; rw [hpay, hzero]
  · intro t h j
    by_cases h1 : t.val % 4 = 3
    · by_cases h2 : t.val < 4
      · rw [outsAt0_C m c t h h1 h2]; frame_out; rw [hpay]; exact congrArg (fun z : EReal => z + _) (congrFun (Memref.IsWhole.read_unread _ _) j)
      · rw [outsAt0_D m c t h h1 h2]; frame_out; rw [hpay]; exact congrArg (fun z : EReal => z + _) (congrFun (Memref.IsWhole.read_unread _ _) j)
    · rw [outsAt0_B m c t h h1]; frame_out; rw [hpay]; exact congrArg (fun z : EReal => z + _) (congrFun (Memref.IsWhole.read_unread _ _) j)

/-- The summed product of a row block is the reference's cotangent at the block's place. -/
theorem cot (c : Dev nD) (t : Fin cfg0.N) (h : t.val % 4 = 3) (j : S1024x1024.Idx) (i : Cert.ReferenceIndxIdeal.S4096x1024.Idx)
    (hi0 : (i 0).val = 1024 * (t.val / 4) + (j 0).val) (hi1 : (i 1).val = (j 1).val) :
    (outsAt0 m c t.val t.isLt).2.2 j = val_main_v19 (F := Ideal) (m ((c : Thread nD τ).loc main_arg0)) (m ((c : Thread nD τ).loc main_arg1)) i := by
  rw [href, acc m c t h]

  refine Fin.sum_mul_add_congr fun s k hl => ?_
  blk_point [iblk, V, idx t, idx ⟨_, Pipeline.run_point_lt_of_flush t h s⟩]

/-- The block of the rows' gradient after the last point of a row block. -/
theorem out5 (c : Dev nD) (t : Fin cfg0.N) (h : t.val % 4 = 3) (j : S1024x1024.Idx) :
    (outsAt0 m c t.val t.isLt).1 j = kdx (fun k => (show Vec Ideal S1024x1024 .f32 from iblk m c 2 t) (ix2 (j 0) k))
      (fun k => (outsAt0 m c t.val t.isLt).2.2 (ix2 (j 0) k))
      (fun k => (show Vec Ideal S1x1024 .f32 from iblk m c 3 t) (ix2 0 k)) ((show Vec Ideal S1024x1024 .f32 from iblk m c 4 t) j) (j 1) := by
  by_cases h2 : t.val < 4
  · rw [outsAt0_C m c t (by omega) h h2]; frame_out; rw [hdx]
  · rw [outsAt0_D m c t (by omega) h h2]; frame_out; rw [hdx]

/-- The gain's gradient after the last point of a row block. -/
theorem out6 (c : Dev nD) (t : Fin cfg0.N) (h : t.val % 4 = 3) (j : S1x1024.Idx) :
    (outsAt0 m c t.val t.isLt).2.1 j
      = (if t.val < 4 then 0 else (show Vec Ideal S1x1024 .f32 from (outsAt0 m c (t.val - 1) (Nat.lt_of_le_of_lt (Nat.sub_le _ _) t.isLt)).2.1) j)
        + ∑ k : Fin 1024, gain (fun l => (show Vec Ideal S1024x1024 .f32 from iblk m c 2 t) (ix2 k l))
            (fun l => (outsAt0 m c t.val t.isLt).2.2 (ix2 k l)) (j 1) := by
  by_cases h2 : t.val < 4
  · rw [outsAt0_C m c t (by omega) h h2]; frame_out; rw [hdg, hdzero, if_pos h2]
  · rw [outsAt0_D m c t (by omega) h h2]; frame_out; rw [hdg, if_neg h2]

/-- The other points leave the gain's gradient as it was. -/
theorem keep (c : Dev nD) (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h]; rfl
  · rw [outsAt0_B m c t h0 h]; rfl

/-- The gain's gradient does not change between the last points of two row blocks. -/
theorem between (c : Dev nD) (n : ℕ) (hn : n + 4 < cfg0.N) (h : n % 4 = 3) :
    (outsAt0 m c (n + 3) (by omega)).2.1 = (outsAt0 m c n (by omega)).2.1 := by
  refine (keep m c ⟨n + 3, by omega⟩ (by show ¬(n + 3) % 4 = 3; omega)).trans ?_
  refine (keep m c ⟨n + 2, by omega⟩ (by show ¬(n + 2) % 4 = 3; omega)).trans ?_
  exact keep m c ⟨n + 1, by omega⟩ (by show ¬(n + 1) % 4 = 3; omega)

/-- The same point by another name leaves the same. -/
theorem same (c : Dev nD) {a b : ℕ} (h : a = b) (ha : a < cfg0.N) (hb : b < cfg0.N) : outsAt0 m c a ha = outsAt0 m c b hb := by
  subst h; rfl

/-- The last point of every row block is a point of the grid. -/
theorem last (s : Fin 4) : 4 * s.val + 3 < cfg0.N := by
  have := s.isLt; have : cfg0.N = 16 := N_0; omega

/-- What row block `s` adds to the gain's gradient. -/
def part (c : Dev nD) (s : Fin 4) (j : S1x1024.Idx) : EReal :=
  ∑ k : Fin 1024, gain (fun l => (show Vec Ideal S1024x1024 .f32 from iblk m c 2 ⟨4 * s.val + 3, last s⟩) (ix2 k l))
    (fun l => (outsAt0 m c (4 * s.val + 3) (last s)).2.2 (ix2 k l)) (j 1)

/-- What the gain's gradient holds after the last row block. -/
theorem dsum (c : Dev nD) (q : Fin 4) (hq : q.val % 4 = 3) (j : S1x1024.Idx) :
    (outsAt0 m c (4 * q.val + 3) (last q)).2.1 j = ∑ s : Fin 4, part m c s j := by
  have hN : cfg0.N = 16 := N_0
  refine (Pipeline.eq_sum_fin_of_reset_step_apply_of_flush (N := 4) (M := EReal)
    (fun n h => (outsAt0 m c (4 * n + 3) (last ⟨n, h⟩)).2.1) 4 (fun _ => 0)
    (fun s j => part m c s j)
    (fun s hs j => ?_) (fun s hs j => ?_) q hq j).trans ?_
  · refine (out6 m c ⟨4 * s.val + 3, last s⟩ (by show (4 * s.val + 3) % 4 = 3; omega) j).trans ?_
    rw [if_pos (by have := s.isLt; show 4 * s.val + 3 < 4; omega)]
    rfl
  · refine (out6 m c ⟨4 * s.val + 3, last s⟩ (by show (4 * s.val + 3) % 4 = 3; omega) j).trans ?_
    have h0 : s.val ≠ 0 := fun h => hs (by rw [h])
    rw [if_neg (by show ¬4 * s.val + 3 < 4; omega)]
    refine congrArg (fun z : EReal => z + part m c s j) (congrFun ?_ j)
    have b := between m c (4 * (s.val - 1) + 3) (by have := s.isLt; omega) (by omega)
    refine Eq.trans ?_ b
    show (outsAt0 m c (4 * s.val + 3 - 1) _).2.1 = _
    rw [same m c (show 4 * s.val + 3 - 1 = 4 * (s.val - 1) + 3 + 3 by omega)]
  · refine (zero_add _).trans (Finset.sum_congr rfl fun s _ => ?_)
    exact congrArg (fun s => part m c s j) (Fin.ext (by show 4 * (q.val / 4) + s.val = s.val; have := q.isLt; omega))

/-- What the gain's gradient holds at the end. -/
theorem dgain (c : Dev nD) (t : Fin cfg0.N) (h : t.val % 16 = 15) (j : S1x1024.Idx) :
    (outsAt0 m c t.val t.isLt).2.1 j = ∑ s : Fin 4, part m c s j := by
  have hN : cfg0.N = 16 := N_0
  have hq : t.val / 4 < 4 := by have := t.isLt; omega
  refine Eq.trans ?_ (dsum m c ⟨t.val / 4, hq⟩ (by show t.val / 4 % 4 = 3; omega) j)
  exact congrFun (congrArg (fun z => z.2.1) (same m c (show t.val = 4 * (t.val / 4) + 3 by omega) _ _)) j

/-- The finished gradient in the rows is the reference's. -/
theorem final5 (c : Dev nD)
    (h0 : ∀ i, Fin1 ((m ((c : Thread nD τ).loc main_arg0)) i)) (h1 : ∀ i, Fin1 ((m ((c : Thread nD τ).loc main_arg1)) i))
    (hx : ∀ i, Fin1 ((m ((c : Thread nD τ).loc main_arg2)) i)) (hg : ∀ i, Fin1 ((m ((c : Thread nD τ).loc main_arg3)) i)) :
    (dats m 0 c).arrAt 5 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h : t.val % 4 = 3 := (flush0_5 t).mp hf
  rw [after0_5, Refd.hdx, out5 m c t h]
  refine Eq.trans ?_ (law (fun k => hx _) (fun k => hfin h0 h1 _) (fun k => hg _) _ _)
  refine kdx_congr (fun k => ?_) (fun k => ?_) (fun k => ?_) ?_ ?_
  · blk_point [iblk, V, idx t]
  · refine cot m c t h _ _ ?_ ?_ <;> blk_simp [idx t] <;> omega
  · blk_point [iblk, V, idx t]
  · blk_point [iblk, V, idx t]
  · apply Fin.ext; blk_simp [idx t]

/-- The finished gradient of the gain is the reference's. -/
theorem final6 (c : Dev nD) : (dats m 0 c).arrAt 6 cfg0.N
    = val_main_v22 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  have h : t.val % 16 = 15 := (flush0_6 t).mp hf
  rw [after0_6, Refd.hdg, dgain m c t h]
  unfold part
  refine Fin.sum_mul_add_congr fun s k hl => ?_
  have hs := last s
  refine gain_congr (fun l => ?_) (fun l => ?_) ?_
  · blk_point [iblk, V, idx ⟨_, hs⟩]
  · refine cot m c ⟨_, hs⟩ (by show (4 * s.val + 3) % 4 = 3; omega) _ _ ?_ ?_ <;> blk_simp [idx t] <;> dsimp only <;> omega
  · apply Fin.ext; blk_simp [idx t]

end Cert.KernelIndxIdeal.Grad

end
-- ==== Proof.Indx.Tie.lean ====
/- The gradient in the argument of the input projection: the kernel and the reference return the same two arrays. -/
module

public import proofs.«01_k».proof.Defs
public import proofs.«01_k».proof.Proof.Gen.ReferenceIndxIdeal.Run
public import proofs.«01_k».proof.Proof.Indx.Grad

@[expose] public section

set_option maxRecDepth 16384

noncomputable section

open Idealize.ShloMosaic Idealize.ShloMosaic.TcCoe Idealize.SL.Sem

namespace Cert.KernelIndxIdeal.Grad

open Cert.ReferenceIndxIdeal.Read

open Cert.Finite

/-- The shape relations the precondition takes. -/
theorem preFacts : Cert.Pre_finite_indx.Facts where
  bcast_S_S4096x7168 := by decide
  reducesTo_S4096x7168_S_d0_1 := by decide
  h_S_ := by decide
  bcast_S_S7168x1024 := by decide
  reducesTo_S7168x1024_S_d0_1 := by decide
  bcast_S_S4096x1024 := by decide
  reducesTo_S4096x1024_S_d0_1 := by decide
  bcast_S_S1x1024 := by decide
  reducesTo_S1x1024_S_d0_1 := by decide

instance : Subsingleton Cert.Pre_finite_indx.S_.Idx := ⟨fun a b => funext fun k => k.elim0⟩

/-- Under the precondition the arguments it names hold real numbers. -/
theorem fin (m : (ℓ : Loc Cert.KernelIndxIdeal.nD Cert.KernelIndxIdeal.τ Cert.KernelIndxIdeal.sig) → Buf (Elt Ideal) ℓ)
    (h : Pre_KernelIndxIdeal_finite_indx (hPre_finite_indx := preFacts) m) (c : Dev Cert.KernelIndxIdeal.nD) :
    (∀ i, Fin1 (m ((c.tc : Thread Cert.KernelIndxIdeal.nD Cert.KernelIndxIdeal.τ).loc Cert.KernelIndxIdeal.main_arg0) i))
    ∧ (∀ i, Fin1 (m ((c.tc : Thread Cert.KernelIndxIdeal.nD Cert.KernelIndxIdeal.τ).loc Cert.KernelIndxIdeal.main_arg1) i))
    ∧ (∀ i, Fin1 (m ((c.tc : Thread Cert.KernelIndxIdeal.nD Cert.KernelIndxIdeal.τ).loc Cert.KernelIndxIdeal.main_arg2) i))
    ∧ (∀ i, Fin1 (m ((c.tc : Thread Cert.KernelIndxIdeal.nD Cert.KernelIndxIdeal.τ).loc Cert.KernelIndxIdeal.main_arg3) i)) := by
  have e := congrFun (h c) (fun k => k.elim0)
  obtain ⟨e, e3⟩ := andi_one e
  obtain ⟨e, e2⟩ := andi_one e
  obtain ⟨e0, e1⟩ := andi_one e
  exact ⟨fin_of_all16 _ _ _ _ _ _ e0, fin_of_all16 _ _ _ _ _ _ e1, fin_of_all32 _ _ _ _ _ _ e2, fin_of_all32 _ _ _ _ _ _ e3⟩

/-- From any memories that agree on the arguments, the kernel and the reference terminate, return the
    same arrays and leave their arguments unchanged. -/
theorem tie : algebraic_KernelIndxIdeal_ReferenceIndxIdeal_pre_finite_indx (hKernelIndxIdeal := Cert.KernelIndxIdeal.Gen.facts)
    (hReferenceIndxIdeal := Cert.ReferenceIndxIdeal.Gen.facts)
    (hPre_finite_indx := preFacts) := by
  intro m g m' g' hpre hag
  refine ⟨fun c => (Cert.KernelIndxIdeal.Gen.dats m 0 c).arrAt 5 Cert.KernelIndxIdeal.cfg0.N, fun c => (Cert.KernelIndxIdeal.Gen.dats m 0 c).arrAt 6 Cert.KernelIndxIdeal.cfg0.N,
    Cert.KernelIndxIdeal.Value.run_blocks m g, ?_⟩
  refine (θ_run _ _ _).mono (fun r h c => ?_) (Cert.ReferenceIndxIdeal.Value.run m' g')
  obtain ⟨e0, e1, e2, e3, e4⟩ := hag c
  obtain ⟨r0, r1, k0, k1, k2, k3, k4⟩ := h c
  exact ⟨r0.trans ((val_main_v39_eq _ _).trans (by rw [e0, e1, e2, e3, e4]; exact (final5 m c (fin m hpre c).1 (fin m hpre c).2.1 (fin m hpre c).2.2.1 (fin m hpre c).2.2.2).symm)),
    r1.trans ((val_main_v22_eq _ _ _).trans (by rw [e0, e1, e2]; exact (final6 m c).symm)),
    k0, k1, k2, k3, k4⟩

end Cert.KernelIndxIdeal.Grad

end
-- ==== Proof.Rmsf.Grad.lean ====
/- The row normalisation of the activations. -/
module

public import proofs.«01_k».proof.Proof.Gen.KernelRmsfIdeal.Value
public import proofs.«01_k».proof.Proof.Gen.ReferenceRmsfIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelRmsfIdeal.Grad

open Cert.KernelRmsfIdeal Cert.KernelRmsfIdeal.Gen
open Cert.ReferenceRmsfIdeal.Read

variable (m : (ℓ : Loc nD τ sig) → Buf (Elt Ideal) ℓ)

/-- Which block of its array each window holds at grid point `t`: row block `t`, and the whole gain. -/
theorem idx : ∀ t : Fin cfg0.N, win0_0.index t = ![t.val, 0] ∧ win0_1.index t = ![0, 0] ∧ win0_2.index t = ![t.val, 0] :=
  (by decide +kernel : ∀ t : Fin grid0.N, _)

/-- The array written through window 2 ends as the reference's result. -/
theorem final2 (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v12, val_main_v11, val_main_v9, val_main_v8, val_main_v7, val_main_v6, val_main_v4, val_main_v2, val_main_v1, val_main_v0, val_main_cst, val_main_v3, val_main_cst_0, val_main_v5, val_main_cst_1, val_main_v10]
  blk_point [iblk, V, idx t]

end Cert.KernelRmsfIdeal.Grad

end
-- ==== Proof.Rmsf.Tie.lean ====
/- The row normalisation of the activations: the kernel and the reference return the same arrays. -/
module

public import proofs.«01_k».proof.Defs
public import proofs.«01_k».proof.Proof.Gen.ReferenceRmsfIdeal.Run
public import proofs.«01_k».proof.Proof.Rmsf.Grad

@[expose] public section

set_option maxRecDepth 16384

noncomputable section

open Idealize.ShloMosaic Idealize.ShloMosaic.TcCoe Idealize.SL.Sem

namespace Cert.KernelRmsfIdeal.Grad

open Cert.ReferenceRmsfIdeal.Read

/-- From any memories that agree on the arguments, the kernel and the reference terminate, return the
    same arrays and leave their arguments unchanged. -/
theorem tie : algebraic_KernelRmsfIdeal_ReferenceRmsfIdeal (hKernelRmsfIdeal := Cert.KernelRmsfIdeal.Gen.facts)
    (hReferenceRmsfIdeal := Cert.ReferenceRmsfIdeal.Gen.facts) := by
  intro m g m' g' hpre hag
  refine ⟨fun c => (Cert.KernelRmsfIdeal.Gen.dats m 0 c).arrAt 2 Cert.KernelRmsfIdeal.cfg0.N,
    Cert.KernelRmsfIdeal.Value.run_blocks m g, ?_⟩
  refine (θ_run _ _ _).mono (fun r h c => ?_) (Cert.ReferenceRmsfIdeal.Value.run m' g')
  obtain ⟨e0, e1⟩ := hag c
  obtain ⟨r0, k0, k1⟩ := h c
  exact ⟨r0.trans ((val_main_v12_eq _ _).trans (by rw [e0, e1]; exact (final2 m c).symm)),
    k0, k1⟩

end Cert.KernelRmsfIdeal.Grad

end
-- ==== Proof.Rmsm.Grad.lean ====
/- The row normalisation of the memory. -/
module

public import proofs.«01_k».proof.Proof.Gen.KernelRmsmIdeal.Value
public import proofs.«01_k».proof.Proof.Gen.ReferenceRmsmIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelRmsmIdeal.Grad

open Cert.KernelRmsmIdeal Cert.KernelRmsmIdeal.Gen
open Cert.ReferenceRmsmIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] :=
  (by decide +kernel : ∀ t : Fin grid0.N, _)

/-- The array written through window 2 ends as the reference's result. -/
theorem final2 (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v12, val_main_v11, val_main_v9, val_main_v8, val_main_v7, val_main_v6, val_main_v4, val_main_v2, val_main_v1, val_main_v0, val_main_cst, val_main_v3, val_main_cst_0, val_main_v5, val_main_cst_1, val_main_v10]
  blk_point [iblk, V, idx t]

end Cert.KernelRmsmIdeal.Grad

end
-- ==== Proof.Rmsm.Tie.lean ====
/- The row normalisation of the memory: the kernel and the reference return the same arrays. -/
module

public import proofs.«01_k».proof.Defs
public import proofs.«01_k».proof.Proof.Gen.ReferenceRmsmIdeal.Run
public import proofs.«01_k».proof.Proof.Rmsm.Grad

@[expose] public section

set_option maxRecDepth 16384

noncomputable section

open Idealize.ShloMosaic Idealize.ShloMosaic.TcCoe Idealize.SL.Sem

namespace Cert.KernelRmsmIdeal.Grad

open Cert.ReferenceRmsmIdeal.Read

/-- From any memories that agree on the arguments, the kernel and the reference terminate, return the
    same arrays and leave their arguments unchanged. -/
theorem tie : algebraic_KernelRmsmIdeal_ReferenceRmsmIdeal (hKernelRmsmIdeal := Cert.KernelRmsmIdeal.Gen.facts)
    (hReferenceRmsmIdeal := Cert.ReferenceRmsmIdeal.Gen.facts) := by
  intro m g m' g' hpre hag
  refine ⟨fun c => (Cert.KernelRmsmIdeal.Gen.dats m 0 c).arrAt 2 Cert.KernelRmsmIdeal.cfg0.N,
    Cert.KernelRmsmIdeal.Value.run_blocks m g, ?_⟩
  refine (θ_run _ _ _).mono (fun r h c => ?_) (Cert.ReferenceRmsmIdeal.Value.run m' g')
  obtain ⟨e0, e1⟩ := hag c
  obtain ⟨r0, k0, k1⟩ := h c
  exact ⟨r0.trans ((val_main_v12_eq _ _).trans (by rw [e0, e1]; exact (final2 m c).symm)),
    k0, k1⟩

end Cert.KernelRmsmIdeal.Grad

end
-- ==== Proof.Adgain.Grad.lean ====
/- The optimiser's step of the normalisations' gains. -/
module

public import proofs.«01_k».proof.Proof.Gen.KernelAdgainIdeal.Value
public import proofs.«01_k».proof.Proof.Gen.ReferenceAdgainIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdgainIdeal.Grad

open Cert.KernelAdgainIdeal Cert.KernelAdgainIdeal.Gen
open Cert.ReferenceAdgainIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdgainIdeal.Grad

end
-- ==== Proof.Adgain.Tie.lean ====
/- The optimiser's step of the normalisations' gains: the kernel and the reference return the same arrays. -/
module

public import proofs.«01_k».proof.Defs
public import proofs.«01_k».proof.Proof.Gen.ReferenceAdgainIdeal.Run
public import proofs.«01_k».proof.Proof.Adgain.Grad

@[expose] public section

set_option maxRecDepth 16384

noncomputable section

open Idealize.ShloMosaic Idealize.ShloMosaic.TcCoe Idealize.SL.Sem

namespace Cert.KernelAdgainIdeal.Grad

open Cert.ReferenceAdgainIdeal.Read

/-- From any memories that agree on the arguments, the kernel and the reference terminate, return the
    same arrays and leave their arguments unchanged. -/
theorem tie : algebraic_KernelAdgainIdeal_ReferenceAdgainIdeal (hKernelAdgainIdeal := Cert.KernelAdgainIdeal.Gen.facts)
    (hReferenceAdgainIdeal := Cert.ReferenceAdgainIdeal.Gen.facts) := by
  intro m g m' g' hpre hag
  refine ⟨fun c => (Cert.KernelAdgainIdeal.Gen.dats m 0 c).arrAt 4 Cert.KernelAdgainIdeal.cfg0.N, fun c => (Cert.KernelAdgainIdeal.Gen.dats m 0 c).arrAt 5 Cert.KernelAdgainIdeal.cfg0.N, fun c => (Cert.KernelAdgainIdeal.Gen.dats m 0 c).arrAt 6 Cert.KernelAdgainIdeal.cfg0.N,
    Cert.KernelAdgainIdeal.Value.run_blocks m g, ?_⟩
  refine (θ_run _ _ _).mono (fun r h c => ?_) (Cert.ReferenceAdgainIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdgainIdeal.Grad

end
-- ==== Proof.Adfinal.Grad.lean ====
/- The optimiser's step of the last normalisation's gain. -/
module

public import proofs.«01_k».proof.Proof.Gen.KernelAdfinalIdeal.Value
public import proofs.«01_k».proof.Proof.Gen.ReferenceAdfinalIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdfinalIdeal.Grad

open Cert.KernelAdfinalIdeal Cert.KernelAdfinalIdeal.Gen
open Cert.ReferenceAdfinalIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdfinalIdeal.Grad

end
-- ==== Proof.Adfinal.Tie.lean ====
/- The optimiser's step of the last normalisation's gain: the kernel and the reference return the same arrays. -/
module

public import proofs.«01_k».proof.Defs
public import proofs.«01_k».proof.Proof.Gen.ReferenceAdfinalIdeal.Run
public import proofs.«01_k».proof.Proof.Adfinal.Grad

@[expose] public section

set_option maxRecDepth 16384

noncomputable section

open Idealize.ShloMosaic Idealize.ShloMosaic.TcCoe Idealize.SL.Sem

namespace Cert.KernelAdfinalIdeal.Grad

open Cert.ReferenceAdfinalIdeal.Read

/-- From any memories that agree on the arguments, the kernel and the reference terminate, return the
    same arrays and leave their arguments unchanged. -/
theorem tie : algebraic_KernelAdfinalIdeal_ReferenceAdfinalIdeal (hKernelAdfinalIdeal := Cert.KernelAdfinalIdeal.Gen.facts)
    (hReferenceAdfinalIdeal := Cert.ReferenceAdfinalIdeal.Gen.facts) := by
  intro m g m' g' hpre hag
  refine ⟨fun c => (Cert.KernelAdfinalIdeal.Gen.dats m 0 c).arrAt 4 Cert.KernelAdfinalIdeal.cfg0.N, fun c => (Cert.KernelAdfinalIdeal.Gen.dats m 0 c).arrAt 5 Cert.KernelAdfinalIdeal.cfg0.N, fun c => (Cert.KernelAdfinalIdeal.Gen.dats m 0 c).arrAt 6 Cert.KernelAdfinalIdeal.cfg0.N,
    Cert.KernelAdfinalIdeal.Value.run_blocks m g, ?_⟩
  refine (θ_run _ _ _).mono (fun r h c => ?_) (Cert.ReferenceAdfinalIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdfinalIdeal.Grad

end
-- ==== Proof.Adwin.Grad.lean ====
/- The optimiser's step of one device's input projection. -/
module

public import proofs.«01_k».proof.Proof.Gen.KernelAdwinIdeal.Value
public import proofs.«01_k».proof.Proof.Gen.ReferenceAdwinIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdwinIdeal.Grad

open Cert.KernelAdwinIdeal Cert.KernelAdwinIdeal.Gen
open Cert.ReferenceAdwinIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdwinIdeal.Grad

end
-- ==== Proof.Adwin.Tie.lean ====
/- The optimiser's step of one device's input projection: the kernel and the reference return the same arrays. -/
module

public import proofs.«01_k».proof.Defs
public import proofs.«01_k».proof.Proof.Gen.ReferenceAdwinIdeal.Run
public import proofs.«01_k».proof.Proof.Adwin.Grad

@[expose] public section

set_option maxRecDepth 16384

noncomputable section

open Idealize.ShloMosaic Idealize.ShloMosaic.TcCoe Idealize.SL.Sem

namespace Cert.KernelAdwinIdeal.Grad

open Cert.ReferenceAdwinIdeal.Read

/-- From any memories that agree on the arguments, the kernel and the reference terminate, return the
    same arrays and leave their arguments unchanged. -/
theorem tie : algebraic_KernelAdwinIdeal_ReferenceAdwinIdeal (hKernelAdwinIdeal := Cert.KernelAdwinIdeal.Gen.facts)
    (hReferenceAdwinIdeal := Cert.ReferenceAdwinIdeal.Gen.facts) := by
  intro m g m' g' hpre hag
  refine ⟨fun c => (Cert.KernelAdwinIdeal.Gen.dats m 0 c).arrAt 4 Cert.KernelAdwinIdeal.cfg0.N, fun c => (Cert.KernelAdwinIdeal.Gen.dats m 0 c).arrAt 5 Cert.KernelAdwinIdeal.cfg0.N, fun c => (Cert.KernelAdwinIdeal.Gen.dats m 0 c).arrAt 6 Cert.KernelAdwinIdeal.cfg0.N,
    Cert.KernelAdwinIdeal.Value.run_blocks m g, ?_⟩
  refine (θ_run _ _ _).mono (fun r h c => ?_) (Cert.ReferenceAdwinIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdwinIdeal.Grad

end
-- ==== Proof.Adsgu.Grad.lean ====
/- The optimiser's step of the gating unit's gain and bias. -/
module

public import proofs.«01_k».proof.Proof.Gen.KernelAdsguIdeal.Value
public import proofs.«01_k».proof.Proof.Gen.ReferenceAdsguIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdsguIdeal.Grad

open Cert.KernelAdsguIdeal Cert.KernelAdsguIdeal.Gen
open Cert.ReferenceAdsguIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdsguIdeal.Grad

end
-- ==== Proof.Adsgu.Tie.lean ====
/- The optimiser's step of the gating unit's gain and bias: the kernel and the reference return the same arrays. -/
module

public import proofs.«01_k».proof.Defs
public import proofs.«01_k».proof.Proof.Gen.ReferenceAdsguIdeal.Run
public import proofs.«01_k».proof.Proof.Adsgu.Grad

@[expose] public section

set_option maxRecDepth 16384

noncomputable section

open Idealize.ShloMosaic Idealize.ShloMosaic.TcCoe Idealize.SL.Sem

namespace Cert.KernelAdsguIdeal.Grad

open Cert.ReferenceAdsguIdeal.Read

/-- From any memories that agree on the arguments, the kernel and the reference terminate, return the
    same arrays and leave their arguments unchanged. -/
theorem tie : algebraic_KernelAdsguIdeal_ReferenceAdsguIdeal (hKernelAdsguIdeal := Cert.KernelAdsguIdeal.Gen.facts)
    (hReferenceAdsguIdeal := Cert.ReferenceAdsguIdeal.Gen.facts) := by
  intro m g m' g' hpre hag
  refine ⟨fun c => (Cert.KernelAdsguIdeal.Gen.dats m 0 c).arrAt 4 Cert.KernelAdsguIdeal.cfg0.N, fun c => (Cert.KernelAdsguIdeal.Gen.dats m 0 c).arrAt 5 Cert.KernelAdsguIdeal.cfg0.N, fun c => (Cert.KernelAdsguIdeal.Gen.dats m 0 c).arrAt 6 Cert.KernelAdsguIdeal.cfg0.N,
    Cert.KernelAdsguIdeal.Value.run_blocks m g, ?_⟩
  refine (θ_run _ _ _).mono (fun r h c => ?_) (Cert.ReferenceAdsguIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdsguIdeal.Grad

end
-- ==== Proof.Adspat.Grad.lean ====
/- The optimiser's step of the spatial weights. -/
module

public import proofs.«01_k».proof.Proof.Gen.KernelAdspatIdeal.Value
public import proofs.«01_k».proof.Proof.Gen.ReferenceAdspatIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdspatIdeal.Grad

open Cert.KernelAdspatIdeal Cert.KernelAdspatIdeal.Gen
open Cert.ReferenceAdspatIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdspatIdeal.Grad

end
-- ==== Proof.Adspat.Tie.lean ====
/- The optimiser's step of the spatial weights: the kernel and the reference return the same arrays. -/
module

public import proofs.«01_k».proof.Defs
public import proofs.«01_k».proof.Proof.Gen.ReferenceAdspatIdeal.Run
public import proofs.«01_k».proof.Proof.Adspat.Grad

@[expose] public section

set_option maxRecDepth 16384

noncomputable section

open Idealize.ShloMosaic Idealize.ShloMosaic.TcCoe Idealize.SL.Sem

namespace Cert.KernelAdspatIdeal.Grad

open Cert.ReferenceAdspatIdeal.Read

/-- From any memories that agree on the arguments, the kernel and the reference terminate, return the
    same arrays and leave their arguments unchanged. -/
theorem tie : algebraic_KernelAdspatIdeal_ReferenceAdspatIdeal (hKernelAdspatIdeal := Cert.KernelAdspatIdeal.Gen.facts)
    (hReferenceAdspatIdeal := Cert.ReferenceAdspatIdeal.Gen.facts) := by
  intro m g m' g' hpre hag
  refine ⟨fun c => (Cert.KernelAdspatIdeal.Gen.dats m 0 c).arrAt 4 Cert.KernelAdspatIdeal.cfg0.N, fun c => (Cert.KernelAdspatIdeal.Gen.dats m 0 c).arrAt 5 Cert.KernelAdspatIdeal.cfg0.N, fun c => (Cert.KernelAdspatIdeal.Gen.dats m 0 c).arrAt 6 Cert.KernelAdspatIdeal.cfg0.N,
    Cert.KernelAdspatIdeal.Value.run_blocks m g, ?_⟩
  refine (θ_run _ _ _).mono (fun r h c => ?_) (Cert.ReferenceAdspatIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdspatIdeal.Grad

end
-- ==== Proof.Adbias.Grad.lean ====
/- The optimiser's step of the spatial biases. -/
module

public import proofs.«01_k».proof.Proof.Gen.KernelAdbiasIdeal.Value
public import proofs.«01_k».proof.Proof.Gen.ReferenceAdbiasIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdbiasIdeal.Grad

open Cert.KernelAdbiasIdeal Cert.KernelAdbiasIdeal.Gen
open Cert.ReferenceAdbiasIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdbiasIdeal.Grad

end
-- ==== Proof.Adbias.Tie.lean ====
/- The optimiser's step of the spatial biases: the kernel and the reference return the same arrays. -/
module

public import proofs.«01_k».proof.Defs
public import proofs.«01_k».proof.Proof.Gen.ReferenceAdbiasIdeal.Run
public import proofs.«01_k».proof.Proof.Adbias.Grad

@[expose] public section

set_option maxRecDepth 16384

noncomputable section

open Idealize.ShloMosaic Idealize.ShloMosaic.TcCoe Idealize.SL.Sem

namespace Cert.KernelAdbiasIdeal.Grad

open Cert.ReferenceAdbiasIdeal.Read

/-- From any memories that agree on the arguments, the kernel and the reference terminate, return the
    same arrays and leave their arguments unchanged. -/
theorem tie : algebraic_KernelAdbiasIdeal_ReferenceAdbiasIdeal (hKernelAdbiasIdeal := Cert.KernelAdbiasIdeal.Gen.facts)
    (hReferenceAdbiasIdeal := Cert.ReferenceAdbiasIdeal.Gen.facts) := by
  intro m g m' g' hpre hag
  refine ⟨fun c => (Cert.KernelAdbiasIdeal.Gen.dats m 0 c).arrAt 4 Cert.KernelAdbiasIdeal.cfg0.N, fun c => (Cert.KernelAdbiasIdeal.Gen.dats m 0 c).arrAt 5 Cert.KernelAdbiasIdeal.cfg0.N, fun c => (Cert.KernelAdbiasIdeal.Gen.dats m 0 c).arrAt 6 Cert.KernelAdbiasIdeal.cfg0.N,
    Cert.KernelAdbiasIdeal.Value.run_blocks m g, ?_⟩
  refine (θ_run _ _ _).mono (fun r h c => ?_) (Cert.ReferenceAdbiasIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdbiasIdeal.Grad

end
-- ==== Proof.Adconv.Grad.lean ====
/- The optimiser's step of one device's convolution weights. -/
module

public import proofs.«01_k».proof.Proof.Gen.KernelAdconvIdeal.Value
public import proofs.«01_k».proof.Proof.Gen.ReferenceAdconvIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdconvIdeal.Grad

open Cert.KernelAdconvIdeal Cert.KernelAdconvIdeal.Gen
open Cert.ReferenceAdconvIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdconvIdeal.Grad

end
-- ==== Proof.Adconv.Tie.lean ====
/- The optimiser's step of one device's convolution weights: the kernel and the reference return the same arrays. -/
module

public import proofs.«01_k».proof.Defs
public import proofs.«01_k».proof.Proof.Gen.ReferenceAdconvIdeal.Run
public import proofs.«01_k».proof.Proof.Adconv.Grad

@[expose] public section

set_option maxRecDepth 16384

noncomputable section

open Idealize.ShloMosaic Idealize.ShloMosaic.TcCoe Idealize.SL.Sem

namespace Cert.KernelAdconvIdeal.Grad

open Cert.ReferenceAdconvIdeal.Read

/-- From any memories that agree on the arguments, the kernel and the reference terminate, return the
    same arrays and leave their arguments unchanged. -/
theorem tie : algebraic_KernelAdconvIdeal_ReferenceAdconvIdeal (hKernelAdconvIdeal := Cert.KernelAdconvIdeal.Gen.facts)
    (hReferenceAdconvIdeal := Cert.ReferenceAdconvIdeal.Gen.facts) := by
  intro m g m' g' hpre hag
  refine ⟨fun c => (Cert.KernelAdconvIdeal.Gen.dats m 0 c).arrAt 4 Cert.KernelAdconvIdeal.cfg0.N, fun c => (Cert.KernelAdconvIdeal.Gen.dats m 0 c).arrAt 5 Cert.KernelAdconvIdeal.cfg0.N, fun c => (Cert.KernelAdconvIdeal.Gen.dats m 0 c).arrAt 6 Cert.KernelAdconvIdeal.cfg0.N,
    Cert.KernelAdconvIdeal.Value.run_blocks m g, ?_⟩
  refine (θ_run _ _ _).mono (fun r h c => ?_) (Cert.ReferenceAdconvIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdconvIdeal.Grad

end
-- ==== Proof.Adbranch.Grad.lean ====
/- The optimiser's step of one device's branch projections. -/
module

public import proofs.«01_k».proof.Proof.Gen.KernelAdbranchIdeal.Value
public import proofs.«01_k».proof.Proof.Gen.ReferenceAdbranchIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdbranchIdeal.Grad

open Cert.KernelAdbranchIdeal Cert.KernelAdbranchIdeal.Gen
open Cert.ReferenceAdbranchIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdbranchIdeal.Grad

end
-- ==== Proof.Adbranch.Tie.lean ====
/- The optimiser's step of one device's branch projections: the kernel and the reference return the same arrays. -/
module

public import proofs.«01_k».proof.Defs
public import proofs.«01_k».proof.Proof.Gen.ReferenceAdbranchIdeal.Run
public import proofs.«01_k».proof.Proof.Adbranch.Grad

@[expose] public section

set_option maxRecDepth 16384

noncomputable section

open Idealize.ShloMosaic Idealize.ShloMosaic.TcCoe Idealize.SL.Sem

namespace Cert.KernelAdbranchIdeal.Grad

open Cert.ReferenceAdbranchIdeal.Read

/-- From any memories that agree on the arguments, the kernel and the reference terminate, return the
    same arrays and leave their arguments unchanged. -/
theorem tie : algebraic_KernelAdbranchIdeal_ReferenceAdbranchIdeal (hKernelAdbranchIdeal := Cert.KernelAdbranchIdeal.Gen.facts)
    (hReferenceAdbranchIdeal := Cert.ReferenceAdbranchIdeal.Gen.facts) := by
  intro m g m' g' hpre hag
  refine ⟨fun c => (Cert.KernelAdbranchIdeal.Gen.dats m 0 c).arrAt 4 Cert.KernelAdbranchIdeal.cfg0.N, fun c => (Cert.KernelAdbranchIdeal.Gen.dats m 0 c).arrAt 5 Cert.KernelAdbranchIdeal.cfg0.N, fun c => (Cert.KernelAdbranchIdeal.Gen.dats m 0 c).arrAt 6 Cert.KernelAdbranchIdeal.cfg0.N,
    Cert.KernelAdbranchIdeal.Value.run_blocks m g, ?_⟩
  refine (θ_run _ _ _).mono (fun r h c => ?_) (Cert.ReferenceAdbranchIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdbranchIdeal.Grad

end
-- ==== Proof.Adsquare.Grad.lean ====
/- The optimiser's step of one device's square projections. -/
module

public import proofs.«01_k».proof.Proof.Gen.KernelAdsquareIdeal.Value
public import proofs.«01_k».proof.Proof.Gen.ReferenceAdsquareIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdsquareIdeal.Grad

open Cert.KernelAdsquareIdeal Cert.KernelAdsquareIdeal.Gen
open Cert.ReferenceAdsquareIdeal.Read

variable (m : (ℓ : Loc nD τ sig) → Buf (Elt Ideal) ℓ)

/-- The one grid point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdsquareIdeal.Grad

end
-- ==== Proof.Adsquare.Tie.lean ====
/- The optimiser's step of one device's square projections: the kernel and the reference return the same arrays. -/
module

public import proofs.«01_k».proof.Defs
public import proofs.«01_k».proof.Proof.Gen.ReferenceAdsquareIdeal.Run
public import proofs.«01_k».proof.Proof.Adsquare.Grad

@[expose] public section

set_option maxRecDepth 16384

noncomputable section

open Idealize.ShloMosaic Idealize.ShloMosaic.TcCoe Idealize.SL.Sem

namespace Cert.KernelAdsquareIdeal.Grad

open Cert.ReferenceAdsquareIdeal.Read

/-- From any memories that agree on the arguments, the kernel and the reference terminate, return the
    same arrays and leave their arguments unchanged. -/
theorem tie : algebraic_KernelAdsquareIdeal_ReferenceAdsquareIdeal (hKernelAdsquareIdeal := Cert.KernelAdsquareIdeal.Gen.facts)
    (hReferenceAdsquareIdeal := Cert.ReferenceAdsquareIdeal.Gen.facts) := by
  intro m g m' g' hpre hag
  refine ⟨fun c => (Cert.KernelAdsquareIdeal.Gen.dats m 0 c).arrAt 4 Cert.KernelAdsquareIdeal.cfg0.N, fun c => (Cert.KernelAdsquareIdeal.Gen.dats m 0 c).arrAt 5 Cert.KernelAdsquareIdeal.cfg0.N, fun c => (Cert.KernelAdsquareIdeal.Gen.dats m 0 c).arrAt 6 Cert.KernelAdsquareIdeal.cfg0.N,
    Cert.KernelAdsquareIdeal.Value.run_blocks m g, ?_⟩
  refine (θ_run _ _ _).mono (fun r h c => ?_) (Cert.ReferenceAdsquareIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdsquareIdeal.Grad

end
-- ==== Proof.Adffn.Grad.lean ====
/- The optimiser's step of one device's first feed-forward weights. -/
module

public import proofs.«01_k».proof.Proof.Gen.KernelAdffnIdeal.Value
public import proofs.«01_k».proof.Proof.Gen.ReferenceAdffnIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAdffnIdeal.Grad

open Cert.KernelAdffnIdeal Cert.KernelAdffnIdeal.Gen
open Cert.ReferenceAdffnIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAdffnIdeal.Grad

end
-- ==== Proof.Adffn.Tie.lean ====
/- The optimiser's step of one device's first feed-forward weights: the kernel and the reference return the same arrays. -/
module

public import proofs.«01_k».proof.Defs
public import proofs.«01_k».proof.Proof.Gen.ReferenceAdffnIdeal.Run
public import proofs.«01_k».proof.Proof.Adffn.Grad

@[expose] public section

set_option maxRecDepth 16384

noncomputable section

open Idealize.ShloMosaic Idealize.ShloMosaic.TcCoe Idealize.SL.Sem

namespace Cert.KernelAdffnIdeal.Grad

open Cert.ReferenceAdffnIdeal.Read

/-- From any memories that agree on the arguments, the kernel and the reference terminate, return the
    same arrays and leave their arguments unchanged. -/
theorem tie : algebraic_KernelAdffnIdeal_ReferenceAdffnIdeal (hKernelAdffnIdeal := Cert.KernelAdffnIdeal.Gen.facts)
    (hReferenceAdffnIdeal := Cert.ReferenceAdffnIdeal.Gen.facts) := by
  intro m g m' g' hpre hag
  refine ⟨fun c => (Cert.KernelAdffnIdeal.Gen.dats m 0 c).arrAt 4 Cert.KernelAdffnIdeal.cfg0.N, fun c => (Cert.KernelAdffnIdeal.Gen.dats m 0 c).arrAt 5 Cert.KernelAdffnIdeal.cfg0.N, fun c => (Cert.KernelAdffnIdeal.Gen.dats m 0 c).arrAt 6 Cert.KernelAdffnIdeal.cfg0.N,
    Cert.KernelAdffnIdeal.Value.run_blocks m g, ?_⟩
  refine (θ_run _ _ _).mono (fun r h c => ?_) (Cert.ReferenceAdffnIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAdffnIdeal.Grad

end
-- ==== Proof.Addown.Grad.lean ====
/- The optimiser's step of one device's last feed-forward weights. -/
module

public import proofs.«01_k».proof.Proof.Gen.KernelAddownIdeal.Value
public import proofs.«01_k».proof.Proof.Gen.ReferenceAddownIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelAddownIdeal.Grad

open Cert.KernelAddownIdeal Cert.KernelAddownIdeal.Gen
open Cert.ReferenceAddownIdeal.Read

variable (m : (ℓ : Loc nD τ sig) → Buf (Elt Ideal) ℓ)

/-- Which block of its array each window holds at grid point `t`: row block `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The array written through window 4 ends as the reference's result. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

/-- The array written through window 5 ends as the reference's result. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, val_main_v4, val_main_v1, val_main_v0, val_main_cst, val_main_v3, val_main_v2, val_main_cst_0]
  blk_point [iblk, V, idx t]

/-- The array written through window 6 ends as the reference's result. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, val_main_v10, val_main_v6, val_main_v5, val_main_cst_1, val_main_v9, val_main_v8, val_main_cst_2, val_main_v7]
  blk_point [iblk, V, idx t]

end Cert.KernelAddownIdeal.Grad

end
-- ==== Proof.Addown.Tie.lean ====
/- The optimiser's step of one device's last feed-forward weights: the kernel and the reference return the same arrays. -/
module

public import proofs.«01_k».proof.Defs
public import proofs.«01_k».proof.Proof.Gen.ReferenceAddownIdeal.Run
public import proofs.«01_k».proof.Proof.Addown.Grad

@[expose] public section

set_option maxRecDepth 16384

noncomputable section

open Idealize.ShloMosaic Idealize.ShloMosaic.TcCoe Idealize.SL.Sem

namespace Cert.KernelAddownIdeal.Grad

open Cert.ReferenceAddownIdeal.Read

/-- From any memories that agree on the arguments, the kernel and the reference terminate, return the
    same arrays and leave their arguments unchanged. -/
theorem tie : algebraic_KernelAddownIdeal_ReferenceAddownIdeal (hKernelAddownIdeal := Cert.KernelAddownIdeal.Gen.facts)
    (hReferenceAddownIdeal := Cert.ReferenceAddownIdeal.Gen.facts) := by
  intro m g m' g' hpre hag
  refine ⟨fun c => (Cert.KernelAddownIdeal.Gen.dats m 0 c).arrAt 4 Cert.KernelAddownIdeal.cfg0.N, fun c => (Cert.KernelAddownIdeal.Gen.dats m 0 c).arrAt 5 Cert.KernelAddownIdeal.cfg0.N, fun c => (Cert.KernelAddownIdeal.Gen.dats m 0 c).arrAt 6 Cert.KernelAddownIdeal.cfg0.N,
    Cert.KernelAddownIdeal.Value.run_blocks m g, ?_⟩
  refine (θ_run _ _ _).mono (fun r h c => ?_) (Cert.ReferenceAddownIdeal.Value.run m' g')
  obtain ⟨e0, e1, e2, e3⟩ := hag c
  obtain ⟨r0, r1, r2, k0, k1, k2, k3⟩ := h c
  exact ⟨r0.trans ((val_main_v23_eq _ _ _ _).trans (by rw [e0, e1, e2, e3]; exact (final4 m c).symm)),
    r1.trans ((val_main_v4_eq _ _).trans (by rw [e1, e2]; exact (final5 m c).symm)),
    r2.trans ((val_main_v10_eq _ _).trans (by rw [e1, e3]; exact (final6 m c).symm)),
    k0, k1, k2, k3⟩

end Cert.KernelAddownIdeal.Grad

end
-- ==== Proof.lean ====
module

public import proofs.«01_k».proof.Defs
public import proofs.«01_k».proof.Proof.Gen.KernelSb.Frame
public import proofs.«01_k».proof.Proof.Gen.KernelSbIdeal.Frame
public import proofs.«01_k».proof.Proof.Gen.ReferenceSbIdeal.Run
public import proofs.«01_k».proof.Proof.Gen.KernelConv.Frame
public import proofs.«01_k».proof.Proof.Gen.KernelConvIdeal.Frame
public import proofs.«01_k».proof.Proof.Gen.ReferenceConvIdeal.Run
public import proofs.«01_k».proof.Proof.Gen.KernelMerge.Frame
public import proofs.«01_k».proof.Proof.Gen.KernelMergeIdeal.Frame
public import proofs.«01_k».proof.Proof.Gen.ReferenceMergeIdeal.Run
public import proofs.«01_k».proof.Proof.Merge.Tie
public import proofs.«01_k».proof.Proof.Gen.KernelXa.Frame
public import proofs.«01_k».proof.Proof.Gen.KernelXaIdeal.Frame
public import proofs.«01_k».proof.Proof.Gen.ReferenceXaIdeal.Run
public import proofs.«01_k».proof.Proof.Xa.Tie
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Ffn.Tie
public import proofs.«01_k».proof.Proof.Gen.KernelInp.Frame
public import proofs.«01_k».proof.Proof.Gen.KernelInpIdeal.Frame
public import proofs.«01_k».proof.Proof.Gen.ReferenceInpIdeal.Run
public import proofs.«01_k».proof.Proof.Inp.Tie
public import proofs.«01_k».proof.Proof.Gen.KernelWindw.Frame
public import proofs.«01_k».proof.Proof.Gen.KernelWindwIdeal.Frame
public import proofs.«01_k».proof.Proof.Gen.ReferenceWindwIdeal.Run
public import proofs.«01_k».proof.Proof.Windw.Tie
public import proofs.«01_k».proof.Proof.Gen.KernelFfnin.Frame
public import proofs.«01_k».proof.Proof.Gen.KernelFfninIdeal.Frame
public import proofs.«01_k».proof.Proof.Gen.ReferenceFfninIdeal.Run
public import proofs.«01_k».proof.Proof.Ffnin.Tie
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Down.Tie
public import proofs.«01_k».proof.Proof.Gen.KernelDowndw.Frame
public import proofs.«01_k».proof.Proof.Gen.KernelDowndwIdeal.Frame
public import proofs.«01_k».proof.Proof.Gen.ReferenceDowndwIdeal.Run
public import proofs.«01_k».proof.Proof.Downdw.Tie
public import proofs.«01_k».proof.Proof.Gen.KernelGatedw.Frame
public import proofs.«01_k».proof.Proof.Gen.KernelGatedwIdeal.Frame
public import proofs.«01_k».proof.Proof.Gen.ReferenceGatedwIdeal.Run
public import proofs.«01_k».proof.Proof.Gatedw.Tie
public import proofs.«01_k».proof.Proof.Gen.KernelGatedx.Frame
public import proofs.«01_k».proof.Proof.Gen.KernelGatedxIdeal.Frame
public import proofs.«01_k».proof.Proof.Gen.ReferenceGatedxIdeal.Run
public import proofs.«01_k».proof.Proof.Gatedx.Tie
public import proofs.«01_k».proof.Proof.Gen.KernelOutdx.Frame
public import proofs.«01_k».proof.Proof.Gen.KernelOutdxIdeal.Frame
public import proofs.«01_k».proof.Proof.Gen.ReferenceOutdxIdeal.Run
public import proofs.«01_k».proof.Proof.Outdx.Tie
public import proofs.«01_k».proof.Proof.Gen.KernelOutdw.Frame
public import proofs.«01_k».proof.Proof.Gen.KernelOutdwIdeal.Frame
public import proofs.«01_k».proof.Proof.Gen.ReferenceOutdwIdeal.Run
public import proofs.«01_k».proof.Proof.Outdw.Tie
public import proofs.«01_k».proof.Proof.Gen.KernelMergef.Frame
public import proofs.«01_k».proof.Proof.Gen.KernelMergefIdeal.Frame
public import proofs.«01_k».proof.Proof.Gen.ReferenceMergefIdeal.Run
public import proofs.«01_k».proof.Proof.Mergef.Tie
public import proofs.«01_k».proof.Proof.Gen.KernelXaq.Frame
public import proofs.«01_k».proof.Proof.Gen.KernelXaqIdeal.Frame
public import proofs.«01_k».proof.Proof.Gen.ReferenceXaqIdeal.Run
public import proofs.«01_k».proof.Proof.Xaq.Tie
public import proofs.«01_k».proof.Proof.Gen.KernelOutp.Frame
public import proofs.«01_k».proof.Proof.Gen.KernelOutpIdeal.Frame
public import proofs.«01_k».proof.Proof.Gen.ReferenceOutpIdeal.Run
public import proofs.«01_k».proof.Proof.Outp.Tie
public import proofs.«01_k».proof.Proof.Gen.KernelXaodx.Frame
public import proofs.«01_k».proof.Proof.Gen.KernelXaodxIdeal.Frame
public import proofs.«01_k».proof.Proof.Gen.ReferenceXaodxIdeal.Run
public import proofs.«01_k».proof.Proof.Xaodx.Tie
public import proofs.«01_k».proof.Proof.Gen.KernelXaqdw.Frame
public import proofs.«01_k».proof.Proof.Gen.KernelXaqdwIdeal.Frame
public import proofs.«01_k».proof.Proof.Gen.ReferenceXaqdwIdeal.Run
public import proofs.«01_k».proof.Proof.Xaqdw.Tie
public import proofs.«01_k».proof.Proof.Gen.KernelBranchdw.Frame
public import proofs.«01_k».proof.Proof.Gen.KernelBranchdwIdeal.Frame
public import proofs.«01_k».proof.Proof.Gen.ReferenceBranchdwIdeal.Run
public import proofs.«01_k».proof.Proof.Branchdw.Tie
public import proofs.«01_k».proof.Proof.Gen.KernelXak.Frame
public import proofs.«01_k».proof.Proof.Gen.KernelXakIdeal.Frame
public import proofs.«01_k».proof.Proof.Gen.ReferenceXakIdeal.Run
public import proofs.«01_k».proof.Proof.Xak.Tie
public import proofs.«01_k».proof.Proof.Gen.KernelXakdw.Frame
public import proofs.«01_k».proof.Proof.Gen.KernelXakdwIdeal.Frame
public import proofs.«01_k».proof.Proof.Gen.ReferenceXakdwIdeal.Run
public import proofs.«01_k».proof.Proof.Xakdw.Tie
public import proofs.«01_k».proof.Proof.Gen.KernelXakdx.Frame
public import proofs.«01_k».proof.Proof.Gen.KernelXakdxIdeal.Frame
public import proofs.«01_k».proof.Proof.Gen.ReferenceXakdxIdeal.Run
public import proofs.«01_k».proof.Proof.Xakdx.Tie
public import proofs.«01_k».proof.Proof.Gen.KernelXavdx.Frame
public import proofs.«01_k».proof.Proof.Gen.KernelXavdxIdeal.Frame
public import proofs.«01_k».proof.Proof.Gen.ReferenceXavdxIdeal.Run
public import proofs.«01_k».proof.Proof.Xavdx.Tie
public import proofs.«01_k».proof.Proof.Gen.KernelXaqdx.Frame
public import proofs.«01_k».proof.Proof.Gen.KernelXaqdxIdeal.Frame
public import proofs.«01_k».proof.Proof.Gen.ReferenceXaqdxIdeal.Run
public import proofs.«01_k».proof.Proof.Xaqdx.Tie
public import proofs.«01_k».proof.Proof.Gen.KernelUpdx.Frame
public import proofs.«01_k».proof.Proof.Gen.KernelUpdxIdeal.Frame
public import proofs.«01_k».proof.Proof.Gen.ReferenceUpdxIdeal.Run
public import proofs.«01_k».proof.Proof.Updx.Tie
public import proofs.«01_k».proof.Proof.Gen.KernelIndx.Frame
public import proofs.«01_k».proof.Proof.Gen.KernelIndxIdeal.Frame
public import proofs.«01_k».proof.Proof.Gen.ReferenceIndxIdeal.Run
public import proofs.«01_k».proof.Proof.Indx.Tie
public import proofs.«01_k».proof.Proof.Gen.KernelRmsf.Frame
public import proofs.«01_k».proof.Proof.Gen.KernelRmsfIdeal.Frame
public import proofs.«01_k».proof.Proof.Gen.ReferenceRmsfIdeal.Run
public import proofs.«01_k».proof.Proof.Rmsf.Tie
public import proofs.«01_k».proof.Proof.Gen.KernelRmsm.Frame
public import proofs.«01_k».proof.Proof.Gen.KernelRmsmIdeal.Frame
public import proofs.«01_k».proof.Proof.Gen.ReferenceRmsmIdeal.Run
public import proofs.«01_k».proof.Proof.Rmsm.Tie
public import proofs.«01_k».proof.Proof.Gen.KernelAdgain.Frame
public import proofs.«01_k».proof.Proof.Gen.KernelAdgainIdeal.Frame
public import proofs.«01_k».proof.Proof.Gen.ReferenceAdgainIdeal.Run
public import proofs.«01_k».proof.Proof.Adgain.Tie
public import proofs.«01_k».proof.Proof.Gen.KernelAdfinal.Frame
public import proofs.«01_k».proof.Proof.Gen.KernelAdfinalIdeal.Frame
public import proofs.«01_k».proof.Proof.Gen.ReferenceAdfinalIdeal.Run
public import proofs.«01_k».proof.Proof.Adfinal.Tie
public import proofs.«01_k».proof.Proof.Gen.KernelAdwin.Frame
public import proofs.«01_k».proof.Proof.Gen.KernelAdwinIdeal.Frame
public import proofs.«01_k».proof.Proof.Gen.ReferenceAdwinIdeal.Run
public import proofs.«01_k».proof.Proof.Adwin.Tie
public import proofs.«01_k».proof.Proof.Gen.KernelAdsgu.Frame
public import proofs.«01_k».proof.Proof.Gen.KernelAdsguIdeal.Frame
public import proofs.«01_k».proof.Proof.Gen.ReferenceAdsguIdeal.Run
public import proofs.«01_k».proof.Proof.Adsgu.Tie
public import proofs.«01_k».proof.Proof.Gen.KernelAdspat.Frame
public import proofs.«01_k».proof.Proof.Gen.KernelAdspatIdeal.Frame
public import proofs.«01_k».proof.Proof.Gen.ReferenceAdspatIdeal.Run
public import proofs.«01_k».proof.Proof.Adspat.Tie
public import proofs.«01_k».proof.Proof.Gen.KernelAdbias.Frame
public import proofs.«01_k».proof.Proof.Gen.KernelAdbiasIdeal.Frame
public import proofs.«01_k».proof.Proof.Gen.ReferenceAdbiasIdeal.Run
public import proofs.«01_k».proof.Proof.Adbias.Tie
public import proofs.«01_k».proof.Proof.Gen.KernelAdconv.Frame
public import proofs.«01_k».proof.Proof.Gen.KernelAdconvIdeal.Frame
public import proofs.«01_k».proof.Proof.Gen.ReferenceAdconvIdeal.Run
public import proofs.«01_k».proof.Proof.Adconv.Tie
public import proofs.«01_k».proof.Proof.Gen.KernelAdbranch.Frame
public import proofs.«01_k».proof.Proof.Gen.KernelAdbranchIdeal.Frame
public import proofs.«01_k».proof.Proof.Gen.ReferenceAdbranchIdeal.Run
public import proofs.«01_k».proof.Proof.Adbranch.Tie
public import proofs.«01_k».proof.Proof.Gen.KernelAdsquare.Frame
public import proofs.«01_k».proof.Proof.Gen.KernelAdsquareIdeal.Frame
public import proofs.«01_k».proof.Proof.Gen.ReferenceAdsquareIdeal.Run
public import proofs.«01_k».proof.Proof.Adsquare.Tie
public import proofs.«01_k».proof.Proof.Gen.KernelAdffn.Frame
public import proofs.«01_k».proof.Proof.Gen.KernelAdffnIdeal.Frame
public import proofs.«01_k».proof.Proof.Gen.ReferenceAdffnIdeal.Run
public import proofs.«01_k».proof.Proof.Adffn.Tie
public import proofs.«01_k».proof.Proof.Gen.KernelAddown.Frame
public import proofs.«01_k».proof.Proof.Gen.KernelAddownIdeal.Frame
public import proofs.«01_k».proof.Proof.Gen.ReferenceAddownIdeal.Run
public import proofs.«01_k».proof.Proof.Addown.Tie

@[expose] public section

noncomputable section

namespace Cert.Proof

open Idealize.ShloMosaic Idealize.SL.Sem

/-- The reference of the stick-breaking attention backward pass terminates with its arguments unchanged: its run, with the results
    forgotten; it declares no semaphore. -/
theorem frame_reference_sb : Cert.quiescent_ReferenceSbIdeal := fun m ρ _ =>
  (θ_run Cert.ReferenceSbIdeal.defs _ _).mono
    (fun r h => ⟨fun c => (h c).2.2.2, sem_eq_zero_of_no_sems (by decide) r.2⟩)
    (Cert.ReferenceSbIdeal.Value.run (F := Ideal) m ρ)

/-- The reference of the gated short convolution's backward pass terminates with its arguments unchanged: its run, with the results
    forgotten; it declares no semaphore. -/
theorem frame_reference_conv : Cert.quiescent_ReferenceConvIdeal := fun m ρ _ =>
  (θ_run Cert.ReferenceConvIdeal.defs _ _).mono
    (fun r h => ⟨fun c => (h c).2.2.2.2, sem_eq_zero_of_no_sems (by decide) r.2⟩)
    (Cert.ReferenceConvIdeal.Value.run (F := Ideal) m ρ)

/-- The reference of the gated merge's backward pass terminates with its arguments unchanged: its run, with the results
    forgotten; it declares no semaphore. -/
theorem frame_reference_merge : Cert.quiescent_ReferenceMergeIdeal := fun m ρ _ =>
  (θ_run Cert.ReferenceMergeIdeal.defs _ _).mono
    (fun r h => ⟨fun c => (h c).2.2.2.2.2.2.2, sem_eq_zero_of_no_sems (by decide) r.2⟩)
    (Cert.ReferenceMergeIdeal.Value.run (F := Ideal) m ρ)

/-- The reference of the latent cross-attention's backward pass terminates with its arguments unchanged: its run, with the results
    forgotten; it declares no semaphore. -/
theorem frame_reference_xa : Cert.quiescent_ReferenceXaIdeal := fun m ρ _ =>
  (θ_run Cert.ReferenceXaIdeal.defs _ _).mono
    (fun r h => ⟨fun c => (h c).2.2.2, sem_eq_zero_of_no_sems (by decide) r.2⟩)
    (Cert.ReferenceXaIdeal.Value.run (F := Ideal) m ρ)

/-- The reference of the latent cross-attention's backward pass terminates with its arguments unchanged, from memories that satisfy the precondition: its run, with the results
    forgotten; it declares no semaphore. -/
theorem frame_reference_xa_pre : Cert.quiescent_ReferenceXaIdeal_pre_finite_xa (hPre_finite_xa := Cert.KernelXaIdeal.Grad.preFacts) := fun m ρ _ =>
  (θ_run Cert.ReferenceXaIdeal.defs _ _).mono
    (fun r h => ⟨fun c => (h c).2.2.2, sem_eq_zero_of_no_sems (by decide) r.2⟩)
    (Cert.ReferenceXaIdeal.Value.run (F := Ideal) m ρ)

/-- The reference of the gated feed-forward unit's backward pass terminates with its arguments unchanged: its run, with the results
    forgotten; it declares no semaphore. -/
theorem frame_reference_ffn : Cert.quiescent_ReferenceFfnIdeal := fun m ρ _ =>
  (θ_run Cert.ReferenceFfnIdeal.defs _ _).mono
    (fun r h => ⟨fun c => (h c).2.2, sem_eq_zero_of_no_sems (by decide) r.2⟩)
    (Cert.ReferenceFfnIdeal.Value.run (F := Ideal) m ρ)

/-- The reference of the gated feed-forward unit's backward pass terminates with its arguments unchanged, from memories that satisfy the precondition: its run, with the results
    forgotten; it declares no semaphore. -/
theorem frame_reference_ffn_pre : Cert.quiescent_ReferenceFfnIdeal_pre_finite_ffn (hPre_finite_ffn := Cert.KernelFfnIdeal.Grad.preFacts) := fun m ρ _ =>
  (θ_run Cert.ReferenceFfnIdeal.defs _ _).mono
    (fun r h => ⟨fun c => (h c).2.2, sem_eq_zero_of_no_sems (by decide) r.2⟩)
    (Cert.ReferenceFfnIdeal.Value.run (F := Ideal) m ρ)

/-- The reference of the input projection terminates with its arguments unchanged: its run, with the results
    forgotten; it declares no semaphore. -/
theorem frame_reference_inp : Cert.quiescent_ReferenceInpIdeal := fun m ρ _ =>
  (θ_run Cert.ReferenceInpIdeal.defs _ _).mono
    (fun r h => ⟨fun c => (h c).2, sem_eq_zero_of_no_sems (by decide) r.2⟩)
    (Cert.ReferenceInpIdeal.Value.run (F := Ideal) m ρ)

/-- The reference of the input projection's weight gradient terminates with its arguments unchanged: its run, with the results
    forgotten; it declares no semaphore. -/
theorem frame_reference_windw : Cert.quiescent_ReferenceWindwIdeal := fun m ρ _ =>
  (θ_run Cert.ReferenceWindwIdeal.defs _ _).mono
    (fun r h => ⟨fun c => (h c).2, sem_eq_zero_of_no_sems (by decide) r.2⟩)
    (Cert.ReferenceWindwIdeal.Value.run (F := Ideal) m ρ)

/-- The reference of the two first feed-forward products with their gated product terminates with its arguments unchanged: its run, with the results
    forgotten; it declares no semaphore. -/
theorem frame_reference_ffnin : Cert.quiescent_ReferenceFfninIdeal := fun m ρ _ =>
  (θ_run Cert.ReferenceFfninIdeal.defs _ _).mono
    (fun r h => ⟨fun c => (h c).2.2.2, sem_eq_zero_of_no_sems (by decide) r.2⟩)
    (Cert.ReferenceFfninIdeal.Value.run (F := Ideal) m ρ)

/-- The reference of the last feed-forward product with its residual terminates with its arguments unchanged: its run, with the results
    forgotten; it declares no semaphore. -/
theorem frame_reference_down : Cert.quiescent_ReferenceDownIdeal := fun m ρ _ =>
  (θ_run Cert.ReferenceDownIdeal.defs _ _).mono
    (fun r h => ⟨fun c => (h c).2, sem_eq_zero_of_no_sems (by decide) r.2⟩)
    (Cert.ReferenceDownIdeal.Value.run (F := Ideal) m ρ)

/-- The reference of the last feed-forward product's weight gradient terminates with its arguments unchanged: its run, with the results
    forgotten; it declares no semaphore. -/
theorem frame_reference_downdw : Cert.quiescent_ReferenceDowndwIdeal := fun m ρ _ =>
  (θ_run Cert.ReferenceDowndwIdeal.defs _ _).mono
    (fun r h => ⟨fun c => (h c).2, sem_eq_zero_of_no_sems (by decide) r.2⟩)
    (Cert.ReferenceDowndwIdeal.Value.run (F := Ideal) m ρ)

/-- The reference of a first feed-forward product's weight gradient terminates with its arguments unchanged: its run, with the results
    forgotten; it declares no semaphore. -/
theorem frame_reference_gatedw : Cert.quiescent_ReferenceGatedwIdeal := fun m ρ _ =>
  (θ_run Cert.ReferenceGatedwIdeal.defs _ _).mono
    (fun r h => ⟨fun c => (h c).2, sem_eq_zero_of_no_sems (by decide) r.2⟩)
    (Cert.ReferenceGatedwIdeal.Value.run (F := Ideal) m ρ)

/-- The reference of a first feed-forward product's argument gradient terminates with its arguments unchanged: its run, with the results
    forgotten; it declares no semaphore. -/
theorem frame_reference_gatedx : Cert.quiescent_ReferenceGatedxIdeal := fun m ρ _ =>
  (θ_run Cert.ReferenceGatedxIdeal.defs _ _).mono
    (fun r h => ⟨fun c => (h c).2, sem_eq_zero_of_no_sems (by decide) r.2⟩)
    (Cert.ReferenceGatedxIdeal.Value.run (F := Ideal) m ρ)

/-- The reference of the output projection's argument gradient terminates with its arguments unchanged: its run, with the results
    forgotten; it declares no semaphore. -/
theorem frame_reference_outdx : Cert.quiescent_ReferenceOutdxIdeal := fun m ρ _ =>
  (θ_run Cert.ReferenceOutdxIdeal.defs _ _).mono
    (fun r h => ⟨fun c => (h c).2, sem_eq_zero_of_no_sems (by decide) r.2⟩)
    (Cert.ReferenceOutdxIdeal.Value.run (F := Ideal) m ρ)

/-- The reference of the output projection's weight gradient terminates with its arguments unchanged: its run, with the results
    forgotten; it declares no semaphore. -/
theorem frame_reference_outdw : Cert.quiescent_ReferenceOutdwIdeal := fun m ρ _ =>
  (θ_run Cert.ReferenceOutdwIdeal.defs _ _).mono
    (fun r h => ⟨fun c => (h c).2, sem_eq_zero_of_no_sems (by decide) r.2⟩)
    (Cert.ReferenceOutdwIdeal.Value.run (F := Ideal) m ρ)

/-- The reference of the gated merge of three branches terminates with its arguments unchanged: its run, with the results
    forgotten; it declares no semaphore. -/
theorem frame_reference_mergef : Cert.quiescent_ReferenceMergefIdeal := fun m ρ _ =>
  (θ_run Cert.ReferenceMergefIdeal.defs _ _).mono
    (fun r h => ⟨fun c => (h c).2, sem_eq_zero_of_no_sems (by decide) r.2⟩)
    (Cert.ReferenceMergefIdeal.Value.run (F := Ideal) m ρ)

/-- The reference of the cross-attention's query projection terminates with its arguments unchanged: its run, with the results
    forgotten; it declares no semaphore. -/
theorem frame_reference_xaq : Cert.quiescent_ReferenceXaqIdeal := fun m ρ _ =>
  (θ_run Cert.ReferenceXaqIdeal.defs _ _).mono
    (fun r h => ⟨fun c => (h c).2, sem_eq_zero_of_no_sems (by decide) r.2⟩)
    (Cert.ReferenceXaqIdeal.Value.run (F := Ideal) m ρ)

/-- The reference of an output projection with its residual terminates with its arguments unchanged: its run, with the results
    forgotten; it declares no semaphore. -/
theorem frame_reference_outp : Cert.quiescent_ReferenceOutpIdeal := fun m ρ _ =>
  (θ_run Cert.ReferenceOutpIdeal.defs _ _).mono
    (fun r h => ⟨fun c => (h c).2, sem_eq_zero_of_no_sems (by decide) r.2⟩)
    (Cert.ReferenceOutpIdeal.Value.run (F := Ideal) m ρ)

/-- The reference of the cross-attention output projection's argument gradient terminates with its arguments unchanged: its run, with the results
    forgotten; it declares no semaphore. -/
theorem frame_reference_xaodx : Cert.quiescent_ReferenceXaodxIdeal := fun m ρ _ =>
  (θ_run Cert.ReferenceXaodxIdeal.defs _ _).mono
    (fun r h => ⟨fun c => (h c).2, sem_eq_zero_of_no_sems (by decide) r.2⟩)
    (Cert.ReferenceXaodxIdeal.Value.run (F := Ideal) m ρ)

/-- The reference of the query projection's weight gradient terminates with its arguments unchanged: its run, with the results
    forgotten; it declares no semaphore. -/
theorem frame_reference_xaqdw : Cert.quiescent_ReferenceXaqdwIdeal := fun m ρ _ =>
  (θ_run Cert.ReferenceXaqdwIdeal.defs _ _).mono
    (fun r h => ⟨fun c => (h c).2, sem_eq_zero_of_no_sems (by decide) r.2⟩)
    (Cert.ReferenceXaqdwIdeal.Value.run (F := Ideal) m ρ)

/-- The reference of a branch projection's weight gradient terminates with its arguments unchanged: its run, with the results
    forgotten; it declares no semaphore. -/
theorem frame_reference_branchdw : Cert.quiescent_ReferenceBranchdwIdeal := fun m ρ _ =>
  (θ_run Cert.ReferenceBranchdwIdeal.defs _ _).mono
    (fun r h => ⟨fun c => (h c).2, sem_eq_zero_of_no_sems (by decide) r.2⟩)
    (Cert.ReferenceBranchdwIdeal.Value.run (F := Ideal) m ρ)

/-- The reference of the cross-attention's key or value projection terminates with its arguments unchanged: its run, with the results
    forgotten; it declares no semaphore. -/
theorem frame_reference_xak : Cert.quiescent_ReferenceXakIdeal := fun m ρ _ =>
  (θ_run Cert.ReferenceXakIdeal.defs _ _).mono
    (fun r h => ⟨fun c => (h c).2, sem_eq_zero_of_no_sems (by decide) r.2⟩)
    (Cert.ReferenceXakIdeal.Value.run (F := Ideal) m ρ)

/-- The reference of the key or value projection's weight gradient terminates with its arguments unchanged: its run, with the results
    forgotten; it declares no semaphore. -/
theorem frame_reference_xakdw : Cert.quiescent_ReferenceXakdwIdeal := fun m ρ _ =>
  (θ_run Cert.ReferenceXakdwIdeal.defs _ _).mono
    (fun r h => ⟨fun c => (h c).2, sem_eq_zero_of_no_sems (by decide) r.2⟩)
    (Cert.ReferenceXakdwIdeal.Value.run (F := Ideal) m ρ)

/-- The reference of the key projection's argument gradient terminates with its arguments unchanged: its run, with the results
    forgotten; it declares no semaphore. -/
theorem frame_reference_xakdx : Cert.quiescent_ReferenceXakdxIdeal := fun m ρ _ =>
  (θ_run Cert.ReferenceXakdxIdeal.defs _ _).mono
    (fun r h => ⟨fun c => (h c).2, sem_eq_zero_of_no_sems (by decide) r.2⟩)
    (Cert.ReferenceXakdxIdeal.Value.run (F := Ideal) m ρ)

/-- The reference of the value projection's argument gradient added to the keys' terminates with its arguments unchanged: its run, with the results
    forgotten; it declares no semaphore. -/
theorem frame_reference_xavdx : Cert.quiescent_ReferenceXavdxIdeal := fun m ρ _ =>
  (θ_run Cert.ReferenceXavdxIdeal.defs _ _).mono
    (fun r h => ⟨fun c => (h c).2, sem_eq_zero_of_no_sems (by decide) r.2⟩)
    (Cert.ReferenceXavdxIdeal.Value.run (F := Ideal) m ρ)

/-- The reference of the query projection's argument gradient through its normalisation terminates with its arguments unchanged: its run, with the results
    forgotten; it declares no semaphore. -/
theorem frame_reference_xaqdx : Cert.quiescent_ReferenceXaqdxIdeal := fun m ρ _ =>
  (θ_run Cert.ReferenceXaqdxIdeal.defs _ _).mono
    (fun r h => ⟨fun c => (h c).2.2, sem_eq_zero_of_no_sems (by decide) r.2⟩)
    (Cert.ReferenceXaqdxIdeal.Value.run (F := Ideal) m ρ)

/-- The reference of the query projection's argument gradient through its normalisation terminates with its arguments unchanged, from memories that satisfy the precondition: its run, with the results
    forgotten; it declares no semaphore. -/
theorem frame_reference_xaqdx_pre : Cert.quiescent_ReferenceXaqdxIdeal_pre_finite_xaqdx (hPre_finite_xaqdx := Cert.KernelXaqdxIdeal.Grad.preFacts) := fun m ρ _ =>
  (θ_run Cert.ReferenceXaqdxIdeal.defs _ _).mono
    (fun r h => ⟨fun c => (h c).2.2, sem_eq_zero_of_no_sems (by decide) r.2⟩)
    (Cert.ReferenceXaqdxIdeal.Value.run (F := Ideal) m ρ)

/-- The reference of the feed-forward layer's argument gradient through its normalisation terminates with its arguments unchanged: its run, with the results
    forgotten; it declares no semaphore. -/
theorem frame_reference_updx : Cert.quiescent_ReferenceUpdxIdeal := fun m ρ _ =>
  (θ_run Cert.ReferenceUpdxIdeal.defs _ _).mono
    (fun r h => ⟨fun c => (h c).2.2, sem_eq_zero_of_no_sems (by decide) r.2⟩)
    (Cert.ReferenceUpdxIdeal.Value.run (F := Ideal) m ρ)

/-- The reference of the feed-forward layer's argument gradient through its normalisation terminates with its arguments unchanged, from memories that satisfy the precondition: its run, with the results
    forgotten; it declares no semaphore. -/
theorem frame_reference_updx_pre : Cert.quiescent_ReferenceUpdxIdeal_pre_finite_updx (hPre_finite_updx := Cert.KernelUpdxIdeal.Grad.preFacts) := fun m ρ _ =>
  (θ_run Cert.ReferenceUpdxIdeal.defs _ _).mono
    (fun r h => ⟨fun c => (h c).2.2, sem_eq_zero_of_no_sems (by decide) r.2⟩)
    (Cert.ReferenceUpdxIdeal.Value.run (F := Ideal) m ρ)

/-- The reference of the input projection's argument gradient through its normalisation terminates with its arguments unchanged: its run, with the results
    forgotten; it declares no semaphore. -/
theorem frame_reference_indx : Cert.quiescent_ReferenceIndxIdeal := fun m ρ _ =>
  (θ_run Cert.ReferenceIndxIdeal.defs _ _).mono
    (fun r h => ⟨fun c => (h c).2.2, sem_eq_zero_of_no_sems (by decide) r.2⟩)
    (Cert.ReferenceIndxIdeal.Value.run (F := Ideal) m ρ)

/-- The reference of the input projection's argument gradient through its normalisation terminates with its arguments unchanged, from memories that satisfy the precondition: its run, with the results
    forgotten; it declares no semaphore. -/
theorem frame_reference_indx_pre : Cert.quiescent_ReferenceIndxIdeal_pre_finite_indx (hPre_finite_indx := Cert.KernelIndxIdeal.Grad.preFacts) := fun m ρ _ =>
  (θ_run Cert.ReferenceIndxIdeal.defs _ _).mono
    (fun r h => ⟨fun c => (h c).2.2, sem_eq_zero_of_no_sems (by decide) r.2⟩)
    (Cert.ReferenceIndxIdeal.Value.run (F := Ideal) m ρ)

/-- The reference of the row normalisation of the activations terminates with its arguments unchanged: its run, with the results
    forgotten; it declares no semaphore. -/
theorem frame_reference_rmsf : Cert.quiescent_ReferenceRmsfIdeal := fun m ρ _ =>
  (θ_run Cert.ReferenceRmsfIdeal.defs _ _).mono
    (fun r h => ⟨fun c => (h c).2, sem_eq_zero_of_no_sems (by decide) r.2⟩)
    (Cert.ReferenceRmsfIdeal.Value.run (F := Ideal) m ρ)

/-- The reference of the row normalisation of the memory terminates with its arguments unchanged: its run, with the results
    forgotten; it declares no semaphore. -/
theorem frame_reference_rmsm : Cert.quiescent_ReferenceRmsmIdeal := fun m ρ _ =>
  (θ_run Cert.ReferenceRmsmIdeal.defs _ _).mono
    (fun r h => ⟨fun c => (h c).2, sem_eq_zero_of_no_sems (by decide) r.2⟩)
    (Cert.ReferenceRmsmIdeal.Value.run (F := Ideal) m ρ)

/-- The reference of the optimiser's step of the normalisations' gains terminates with its arguments unchanged: its run, with the results
    forgotten; it declares no semaphore. -/
theorem frame_reference_adgain : Cert.quiescent_ReferenceAdgainIdeal := fun m ρ _ =>
  (θ_run Cert.ReferenceAdgainIdeal.defs _ _).mono
    (fun r h => ⟨fun c => (h c).2.2.2, sem_eq_zero_of_no_sems (by decide) r.2⟩)
    (Cert.ReferenceAdgainIdeal.Value.run (F := Ideal) m ρ)

/-- The reference of the optimiser's step of the last normalisation's gain terminates with its arguments unchanged: its run, with the results
    forgotten; it declares no semaphore. -/
theorem frame_reference_adfinal : Cert.quiescent_ReferenceAdfinalIdeal := fun m ρ _ =>
  (θ_run Cert.ReferenceAdfinalIdeal.defs _ _).mono
    (fun r h => ⟨fun c => (h c).2.2.2, sem_eq_zero_of_no_sems (by decide) r.2⟩)
    (Cert.ReferenceAdfinalIdeal.Value.run (F := Ideal) m ρ)

/-- The reference of the optimiser's step of one device's input projection terminates with its arguments unchanged: its run, with the results
    forgotten; it declares no semaphore. -/
theorem frame_reference_adwin : Cert.quiescent_ReferenceAdwinIdeal := fun m ρ _ =>
  (θ_run Cert.ReferenceAdwinIdeal.defs _ _).mono
    (fun r h => ⟨fun c => (h c).2.2.2, sem_eq_zero_of_no_sems (by decide) r.2⟩)
    (Cert.ReferenceAdwinIdeal.Value.run (F := Ideal) m ρ)

/-- The reference of the optimiser's step of the gating unit's gain and bias terminates with its arguments unchanged: its run, with the results
    forgotten; it declares no semaphore. -/
theorem frame_reference_adsgu : Cert.quiescent_ReferenceAdsguIdeal := fun m ρ _ =>
  (θ_run Cert.ReferenceAdsguIdeal.defs _ _).mono
    (fun r h => ⟨fun c => (h c).2.2.2, sem_eq_zero_of_no_sems (by decide) r.2⟩)
    (Cert.ReferenceAdsguIdeal.Value.run (F := Ideal) m ρ)

/-- The reference of the optimiser's step of the spatial weights terminates with its arguments unchanged: its run, with the results
    forgotten; it declares no semaphore. -/
theorem frame_reference_adspat : Cert.quiescent_ReferenceAdspatIdeal := fun m ρ _ =>
  (θ_run Cert.ReferenceAdspatIdeal.defs _ _).mono
    (fun r h => ⟨fun c => (h c).2.2.2, sem_eq_zero_of_no_sems (by decide) r.2⟩)
    (Cert.ReferenceAdspatIdeal.Value.run (F := Ideal) m ρ)

/-- The reference of the optimiser's step of the spatial biases terminates with its arguments unchanged: its run, with the results
    forgotten; it declares no semaphore. -/
theorem frame_reference_adbias : Cert.quiescent_ReferenceAdbiasIdeal := fun m ρ _ =>
  (θ_run Cert.ReferenceAdbiasIdeal.defs _ _).mono
    (fun r h => ⟨fun c => (h c).2.2.2, sem_eq_zero_of_no_sems (by decide) r.2⟩)
    (Cert.ReferenceAdbiasIdeal.Value.run (F := Ideal) m ρ)

/-- The reference of the optimiser's step of one device's convolution weights terminates with its arguments unchanged: its run, with the results
    forgotten; it declares no semaphore. -/
theorem frame_reference_adconv : Cert.quiescent_ReferenceAdconvIdeal := fun m ρ _ =>
  (θ_run Cert.ReferenceAdconvIdeal.defs _ _).mono
    (fun r h => ⟨fun c => (h c).2.2.2, sem_eq_zero_of_no_sems (by decide) r.2⟩)
    (Cert.ReferenceAdconvIdeal.Value.run (F := Ideal) m ρ)

/-- The reference of the optimiser's step of one device's branch projections terminates with its arguments unchanged: its run, with the results
    forgotten; it declares no semaphore. -/
theorem frame_reference_adbranch : Cert.quiescent_ReferenceAdbranchIdeal := fun m ρ _ =>
  (θ_run Cert.ReferenceAdbranchIdeal.defs _ _).mono
    (fun r h => ⟨fun c => (h c).2.2.2, sem_eq_zero_of_no_sems (by decide) r.2⟩)
    (Cert.ReferenceAdbranchIdeal.Value.run (F := Ideal) m ρ)

/-- The reference of the optimiser's step of one device's square projections terminates with its arguments unchanged: its run, with the results
    forgotten; it declares no semaphore. -/
theorem frame_reference_adsquare : Cert.quiescent_ReferenceAdsquareIdeal := fun m ρ _ =>
  (θ_run Cert.ReferenceAdsquareIdeal.defs _ _).mono
    (fun r h => ⟨fun c => (h c).2.2.2, sem_eq_zero_of_no_sems (by decide) r.2⟩)
    (Cert.ReferenceAdsquareIdeal.Value.run (F := Ideal) m ρ)

/-- The reference of the optimiser's step of one device's first feed-forward weights terminates with its arguments unchanged: its run, with the results
    forgotten; it declares no semaphore. -/
theorem frame_reference_adffn : Cert.quiescent_ReferenceAdffnIdeal := fun m ρ _ =>
  (θ_run Cert.ReferenceAdffnIdeal.defs _ _).mono
    (fun r h => ⟨fun c => (h c).2.2.2, sem_eq_zero_of_no_sems (by decide) r.2⟩)
    (Cert.ReferenceAdffnIdeal.Value.run (F := Ideal) m ρ)

/-- The reference of the optimiser's step of one device's last feed-forward weights terminates with its arguments unchanged: its run, with the results
    forgotten; it declares no semaphore. -/
theorem frame_reference_addown : Cert.quiescent_ReferenceAddownIdeal := fun m ρ _ =>
  (θ_run Cert.ReferenceAddownIdeal.defs _ _).mono
    (fun r h => ⟨fun c => (h c).2.2.2, sem_eq_zero_of_no_sems (by decide) r.2⟩)
    (Cert.ReferenceAddownIdeal.Value.run (F := Ideal) m ρ)

/-- The facts of the programs, their frames, and the value claims, in the statement's order. -/
theorem claim : Cert.Claim := ⟨Cert.KernelSb.Gen.facts,
  Cert.KernelSbIdeal.Gen.facts,
  Cert.ReferenceSbIdeal.Gen.facts,
  Cert.KernelConv.Gen.facts,
  Cert.KernelConvIdeal.Gen.facts,
  Cert.ReferenceConvIdeal.Gen.facts,
  Cert.KernelMerge.Gen.facts,
  Cert.KernelMergeIdeal.Gen.facts,
  Cert.ReferenceMergeIdeal.Gen.facts,
  Cert.KernelXa.Gen.facts,
  Cert.KernelXaIdeal.Gen.facts,
  Cert.ReferenceXaIdeal.Gen.facts,
  Cert.KernelFfn.Gen.facts,
  Cert.KernelFfnIdeal.Gen.facts,
  Cert.ReferenceFfnIdeal.Gen.facts,
  Cert.KernelInp.Gen.facts,
  Cert.KernelInpIdeal.Gen.facts,
  Cert.ReferenceInpIdeal.Gen.facts,
  Cert.KernelWindw.Gen.facts,
  Cert.KernelWindwIdeal.Gen.facts,
  Cert.ReferenceWindwIdeal.Gen.facts,
  Cert.KernelFfnin.Gen.facts,
  Cert.KernelFfninIdeal.Gen.facts,
  Cert.ReferenceFfninIdeal.Gen.facts,
  Cert.KernelDown.Gen.facts,
  Cert.KernelDownIdeal.Gen.facts,
  Cert.ReferenceDownIdeal.Gen.facts,
  Cert.KernelDowndw.Gen.facts,
  Cert.KernelDowndwIdeal.Gen.facts,
  Cert.ReferenceDowndwIdeal.Gen.facts,
  Cert.KernelGatedw.Gen.facts,
  Cert.KernelGatedwIdeal.Gen.facts,
  Cert.ReferenceGatedwIdeal.Gen.facts,
  Cert.KernelGatedx.Gen.facts,
  Cert.KernelGatedxIdeal.Gen.facts,
  Cert.ReferenceGatedxIdeal.Gen.facts,
  Cert.KernelOutdx.Gen.facts,
  Cert.KernelOutdxIdeal.Gen.facts,
  Cert.ReferenceOutdxIdeal.Gen.facts,
  Cert.KernelOutdw.Gen.facts,
  Cert.KernelOutdwIdeal.Gen.facts,
  Cert.ReferenceOutdwIdeal.Gen.facts,
  Cert.KernelMergef.Gen.facts,
  Cert.KernelMergefIdeal.Gen.facts,
  Cert.ReferenceMergefIdeal.Gen.facts,
  Cert.KernelXaq.Gen.facts,
  Cert.KernelXaqIdeal.Gen.facts,
  Cert.ReferenceXaqIdeal.Gen.facts,
  Cert.KernelOutp.Gen.facts,
  Cert.KernelOutpIdeal.Gen.facts,
  Cert.ReferenceOutpIdeal.Gen.facts,
  Cert.KernelXaodx.Gen.facts,
  Cert.KernelXaodxIdeal.Gen.facts,
  Cert.ReferenceXaodxIdeal.Gen.facts,
  Cert.KernelXaqdw.Gen.facts,
  Cert.KernelXaqdwIdeal.Gen.facts,
  Cert.ReferenceXaqdwIdeal.Gen.facts,
  Cert.KernelBranchdw.Gen.facts,
  Cert.KernelBranchdwIdeal.Gen.facts,
  Cert.ReferenceBranchdwIdeal.Gen.facts,
  Cert.KernelXak.Gen.facts,
  Cert.KernelXakIdeal.Gen.facts,
  Cert.ReferenceXakIdeal.Gen.facts,
  Cert.KernelXakdw.Gen.facts,
  Cert.KernelXakdwIdeal.Gen.facts,
  Cert.ReferenceXakdwIdeal.Gen.facts,
  Cert.KernelXakdx.Gen.facts,
  Cert.KernelXakdxIdeal.Gen.facts,
  Cert.ReferenceXakdxIdeal.Gen.facts,
  Cert.KernelXavdx.Gen.facts,
  Cert.KernelXavdxIdeal.Gen.facts,
  Cert.ReferenceXavdxIdeal.Gen.facts,
  Cert.KernelXaqdx.Gen.facts,
  Cert.KernelXaqdxIdeal.Gen.facts,
  Cert.ReferenceXaqdxIdeal.Gen.facts,
  Cert.KernelUpdx.Gen.facts,
  Cert.KernelUpdxIdeal.Gen.facts,
  Cert.ReferenceUpdxIdeal.Gen.facts,
  Cert.KernelIndx.Gen.facts,
  Cert.KernelIndxIdeal.Gen.facts,
  Cert.ReferenceIndxIdeal.Gen.facts,
  Cert.KernelRmsf.Gen.facts,
  Cert.KernelRmsfIdeal.Gen.facts,
  Cert.ReferenceRmsfIdeal.Gen.facts,
  Cert.KernelRmsm.Gen.facts,
  Cert.KernelRmsmIdeal.Gen.facts,
  Cert.ReferenceRmsmIdeal.Gen.facts,
  Cert.KernelAdgain.Gen.facts,
  Cert.KernelAdgainIdeal.Gen.facts,
  Cert.ReferenceAdgainIdeal.Gen.facts,
  Cert.KernelAdfinal.Gen.facts,
  Cert.KernelAdfinalIdeal.Gen.facts,
  Cert.ReferenceAdfinalIdeal.Gen.facts,
  Cert.KernelAdwin.Gen.facts,
  Cert.KernelAdwinIdeal.Gen.facts,
  Cert.ReferenceAdwinIdeal.Gen.facts,
  Cert.KernelAdsgu.Gen.facts,
  Cert.KernelAdsguIdeal.Gen.facts,
  Cert.ReferenceAdsguIdeal.Gen.facts,
  Cert.KernelAdspat.Gen.facts,
  Cert.KernelAdspatIdeal.Gen.facts,
  Cert.ReferenceAdspatIdeal.Gen.facts,
  Cert.KernelAdbias.Gen.facts,
  Cert.KernelAdbiasIdeal.Gen.facts,
  Cert.ReferenceAdbiasIdeal.Gen.facts,
  Cert.KernelAdconv.Gen.facts,
  Cert.KernelAdconvIdeal.Gen.facts,
  Cert.ReferenceAdconvIdeal.Gen.facts,
  Cert.KernelAdbranch.Gen.facts,
  Cert.KernelAdbranchIdeal.Gen.facts,
  Cert.ReferenceAdbranchIdeal.Gen.facts,
  Cert.KernelAdsquare.Gen.facts,
  Cert.KernelAdsquareIdeal.Gen.facts,
  Cert.ReferenceAdsquareIdeal.Gen.facts,
  Cert.KernelAdffn.Gen.facts,
  Cert.KernelAdffnIdeal.Gen.facts,
  Cert.ReferenceAdffnIdeal.Gen.facts,
  Cert.KernelAddown.Gen.facts,
  Cert.KernelAddownIdeal.Gen.facts,
  Cert.ReferenceAddownIdeal.Gen.facts,
  Cert.KernelXaIdeal.Grad.preFacts,
  Cert.KernelFfnIdeal.Grad.preFacts,
  Cert.KernelXaqdxIdeal.Grad.preFacts,
  Cert.KernelUpdxIdeal.Grad.preFacts,
  Cert.KernelIndxIdeal.Grad.preFacts,
  fun m ρ _ => Cert.KernelSb.Gen.frame m ρ,
  fun m ρ _ => Cert.KernelSbIdeal.Gen.frame m ρ,
  frame_reference_sb,
  fun m ρ _ => Cert.KernelConv.Gen.frame m ρ,
  fun m ρ _ => Cert.KernelConvIdeal.Gen.frame m ρ,
  frame_reference_conv,
  fun m ρ _ => Cert.KernelMerge.Gen.frame m ρ,
  fun m ρ _ => Cert.KernelMergeIdeal.Gen.frame m ρ,
  frame_reference_merge,
  fun m ρ _ => Cert.KernelXa.Gen.frame m ρ,
  fun m ρ _ => Cert.KernelXaIdeal.Gen.frame m ρ,
  fun m ρ _ => Cert.KernelXaIdeal.Gen.frame m ρ,
  frame_reference_xa,
  frame_reference_xa_pre,
  fun m ρ _ => Cert.KernelFfn.Gen.frame m ρ,
  fun m ρ _ => Cert.KernelFfnIdeal.Gen.frame m ρ,
  fun m ρ _ => Cert.KernelFfnIdeal.Gen.frame m ρ,
  frame_reference_ffn,
  frame_reference_ffn_pre,
  fun m ρ _ => Cert.KernelInp.Gen.frame m ρ,
  fun m ρ _ => Cert.KernelInpIdeal.Gen.frame m ρ,
  frame_reference_inp,
  fun m ρ _ => Cert.KernelWindw.Gen.frame m ρ,
  fun m ρ _ => Cert.KernelWindwIdeal.Gen.frame m ρ,
  frame_reference_windw,
  fun m ρ _ => Cert.KernelFfnin.Gen.frame m ρ,
  fun m ρ _ => Cert.KernelFfninIdeal.Gen.frame m ρ,
  frame_reference_ffnin,
  fun m ρ _ => Cert.KernelDown.Gen.frame m ρ,
  fun m ρ _ => Cert.KernelDownIdeal.Gen.frame m ρ,
  frame_reference_down,
  fun m ρ _ => Cert.KernelDowndw.Gen.frame m ρ,
  fun m ρ _ => Cert.KernelDowndwIdeal.Gen.frame m ρ,
  frame_reference_downdw,
  fun m ρ _ => Cert.KernelGatedw.Gen.frame m ρ,
  fun m ρ _ => Cert.KernelGatedwIdeal.Gen.frame m ρ,
  frame_reference_gatedw,
  fun m ρ _ => Cert.KernelGatedx.Gen.frame m ρ,
  fun m ρ _ => Cert.KernelGatedxIdeal.Gen.frame m ρ,
  frame_reference_gatedx,
  fun m ρ _ => Cert.KernelOutdx.Gen.frame m ρ,
  fun m ρ _ => Cert.KernelOutdxIdeal.Gen.frame m ρ,
  frame_reference_outdx,
  fun m ρ _ => Cert.KernelOutdw.Gen.frame m ρ,
  fun m ρ _ => Cert.KernelOutdwIdeal.Gen.frame m ρ,
  frame_reference_outdw,
  fun m ρ _ => Cert.KernelMergef.Gen.frame m ρ,
  fun m ρ _ => Cert.KernelMergefIdeal.Gen.frame m ρ,
  frame_reference_mergef,
  fun m ρ _ => Cert.KernelXaq.Gen.frame m ρ,
  fun m ρ _ => Cert.KernelXaqIdeal.Gen.frame m ρ,
  frame_reference_xaq,
  fun m ρ _ => Cert.KernelOutp.Gen.frame m ρ,
  fun m ρ _ => Cert.KernelOutpIdeal.Gen.frame m ρ,
  frame_reference_outp,
  fun m ρ _ => Cert.KernelXaodx.Gen.frame m ρ,
  fun m ρ _ => Cert.KernelXaodxIdeal.Gen.frame m ρ,
  frame_reference_xaodx,
  fun m ρ _ => Cert.KernelXaqdw.Gen.frame m ρ,
  fun m ρ _ => Cert.KernelXaqdwIdeal.Gen.frame m ρ,
  frame_reference_xaqdw,
  fun m ρ _ => Cert.KernelBranchdw.Gen.frame m ρ,
  fun m ρ _ => Cert.KernelBranchdwIdeal.Gen.frame m ρ,
  frame_reference_branchdw,
  fun m ρ _ => Cert.KernelXak.Gen.frame m ρ,
  fun m ρ _ => Cert.KernelXakIdeal.Gen.frame m ρ,
  frame_reference_xak,
  fun m ρ _ => Cert.KernelXakdw.Gen.frame m ρ,
  fun m ρ _ => Cert.KernelXakdwIdeal.Gen.frame m ρ,
  frame_reference_xakdw,
  fun m ρ _ => Cert.KernelXakdx.Gen.frame m ρ,
  fun m ρ _ => Cert.KernelXakdxIdeal.Gen.frame m ρ,
  frame_reference_xakdx,
  fun m ρ _ => Cert.KernelXavdx.Gen.frame m ρ,
  fun m ρ _ => Cert.KernelXavdxIdeal.Gen.frame m ρ,
  frame_reference_xavdx,
  fun m ρ _ => Cert.KernelXaqdx.Gen.frame m ρ,
  fun m ρ _ => Cert.KernelXaqdxIdeal.Gen.frame m ρ,
  fun m ρ _ => Cert.KernelXaqdxIdeal.Gen.frame m ρ,
  frame_reference_xaqdx,
  frame_reference_xaqdx_pre,
  fun m ρ _ => Cert.KernelUpdx.Gen.frame m ρ,
  fun m ρ _ => Cert.KernelUpdxIdeal.Gen.frame m ρ,
  fun m ρ _ => Cert.KernelUpdxIdeal.Gen.frame m ρ,
  frame_reference_updx,
  frame_reference_updx_pre,
  fun m ρ _ => Cert.KernelIndx.Gen.frame m ρ,
  fun m ρ _ => Cert.KernelIndxIdeal.Gen.frame m ρ,
  fun m ρ _ => Cert.KernelIndxIdeal.Gen.frame m ρ,
  frame_reference_indx,
  frame_reference_indx_pre,
  fun m ρ _ => Cert.KernelRmsf.Gen.frame m ρ,
  fun m ρ _ => Cert.KernelRmsfIdeal.Gen.frame m ρ,
  frame_reference_rmsf,
  fun m ρ _ => Cert.KernelRmsm.Gen.frame m ρ,
  fun m ρ _ => Cert.KernelRmsmIdeal.Gen.frame m ρ,
  frame_reference_rmsm,
  fun m ρ _ => Cert.KernelAdgain.Gen.frame m ρ,
  fun m ρ _ => Cert.KernelAdgainIdeal.Gen.frame m ρ,
  frame_reference_adgain,
  fun m ρ _ => Cert.KernelAdfinal.Gen.frame m ρ,
  fun m ρ _ => Cert.KernelAdfinalIdeal.Gen.frame m ρ,
  frame_reference_adfinal,
  fun m ρ _ => Cert.KernelAdwin.Gen.frame m ρ,
  fun m ρ _ => Cert.KernelAdwinIdeal.Gen.frame m ρ,
  frame_reference_adwin,
  fun m ρ _ => Cert.KernelAdsgu.Gen.frame m ρ,
  fun m ρ _ => Cert.KernelAdsguIdeal.Gen.frame m ρ,
  frame_reference_adsgu,
  fun m ρ _ => Cert.KernelAdspat.Gen.frame m ρ,
  fun m ρ _ => Cert.KernelAdspatIdeal.Gen.frame m ρ,
  frame_reference_adspat,
  fun m ρ _ => Cert.KernelAdbias.Gen.frame m ρ,
  fun m ρ _ => Cert.KernelAdbiasIdeal.Gen.frame m ρ,
  frame_reference_adbias,
  fun m ρ _ => Cert.KernelAdconv.Gen.frame m ρ,
  fun m ρ _ => Cert.KernelAdconvIdeal.Gen.frame m ρ,
  frame_reference_adconv,
  fun m ρ _ => Cert.KernelAdbranch.Gen.frame m ρ,
  fun m ρ _ => Cert.KernelAdbranchIdeal.Gen.frame m ρ,
  frame_reference_adbranch,
  fun m ρ _ => Cert.KernelAdsquare.Gen.frame m ρ,
  fun m ρ _ => Cert.KernelAdsquareIdeal.Gen.frame m ρ,
  frame_reference_adsquare,
  fun m ρ _ => Cert.KernelAdffn.Gen.frame m ρ,
  fun m ρ _ => Cert.KernelAdffnIdeal.Gen.frame m ρ,
  frame_reference_adffn,
  fun m ρ _ => Cert.KernelAddown.Gen.frame m ρ,
  fun m ρ _ => Cert.KernelAddownIdeal.Gen.frame m ρ,
  frame_reference_addown,
  trivial,
  trivial,
  trivial,
  Cert.KernelMergeIdeal.Grad.tie,
  trivial,
  Cert.KernelXaIdeal.Grad.tie,
  trivial,
  Cert.KernelFfnIdeal.Grad.tie,
  trivial,
  Cert.KernelInpIdeal.Grad.tie,
  trivial,
  Cert.KernelWindwIdeal.Grad.tie,
  trivial,
  Cert.KernelFfninIdeal.Grad.tie,
  trivial,
  Cert.KernelDownIdeal.Grad.tie,
  trivial,
  Cert.KernelDowndwIdeal.Grad.tie,
  trivial,
  Cert.KernelGatedwIdeal.Grad.tie,
  trivial,
  Cert.KernelGatedxIdeal.Grad.tie,
  trivial,
  Cert.KernelOutdxIdeal.Grad.tie,
  trivial,
  Cert.KernelOutdwIdeal.Grad.tie,
  trivial,
  Cert.KernelMergefIdeal.Grad.tie,
  trivial,
  Cert.KernelXaqIdeal.Grad.tie,
  trivial,
  Cert.KernelOutpIdeal.Grad.tie,
  trivial,
  Cert.KernelXaodxIdeal.Grad.tie,
  trivial,
  Cert.KernelXaqdwIdeal.Grad.tie,
  trivial,
  Cert.KernelBranchdwIdeal.Grad.tie,
  trivial,
  Cert.KernelXakIdeal.Grad.tie,
  trivial,
  Cert.KernelXakdwIdeal.Grad.tie,
  trivial,
  Cert.KernelXakdxIdeal.Grad.tie,
  trivial,
  Cert.KernelXavdxIdeal.Grad.tie,
  trivial,
  Cert.KernelXaqdxIdeal.Grad.tie,
  trivial,
  Cert.KernelUpdxIdeal.Grad.tie,
  trivial,
  Cert.KernelIndxIdeal.Grad.tie,
  trivial,
  Cert.KernelRmsfIdeal.Grad.tie,
  trivial,
  Cert.KernelRmsmIdeal.Grad.tie,
  trivial,
  Cert.KernelAdgainIdeal.Grad.tie,
  trivial,
  Cert.KernelAdfinalIdeal.Grad.tie,
  trivial,
  Cert.KernelAdwinIdeal.Grad.tie,
  trivial,
  Cert.KernelAdsguIdeal.Grad.tie,
  trivial,
  Cert.KernelAdspatIdeal.Grad.tie,
  trivial,
  Cert.KernelAdbiasIdeal.Grad.tie,
  trivial,
  Cert.KernelAdconvIdeal.Grad.tie,
  trivial,
  Cert.KernelAdbranchIdeal.Grad.tie,
  trivial,
  Cert.KernelAdsquareIdeal.Grad.tie,
  trivial,
  Cert.KernelAdffnIdeal.Grad.tie,
  trivial,
  Cert.KernelAddownIdeal.Grad.tie⟩

end Cert.Proof

end
